-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_PostFwd (m : (ℓ : Loc Cert.PostFwd.nD Cert.PostFwd.τ Cert.PostFwd.sig) → Buf (Elt Bits) ℓ) : Prop :=
  True

def Pre_PostFwdIdeal (m : (ℓ : Loc Cert.PostFwdIdeal.nD Cert.PostFwdIdeal.τ Cert.PostFwdIdeal.sig) → Buf (Elt Ideal) ℓ) : Prop :=
  True

def Pre_PostFwdRefIdeal (m : (ℓ : Loc Cert.PostFwdRefIdeal.nD Cert.PostFwdRefIdeal.τ Cert.PostFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_S5Fwd (m : (ℓ : Loc Cert.S5Fwd.nD Cert.S5Fwd.τ Cert.S5Fwd.sig) → Buf (Elt Bits) ℓ) : Prop :=
  True

def Pre_S5FwdIdeal (m : (ℓ : Loc Cert.S5FwdIdeal.nD Cert.S5FwdIdeal.τ Cert.S5FwdIdeal.sig) → Buf (Elt Ideal) ℓ) : Prop :=
  True

def Pre_S5FwdIdeal_s5_finite [hPre_s5_finite : Cert.Pre_s5_finite.Facts] (m : (ℓ : Loc Cert.S5FwdIdeal.nD Cert.S5FwdIdeal.τ Cert.S5FwdIdeal.sig) → Buf (Elt Ideal) ℓ) : Prop :=
  ∀ c : Dev Cert.S5FwdIdeal.nD,
    (Cert.Pre_s5_finite.fn (F := Ideal) (m ((c.tc : Thread Cert.S5FwdIdeal.nD Cert.S5FwdIdeal.τ).loc Cert.S5FwdIdeal.main_arg0)) (m ((c.tc : Thread Cert.S5FwdIdeal.nD Cert.S5FwdIdeal.τ).loc Cert.S5FwdIdeal.main_arg1)) (m ((c.tc : Thread Cert.S5FwdIdeal.nD Cert.S5FwdIdeal.τ).loc Cert.S5FwdIdeal.main_arg2)) (m ((c.tc : Thread Cert.S5FwdIdeal.nD Cert.S5FwdIdeal.τ).loc Cert.S5FwdIdeal.main_arg3)) (m ((c.tc : Thread Cert.S5FwdIdeal.nD Cert.S5FwdIdeal.τ).loc Cert.S5FwdIdeal.main_arg4)) (m ((c.tc : Thread Cert.S5FwdIdeal.nD Cert.S5FwdIdeal.τ).loc Cert.S5FwdIdeal.main_arg5)) (m ((c.tc : Thread Cert.S5FwdIdeal.nD Cert.S5FwdIdeal.τ).loc Cert.S5FwdIdeal.main_arg6)) (m ((c.tc : Thread Cert.S5FwdIdeal.nD Cert.S5FwdIdeal.τ).loc Cert.S5FwdIdeal.main_arg7)) (m ((c.tc : Thread Cert.S5FwdIdeal.nD Cert.S5FwdIdeal.τ).loc Cert.S5FwdIdeal.main_arg8))) = (fun _ => 1#1)

def Pre_S5FwdRefIdeal (m : (ℓ : Loc Cert.S5FwdRefIdeal.nD Cert.S5FwdRefIdeal.τ Cert.S5FwdRefIdeal.sig) → Buf (Elt Ideal) ℓ) : Prop :=
  True

def Pre_S5FwdRefIdeal_s5_finite [hPre_s5_finite : Cert.Pre_s5_finite.Facts] (m : (ℓ : Loc Cert.S5FwdRefIdeal.nD Cert.S5FwdRefIdeal.τ Cert.S5FwdRefIdeal.sig) → Buf (Elt Ideal) ℓ) : Prop :=
  ∀ c : Dev Cert.S5FwdRefIdeal.nD,
    (Cert.Pre_s5_finite.fn (F := Ideal) (m ((c.tc : Thread Cert.S5FwdRefIdeal.nD Cert.S5FwdRefIdeal.τ).loc Cert.S5FwdRefIdeal.main_arg0)) (m ((c.tc : Thread Cert.S5FwdRefIdeal.nD Cert.S5FwdRefIdeal.τ).loc Cert.S5FwdRefIdeal.main_arg1)) (m ((c.tc : Thread Cert.S5FwdRefIdeal.nD Cert.S5FwdRefIdeal.τ).loc Cert.S5FwdRefIdeal.main_arg2)) (m ((c.tc : Thread Cert.S5FwdRefIdeal.nD Cert.S5FwdRefIdeal.τ).loc Cert.S5FwdRefIdeal.main_arg3)) (m ((c.tc : Thread Cert.S5FwdRefIdeal.nD Cert.S5FwdRefIdeal.τ).loc Cert.S5FwdRefIdeal.main_arg4)) (m ((c.tc : Thread Cert.S5FwdRefIdeal.nD Cert.S5FwdRefIdeal.τ).loc Cert.S5FwdRefIdeal.main_arg5)) (m ((c.tc : Thread Cert.S5FwdRefIdeal.nD Cert.S5FwdRefIdeal.τ).loc Cert.S5FwdRefIdeal.main_arg6)) (m ((c.tc : Thread Cert.S5FwdRefIdeal.nD Cert.S5FwdRefIdeal.τ).loc Cert.S5FwdRefIdeal.main_arg7)) (m ((c.tc : Thread Cert.S5FwdRefIdeal.nD Cert.S5FwdRefIdeal.τ).loc Cert.S5FwdRefIdeal.main_arg8))) = (fun _ => 1#1)

def Pre_LruFwd (m : (ℓ : Loc Cert.LruFwd.nD Cert.LruFwd.τ Cert.LruFwd.sig) → Buf (Elt Bits) ℓ) : Prop :=
  True

def Pre_LruFwdIdeal (m : (ℓ : Loc Cert.LruFwdIdeal.nD Cert.LruFwdIdeal.τ Cert.LruFwdIdeal.sig) → Buf (Elt Ideal) ℓ) : Prop :=
  True

def Pre_LruFwdRefIdeal (m : (ℓ : Loc Cert.LruFwdRefIdeal.nD Cert.LruFwdRefIdeal.τ Cert.LruFwdRefIdeal.sig) → Buf (Elt Ideal) ℓ) : Prop :=
  True

def Pre_SsdFwd (m : (ℓ : Loc Cert.SsdFwd.nD Cert.SsdFwd.τ Cert.SsdFwd.sig) → Buf (Elt Bits) ℓ) : Prop :=
  True

def Pre_SsdFwdIdeal (m : (ℓ : Loc Cert.SsdFwdIdeal.nD Cert.SsdFwdIdeal.τ Cert.SsdFwdIdeal.sig) → Buf (Elt Ideal) ℓ) : Prop :=
  True

def Pre_SsdFwdRefIdeal (m : (ℓ : Loc Cert.SsdFwdRefIdeal.nD Cert.SsdFwdRefIdeal.τ Cert.SsdFwdRefIdeal.sig) → Buf (Elt Ideal) ℓ) : Prop :=
  True

def Pre_GdnFwd (m : (ℓ : Loc Cert.GdnFwd.nD Cert.GdnFwd.τ Cert.GdnFwd.sig) → Buf (Elt Bits) ℓ) : Prop :=
  True

def Pre_GdnFwdIdeal (m : (ℓ : Loc Cert.GdnFwdIdeal.nD Cert.GdnFwdIdeal.τ Cert.GdnFwdIdeal.sig) → Buf (Elt Ideal) ℓ) : Prop :=
  True

def Pre_GdnFwdIdeal_gdn_finite [hPre_gdn_finite : Cert.Pre_gdn_finite.Facts] (m : (ℓ : Loc Cert.GdnFwdIdeal.nD Cert.GdnFwdIdeal.τ Cert.GdnFwdIdeal.sig) → Buf (Elt Ideal) ℓ) : Prop :=
  ∀ c : Dev Cert.GdnFwdIdeal.nD,
    (Cert.Pre_gdn_finite.fn (F := Ideal) (m ((c.tc : Thread Cert.GdnFwdIdeal.nD Cert.GdnFwdIdeal.τ).loc Cert.GdnFwdIdeal.main_arg0)) (m ((c.tc : Thread Cert.GdnFwdIdeal.nD Cert.GdnFwdIdeal.τ).loc Cert.GdnFwdIdeal.main_arg1)) (m ((c.tc : Thread Cert.GdnFwdIdeal.nD Cert.GdnFwdIdeal.τ).loc Cert.GdnFwdIdeal.main_arg2)) (m ((c.tc : Thread Cert.GdnFwdIdeal.nD Cert.GdnFwdIdeal.τ).loc Cert.GdnFwdIdeal.main_arg3)) (m ((c.tc : Thread Cert.GdnFwdIdeal.nD Cert.GdnFwdIdeal.τ).loc Cert.GdnFwdIdeal.main_arg4)) (m ((c.tc : Thread Cert.GdnFwdIdeal.nD Cert.GdnFwdIdeal.τ).loc Cert.GdnFwdIdeal.main_arg5)) (m ((c.tc : Thread Cert.GdnFwdIdeal.nD Cert.GdnFwdIdeal.τ).loc Cert.GdnFwdIdeal.main_arg6)) (m ((c.tc : Thread Cert.GdnFwdIdeal.nD Cert.GdnFwdIdeal.τ).loc Cert.GdnFwdIdeal.main_arg7))) = (fun _ => 1#1)

def Pre_GdnFwdRefIdeal (m : (ℓ : Loc Cert.GdnFwdRefIdeal.nD Cert.GdnFwdRefIdeal.τ Cert.GdnFwdRefIdeal.sig) → Buf (Elt Ideal) ℓ) : Prop :=
  True

def Pre_GdnFwdRefIdeal_gdn_finite [hPre_gdn_finite : Cert.Pre_gdn_finite.Facts] (m : (ℓ : Loc Cert.GdnFwdRefIdeal.nD Cert.GdnFwdRefIdeal.τ Cert.GdnFwdRefIdeal.sig) → Buf (Elt Ideal) ℓ) : Prop :=
  ∀ c : Dev Cert.GdnFwdRefIdeal.nD,
    (Cert.Pre_gdn_finite.fn (F := Ideal) (m ((c.tc : Thread Cert.GdnFwdRefIdeal.nD Cert.GdnFwdRefIdeal.τ).loc Cert.GdnFwdRefIdeal.main_arg0)) (m ((c.tc : Thread Cert.GdnFwdRefIdeal.nD Cert.GdnFwdRefIdeal.τ).loc Cert.GdnFwdRefIdeal.main_arg1)) (m ((c.tc : Thread Cert.GdnFwdRefIdeal.nD Cert.GdnFwdRefIdeal.τ).loc Cert.GdnFwdRefIdeal.main_arg2)) (m ((c.tc : Thread Cert.GdnFwdRefIdeal.nD Cert.GdnFwdRefIdeal.τ).loc Cert.GdnFwdRefIdeal.main_arg3)) (m ((c.tc : Thread Cert.GdnFwdRefIdeal.nD Cert.GdnFwdRefIdeal.τ).loc Cert.GdnFwdRefIdeal.main_arg4)) (m ((c.tc : Thread Cert.GdnFwdRefIdeal.nD Cert.GdnFwdRefIdeal.τ).loc Cert.GdnFwdRefIdeal.main_arg5)) (m ((c.tc : Thread Cert.GdnFwdRefIdeal.nD Cert.GdnFwdRefIdeal.τ).loc Cert.GdnFwdRefIdeal.main_arg6)) (m ((c.tc : Thread Cert.GdnFwdRefIdeal.nD Cert.GdnFwdRefIdeal.τ).loc Cert.GdnFwdRefIdeal.main_arg7))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_PostFwd [hPostFwd : Cert.PostFwd.Facts] : Prop :=
  ∀ (m : (ℓ : Loc Cert.PostFwd.nD Cert.PostFwd.τ Cert.PostFwd.sig) → Buf (Elt Bits) ℓ) (g : Dev Cert.PostFwd.nD → PrngReg), Pre_PostFwd m →
    θ_run (Cert.PostFwd.defs (F := Bits)) (onTc (τ := Cert.PostFwd.τ) (Cert.PostFwd.main (F := Bits))) ⟨m, fun _ => 0, g⟩ (fun r => (∀ c : Dev Cert.PostFwd.nD,
      r.2.mem ((c.tc : Thread Cert.PostFwd.nD Cert.PostFwd.τ).loc Cert.PostFwd.main_arg0) = m ((c.tc : Thread Cert.PostFwd.nD Cert.PostFwd.τ).loc Cert.PostFwd.main_arg0)
      ∧ r.2.mem ((c.tc : Thread Cert.PostFwd.nD Cert.PostFwd.τ).loc Cert.PostFwd.main_arg1) = m ((c.tc : Thread Cert.PostFwd.nD Cert.PostFwd.τ).loc Cert.PostFwd.main_arg1)
      ∧ r.2.mem ((c.tc : Thread Cert.PostFwd.nD Cert.PostFwd.τ).loc Cert.PostFwd.main_arg2) = m ((c.tc : Thread Cert.PostFwd.nD Cert.PostFwd.τ).loc Cert.PostFwd.main_arg2))
      ∧ r.2.sem = fun _ => 0)

def quiescent_PostFwdIdeal [hPostFwdIdeal : Cert.PostFwdIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg), Pre_PostFwdIdeal m →
    θ_run (Cert.PostFwdIdeal.defs (F := Ideal)) (onTc (τ := Cert.PostFwdIdeal.τ) (Cert.PostFwdIdeal.main (F := Ideal))) ⟨m, fun _ => 0, g⟩ (fun r => (∀ c : Dev Cert.PostFwdIdeal.nD,
      r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
      ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
      ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2))
      ∧ r.2.sem = fun _ => 0)

def quiescent_PostFwdRefIdeal [hPostFwdRefIdeal : Cert.PostFwdRefIdeal.Facts] : Prop :=
  ∀ (m : (ℓ : Loc Cert.PostFwdRefIdeal.nD Cert.PostFwdRefIdeal.τ Cert.PostFwdRefIdeal.sig) → Buf (Elt Ideal) ℓ) (g : Dev Cert.PostFwdRefIdeal.nD → PrngReg), Pre_PostFwdRefIdeal m →
    θ_run (Cert.PostFwdRefIdeal.defs (F := Ideal)) (onTc (τ := Cert.PostFwdRefIdeal.τ) (Cert.PostFwdRefIdeal.main (F := Ideal))) ⟨m, fun _ => 0, g⟩ (fun r => (∀ c : Dev Cert.PostFwdRefIdeal.nD,
      r.2.mem ((c.tc : Thread Cert.PostFwdRefIdeal.nD Cert.PostFwdRefIdeal.τ).loc Cert.PostFwdRefIdeal.main_arg0) = m ((c.tc : Thread Cert.PostFwdRefIdeal.nD Cert.PostFwdRefIdeal.τ).loc Cert.PostFwdRefIdeal.main_arg0)
      ∧ r.2.mem ((c.tc : Thread Cert.PostFwdRefIdeal.nD Cert.PostFwdRefIdeal.τ).loc Cert.PostFwdRefIdeal.main_arg1) = m ((c.tc : Thread Cert.PostFwdRefIdeal.nD Cert.PostFwdRefIdeal.τ).loc Cert.PostFwdRefIdeal.main_arg1)
      ∧ r.2.mem ((c.tc : Thread Cert.PostFwdRefIdeal.nD Cert.PostFwdRefIdeal.τ).loc Cert.PostFwdRefIdeal.main_arg2) = m ((c.tc : Thread Cert.PostFwdRefIdeal.nD Cert.PostFwdRefIdeal.τ).loc Cert.PostFwdRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_S5Fwd [hS5Fwd : Cert.S5Fwd.Facts] : Prop :=
  ∀ (m : (ℓ : Loc Cert.S5Fwd.nD Cert.S5Fwd.τ Cert.S5Fwd.sig) → Buf (Elt Bits) ℓ) (g : Dev Cert.S5Fwd.nD → PrngReg), Pre_S5Fwd m →
    θ_run (Cert.S5Fwd.defs (F := Bits)) (onTc (τ := Cert.S5Fwd.τ) (Cert.S5Fwd.main (F := Bits))) ⟨m, fun _ => 0, g⟩ (fun r => (∀ c : Dev Cert.S5Fwd.nD,
      r.2.mem ((c.tc : Thread Cert.S5Fwd.nD Cert.S5Fwd.τ).loc Cert.S5Fwd.main_arg0) = m ((c.tc : Thread Cert.S5Fwd.nD Cert.S5Fwd.τ).loc Cert.S5Fwd.main_arg0)
      ∧ r.2.mem ((c.tc : Thread Cert.S5Fwd.nD Cert.S5Fwd.τ).loc Cert.S5Fwd.main_arg1) = m ((c.tc : Thread Cert.S5Fwd.nD Cert.S5Fwd.τ).loc Cert.S5Fwd.main_arg1)
      ∧ r.2.mem ((c.tc : Thread Cert.S5Fwd.nD Cert.S5Fwd.τ).loc Cert.S5Fwd.main_arg2) = m ((c.tc : Thread Cert.S5Fwd.nD Cert.S5Fwd.τ).loc Cert.S5Fwd.main_arg2)
      ∧ r.2.mem ((c.tc : Thread Cert.S5Fwd.nD Cert.S5Fwd.τ).loc Cert.S5Fwd.main_arg3) = m ((c.tc : Thread Cert.S5Fwd.nD Cert.S5Fwd.τ).loc Cert.S5Fwd.main_arg3)
      ∧ r.2.mem ((c.tc : Thread Cert.S5Fwd.nD Cert.S5Fwd.τ).loc Cert.S5Fwd.main_arg4) = m ((c.tc : Thread Cert.S5Fwd.nD Cert.S5Fwd.τ).loc Cert.S5Fwd.main_arg4)
      ∧ r.2.mem ((c.tc : Thread Cert.S5Fwd.nD Cert.S5Fwd.τ).loc Cert.S5Fwd.main_arg5) = m ((c.tc : Thread Cert.S5Fwd.nD Cert.S5Fwd.τ).loc Cert.S5Fwd.main_arg5)
      ∧ r.2.mem ((c.tc : Thread Cert.S5Fwd.nD Cert.S5Fwd.τ).loc Cert.S5Fwd.main_arg6) = m ((c.tc : Thread Cert.S5Fwd.nD Cert.S5Fwd.τ).loc Cert.S5Fwd.main_arg6)
      ∧ r.2.mem ((c.tc : Thread Cert.S5Fwd.nD Cert.S5Fwd.τ).loc Cert.S5Fwd.main_arg7) = m ((c.tc : Thread Cert.S5Fwd.nD Cert.S5Fwd.τ).loc Cert.S5Fwd.main_arg7)
      ∧ r.2.mem ((c.tc : Thread Cert.S5Fwd.nD Cert.S5Fwd.τ).loc Cert.S5Fwd.main_arg8) = m ((c.tc : Thread Cert.S5Fwd.nD Cert.S5Fwd.τ).loc Cert.S5Fwd.main_arg8))
      ∧ r.2.sem = fun _ => 0)

def quiescent_S5FwdIdeal [hS5FwdIdeal : Cert.S5FwdIdeal.Facts] : Prop :=
  ∀ (m : (ℓ : Loc Cert.S5FwdIdeal.nD Cert.S5FwdIdeal.τ Cert.S5FwdIdeal.sig) → Buf (Elt Ideal) ℓ) (g : Dev Cert.S5FwdIdeal.nD → PrngReg), Pre_S5FwdIdeal m →
    θ_run (Cert.S5FwdIdeal.defs (F := Ideal)) (onTc (τ := Cert.S5FwdIdeal.τ) (Cert.S5FwdIdeal.main (F := Ideal))) ⟨m, fun _ => 0, g⟩ (fun r => (∀ c : Dev Cert.S5FwdIdeal.nD,
      r.2.mem ((c.tc : Thread Cert.S5FwdIdeal.nD Cert.S5FwdIdeal.τ).loc Cert.S5FwdIdeal.main_arg0) = m ((c.tc : Thread Cert.S5FwdIdeal.nD Cert.S5FwdIdeal.τ).loc Cert.S5FwdIdeal.main_arg0)
      ∧ r.2.mem ((c.tc : Thread Cert.S5FwdIdeal.nD Cert.S5FwdIdeal.τ).loc Cert.S5FwdIdeal.main_arg1) = m ((c.tc : Thread Cert.S5FwdIdeal.nD Cert.S5FwdIdeal.τ).loc Cert.S5FwdIdeal.main_arg1)
      ∧ r.2.mem ((c.tc : Thread Cert.S5FwdIdeal.nD Cert.S5FwdIdeal.τ).loc Cert.S5FwdIdeal.main_arg2) = m ((c.tc : Thread Cert.S5FwdIdeal.nD Cert.S5FwdIdeal.τ).loc Cert.S5FwdIdeal.main_arg2)
      ∧ r.2.mem ((c.tc : Thread Cert.S5FwdIdeal.nD Cert.S5FwdIdeal.τ).loc Cert.S5FwdIdeal.main_arg3) = m ((c.tc : Thread Cert.S5FwdIdeal.nD Cert.S5FwdIdeal.τ).loc Cert.S5FwdIdeal.main_arg3)
      ∧ r.2.mem ((c.tc : Thread Cert.S5FwdIdeal.nD Cert.S5FwdIdeal.τ).loc Cert.S5FwdIdeal.main_arg4) = m ((c.tc : Thread Cert.S5FwdIdeal.nD Cert.S5FwdIdeal.τ).loc Cert.S5FwdIdeal.main_arg4)
      ∧ r.2.mem ((c.tc : Thread Cert.S5FwdIdeal.nD Cert.S5FwdIdeal.τ).loc Cert.S5FwdIdeal.main_arg5) = m ((c.tc : Thread Cert.S5FwdIdeal.nD Cert.S5FwdIdeal.τ).loc Cert.S5FwdIdeal.main_arg5)
      ∧ r.2.mem ((c.tc : Thread Cert.S5FwdIdeal.nD Cert.S5FwdIdeal.τ).loc Cert.S5FwdIdeal.main_arg6) = m ((c.tc : Thread Cert.S5FwdIdeal.nD Cert.S5FwdIdeal.τ).loc Cert.S5FwdIdeal.main_arg6)
      ∧ r.2.mem ((c.tc : Thread Cert.S5FwdIdeal.nD Cert.S5FwdIdeal.τ).loc Cert.S5FwdIdeal.main_arg7) = m ((c.tc : Thread Cert.S5FwdIdeal.nD Cert.S5FwdIdeal.τ).loc Cert.S5FwdIdeal.main_arg7)
      ∧ r.2.mem ((c.tc : Thread Cert.S5FwdIdeal.nD Cert.S5FwdIdeal.τ).loc Cert.S5FwdIdeal.main_arg8) = m ((c.tc : Thread Cert.S5FwdIdeal.nD Cert.S5FwdIdeal.τ).loc Cert.S5FwdIdeal.main_arg8))
      ∧ r.2.sem = fun _ => 0)

def quiescent_S5FwdIdeal_pre_s5_finite [hS5FwdIdeal : Cert.S5FwdIdeal.Facts] [hPre_s5_finite : Cert.Pre_s5_finite.Facts] : Prop :=
  ∀ (m : (ℓ : Loc Cert.S5FwdIdeal.nD Cert.S5FwdIdeal.τ Cert.S5FwdIdeal.sig) → Buf (Elt Ideal) ℓ) (g : Dev Cert.S5FwdIdeal.nD → PrngReg), Pre_S5FwdIdeal_s5_finite m →
    θ_run (Cert.S5FwdIdeal.defs (F := Ideal)) (onTc (τ := Cert.S5FwdIdeal.τ) (Cert.S5FwdIdeal.main (F := Ideal))) ⟨m, fun _ => 0, g⟩ (fun r => (∀ c : Dev Cert.S5FwdIdeal.nD,
      r.2.mem ((c.tc : Thread Cert.S5FwdIdeal.nD Cert.S5FwdIdeal.τ).loc Cert.S5FwdIdeal.main_arg0) = m ((c.tc : Thread Cert.S5FwdIdeal.nD Cert.S5FwdIdeal.τ).loc Cert.S5FwdIdeal.main_arg0)
      ∧ r.2.mem ((c.tc : Thread Cert.S5FwdIdeal.nD Cert.S5FwdIdeal.τ).loc Cert.S5FwdIdeal.main_arg1) = m ((c.tc : Thread Cert.S5FwdIdeal.nD Cert.S5FwdIdeal.τ).loc Cert.S5FwdIdeal.main_arg1)
      ∧ r.2.mem ((c.tc : Thread Cert.S5FwdIdeal.nD Cert.S5FwdIdeal.τ).loc Cert.S5FwdIdeal.main_arg2) = m ((c.tc : Thread Cert.S5FwdIdeal.nD Cert.S5FwdIdeal.τ).loc Cert.S5FwdIdeal.main_arg2)
      ∧ r.2.mem ((c.tc : Thread Cert.S5FwdIdeal.nD Cert.S5FwdIdeal.τ).loc Cert.S5FwdIdeal.main_arg3) = m ((c.tc : Thread Cert.S5FwdIdeal.nD Cert.S5FwdIdeal.τ).loc Cert.S5FwdIdeal.main_arg3)
      ∧ r.2.mem ((c.tc : Thread Cert.S5FwdIdeal.nD Cert.S5FwdIdeal.τ).loc Cert.S5FwdIdeal.main_arg4) = m ((c.tc : Thread Cert.S5FwdIdeal.nD Cert.S5FwdIdeal.τ).loc Cert.S5FwdIdeal.main_arg4)
      ∧ r.2.mem ((c.tc : Thread Cert.S5FwdIdeal.nD Cert.S5FwdIdeal.τ).loc Cert.S5FwdIdeal.main_arg5) = m ((c.tc : Thread Cert.S5FwdIdeal.nD Cert.S5FwdIdeal.τ).loc Cert.S5FwdIdeal.main_arg5)
      ∧ r.2.mem ((c.tc : Thread Cert.S5FwdIdeal.nD Cert.S5FwdIdeal.τ).loc Cert.S5FwdIdeal.main_arg6) = m ((c.tc : Thread Cert.S5FwdIdeal.nD Cert.S5FwdIdeal.τ).loc Cert.S5FwdIdeal.main_arg6)
      ∧ r.2.mem ((c.tc : Thread Cert.S5FwdIdeal.nD Cert.S5FwdIdeal.τ).loc Cert.S5FwdIdeal.main_arg7) = m ((c.tc : Thread Cert.S5FwdIdeal.nD Cert.S5FwdIdeal.τ).loc Cert.S5FwdIdeal.main_arg7)
      ∧ r.2.mem ((c.tc : Thread Cert.S5FwdIdeal.nD Cert.S5FwdIdeal.τ).loc Cert.S5FwdIdeal.main_arg8) = m ((c.tc : Thread Cert.S5FwdIdeal.nD Cert.S5FwdIdeal.τ).loc Cert.S5FwdIdeal.main_arg8))
      ∧ r.2.sem = fun _ => 0)

def quiescent_S5FwdRefIdeal [hS5FwdRefIdeal : Cert.S5FwdRefIdeal.Facts] : Prop :=
  ∀ (m : (ℓ : Loc Cert.S5FwdRefIdeal.nD Cert.S5FwdRefIdeal.τ Cert.S5FwdRefIdeal.sig) → Buf (Elt Ideal) ℓ) (g : Dev Cert.S5FwdRefIdeal.nD → PrngReg), Pre_S5FwdRefIdeal m →
    θ_run (Cert.S5FwdRefIdeal.defs (F := Ideal)) (onTc (τ := Cert.S5FwdRefIdeal.τ) (Cert.S5FwdRefIdeal.main (F := Ideal))) ⟨m, fun _ => 0, g⟩ (fun r => (∀ c : Dev Cert.S5FwdRefIdeal.nD,
      r.2.mem ((c.tc : Thread Cert.S5FwdRefIdeal.nD Cert.S5FwdRefIdeal.τ).loc Cert.S5FwdRefIdeal.main_arg0) = m ((c.tc : Thread Cert.S5FwdRefIdeal.nD Cert.S5FwdRefIdeal.τ).loc Cert.S5FwdRefIdeal.main_arg0)
      ∧ r.2.mem ((c.tc : Thread Cert.S5FwdRefIdeal.nD Cert.S5FwdRefIdeal.τ).loc Cert.S5FwdRefIdeal.main_arg1) = m ((c.tc : Thread Cert.S5FwdRefIdeal.nD Cert.S5FwdRefIdeal.τ).loc Cert.S5FwdRefIdeal.main_arg1)
      ∧ r.2.mem ((c.tc : Thread Cert.S5FwdRefIdeal.nD Cert.S5FwdRefIdeal.τ).loc Cert.S5FwdRefIdeal.main_arg2) = m ((c.tc : Thread Cert.S5FwdRefIdeal.nD Cert.S5FwdRefIdeal.τ).loc Cert.S5FwdRefIdeal.main_arg2)
      ∧ r.2.mem ((c.tc : Thread Cert.S5FwdRefIdeal.nD Cert.S5FwdRefIdeal.τ).loc Cert.S5FwdRefIdeal.main_arg3) = m ((c.tc : Thread Cert.S5FwdRefIdeal.nD Cert.S5FwdRefIdeal.τ).loc Cert.S5FwdRefIdeal.main_arg3)
      ∧ r.2.mem ((c.tc : Thread Cert.S5FwdRefIdeal.nD Cert.S5FwdRefIdeal.τ).loc Cert.S5FwdRefIdeal.main_arg4) = m ((c.tc : Thread Cert.S5FwdRefIdeal.nD Cert.S5FwdRefIdeal.τ).loc Cert.S5FwdRefIdeal.main_arg4)
      ∧ r.2.mem ((c.tc : Thread Cert.S5FwdRefIdeal.nD Cert.S5FwdRefIdeal.τ).loc Cert.S5FwdRefIdeal.main_arg5) = m ((c.tc : Thread Cert.S5FwdRefIdeal.nD Cert.S5FwdRefIdeal.τ).loc Cert.S5FwdRefIdeal.main_arg5)
      ∧ r.2.mem ((c.tc : Thread Cert.S5FwdRefIdeal.nD Cert.S5FwdRefIdeal.τ).loc Cert.S5FwdRefIdeal.main_arg6) = m ((c.tc : Thread Cert.S5FwdRefIdeal.nD Cert.S5FwdRefIdeal.τ).loc Cert.S5FwdRefIdeal.main_arg6)
      ∧ r.2.mem ((c.tc : Thread Cert.S5FwdRefIdeal.nD Cert.S5FwdRefIdeal.τ).loc Cert.S5FwdRefIdeal.main_arg7) = m ((c.tc : Thread Cert.S5FwdRefIdeal.nD Cert.S5FwdRefIdeal.τ).loc Cert.S5FwdRefIdeal.main_arg7)
      ∧ r.2.mem ((c.tc : Thread Cert.S5FwdRefIdeal.nD Cert.S5FwdRefIdeal.τ).loc Cert.S5FwdRefIdeal.main_arg8) = m ((c.tc : Thread Cert.S5FwdRefIdeal.nD Cert.S5FwdRefIdeal.τ).loc Cert.S5FwdRefIdeal.main_arg8))
      ∧ r.2.sem = fun _ => 0)

def quiescent_S5FwdRefIdeal_pre_s5_finite [hS5FwdRefIdeal : Cert.S5FwdRefIdeal.Facts] [hPre_s5_finite : Cert.Pre_s5_finite.Facts] : Prop :=
  ∀ (m : (ℓ : Loc Cert.S5FwdRefIdeal.nD Cert.S5FwdRefIdeal.τ Cert.S5FwdRefIdeal.sig) → Buf (Elt Ideal) ℓ) (g : Dev Cert.S5FwdRefIdeal.nD → PrngReg), Pre_S5FwdRefIdeal_s5_finite m →
    θ_run (Cert.S5FwdRefIdeal.defs (F := Ideal)) (onTc (τ := Cert.S5FwdRefIdeal.τ) (Cert.S5FwdRefIdeal.main (F := Ideal))) ⟨m, fun _ => 0, g⟩ (fun r => (∀ c : Dev Cert.S5FwdRefIdeal.nD,
      r.2.mem ((c.tc : Thread Cert.S5FwdRefIdeal.nD Cert.S5FwdRefIdeal.τ).loc Cert.S5FwdRefIdeal.main_arg0) = m ((c.tc : Thread Cert.S5FwdRefIdeal.nD Cert.S5FwdRefIdeal.τ).loc Cert.S5FwdRefIdeal.main_arg0)
      ∧ r.2.mem ((c.tc : Thread Cert.S5FwdRefIdeal.nD Cert.S5FwdRefIdeal.τ).loc Cert.S5FwdRefIdeal.main_arg1) = m ((c.tc : Thread Cert.S5FwdRefIdeal.nD Cert.S5FwdRefIdeal.τ).loc Cert.S5FwdRefIdeal.main_arg1)
      ∧ r.2.mem ((c.tc : Thread Cert.S5FwdRefIdeal.nD Cert.S5FwdRefIdeal.τ).loc Cert.S5FwdRefIdeal.main_arg2) = m ((c.tc : Thread Cert.S5FwdRefIdeal.nD Cert.S5FwdRefIdeal.τ).loc Cert.S5FwdRefIdeal.main_arg2)
      ∧ r.2.mem ((c.tc : Thread Cert.S5FwdRefIdeal.nD Cert.S5FwdRefIdeal.τ).loc Cert.S5FwdRefIdeal.main_arg3) = m ((c.tc : Thread Cert.S5FwdRefIdeal.nD Cert.S5FwdRefIdeal.τ).loc Cert.S5FwdRefIdeal.main_arg3)
      ∧ r.2.mem ((c.tc : Thread Cert.S5FwdRefIdeal.nD Cert.S5FwdRefIdeal.τ).loc Cert.S5FwdRefIdeal.main_arg4) = m ((c.tc : Thread Cert.S5FwdRefIdeal.nD Cert.S5FwdRefIdeal.τ).loc Cert.S5FwdRefIdeal.main_arg4)
      ∧ r.2.mem ((c.tc : Thread Cert.S5FwdRefIdeal.nD Cert.S5FwdRefIdeal.τ).loc Cert.S5FwdRefIdeal.main_arg5) = m ((c.tc : Thread Cert.S5FwdRefIdeal.nD Cert.S5FwdRefIdeal.τ).loc Cert.S5FwdRefIdeal.main_arg5)
      ∧ r.2.mem ((c.tc : Thread Cert.S5FwdRefIdeal.nD Cert.S5FwdRefIdeal.τ).loc Cert.S5FwdRefIdeal.main_arg6) = m ((c.tc : Thread Cert.S5FwdRefIdeal.nD Cert.S5FwdRefIdeal.τ).loc Cert.S5FwdRefIdeal.main_arg6)
      ∧ r.2.mem ((c.tc : Thread Cert.S5FwdRefIdeal.nD Cert.S5FwdRefIdeal.τ).loc Cert.S5FwdRefIdeal.main_arg7) = m ((c.tc : Thread Cert.S5FwdRefIdeal.nD Cert.S5FwdRefIdeal.τ).loc Cert.S5FwdRefIdeal.main_arg7)
      ∧ r.2.mem ((c.tc : Thread Cert.S5FwdRefIdeal.nD Cert.S5FwdRefIdeal.τ).loc Cert.S5FwdRefIdeal.main_arg8) = m ((c.tc : Thread Cert.S5FwdRefIdeal.nD Cert.S5FwdRefIdeal.τ).loc Cert.S5FwdRefIdeal.main_arg8))
      ∧ r.2.sem = fun _ => 0)

def quiescent_LruFwd [hLruFwd : Cert.LruFwd.Facts] : Prop :=
  ∀ (m : (ℓ : Loc Cert.LruFwd.nD Cert.LruFwd.τ Cert.LruFwd.sig) → Buf (Elt Bits) ℓ) (g : Dev Cert.LruFwd.nD → PrngReg), Pre_LruFwd m →
    θ_run (Cert.LruFwd.defs (F := Bits)) (onTc (τ := Cert.LruFwd.τ) (Cert.LruFwd.main (F := Bits))) ⟨m, fun _ => 0, g⟩ (fun r => (∀ c : Dev Cert.LruFwd.nD,
      r.2.mem ((c.tc : Thread Cert.LruFwd.nD Cert.LruFwd.τ).loc Cert.LruFwd.main_arg0) = m ((c.tc : Thread Cert.LruFwd.nD Cert.LruFwd.τ).loc Cert.LruFwd.main_arg0)
      ∧ r.2.mem ((c.tc : Thread Cert.LruFwd.nD Cert.LruFwd.τ).loc Cert.LruFwd.main_arg1) = m ((c.tc : Thread Cert.LruFwd.nD Cert.LruFwd.τ).loc Cert.LruFwd.main_arg1)
      ∧ r.2.mem ((c.tc : Thread Cert.LruFwd.nD Cert.LruFwd.τ).loc Cert.LruFwd.main_arg2) = m ((c.tc : Thread Cert.LruFwd.nD Cert.LruFwd.τ).loc Cert.LruFwd.main_arg2)
      ∧ r.2.mem ((c.tc : Thread Cert.LruFwd.nD Cert.LruFwd.τ).loc Cert.LruFwd.main_arg3) = m ((c.tc : Thread Cert.LruFwd.nD Cert.LruFwd.τ).loc Cert.LruFwd.main_arg3)
      ∧ r.2.mem ((c.tc : Thread Cert.LruFwd.nD Cert.LruFwd.τ).loc Cert.LruFwd.main_arg4) = m ((c.tc : Thread Cert.LruFwd.nD Cert.LruFwd.τ).loc Cert.LruFwd.main_arg4)
      ∧ r.2.mem ((c.tc : Thread Cert.LruFwd.nD Cert.LruFwd.τ).loc Cert.LruFwd.main_arg5) = m ((c.tc : Thread Cert.LruFwd.nD Cert.LruFwd.τ).loc Cert.LruFwd.main_arg5)
      ∧ r.2.mem ((c.tc : Thread Cert.LruFwd.nD Cert.LruFwd.τ).loc Cert.LruFwd.main_arg6) = m ((c.tc : Thread Cert.LruFwd.nD Cert.LruFwd.τ).loc Cert.LruFwd.main_arg6)
      ∧ r.2.mem ((c.tc : Thread Cert.LruFwd.nD Cert.LruFwd.τ).loc Cert.LruFwd.main_arg7) = m ((c.tc : Thread Cert.LruFwd.nD Cert.LruFwd.τ).loc Cert.LruFwd.main_arg7)
      ∧ r.2.mem ((c.tc : Thread Cert.LruFwd.nD Cert.LruFwd.τ).loc Cert.LruFwd.main_arg8) = m ((c.tc : Thread Cert.LruFwd.nD Cert.LruFwd.τ).loc Cert.LruFwd.main_arg8)
      ∧ r.2.mem ((c.tc : Thread Cert.LruFwd.nD Cert.LruFwd.τ).loc Cert.LruFwd.main_arg9) = m ((c.tc : Thread Cert.LruFwd.nD Cert.LruFwd.τ).loc Cert.LruFwd.main_arg9))
      ∧ r.2.sem = fun _ => 0)

def quiescent_LruFwdIdeal [hLruFwdIdeal : Cert.LruFwdIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg), Pre_LruFwdIdeal m →
    θ_run (Cert.LruFwdIdeal.defs (F := Ideal)) (onTc (τ := Cert.LruFwdIdeal.τ) (Cert.LruFwdIdeal.main (F := Ideal))) ⟨m, fun _ => 0, g⟩ (fun r => (∀ c : Dev Cert.LruFwdIdeal.nD,
      r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
      ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
      ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
      ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
      ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
      ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
      ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
      ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7)
      ∧ r.2.mem ((c.tc : Thread Cert.LruFwdIdeal.nD Cert.LruFwdIdeal.τ).loc Cert.LruFwdIdeal.main_arg8) = m ((c.tc : Thread Cert.LruFwdIdeal.nD Cert.LruFwdIdeal.τ).loc Cert.LruFwdIdeal.main_arg8)
      ∧ r.2.mem ((c.tc : Thread Cert.LruFwdIdeal.nD Cert.LruFwdIdeal.τ).loc Cert.LruFwdIdeal.main_arg9) = m ((c.tc : Thread Cert.LruFwdIdeal.nD Cert.LruFwdIdeal.τ).loc Cert.LruFwdIdeal.main_arg9))
      ∧ r.2.sem = fun _ => 0)

def quiescent_LruFwdRefIdeal [hLruFwdRefIdeal : Cert.LruFwdRefIdeal.Facts] : Prop :=
  ∀ (m : (ℓ : Loc Cert.LruFwdRefIdeal.nD Cert.LruFwdRefIdeal.τ Cert.LruFwdRefIdeal.sig) → Buf (Elt Ideal) ℓ) (g : Dev Cert.LruFwdRefIdeal.nD → PrngReg), Pre_LruFwdRefIdeal m →
    θ_run (Cert.LruFwdRefIdeal.defs (F := Ideal)) (onTc (τ := Cert.LruFwdRefIdeal.τ) (Cert.LruFwdRefIdeal.main (F := Ideal))) ⟨m, fun _ => 0, g⟩ (fun r => (∀ c : Dev Cert.LruFwdRefIdeal.nD,
      r.2.mem ((c.tc : Thread Cert.LruFwdRefIdeal.nD Cert.LruFwdRefIdeal.τ).loc Cert.LruFwdRefIdeal.main_arg0) = m ((c.tc : Thread Cert.LruFwdRefIdeal.nD Cert.LruFwdRefIdeal.τ).loc Cert.LruFwdRefIdeal.main_arg0)
      ∧ r.2.mem ((c.tc : Thread Cert.LruFwdRefIdeal.nD Cert.LruFwdRefIdeal.τ).loc Cert.LruFwdRefIdeal.main_arg1) = m ((c.tc : Thread Cert.LruFwdRefIdeal.nD Cert.LruFwdRefIdeal.τ).loc Cert.LruFwdRefIdeal.main_arg1)
      ∧ r.2.mem ((c.tc : Thread Cert.LruFwdRefIdeal.nD Cert.LruFwdRefIdeal.τ).loc Cert.LruFwdRefIdeal.main_arg2) = m ((c.tc : Thread Cert.LruFwdRefIdeal.nD Cert.LruFwdRefIdeal.τ).loc Cert.LruFwdRefIdeal.main_arg2)
      ∧ r.2.mem ((c.tc : Thread Cert.LruFwdRefIdeal.nD Cert.LruFwdRefIdeal.τ).loc Cert.LruFwdRefIdeal.main_arg3) = m ((c.tc : Thread Cert.LruFwdRefIdeal.nD Cert.LruFwdRefIdeal.τ).loc Cert.LruFwdRefIdeal.main_arg3)
      ∧ r.2.mem ((c.tc : Thread Cert.LruFwdRefIdeal.nD Cert.LruFwdRefIdeal.τ).loc Cert.LruFwdRefIdeal.main_arg4) = m ((c.tc : Thread Cert.LruFwdRefIdeal.nD Cert.LruFwdRefIdeal.τ).loc Cert.LruFwdRefIdeal.main_arg4)
      ∧ r.2.mem ((c.tc : Thread Cert.LruFwdRefIdeal.nD Cert.LruFwdRefIdeal.τ).loc Cert.LruFwdRefIdeal.main_arg5) = m ((c.tc : Thread Cert.LruFwdRefIdeal.nD Cert.LruFwdRefIdeal.τ).loc Cert.LruFwdRefIdeal.main_arg5)
      ∧ r.2.mem ((c.tc : Thread Cert.LruFwdRefIdeal.nD Cert.LruFwdRefIdeal.τ).loc Cert.LruFwdRefIdeal.main_arg6) = m ((c.tc : Thread Cert.LruFwdRefIdeal.nD Cert.LruFwdRefIdeal.τ).loc Cert.LruFwdRefIdeal.main_arg6)
      ∧ r.2.mem ((c.tc : Thread Cert.LruFwdRefIdeal.nD Cert.LruFwdRefIdeal.τ).loc Cert.LruFwdRefIdeal.main_arg7) = m ((c.tc : Thread Cert.LruFwdRefIdeal.nD Cert.LruFwdRefIdeal.τ).loc Cert.LruFwdRefIdeal.main_arg7)
      ∧ r.2.mem ((c.tc : Thread Cert.LruFwdRefIdeal.nD Cert.LruFwdRefIdeal.τ).loc Cert.LruFwdRefIdeal.main_arg8) = m ((c.tc : Thread Cert.LruFwdRefIdeal.nD Cert.LruFwdRefIdeal.τ).loc Cert.LruFwdRefIdeal.main_arg8)
      ∧ r.2.mem ((c.tc : Thread Cert.LruFwdRefIdeal.nD Cert.LruFwdRefIdeal.τ).loc Cert.LruFwdRefIdeal.main_arg9) = m ((c.tc : Thread Cert.LruFwdRefIdeal.nD Cert.LruFwdRefIdeal.τ).loc Cert.LruFwdRefIdeal.main_arg9))
      ∧ r.2.sem = fun _ => 0)

def quiescent_SsdFwd [hSsdFwd : Cert.SsdFwd.Facts] : Prop :=
  ∀ (m : (ℓ : Loc Cert.SsdFwd.nD Cert.SsdFwd.τ Cert.SsdFwd.sig) → Buf (Elt Bits) ℓ) (g : Dev Cert.SsdFwd.nD → PrngReg), Pre_SsdFwd m →
    θ_run (Cert.SsdFwd.defs (F := Bits)) (onTc (τ := Cert.SsdFwd.τ) (Cert.SsdFwd.main (F := Bits))) ⟨m, fun _ => 0, g⟩ (fun r => (∀ c : Dev Cert.SsdFwd.nD,
      r.2.mem ((c.tc : Thread Cert.SsdFwd.nD Cert.SsdFwd.τ).loc Cert.SsdFwd.main_arg0) = m ((c.tc : Thread Cert.SsdFwd.nD Cert.SsdFwd.τ).loc Cert.SsdFwd.main_arg0)
      ∧ r.2.mem ((c.tc : Thread Cert.SsdFwd.nD Cert.SsdFwd.τ).loc Cert.SsdFwd.main_arg1) = m ((c.tc : Thread Cert.SsdFwd.nD Cert.SsdFwd.τ).loc Cert.SsdFwd.main_arg1)
      ∧ r.2.mem ((c.tc : Thread Cert.SsdFwd.nD Cert.SsdFwd.τ).loc Cert.SsdFwd.main_arg2) = m ((c.tc : Thread Cert.SsdFwd.nD Cert.SsdFwd.τ).loc Cert.SsdFwd.main_arg2)
      ∧ r.2.mem ((c.tc : Thread Cert.SsdFwd.nD Cert.SsdFwd.τ).loc Cert.SsdFwd.main_arg3) = m ((c.tc : Thread Cert.SsdFwd.nD Cert.SsdFwd.τ).loc Cert.SsdFwd.main_arg3)
      ∧ r.2.mem ((c.tc : Thread Cert.SsdFwd.nD Cert.SsdFwd.τ).loc Cert.SsdFwd.main_arg4) = m ((c.tc : Thread Cert.SsdFwd.nD Cert.SsdFwd.τ).loc Cert.SsdFwd.main_arg4)
      ∧ r.2.mem ((c.tc : Thread Cert.SsdFwd.nD Cert.SsdFwd.τ).loc Cert.SsdFwd.main_arg5) = m ((c.tc : Thread Cert.SsdFwd.nD Cert.SsdFwd.τ).loc Cert.SsdFwd.main_arg5)
      ∧ r.2.mem ((c.tc : Thread Cert.SsdFwd.nD Cert.SsdFwd.τ).loc Cert.SsdFwd.main_arg6) = m ((c.tc : Thread Cert.SsdFwd.nD Cert.SsdFwd.τ).loc Cert.SsdFwd.main_arg6)
      ∧ r.2.mem ((c.tc : Thread Cert.SsdFwd.nD Cert.SsdFwd.τ).loc Cert.SsdFwd.main_arg7) = m ((c.tc : Thread Cert.SsdFwd.nD Cert.SsdFwd.τ).loc Cert.SsdFwd.main_arg7)
      ∧ r.2.mem ((c.tc : Thread Cert.SsdFwd.nD Cert.SsdFwd.τ).loc Cert.SsdFwd.main_arg8) = m ((c.tc : Thread Cert.SsdFwd.nD Cert.SsdFwd.τ).loc Cert.SsdFwd.main_arg8))
      ∧ r.2.sem = fun _ => 0)

def quiescent_SsdFwdIdeal [hSsdFwdIdeal : Cert.SsdFwdIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
      ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
      ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6)
      ∧ r.2.mem ((c.tc : Thread Cert.SsdFwdIdeal.nD Cert.SsdFwdIdeal.τ).loc Cert.SsdFwdIdeal.main_arg7) = m ((c.tc : Thread Cert.SsdFwdIdeal.nD Cert.SsdFwdIdeal.τ).loc Cert.SsdFwdIdeal.main_arg7)
      ∧ r.2.mem ((c.tc : Thread Cert.SsdFwdIdeal.nD Cert.SsdFwdIdeal.τ).loc Cert.SsdFwdIdeal.main_arg8) = m ((c.tc : Thread Cert.SsdFwdIdeal.nD Cert.SsdFwdIdeal.τ).loc Cert.SsdFwdIdeal.main_arg8))
      ∧ r.2.sem = fun _ => 0)

def quiescent_SsdFwdRefIdeal [hSsdFwdRefIdeal : Cert.SsdFwdRefIdeal.Facts] : Prop :=
  ∀ (m : (ℓ : Loc Cert.SsdFwdRefIdeal.nD Cert.SsdFwdRefIdeal.τ Cert.SsdFwdRefIdeal.sig) → Buf (Elt Ideal) ℓ) (g : Dev Cert.SsdFwdRefIdeal.nD → PrngReg), Pre_SsdFwdRefIdeal m →
    θ_run (Cert.SsdFwdRefIdeal.defs (F := Ideal)) (onTc (τ := Cert.SsdFwdRefIdeal.τ) (Cert.SsdFwdRefIdeal.main (F := Ideal))) ⟨m, fun _ => 0, g⟩ (fun r => (∀ c : Dev Cert.SsdFwdRefIdeal.nD,
      r.2.mem ((c.tc : Thread Cert.SsdFwdRefIdeal.nD Cert.SsdFwdRefIdeal.τ).loc Cert.SsdFwdRefIdeal.main_arg0) = m ((c.tc : Thread Cert.SsdFwdRefIdeal.nD Cert.SsdFwdRefIdeal.τ).loc Cert.SsdFwdRefIdeal.main_arg0)
      ∧ r.2.mem ((c.tc : Thread Cert.SsdFwdRefIdeal.nD Cert.SsdFwdRefIdeal.τ).loc Cert.SsdFwdRefIdeal.main_arg1) = m ((c.tc : Thread Cert.SsdFwdRefIdeal.nD Cert.SsdFwdRefIdeal.τ).loc Cert.SsdFwdRefIdeal.main_arg1)
      ∧ r.2.mem ((c.tc : Thread Cert.SsdFwdRefIdeal.nD Cert.SsdFwdRefIdeal.τ).loc Cert.SsdFwdRefIdeal.main_arg2) = m ((c.tc : Thread Cert.SsdFwdRefIdeal.nD Cert.SsdFwdRefIdeal.τ).loc Cert.SsdFwdRefIdeal.main_arg2)
      ∧ r.2.mem ((c.tc : Thread Cert.SsdFwdRefIdeal.nD Cert.SsdFwdRefIdeal.τ).loc Cert.SsdFwdRefIdeal.main_arg3) = m ((c.tc : Thread Cert.SsdFwdRefIdeal.nD Cert.SsdFwdRefIdeal.τ).loc Cert.SsdFwdRefIdeal.main_arg3)
      ∧ r.2.mem ((c.tc : Thread Cert.SsdFwdRefIdeal.nD Cert.SsdFwdRefIdeal.τ).loc Cert.SsdFwdRefIdeal.main_arg4) = m ((c.tc : Thread Cert.SsdFwdRefIdeal.nD Cert.SsdFwdRefIdeal.τ).loc Cert.SsdFwdRefIdeal.main_arg4)
      ∧ r.2.mem ((c.tc : Thread Cert.SsdFwdRefIdeal.nD Cert.SsdFwdRefIdeal.τ).loc Cert.SsdFwdRefIdeal.main_arg5) = m ((c.tc : Thread Cert.SsdFwdRefIdeal.nD Cert.SsdFwdRefIdeal.τ).loc Cert.SsdFwdRefIdeal.main_arg5)
      ∧ r.2.mem ((c.tc : Thread Cert.SsdFwdRefIdeal.nD Cert.SsdFwdRefIdeal.τ).loc Cert.SsdFwdRefIdeal.main_arg6) = m ((c.tc : Thread Cert.SsdFwdRefIdeal.nD Cert.SsdFwdRefIdeal.τ).loc Cert.SsdFwdRefIdeal.main_arg6)
      ∧ r.2.mem ((c.tc : Thread Cert.SsdFwdRefIdeal.nD Cert.SsdFwdRefIdeal.τ).loc Cert.SsdFwdRefIdeal.main_arg7) = m ((c.tc : Thread Cert.SsdFwdRefIdeal.nD Cert.SsdFwdRefIdeal.τ).loc Cert.SsdFwdRefIdeal.main_arg7)
      ∧ r.2.mem ((c.tc : Thread Cert.SsdFwdRefIdeal.nD Cert.SsdFwdRefIdeal.τ).loc Cert.SsdFwdRefIdeal.main_arg8) = m ((c.tc : Thread Cert.SsdFwdRefIdeal.nD Cert.SsdFwdRefIdeal.τ).loc Cert.SsdFwdRefIdeal.main_arg8))
      ∧ r.2.sem = fun _ => 0)

def quiescent_GdnFwd [hGdnFwd : Cert.GdnFwd.Facts] : Prop :=
  ∀ (m : (ℓ : Loc Cert.GdnFwd.nD Cert.GdnFwd.τ Cert.GdnFwd.sig) → Buf (Elt Bits) ℓ) (g : Dev Cert.GdnFwd.nD → PrngReg), Pre_GdnFwd m →
    θ_run (Cert.GdnFwd.defs (F := Bits)) (onTc (τ := Cert.GdnFwd.τ) (Cert.GdnFwd.main (F := Bits))) ⟨m, fun _ => 0, g⟩ (fun r => (∀ c : Dev Cert.GdnFwd.nD,
      r.2.mem ((c.tc : Thread Cert.GdnFwd.nD Cert.GdnFwd.τ).loc Cert.GdnFwd.main_arg0) = m ((c.tc : Thread Cert.GdnFwd.nD Cert.GdnFwd.τ).loc Cert.GdnFwd.main_arg0)
      ∧ r.2.mem ((c.tc : Thread Cert.GdnFwd.nD Cert.GdnFwd.τ).loc Cert.GdnFwd.main_arg1) = m ((c.tc : Thread Cert.GdnFwd.nD Cert.GdnFwd.τ).loc Cert.GdnFwd.main_arg1)
      ∧ r.2.mem ((c.tc : Thread Cert.GdnFwd.nD Cert.GdnFwd.τ).loc Cert.GdnFwd.main_arg2) = m ((c.tc : Thread Cert.GdnFwd.nD Cert.GdnFwd.τ).loc Cert.GdnFwd.main_arg2)
      ∧ r.2.mem ((c.tc : Thread Cert.GdnFwd.nD Cert.GdnFwd.τ).loc Cert.GdnFwd.main_arg3) = m ((c.tc : Thread Cert.GdnFwd.nD Cert.GdnFwd.τ).loc Cert.GdnFwd.main_arg3)
      ∧ r.2.mem ((c.tc : Thread Cert.GdnFwd.nD Cert.GdnFwd.τ).loc Cert.GdnFwd.main_arg4) = m ((c.tc : Thread Cert.GdnFwd.nD Cert.GdnFwd.τ).loc Cert.GdnFwd.main_arg4)
      ∧ r.2.mem ((c.tc : Thread Cert.GdnFwd.nD Cert.GdnFwd.τ).loc Cert.GdnFwd.main_arg5) = m ((c.tc : Thread Cert.GdnFwd.nD Cert.GdnFwd.τ).loc Cert.GdnFwd.main_arg5)
      ∧ r.2.mem ((c.tc : Thread Cert.GdnFwd.nD Cert.GdnFwd.τ).loc Cert.GdnFwd.main_arg6) = m ((c.tc : Thread Cert.GdnFwd.nD Cert.GdnFwd.τ).loc Cert.GdnFwd.main_arg6)
      ∧ r.2.mem ((c.tc : Thread Cert.GdnFwd.nD Cert.GdnFwd.τ).loc Cert.GdnFwd.main_arg7) = m ((c.tc : Thread Cert.GdnFwd.nD Cert.GdnFwd.τ).loc Cert.GdnFwd.main_arg7))
      ∧ r.2.sem = fun _ => 0)

def quiescent_GdnFwdIdeal [hGdnFwdIdeal : Cert.GdnFwdIdeal.Facts] : Prop :=
  ∀ (m : (ℓ : Loc Cert.GdnFwdIdeal.nD Cert.GdnFwdIdeal.τ Cert.GdnFwdIdeal.sig) → Buf (Elt Ideal) ℓ) (g : Dev Cert.GdnFwdIdeal.nD → PrngReg), Pre_GdnFwdIdeal m →
    θ_run (Cert.GdnFwdIdeal.defs (F := Ideal)) (onTc (τ := Cert.GdnFwdIdeal.τ) (Cert.GdnFwdIdeal.main (F := Ideal))) ⟨m, fun _ => 0, g⟩ (fun r => (∀ c : Dev Cert.GdnFwdIdeal.nD,
      r.2.mem ((c.tc : Thread Cert.GdnFwdIdeal.nD Cert.GdnFwdIdeal.τ).loc Cert.GdnFwdIdeal.main_arg0) = m ((c.tc : Thread Cert.GdnFwdIdeal.nD Cert.GdnFwdIdeal.τ).loc Cert.GdnFwdIdeal.main_arg0)
      ∧ r.2.mem ((c.tc : Thread Cert.GdnFwdIdeal.nD Cert.GdnFwdIdeal.τ).loc Cert.GdnFwdIdeal.main_arg1) = m ((c.tc : Thread Cert.GdnFwdIdeal.nD Cert.GdnFwdIdeal.τ).loc Cert.GdnFwdIdeal.main_arg1)
      ∧ r.2.mem ((c.tc : Thread Cert.GdnFwdIdeal.nD Cert.GdnFwdIdeal.τ).loc Cert.GdnFwdIdeal.main_arg2) = m ((c.tc : Thread Cert.GdnFwdIdeal.nD Cert.GdnFwdIdeal.τ).loc Cert.GdnFwdIdeal.main_arg2)
      ∧ r.2.mem ((c.tc : Thread Cert.GdnFwdIdeal.nD Cert.GdnFwdIdeal.τ).loc Cert.GdnFwdIdeal.main_arg3) = m ((c.tc : Thread Cert.GdnFwdIdeal.nD Cert.GdnFwdIdeal.τ).loc Cert.GdnFwdIdeal.main_arg3)
      ∧ r.2.mem ((c.tc : Thread Cert.GdnFwdIdeal.nD Cert.GdnFwdIdeal.τ).loc Cert.GdnFwdIdeal.main_arg4) = m ((c.tc : Thread Cert.GdnFwdIdeal.nD Cert.GdnFwdIdeal.τ).loc Cert.GdnFwdIdeal.main_arg4)
      ∧ r.2.mem ((c.tc : Thread Cert.GdnFwdIdeal.nD Cert.GdnFwdIdeal.τ).loc Cert.GdnFwdIdeal.main_arg5) = m ((c.tc : Thread Cert.GdnFwdIdeal.nD Cert.GdnFwdIdeal.τ).loc Cert.GdnFwdIdeal.main_arg5)
      ∧ r.2.mem ((c.tc : Thread Cert.GdnFwdIdeal.nD Cert.GdnFwdIdeal.τ).loc Cert.GdnFwdIdeal.main_arg6) = m ((c.tc : Thread Cert.GdnFwdIdeal.nD Cert.GdnFwdIdeal.τ).loc Cert.GdnFwdIdeal.main_arg6)
      ∧ r.2.mem ((c.tc : Thread Cert.GdnFwdIdeal.nD Cert.GdnFwdIdeal.τ).loc Cert.GdnFwdIdeal.main_arg7) = m ((c.tc : Thread Cert.GdnFwdIdeal.nD Cert.GdnFwdIdeal.τ).loc Cert.GdnFwdIdeal.main_arg7))
      ∧ r.2.sem = fun _ => 0)

def quiescent_GdnFwdIdeal_pre_gdn_finite [hGdnFwdIdeal : Cert.GdnFwdIdeal.Facts] [hPre_gdn_finite : Cert.Pre_gdn_finite.Facts] : Prop :=
  ∀ (m : (ℓ : Loc Cert.GdnFwdIdeal.nD Cert.GdnFwdIdeal.τ Cert.GdnFwdIdeal.sig) → Buf (Elt Ideal) ℓ) (g : Dev Cert.GdnFwdIdeal.nD → PrngReg), Pre_GdnFwdIdeal_gdn_finite m →
    θ_run (Cert.GdnFwdIdeal.defs (F := Ideal)) (onTc (τ := Cert.GdnFwdIdeal.τ) (Cert.GdnFwdIdeal.main (F := Ideal))) ⟨m, fun _ => 0, g⟩ (fun r => (∀ c : Dev Cert.GdnFwdIdeal.nD,
      r.2.mem ((c.tc : Thread Cert.GdnFwdIdeal.nD Cert.GdnFwdIdeal.τ).loc Cert.GdnFwdIdeal.main_arg0) = m ((c.tc : Thread Cert.GdnFwdIdeal.nD Cert.GdnFwdIdeal.τ).loc Cert.GdnFwdIdeal.main_arg0)
      ∧ r.2.mem ((c.tc : Thread Cert.GdnFwdIdeal.nD Cert.GdnFwdIdeal.τ).loc Cert.GdnFwdIdeal.main_arg1) = m ((c.tc : Thread Cert.GdnFwdIdeal.nD Cert.GdnFwdIdeal.τ).loc Cert.GdnFwdIdeal.main_arg1)
      ∧ r.2.mem ((c.tc : Thread Cert.GdnFwdIdeal.nD Cert.GdnFwdIdeal.τ).loc Cert.GdnFwdIdeal.main_arg2) = m ((c.tc : Thread Cert.GdnFwdIdeal.nD Cert.GdnFwdIdeal.τ).loc Cert.GdnFwdIdeal.main_arg2)
      ∧ r.2.mem ((c.tc : Thread Cert.GdnFwdIdeal.nD Cert.GdnFwdIdeal.τ).loc Cert.GdnFwdIdeal.main_arg3) = m ((c.tc : Thread Cert.GdnFwdIdeal.nD Cert.GdnFwdIdeal.τ).loc Cert.GdnFwdIdeal.main_arg3)
      ∧ r.2.mem ((c.tc : Thread Cert.GdnFwdIdeal.nD Cert.GdnFwdIdeal.τ).loc Cert.GdnFwdIdeal.main_arg4) = m ((c.tc : Thread Cert.GdnFwdIdeal.nD Cert.GdnFwdIdeal.τ).loc Cert.GdnFwdIdeal.main_arg4)
      ∧ r.2.mem ((c.tc : Thread Cert.GdnFwdIdeal.nD Cert.GdnFwdIdeal.τ).loc Cert.GdnFwdIdeal.main_arg5) = m ((c.tc : Thread Cert.GdnFwdIdeal.nD Cert.GdnFwdIdeal.τ).loc Cert.GdnFwdIdeal.main_arg5)
      ∧ r.2.mem ((c.tc : Thread Cert.GdnFwdIdeal.nD Cert.GdnFwdIdeal.τ).loc Cert.GdnFwdIdeal.main_arg6) = m ((c.tc : Thread Cert.GdnFwdIdeal.nD Cert.GdnFwdIdeal.τ).loc Cert.GdnFwdIdeal.main_arg6)
      ∧ r.2.mem ((c.tc : Thread Cert.GdnFwdIdeal.nD Cert.GdnFwdIdeal.τ).loc Cert.GdnFwdIdeal.main_arg7) = m ((c.tc : Thread Cert.GdnFwdIdeal.nD Cert.GdnFwdIdeal.τ).loc Cert.GdnFwdIdeal.main_arg7))
      ∧ r.2.sem = fun _ => 0)

def quiescent_GdnFwdRefIdeal [hGdnFwdRefIdeal : Cert.GdnFwdRefIdeal.Facts] : Prop :=
  ∀ (m : (ℓ : Loc Cert.GdnFwdRefIdeal.nD Cert.GdnFwdRefIdeal.τ Cert.GdnFwdRefIdeal.sig) → Buf (Elt Ideal) ℓ) (g : Dev Cert.GdnFwdRefIdeal.nD → PrngReg), Pre_GdnFwdRefIdeal m →
    θ_run (Cert.GdnFwdRefIdeal.defs (F := Ideal)) (onTc (τ := Cert.GdnFwdRefIdeal.τ) (Cert.GdnFwdRefIdeal.main (F := Ideal))) ⟨m, fun _ => 0, g⟩ (fun r => (∀ c : Dev Cert.GdnFwdRefIdeal.nD,
      r.2.mem ((c.tc : Thread Cert.GdnFwdRefIdeal.nD Cert.GdnFwdRefIdeal.τ).loc Cert.GdnFwdRefIdeal.main_arg0) = m ((c.tc : Thread Cert.GdnFwdRefIdeal.nD Cert.GdnFwdRefIdeal.τ).loc Cert.GdnFwdRefIdeal.main_arg0)
      ∧ r.2.mem ((c.tc : Thread Cert.GdnFwdRefIdeal.nD Cert.GdnFwdRefIdeal.τ).loc Cert.GdnFwdRefIdeal.main_arg1) = m ((c.tc : Thread Cert.GdnFwdRefIdeal.nD Cert.GdnFwdRefIdeal.τ).loc Cert.GdnFwdRefIdeal.main_arg1)
      ∧ r.2.mem ((c.tc : Thread Cert.GdnFwdRefIdeal.nD Cert.GdnFwdRefIdeal.τ).loc Cert.GdnFwdRefIdeal.main_arg2) = m ((c.tc : Thread Cert.GdnFwdRefIdeal.nD Cert.GdnFwdRefIdeal.τ).loc Cert.GdnFwdRefIdeal.main_arg2)
      ∧ r.2.mem ((c.tc : Thread Cert.GdnFwdRefIdeal.nD Cert.GdnFwdRefIdeal.τ).loc Cert.GdnFwdRefIdeal.main_arg3) = m ((c.tc : Thread Cert.GdnFwdRefIdeal.nD Cert.GdnFwdRefIdeal.τ).loc Cert.GdnFwdRefIdeal.main_arg3)
      ∧ r.2.mem ((c.tc : Thread Cert.GdnFwdRefIdeal.nD Cert.GdnFwdRefIdeal.τ).loc Cert.GdnFwdRefIdeal.main_arg4) = m ((c.tc : Thread Cert.GdnFwdRefIdeal.nD Cert.GdnFwdRefIdeal.τ).loc Cert.GdnFwdRefIdeal.main_arg4)
      ∧ r.2.mem ((c.tc : Thread Cert.GdnFwdRefIdeal.nD Cert.GdnFwdRefIdeal.τ).loc Cert.GdnFwdRefIdeal.main_arg5) = m ((c.tc : Thread Cert.GdnFwdRefIdeal.nD Cert.GdnFwdRefIdeal.τ).loc Cert.GdnFwdRefIdeal.main_arg5)
      ∧ r.2.mem ((c.tc : Thread Cert.GdnFwdRefIdeal.nD Cert.GdnFwdRefIdeal.τ).loc Cert.GdnFwdRefIdeal.main_arg6) = m ((c.tc : Thread Cert.GdnFwdRefIdeal.nD Cert.GdnFwdRefIdeal.τ).loc Cert.GdnFwdRefIdeal.main_arg6)
      ∧ r.2.mem ((c.tc : Thread Cert.GdnFwdRefIdeal.nD Cert.GdnFwdRefIdeal.τ).loc Cert.GdnFwdRefIdeal.main_arg7) = m ((c.tc : Thread Cert.GdnFwdRefIdeal.nD Cert.GdnFwdRefIdeal.τ).loc Cert.GdnFwdRefIdeal.main_arg7))
      ∧ r.2.sem = fun _ => 0)

def quiescent_GdnFwdRefIdeal_pre_gdn_finite [hGdnFwdRefIdeal : Cert.GdnFwdRefIdeal.Facts] [hPre_gdn_finite : Cert.Pre_gdn_finite.Facts] : Prop :=
  ∀ (m : (ℓ : Loc Cert.GdnFwdRefIdeal.nD Cert.GdnFwdRefIdeal.τ Cert.GdnFwdRefIdeal.sig) → Buf (Elt Ideal) ℓ) (g : Dev Cert.GdnFwdRefIdeal.nD → PrngReg), Pre_GdnFwdRefIdeal_gdn_finite m →
    θ_run (Cert.GdnFwdRefIdeal.defs (F := Ideal)) (onTc (τ := Cert.GdnFwdRefIdeal.τ) (Cert.GdnFwdRefIdeal.main (F := Ideal))) ⟨m, fun _ => 0, g⟩ (fun r => (∀ c : Dev Cert.GdnFwdRefIdeal.nD,
      r.2.mem ((c.tc : Thread Cert.GdnFwdRefIdeal.nD Cert.GdnFwdRefIdeal.τ).loc Cert.GdnFwdRefIdeal.main_arg0) = m ((c.tc : Thread Cert.GdnFwdRefIdeal.nD Cert.GdnFwdRefIdeal.τ).loc Cert.GdnFwdRefIdeal.main_arg0)
      ∧ r.2.mem ((c.tc : Thread Cert.GdnFwdRefIdeal.nD Cert.GdnFwdRefIdeal.τ).loc Cert.GdnFwdRefIdeal.main_arg1) = m ((c.tc : Thread Cert.GdnFwdRefIdeal.nD Cert.GdnFwdRefIdeal.τ).loc Cert.GdnFwdRefIdeal.main_arg1)
      ∧ r.2.mem ((c.tc : Thread Cert.GdnFwdRefIdeal.nD Cert.GdnFwdRefIdeal.τ).loc Cert.GdnFwdRefIdeal.main_arg2) = m ((c.tc : Thread Cert.GdnFwdRefIdeal.nD Cert.GdnFwdRefIdeal.τ).loc Cert.GdnFwdRefIdeal.main_arg2)
      ∧ r.2.mem ((c.tc : Thread Cert.GdnFwdRefIdeal.nD Cert.GdnFwdRefIdeal.τ).loc Cert.GdnFwdRefIdeal.main_arg3) = m ((c.tc : Thread Cert.GdnFwdRefIdeal.nD Cert.GdnFwdRefIdeal.τ).loc Cert.GdnFwdRefIdeal.main_arg3)
      ∧ r.2.mem ((c.tc : Thread Cert.GdnFwdRefIdeal.nD Cert.GdnFwdRefIdeal.τ).loc Cert.GdnFwdRefIdeal.main_arg4) = m ((c.tc : Thread Cert.GdnFwdRefIdeal.nD Cert.GdnFwdRefIdeal.τ).loc Cert.GdnFwdRefIdeal.main_arg4)
      ∧ r.2.mem ((c.tc : Thread Cert.GdnFwdRefIdeal.nD Cert.GdnFwdRefIdeal.τ).loc Cert.GdnFwdRefIdeal.main_arg5) = m ((c.tc : Thread Cert.GdnFwdRefIdeal.nD Cert.GdnFwdRefIdeal.τ).loc Cert.GdnFwdRefIdeal.main_arg5)
      ∧ r.2.mem ((c.tc : Thread Cert.GdnFwdRefIdeal.nD Cert.GdnFwdRefIdeal.τ).loc Cert.GdnFwdRefIdeal.main_arg6) = m ((c.tc : Thread Cert.GdnFwdRefIdeal.nD Cert.GdnFwdRefIdeal.τ).loc Cert.GdnFwdRefIdeal.main_arg6)
      ∧ r.2.mem ((c.tc : Thread Cert.GdnFwdRefIdeal.nD Cert.GdnFwdRefIdeal.τ).loc Cert.GdnFwdRefIdeal.main_arg7) = m ((c.tc : Thread Cert.GdnFwdRefIdeal.nD Cert.GdnFwdRefIdeal.τ).loc Cert.GdnFwdRefIdeal.main_arg7))
      ∧ r.2.sem = fun _ => 0)

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)) (v2 : (c : Dev Cert.FfnIdeal.nD) → Buf (Elt Ideal) ((c.tc : Thread Cert.FfnIdeal.nD Cert.FfnIdeal.τ).loc Cert.FfnIdeal.main_v4_2)) (v3 : (c : Dev Cert.FfnIdeal.nD) → Buf (Elt Ideal) ((c.tc : Thread Cert.FfnIdeal.nD Cert.FfnIdeal.τ).loc Cert.FfnIdeal.main_v4_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_v4_2) = v2 c
          ∧ r.2.mem ((c.tc : Thread Cert.FfnIdeal.nD Cert.FfnIdeal.τ).loc Cert.FfnIdeal.main_v4_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_v22) = v1 c
          ∧ r.2.mem ((c.tc : Thread Cert.FfnRefIdeal.nD Cert.FfnRefIdeal.τ).loc Cert.FfnRefIdeal.main_v23) = v2 c
          ∧ r.2.mem ((c.tc : Thread Cert.FfnRefIdeal.nD Cert.FfnRefIdeal.τ).loc Cert.FfnRefIdeal.main_v24) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v37) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3_1)) (v1 : (c : Dev Cert.LossIdeal.nD) → Buf (Elt Ideal) ((c.tc : Thread Cert.LossIdeal.nD Cert.LossIdeal.τ).loc Cert.LossIdeal.main_v3_0)) (v2 : (c : Dev Cert.LossIdeal.nD) → Buf (Elt Ideal) ((c.tc : Thread Cert.LossIdeal.nD Cert.LossIdeal.τ).loc Cert.LossIdeal.main_v3_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_1) = v0 c
          ∧ r.2.mem ((c.tc : Thread Cert.LossIdeal.nD Cert.LossIdeal.τ).loc Cert.LossIdeal.main_v3_0) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v2_0)) (v1 : (c : Dev Cert.PostIdeal.nD) → Buf (Elt Ideal) ((c.tc : Thread Cert.PostIdeal.nD Cert.PostIdeal.τ).loc Cert.PostIdeal.main_v2_1)) (v2 : (c : Dev Cert.PostIdeal.nD) → Buf (Elt Ideal) ((c.tc : Thread Cert.PostIdeal.nD Cert.PostIdeal.τ).loc Cert.PostIdeal.main_v2_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v2_0) = v0 c
          ∧ r.2.mem ((c.tc : Thread Cert.PostIdeal.nD Cert.PostIdeal.τ).loc Cert.PostIdeal.main_v2_1) = v1 c
          ∧ r.2.mem ((c.tc : Thread Cert.PostIdeal.nD Cert.PostIdeal.τ).loc Cert.PostIdeal.main_v2_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v86) = v0 c
          ∧ r.2.mem ((c.tc : Thread Cert.PostRefIdeal.nD Cert.PostRefIdeal.τ).loc Cert.PostRefIdeal.main_v87) = v1 c
          ∧ r.2.mem ((c.tc : Thread Cert.PostRefIdeal.nD Cert.PostRefIdeal.τ).loc Cert.PostRefIdeal.main_v88) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_PostFwd_PostFwdIdeal : Prop :=
  True

def algebraic_PostFwdIdeal_PostFwdRefIdeal [hPostFwdIdeal : Cert.PostFwdIdeal.Facts] [hPostFwdRefIdeal : Cert.PostFwdRefIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg)
    (m' : (ℓ : Loc Cert.PostFwdRefIdeal.nD Cert.PostFwdRefIdeal.τ Cert.PostFwdRefIdeal.sig) → Buf (Elt Ideal) ℓ) (g' : Dev Cert.PostFwdRefIdeal.nD → PrngReg), Pre_PostFwdIdeal m →
    (∀ c : Dev Cert.PostFwdIdeal.nD,
      m' ((c.tc : Thread Cert.PostFwdRefIdeal.nD Cert.PostFwdRefIdeal.τ).loc Cert.PostFwdRefIdeal.main_arg0) = m ((c.tc : Thread Cert.PostFwdIdeal.nD Cert.PostFwdIdeal.τ).loc Cert.PostFwdIdeal.main_arg0)
      ∧ m' ((c.tc : Thread Cert.PostFwdRefIdeal.nD Cert.PostFwdRefIdeal.τ).loc Cert.PostFwdRefIdeal.main_arg1) = m ((c.tc : Thread Cert.PostFwdIdeal.nD Cert.PostFwdIdeal.τ).loc Cert.PostFwdIdeal.main_arg1)
      ∧ m' ((c.tc : Thread Cert.PostFwdRefIdeal.nD Cert.PostFwdRefIdeal.τ).loc Cert.PostFwdRefIdeal.main_arg2) = m ((c.tc : Thread Cert.PostFwdIdeal.nD Cert.PostFwdIdeal.τ).loc Cert.PostFwdIdeal.main_arg2)) →
    ∃ (v0 : (c : Dev Cert.PostFwdIdeal.nD) → Buf (Elt Ideal) ((c.tc : Thread Cert.PostFwdIdeal.nD Cert.PostFwdIdeal.τ).loc Cert.PostFwdIdeal.main_v2)),
      θ_run (Cert.PostFwdIdeal.defs (F := Ideal)) (onTc (τ := Cert.PostFwdIdeal.τ) (Cert.PostFwdIdeal.main (F := Ideal))) ⟨m, fun _ => 0, g⟩ (fun r => ∀ c : Dev Cert.PostFwdIdeal.nD,
          r.2.mem ((c.tc : Thread Cert.PostFwdIdeal.nD Cert.PostFwdIdeal.τ).loc Cert.PostFwdIdeal.main_v2) = v0 c
          ∧ r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
          ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
          ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2))
      ∧ θ_run (Cert.PostFwdRefIdeal.defs (F := Ideal)) (onTc (τ := Cert.PostFwdRefIdeal.τ) (Cert.PostFwdRefIdeal.main (F := Ideal))) ⟨m', fun _ => 0, g'⟩ (fun r => ∀ c : Dev Cert.PostFwdRefIdeal.nD,
          r.2.mem ((c.tc : Thread Cert.PostFwdRefIdeal.nD Cert.PostFwdRefIdeal.τ).loc Cert.PostFwdRefIdeal.main_v33) = v0 c
          ∧ r.2.mem ((c.tc : Thread Cert.PostFwdRefIdeal.nD Cert.PostFwdRefIdeal.τ).loc Cert.PostFwdRefIdeal.main_arg0) = m' ((c.tc : Thread Cert.PostFwdRefIdeal.nD Cert.PostFwdRefIdeal.τ).loc Cert.PostFwdRefIdeal.main_arg0)
          ∧ r.2.mem ((c.tc : Thread Cert.PostFwdRefIdeal.nD Cert.PostFwdRefIdeal.τ).loc Cert.PostFwdRefIdeal.main_arg1) = m' ((c.tc : Thread Cert.PostFwdRefIdeal.nD Cert.PostFwdRefIdeal.τ).loc Cert.PostFwdRefIdeal.main_arg1)
          ∧ r.2.mem ((c.tc : Thread Cert.PostFwdRefIdeal.nD Cert.PostFwdRefIdeal.τ).loc Cert.PostFwdRefIdeal.main_arg2) = m' ((c.tc : Thread Cert.PostFwdRefIdeal.nD Cert.PostFwdRefIdeal.τ).loc Cert.PostFwdRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v4) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v7) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_S5Fwd_S5FwdIdeal : Prop :=
  True

def algebraic_S5FwdIdeal_S5FwdRefIdeal_pre_s5_finite [hS5FwdIdeal : Cert.S5FwdIdeal.Facts] [hS5FwdRefIdeal : Cert.S5FwdRefIdeal.Facts] [hPre_s5_finite : Cert.Pre_s5_finite.Facts] : Prop :=
  ∀ (m : (ℓ : Loc Cert.S5FwdIdeal.nD Cert.S5FwdIdeal.τ Cert.S5FwdIdeal.sig) → Buf (Elt Ideal) ℓ) (g : Dev Cert.S5FwdIdeal.nD → PrngReg)
    (m' : (ℓ : Loc Cert.S5FwdRefIdeal.nD Cert.S5FwdRefIdeal.τ Cert.S5FwdRefIdeal.sig) → Buf (Elt Ideal) ℓ) (g' : Dev Cert.S5FwdRefIdeal.nD → PrngReg), Pre_S5FwdIdeal_s5_finite m →
    (∀ c : Dev Cert.S5FwdIdeal.nD,
      m' ((c.tc : Thread Cert.S5FwdRefIdeal.nD Cert.S5FwdRefIdeal.τ).loc Cert.S5FwdRefIdeal.main_arg0) = m ((c.tc : Thread Cert.S5FwdIdeal.nD Cert.S5FwdIdeal.τ).loc Cert.S5FwdIdeal.main_arg0)
      ∧ m' ((c.tc : Thread Cert.S5FwdRefIdeal.nD Cert.S5FwdRefIdeal.τ).loc Cert.S5FwdRefIdeal.main_arg1) = m ((c.tc : Thread Cert.S5FwdIdeal.nD Cert.S5FwdIdeal.τ).loc Cert.S5FwdIdeal.main_arg1)
      ∧ m' ((c.tc : Thread Cert.S5FwdRefIdeal.nD Cert.S5FwdRefIdeal.τ).loc Cert.S5FwdRefIdeal.main_arg2) = m ((c.tc : Thread Cert.S5FwdIdeal.nD Cert.S5FwdIdeal.τ).loc Cert.S5FwdIdeal.main_arg2)
      ∧ m' ((c.tc : Thread Cert.S5FwdRefIdeal.nD Cert.S5FwdRefIdeal.τ).loc Cert.S5FwdRefIdeal.main_arg3) = m ((c.tc : Thread Cert.S5FwdIdeal.nD Cert.S5FwdIdeal.τ).loc Cert.S5FwdIdeal.main_arg3)
      ∧ m' ((c.tc : Thread Cert.S5FwdRefIdeal.nD Cert.S5FwdRefIdeal.τ).loc Cert.S5FwdRefIdeal.main_arg4) = m ((c.tc : Thread Cert.S5FwdIdeal.nD Cert.S5FwdIdeal.τ).loc Cert.S5FwdIdeal.main_arg4)
      ∧ m' ((c.tc : Thread Cert.S5FwdRefIdeal.nD Cert.S5FwdRefIdeal.τ).loc Cert.S5FwdRefIdeal.main_arg5) = m ((c.tc : Thread Cert.S5FwdIdeal.nD Cert.S5FwdIdeal.τ).loc Cert.S5FwdIdeal.main_arg5)
      ∧ m' ((c.tc : Thread Cert.S5FwdRefIdeal.nD Cert.S5FwdRefIdeal.τ).loc Cert.S5FwdRefIdeal.main_arg6) = m ((c.tc : Thread Cert.S5FwdIdeal.nD Cert.S5FwdIdeal.τ).loc Cert.S5FwdIdeal.main_arg6)
      ∧ m' ((c.tc : Thread Cert.S5FwdRefIdeal.nD Cert.S5FwdRefIdeal.τ).loc Cert.S5FwdRefIdeal.main_arg7) = m ((c.tc : Thread Cert.S5FwdIdeal.nD Cert.S5FwdIdeal.τ).loc Cert.S5FwdIdeal.main_arg7)
      ∧ m' ((c.tc : Thread Cert.S5FwdRefIdeal.nD Cert.S5FwdRefIdeal.τ).loc Cert.S5FwdRefIdeal.main_arg8) = m ((c.tc : Thread Cert.S5FwdIdeal.nD Cert.S5FwdIdeal.τ).loc Cert.S5FwdIdeal.main_arg8)) →
    ∃ (v0 : (c : Dev Cert.S5FwdIdeal.nD) → Buf (Elt Ideal) ((c.tc : Thread Cert.S5FwdIdeal.nD Cert.S5FwdIdeal.τ).loc Cert.S5FwdIdeal.main_v37_0)) (v1 : (c : Dev Cert.S5FwdIdeal.nD) → Buf (Elt Ideal) ((c.tc : Thread Cert.S5FwdIdeal.nD Cert.S5FwdIdeal.τ).loc Cert.S5FwdIdeal.main_v37_1)) (v2 : (c : Dev Cert.S5FwdIdeal.nD) → Buf (Elt Ideal) ((c.tc : Thread Cert.S5FwdIdeal.nD Cert.S5FwdIdeal.τ).loc Cert.S5FwdIdeal.main_v37_2)),
      θ_run (Cert.S5FwdIdeal.defs (F := Ideal)) (onTc (τ := Cert.S5FwdIdeal.τ) (Cert.S5FwdIdeal.main (F := Ideal))) ⟨m, fun _ => 0, g⟩ (fun r => ∀ c : Dev Cert.S5FwdIdeal.nD,
          r.2.mem ((c.tc : Thread Cert.S5FwdIdeal.nD Cert.S5FwdIdeal.τ).loc Cert.S5FwdIdeal.main_v37_0) = v0 c
          ∧ r.2.mem ((c.tc : Thread Cert.S5FwdIdeal.nD Cert.S5FwdIdeal.τ).loc Cert.S5FwdIdeal.main_v37_1) = v1 c
          ∧ r.2.mem ((c.tc : Thread Cert.S5FwdIdeal.nD Cert.S5FwdIdeal.τ).loc Cert.S5FwdIdeal.main_v37_2) = v2 c
          ∧ r.2.mem ((c.tc : Thread Cert.S5FwdIdeal.nD Cert.S5FwdIdeal.τ).loc Cert.S5FwdIdeal.main_arg0) = m ((c.tc : Thread Cert.S5FwdIdeal.nD Cert.S5FwdIdeal.τ).loc Cert.S5FwdIdeal.main_arg0)
          ∧ r.2.mem ((c.tc : Thread Cert.S5FwdIdeal.nD Cert.S5FwdIdeal.τ).loc Cert.S5FwdIdeal.main_arg1) = m ((c.tc : Thread Cert.S5FwdIdeal.nD Cert.S5FwdIdeal.τ).loc Cert.S5FwdIdeal.main_arg1)
          ∧ r.2.mem ((c.tc : Thread Cert.S5FwdIdeal.nD Cert.S5FwdIdeal.τ).loc Cert.S5FwdIdeal.main_arg2) = m ((c.tc : Thread Cert.S5FwdIdeal.nD Cert.S5FwdIdeal.τ).loc Cert.S5FwdIdeal.main_arg2)
          ∧ r.2.mem ((c.tc : Thread Cert.S5FwdIdeal.nD Cert.S5FwdIdeal.τ).loc Cert.S5FwdIdeal.main_arg3) = m ((c.tc : Thread Cert.S5FwdIdeal.nD Cert.S5FwdIdeal.τ).loc Cert.S5FwdIdeal.main_arg3)
          ∧ r.2.mem ((c.tc : Thread Cert.S5FwdIdeal.nD Cert.S5FwdIdeal.τ).loc Cert.S5FwdIdeal.main_arg4) = m ((c.tc : Thread Cert.S5FwdIdeal.nD Cert.S5FwdIdeal.τ).loc Cert.S5FwdIdeal.main_arg4)
          ∧ r.2.mem ((c.tc : Thread Cert.S5FwdIdeal.nD Cert.S5FwdIdeal.τ).loc Cert.S5FwdIdeal.main_arg5) = m ((c.tc : Thread Cert.S5FwdIdeal.nD Cert.S5FwdIdeal.τ).loc Cert.S5FwdIdeal.main_arg5)
          ∧ r.2.mem ((c.tc : Thread Cert.S5FwdIdeal.nD Cert.S5FwdIdeal.τ).loc Cert.S5FwdIdeal.main_arg6) = m ((c.tc : Thread Cert.S5FwdIdeal.nD Cert.S5FwdIdeal.τ).loc Cert.S5FwdIdeal.main_arg6)
          ∧ r.2.mem ((c.tc : Thread Cert.S5FwdIdeal.nD Cert.S5FwdIdeal.τ).loc Cert.S5FwdIdeal.main_arg7) = m ((c.tc : Thread Cert.S5FwdIdeal.nD Cert.S5FwdIdeal.τ).loc Cert.S5FwdIdeal.main_arg7)
          ∧ r.2.mem ((c.tc : Thread Cert.S5FwdIdeal.nD Cert.S5FwdIdeal.τ).loc Cert.S5FwdIdeal.main_arg8) = m ((c.tc : Thread Cert.S5FwdIdeal.nD Cert.S5FwdIdeal.τ).loc Cert.S5FwdIdeal.main_arg8))
      ∧ θ_run (Cert.S5FwdRefIdeal.defs (F := Ideal)) (onTc (τ := Cert.S5FwdRefIdeal.τ) (Cert.S5FwdRefIdeal.main (F := Ideal))) ⟨m', fun _ => 0, g'⟩ (fun r => ∀ c : Dev Cert.S5FwdRefIdeal.nD,
          r.2.mem ((c.tc : Thread Cert.S5FwdRefIdeal.nD Cert.S5FwdRefIdeal.τ).loc Cert.S5FwdRefIdeal.main_v64) = v0 c
          ∧ r.2.mem ((c.tc : Thread Cert.S5FwdRefIdeal.nD Cert.S5FwdRefIdeal.τ).loc Cert.S5FwdRefIdeal.main_v73) = v1 c
          ∧ r.2.mem ((c.tc : Thread Cert.S5FwdRefIdeal.nD Cert.S5FwdRefIdeal.τ).loc Cert.S5FwdRefIdeal.main_v82) = v2 c
          ∧ r.2.mem ((c.tc : Thread Cert.S5FwdRefIdeal.nD Cert.S5FwdRefIdeal.τ).loc Cert.S5FwdRefIdeal.main_arg0) = m' ((c.tc : Thread Cert.S5FwdRefIdeal.nD Cert.S5FwdRefIdeal.τ).loc Cert.S5FwdRefIdeal.main_arg0)
          ∧ r.2.mem ((c.tc : Thread Cert.S5FwdRefIdeal.nD Cert.S5FwdRefIdeal.τ).loc Cert.S5FwdRefIdeal.main_arg1) = m' ((c.tc : Thread Cert.S5FwdRefIdeal.nD Cert.S5FwdRefIdeal.τ).loc Cert.S5FwdRefIdeal.main_arg1)
          ∧ r.2.mem ((c.tc : Thread Cert.S5FwdRefIdeal.nD Cert.S5FwdRefIdeal.τ).loc Cert.S5FwdRefIdeal.main_arg2) = m' ((c.tc : Thread Cert.S5FwdRefIdeal.nD Cert.S5FwdRefIdeal.τ).loc Cert.S5FwdRefIdeal.main_arg2)
          ∧ r.2.mem ((c.tc : Thread Cert.S5FwdRefIdeal.nD Cert.S5FwdRefIdeal.τ).loc Cert.S5FwdRefIdeal.main_arg3) = m' ((c.tc : Thread Cert.S5FwdRefIdeal.nD Cert.S5FwdRefIdeal.τ).loc Cert.S5FwdRefIdeal.main_arg3)
          ∧ r.2.mem ((c.tc : Thread Cert.S5FwdRefIdeal.nD Cert.S5FwdRefIdeal.τ).loc Cert.S5FwdRefIdeal.main_arg4) = m' ((c.tc : Thread Cert.S5FwdRefIdeal.nD Cert.S5FwdRefIdeal.τ).loc Cert.S5FwdRefIdeal.main_arg4)
          ∧ r.2.mem ((c.tc : Thread Cert.S5FwdRefIdeal.nD Cert.S5FwdRefIdeal.τ).loc Cert.S5FwdRefIdeal.main_arg5) = m' ((c.tc : Thread Cert.S5FwdRefIdeal.nD Cert.S5FwdRefIdeal.τ).loc Cert.S5FwdRefIdeal.main_arg5)
          ∧ r.2.mem ((c.tc : Thread Cert.S5FwdRefIdeal.nD Cert.S5FwdRefIdeal.τ).loc Cert.S5FwdRefIdeal.main_arg6) = m' ((c.tc : Thread Cert.S5FwdRefIdeal.nD Cert.S5FwdRefIdeal.τ).loc Cert.S5FwdRefIdeal.main_arg6)
          ∧ r.2.mem ((c.tc : Thread Cert.S5FwdRefIdeal.nD Cert.S5FwdRefIdeal.τ).loc Cert.S5FwdRefIdeal.main_arg7) = m' ((c.tc : Thread Cert.S5FwdRefIdeal.nD Cert.S5FwdRefIdeal.τ).loc Cert.S5FwdRefIdeal.main_arg7)
          ∧ r.2.mem ((c.tc : Thread Cert.S5FwdRefIdeal.nD Cert.S5FwdRefIdeal.τ).loc Cert.S5FwdRefIdeal.main_arg8) = m' ((c.tc : Thread Cert.S5FwdRefIdeal.nD Cert.S5FwdRefIdeal.τ).loc Cert.S5FwdRefIdeal.main_arg8))

def preserves_LruFwd_LruFwdIdeal : Prop :=
  True

def algebraic_LruFwdIdeal_LruFwdRefIdeal [hLruFwdIdeal : Cert.LruFwdIdeal.Facts] [hLruFwdRefIdeal : Cert.LruFwdRefIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg)
    (m' : (ℓ : Loc Cert.LruFwdRefIdeal.nD Cert.LruFwdRefIdeal.τ Cert.LruFwdRefIdeal.sig) → Buf (Elt Ideal) ℓ) (g' : Dev Cert.LruFwdRefIdeal.nD → PrngReg), Pre_LruFwdIdeal m →
    (∀ c : Dev Cert.LruFwdIdeal.nD,
      m' ((c.tc : Thread Cert.LruFwdRefIdeal.nD Cert.LruFwdRefIdeal.τ).loc Cert.LruFwdRefIdeal.main_arg0) = m ((c.tc : Thread Cert.LruFwdIdeal.nD Cert.LruFwdIdeal.τ).loc Cert.LruFwdIdeal.main_arg0)
      ∧ m' ((c.tc : Thread Cert.LruFwdRefIdeal.nD Cert.LruFwdRefIdeal.τ).loc Cert.LruFwdRefIdeal.main_arg1) = m ((c.tc : Thread Cert.LruFwdIdeal.nD Cert.LruFwdIdeal.τ).loc Cert.LruFwdIdeal.main_arg1)
      ∧ m' ((c.tc : Thread Cert.LruFwdRefIdeal.nD Cert.LruFwdRefIdeal.τ).loc Cert.LruFwdRefIdeal.main_arg2) = m ((c.tc : Thread Cert.LruFwdIdeal.nD Cert.LruFwdIdeal.τ).loc Cert.LruFwdIdeal.main_arg2)
      ∧ m' ((c.tc : Thread Cert.LruFwdRefIdeal.nD Cert.LruFwdRefIdeal.τ).loc Cert.LruFwdRefIdeal.main_arg3) = m ((c.tc : Thread Cert.LruFwdIdeal.nD Cert.LruFwdIdeal.τ).loc Cert.LruFwdIdeal.main_arg3)
      ∧ m' ((c.tc : Thread Cert.LruFwdRefIdeal.nD Cert.LruFwdRefIdeal.τ).loc Cert.LruFwdRefIdeal.main_arg4) = m ((c.tc : Thread Cert.LruFwdIdeal.nD Cert.LruFwdIdeal.τ).loc Cert.LruFwdIdeal.main_arg4)
      ∧ m' ((c.tc : Thread Cert.LruFwdRefIdeal.nD Cert.LruFwdRefIdeal.τ).loc Cert.LruFwdRefIdeal.main_arg5) = m ((c.tc : Thread Cert.LruFwdIdeal.nD Cert.LruFwdIdeal.τ).loc Cert.LruFwdIdeal.main_arg5)
      ∧ m' ((c.tc : Thread Cert.LruFwdRefIdeal.nD Cert.LruFwdRefIdeal.τ).loc Cert.LruFwdRefIdeal.main_arg6) = m ((c.tc : Thread Cert.LruFwdIdeal.nD Cert.LruFwdIdeal.τ).loc Cert.LruFwdIdeal.main_arg6)
      ∧ m' ((c.tc : Thread Cert.LruFwdRefIdeal.nD Cert.LruFwdRefIdeal.τ).loc Cert.LruFwdRefIdeal.main_arg7) = m ((c.tc : Thread Cert.LruFwdIdeal.nD Cert.LruFwdIdeal.τ).loc Cert.LruFwdIdeal.main_arg7)
      ∧ m' ((c.tc : Thread Cert.LruFwdRefIdeal.nD Cert.LruFwdRefIdeal.τ).loc Cert.LruFwdRefIdeal.main_arg8) = m ((c.tc : Thread Cert.LruFwdIdeal.nD Cert.LruFwdIdeal.τ).loc Cert.LruFwdIdeal.main_arg8)
      ∧ m' ((c.tc : Thread Cert.LruFwdRefIdeal.nD Cert.LruFwdRefIdeal.τ).loc Cert.LruFwdRefIdeal.main_arg9) = m ((c.tc : Thread Cert.LruFwdIdeal.nD Cert.LruFwdIdeal.τ).loc Cert.LruFwdIdeal.main_arg9)) →
    ∃ (v0 : (c : Dev Cert.LruFwdIdeal.nD) → Buf (Elt Ideal) ((c.tc : Thread Cert.LruFwdIdeal.nD Cert.LruFwdIdeal.τ).loc Cert.LruFwdIdeal.main_v32_0)) (v1 : (c : Dev Cert.LruFwdIdeal.nD) → Buf (Elt Ideal) ((c.tc : Thread Cert.LruFwdIdeal.nD Cert.LruFwdIdeal.τ).loc Cert.LruFwdIdeal.main_v32_1)) (v2 : (c : Dev Cert.LruFwdIdeal.nD) → Buf (Elt Ideal) ((c.tc : Thread Cert.LruFwdIdeal.nD Cert.LruFwdIdeal.τ).loc Cert.LruFwdIdeal.main_v32_2)),
      θ_run (Cert.LruFwdIdeal.defs (F := Ideal)) (onTc (τ := Cert.LruFwdIdeal.τ) (Cert.LruFwdIdeal.main (F := Ideal))) ⟨m, fun _ => 0, g⟩ (fun r => ∀ c : Dev Cert.LruFwdIdeal.nD,
          r.2.mem ((c.tc : Thread Cert.LruFwdIdeal.nD Cert.LruFwdIdeal.τ).loc Cert.LruFwdIdeal.main_v32_0) = v0 c
          ∧ r.2.mem ((c.tc : Thread Cert.LruFwdIdeal.nD Cert.LruFwdIdeal.τ).loc Cert.LruFwdIdeal.main_v32_1) = v1 c
          ∧ r.2.mem ((c.tc : Thread Cert.LruFwdIdeal.nD Cert.LruFwdIdeal.τ).loc Cert.LruFwdIdeal.main_v32_2) = v2 c
          ∧ r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
          ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
          ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
          ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
          ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
          ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
          ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
          ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7)
          ∧ r.2.mem ((c.tc : Thread Cert.LruFwdIdeal.nD Cert.LruFwdIdeal.τ).loc Cert.LruFwdIdeal.main_arg8) = m ((c.tc : Thread Cert.LruFwdIdeal.nD Cert.LruFwdIdeal.τ).loc Cert.LruFwdIdeal.main_arg8)
          ∧ r.2.mem ((c.tc : Thread Cert.LruFwdIdeal.nD Cert.LruFwdIdeal.τ).loc Cert.LruFwdIdeal.main_arg9) = m ((c.tc : Thread Cert.LruFwdIdeal.nD Cert.LruFwdIdeal.τ).loc Cert.LruFwdIdeal.main_arg9))
      ∧ θ_run (Cert.LruFwdRefIdeal.defs (F := Ideal)) (onTc (τ := Cert.LruFwdRefIdeal.τ) (Cert.LruFwdRefIdeal.main (F := Ideal))) ⟨m', fun _ => 0, g'⟩ (fun r => ∀ c : Dev Cert.LruFwdRefIdeal.nD,
          r.2.mem ((c.tc : Thread Cert.LruFwdRefIdeal.nD Cert.LruFwdRefIdeal.τ).loc Cert.LruFwdRefIdeal.main_v105) = v0 c
          ∧ r.2.mem ((c.tc : Thread Cert.LruFwdRefIdeal.nD Cert.LruFwdRefIdeal.τ).loc Cert.LruFwdRefIdeal.main_v111) = v1 c
          ∧ r.2.mem ((c.tc : Thread Cert.LruFwdRefIdeal.nD Cert.LruFwdRefIdeal.τ).loc Cert.LruFwdRefIdeal.main_v117) = v2 c
          ∧ r.2.mem ((c.tc : Thread Cert.LruFwdRefIdeal.nD Cert.LruFwdRefIdeal.τ).loc Cert.LruFwdRefIdeal.main_arg0) = m' ((c.tc : Thread Cert.LruFwdRefIdeal.nD Cert.LruFwdRefIdeal.τ).loc Cert.LruFwdRefIdeal.main_arg0)
          ∧ r.2.mem ((c.tc : Thread Cert.LruFwdRefIdeal.nD Cert.LruFwdRefIdeal.τ).loc Cert.LruFwdRefIdeal.main_arg1) = m' ((c.tc : Thread Cert.LruFwdRefIdeal.nD Cert.LruFwdRefIdeal.τ).loc Cert.LruFwdRefIdeal.main_arg1)
          ∧ r.2.mem ((c.tc : Thread Cert.LruFwdRefIdeal.nD Cert.LruFwdRefIdeal.τ).loc Cert.LruFwdRefIdeal.main_arg2) = m' ((c.tc : Thread Cert.LruFwdRefIdeal.nD Cert.LruFwdRefIdeal.τ).loc Cert.LruFwdRefIdeal.main_arg2)
          ∧ r.2.mem ((c.tc : Thread Cert.LruFwdRefIdeal.nD Cert.LruFwdRefIdeal.τ).loc Cert.LruFwdRefIdeal.main_arg3) = m' ((c.tc : Thread Cert.LruFwdRefIdeal.nD Cert.LruFwdRefIdeal.τ).loc Cert.LruFwdRefIdeal.main_arg3)
          ∧ r.2.mem ((c.tc : Thread Cert.LruFwdRefIdeal.nD Cert.LruFwdRefIdeal.τ).loc Cert.LruFwdRefIdeal.main_arg4) = m' ((c.tc : Thread Cert.LruFwdRefIdeal.nD Cert.LruFwdRefIdeal.τ).loc Cert.LruFwdRefIdeal.main_arg4)
          ∧ r.2.mem ((c.tc : Thread Cert.LruFwdRefIdeal.nD Cert.LruFwdRefIdeal.τ).loc Cert.LruFwdRefIdeal.main_arg5) = m' ((c.tc : Thread Cert.LruFwdRefIdeal.nD Cert.LruFwdRefIdeal.τ).loc Cert.LruFwdRefIdeal.main_arg5)
          ∧ r.2.mem ((c.tc : Thread Cert.LruFwdRefIdeal.nD Cert.LruFwdRefIdeal.τ).loc Cert.LruFwdRefIdeal.main_arg6) = m' ((c.tc : Thread Cert.LruFwdRefIdeal.nD Cert.LruFwdRefIdeal.τ).loc Cert.LruFwdRefIdeal.main_arg6)
          ∧ r.2.mem ((c.tc : Thread Cert.LruFwdRefIdeal.nD Cert.LruFwdRefIdeal.τ).loc Cert.LruFwdRefIdeal.main_arg7) = m' ((c.tc : Thread Cert.LruFwdRefIdeal.nD Cert.LruFwdRefIdeal.τ).loc Cert.LruFwdRefIdeal.main_arg7)
          ∧ r.2.mem ((c.tc : Thread Cert.LruFwdRefIdeal.nD Cert.LruFwdRefIdeal.τ).loc Cert.LruFwdRefIdeal.main_arg8) = m' ((c.tc : Thread Cert.LruFwdRefIdeal.nD Cert.LruFwdRefIdeal.τ).loc Cert.LruFwdRefIdeal.main_arg8)
          ∧ r.2.mem ((c.tc : Thread Cert.LruFwdRefIdeal.nD Cert.LruFwdRefIdeal.τ).loc Cert.LruFwdRefIdeal.main_arg9) = m' ((c.tc : Thread Cert.LruFwdRefIdeal.nD Cert.LruFwdRefIdeal.τ).loc Cert.LruFwdRefIdeal.main_arg9))

def preserves_SsdFwd_SsdFwdIdeal : Prop :=
  IdealRules.named_const.Statement Cert.SsdFwdIdeal.κ "mask" .f32 0xF149F2CA#32 ⊥

def algebraic_SsdFwdIdeal_SsdFwdRefIdeal [hSsdFwdIdeal : Cert.SsdFwdIdeal.Facts] [hSsdFwdRefIdeal : Cert.SsdFwdRefIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg)
    (m' : (ℓ : Loc Cert.SsdFwdRefIdeal.nD Cert.SsdFwdRefIdeal.τ Cert.SsdFwdRefIdeal.sig) → Buf (Elt Ideal) ℓ) (g' : Dev Cert.SsdFwdRefIdeal.nD → PrngReg), Pre_SsdFwdIdeal m →
    (∀ c : Dev Cert.SsdFwdIdeal.nD,
      m' ((c.tc : Thread Cert.SsdFwdRefIdeal.nD Cert.SsdFwdRefIdeal.τ).loc Cert.SsdFwdRefIdeal.main_arg0) = m ((c.tc : Thread Cert.SsdFwdIdeal.nD Cert.SsdFwdIdeal.τ).loc Cert.SsdFwdIdeal.main_arg0)
      ∧ m' ((c.tc : Thread Cert.SsdFwdRefIdeal.nD Cert.SsdFwdRefIdeal.τ).loc Cert.SsdFwdRefIdeal.main_arg1) = m ((c.tc : Thread Cert.SsdFwdIdeal.nD Cert.SsdFwdIdeal.τ).loc Cert.SsdFwdIdeal.main_arg1)
      ∧ m' ((c.tc : Thread Cert.SsdFwdRefIdeal.nD Cert.SsdFwdRefIdeal.τ).loc Cert.SsdFwdRefIdeal.main_arg2) = m ((c.tc : Thread Cert.SsdFwdIdeal.nD Cert.SsdFwdIdeal.τ).loc Cert.SsdFwdIdeal.main_arg2)
      ∧ m' ((c.tc : Thread Cert.SsdFwdRefIdeal.nD Cert.SsdFwdRefIdeal.τ).loc Cert.SsdFwdRefIdeal.main_arg3) = m ((c.tc : Thread Cert.SsdFwdIdeal.nD Cert.SsdFwdIdeal.τ).loc Cert.SsdFwdIdeal.main_arg3)
      ∧ m' ((c.tc : Thread Cert.SsdFwdRefIdeal.nD Cert.SsdFwdRefIdeal.τ).loc Cert.SsdFwdRefIdeal.main_arg4) = m ((c.tc : Thread Cert.SsdFwdIdeal.nD Cert.SsdFwdIdeal.τ).loc Cert.SsdFwdIdeal.main_arg4)
      ∧ m' ((c.tc : Thread Cert.SsdFwdRefIdeal.nD Cert.SsdFwdRefIdeal.τ).loc Cert.SsdFwdRefIdeal.main_arg5) = m ((c.tc : Thread Cert.SsdFwdIdeal.nD Cert.SsdFwdIdeal.τ).loc Cert.SsdFwdIdeal.main_arg5)
      ∧ m' ((c.tc : Thread Cert.SsdFwdRefIdeal.nD Cert.SsdFwdRefIdeal.τ).loc Cert.SsdFwdRefIdeal.main_arg6) = m ((c.tc : Thread Cert.SsdFwdIdeal.nD Cert.SsdFwdIdeal.τ).loc Cert.SsdFwdIdeal.main_arg6)
      ∧ m' ((c.tc : Thread Cert.SsdFwdRefIdeal.nD Cert.SsdFwdRefIdeal.τ).loc Cert.SsdFwdRefIdeal.main_arg7) = m ((c.tc : Thread Cert.SsdFwdIdeal.nD Cert.SsdFwdIdeal.τ).loc Cert.SsdFwdIdeal.main_arg7)
      ∧ m' ((c.tc : Thread Cert.SsdFwdRefIdeal.nD Cert.SsdFwdRefIdeal.τ).loc Cert.SsdFwdRefIdeal.main_arg8) = m ((c.tc : Thread Cert.SsdFwdIdeal.nD Cert.SsdFwdIdeal.τ).loc Cert.SsdFwdIdeal.main_arg8)) →
    ∃ (v0 : (c : Dev Cert.SsdFwdIdeal.nD) → Buf (Elt Ideal) ((c.tc : Thread Cert.SsdFwdIdeal.nD Cert.SsdFwdIdeal.τ).loc Cert.SsdFwdIdeal.main_v10_0)) (v1 : (c : Dev Cert.SsdFwdIdeal.nD) → Buf (Elt Ideal) ((c.tc : Thread Cert.SsdFwdIdeal.nD Cert.SsdFwdIdeal.τ).loc Cert.SsdFwdIdeal.main_v10_1)) (v2 : (c : Dev Cert.SsdFwdIdeal.nD) → Buf (Elt Ideal) ((c.tc : Thread Cert.SsdFwdIdeal.nD Cert.SsdFwdIdeal.τ).loc Cert.SsdFwdIdeal.main_v10_2)),
      θ_run (Cert.SsdFwdIdeal.defs (F := Ideal)) (onTc (τ := Cert.SsdFwdIdeal.τ) (Cert.SsdFwdIdeal.main (F := Ideal))) ⟨m, fun _ => 0, g⟩ (fun r => ∀ c : Dev Cert.SsdFwdIdeal.nD,
          r.2.mem ((c.tc : Thread Cert.SsdFwdIdeal.nD Cert.SsdFwdIdeal.τ).loc Cert.SsdFwdIdeal.main_v10_0) = v0 c
          ∧ r.2.mem ((c.tc : Thread Cert.SsdFwdIdeal.nD Cert.SsdFwdIdeal.τ).loc Cert.SsdFwdIdeal.main_v10_1) = v1 c
          ∧ r.2.mem ((c.tc : Thread Cert.SsdFwdIdeal.nD Cert.SsdFwdIdeal.τ).loc Cert.SsdFwdIdeal.main_v10_2) = v2 c
          ∧ r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
          ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
          ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
          ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
          ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
          ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
          ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6)
          ∧ r.2.mem ((c.tc : Thread Cert.SsdFwdIdeal.nD Cert.SsdFwdIdeal.τ).loc Cert.SsdFwdIdeal.main_arg7) = m ((c.tc : Thread Cert.SsdFwdIdeal.nD Cert.SsdFwdIdeal.τ).loc Cert.SsdFwdIdeal.main_arg7)
          ∧ r.2.mem ((c.tc : Thread Cert.SsdFwdIdeal.nD Cert.SsdFwdIdeal.τ).loc Cert.SsdFwdIdeal.main_arg8) = m ((c.tc : Thread Cert.SsdFwdIdeal.nD Cert.SsdFwdIdeal.τ).loc Cert.SsdFwdIdeal.main_arg8))
      ∧ θ_run (Cert.SsdFwdRefIdeal.defs (F := Ideal)) (onTc (τ := Cert.SsdFwdRefIdeal.τ) (Cert.SsdFwdRefIdeal.main (F := Ideal))) ⟨m', fun _ => 0, g'⟩ (fun r => ∀ c : Dev Cert.SsdFwdRefIdeal.nD,
          r.2.mem ((c.tc : Thread Cert.SsdFwdRefIdeal.nD Cert.SsdFwdRefIdeal.τ).loc Cert.SsdFwdRefIdeal.main_v140) = v0 c
          ∧ r.2.mem ((c.tc : Thread Cert.SsdFwdRefIdeal.nD Cert.SsdFwdRefIdeal.τ).loc Cert.SsdFwdRefIdeal.main_v138) = v1 c
          ∧ r.2.mem ((c.tc : Thread Cert.SsdFwdRefIdeal.nD Cert.SsdFwdRefIdeal.τ).loc Cert.SsdFwdRefIdeal.main_v144) = v2 c
          ∧ r.2.mem ((c.tc : Thread Cert.SsdFwdRefIdeal.nD Cert.SsdFwdRefIdeal.τ).loc Cert.SsdFwdRefIdeal.main_arg0) = m' ((c.tc : Thread Cert.SsdFwdRefIdeal.nD Cert.SsdFwdRefIdeal.τ).loc Cert.SsdFwdRefIdeal.main_arg0)
          ∧ r.2.mem ((c.tc : Thread Cert.SsdFwdRefIdeal.nD Cert.SsdFwdRefIdeal.τ).loc Cert.SsdFwdRefIdeal.main_arg1) = m' ((c.tc : Thread Cert.SsdFwdRefIdeal.nD Cert.SsdFwdRefIdeal.τ).loc Cert.SsdFwdRefIdeal.main_arg1)
          ∧ r.2.mem ((c.tc : Thread Cert.SsdFwdRefIdeal.nD Cert.SsdFwdRefIdeal.τ).loc Cert.SsdFwdRefIdeal.main_arg2) = m' ((c.tc : Thread Cert.SsdFwdRefIdeal.nD Cert.SsdFwdRefIdeal.τ).loc Cert.SsdFwdRefIdeal.main_arg2)
          ∧ r.2.mem ((c.tc : Thread Cert.SsdFwdRefIdeal.nD Cert.SsdFwdRefIdeal.τ).loc Cert.SsdFwdRefIdeal.main_arg3) = m' ((c.tc : Thread Cert.SsdFwdRefIdeal.nD Cert.SsdFwdRefIdeal.τ).loc Cert.SsdFwdRefIdeal.main_arg3)
          ∧ r.2.mem ((c.tc : Thread Cert.SsdFwdRefIdeal.nD Cert.SsdFwdRefIdeal.τ).loc Cert.SsdFwdRefIdeal.main_arg4) = m' ((c.tc : Thread Cert.SsdFwdRefIdeal.nD Cert.SsdFwdRefIdeal.τ).loc Cert.SsdFwdRefIdeal.main_arg4)
          ∧ r.2.mem ((c.tc : Thread Cert.SsdFwdRefIdeal.nD Cert.SsdFwdRefIdeal.τ).loc Cert.SsdFwdRefIdeal.main_arg5) = m' ((c.tc : Thread Cert.SsdFwdRefIdeal.nD Cert.SsdFwdRefIdeal.τ).loc Cert.SsdFwdRefIdeal.main_arg5)
          ∧ r.2.mem ((c.tc : Thread Cert.SsdFwdRefIdeal.nD Cert.SsdFwdRefIdeal.τ).loc Cert.SsdFwdRefIdeal.main_arg6) = m' ((c.tc : Thread Cert.SsdFwdRefIdeal.nD Cert.SsdFwdRefIdeal.τ).loc Cert.SsdFwdRefIdeal.main_arg6)
          ∧ r.2.mem ((c.tc : Thread Cert.SsdFwdRefIdeal.nD Cert.SsdFwdRefIdeal.τ).loc Cert.SsdFwdRefIdeal.main_arg7) = m' ((c.tc : Thread Cert.SsdFwdRefIdeal.nD Cert.SsdFwdRefIdeal.τ).loc Cert.SsdFwdRefIdeal.main_arg7)
          ∧ r.2.mem ((c.tc : Thread Cert.SsdFwdRefIdeal.nD Cert.SsdFwdRefIdeal.τ).loc Cert.SsdFwdRefIdeal.main_arg8) = m' ((c.tc : Thread Cert.SsdFwdRefIdeal.nD Cert.SsdFwdRefIdeal.τ).loc Cert.SsdFwdRefIdeal.main_arg8))

def preserves_GdnFwd_GdnFwdIdeal : Prop :=
  IdealRules.named_const.Statement Cert.GdnFwdIdeal.κ "mask" .f32 0xF149F2CA#32 ⊥

def algebraic_GdnFwdIdeal_GdnFwdRefIdeal_pre_gdn_finite [hGdnFwdIdeal : Cert.GdnFwdIdeal.Facts] [hGdnFwdRefIdeal : Cert.GdnFwdRefIdeal.Facts] [hPre_gdn_finite : Cert.Pre_gdn_finite.Facts] : Prop :=
  ∀ (m : (ℓ : Loc Cert.GdnFwdIdeal.nD Cert.GdnFwdIdeal.τ Cert.GdnFwdIdeal.sig) → Buf (Elt Ideal) ℓ) (g : Dev Cert.GdnFwdIdeal.nD → PrngReg)
    (m' : (ℓ : Loc Cert.GdnFwdRefIdeal.nD Cert.GdnFwdRefIdeal.τ Cert.GdnFwdRefIdeal.sig) → Buf (Elt Ideal) ℓ) (g' : Dev Cert.GdnFwdRefIdeal.nD → PrngReg), Pre_GdnFwdIdeal_gdn_finite m →
    (∀ c : Dev Cert.GdnFwdIdeal.nD,
      m' ((c.tc : Thread Cert.GdnFwdRefIdeal.nD Cert.GdnFwdRefIdeal.τ).loc Cert.GdnFwdRefIdeal.main_arg0) = m ((c.tc : Thread Cert.GdnFwdIdeal.nD Cert.GdnFwdIdeal.τ).loc Cert.GdnFwdIdeal.main_arg0)
      ∧ m' ((c.tc : Thread Cert.GdnFwdRefIdeal.nD Cert.GdnFwdRefIdeal.τ).loc Cert.GdnFwdRefIdeal.main_arg1) = m ((c.tc : Thread Cert.GdnFwdIdeal.nD Cert.GdnFwdIdeal.τ).loc Cert.GdnFwdIdeal.main_arg1)
      ∧ m' ((c.tc : Thread Cert.GdnFwdRefIdeal.nD Cert.GdnFwdRefIdeal.τ).loc Cert.GdnFwdRefIdeal.main_arg2) = m ((c.tc : Thread Cert.GdnFwdIdeal.nD Cert.GdnFwdIdeal.τ).loc Cert.GdnFwdIdeal.main_arg2)
      ∧ m' ((c.tc : Thread Cert.GdnFwdRefIdeal.nD Cert.GdnFwdRefIdeal.τ).loc Cert.GdnFwdRefIdeal.main_arg3) = m ((c.tc : Thread Cert.GdnFwdIdeal.nD Cert.GdnFwdIdeal.τ).loc Cert.GdnFwdIdeal.main_arg3)
      ∧ m' ((c.tc : Thread Cert.GdnFwdRefIdeal.nD Cert.GdnFwdRefIdeal.τ).loc Cert.GdnFwdRefIdeal.main_arg4) = m ((c.tc : Thread Cert.GdnFwdIdeal.nD Cert.GdnFwdIdeal.τ).loc Cert.GdnFwdIdeal.main_arg4)
      ∧ m' ((c.tc : Thread Cert.GdnFwdRefIdeal.nD Cert.GdnFwdRefIdeal.τ).loc Cert.GdnFwdRefIdeal.main_arg5) = m ((c.tc : Thread Cert.GdnFwdIdeal.nD Cert.GdnFwdIdeal.τ).loc Cert.GdnFwdIdeal.main_arg5)
      ∧ m' ((c.tc : Thread Cert.GdnFwdRefIdeal.nD Cert.GdnFwdRefIdeal.τ).loc Cert.GdnFwdRefIdeal.main_arg6) = m ((c.tc : Thread Cert.GdnFwdIdeal.nD Cert.GdnFwdIdeal.τ).loc Cert.GdnFwdIdeal.main_arg6)
      ∧ m' ((c.tc : Thread Cert.GdnFwdRefIdeal.nD Cert.GdnFwdRefIdeal.τ).loc Cert.GdnFwdRefIdeal.main_arg7) = m ((c.tc : Thread Cert.GdnFwdIdeal.nD Cert.GdnFwdIdeal.τ).loc Cert.GdnFwdIdeal.main_arg7)) →
    ∃ (v0 : (c : Dev Cert.GdnFwdIdeal.nD) → Buf (Elt Ideal) ((c.tc : Thread Cert.GdnFwdIdeal.nD Cert.GdnFwdIdeal.τ).loc Cert.GdnFwdIdeal.main_v11_0)) (v1 : (c : Dev Cert.GdnFwdIdeal.nD) → Buf (Elt Ideal) ((c.tc : Thread Cert.GdnFwdIdeal.nD Cert.GdnFwdIdeal.τ).loc Cert.GdnFwdIdeal.main_v11_1)) (v2 : (c : Dev Cert.GdnFwdIdeal.nD) → Buf (Elt Ideal) ((c.tc : Thread Cert.GdnFwdIdeal.nD Cert.GdnFwdIdeal.τ).loc Cert.GdnFwdIdeal.main_v11_2)) (v3 : (c : Dev Cert.GdnFwdIdeal.nD) → Buf (Elt Ideal) ((c.tc : Thread Cert.GdnFwdIdeal.nD Cert.GdnFwdIdeal.τ).loc Cert.GdnFwdIdeal.main_v11_3)) (v4 : (c : Dev Cert.GdnFwdIdeal.nD) → Buf (Elt Ideal) ((c.tc : Thread Cert.GdnFwdIdeal.nD Cert.GdnFwdIdeal.τ).loc Cert.GdnFwdIdeal.main_v11_4)),
      θ_run (Cert.GdnFwdIdeal.defs (F := Ideal)) (onTc (τ := Cert.GdnFwdIdeal.τ) (Cert.GdnFwdIdeal.main (F := Ideal))) ⟨m, fun _ => 0, g⟩ (fun r => ∀ c : Dev Cert.GdnFwdIdeal.nD,
          r.2.mem ((c.tc : Thread Cert.GdnFwdIdeal.nD Cert.GdnFwdIdeal.τ).loc Cert.GdnFwdIdeal.main_v11_0) = v0 c
          ∧ r.2.mem ((c.tc : Thread Cert.GdnFwdIdeal.nD Cert.GdnFwdIdeal.τ).loc Cert.GdnFwdIdeal.main_v11_1) = v1 c
          ∧ r.2.mem ((c.tc : Thread Cert.GdnFwdIdeal.nD Cert.GdnFwdIdeal.τ).loc Cert.GdnFwdIdeal.main_v11_2) = v2 c
          ∧ r.2.mem ((c.tc : Thread Cert.GdnFwdIdeal.nD Cert.GdnFwdIdeal.τ).loc Cert.GdnFwdIdeal.main_v11_3) = v3 c
          ∧ r.2.mem ((c.tc : Thread Cert.GdnFwdIdeal.nD Cert.GdnFwdIdeal.τ).loc Cert.GdnFwdIdeal.main_v11_4) = v4 c
          ∧ r.2.mem ((c.tc : Thread Cert.GdnFwdIdeal.nD Cert.GdnFwdIdeal.τ).loc Cert.GdnFwdIdeal.main_arg0) = m ((c.tc : Thread Cert.GdnFwdIdeal.nD Cert.GdnFwdIdeal.τ).loc Cert.GdnFwdIdeal.main_arg0)
          ∧ r.2.mem ((c.tc : Thread Cert.GdnFwdIdeal.nD Cert.GdnFwdIdeal.τ).loc Cert.GdnFwdIdeal.main_arg1) = m ((c.tc : Thread Cert.GdnFwdIdeal.nD Cert.GdnFwdIdeal.τ).loc Cert.GdnFwdIdeal.main_arg1)
          ∧ r.2.mem ((c.tc : Thread Cert.GdnFwdIdeal.nD Cert.GdnFwdIdeal.τ).loc Cert.GdnFwdIdeal.main_arg2) = m ((c.tc : Thread Cert.GdnFwdIdeal.nD Cert.GdnFwdIdeal.τ).loc Cert.GdnFwdIdeal.main_arg2)
          ∧ r.2.mem ((c.tc : Thread Cert.GdnFwdIdeal.nD Cert.GdnFwdIdeal.τ).loc Cert.GdnFwdIdeal.main_arg3) = m ((c.tc : Thread Cert.GdnFwdIdeal.nD Cert.GdnFwdIdeal.τ).loc Cert.GdnFwdIdeal.main_arg3)
          ∧ r.2.mem ((c.tc : Thread Cert.GdnFwdIdeal.nD Cert.GdnFwdIdeal.τ).loc Cert.GdnFwdIdeal.main_arg4) = m ((c.tc : Thread Cert.GdnFwdIdeal.nD Cert.GdnFwdIdeal.τ).loc Cert.GdnFwdIdeal.main_arg4)
          ∧ r.2.mem ((c.tc : Thread Cert.GdnFwdIdeal.nD Cert.GdnFwdIdeal.τ).loc Cert.GdnFwdIdeal.main_arg5) = m ((c.tc : Thread Cert.GdnFwdIdeal.nD Cert.GdnFwdIdeal.τ).loc Cert.GdnFwdIdeal.main_arg5)
          ∧ r.2.mem ((c.tc : Thread Cert.GdnFwdIdeal.nD Cert.GdnFwdIdeal.τ).loc Cert.GdnFwdIdeal.main_arg6) = m ((c.tc : Thread Cert.GdnFwdIdeal.nD Cert.GdnFwdIdeal.τ).loc Cert.GdnFwdIdeal.main_arg6)
          ∧ r.2.mem ((c.tc : Thread Cert.GdnFwdIdeal.nD Cert.GdnFwdIdeal.τ).loc Cert.GdnFwdIdeal.main_arg7) = m ((c.tc : Thread Cert.GdnFwdIdeal.nD Cert.GdnFwdIdeal.τ).loc Cert.GdnFwdIdeal.main_arg7))
      ∧ θ_run (Cert.GdnFwdRefIdeal.defs (F := Ideal)) (onTc (τ := Cert.GdnFwdRefIdeal.τ) (Cert.GdnFwdRefIdeal.main (F := Ideal))) ⟨m', fun _ => 0, g'⟩ (fun r => ∀ c : Dev Cert.GdnFwdRefIdeal.nD,
          r.2.mem ((c.tc : Thread Cert.GdnFwdRefIdeal.nD Cert.GdnFwdRefIdeal.τ).loc Cert.GdnFwdRefIdeal.main_v108) = v0 c
          ∧ r.2.mem ((c.tc : Thread Cert.GdnFwdRefIdeal.nD Cert.GdnFwdRefIdeal.τ).loc Cert.GdnFwdRefIdeal.main_v110) = v1 c
          ∧ r.2.mem ((c.tc : Thread Cert.GdnFwdRefIdeal.nD Cert.GdnFwdRefIdeal.τ).loc Cert.GdnFwdRefIdeal.main_v112) = v2 c
          ∧ r.2.mem ((c.tc : Thread Cert.GdnFwdRefIdeal.nD Cert.GdnFwdRefIdeal.τ).loc Cert.GdnFwdRefIdeal.main_v114) = v3 c
          ∧ r.2.mem ((c.tc : Thread Cert.GdnFwdRefIdeal.nD Cert.GdnFwdRefIdeal.τ).loc Cert.GdnFwdRefIdeal.main_v105) = v4 c
          ∧ r.2.mem ((c.tc : Thread Cert.GdnFwdRefIdeal.nD Cert.GdnFwdRefIdeal.τ).loc Cert.GdnFwdRefIdeal.main_arg0) = m' ((c.tc : Thread Cert.GdnFwdRefIdeal.nD Cert.GdnFwdRefIdeal.τ).loc Cert.GdnFwdRefIdeal.main_arg0)
          ∧ r.2.mem ((c.tc : Thread Cert.GdnFwdRefIdeal.nD Cert.GdnFwdRefIdeal.τ).loc Cert.GdnFwdRefIdeal.main_arg1) = m' ((c.tc : Thread Cert.GdnFwdRefIdeal.nD Cert.GdnFwdRefIdeal.τ).loc Cert.GdnFwdRefIdeal.main_arg1)
          ∧ r.2.mem ((c.tc : Thread Cert.GdnFwdRefIdeal.nD Cert.GdnFwdRefIdeal.τ).loc Cert.GdnFwdRefIdeal.main_arg2) = m' ((c.tc : Thread Cert.GdnFwdRefIdeal.nD Cert.GdnFwdRefIdeal.τ).loc Cert.GdnFwdRefIdeal.main_arg2)
          ∧ r.2.mem ((c.tc : Thread Cert.GdnFwdRefIdeal.nD Cert.GdnFwdRefIdeal.τ).loc Cert.GdnFwdRefIdeal.main_arg3) = m' ((c.tc : Thread Cert.GdnFwdRefIdeal.nD Cert.GdnFwdRefIdeal.τ).loc Cert.GdnFwdRefIdeal.main_arg3)
          ∧ r.2.mem ((c.tc : Thread Cert.GdnFwdRefIdeal.nD Cert.GdnFwdRefIdeal.τ).loc Cert.GdnFwdRefIdeal.main_arg4) = m' ((c.tc : Thread Cert.GdnFwdRefIdeal.nD Cert.GdnFwdRefIdeal.τ).loc Cert.GdnFwdRefIdeal.main_arg4)
          ∧ r.2.mem ((c.tc : Thread Cert.GdnFwdRefIdeal.nD Cert.GdnFwdRefIdeal.τ).loc Cert.GdnFwdRefIdeal.main_arg5) = m' ((c.tc : Thread Cert.GdnFwdRefIdeal.nD Cert.GdnFwdRefIdeal.τ).loc Cert.GdnFwdRefIdeal.main_arg5)
          ∧ r.2.mem ((c.tc : Thread Cert.GdnFwdRefIdeal.nD Cert.GdnFwdRefIdeal.τ).loc Cert.GdnFwdRefIdeal.main_arg6) = m' ((c.tc : Thread Cert.GdnFwdRefIdeal.nD Cert.GdnFwdRefIdeal.τ).loc Cert.GdnFwdRefIdeal.main_arg6)
          ∧ r.2.mem ((c.tc : Thread Cert.GdnFwdRefIdeal.nD Cert.GdnFwdRefIdeal.τ).loc Cert.GdnFwdRefIdeal.main_arg7) = m' ((c.tc : Thread Cert.GdnFwdRefIdeal.nD Cert.GdnFwdRefIdeal.τ).loc Cert.GdnFwdRefIdeal.main_arg7))

def Claim : Prop :=
  ∃ (hFfn : Cert.Ffn.Facts) (hFfnIdeal : Cert.FfnIdeal.Facts) (hFfnRefIdeal : Cert.FfnRefIdeal.Facts) (hRms : Cert.Rms.Facts) (hRmsIdeal : Cert.RmsIdeal.Facts) (hRmsRefIdeal : Cert.RmsRefIdeal.Facts) (hLoss : Cert.Loss.Facts) (hLossIdeal : Cert.LossIdeal.Facts) (hLossRefIdeal : Cert.LossRefIdeal.Facts) (hPost : Cert.Post.Facts) (hPostIdeal : Cert.PostIdeal.Facts) (hPostRefIdeal : Cert.PostRefIdeal.Facts) (hRmsFwd : Cert.RmsFwd.Facts) (hRmsFwdIdeal : Cert.RmsFwdIdeal.Facts) (hRmsFwdRefIdeal : Cert.RmsFwdRefIdeal.Facts) (hPostFwd : Cert.PostFwd.Facts) (hPostFwdIdeal : Cert.PostFwdIdeal.Facts) (hPostFwdRefIdeal : Cert.PostFwdRefIdeal.Facts) (hFfnFwd : Cert.FfnFwd.Facts) (hFfnFwdIdeal : Cert.FfnFwdIdeal.Facts) (hFfnFwdRefIdeal : Cert.FfnFwdRefIdeal.Facts) (hS5Fwd : Cert.S5Fwd.Facts) (hS5FwdIdeal : Cert.S5FwdIdeal.Facts) (hS5FwdRefIdeal : Cert.S5FwdRefIdeal.Facts) (hLruFwd : Cert.LruFwd.Facts) (hLruFwdIdeal : Cert.LruFwdIdeal.Facts) (hLruFwdRefIdeal : Cert.LruFwdRefIdeal.Facts) (hSsdFwd : Cert.SsdFwd.Facts) (hSsdFwdIdeal : Cert.SsdFwdIdeal.Facts) (hSsdFwdRefIdeal : Cert.SsdFwdRefIdeal.Facts) (hGdnFwd : Cert.GdnFwd.Facts) (hGdnFwdIdeal : Cert.GdnFwdIdeal.Facts) (hGdnFwdRefIdeal : Cert.GdnFwdRefIdeal.Facts) (hPre_ffn_finite : Cert.Pre_ffn_finite.Facts) (hPre_s5_finite : Cert.Pre_s5_finite.Facts) (hPre_gdn_finite : Cert.Pre_gdn_finite.Facts),
    quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Rms (hRms := hRms)
    ∧ quiescent_RmsIdeal (hRmsIdeal := hRmsIdeal)
    ∧ quiescent_RmsRefIdeal (hRmsRefIdeal := hRmsRefIdeal)
    ∧ quiescent_Loss (hLoss := hLoss)
    ∧ quiescent_LossIdeal (hLossIdeal := hLossIdeal)
    ∧ quiescent_LossRefIdeal (hLossRefIdeal := hLossRefIdeal)
    ∧ quiescent_Post (hPost := hPost)
    ∧ quiescent_PostIdeal (hPostIdeal := hPostIdeal)
    ∧ quiescent_PostRefIdeal (hPostRefIdeal := hPostRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_PostFwd (hPostFwd := hPostFwd)
    ∧ quiescent_PostFwdIdeal (hPostFwdIdeal := hPostFwdIdeal)
    ∧ quiescent_PostFwdRefIdeal (hPostFwdRefIdeal := hPostFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_S5Fwd (hS5Fwd := hS5Fwd)
    ∧ quiescent_S5FwdIdeal (hS5FwdIdeal := hS5FwdIdeal)
    ∧ quiescent_S5FwdIdeal_pre_s5_finite (hS5FwdIdeal := hS5FwdIdeal) (hPre_s5_finite := hPre_s5_finite)
    ∧ quiescent_S5FwdRefIdeal (hS5FwdRefIdeal := hS5FwdRefIdeal)
    ∧ quiescent_S5FwdRefIdeal_pre_s5_finite (hS5FwdRefIdeal := hS5FwdRefIdeal) (hPre_s5_finite := hPre_s5_finite)
    ∧ quiescent_LruFwd (hLruFwd := hLruFwd)
    ∧ quiescent_LruFwdIdeal (hLruFwdIdeal := hLruFwdIdeal)
    ∧ quiescent_LruFwdRefIdeal (hLruFwdRefIdeal := hLruFwdRefIdeal)
    ∧ quiescent_SsdFwd (hSsdFwd := hSsdFwd)
    ∧ quiescent_SsdFwdIdeal (hSsdFwdIdeal := hSsdFwdIdeal)
    ∧ quiescent_SsdFwdRefIdeal (hSsdFwdRefIdeal := hSsdFwdRefIdeal)
    ∧ quiescent_GdnFwd (hGdnFwd := hGdnFwd)
    ∧ quiescent_GdnFwdIdeal (hGdnFwdIdeal := hGdnFwdIdeal)
    ∧ quiescent_GdnFwdIdeal_pre_gdn_finite (hGdnFwdIdeal := hGdnFwdIdeal) (hPre_gdn_finite := hPre_gdn_finite)
    ∧ quiescent_GdnFwdRefIdeal (hGdnFwdRefIdeal := hGdnFwdRefIdeal)
    ∧ quiescent_GdnFwdRefIdeal_pre_gdn_finite (hGdnFwdRefIdeal := hGdnFwdRefIdeal) (hPre_gdn_finite := hPre_gdn_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Rms_RmsIdeal
    ∧ algebraic_RmsIdeal_RmsRefIdeal (hRmsIdeal := hRmsIdeal) (hRmsRefIdeal := hRmsRefIdeal)
    ∧ preserves_Loss_LossIdeal
    ∧ algebraic_LossIdeal_LossRefIdeal (hLossIdeal := hLossIdeal) (hLossRefIdeal := hLossRefIdeal)
    ∧ preserves_Post_PostIdeal
    ∧ algebraic_PostIdeal_PostRefIdeal (hPostIdeal := hPostIdeal) (hPostRefIdeal := hPostRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_PostFwd_PostFwdIdeal
    ∧ algebraic_PostFwdIdeal_PostFwdRefIdeal (hPostFwdIdeal := hPostFwdIdeal) (hPostFwdRefIdeal := hPostFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_S5Fwd_S5FwdIdeal
    ∧ algebraic_S5FwdIdeal_S5FwdRefIdeal_pre_s5_finite (hS5FwdIdeal := hS5FwdIdeal) (hS5FwdRefIdeal := hS5FwdRefIdeal) (hPre_s5_finite := hPre_s5_finite)
    ∧ preserves_LruFwd_LruFwdIdeal
    ∧ algebraic_LruFwdIdeal_LruFwdRefIdeal (hLruFwdIdeal := hLruFwdIdeal) (hLruFwdRefIdeal := hLruFwdRefIdeal)
    ∧ preserves_SsdFwd_SsdFwdIdeal
    ∧ algebraic_SsdFwdIdeal_SsdFwdRefIdeal (hSsdFwdIdeal := hSsdFwdIdeal) (hSsdFwdRefIdeal := hSsdFwdRefIdeal)
    ∧ preserves_GdnFwd_GdnFwdIdeal
    ∧ algebraic_GdnFwdIdeal_GdnFwdRefIdeal_pre_gdn_finite (hGdnFwdIdeal := hGdnFwdIdeal) (hGdnFwdRefIdeal := hGdnFwdRefIdeal) (hPre_gdn_finite := hPre_gdn_finite)
-- ==== Pre_ffn_finite.lean ====
abbrev S2112x1024 : Shape := ⟨2, ![2112, 1024]⟩
abbrev S1024x2816 : Shape := ⟨2, ![1024, 2816]⟩
abbrev S2816x1024 : Shape := ⟨2, ![2816, 1024]⟩
abbrev S_ : Shape := ⟨0, ![]⟩

class Facts : Prop where
  bcast_S_S2112x1024 : S_.BroadcastsInDim S2112x1024 (![] : Fin 0 → Fin S2112x1024.rank)
  reducesTo_S2112x1024_S_d0_1 : S2112x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2112x1024 .f32) (main_arg1 : FVec F S1024x2816 .f32) (main_arg2 : FVec F S1024x2816 .f32) (main_arg3 : FVec F S2816x1024 .f32) (main_arg4 : FVec F S2112x1024 .f32) : IVec S_ 1 :=
  let main_v0 : FVec F S2112x1024 .f32 := Host.absf main_arg0
  let main_cst : FVec F S_ .f32 := constant S_ .f32 0x7F800000#32
  let main_v1 : FVec F S2112x1024 .f32 := broadcastInDim S2112x1024 ![] bcast_S_S2112x1024 main_cst
  let main_v2 : IVec S2112x1024 1 := cmpf .olt main_v0 main_v1
  let main_c : IVec S_ 1 := constantI S_ 1 1#1
  let main_v3 : IVec S_ 1 := (fun x v => Host.reduce IntOp.andi x v reducesTo_S2112x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : FVec F S2816x1024 .f32 := Host.absf main_arg3
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S2112x1024 .f32 := Host.absf main_arg4
  let main_cst_4 : FVec F S_ .f32 := constant S_ .f32 0x7F800000#32
  let main_v13 : FVec F S2112x1024 .f32 := broadcastInDim S2112x1024 ![] bcast_S_S2112x1024 main_cst_4
  let main_v14 : IVec S2112x1024 1 := cmpf .olt main_v12 main_v13
  let main_c_5 : IVec S_ 1 := constantI S_ 1 1#1
  let main_v15 : IVec S_ 1 := (fun x v => Host.reduce IntOp.andi x v reducesTo_S2112x1024_S_d0_1 h_S_) main_v14 main_c_5
  fn_part1 (F := F) main_v3 main_v7 main_v11 main_v15
-- ==== Pre_gdn_finite.lean ====
abbrev S2064x1536 : Shape := ⟨2, ![2064, 1536]⟩
abbrev S2064x512 : Shape := ⟨2, ![2064, 512]⟩
abbrev S2064x4 : Shape := ⟨2, ![2064, 4]⟩
abbrev S4x1536 : Shape := ⟨2, ![4, 1536]⟩
abbrev S4 : Shape := ⟨1, ![4]⟩
abbrev S128 : Shape := ⟨1, ![128]⟩
abbrev S_ : Shape := ⟨0, ![]⟩

class Facts : Prop where
  bcast_S_S2064x1536 : S_.BroadcastsInDim S2064x1536 (![] : Fin 0 → Fin S2064x1536.rank)
  reducesTo_S2064x1536_S_d0_1 : S2064x1536.ReducesTo [0, 1] S_
  h_S_ : 0 < S_.numel
  bcast_S_S2064x4 : S_.BroadcastsInDim S2064x4 (![] : Fin 0 → Fin S2064x4.rank)
  reducesTo_S2064x4_S_d0_1 : S2064x4.ReducesTo [0, 1] S_
  bcast_S_S4x1536 : S_.BroadcastsInDim S4x1536 (![] : Fin 0 → Fin S4x1536.rank)
  reducesTo_S4x1536_S_d0_1 : S4x1536.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg6 : FVec F S4 .f32) (main_v3 : IVec S_ 1) (main_v7 : IVec S_ 1) (main_v11 : IVec S_ 1) (main_v15 : IVec S_ 1) : IVec S_ 1 :=
  let main_v16 : FVec F S4 .f32 := Host.absf main_arg6
  let main_cst_6 : FVec F S_ .f32 := constant S_ .f32 0x7F800000#32
  let main_v17 : FVec F S4 .f32 := broadcastInDim S4 ![] bcast_S_S4 main_cst_6
  let main_v18 : IVec S4 1 := cmpf .olt main_v16 main_v17
  let main_c_7 : IVec S_ 1 := constantI S_ 1 1#1
  let main_v19 : IVec S_ 1 := (fun x v => Host.reduce IntOp.andi x v reducesTo_S4_S_d0 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2064x1536 .f32) (main_arg1 : FVec F S2064x512 .f32) (main_arg2 : FVec F S2064x4 .f32) (main_arg3 : FVec F S2064x4 .f32) (main_arg4 : FVec F S4x1536 .f32) (main_arg5 : FVec F S4 .f32) (main_arg6 : FVec F S4 .f32) (main_arg7 : FVec F S128 .f32) : IVec S_ 1 :=
  let main_v0 : FVec F S2064x1536 .f32 := Host.absf main_arg0
  let main_cst : FVec F S_ .f32 := constant S_ .f32 0x7F800000#32
  let main_v1 : FVec F S2064x1536 .f32 := broadcastInDim S2064x1536 ![] bcast_S_S2064x1536 main_cst
  let main_v2 : IVec S2064x1536 1 := cmpf .olt main_v0 main_v1
  let main_c : IVec S_ 1 := constantI S_ 1 1#1
  let main_v3 : IVec S_ 1 := (fun x v => Host.reduce IntOp.andi x v reducesTo_S2064x1536_S_d0_1 h_S_) main_v2 main_c
  let main_v4 : FVec F S2064x4 .f32 := Host.absf main_arg3
  let main_cst_0 : FVec F S_ .f32 := constant S_ .f32 0x7F800000#32
  let main_v5 : FVec F S2064x4 .f32 := broadcastInDim S2064x4 ![] bcast_S_S2064x4 main_cst_0
  let main_v6 : IVec S2064x4 1 := cmpf .olt main_v4 main_v5
  let main_c_1 : IVec S_ 1 := constantI S_ 1 1#1
  let main_v7 : IVec S_ 1 := (fun x v => Host.reduce IntOp.andi x v reducesTo_S2064x4_S_d0_1 h_S_) main_v6 main_c_1
  let main_v8 : FVec F S4x1536 .f32 := Host.absf main_arg4
  let main_cst_2 : FVec F S_ .f32 := constant S_ .f32 0x7F800000#32
  let main_v9 : FVec F S4x1536 .f32 := broadcastInDim S4x1536 ![] bcast_S_S4x1536 main_cst_2
  let main_v10 : IVec S4x1536 1 := cmpf .olt main_v8 main_v9
  let main_c_3 : IVec S_ 1 := constantI S_ 1 1#1
  let main_v11 : IVec S_ 1 := (fun x v => Host.reduce IntOp.andi x v reducesTo_S4x1536_S_d0_1 h_S_) main_v10 main_c_3
  let main_v12 : FVec F S4 .f32 := Host.absf main_arg5
  let main_cst_4 : FVec F S_ .f32 := constant S_ .f32 0x7F800000#32
  let main_v13 : FVec F S4 .f32 := broadcastInDim S4 ![] bcast_S_S4 main_cst_4
  let main_v14 : IVec S4 1 := cmpf .olt main_v12 main_v13
  let main_c_5 : IVec S_ 1 := constantI S_ 1 1#1
  let main_v15 : IVec S_ 1 := (fun x v => Host.reduce IntOp.andi x v reducesTo_S4_S_d0 h_S_) main_v14 main_c_5
  fn_part1 (F := F) main_arg6 main_v3 main_v7 main_v11 main_v15
-- ==== Pre_s5_finite.lean ====
abbrev S2064x512 : Shape := ⟨2, ![2064, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S_ : Shape := ⟨0, ![]⟩

class Facts : Prop where
  bcast_S_S2064x512 : S_.BroadcastsInDim S2064x512 (![] : Fin 0 → Fin S2064x512.rank)
  reducesTo_S2064x512_S_d0_1 : S2064x512.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S32x64x16 : S_.BroadcastsInDim S32x64x16 (![] : Fin 0 → Fin S32x64x16.rank)
  reducesTo_S32x64x16_S_d0_1_2 : S32x64x16.ReducesTo [0, 1, 2] S_

variable [Facts]

def fn_part1 {F : FTy → Type} [FloatOps F] (main_arg4 : FVec F S32x64x16 .f32) (main_arg5 : FVec F S32x64x16 .f32) (main_v3 : IVec S_ 1) (main_v7 : IVec S_ 1) (main_v11 : IVec S_ 1) (main_v15 : IVec S_ 1) : IVec S_ 1 :=
  let main_v16 : FVec F S32x64x16 .f32 := Host.absf main_arg4
  let main_cst_6 : FVec F S_ .f32 := constant S_ .f32 0x7F800000#32
  let main_v17 : FVec F S32x64x16 .f32 := broadcastInDim S32x64x16 ![] bcast_S_S32x64x16 main_cst_6
  let main_v18 : IVec S32x64x16 1 := cmpf .olt main_v16 main_v17
  let main_c_7 : IVec S_ 1 := constantI S_ 1 1#1
  let main_v19 : IVec S_ 1 := (fun x v => Host.reduce IntOp.andi x v reducesTo_S32x64x16_S_d0_1_2 h_S_) main_v18 main_c_7
  let main_v20 : FVec F S32x64x16 .f32 := Host.absf main_arg5
  let main_cst_8 : FVec F S_ .f32 := constant S_ .f32 0x7F800000#32
  let main_v21 : FVec F S32x64x16 .f32 := broadcastInDim S32x64x16 ![] bcast_S_S32x64x16 main_cst_8
  let main_v22 : IVec S32x64x16 1 := cmpf .olt main_v20 main_v21
  let main_c_9 : IVec S_ 1 := constantI S_ 1 1#1
  let main_v23 : IVec S_ 1 := (fun x v => Host.reduce IntOp.andi x v reducesTo_S32x64x16_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2064x512 .f32) (main_arg1 : FVec F S32x64 .f32) (main_arg2 : FVec F S32x64 .f32) (main_arg3 : FVec F S32 .f32) (main_arg4 : FVec F S32x64x16 .f32) (main_arg5 : FVec F S32x64x16 .f32) (main_arg6 : FVec F S32x16x64 .f32) (main_arg7 : FVec F S32x16x64 .f32) (main_arg8 : FVec F S512 .f32) : IVec S_ 1 :=
  let main_v0 : FVec F S2064x512 .f32 := Host.absf main_arg0
  let main_cst : FVec F S_ .f32 := constant S_ .f32 0x7F800000#32
  let main_v1 : FVec F S2064x512 .f32 := broadcastInDim S2064x512 ![] bcast_S_S2064x512 main_cst
  let main_v2 : IVec S2064x512 1 := cmpf .olt main_v0 main_v1
  let main_c : IVec S_ 1 := constantI S_ 1 1#1
  let main_v3 : IVec S_ 1 := (fun x v => Host.reduce IntOp.andi x v reducesTo_S2064x512_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : FVec F S32x64 .f32 := Host.absf main_arg2
  let main_cst_2 : FVec F S_ .f32 := constant S_ .f32 0x7F800000#32
  let main_v9 : FVec F S32x64 .f32 := broadcastInDim S32x64 ![] bcast_S_S32x64 main_cst_2
  let main_v10 : IVec S32x64 1 := cmpf .olt main_v8 main_v9
  let main_c_3 : IVec S_ 1 := constantI S_ 1 1#1
  let main_v11 : IVec S_ 1 := (fun x v => Host.reduce IntOp.andi x v reducesTo_S32x64_S_d0_1 h_S_) main_v10 main_c_3
  let main_v12 : FVec F S32 .f32 := Host.absf main_arg3
  let main_cst_4 : FVec F S_ .f32 := constant S_ .f32 0x7F800000#32
  let main_v13 : FVec F S32 .f32 := broadcastInDim S32 ![] bcast_S_S32 main_cst_4
  let main_v14 : IVec S32 1 := cmpf .olt main_v12 main_v13
  let main_c_5 : IVec S_ 1 := constantI S_ 1 1#1
  let main_v15 : IVec S_ 1 := (fun x v => Host.reduce IntOp.andi x v reducesTo_S32_S_d0 h_S_) main_v14 main_c_5
  fn_part1 (F := F) main_arg4 main_arg5 main_v3 main_v7 main_v11 main_v15
-- ==== Ffn.lean ====
abbrev S2112x1024 : Shape := ⟨2, ![2112, 1024]⟩
abbrev S1024x2816 : Shape := ⟨2, ![1024, 2816]⟩
abbrev S2816x1024 : Shape := ⟨2, ![2816, 1024]⟩
abbrev S1056x1024 : Shape := ⟨2, ![1056, 1024]⟩
abbrev S1024x256 : Shape := ⟨2, ![1024, 256]⟩
abbrev S256x1024 : Shape := ⟨2, ![256, 1024]⟩
abbrev S1056x256 : Shape := ⟨2, ![1056, 256]⟩

abbrev nBuf : Space → Nat
  | .hbm => 13
  | .vmem => 19
  | .smem => 0
  | _ => 0

abbrev bufTy : (tb : Table) → Fin (tcTables nBuf tb) → BufTy
  | .hbm, ⟨0, _⟩ => ⟨S2112x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2112x1024, .f32⟩
  | .hbm, ⟨5, _⟩ => ⟨S2112x1024, .bf16⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S2112x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .local _ .vmem, ⟨0, _⟩ => ⟨S2112x1024, .bf16⟩
  | .local _ .vmem, ⟨1, _⟩ => ⟨S1056x1024, .f32⟩
  | .local _ .vmem, ⟨2, _⟩ => ⟨S1056x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S2112x1024, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S256x1024, .bf16⟩
  | .local _ .vmem, ⟨15, _⟩ => ⟨S256x1024, .bf16⟩
  | .local _ .vmem, ⟨16, _⟩ => ⟨S1024x256, .f32⟩
  | .local _ .vmem, ⟨17, _⟩ => ⟨S1024x256, .f32⟩
  | .local _ .vmem, ⟨18, _⟩ => ⟨S256x1024, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![11, 2], ![false, false]⟩

def k0_mult1 (i : grid0.Coords) : BitVec 32 :=
  let arg1 : BitVec 32 := BitVec.ofNat 32 (i 1).val
  let c1056_i32 : BitVec 32 := 1056#32
  let v0 : BitVec 32 := Scalar.muli arg1 c1056_i32
  v0
def k0_off1 (i : grid0.Coords) : Fin 2 → Nat :=
  let arg1 : BitVec 32 := BitVec.ofNat 32 (i 1).val
  let c1056_i32 : BitVec 32 := 1056#32
  let v0 : BitVec 32 := Scalar.muli arg1 c1056_i32
  let v1 : BitVec 32 := v0
  let v2 : Index := Scalar.indexCast v1
  let c0 : Index := 0#32
  ![v2.toNat, 0]
def k0_cond4 (i : grid0.Coords) : BitVec 1 :=
  let arg0 : BitVec 32 := BitVec.ofNat 32 (i 0).val
  let c0_i32_22 : BitVec 32 := 0#32
  let v48 : BitVec 1 := Scalar.cmpi .eq arg0 c0_i32_22
  let v49 : BitVec 32 := Scalar.extui v48
  let c0_i32_23 : BitVec 32 := 0#32
  let v50 : BitVec 1 := Scalar.cmpi .ne v49 c0_i32_23
  v50

def k0_off2 (i : grid0.Coords) : Fin 2 → Nat :=
  let arg1 : BitVec 32 := BitVec.ofNat 32 (i 1).val
  let c1056_i32 : BitVec 32 := 1056#32
  let v0 : BitVec 32 := Scalar.muli arg1 c1056_i32
  let v1 : BitVec 32 := v0
  let v54 : Index := Scalar.indexCast v1
  let c0_26 : Index := 0#32
  ![v54.toNat, 0]
def k0_cond5 (i : grid0.Coords) : BitVec 1 :=
  let arg0 : BitVec 32 := BitVec.ofNat 32 (i 0).val
  let c0_i32_24 : BitVec 32 := 0#32
  let v51 : BitVec 1 := Scalar.cmpi .sgt arg0 c0_i32_24
  let v52 : BitVec 32 := Scalar.extui v51
  let c0_i32_25 : BitVec 32 := 0#32
  let v53 : BitVec 1 := Scalar.cmpi .ne v52 c0_i32_25
  v53

def k0_off3 (i : grid0.Coords) : Fin 2 → Nat :=
  let arg1 : BitVec 32 := BitVec.ofNat 32 (i 1).val
  let c1056_i32 : BitVec 32 := 1056#32
  let v0 : BitVec 32 := Scalar.muli arg1 c1056_i32
  let v1 : BitVec 32 := v0
  let v54 : Index := Scalar.indexCast v1
  let c0_26 : Index := 0#32
  ![v54.toNat, 0]
def k0_cond3 (i : grid0.Coords) : BitVec 1 :=
  let arg1 : BitVec 32 := BitVec.ofNat 32 (i 1).val
  let c1_i32 : BitVec 32 := 1#32
  let v45 : BitVec 1 := Scalar.cmpi .eq arg1 c1_i32
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2112x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1056x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2112x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S2112x1024 : Shape := ⟨2, ![2112, 1024]⟩
abbrev S1024x2816 : Shape := ⟨2, ![1024, 2816]⟩
abbrev S2816x1024 : Shape := ⟨2, ![2816, 1024]⟩
abbrev S2112x2816 : Shape := ⟨2, ![2112, 2816]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2112x1024, .f32⟩
  | .hbm, ⟨5, _⟩ => ⟨S2112x2816, .f32⟩
  | .hbm, ⟨6, _⟩ => ⟨S2112x2816, .f32⟩
  | .hbm, ⟨7, _⟩ => ⟨S2112x2816, .f32⟩
  | .hbm, ⟨8, _⟩ => ⟨S_, .f32⟩
  | .hbm, ⟨9, _⟩ => ⟨S2112x2816, .f32⟩
  | .hbm, ⟨10, _⟩ => ⟨S2112x2816, .f32⟩
  | .hbm, ⟨11, _⟩ => ⟨S_, .f32⟩
  | .hbm, ⟨12, _⟩ => ⟨S2112x2816, .f32⟩
  | .hbm, ⟨13, _⟩ => ⟨S2112x2816, .f32⟩
  | .hbm, ⟨14, _⟩ => ⟨S_, .f32⟩
  | .hbm, ⟨15, _⟩ => ⟨S2112x2816, .f32⟩
  | .hbm, ⟨16, _⟩ => ⟨S2112x2816, .f32⟩
  | .hbm, ⟨17, _⟩ => ⟨S2112x2816, .f32⟩
  | .hbm, ⟨18, _⟩ => ⟨S2112x2816, .f32⟩
  | .hbm, ⟨19, _⟩ => ⟨S2112x2816, .f32⟩
  | .hbm, ⟨20, _⟩ => ⟨S2112x2816, .f32⟩
  | .hbm, ⟨21, _⟩ => ⟨S2112x1024, .f32⟩
  | .hbm, ⟨22, _⟩ => ⟨S_, .f32⟩
  | .hbm, ⟨23, _⟩ => ⟨S2112x1024, .f32⟩
  | .hbm, ⟨24, _⟩ => ⟨S2112x1024, .f32⟩
  | .hbm, ⟨25, _⟩ => ⟨S_, .f32⟩
  | .hbm, ⟨26, _⟩ => ⟨S2112x1024, .f32⟩
  | .hbm, ⟨27, _⟩ => ⟨S2112x1024, .f32⟩
  | .hbm, ⟨28, _⟩ => ⟨S1024x2816, .f32⟩
  | .hbm, ⟨29, _⟩ => ⟨S2816x1024, .f32⟩
  | .hbm, ⟨30, _⟩ => ⟨S2112x2816, .f32⟩
  | .hbm, ⟨31, _⟩ => ⟨S2112x2816, .f32⟩
  | .hbm, ⟨32, _⟩ => ⟨S2112x2816, .f32⟩
  | .hbm, ⟨33, _⟩ => ⟨S2816x1024, .f32⟩
  | .hbm, ⟨34, _⟩ => ⟨S1024x2816, .f32⟩
  | .hbm, ⟨35, _⟩ => ⟨S2112x1024, .f32⟩
  | .hbm, ⟨36, _⟩ => ⟨S2112x2816, .f32⟩
  | .hbm, ⟨37, _⟩ => ⟨S2112x2816, .f32⟩
  | .hbm, ⟨38, _⟩ => ⟨S2112x2816, .f32⟩
  | .hbm, ⟨39, _⟩ => ⟨S2112x2816, .f32⟩
  | .hbm, ⟨40, _⟩ => ⟨S2816x1024, .f32⟩
  | .hbm, ⟨41, _⟩ => ⟨S1024x2816, .f32⟩
  | .hbm, ⟨42, _⟩ => ⟨S2112x1024, .f32⟩
  | .hbm, ⟨43, _⟩ => ⟨S2112x1024, .f32⟩
  | .hbm, ⟨44, _⟩ => ⟨S1024x2816, .bf16⟩
  | .hbm, ⟨45, _⟩ => ⟨S1024x2816, .bf16⟩
  | .hbm, ⟨46, _⟩ => ⟨S2816x1024, .bf16⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== Rms.lean ====
abbrev S2112x1024 : Shape := ⟨2, ![2112, 1024]⟩
abbrev S1024 : Shape := ⟨1, ![1024]⟩
abbrev S1x1024 : Shape := ⟨2, ![1, 1024]⟩
abbrev S1x1x1024 : Shape := ⟨3, ![1, 1, 1024]⟩
abbrev S1056x1024 : Shape := ⟨2, ![1056, 1024]⟩
abbrev S1056 : Shape := ⟨1, ![1056]⟩
abbrev S1056x1 : Shape := ⟨2, ![1056, 1]⟩

abbrev nBuf : Space → Nat
  | .hbm => 7
  | .vmem => 10
  | .smem => 0
  | _ => 0

abbrev bufTy : (tb : Table) → Fin (tcTables nBuf tb) → BufTy
  | .hbm, ⟨0, _⟩ => ⟨S2112x1024, .f32⟩
  | .hbm, ⟨1, _⟩ => ⟨S1024, .f32⟩
  | .hbm, ⟨2, _⟩ => ⟨S2112x1024, .f32⟩
  | .hbm, ⟨3, _⟩ => ⟨S2112x1024, .f32⟩
  | .hbm, ⟨4, _⟩ => ⟨S1x1024, .f32⟩
  | .hbm, ⟨5, _⟩ => ⟨S2112x1024, .f32⟩
  | .hbm, ⟨6, _⟩ => ⟨S1x1x1024, .f32⟩
  | .local _ .vmem, ⟨0, _⟩ => ⟨S1056x1024, .f32⟩
  | .local _ .vmem, ⟨1, _⟩ => ⟨S1056x1024, .f32⟩
  | .local _ .vmem, ⟨2, _⟩ => ⟨S1056x1024, .f32⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | .local _ .vmem, ⟨6, _⟩ => ⟨S1x1024, .f32⟩
  | .local _ .vmem, ⟨7, _⟩ => ⟨S1056x1024, .f32⟩
  | .local _ .vmem, ⟨8, _⟩ => ⟨S1056x1024, .f32⟩
  | .local _ .vmem, ⟨9, _⟩ => ⟨S1x1x1024, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1056x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== RmsRefIdeal.lean ====
abbrev S2112x1024 : Shape := ⟨2, ![2112, 1024]⟩
abbrev S1024 : Shape := ⟨1, ![1024]⟩
abbrev S_ : Shape := ⟨0, ![]⟩
abbrev S2112 : Shape := ⟨1, ![2112]⟩
abbrev S2112x1 : Shape := ⟨2, ![2112, 1]⟩
abbrev S1x1024 : Shape := ⟨2, ![1, 1024]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S1024, .f32⟩
  | .hbm, ⟨2, _⟩ => ⟨S2112x1024, .f32⟩
  | .hbm, ⟨3, _⟩ => ⟨S2112x1024, .f32⟩
  | .hbm, ⟨4, _⟩ => ⟨S2112x1024, .f32⟩
  | .hbm, ⟨5, _⟩ => ⟨S_, .f32⟩
  | .hbm, ⟨6, _⟩ => ⟨S2112, .f32⟩
  | .hbm, ⟨7, _⟩ => ⟨S2112x1, .f32⟩
  | .hbm, ⟨8, _⟩ => ⟨S_, .f32⟩
  | .hbm, ⟨9, _⟩ => ⟨S2112x1, .f32⟩
  | .hbm, ⟨10, _⟩ => ⟨S2112x1, .f32⟩
  | .hbm, ⟨11, _⟩ => ⟨S_, .f32⟩
  | .hbm, ⟨12, _⟩ => ⟨S2112x1, .f32⟩
  | .hbm, ⟨13, _⟩ => ⟨S2112x1, .f32⟩
  | .hbm, ⟨14, _⟩ => ⟨S2112x1, .f32⟩
  | .hbm, ⟨15, _⟩ => ⟨S2112x1, .f32⟩
  | .hbm, ⟨16, _⟩ => ⟨S_, .f32⟩
  | .hbm, ⟨17, _⟩ => ⟨S2112x1, .f32⟩
  | .hbm, ⟨18, _⟩ => ⟨S2112x1, .f32⟩
  | .hbm, ⟨19, _⟩ => ⟨S2112x1024, .f32⟩
  | .hbm, ⟨20, _⟩ => ⟨S2112x1024, .f32⟩
  | .hbm, ⟨21, _⟩ => ⟨S1x1024, .f32⟩
  | .hbm, ⟨22, _⟩ => ⟨S2112x1024, .f32⟩
  | .hbm, ⟨23, _⟩ => ⟨S2112x1024, .f32⟩
  | .hbm, ⟨24, _⟩ => ⟨S2112x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2112x1024, .f32⟩
  | .hbm, ⟨29, _⟩ => ⟨S2112x1024, .f32⟩
  | .hbm, ⟨30, _⟩ => ⟨S_, .f32⟩
  | .hbm, ⟨31, _⟩ => ⟨S1024, .f32⟩
  | .hbm, ⟨32, _⟩ => ⟨S2112x1024, .f32⟩
  | .hbm, ⟨33, _⟩ => ⟨S_, .f32⟩
  | .hbm, ⟨34, _⟩ => ⟨S2112, .f32⟩
  | .hbm, ⟨35, _⟩ => ⟨S2112x1, .f32⟩
  | .hbm, ⟨36, _⟩ => ⟨S2112x1024, .f32⟩
  | .hbm, ⟨37, _⟩ => ⟨S2112x1024, .f32⟩
  | .hbm, ⟨38, _⟩ => ⟨S2112x1024, .f32⟩
  | .hbm, ⟨39, _⟩ => ⟨S2112x1, .f32⟩
  | .hbm, ⟨40, _⟩ => ⟨S_, .f32⟩
  | .hbm, ⟨41, _⟩ => ⟨S2112x1, .f32⟩
  | .hbm, ⟨42, _⟩ => ⟨S2112x1, .f32⟩
  | .hbm, ⟨43, _⟩ => ⟨S_, .f32⟩
  | .hbm, ⟨44, _⟩ => ⟨S2112, .f32⟩
  | .hbm, ⟨45, _⟩ => ⟨S2112x1024, .f32⟩
  | .hbm, ⟨46, _⟩ => ⟨S2112x1024, .f32⟩
  | .hbm, ⟨47, _⟩ => ⟨S2112x1024, .f32⟩
  | .hbm, ⟨48, _⟩ => ⟨S2112x1024, .f32⟩
  | .hbm, ⟨49, _⟩ => ⟨S2112x1024, .f32⟩
  | .hbm, ⟨50, _⟩ => ⟨S1x1x1024, .f32⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Loss.lean ====
abbrev S2112x1024 : Shape := ⟨2, ![2112, 1024]⟩
abbrev S1024 : Shape := ⟨1, ![1024]⟩
abbrev S2048x1024 : Shape := ⟨2, ![2048, 1024]⟩
abbrev S_ : Shape := ⟨0, ![]⟩
abbrev S64x1024 : Shape := ⟨2, ![64, 1024]⟩
abbrev S1x1024 : Shape := ⟨2, ![1, 1024]⟩
abbrev S1x1x128 : Shape := ⟨3, ![1, 1, 128]⟩
abbrev S1x1x1024 : Shape := ⟨3, ![1, 1, 1024]⟩
abbrev S1056x1024 : Shape := ⟨2, ![1056, 1024]⟩
abbrev S1x128 : Shape := ⟨2, ![1, 128]⟩
abbrev S1056x1 : Shape := ⟨2, ![1056, 1]⟩
abbrev S1056 : Shape := ⟨1, ![1056]⟩
abbrev S1 : Shape := ⟨1, ![1]⟩
abbrev S1x1 : Shape := ⟨2, ![1, 1]⟩
abbrev S1x1x1 : Shape := ⟨3, ![1, 1, 1]⟩

abbrev nBuf : Space → Nat
  | .hbm => 10
  | .vmem => 9
  | .smem => 0
  | _ => 0

abbrev bufTy : (tb : Table) → Fin (tcTables nBuf tb) → BufTy
  | .hbm, ⟨0, _⟩ => ⟨S2112x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S64x1024, .f32⟩
  | .hbm, ⟨5, _⟩ => ⟨S2112x1024, .f32⟩
  | .hbm, ⟨6, _⟩ => ⟨S1x1024, .f32⟩
  | .hbm, ⟨7, _⟩ => ⟨S2112x1024, .f32⟩
  | .hbm, ⟨8, _⟩ => ⟨S1x1x128, .f32⟩
  | .hbm, ⟨9, _⟩ => ⟨S1x1x1024, .f32⟩
  | .local _ .vmem, ⟨0, _⟩ => ⟨S1056x1024, .f32⟩
  | .local _ .vmem, ⟨1, _⟩ => ⟨S1056x1024, .f32⟩
  | .local _ .vmem, ⟨2, _⟩ => ⟨S1056x1024, .f32⟩
  | .local _ .vmem, ⟨3, _⟩ => ⟨S1056x1024, .f32⟩
  | .local _ .vmem, ⟨4, _⟩ => ⟨S1x1024, .f32⟩
  | .local _ .vmem, ⟨5, _⟩ => ⟨S1056x1024, .f32⟩
  | .local _ .vmem, ⟨6, _⟩ => ⟨S1056x1024, .f32⟩
  | .local _ .vmem, ⟨7, _⟩ => ⟨S1x1x128, .f32⟩
  | .local _ .vmem, ⟨8, _⟩ => ⟨S1x1x1024, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1056x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== LossRefIdeal.lean ====
abbrev S2112x1024 : Shape := ⟨2, ![2112, 1024]⟩
abbrev S1024 : Shape := ⟨1, ![1024]⟩
abbrev S2048x1024 : Shape := ⟨2, ![2048, 1024]⟩
abbrev S_ : Shape := ⟨0, ![]⟩
abbrev S2112 : Shape := ⟨1, ![2112]⟩
abbrev S2112x1 : Shape := ⟨2, ![2112, 1]⟩
abbrev S1x1024 : Shape := ⟨2, ![1, 1024]⟩
abbrev S2048 : Shape := ⟨1, ![2048]⟩
abbrev S1x1x128 : Shape := ⟨3, ![1, 1, 128]⟩
abbrev S1x1x1024 : Shape := ⟨3, ![1, 1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S1024, .f32⟩
  | .hbm, ⟨2, _⟩ => ⟨S2048x1024, .f32⟩
  | .hbm, ⟨3, _⟩ => ⟨S2112x1024, .f32⟩
  | .hbm, ⟨4, _⟩ => ⟨S_, .f32⟩
  | .hbm, ⟨5, _⟩ => ⟨S2112, .f32⟩
  | .hbm, ⟨6, _⟩ => ⟨S2112x1, .f32⟩
  | .hbm, ⟨7, _⟩ => ⟨S_, .f32⟩
  | .hbm, ⟨8, _⟩ => ⟨S2112x1, .f32⟩
  | .hbm, ⟨9, _⟩ => ⟨S2112x1, .f32⟩
  | .hbm, ⟨10, _⟩ => ⟨S_, .f32⟩
  | .hbm, ⟨11, _⟩ => ⟨S2112x1, .f32⟩
  | .hbm, ⟨12, _⟩ => ⟨S2112x1, .f32⟩
  | .hbm, ⟨13, _⟩ => ⟨S2112x1, .f32⟩
  | .hbm, ⟨14, _⟩ => ⟨S2112x1, .f32⟩
  | .hbm, ⟨15, _⟩ => ⟨S_, .f32⟩
  | .hbm, ⟨16, _⟩ => ⟨S2112x1, .f32⟩
  | .hbm, ⟨17, _⟩ => ⟨S2112x1, .f32⟩
  | .hbm, ⟨18, _⟩ => ⟨S2112x1024, .f32⟩
  | .hbm, ⟨19, _⟩ => ⟨S2112x1024, .f32⟩
  | .hbm, ⟨20, _⟩ => ⟨S1x1024, .f32⟩
  | .hbm, ⟨21, _⟩ => ⟨S2112x1024, .f32⟩
  | .hbm, ⟨22, _⟩ => ⟨S2112x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2112x1024, .f32⟩
  | .hbm, ⟨48, _⟩ => ⟨S2112x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2112x1024, .f32⟩
  | .hbm, ⟨53, _⟩ => ⟨S2112x1024, .f32⟩
  | .hbm, ⟨54, _⟩ => ⟨S_, .f32⟩
  | .hbm, ⟨55, _⟩ => ⟨S1024, .f32⟩
  | .hbm, ⟨56, _⟩ => ⟨S2112x1024, .f32⟩
  | .hbm, ⟨57, _⟩ => ⟨S_, .f32⟩
  | .hbm, ⟨58, _⟩ => ⟨S2112, .f32⟩
  | .hbm, ⟨59, _⟩ => ⟨S2112x1, .f32⟩
  | .hbm, ⟨60, _⟩ => ⟨S2112x1024, .f32⟩
  | .hbm, ⟨61, _⟩ => ⟨S2112x1024, .f32⟩
  | .hbm, ⟨62, _⟩ => ⟨S2112x1, .f32⟩
  | .hbm, ⟨63, _⟩ => ⟨S_, .f32⟩
  | .hbm, ⟨64, _⟩ => ⟨S2112x1, .f32⟩
  | .hbm, ⟨65, _⟩ => ⟨S2112x1, .f32⟩
  | .hbm, ⟨66, _⟩ => ⟨S_, .f32⟩
  | .hbm, ⟨67, _⟩ => ⟨S2112, .f32⟩
  | .hbm, ⟨68, _⟩ => ⟨S2112x1024, .f32⟩
  | .hbm, ⟨69, _⟩ => ⟨S2112x1024, .f32⟩
  | .hbm, ⟨70, _⟩ => ⟨S2112x1024, .f32⟩
  | .hbm, ⟨71, _⟩ => ⟨S2112x1024, .f32⟩
  | .hbm, ⟨72, _⟩ => ⟨S2112x1024, .f32⟩
  | .hbm, ⟨73, _⟩ => ⟨S1x1x128, .f32⟩
  | .hbm, ⟨74, _⟩ => ⟨S1x1x1024, .f32⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Post.lean ====
abbrev S2112x512 : Shape := ⟨2, ![2112, 512]⟩
abbrev S512x512 : Shape := ⟨2, ![512, 512]⟩
abbrev S512 : Shape := ⟨1, ![512]⟩
abbrev S1x512 : Shape := ⟨2, ![1, 512]⟩
abbrev S1x512x512 : Shape := ⟨3, ![1, 512, 512]⟩
abbrev S1x1x512 : Shape := ⟨3, ![1, 1, 512]⟩
abbrev S192x512 : Shape := ⟨2, ![192, 512]⟩
abbrev S192 : Shape := ⟨1, ![192]⟩
abbrev S192x1 : Shape := ⟨2, ![192, 1]⟩

abbrev nBuf : Space → Nat
  | .hbm => 9
  | .vmem => 10
  | .smem => 0
  | _ => 0

abbrev bufTy : (tb : Table) → Fin (tcTables nBuf tb) → BufTy
  | .hbm, ⟨0, _⟩ => ⟨S2112x512, .f32⟩
  | .hbm, ⟨1, _⟩ => ⟨S512x512, .f32⟩
  | .hbm, ⟨2, _⟩ => ⟨S512, .f32⟩
  | .hbm, ⟨3, _⟩ => ⟨S2112x512, .f32⟩
  | .hbm, ⟨4, _⟩ => ⟨S512x512, .bf16⟩
  | .hbm, ⟨5, _⟩ => ⟨S1x512, .f32⟩
  | .hbm, ⟨6, _⟩ => ⟨S2112x512, .f32⟩
  | .hbm, ⟨7, _⟩ => ⟨S1x512x512, .f32⟩
  | .hbm, ⟨8, _⟩ => ⟨S1x1x512, .f32⟩
  | .local _ .vmem, ⟨0, _⟩ => ⟨S192x512, .f32⟩
  | .local _ .vmem, ⟨1, _⟩ => ⟨S192x512, .f32⟩
  | .local _ .vmem, ⟨2, _⟩ => ⟨S192x512, .f32⟩
  | .local _ .vmem, ⟨3, _⟩ => ⟨S192x512, .f32⟩
  | .local _ .vmem, ⟨4, _⟩ => ⟨S512x512, .bf16⟩
  | .local _ .vmem, ⟨5, _⟩ => ⟨S1x512, .f32⟩
  | .local _ .vmem, ⟨6, _⟩ => ⟨S192x512, .f32⟩
  | .local _ .vmem, ⟨7, _⟩ => ⟨S192x512, .f32⟩
  | .local _ .vmem, ⟨8, _⟩ => ⟨S1x512x512, .f32⟩
  | .local _ .vmem, ⟨9, _⟩ => ⟨S1x1x512, .f32⟩
  | _, _ => ⟨S2112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== PostRefIdeal.lean ====
abbrev S2112x512 : Shape := ⟨2, ![2112, 512]⟩
abbrev S512x512 : Shape := ⟨2, ![512, 512]⟩
abbrev S512 : Shape := ⟨1, ![512]⟩
abbrev S_ : Shape := ⟨0, ![]⟩
abbrev S2112 : Shape := ⟨1, ![2112]⟩
abbrev S2112x1 : Shape := ⟨2, ![2112, 1]⟩
abbrev S1x512 : Shape := ⟨2, ![1, 512]⟩
abbrev S1x512x512 : Shape := ⟨3, ![1, 512, 512]⟩
abbrev S1x1x512 : Shape := ⟨3, ![1, 1, 512]⟩

abbrev nBuf : Space → Nat
  | .hbm => 115
  | .vmem => 0
  | .smem => 0
  | _ => 0

abbrev bufTy : (tb : Table) → Fin (tcTables nBuf tb) → BufTy
  | .hbm, ⟨0, _⟩ => ⟨S2112x512, .f32⟩
  | .hbm, ⟨1, _⟩ => ⟨S512x512, .f32⟩
  | .hbm, ⟨2, _⟩ => ⟨S512, .f32⟩
  | .hbm, ⟨3, _⟩ => ⟨S2112x512, .f32⟩
  | .hbm, ⟨4, _⟩ => ⟨S2112x512, .f32⟩
  | .hbm, ⟨5, _⟩ => ⟨S2112x512, .f32⟩
  | .hbm, ⟨6, _⟩ => ⟨S2112x512, .f32⟩
  | .hbm, ⟨7, _⟩ => ⟨S_, .f32⟩
  | .hbm, ⟨8, _⟩ => ⟨S2112x512, .f32⟩
  | .hbm, ⟨9, _⟩ => ⟨S2112x512, .f32⟩
  | .hbm, ⟨10, _⟩ => ⟨S_, .f32⟩
  | .hbm, ⟨11, _⟩ => ⟨S2112x512, .f32⟩
  | .hbm, ⟨12, _⟩ => ⟨S2112x512, .f32⟩
  | .hbm, ⟨13, _⟩ => ⟨S2112x512, .f32⟩
  | .hbm, ⟨14, _⟩ => ⟨S_, .f32⟩
  | .hbm, ⟨15, _⟩ => ⟨S2112x512, .f32⟩
  | .hbm, ⟨16, _⟩ => ⟨S2112x512, .f32⟩
  | .hbm, ⟨17, _⟩ => ⟨S2112x512, .f32⟩
  | .hbm, ⟨18, _⟩ => ⟨S_, .f32⟩
  | .hbm, ⟨19, _⟩ => ⟨S2112x512, .f32⟩
  | .hbm, ⟨20, _⟩ => ⟨S2112x512, .f32⟩
  | .hbm, ⟨21, _⟩ => ⟨S_, .f32⟩
  | .hbm, ⟨22, _⟩ => ⟨S2112x512, .f32⟩
  | .hbm, ⟨23, _⟩ => ⟨S2112x512, .f32⟩
  | .hbm, ⟨24, _⟩ => ⟨S2112x512, .f32⟩
  | .hbm, ⟨25, _⟩ => ⟨S_, .f32⟩
  | .hbm, ⟨26, _⟩ => ⟨S2112x512, .f32⟩
  | .hbm, ⟨27, _⟩ => ⟨S2112x512, .f32⟩
  | .hbm, ⟨28, _⟩ => ⟨S_, .f32⟩
  | .hbm, ⟨29, _⟩ => ⟨S2112x512, .f32⟩
  | .hbm, ⟨30, _⟩ => ⟨S2112x512, .f32⟩
  | .hbm, ⟨31, _⟩ => ⟨S2112x512, .f32⟩
  | .hbm, ⟨32, _⟩ => ⟨S2112x512, .f32⟩
  | .hbm, ⟨33, _⟩ => ⟨S2112x512, .f32⟩
  | .hbm, ⟨34, _⟩ => ⟨S2112x512, .f32⟩
  | .hbm, ⟨35, _⟩ => ⟨S_, .f32⟩
  | .hbm, ⟨36, _⟩ => ⟨S2112x512, .f32⟩
  | .hbm, ⟨37, _⟩ => ⟨S2112x512, .f32⟩
  | .hbm, ⟨38, _⟩ => ⟨S_, .f32⟩
  | .hbm, ⟨39, _⟩ => ⟨S2112x512, .f32⟩
  | .hbm, ⟨40, _⟩ => ⟨S2112x512, .f32⟩
  | .hbm, ⟨41, _⟩ => ⟨S_, .f32⟩
  | .hbm, ⟨42, _⟩ => ⟨S2112x512, .f32⟩
  | .hbm, ⟨43, _⟩ => ⟨S2112x512, .f32⟩
  | .hbm, ⟨44, _⟩ => ⟨S2112x512, .f32⟩
  | .hbm, ⟨45, _⟩ => ⟨S2112x512, .f32⟩
  | .hbm, ⟨46, _⟩ => ⟨S2112x512, .f32⟩
  | .hbm, ⟨47, _⟩ => ⟨S_, .f32⟩
  | .hbm, ⟨48, _⟩ => ⟨S2112, .f32⟩
  | .hbm, ⟨49, _⟩ => ⟨S2112x1, .f32⟩
  | .hbm, ⟨50, _⟩ => ⟨S_, .f32⟩
  | .hbm, ⟨51, _⟩ => ⟨S2112x1, .f32⟩
  | .hbm, ⟨52, _⟩ => ⟨S2112x1, .f32⟩
  | .hbm, ⟨53, _⟩ => ⟨S_, .f32⟩
  | .hbm, ⟨54, _⟩ => ⟨S2112x1, .f32⟩
  | .hbm, ⟨55, _⟩ => ⟨S2112x1, .f32⟩
  | .hbm, ⟨56, _⟩ => ⟨S2112x1, .f32⟩
  | .hbm, ⟨57, _⟩ => ⟨S2112x1, .f32⟩
  | .hbm, ⟨58, _⟩ => ⟨S_, .f32⟩
  | .hbm, ⟨59, _⟩ => ⟨S2112x1, .f32⟩
  | .hbm, ⟨60, _⟩ => ⟨S2112x1, .f32⟩
  | .hbm, ⟨61, _⟩ => ⟨S2112x512, .f32⟩
  | .hbm, ⟨62, _⟩ => ⟨S2112x512, .f32⟩
  | .hbm, ⟨63, _⟩ => ⟨S1x512, .f32⟩
  | .hbm, ⟨64, _⟩ => ⟨S2112x512, .f32⟩
  | .hbm, ⟨65, _⟩ => ⟨S2112x512, .f32⟩
  | .hbm, ⟨66, _⟩ => ⟨S2112x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S2112x512, .f32⟩
  | .hbm, ⟨71, _⟩ => ⟨S2112x512, .f32⟩
  | .hbm, ⟨72, _⟩ => ⟨S_, .f32⟩
  | .hbm, ⟨73, _⟩ => ⟨S512, .f32⟩
  | .hbm, ⟨74, _⟩ => ⟨S2112x512, .f32⟩
  | .hbm, ⟨75, _⟩ => ⟨S_, .f32⟩
  | .hbm, ⟨76, _⟩ => ⟨S2112, .f32⟩
  | .hbm, ⟨77, _⟩ => ⟨S2112x1, .f32⟩
  | .hbm, ⟨78, _⟩ => ⟨S2112x512, .f32⟩
  | .hbm, ⟨79, _⟩ => ⟨S2112x512, .f32⟩
  | .hbm, ⟨80, _⟩ => ⟨S2112x1, .f32⟩
  | .hbm, ⟨81, _⟩ => ⟨S_, .f32⟩
  | .hbm, ⟨82, _⟩ => ⟨S2112x1, .f32⟩
  | .hbm, ⟨83, _⟩ => ⟨S2112x1, .f32⟩
  | .hbm, ⟨84, _⟩ => ⟨S_, .f32⟩
  | .hbm, ⟨85, _⟩ => ⟨S2112, .f32⟩
  | .hbm, ⟨86, _⟩ => ⟨S2112x512, .f32⟩
  | .hbm, ⟨87, _⟩ => ⟨S2112x512, .f32⟩
  | .hbm, ⟨88, _⟩ => ⟨S2112x512, .f32⟩
  | .hbm, ⟨89, _⟩ => ⟨S2112x512, .f32⟩
  | .hbm, ⟨90, _⟩ => ⟨S2112x512, .f32⟩
  | .hbm, ⟨91, _⟩ => ⟨S2112x512, .f32⟩
  | .hbm, ⟨92, _⟩ => ⟨S2112x512, .f32⟩
  | .hbm, ⟨93, _⟩ => ⟨S2112x512, .f32⟩
  | .hbm, ⟨94, _⟩ => ⟨S512x512, .f32⟩
  | .hbm, ⟨95, _⟩ => ⟨S512x512, .f32⟩
  | .hbm, ⟨96, _⟩ => ⟨S2112x512, .f32⟩
  | .hbm, ⟨97, _⟩ => ⟨S2112x512, .f32⟩
  | .hbm, ⟨98, _⟩ => ⟨S2112x512, .f32⟩
  | .hbm, ⟨99, _⟩ => ⟨S2112x512, .f32⟩
  | .hbm, ⟨100, _⟩ => ⟨S_, .f32⟩
  | .hbm, ⟨101, _⟩ => ⟨S2112x512, .f32⟩
  | .hbm, ⟨102, _⟩ => ⟨S2112x512, .f32⟩
  | .hbm, ⟨103, _⟩ => ⟨S2112x512, .f32⟩
  | .hbm, ⟨104, _⟩ => ⟨S_, .f32⟩
  | .hbm, ⟨105, _⟩ => ⟨S2112x512, .f32⟩
  | .hbm, ⟨106, _⟩ => ⟨S2112x512, .f32⟩
  | .hbm, ⟨107, _⟩ => ⟨S2112x512, .f32⟩
  | .hbm, ⟨108, _⟩ => ⟨S_, .f32⟩
  | .hbm, ⟨109, _⟩ => ⟨S2112x512, .f32⟩
  | .hbm, ⟨110, _⟩ => ⟨S2112x512, .f32⟩
  | .hbm, ⟨111, _⟩ => ⟨S2112x512, .f32⟩
  | .hbm, ⟨112, _⟩ => ⟨S2112x512, .f32⟩
  | .hbm, ⟨113, _⟩ => ⟨S1x512x512, .f32⟩
  | .hbm, ⟨114, _⟩ => ⟨S1x1x512, .f32⟩
  | _, _ => ⟨S2112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_cst_17 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_19 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_20 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== RmsFwd.lean ====
abbrev S2112x1024 : Shape := ⟨2, ![2112, 1024]⟩
abbrev S1024 : Shape := ⟨1, ![1024]⟩
abbrev S1x1024 : Shape := ⟨2, ![1, 1024]⟩
abbrev S1056x1024 : Shape := ⟨2, ![1056, 1024]⟩
abbrev S1056 : Shape := ⟨1, ![1056]⟩
abbrev S1056x1 : Shape := ⟨2, ![1056, 1]⟩

abbrev nBuf : Space → Nat
  | .hbm => 4
  | .vmem => 5
  | .smem => 0
  | _ => 0

abbrev bufTy : (tb : Table) → Fin (tcTables nBuf tb) → BufTy
  | .hbm, ⟨0, _⟩ => ⟨S2112x1024, .f32⟩
  | .hbm, ⟨1, _⟩ => ⟨S1024, .f32⟩
  | .hbm, ⟨2, _⟩ => ⟨S1x1024, .f32⟩
  | .hbm, ⟨3, _⟩ => ⟨S2112x1024, .bf16⟩
  | .local _ .vmem, ⟨0, _⟩ => ⟨S1056x1024, .f32⟩
  | .local _ .vmem, ⟨1, _⟩ => ⟨S1056x1024, .f32⟩
  | .local _ .vmem, ⟨2, _⟩ => ⟨S1x1024, .f32⟩
  | .local _ .vmem, ⟨3, _⟩ => ⟨S1056x1024, .bf16⟩
  | .local _ .vmem, ⟨4, _⟩ => ⟨S1056x1024, .bf16⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== RmsFwdRefIdeal.lean ====
abbrev S2112x1024 : Shape := ⟨2, ![2112, 1024]⟩
abbrev S1024 : Shape := ⟨1, ![1024]⟩
abbrev S_ : Shape := ⟨0, ![]⟩
abbrev S2112 : Shape := ⟨1, ![2112]⟩
abbrev S2112x1 : Shape := ⟨2, ![2112, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S1024, .f32⟩
  | .hbm, ⟨2, _⟩ => ⟨S2112x1024, .f32⟩
  | .hbm, ⟨3, _⟩ => ⟨S_, .f32⟩
  | .hbm, ⟨4, _⟩ => ⟨S2112, .f32⟩
  | .hbm, ⟨5, _⟩ => ⟨S2112x1, .f32⟩
  | .hbm, ⟨6, _⟩ => ⟨S_, .f32⟩
  | .hbm, ⟨7, _⟩ => ⟨S2112x1, .f32⟩
  | .hbm, ⟨8, _⟩ => ⟨S2112x1, .f32⟩
  | .hbm, ⟨9, _⟩ => ⟨S_, .f32⟩
  | .hbm, ⟨10, _⟩ => ⟨S2112x1, .f32⟩
  | .hbm, ⟨11, _⟩ => ⟨S2112x1, .f32⟩
  | .hbm, ⟨12, _⟩ => ⟨S2112x1, .f32⟩
  | .hbm, ⟨13, _⟩ => ⟨S2112x1024, .f32⟩
  | .hbm, ⟨14, _⟩ => ⟨S2112x1024, .f32⟩
  | .hbm, ⟨15, _⟩ => ⟨S1x1024, .f32⟩
  | .hbm, ⟨16, _⟩ => ⟨S2112x1024, .f32⟩
  | .hbm, ⟨17, _⟩ => ⟨S2112x1024, .f32⟩
  | .hbm, ⟨18, _⟩ => ⟨S2112x1024, .bf16⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PostFwd.lean ====
abbrev S2112x512 : Shape := ⟨2, ![2112, 512]⟩
abbrev S512x512 : Shape := ⟨2, ![512, 512]⟩
abbrev S512 : Shape := ⟨1, ![512]⟩
abbrev S1x512 : Shape := ⟨2, ![1, 512]⟩
abbrev S192x512 : Shape := ⟨2, ![192, 512]⟩
abbrev S192 : Shape := ⟨1, ![192]⟩
abbrev S192x1 : Shape := ⟨2, ![192, 1]⟩

abbrev nBuf : Space → Nat
  | .hbm => 6
  | .vmem => 6
  | .smem => 0
  | _ => 0

abbrev bufTy : (tb : Table) → Fin (tcTables nBuf tb) → BufTy
  | .hbm, ⟨0, _⟩ => ⟨S2112x512, .f32⟩
  | .hbm, ⟨1, _⟩ => ⟨S512x512, .f32⟩
  | .hbm, ⟨2, _⟩ => ⟨S512, .f32⟩
  | .hbm, ⟨3, _⟩ => ⟨S512x512, .bf16⟩
  | .hbm, ⟨4, _⟩ => ⟨S1x512, .f32⟩
  | .hbm, ⟨5, _⟩ => ⟨S2112x512, .f32⟩
  | .local _ .vmem, ⟨0, _⟩ => ⟨S192x512, .f32⟩
  | .local _ .vmem, ⟨1, _⟩ => ⟨S192x512, .f32⟩
  | .local _ .vmem, ⟨2, _⟩ => ⟨S512x512, .bf16⟩
  | .local _ .vmem, ⟨3, _⟩ => ⟨S1x512, .f32⟩
  | .local _ .vmem, ⟨4, _⟩ => ⟨S192x512, .f32⟩
  | .local _ .vmem, ⟨5, _⟩ => ⟨S192x512, .f32⟩
  | _, _ => ⟨S2112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== PostFwdRefIdeal.lean ====
abbrev S2112x512 : Shape := ⟨2, ![2112, 512]⟩
abbrev S512x512 : Shape := ⟨2, ![512, 512]⟩
abbrev S512 : Shape := ⟨1, ![512]⟩
abbrev S_ : Shape := ⟨0, ![]⟩
abbrev S2112 : Shape := ⟨1, ![2112]⟩
abbrev S2112x1 : Shape := ⟨2, ![2112, 1]⟩
abbrev S1x512 : Shape := ⟨2, ![1, 512]⟩

abbrev nBuf : Space → Nat
  | .hbm => 46
  | .vmem => 0
  | .smem => 0
  | _ => 0

abbrev bufTy : (tb : Table) → Fin (tcTables nBuf tb) → BufTy
  | .hbm, ⟨0, _⟩ => ⟨S2112x512, .f32⟩
  | .hbm, ⟨1, _⟩ => ⟨S512x512, .f32⟩
  | .hbm, ⟨2, _⟩ => ⟨S512, .f32⟩
  | .hbm, ⟨3, _⟩ => ⟨S2112x512, .f32⟩
  | .hbm, ⟨4, _⟩ => ⟨S2112x512, .f32⟩
  | .hbm, ⟨5, _⟩ => ⟨S_, .f32⟩
  | .hbm, ⟨6, _⟩ => ⟨S2112x512, .f32⟩
  | .hbm, ⟨7, _⟩ => ⟨S2112x512, .f32⟩
  | .hbm, ⟨8, _⟩ => ⟨S2112x512, .f32⟩
  | .hbm, ⟨9, _⟩ => ⟨S_, .f32⟩
  | .hbm, ⟨10, _⟩ => ⟨S2112x512, .f32⟩
  | .hbm, ⟨11, _⟩ => ⟨S2112x512, .f32⟩
  | .hbm, ⟨12, _⟩ => ⟨S2112x512, .f32⟩
  | .hbm, ⟨13, _⟩ => ⟨S_, .f32⟩
  | .hbm, ⟨14, _⟩ => ⟨S2112x512, .f32⟩
  | .hbm, ⟨15, _⟩ => ⟨S2112x512, .f32⟩
  | .hbm, ⟨16, _⟩ => ⟨S_, .f32⟩
  | .hbm, ⟨17, _⟩ => ⟨S2112x512, .f32⟩
  | .hbm, ⟨18, _⟩ => ⟨S2112x512, .f32⟩
  | .hbm, ⟨19, _⟩ => ⟨S2112x512, .f32⟩
  | .hbm, ⟨20, _⟩ => ⟨S2112x512, .f32⟩
  | .hbm, ⟨21, _⟩ => ⟨S2112x512, .f32⟩
  | .hbm, ⟨22, _⟩ => ⟨S2112x512, .f32⟩
  | .hbm, ⟨23, _⟩ => ⟨S_, .f32⟩
  | .hbm, ⟨24, _⟩ => ⟨S2112x512, .f32⟩
  | .hbm, ⟨25, _⟩ => ⟨S2112x512, .f32⟩
  | .hbm, ⟨26, _⟩ => ⟨S_, .f32⟩
  | .hbm, ⟨27, _⟩ => ⟨S2112x512, .f32⟩
  | .hbm, ⟨28, _⟩ => ⟨S2112x512, .f32⟩
  | .hbm, ⟨29, _⟩ => ⟨S2112x512, .f32⟩
  | .hbm, ⟨30, _⟩ => ⟨S2112x512, .f32⟩
  | .hbm, ⟨31, _⟩ => ⟨S_, .f32⟩
  | .hbm, ⟨32, _⟩ => ⟨S2112, .f32⟩
  | .hbm, ⟨33, _⟩ => ⟨S2112x1, .f32⟩
  | .hbm, ⟨34, _⟩ => ⟨S_, .f32⟩
  | .hbm, ⟨35, _⟩ => ⟨S2112x1, .f32⟩
  | .hbm, ⟨36, _⟩ => ⟨S2112x1, .f32⟩
  | .hbm, ⟨37, _⟩ => ⟨S_, .f32⟩
  | .hbm, ⟨38, _⟩ => ⟨S2112x1, .f32⟩
  | .hbm, ⟨39, _⟩ => ⟨S2112x1, .f32⟩
  | .hbm, ⟨40, _⟩ => ⟨S2112x1, .f32⟩
  | .hbm, ⟨41, _⟩ => ⟨S2112x512, .f32⟩
  | .hbm, ⟨42, _⟩ => ⟨S2112x512, .f32⟩
  | .hbm, ⟨43, _⟩ => ⟨S1x512, .f32⟩
  | .hbm, ⟨44, _⟩ => ⟨S2112x512, .f32⟩
  | .hbm, ⟨45, _⟩ => ⟨S2112x512, .f32⟩
  | _, _ => ⟨S2112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== FfnFwd.lean ====
abbrev S2112x1024 : Shape := ⟨2, ![2112, 1024]⟩
abbrev S1024x2816 : Shape := ⟨2, ![1024, 2816]⟩
abbrev S2816x1024 : Shape := ⟨2, ![2816, 1024]⟩
abbrev S1056x1024 : Shape := ⟨2, ![1056, 1024]⟩
abbrev S1024x256 : Shape := ⟨2, ![1024, 256]⟩
abbrev S256x1024 : Shape := ⟨2, ![256, 1024]⟩
abbrev S1056x256 : Shape := ⟨2, ![1056, 256]⟩

abbrev nBuf : Space → Nat
  | .hbm => 10
  | .vmem => 13
  | .smem => 0
  | _ => 0

abbrev bufTy : (tb : Table) → Fin (tcTables nBuf tb) → BufTy
  | .hbm, ⟨0, _⟩ => ⟨S2112x1024, .f32⟩
  | .hbm, ⟨1, _⟩ => ⟨S2112x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2112x1024, .bf16⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S2112x1024, .f32⟩
  | .local _ .vmem, ⟨0, _⟩ => ⟨S1056x1024, .f32⟩
  | .local _ .vmem, ⟨1, _⟩ => ⟨S1056x1024, .f32⟩
  | .local _ .vmem, ⟨2, _⟩ => ⟨S1056x1024, .bf16⟩
  | .local _ .vmem, ⟨3, _⟩ => ⟨S1056x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S1056x1024, .f32⟩
  | .local _ .vmem, ⟨11, _⟩ => ⟨S1056x1024, .f32⟩
  | .local _ .vmem, ⟨12, _⟩ => ⟨S1056x1024, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1056x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnFwdRefIdeal.lean ====
abbrev S2112x1024 : Shape := ⟨2, ![2112, 1024]⟩
abbrev S1024x2816 : Shape := ⟨2, ![1024, 2816]⟩
abbrev S2816x1024 : Shape := ⟨2, ![2816, 1024]⟩
abbrev S2112x2816 : Shape := ⟨2, ![2112, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S2112x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2112x2816, .f32⟩
  | .hbm, ⟨6, _⟩ => ⟨S2112x2816, .f32⟩
  | .hbm, ⟨7, _⟩ => ⟨S2112x2816, .f32⟩
  | .hbm, ⟨8, _⟩ => ⟨S_, .f32⟩
  | .hbm, ⟨9, _⟩ => ⟨S2112x2816, .f32⟩
  | .hbm, ⟨10, _⟩ => ⟨S2112x2816, .f32⟩
  | .hbm, ⟨11, _⟩ => ⟨S_, .f32⟩
  | .hbm, ⟨12, _⟩ => ⟨S2112x2816, .f32⟩
  | .hbm, ⟨13, _⟩ => ⟨S2112x2816, .f32⟩
  | .hbm, ⟨14, _⟩ => ⟨S2112x2816, .f32⟩
  | .hbm, ⟨15, _⟩ => ⟨S2112x2816, .f32⟩
  | .hbm, ⟨16, _⟩ => ⟨S2112x2816, .f32⟩
  | .hbm, ⟨17, _⟩ => ⟨S2112x1024, .f32⟩
  | .hbm, ⟨18, _⟩ => ⟨S_, .f32⟩
  | .hbm, ⟨19, _⟩ => ⟨S2112x1024, .f32⟩
  | .hbm, ⟨20, _⟩ => ⟨S2112x1024, .f32⟩
  | .hbm, ⟨21, _⟩ => ⟨S2112x1024, .f32⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩

abbrev nD : Nat := 1
abbrev τ : Topo := Topo.v7x

variable {F : FTy → Type} [FloatOps F]
-- ==== S5Fwd.lean ====
abbrev S2064x512 : Shape := ⟨2, ![2064, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S_ : Shape := ⟨0, ![]⟩
abbrev S48x512 : Shape := ⟨2, ![48, 512]⟩
abbrev S2112x512 : Shape := ⟨2, ![2112, 512]⟩
abbrev S8x8 : Shape := ⟨2, ![8, 8]⟩
abbrev S1x8x1x8x1 : Shape := ⟨5, ![1, 8, 1, 8, 1]⟩
abbrev S4x1x512 : Shape := ⟨3, ![4, 1, 512]⟩
abbrev S4x1x8 : Shape := ⟨3, ![4, 1, 8]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S4x1x128 : Shape := ⟨3, ![4, 1, 128]⟩
abbrev S4x11x1x512 : Shape := ⟨4, ![4, 11, 1, 512]⟩
abbrev S192x128 : Shape := ⟨2, ![192, 128]⟩
abbrev S1x1x512 : Shape := ⟨3, ![1, 1, 512]⟩
abbrev S1x1x8 : Shape := ⟨3, ![1, 1, 8]⟩
abbrev S1x128x512 : Shape := ⟨3, ![1, 128, 512]⟩
abbrev S1x512x128 : Shape := ⟨3, ![1, 512, 128]⟩
abbrev S1x1x128 : Shape := ⟨3, ![1, 1, 128]⟩
abbrev S1x1x1x512 : Shape := ⟨4, ![1, 1, 1, 512]⟩
abbrev S1x512 : Shape := ⟨2, ![1, 512]⟩
abbrev S1x8 : Shape := ⟨2, ![1, 8]⟩
abbrev S128x512 : Shape := ⟨2, ![128, 512]⟩
abbrev S512x128 : Shape := ⟨2, ![512, 128]⟩
abbrev S1x128 : Shape := ⟨2, ![1, 128]⟩
abbrev S8x512 : Shape := ⟨2, ![8, 512]⟩
abbrev S192x512 : Shape := ⟨2, ![192, 512]⟩
abbrev S192x1 : Shape := ⟨2, ![192, 1]⟩
abbrev S191x512 : Shape := ⟨2, ![191, 512]⟩
abbrev S2x512 : Shape := ⟨2, ![2, 512]⟩
abbrev S190x512 : Shape := ⟨2, ![190, 512]⟩
abbrev S4x512 : Shape := ⟨2, ![4, 512]⟩
abbrev S188x512 : Shape := ⟨2, ![188, 512]⟩
abbrev S184x512 : Shape := ⟨2, ![184, 512]⟩
abbrev S16x512 : Shape := ⟨2, ![16, 512]⟩
abbrev S176x512 : Shape := ⟨2, ![176, 512]⟩
abbrev S32x512 : Shape := ⟨2, ![32, 512]⟩
abbrev S160x512 : Shape := ⟨2, ![160, 512]⟩
abbrev S64x512 : Shape := ⟨2, ![64, 512]⟩

abbrev nBuf : Space → Nat
  | .hbm => 51
  | .vmem => 26
  | .smem => 0
  | _ => 0

abbrev bufTy : (tb : Table) → Fin (tcTables nBuf tb) → BufTy
  | .hbm, ⟨0, _⟩ => ⟨S2064x512, .f32⟩
  | .hbm, ⟨1, _⟩ => ⟨S32x64, .f32⟩
  | .hbm, ⟨2, _⟩ => ⟨S32x64, .f32⟩
  | .hbm, ⟨3, _⟩ => ⟨S32, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S512, .f32⟩
  | .hbm, ⟨9, _⟩ => ⟨S_, .f32⟩
  | .hbm, ⟨10, _⟩ => ⟨S48x512, .f32⟩
  | .hbm, ⟨11, _⟩ => ⟨S2112x512, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S1x8x1x8x1, .f32⟩
  | .hbm, ⟨20, _⟩ => ⟨S4x1x512, .f32⟩
  | .hbm, ⟨21, _⟩ => ⟨S4x1x512, .f32⟩
  | .hbm, ⟨22, _⟩ => ⟨S4x1x8, .f32⟩
  | .hbm, ⟨23, _⟩ => ⟨S32x16x64, .f32⟩
  | .hbm, ⟨24, _⟩ => ⟨S4x8x16x1x64, .f32⟩
  | .hbm, ⟨25, _⟩ => ⟨S4x8x16x8x64, .f32⟩
  | .hbm, ⟨26, _⟩ => ⟨S4x8x16x8x64, .f32⟩
  | .hbm, ⟨27, _⟩ => ⟨S4x8x16x8x64, .f32⟩
  | .hbm, ⟨28, _⟩ => ⟨S4x128x512, .f32⟩
  | .hbm, ⟨29, _⟩ => ⟨S32x16x64, .f32⟩
  | .hbm, ⟨30, _⟩ => ⟨S4x8x16x1x64, .f32⟩
  | .hbm, ⟨31, _⟩ => ⟨S4x8x16x8x64, .f32⟩
  | .hbm, ⟨32, _⟩ => ⟨S4x8x16x8x64, .f32⟩
  | .hbm, ⟨33, _⟩ => ⟨S4x8x16x8x64, .f32⟩
  | .hbm, ⟨34, _⟩ => ⟨S4x128x512, .f32⟩
  | .hbm, ⟨35, _⟩ => ⟨S32x64x16, .f32⟩
  | .hbm, ⟨36, _⟩ => ⟨S4x8x64x1x16, .f32⟩
  | .hbm, ⟨37, _⟩ => ⟨S4x8x64x8x16, .f32⟩
  | .hbm, ⟨38, _⟩ => ⟨S4x8x64x8x16, .f32⟩
  | .hbm, ⟨39, _⟩ => ⟨S4x8x64x8x16, .f32⟩
  | .hbm, ⟨40, _⟩ => ⟨S4x512x128, .f32⟩
  | .hbm, ⟨41, _⟩ => ⟨S32x64x16, .f32⟩
  | .hbm, ⟨42, _⟩ => ⟨S4x8x64x1x16, .f32⟩
  | .hbm, ⟨43, _⟩ => ⟨S4x8x64x8x16, .f32⟩
  | .hbm, ⟨44, _⟩ => ⟨S4x8x64x8x16, .f32⟩
  | .hbm, ⟨45, _⟩ => ⟨S4x8x64x8x16, .f32⟩
  | .hbm, ⟨46, _⟩ => ⟨S4x512x128, .f32⟩
  | .hbm, ⟨47, _⟩ => ⟨S4x1x128, .f32⟩
  | .hbm, ⟨48, _⟩ => ⟨S2112x512, .f32⟩
  | .hbm, ⟨49, _⟩ => ⟨S4x11x1x512, .f32⟩
  | .hbm, ⟨50, _⟩ => ⟨S4x11x1x512, .f32⟩
  | .local _ .vmem, ⟨0, _⟩ => ⟨S192x128, .f32⟩
  | .local _ .vmem, ⟨1, _⟩ => ⟨S192x128, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x8, .f32⟩
  | .local _ .vmem, ⟨7, _⟩ => ⟨S1x1x8, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x1x128, .f32⟩
  | .local _ .vmem, ⟨17, _⟩ => ⟨S1x1x128, .f32⟩
  | .local _ .vmem, ⟨18, _⟩ => ⟨S192x128, .f32⟩
  | .local _ .vmem, ⟨19, _⟩ => ⟨S192x128, .f32⟩
  | .local _ .vmem, ⟨20, _⟩ => ⟨S1x1x1x512, .f32⟩
  | .local _ .vmem, ⟨21, _⟩ => ⟨S1x1x1x512, .f32⟩
  | .local _ .vmem, ⟨22, _⟩ => ⟨S1x1x1x512, .f32⟩
  | .local _ .vmem, ⟨23, _⟩ => ⟨S1x1x1x512, .f32⟩
  | .local _ .vmem, ⟨24, _⟩ => ⟨S1x512, .f32⟩
  | .local _ .vmem, ⟨25, _⟩ => ⟨S1x512, .f32⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev main_v37_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== S5FwdRefIdeal.lean ====
abbrev S2064x512 : Shape := ⟨2, ![2064, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S2064x32x16 : Shape := ⟨3, ![2064, 32, 16]⟩
abbrev S_ : Shape := ⟨0, ![]⟩
abbrev S32x1 : Shape := ⟨2, ![32, 1]⟩
abbrev S32x64x1 : Shape := ⟨3, ![32, 64, 1]⟩
abbrev S32x64x2064 : Shape := ⟨3, ![32, 64, 2064]⟩
abbrev S2064x32x64 : Shape := ⟨3, ![2064, 32, 64]⟩
abbrev S1x32x64 : Shape := ⟨3, ![1, 32, 64]⟩
abbrev S32x16x2064 : Shape := ⟨3, ![32, 16, 2064]⟩
abbrev S1x512 : Shape := ⟨2, ![1, 512]⟩
abbrev S48x512 : Shape := ⟨2, ![48, 512]⟩
abbrev S2112x512 : Shape := ⟨2, ![2112, 512]⟩
abbrev S2064x2048 : Shape := ⟨2, ![2064, 2048]⟩
abbrev S2063x2048 : Shape := ⟨2, ![2063, 2048]⟩
abbrev S49x2048 : Shape := ⟨2, ![49, 2048]⟩
abbrev S2112x2048 : Shape := ⟨2, ![2112, 2048]⟩
abbrev S11x192x4x512 : Shape := ⟨4, ![11, 192, 4, 512]⟩
abbrev S11x1x4x512 : Shape := ⟨4, ![11, 1, 4, 512]⟩
abbrev S11x4x512 : Shape := ⟨3, ![11, 4, 512]⟩
abbrev S4x11x512 : Shape := ⟨3, ![4, 11, 512]⟩
abbrev S4x11x1x512 : Shape := ⟨4, ![4, 11, 1, 512]⟩

abbrev nBuf : Space → Nat
  | .hbm => 138
  | .vmem => 0
  | .smem => 0
  | _ => 0

abbrev hbmTy0_0 (i : Nat) : BufTy := match i % 128 with
  | 0 => ⟨S2064x512, .f32⟩
  | 1 => ⟨S32x64, .f32⟩
  | 2 => ⟨S32x64, .f32⟩
  | 3 => ⟨S32, .f32⟩
  | 4 => ⟨S32x64x16, .f32⟩
  | 5 => ⟨S32x64x16, .f32⟩
  | 6 => ⟨S32x16x64, .f32⟩
  | 7 => ⟨S32x16x64, .f32⟩
  | 8 => ⟨S512, .f32⟩
  | 9 => ⟨S2064x32x16, .f32⟩
  | 10 => ⟨S_, .f32⟩
  | 11 => ⟨S32x64, .f32⟩
  | 12 => ⟨S32x64, .f32⟩
  | 13 => ⟨S32, .f32⟩
  | 14 => ⟨S32x1, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S_, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S_, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64x1, .f32⟩
  | 44 => ⟨S32x64x16, .f32⟩
  | 45 => ⟨S32x64x16, .f32⟩
  | 46 => ⟨S32x64x1, .f32⟩
  | 47 => ⟨S32x64x16, .f32⟩
  | 48 => ⟨S32x64x16, .f32⟩
  | 49 => ⟨S32x64x16, .f32⟩
  | 50 => ⟨S32x64x1, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x16, .f32⟩
  | 57 => ⟨S32x64x2064, .f32⟩
  | 58 => ⟨S2064x32x64, .f32⟩
  | 59 => ⟨S32x64x2064, .f32⟩
  | 60 => ⟨S2064x32x64, .f32⟩
  | 61 => ⟨S_, .f32⟩
  | 62 => ⟨S32x64, .f32⟩
  | 63 => ⟨S_, .f32⟩
  | 64 => ⟨S2064x32x64, .f32⟩
  | 65 => ⟨S_, .f32⟩
  | 66 => ⟨S2064x32x64, .f32⟩
  | 67 => ⟨S_, .i32⟩
  | 68 => ⟨S2064x32x64, .f32⟩
  | 69 => ⟨S2064x32x64, .f32⟩
  | 70 => ⟨S32x64, .f32⟩
  | 71 => ⟨S32x64, .f32⟩
  | 72 => ⟨S_, .i32⟩
  | 73 => ⟨S32x64, .f32⟩
  | 74 => ⟨S32x64, .f32⟩
  | 75 => ⟨S2064x32x64, .f32⟩
  | 76 => ⟨S2064x32x64, .f32⟩
  | 77 => ⟨S_, .i32⟩
  | 78 => ⟨S_, .i1⟩
  | 79 => ⟨S_, .i32⟩
  | 80 => ⟨S_, .i32⟩
  | 81 => ⟨S1x32x64, .f32⟩
  | 82 => ⟨S32x64, .f32⟩
  | 83 => ⟨S_, .i32⟩
  | 84 => ⟨S_, .i32⟩
  | 85 => ⟨S1x32x64, .f32⟩
  | 86 => ⟨S32x64, .f32⟩
  | 87 => ⟨S32x64, .f32⟩
  | 88 => ⟨S32x64, .f32⟩
  | 89 => ⟨S32x64, .f32⟩
  | 90 => ⟨S32x64, .f32⟩
  | 91 => ⟨S32x64, .f32⟩
  | 92 => ⟨S32x64, .f32⟩
  | 93 => ⟨S32x64, .f32⟩
  | 94 => ⟨S32x64, .f32⟩
  | 95 => ⟨S1x32x64, .f32⟩
  | 96 => ⟨S_, .i32⟩
  | 97 => ⟨S_, .i32⟩
  | 98 => ⟨S2064x32x64, .f32⟩
  | 99 => ⟨S1x32x64, .f32⟩
  | 100 => ⟨S_, .i32⟩
  | 101 => ⟨S_, .i32⟩
  | 102 => ⟨S2064x32x64, .f32⟩
  | 103 => ⟨S_, .i32⟩
  | 104 => ⟨S_, .i32⟩
  | 105 => ⟨S32x16x2064, .f32⟩
  | 106 => ⟨S2064x32x16, .f32⟩
  | 107 => ⟨S32x16x2064, .f32⟩
  | 108 => ⟨S2064x32x16, .f32⟩
  | 109 => ⟨S2064x32x16, .f32⟩
  | 110 => ⟨S2064x512, .f32⟩
  | 111 => ⟨S1x512, .f32⟩
  | 112 => ⟨S2064x512, .f32⟩
  | 113 => ⟨S2064x512, .f32⟩
  | 114 => ⟨S2064x512, .f32⟩
  | 115 => ⟨S_, .f32⟩
  | 116 => ⟨S48x512, .f32⟩
  | 117 => ⟨S2112x512, .f32⟩
  | 118 => ⟨S2064x2048, .f32⟩
  | 119 => ⟨S2063x2048, .f32⟩
  | 120 => ⟨S_, .f32⟩
  | 121 => ⟨S49x2048, .f32⟩
  | 122 => ⟨S2112x2048, .f32⟩
  | 123 => ⟨S11x192x4x512, .f32⟩
  | 124 => ⟨S11x1x4x512, .f32⟩
  | 125 => ⟨S11x4x512, .f32⟩
  | 126 => ⟨S4x11x512, .f32⟩
  | 127 => ⟨S4x11x1x512, .f32⟩
  | _ => ⟨S2064x512, .f32⟩

abbrev hbmTy0_1 (i : Nat) : BufTy := match i % 128 with
  | 0 => ⟨S2064x2048, .f32⟩
  | 1 => ⟨S2063x2048, .f32⟩
  | 2 => ⟨S_, .f32⟩
  | 3 => ⟨S49x2048, .f32⟩
  | 4 => ⟨S2112x2048, .f32⟩
  | 5 => ⟨S11x192x4x512, .f32⟩
  | 6 => ⟨S11x1x4x512, .f32⟩
  | 7 => ⟨S11x4x512, .f32⟩
  | 8 => ⟨S4x11x512, .f32⟩
  | 9 => ⟨S4x11x1x512, .f32⟩
  | _ => ⟨S2064x512, .f32⟩

abbrev hbmTy (i : Nat) : BufTy := match i / 128 with
  | 0 => hbmTy0_0 i
  | 1 => hbmTy0_1 i
  | _ => ⟨S2064x512, .f32⟩

abbrev bufTy : (tb : Table) → Fin (tcTables nBuf tb) → BufTy
  | .hbm, ⟨i, _⟩ => hbmTy i
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_2 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_c : Ref sig .tc := ⟨.hbm, 67, rfl⟩
abbrev main_v52_0 : Ref sig .tc := ⟨.hbm, 68, rfl⟩
abbrev main_v52_1 : Ref sig .tc := ⟨.hbm, 69, rfl⟩
abbrev main_v52_2 : Ref sig .tc := ⟨.hbm, 70, rfl⟩
abbrev main_v52_3 : Ref sig .tc := ⟨.hbm, 71, rfl⟩
abbrev main_v52_4 : Ref sig .tc := ⟨.hbm, 72, rfl⟩
abbrev main_v52_5 : Ref sig .tc := ⟨.hbm, 73, rfl⟩
abbrev main_v52_6 : Ref sig .tc := ⟨.hbm, 74, rfl⟩
abbrev main_v52_7 : Ref sig .tc := ⟨.hbm, 75, rfl⟩
abbrev main_v52_8 : Ref sig .tc := ⟨.hbm, 76, rfl⟩
abbrev main_while0c_c_16 : Ref sig .tc := ⟨.hbm, 77, rfl⟩
abbrev main_while0c_v83 : Ref sig .tc := ⟨.hbm, 78, rfl⟩
abbrev main_while0b_call0_c : Ref sig .tc := ⟨.hbm, 79, rfl⟩
abbrev main_while0b_call0_c_0 : Ref sig .tc := ⟨.hbm, 80, rfl⟩
abbrev main_while0b_call0_v0 : Ref sig .tc := ⟨.hbm, 81, rfl⟩
abbrev main_while0b_v83 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_call1_v0 : Ref sig .tc := ⟨.hbm, 85, rfl⟩
abbrev main_while0b_v84 : Ref sig .tc := ⟨.hbm, 86, rfl⟩
abbrev main_while0b_v85 : Ref sig .tc := ⟨.hbm, 87, rfl⟩
abbrev main_while0b_v86 : Ref sig .tc := ⟨.hbm, 88, rfl⟩
abbrev main_while0b_v87 : Ref sig .tc := ⟨.hbm, 89, rfl⟩
abbrev main_while0b_v88 : Ref sig .tc := ⟨.hbm, 90, rfl⟩
abbrev main_while0b_v89 : Ref sig .tc := ⟨.hbm, 91, rfl⟩
abbrev main_while0b_v90 : Ref sig .tc := ⟨.hbm, 92, rfl⟩
abbrev main_while0b_v91 : Ref sig .tc := ⟨.hbm, 93, rfl⟩
abbrev main_while0b_v92 : Ref sig .tc := ⟨.hbm, 94, rfl⟩
abbrev main_while0b_call2_v0 : Ref sig .tc := ⟨.hbm, 95, rfl⟩
abbrev main_while0b_call2_c : Ref sig .tc := ⟨.hbm, 96, rfl⟩
abbrev main_while0b_call2_c_0 : Ref sig .tc := ⟨.hbm, 97, rfl⟩
abbrev main_while0b_v93 : Ref sig .tc := ⟨.hbm, 98, rfl⟩
abbrev main_while0b_call3_v0 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_v94 : Ref sig .tc := ⟨.hbm, 102, rfl⟩
abbrev main_while0b_c_16 : Ref sig .tc := ⟨.hbm, 103, rfl⟩
abbrev main_while0b_v95 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_5 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_6 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_cst_7 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩

abbrev nD : Nat := 1
abbrev τ : Topo := Topo.v7x

variable {F : FTy → Type} [FloatOps F]

abbrev main_while0_count : Scf.Loop 32 := ⟨0#32, 2064#32, 1#32⟩
-- ==== LruFwd.lean ====
abbrev S2064x512 : Shape := ⟨2, ![2064, 512]⟩
abbrev S4x512 : Shape := ⟨2, ![4, 512]⟩
abbrev S512 : Shape := ⟨1, ![512]⟩
abbrev S8x64x64 : Shape := ⟨3, ![8, 64, 64]⟩
abbrev S_ : Shape := ⟨0, ![]⟩
abbrev S48x1024 : Shape := ⟨2, ![48, 1024]⟩
abbrev S2064x1024 : Shape := ⟨2, ![2064, 1024]⟩
abbrev S2112x1024 : Shape := ⟨2, ![2112, 1024]⟩
abbrev S1x512 : Shape := ⟨2, ![1, 512]⟩
abbrev S8x8 : Shape := ⟨2, ![8, 8]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S2112x512 : Shape := ⟨2, ![2112, 512]⟩
abbrev S1x11x8x512 : Shape := ⟨4, ![1, 11, 8, 512]⟩
abbrev S1x11x1x512 : Shape := ⟨4, ![1, 11, 1, 512]⟩
abbrev S192x512 : Shape := ⟨2, ![192, 512]⟩
abbrev S1x1x8x512 : Shape := ⟨4, ![1, 1, 8, 512]⟩
abbrev S1x1x1x512 : Shape := ⟨4, ![1, 1, 1, 512]⟩
abbrev S8x512 : Shape := ⟨2, ![8, 512]⟩
abbrev S192x1 : Shape := ⟨2, ![192, 1]⟩
abbrev S200x512 : Shape := ⟨2, ![200, 512]⟩
abbrev S191x512 : Shape := ⟨2, ![191, 512]⟩
abbrev S2x512 : Shape := ⟨2, ![2, 512]⟩
abbrev S190x512 : Shape := ⟨2, ![190, 512]⟩
abbrev S188x512 : Shape := ⟨2, ![188, 512]⟩
abbrev S184x512 : Shape := ⟨2, ![184, 512]⟩
abbrev S16x512 : Shape := ⟨2, ![16, 512]⟩
abbrev S176x512 : Shape := ⟨2, ![176, 512]⟩
abbrev S32x512 : Shape := ⟨2, ![32, 512]⟩
abbrev S160x512 : Shape := ⟨2, ![160, 512]⟩
abbrev S64x512 : Shape := ⟨2, ![64, 512]⟩
abbrev S128x512 : Shape := ⟨2, ![128, 512]⟩
abbrev S192 : Shape := ⟨1, ![192]⟩

abbrev nBuf : Space → Nat
  | .hbm => 48
  | .vmem => 20
  | .smem => 0
  | _ => 0

abbrev bufTy : (tb : Table) → Fin (tcTables nBuf tb) → BufTy
  | .hbm, ⟨0, _⟩ => ⟨S2064x512, .f32⟩
  | .hbm, ⟨1, _⟩ => ⟨S2064x512, .f32⟩
  | .hbm, ⟨2, _⟩ => ⟨S4x512, .f32⟩
  | .hbm, ⟨3, _⟩ => ⟨S512, .f32⟩
  | .hbm, ⟨4, _⟩ => ⟨S8x64x64, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S48x1024, .f32⟩
  | .hbm, ⟨12, _⟩ => ⟨S2064x1024, .f32⟩
  | .hbm, ⟨13, _⟩ => ⟨S2112x1024, .f32⟩
  | .hbm, ⟨14, _⟩ => ⟨S1x512, .f32⟩
  | .hbm, ⟨15, _⟩ => ⟨S8x8, .i32⟩
  | .hbm, ⟨16, _⟩ => ⟨S8x8, .i32⟩
  | .hbm, ⟨17, _⟩ => ⟨S_, .i32⟩
  | .hbm, ⟨18, _⟩ => ⟨S8x8, .i32⟩
  | .hbm, ⟨19, _⟩ => ⟨S8x8, .i32⟩
  | .hbm, ⟨20, _⟩ => ⟨S8x8, .i1⟩
  | .hbm, ⟨21, _⟩ => ⟨S8x8, .f32⟩
  | .hbm, ⟨22, _⟩ => ⟨S8x64x1x64, .f32⟩
  | .hbm, ⟨23, _⟩ => ⟨S8x1x8x1, .f32⟩
  | .hbm, ⟨24, _⟩ => ⟨S8x64x8x64, .f32⟩
  | .hbm, ⟨25, _⟩ => ⟨S8x64x8x64, .f32⟩
  | .hbm, ⟨26, _⟩ => ⟨S8x64x8x64, .f32⟩
  | .hbm, ⟨27, _⟩ => ⟨S512x512, .f32⟩
  | .hbm, ⟨28, _⟩ => ⟨S1x512, .f32⟩
  | .hbm, ⟨29, _⟩ => ⟨S8x8, .i32⟩
  | .hbm, ⟨30, _⟩ => ⟨S8x8, .i32⟩
  | .hbm, ⟨31, _⟩ => ⟨S_, .i32⟩
  | .hbm, ⟨32, _⟩ => ⟨S8x8, .i32⟩
  | .hbm, ⟨33, _⟩ => ⟨S8x8, .i32⟩
  | .hbm, ⟨34, _⟩ => ⟨S8x8, .i1⟩
  | .hbm, ⟨35, _⟩ => ⟨S8x8, .f32⟩
  | .hbm, ⟨36, _⟩ => ⟨S8x64x1x64, .f32⟩
  | .hbm, ⟨37, _⟩ => ⟨S8x1x8x1, .f32⟩
  | .hbm, ⟨38, _⟩ => ⟨S8x64x8x64, .f32⟩
  | .hbm, ⟨39, _⟩ => ⟨S8x64x8x64, .f32⟩
  | .hbm, ⟨40, _⟩ => ⟨S8x64x8x64, .f32⟩
  | .hbm, ⟨41, _⟩ => ⟨S512x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S2112x512, .f32⟩
  | .hbm, ⟨46, _⟩ => ⟨S1x11x8x512, .f32⟩
  | .hbm, ⟨47, _⟩ => ⟨S1x11x1x512, .f32⟩
  | .local _ .vmem, ⟨0, _⟩ => ⟨S192x512, .f32⟩
  | .local _ .vmem, ⟨1, _⟩ => ⟨S192x512, .f32⟩
  | .local _ .vmem, ⟨2, _⟩ => ⟨S192x512, .f32⟩
  | .local _ .vmem, ⟨3, _⟩ => ⟨S192x512, .f32⟩
  | .local _ .vmem, ⟨4, _⟩ => ⟨S4x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S192x512, .f32⟩
  | .local _ .vmem, ⟨13, _⟩ => ⟨S192x512, .f32⟩
  | .local _ .vmem, ⟨14, _⟩ => ⟨S1x1x8x512, .f32⟩
  | .local _ .vmem, ⟨15, _⟩ => ⟨S1x1x8x512, .f32⟩
  | .local _ .vmem, ⟨16, _⟩ => ⟨S1x1x1x512, .f32⟩
  | .local _ .vmem, ⟨17, _⟩ => ⟨S1x1x1x512, .f32⟩
  | .local _ .vmem, ⟨18, _⟩ => ⟨S8x512, .f32⟩
  | .local _ .vmem, ⟨19, _⟩ => ⟨S1x512, .f32⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S192x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== LruFwdRefIdeal.lean ====
abbrev S2064x512 : Shape := ⟨2, ![2064, 512]⟩
abbrev S4x512 : Shape := ⟨2, ![4, 512]⟩
abbrev S512 : Shape := ⟨1, ![512]⟩
abbrev S8x64x64 : Shape := ⟨3, ![8, 64, 64]⟩
abbrev S_ : Shape := ⟨0, ![]⟩
abbrev S3x512 : Shape := ⟨2, ![3, 512]⟩
abbrev S2067x512 : Shape := ⟨2, ![2067, 512]⟩
abbrev S1x512 : Shape := ⟨2, ![1, 512]⟩
abbrev S2064x8x64 : Shape := ⟨3, ![2064, 8, 64]⟩
abbrev S8x64x2064 : Shape := ⟨3, ![8, 64, 2064]⟩
abbrev S2064 : Shape := ⟨1, ![2064]⟩
abbrev S2064x1 : Shape := ⟨2, ![2064, 1]⟩
abbrev S48x512 : Shape := ⟨2, ![48, 512]⟩
abbrev S2112x512 : Shape := ⟨2, ![2112, 512]⟩
abbrev S2056x512 : Shape := ⟨2, ![2056, 512]⟩
abbrev S56x512 : Shape := ⟨2, ![56, 512]⟩
abbrev S11x192x512 : Shape := ⟨3, ![11, 192, 512]⟩
abbrev S11x8x512 : Shape := ⟨3, ![11, 8, 512]⟩
abbrev S1x11x8x512 : Shape := ⟨4, ![1, 11, 8, 512]⟩
abbrev S2063x512 : Shape := ⟨2, ![2063, 512]⟩
abbrev S49x512 : Shape := ⟨2, ![49, 512]⟩
abbrev S11x1x512 : Shape := ⟨3, ![11, 1, 512]⟩
abbrev S1x11x1x512 : Shape := ⟨4, ![1, 11, 1, 512]⟩

abbrev nBuf : Space → Nat
  | .hbm => 181
  | .vmem => 0
  | .smem => 0
  | _ => 0

abbrev hbmTy0_0 (i : Nat) : BufTy := match i % 128 with
  | 0 => ⟨S2064x512, .f32⟩
  | 1 => ⟨S2064x512, .f32⟩
  | 2 => ⟨S4x512, .f32⟩
  | 3 => ⟨S512, .f32⟩
  | 4 => ⟨S8x64x64, .f32⟩
  | 5 => ⟨S512, .f32⟩
  | 6 => ⟨S8x64x64, .f32⟩
  | 7 => ⟨S512, .f32⟩
  | 8 => ⟨S512, .f32⟩
  | 9 => ⟨S512, .f32⟩
  | 10 => ⟨S_, .f32⟩
  | 11 => ⟨S3x512, .f32⟩
  | 12 => ⟨S2067x512, .f32⟩
  | 13 => ⟨S1x512, .f32⟩
  | 14 => ⟨S512, .f32⟩
  | 15 => ⟨S2064x512, .f32⟩
  | 16 => ⟨S1x512, .f32⟩
  | 17 => ⟨S2064x512, .f32⟩
  | 18 => ⟨S2064x512, .f32⟩
  | 19 => ⟨S_, .f32⟩
  | 20 => ⟨S2064x512, .f32⟩
  | 21 => ⟨S2064x512, .f32⟩
  | 22 => ⟨S1x512, .f32⟩
  | 23 => ⟨S512, .f32⟩
  | 24 => ⟨S2064x512, .f32⟩
  | 25 => ⟨S1x512, .f32⟩
  | 26 => ⟨S2064x512, .f32⟩
  | 27 => ⟨S2064x512, .f32⟩
  | 28 => ⟨S2064x512, .f32⟩
  | 29 => ⟨S1x512, .f32⟩
  | 30 => ⟨S512, .f32⟩
  | 31 => ⟨S2064x512, .f32⟩
  | 32 => ⟨S1x512, .f32⟩
  | 33 => ⟨S2064x512, .f32⟩
  | 34 => ⟨S2064x512, .f32⟩
  | 35 => ⟨S2064x512, .f32⟩
  | 36 => ⟨S1x512, .f32⟩
  | 37 => ⟨S512, .f32⟩
  | 38 => ⟨S2064x512, .f32⟩
  | 39 => ⟨S1x512, .f32⟩
  | 40 => ⟨S2064x512, .f32⟩
  | 41 => ⟨S2064x512, .f32⟩
  | 42 => ⟨S2064x512, .f32⟩
  | 43 => ⟨S1x512, .f32⟩
  | 44 => ⟨S2064x512, .f32⟩
  | 45 => ⟨S2064x512, .f32⟩
  | 46 => ⟨S2064x8x64, .f32⟩
  | 47 => ⟨S8x64x2064, .f32⟩
  | 48 => ⟨S2064x8x64, .f32⟩
  | 49 => ⟨S2064x512, .f32⟩
  | 50 => ⟨S1x512, .f32⟩
  | 51 => ⟨S2064x512, .f32⟩
  | 52 => ⟨S2064x512, .f32⟩
  | 53 => ⟨S2064x512, .f32⟩
  | 54 => ⟨S2064x512, .f32⟩
  | 55 => ⟨S_, .f32⟩
  | 56 => ⟨S2064x512, .f32⟩
  | 57 => ⟨S2064x512, .f32⟩
  | 58 => ⟨S_, .f32⟩
  | 59 => ⟨S2064x512, .f32⟩
  | 60 => ⟨S2064x512, .f32⟩
  | 61 => ⟨S8x64x2064, .f32⟩
  | 62 => ⟨S2064x8x64, .f32⟩
  | 63 => ⟨S2064x512, .f32⟩
  | 64 => ⟨S1x512, .f32⟩
  | 65 => ⟨S2064x512, .f32⟩
  | 66 => ⟨S2064x512, .f32⟩
  | 67 => ⟨S2064x512, .f32⟩
  | 68 => ⟨S2064x512, .f32⟩
  | 69 => ⟨S_, .f32⟩
  | 70 => ⟨S2064x512, .f32⟩
  | 71 => ⟨S2064x512, .f32⟩
  | 72 => ⟨S_, .f32⟩
  | 73 => ⟨S2064x512, .f32⟩
  | 74 => ⟨S2064x512, .f32⟩
  | 75 => ⟨S_, .f32⟩
  | 76 => ⟨S2064x512, .f32⟩
  | 77 => ⟨S2064x512, .f32⟩
  | 78 => ⟨S512, .f32⟩
  | 79 => ⟨S_, .f32⟩
  | 80 => ⟨S512, .f32⟩
  | 81 => ⟨S512, .f32⟩
  | 82 => ⟨S512, .f32⟩
  | 83 => ⟨S512, .f32⟩
  | 84 => ⟨S512, .i1⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S1x512, .f32⟩
  | 94 => ⟨S2064x512, .f32⟩
  | 95 => ⟨S2064x512, .f32⟩
  | 96 => ⟨S2064x512, .f32⟩
  | 97 => ⟨S_, .f32⟩
  | 98 => ⟨S2064x512, .f32⟩
  | 99 => ⟨S2064x512, .f32⟩
  | 100 => ⟨S2064x512, .f32⟩
  | 101 => ⟨S2064x512, .f32⟩
  | 102 => ⟨S2064x512, .f32⟩
  | 103 => ⟨S2064x512, .f32⟩
  | 104 => ⟨S2064x512, .f32⟩
  | 105 => ⟨S_, .f32⟩
  | 106 => ⟨S512, .f32⟩
  | 107 => ⟨S_, .f32⟩
  | 108 => ⟨S2064x512, .f32⟩
  | 109 => ⟨S_, .i32⟩
  | 110 => ⟨S2064x512, .f32⟩
  | 111 => ⟨S2064x512, .f32⟩
  | 112 => ⟨S_, .i32⟩
  | 113 => ⟨S512, .f32⟩
  | 114 => ⟨S2064x512, .f32⟩
  | 115 => ⟨S_, .i32⟩
  | 116 => ⟨S_, .i1⟩
  | 117 => ⟨S_, .i32⟩
  | 118 => ⟨S1x512, .f32⟩
  | 119 => ⟨S512, .f32⟩
  | 120 => ⟨S_, .i32⟩
  | 121 => ⟨S1x512, .f32⟩
  | 122 => ⟨S512, .f32⟩
  | 123 => ⟨S512, .f32⟩
  | 124 => ⟨S512, .f32⟩
  | 125 => ⟨S1x512, .f32⟩
  | 126 => ⟨S_, .i32⟩
  | 127 => ⟨S2064x512, .f32⟩
  | _ => ⟨S2064x512, .f32⟩

abbrev hbmTy0_1 (i : Nat) : BufTy := match i % 128 with
  | 0 => ⟨S_, .i32⟩
  | 1 => ⟨S_, .i32⟩
  | 2 => ⟨S2064x512, .f32⟩
  | 3 => ⟨S2064x512, .f32⟩
  | 4 => ⟨S_, .f32⟩
  | 5 => ⟨S2064x512, .f32⟩
  | 6 => ⟨S2064x512, .f32⟩
  | 7 => ⟨S2064x512, .f32⟩
  | 8 => ⟨S_, .f32⟩
  | 9 => ⟨S2064x512, .f32⟩
  | 10 => ⟨S2064x512, .f32⟩
  | 11 => ⟨S2064x512, .f32⟩
  | 12 => ⟨S_, .f32⟩
  | 13 => ⟨S2064x512, .f32⟩
  | 14 => ⟨S2064x512, .f32⟩
  | 15 => ⟨S_, .f32⟩
  | 16 => ⟨S2064x512, .f32⟩
  | 17 => ⟨S2064x512, .f32⟩
  | 18 => ⟨S2064x512, .f32⟩
  | 19 => ⟨S2064x512, .f32⟩
  | 20 => ⟨S2064x512, .f32⟩
  | 21 => ⟨S_, .f32⟩
  | 22 => ⟨S2064, .f32⟩
  | 23 => ⟨S2064x1, .f32⟩
  | 24 => ⟨S_, .f32⟩
  | 25 => ⟨S2064x1, .f32⟩
  | 26 => ⟨S2064x1, .f32⟩
  | 27 => ⟨S_, .f32⟩
  | 28 => ⟨S2064x1, .f32⟩
  | 29 => ⟨S2064x1, .f32⟩
  | 30 => ⟨S2064x1, .f32⟩
  | 31 => ⟨S2064x512, .f32⟩
  | 32 => ⟨S2064x512, .f32⟩
  | 33 => ⟨S1x512, .f32⟩
  | 34 => ⟨S2064x512, .f32⟩
  | 35 => ⟨S2064x512, .f32⟩
  | 36 => ⟨S_, .f32⟩
  | 37 => ⟨S48x512, .f32⟩
  | 38 => ⟨S2112x512, .f32⟩
  | 39 => ⟨S2056x512, .f32⟩
  | 40 => ⟨S_, .f32⟩
  | 41 => ⟨S56x512, .f32⟩
  | 42 => ⟨S2112x512, .f32⟩
  | 43 => ⟨S11x192x512, .f32⟩
  | 44 => ⟨S11x8x512, .f32⟩
  | 45 => ⟨S1x11x8x512, .f32⟩
  | 46 => ⟨S2063x512, .f32⟩
  | 47 => ⟨S_, .f32⟩
  | 48 => ⟨S49x512, .f32⟩
  | 49 => ⟨S2112x512, .f32⟩
  | 50 => ⟨S11x192x512, .f32⟩
  | 51 => ⟨S11x1x512, .f32⟩
  | 52 => ⟨S1x11x1x512, .f32⟩
  | _ => ⟨S2064x512, .f32⟩

abbrev hbmTy (i : Nat) : BufTy := match i / 128 with
  | 0 => hbmTy0_0 i
  | 1 => hbmTy0_1 i
  | _ => ⟨S2064x512, .f32⟩

abbrev bufTy : (tb : Table) → Fin (tcTables nBuf tb) → BufTy
  | .hbm, ⟨i, _⟩ => hbmTy i
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_1 : Ref sig .tc := ⟨.hbm, 55, rfl⟩
abbrev main_v43 : Ref sig .tc := ⟨.hbm, 56, rfl⟩
abbrev main_v44 : Ref sig .tc := ⟨.hbm, 57, rfl⟩
abbrev main_cst_2 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_6 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_7 : Ref sig .tc := ⟨.hbm, 105, rfl⟩
abbrev main_v74 : Ref sig .tc := ⟨.hbm, 106, rfl⟩
abbrev main_cst_8 : Ref sig .tc := ⟨.hbm, 107, rfl⟩
abbrev main_v75 : Ref sig .tc := ⟨.hbm, 108, rfl⟩
abbrev main_c : Ref sig .tc := ⟨.hbm, 109, rfl⟩
abbrev main_v76_0 : Ref sig .tc := ⟨.hbm, 110, rfl⟩
abbrev main_v76_1 : Ref sig .tc := ⟨.hbm, 111, rfl⟩
abbrev main_v76_2 : Ref sig .tc := ⟨.hbm, 112, rfl⟩
abbrev main_v76_3 : Ref sig .tc := ⟨.hbm, 113, rfl⟩
abbrev main_v76_4 : Ref sig .tc := ⟨.hbm, 114, rfl⟩
abbrev main_while0c_c_23 : Ref sig .tc := ⟨.hbm, 115, rfl⟩
abbrev main_while0c_v118 : Ref sig .tc := ⟨.hbm, 116, rfl⟩
abbrev main_while0b_call1_c : Ref sig .tc := ⟨.hbm, 117, rfl⟩
abbrev main_while0b_call1_v0 : Ref sig .tc := ⟨.hbm, 118, rfl⟩
abbrev main_while0b_v118 : Ref sig .tc := ⟨.hbm, 119, rfl⟩
abbrev main_while0b_call2_c : Ref sig .tc := ⟨.hbm, 120, rfl⟩
abbrev main_while0b_call2_v0 : Ref sig .tc := ⟨.hbm, 121, rfl⟩
abbrev main_while0b_v119 : Ref sig .tc := ⟨.hbm, 122, rfl⟩
abbrev main_while0b_v120 : Ref sig .tc := ⟨.hbm, 123, rfl⟩
abbrev main_while0b_v121 : Ref sig .tc := ⟨.hbm, 124, rfl⟩
abbrev main_while0b_call3_v0 : Ref sig .tc := ⟨.hbm, 125, rfl⟩
abbrev main_while0b_call3_c : Ref sig .tc := ⟨.hbm, 126, rfl⟩
abbrev main_while0b_v122 : Ref sig .tc := ⟨.hbm, 127, rfl⟩
abbrev main_while0b_c_23 : Ref sig .tc := ⟨.hbm, 128, rfl⟩
abbrev main_while0b_v123 : Ref sig .tc := ⟨.hbm, 129, rfl⟩
abbrev main_v77 : Ref sig .tc := ⟨.hbm, 130, rfl⟩
abbrev main_v78 : Ref sig .tc := ⟨.hbm, 131, rfl⟩
abbrev main_cst_9 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst_10 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_11 : Ref sig .tc := ⟨.hbm, 140, rfl⟩
abbrev main_v85 : Ref sig .tc := ⟨.hbm, 141, rfl⟩
abbrev main_v86 : Ref sig .tc := ⟨.hbm, 142, rfl⟩
abbrev main_cst_12 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_13 : Ref sig .tc := ⟨.hbm, 149, rfl⟩
abbrev main_v92 : Ref sig .tc := ⟨.hbm, 150, rfl⟩
abbrev main_v93 : Ref sig .tc := ⟨.hbm, 151, rfl⟩
abbrev main_cst_14 : Ref sig .tc := ⟨.hbm, 152, rfl⟩
abbrev main_v94 : Ref sig .tc := ⟨.hbm, 153, rfl⟩
abbrev main_v95 : Ref sig .tc := ⟨.hbm, 154, rfl⟩
abbrev main_cst_15 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_16 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_17 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_cst_18 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩

abbrev nD : Nat := 1
abbrev τ : Topo := Topo.v7x

variable {F : FTy → Type} [FloatOps F]

abbrev main_while0_count : Scf.Loop 32 := ⟨0#32, 2064#32, 1#32⟩
-- ==== SsdFwd.lean ====
abbrev S2064x512 : Shape := ⟨2, ![2064, 512]⟩
abbrev S2064x1024 : Shape := ⟨2, ![2064, 1024]⟩
abbrev S2064x8 : Shape := ⟨2, ![2064, 8]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S2064x120 : Shape := ⟨2, ![2064, 120]⟩
abbrev S2064x128 : Shape := ⟨2, ![2064, 128]⟩
abbrev S2064x1664 : Shape := ⟨2, ![2064, 1664]⟩
abbrev S48x1664 : Shape := ⟨2, ![48, 1664]⟩
abbrev S2112x1664 : Shape := ⟨2, ![2112, 1664]⟩
abbrev S1x1024 : Shape := ⟨2, ![1, 1024]⟩
abbrev S1x8 : Shape := ⟨2, ![1, 8]⟩
abbrev S1x512 : Shape := ⟨2, ![1, 512]⟩
abbrev S2112x512 : Shape := ⟨2, ![2112, 512]⟩
abbrev S1x11x8x1024 : Shape := ⟨4, ![1, 11, 8, 1024]⟩
abbrev S1x11x512x128 : Shape := ⟨4, ![1, 11, 512, 128]⟩
abbrev S192x512 : Shape := ⟨2, ![192, 512]⟩
abbrev S192x1024 : Shape := ⟨2, ![192, 1024]⟩
abbrev S192x128 : Shape := ⟨2, ![192, 128]⟩
abbrev S1x1x8x1024 : Shape := ⟨4, ![1, 1, 8, 1024]⟩
abbrev S1x1x512x128 : Shape := ⟨4, ![1, 1, 512, 128]⟩
abbrev S8x1024 : Shape := ⟨2, ![8, 1024]⟩
abbrev S512x128 : Shape := ⟨2, ![512, 128]⟩
abbrev S192x1 : Shape := ⟨2, ![192, 1]⟩
abbrev S64x64 : Shape := ⟨2, ![64, 64]⟩
abbrev S200x1024 : Shape := ⟨2, ![200, 1024]⟩
abbrev S192x8 : Shape := ⟨2, ![192, 8]⟩
abbrev S64x128 : Shape := ⟨2, ![64, 128]⟩
abbrev S192x64 : Shape := ⟨2, ![192, 64]⟩
abbrev S64x1 : Shape := ⟨2, ![64, 1]⟩
abbrev S64x8 : Shape := ⟨2, ![64, 8]⟩
abbrev S8x64 : Shape := ⟨2, ![8, 64]⟩
abbrev S1x1 : Shape := ⟨2, ![1, 1]⟩
abbrev S1x64 : Shape := ⟨2, ![1, 64]⟩
abbrev S64x512 : Shape := ⟨2, ![64, 512]⟩
abbrev S192x256 : Shape := ⟨2, ![192, 256]⟩
abbrev S1x256 : Shape := ⟨2, ![1, 256]⟩
abbrev S192 : Shape := ⟨1, ![192]⟩

abbrev nBuf : Space → Nat
  | .hbm => 24
  | .vmem => 20
  | .smem => 0
  | _ => 0

abbrev bufTy : (tb : Table) → Fin (tcTables nBuf tb) → BufTy
  | .hbm, ⟨0, _⟩ => ⟨S2064x512, .f32⟩
  | .hbm, ⟨1, _⟩ => ⟨S2064x1024, .f32⟩
  | .hbm, ⟨2, _⟩ => ⟨S2064x8, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S_, .f32⟩
  | .hbm, ⟨10, _⟩ => ⟨S2064x120, .f32⟩
  | .hbm, ⟨11, _⟩ => ⟨S2064x128, .f32⟩
  | .hbm, ⟨12, _⟩ => ⟨S2064x1664, .f32⟩
  | .hbm, ⟨13, _⟩ => ⟨S_, .f32⟩
  | .hbm, ⟨14, _⟩ => ⟨S48x1664, .f32⟩
  | .hbm, ⟨15, _⟩ => ⟨S2112x1664, .f32⟩
  | .hbm, ⟨16, _⟩ => ⟨S1x1024, .f32⟩
  | .hbm, ⟨17, _⟩ => ⟨S1x8, .f32⟩
  | .hbm, ⟨18, _⟩ => ⟨S1x8, .f32⟩
  | .hbm, ⟨19, _⟩ => ⟨S1x8, .f32⟩
  | .hbm, ⟨20, _⟩ => ⟨S1x512, .f32⟩
  | .hbm, ⟨21, _⟩ => ⟨S2112x512, .f32⟩
  | .hbm, ⟨22, _⟩ => ⟨S1x11x8x1024, .f32⟩
  | .hbm, ⟨23, _⟩ => ⟨S1x11x512x128, .f32⟩
  | .local _ .vmem, ⟨0, _⟩ => ⟨S192x512, .f32⟩
  | .local _ .vmem, ⟨1, _⟩ => ⟨S192x512, .f32⟩
  | .local _ .vmem, ⟨2, _⟩ => ⟨S192x1024, .f32⟩
  | .local _ .vmem, ⟨3, _⟩ => ⟨S192x1024, .f32⟩
  | .local _ .vmem, ⟨4, _⟩ => ⟨S192x128, .f32⟩
  | .local _ .vmem, ⟨5, _⟩ => ⟨S192x128, .f32⟩
  | .local _ .vmem, ⟨6, _⟩ => ⟨S4x1024, .f32⟩
  | .local _ .vmem, ⟨7, _⟩ => ⟨S1x1024, .f32⟩
  | .local _ .vmem, ⟨8, _⟩ => ⟨S1x8, .f32⟩
  | .local _ .vmem, ⟨9, _⟩ => ⟨S1x8, .f32⟩
  | .local _ .vmem, ⟨10, _⟩ => ⟨S1x8, .f32⟩
  | .local _ .vmem, ⟨11, _⟩ => ⟨S1x512, .f32⟩
  | .local _ .vmem, ⟨12, _⟩ => ⟨S192x512, .f32⟩
  | .local _ .vmem, ⟨13, _⟩ => ⟨S192x512, .f32⟩
  | .local _ .vmem, ⟨14, _⟩ => ⟨S1x1x8x1024, .f32⟩
  | .local _ .vmem, ⟨15, _⟩ => ⟨S1x1x8x1024, .f32⟩
  | .local _ .vmem, ⟨16, _⟩ => ⟨S1x1x512x128, .f32⟩
  | .local _ .vmem, ⟨17, _⟩ => ⟨S1x1x512x128, .f32⟩
  | .local _ .vmem, ⟨18, _⟩ => ⟨S8x1024, .f32⟩
  | .local _ .vmem, ⟨19, _⟩ => ⟨S512x128, .f32⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg1.toNat, c12_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S192x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== SsdFwdIdeal.lean ====
variable {F : FTy → Type} [FloatOps F] [Named F]
def κ : String → Option EReal := fun
  | "mask" => some ⊥
  | _ => none
-- ==== SsdFwdRefIdeal.lean ====
abbrev S2064x512 : Shape := ⟨2, ![2064, 512]⟩
abbrev S2064x1024 : Shape := ⟨2, ![2064, 1024]⟩
abbrev S2064x8 : Shape := ⟨2, ![2064, 8]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S3x1024 : Shape := ⟨2, ![3, 1024]⟩
abbrev S2067x1024 : Shape := ⟨2, ![2067, 1024]⟩
abbrev S1x1024 : Shape := ⟨2, ![1, 1024]⟩
abbrev S2064x256 : Shape := ⟨2, ![2064, 256]⟩
abbrev S2064x8x64 : Shape := ⟨3, ![2064, 8, 64]⟩
abbrev S2064x2x128 : Shape := ⟨3, ![2064, 2, 128]⟩
abbrev S1x8 : Shape := ⟨2, ![1, 8]⟩
abbrev S2064x8x1 : Shape := ⟨3, ![2064, 8, 1]⟩
abbrev S48x8x64 : Shape := ⟨3, ![48, 8, 64]⟩
abbrev S2112x8x64 : Shape := ⟨3, ![2112, 8, 64]⟩
abbrev S48x8 : Shape := ⟨2, ![48, 8]⟩
abbrev S2112x8 : Shape := ⟨2, ![2112, 8]⟩
abbrev S48x2x128 : Shape := ⟨3, ![48, 2, 128]⟩
abbrev S2112x2x128 : Shape := ⟨3, ![2112, 2, 128]⟩
abbrev S33x64x2x4x64 : Shape := ⟨5, ![33, 64, 2, 4, 64]⟩
abbrev S33x64x2x4 : Shape := ⟨4, ![33, 64, 2, 4]⟩
abbrev S33x2x4x64 : Shape := ⟨4, ![33, 2, 4, 64]⟩
abbrev S33x64x2x128 : Shape := ⟨4, ![33, 64, 2, 128]⟩
abbrev S64x64 : Shape := ⟨2, ![64, 64]⟩
abbrev S33x2x4x64x1 : Shape := ⟨5, ![33, 2, 4, 64, 1]⟩
abbrev S33x2x4x1x64 : Shape := ⟨5, ![33, 2, 4, 1, 64]⟩
abbrev S33x2x4x64x64 : Shape := ⟨5, ![33, 2, 4, 64, 64]⟩
abbrev S33x2x64x64 : Shape := ⟨4, ![33, 2, 64, 64]⟩
abbrev S33x2x1x64x64 : Shape := ⟨5, ![33, 2, 1, 64, 64]⟩
abbrev S33x2x4x1 : Shape := ⟨4, ![33, 2, 4, 1]⟩
abbrev S33x64x2x4x1 : Shape := ⟨5, ![33, 64, 2, 4, 1]⟩
abbrev S33x2x4x64x128 : Shape := ⟨5, ![33, 2, 4, 64, 128]⟩
abbrev S33x2x4 : Shape := ⟨3, ![33, 2, 4]⟩
abbrev S1x2x4x64x128 : Shape := ⟨5, ![1, 2, 4, 64, 128]⟩
abbrev S2x4x64x128 : Shape := ⟨4, ![2, 4, 64, 128]⟩
abbrev S1x2x4 : Shape := ⟨3, ![1, 2, 4]⟩
abbrev S2x4 : Shape := ⟨2, ![2, 4]⟩
abbrev S2x4x1x1 : Shape := ⟨4, ![2, 4, 1, 1]⟩
abbrev S8x1 : Shape := ⟨2, ![8, 1]⟩
abbrev S1x8x1 : Shape := ⟨3, ![1, 8, 1]⟩
abbrev S2064x2x256 : Shape := ⟨3, ![2064, 2, 256]⟩
abbrev S2x256 : Shape := ⟨2, ![2, 256]⟩
abbrev S2064x2 : Shape := ⟨2, ![2064, 2]⟩
abbrev S2064x2x1 : Shape := ⟨3, ![2064, 2, 1]⟩
abbrev S1x2x256 : Shape := ⟨3, ![1, 2, 256]⟩
abbrev S2056x1024 : Shape := ⟨2, ![2056, 1024]⟩
abbrev S56x1024 : Shape := ⟨2, ![56, 1024]⟩
abbrev S2112x1024 : Shape := ⟨2, ![2112, 1024]⟩
abbrev S11x192x1024 : Shape := ⟨3, ![11, 192, 1024]⟩
abbrev S11x8x1024 : Shape := ⟨3, ![11, 8, 1024]⟩
abbrev S1x11x8x1024 : Shape := ⟨4, ![1, 11, 8, 1024]⟩
abbrev S48x512 : Shape := ⟨2, ![48, 512]⟩
abbrev S2112x512 : Shape := ⟨2, ![2112, 512]⟩
abbrev S11x3x512x128 : Shape := ⟨4, ![11, 3, 512, 128]⟩
abbrev S11x1x512x128 : Shape := ⟨4, ![11, 1, 512, 128]⟩
abbrev S11x512x128 : Shape := ⟨3, ![11, 512, 128]⟩
abbrev S1x11x512x128 : Shape := ⟨4, ![1, 11, 512, 128]⟩

abbrev nBuf : Space → Nat
  | .hbm => 240
  | .vmem => 0
  | .smem => 0
  | _ => 0

abbrev hbmTy0_0 (i : Nat) : BufTy := match i % 128 with
  | 0 => ⟨S2064x512, .f32⟩
  | 1 => ⟨S2064x1024, .f32⟩
  | 2 => ⟨S2064x8, .f32⟩
  | 3 => ⟨S4x1024, .f32⟩
  | 4 => ⟨S1024, .f32⟩
  | 5 => ⟨S8, .f32⟩
  | 6 => ⟨S8, .f32⟩
  | 7 => ⟨S8, .f32⟩
  | 8 => ⟨S512, .f32⟩
  | 9 => ⟨S_, .f32⟩
  | 10 => ⟨S3x1024, .f32⟩
  | 11 => ⟨S2067x1024, .f32⟩
  | 12 => ⟨S2064x1024, .f32⟩
  | 13 => ⟨S1x1024, .f32⟩
  | 14 => ⟨S1024, .f32⟩
  | 15 => ⟨S1x1024, .f32⟩
  | 16 => ⟨S2064x1024, .f32⟩
  | 17 => ⟨S2064x1024, .f32⟩
  | 18 => ⟨S_, .f32⟩
  | 19 => ⟨S2064x1024, .f32⟩
  | 20 => ⟨S2064x1024, .f32⟩
  | 21 => ⟨S2064x1024, .f32⟩
  | 22 => ⟨S1x1024, .f32⟩
  | 23 => ⟨S1024, .f32⟩
  | 24 => ⟨S1x1024, .f32⟩
  | 25 => ⟨S2064x1024, .f32⟩
  | 26 => ⟨S2064x1024, .f32⟩
  | 27 => ⟨S2064x1024, .f32⟩
  | 28 => ⟨S2064x1024, .f32⟩
  | 29 => ⟨S1x1024, .f32⟩
  | 30 => ⟨S1024, .f32⟩
  | 31 => ⟨S1x1024, .f32⟩
  | 32 => ⟨S2064x1024, .f32⟩
  | 33 => ⟨S2064x1024, .f32⟩
  | 34 => ⟨S2064x1024, .f32⟩
  | 35 => ⟨S2064x1024, .f32⟩
  | 36 => ⟨S1x1024, .f32⟩
  | 37 => ⟨S1024, .f32⟩
  | 38 => ⟨S1x1024, .f32⟩
  | 39 => ⟨S2064x1024, .f32⟩
  | 40 => ⟨S2064x1024, .f32⟩
  | 41 => ⟨S2064x1024, .f32⟩
  | 42 => ⟨S1x1024, .f32⟩
  | 43 => ⟨S2064x1024, .f32⟩
  | 44 => ⟨S2064x1024, .f32⟩
  | 45 => ⟨S2064x1024, .f32⟩
  | 46 => ⟨S2064x1024, .f32⟩
  | 47 => ⟨S_, .f32⟩
  | 48 => ⟨S2064x1024, .f32⟩
  | 49 => ⟨S2064x1024, .f32⟩
  | 50 => ⟨S_, .f32⟩
  | 51 => ⟨S2064x1024, .f32⟩
  | 52 => ⟨S2064x1024, .f32⟩
  | 53 => ⟨S2064x1024, .f32⟩
  | 54 => ⟨S2064x512, .f32⟩
  | 55 => ⟨S2064x256, .f32⟩
  | 56 => ⟨S2064x256, .f32⟩
  | 57 => ⟨S2064x8x64, .f32⟩
  | 58 => ⟨S2064x2x128, .f32⟩
  | 59 => ⟨S2064x2x128, .f32⟩
  | 60 => ⟨S1x8, .f32⟩
  | 61 => ⟨S2064x8, .f32⟩
  | 62 => ⟨S2064x8, .f32⟩
  | 63 => ⟨S_, .f32⟩
  | 64 => ⟨S2064x8, .f32⟩
  | 65 => ⟨S2064x8, .f32⟩
  | 66 => ⟨S2064x8, .f32⟩
  | 67 => ⟨S2064x8, .f32⟩
  | 68 => ⟨S2064x8, .i1⟩
  | 69 => ⟨S2064x8, .f32⟩
  | 70 => ⟨S2064x8, .f32⟩
  | 71 => ⟨S2064x8, .f32⟩
  | 72 => ⟨S2064x8, .f32⟩
  | 73 => ⟨S2064x8, .f32⟩
  | 74 => ⟨S2064x8, .f32⟩
  | 75 => ⟨S2064x8, .f32⟩
  | 76 => ⟨S2064x8, .f32⟩
  | 77 => ⟨S8, .f32⟩
  | 78 => ⟨S8, .f32⟩
  | 79 => ⟨S2064x8x1, .f32⟩
  | 80 => ⟨S2064x8x64, .f32⟩
  | 81 => ⟨S2064x8x64, .f32⟩
  | 82 => ⟨S1x8, .f32⟩
  | 83 => ⟨S2064x8, .f32⟩
  | 84 => ⟨S2064x8, .f32⟩
  | 85 => ⟨S_, .f32⟩
  | 86 => ⟨S48x8x64, .f32⟩
  | 87 => ⟨S2112x8x64, .f32⟩
  | 88 => ⟨S_, .f32⟩
  | 89 => ⟨S48x8, .f32⟩
  | 90 => ⟨S2112x8, .f32⟩
  | 91 => ⟨S_, .f32⟩
  | 92 => ⟨S48x2x128, .f32⟩
  | 93 => ⟨S2112x2x128, .f32⟩
  | 94 => ⟨S_, .f32⟩
  | 95 => ⟨S48x2x128, .f32⟩
  | 96 => ⟨S2112x2x128, .f32⟩
  | 97 => ⟨S33x64x2x4x64, .f32⟩
  | 98 => ⟨S33x64x2x4, .f32⟩
  | 99 => ⟨S33x2x4x64, .f32⟩
  | 100 => ⟨S33x64x2x128, .f32⟩
  | 101 => ⟨S33x64x2x128, .f32⟩
  | 102 => ⟨S_, .f32⟩
  | 103 => ⟨S_, .f32⟩
  | 104 => ⟨S33x2x4x64, .f32⟩
  | 105 => ⟨S_, .i1⟩
  | 106 => ⟨S64x64, .i1⟩
  | 107 => ⟨S64x64, .i32⟩
  | 108 => ⟨S_, .i32⟩
  | 109 => ⟨S64x64, .i32⟩
  | 110 => ⟨S64x64, .i32⟩
  | 111 => ⟨S64x64, .i32⟩
  | 112 => ⟨S64x64, .i1⟩
  | 113 => ⟨S_, .i1⟩
  | 114 => ⟨S64x64, .i1⟩
  | 115 => ⟨S64x64, .i1⟩
  | 116 => ⟨S33x2x4x64x1, .f32⟩
  | 117 => ⟨S33x2x4x1x64, .f32⟩
  | 118 => ⟨S33x2x4x64x64, .f32⟩
  | 119 => ⟨S33x2x4x64x64, .f32⟩
  | 120 => ⟨S33x2x4x64x64, .f32⟩
  | 121 => ⟨S_, .f32⟩
  | 122 => ⟨S_, .f32⟩
  | 123 => ⟨S33x2x4x64x64, .i1⟩
  | 124 => ⟨S33x2x4x64x64, .f32⟩
  | 125 => ⟨S33x2x4x64x64, .f32⟩
  | 126 => ⟨S33x2x4x64x64, .f32⟩
  | 127 => ⟨S33x2x64x64, .f32⟩
  | _ => ⟨S2064x512, .f32⟩

abbrev hbmTy0_1 (i : Nat) : BufTy := match i % 128 with
  | 0 => ⟨S33x2x1x64x64, .f32⟩
  | 1 => ⟨S33x2x4x64x64, .f32⟩
  | 2 => ⟨S33x2x4x64x64, .f32⟩
  | 3 => ⟨S33x2x4x64x64, .f32⟩
  | 4 => ⟨S33x64x2x4x64, .f32⟩
  | 5 => ⟨S33x2x4x1, .f32⟩
  | 6 => ⟨S33x2x4x64, .f32⟩
  | 7 => ⟨S33x2x4x64, .f32⟩
  | 8 => ⟨S33x2x4x64, .f32⟩
  | 9 => ⟨S33x64x2x4, .f32⟩
  | 10 => ⟨S33x64x2x4x1, .f32⟩
  | 11 => ⟨S33x64x2x4x64, .f32⟩
  | 12 => ⟨S33x64x2x4x64, .f32⟩
  | 13 => ⟨S33x2x4x64x128, .f32⟩
  | 14 => ⟨S33x2x4x1, .f32⟩
  | 15 => ⟨S33x2x4, .f32⟩
  | 16 => ⟨S33x2x4, .f32⟩
  | 17 => ⟨S1x2x4x64x128, .f32⟩
  | 18 => ⟨S2x4x64x128, .f32⟩
  | 19 => ⟨S_, .f32⟩
  | 20 => ⟨S2x4x64x128, .f32⟩
  | 21 => ⟨S_, .f32⟩
  | 22 => ⟨S33x2x4x64x128, .f32⟩
  | 23 => ⟨S_, .i32⟩
  | 24 => ⟨S33x2x4x64x128, .f32⟩
  | 25 => ⟨S33x2x4, .f32⟩
  | 26 => ⟨S_, .i32⟩
  | 27 => ⟨S2x4x64x128, .f32⟩
  | 28 => ⟨S33x2x4x64x128, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S1x2x4x64x128, .f32⟩
  | 36 => ⟨S2x4x64x128, .f32⟩
  | 37 => ⟨S_, .i32⟩
  | 38 => ⟨S_, .i32⟩
  | 39 => ⟨S1x2x4, .f32⟩
  | 40 => ⟨S2x4, .f32⟩
  | 41 => ⟨S2x4x1x1, .f32⟩
  | 42 => ⟨S2x4x64x128, .f32⟩
  | 43 => ⟨S2x4x64x128, .f32⟩
  | 44 => ⟨S2x4x64x128, .f32⟩
  | 45 => ⟨S1x2x4x64x128, .f32⟩
  | 46 => ⟨S_, .i32⟩
  | 47 => ⟨S_, .i32⟩
  | 48 => ⟨S_, .i32⟩
  | 49 => ⟨S_, .i32⟩
  | 50 => ⟨S33x2x4x64x128, .f32⟩
  | 51 => ⟨S_, .i32⟩
  | 52 => ⟨S_, .i32⟩
  | 53 => ⟨S33x2x4x64x64, .f32⟩
  | 54 => ⟨S33x64x2x4x64, .f32⟩
  | 55 => ⟨S33x2x4x64, .f32⟩
  | 56 => ⟨S33x64x2x4, .f32⟩
  | 57 => ⟨S33x64x2x4x1, .f32⟩
  | 58 => ⟨S33x64x2x4x64, .f32⟩
  | 59 => ⟨S33x64x2x4x64, .f32⟩
  | 60 => ⟨S33x64x2x4x64, .f32⟩
  | 61 => ⟨S2112x8x64, .f32⟩
  | 62 => ⟨S2064x8x64, .f32⟩
  | 63 => ⟨S8x1, .f32⟩
  | 64 => ⟨S1x8x1, .f32⟩
  | 65 => ⟨S2064x8x64, .f32⟩
  | 66 => ⟨S2064x8x64, .f32⟩
  | 67 => ⟨S2064x8x64, .f32⟩
  | 68 => ⟨S2064x2x256, .f32⟩
  | 69 => ⟨S2064x2x256, .f32⟩
  | 70 => ⟨S2064x2x256, .f32⟩
  | 71 => ⟨S2064x2x256, .f32⟩
  | 72 => ⟨S_, .f32⟩
  | 73 => ⟨S2064x2x256, .f32⟩
  | 74 => ⟨S2064x2x256, .f32⟩
  | 75 => ⟨S_, .f32⟩
  | 76 => ⟨S2064x2x256, .f32⟩
  | 77 => ⟨S2064x2x256, .f32⟩
  | 78 => ⟨S2064x2x256, .f32⟩
  | 79 => ⟨S2064x2x256, .f32⟩
  | 80 => ⟨S2x256, .f32⟩
  | 81 => ⟨S2064x2x256, .f32⟩
  | 82 => ⟨S_, .f32⟩
  | 83 => ⟨S2064x2, .f32⟩
  | 84 => ⟨S2064x2x1, .f32⟩
  | 85 => ⟨S_, .f32⟩
  | 86 => ⟨S2064x2x1, .f32⟩
  | 87 => ⟨S2064x2x1, .f32⟩
  | 88 => ⟨S_, .f32⟩
  | 89 => ⟨S2064x2x1, .f32⟩
  | 90 => ⟨S2064x2x1, .f32⟩
  | 91 => ⟨S2064x2x1, .f32⟩
  | 92 => ⟨S2064x2x256, .f32⟩
  | 93 => ⟨S2064x2x256, .f32⟩
  | 94 => ⟨S1x2x256, .f32⟩
  | 95 => ⟨S2064x2x256, .f32⟩
  | 96 => ⟨S2064x2x256, .f32⟩
  | 97 => ⟨S2064x512, .f32⟩
  | 98 => ⟨S2056x1024, .f32⟩
  | 99 => ⟨S_, .f32⟩
  | 100 => ⟨S56x1024, .f32⟩
  | 101 => ⟨S2112x1024, .f32⟩
  | 102 => ⟨S11x192x1024, .f32⟩
  | 103 => ⟨S11x8x1024, .f32⟩
  | 104 => ⟨S1x11x8x1024, .f32⟩
  | 105 => ⟨S_, .f32⟩
  | 106 => ⟨S48x512, .f32⟩
  | 107 => ⟨S2112x512, .f32⟩
  | 108 => ⟨S11x3x512x128, .f32⟩
  | 109 => ⟨S11x1x512x128, .f32⟩
  | 110 => ⟨S11x512x128, .f32⟩
  | 111 => ⟨S1x11x512x128, .f32⟩
  | _ => ⟨S2064x512, .f32⟩

abbrev hbmTy (i : Nat) : BufTy := match i / 128 with
  | 0 => hbmTy0_0 i
  | 1 => hbmTy0_1 i
  | _ => ⟨S2064x512, .f32⟩

abbrev bufTy : (tb : Table) → Fin (tcTables nBuf tb) → BufTy
  | .hbm, ⟨i, _⟩ => hbmTy i
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_1 : Ref sig .tc := ⟨.hbm, 85, rfl⟩
abbrev main_v53 : Ref sig .tc := ⟨.hbm, 86, rfl⟩
abbrev main_v54 : Ref sig .tc := ⟨.hbm, 87, rfl⟩
abbrev main_cst_2 : Ref sig .tc := ⟨.hbm, 88, rfl⟩
abbrev main_v55 : Ref sig .tc := ⟨.hbm, 89, rfl⟩
abbrev main_v56 : Ref sig .tc := ⟨.hbm, 90, rfl⟩
abbrev main_cst_3 : Ref sig .tc := ⟨.hbm, 91, rfl⟩
abbrev main_v57 : Ref sig .tc := ⟨.hbm, 92, rfl⟩
abbrev main_v58 : Ref sig .tc := ⟨.hbm, 93, rfl⟩
abbrev main_cst_4 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call2_call0_cst : Ref sig .tc := ⟨.hbm, 102, rfl⟩
abbrev main_call2_call0_v0 : Ref sig .tc := ⟨.hbm, 103, rfl⟩
abbrev main_v66 : Ref sig .tc := ⟨.hbm, 104, rfl⟩
abbrev main_c : Ref sig .tc := ⟨.hbm, 105, rfl⟩
abbrev main_v67 : Ref sig .tc := ⟨.hbm, 106, rfl⟩
abbrev main_call3_v0 : Ref sig .tc := ⟨.hbm, 107, rfl⟩
abbrev main_call3_c : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_c_0 : Ref sig .tc := ⟨.hbm, 113, rfl⟩
abbrev main_call3_v5 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_5 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_6 : Ref sig .tc := ⟨.hbm, 147, rfl⟩
abbrev main_v96 : Ref sig .tc := ⟨.hbm, 148, rfl⟩
abbrev main_cst_7 : Ref sig .tc := ⟨.hbm, 149, rfl⟩
abbrev main_v97 : Ref sig .tc := ⟨.hbm, 150, rfl⟩
abbrev main_c_8 : Ref sig .tc := ⟨.hbm, 151, rfl⟩
abbrev main_v98_0 : Ref sig .tc := ⟨.hbm, 152, rfl⟩
abbrev main_v98_1 : Ref sig .tc := ⟨.hbm, 153, rfl⟩
abbrev main_v98_2 : Ref sig .tc := ⟨.hbm, 154, rfl⟩
abbrev main_v98_3 : Ref sig .tc := ⟨.hbm, 155, rfl⟩
abbrev main_v98_4 : Ref sig .tc := ⟨.hbm, 156, rfl⟩
abbrev main_while0c_c_18 : Ref sig .tc := ⟨.hbm, 157, rfl⟩
abbrev main_while0c_v145 : Ref sig .tc := ⟨.hbm, 158, rfl⟩
abbrev main_while0b_call5_c : Ref sig .tc := ⟨.hbm, 159, rfl⟩
abbrev main_while0b_call5_c_0 : Ref sig .tc := ⟨.hbm, 160, rfl⟩
abbrev main_while0b_call5_c_1 : Ref sig .tc := ⟨.hbm, 161, rfl⟩
abbrev main_while0b_call5_c_2 : Ref sig .tc := ⟨.hbm, 162, rfl⟩
abbrev main_while0b_call5_v0 : Ref sig .tc := ⟨.hbm, 163, rfl⟩
abbrev main_while0b_v145 : Ref sig .tc := ⟨.hbm, 164, rfl⟩
abbrev main_while0b_call6_c : Ref sig .tc := ⟨.hbm, 165, rfl⟩
abbrev main_while0b_call6_c_0 : Ref sig .tc := ⟨.hbm, 166, rfl⟩
abbrev main_while0b_call6_v0 : Ref sig .tc := ⟨.hbm, 167, rfl⟩
abbrev main_while0b_v146 : Ref sig .tc := ⟨.hbm, 168, rfl⟩
abbrev main_while0b_v147 : Ref sig .tc := ⟨.hbm, 169, rfl⟩
abbrev main_while0b_v148 : Ref sig .tc := ⟨.hbm, 170, rfl⟩
abbrev main_while0b_v149 : Ref sig .tc := ⟨.hbm, 171, rfl⟩
abbrev main_while0b_v150 : Ref sig .tc := ⟨.hbm, 172, rfl⟩
abbrev main_while0b_call7_v0 : Ref sig .tc := ⟨.hbm, 173, rfl⟩
abbrev main_while0b_call7_c : Ref sig .tc := ⟨.hbm, 174, rfl⟩
abbrev main_while0b_call7_c_0 : Ref sig .tc := ⟨.hbm, 175, rfl⟩
abbrev main_while0b_call7_c_1 : Ref sig .tc := ⟨.hbm, 176, rfl⟩
abbrev main_while0b_call7_c_2 : Ref sig .tc := ⟨.hbm, 177, rfl⟩
abbrev main_while0b_v151 : Ref sig .tc := ⟨.hbm, 178, rfl⟩
abbrev main_while0b_c_18 : Ref sig .tc := ⟨.hbm, 179, rfl⟩
abbrev main_while0b_v152 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_call8_v0 : Ref sig .tc := ⟨.hbm, 198, rfl⟩
abbrev main_call8_v1 : Ref sig .tc := ⟨.hbm, 199, rfl⟩
abbrev main_call8_cst : Ref sig .tc := ⟨.hbm, 200, rfl⟩
abbrev main_call8_v2 : Ref sig .tc := ⟨.hbm, 201, rfl⟩
abbrev main_call8_v3 : Ref sig .tc := ⟨.hbm, 202, rfl⟩
abbrev main_call8_cst_0 : Ref sig .tc := ⟨.hbm, 203, rfl⟩
abbrev main_call8_v4 : Ref sig .tc := ⟨.hbm, 204, rfl⟩
abbrev main_call8_v5 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_cst_9 : Ref sig .tc := ⟨.hbm, 210, rfl⟩
abbrev main_v120 : Ref sig .tc := ⟨.hbm, 211, rfl⟩
abbrev main_v121 : Ref sig .tc := ⟨.hbm, 212, rfl⟩
abbrev main_cst_10 : Ref sig .tc := ⟨.hbm, 213, rfl⟩
abbrev main_v122 : Ref sig .tc := ⟨.hbm, 214, rfl⟩
abbrev main_v123 : Ref sig .tc := ⟨.hbm, 215, rfl⟩
abbrev main_cst_11 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_cst_12 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_cst_13 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩

abbrev nD : Nat := 1
abbrev τ : Topo := Topo.v7x

variable {F : FTy → Type} [FloatOps F]

abbrev main_while0_count : Scf.Loop 32 := ⟨0#32, 33#32, 1#32⟩
-- ==== GdnFwd.lean ====
abbrev S2064x1536 : Shape := ⟨2, ![2064, 1536]⟩
abbrev S2064x512 : Shape := ⟨2, ![2064, 512]⟩
abbrev S2064x4 : Shape := ⟨2, ![2064, 4]⟩
abbrev S4x1536 : Shape := ⟨2, ![4, 1536]⟩
abbrev S4 : Shape := ⟨1, ![4]⟩
abbrev S128 : Shape := ⟨1, ![128]⟩
abbrev S_ : Shape := ⟨0, ![]⟩
abbrev S2064x120 : Shape := ⟨2, ![2064, 120]⟩
abbrev S2064x128 : Shape := ⟨2, ![2064, 128]⟩
abbrev S2064x2176 : Shape := ⟨2, ![2064, 2176]⟩
abbrev S48x2176 : Shape := ⟨2, ![48, 2176]⟩
abbrev S2112x2176 : Shape := ⟨2, ![2112, 2176]⟩
abbrev S4x512 : Shape := ⟨2, ![4, 512]⟩
abbrev S1x4 : Shape := ⟨2, ![1, 4]⟩
abbrev S1x128 : Shape := ⟨2, ![1, 128]⟩
abbrev S2112x512 : Shape := ⟨2, ![2112, 512]⟩
abbrev S1x11x8x512 : Shape := ⟨4, ![1, 11, 8, 512]⟩
abbrev S1x11x512x128 : Shape := ⟨4, ![1, 11, 512, 128]⟩
abbrev S192x512 : Shape := ⟨2, ![192, 512]⟩
abbrev S192x128 : Shape := ⟨2, ![192, 128]⟩
abbrev S1x1x8x512 : Shape := ⟨4, ![1, 1, 8, 512]⟩
abbrev S1x1x512x128 : Shape := ⟨4, ![1, 1, 512, 128]⟩
abbrev S8x512 : Shape := ⟨2, ![8, 512]⟩
abbrev S512x128 : Shape := ⟨2, ![512, 128]⟩
abbrev S192x1 : Shape := ⟨2, ![192, 1]⟩
abbrev S64x64 : Shape := ⟨2, ![64, 64]⟩
abbrev S200x512 : Shape := ⟨2, ![200, 512]⟩
abbrev S1x512 : Shape := ⟨2, ![1, 512]⟩
abbrev S192x4 : Shape := ⟨2, ![192, 4]⟩
abbrev S192 : Shape := ⟨1, ![192]⟩
abbrev S64x128 : Shape := ⟨2, ![64, 128]⟩
abbrev S64x4 : Shape := ⟨2, ![64, 4]⟩
abbrev S64x1 : Shape := ⟨2, ![64, 1]⟩
abbrev S4x64 : Shape := ⟨2, ![4, 64]⟩
abbrev S1x64 : Shape := ⟨2, ![1, 64]⟩
abbrev S1x1 : Shape := ⟨2, ![1, 1]⟩
abbrev S128x128 : Shape := ⟨2, ![128, 128]⟩
abbrev S64 : Shape := ⟨1, ![64]⟩
abbrev S64x512 : Shape := ⟨2, ![64, 512]⟩

abbrev nBuf : Space → Nat
  | .hbm => 26
  | .vmem => 30
  | .smem => 0
  | _ => 0

abbrev bufTy : (tb : Table) → Fin (tcTables nBuf tb) → BufTy
  | .hbm, ⟨0, _⟩ => ⟨S2064x1536, .f32⟩
  | .hbm, ⟨1, _⟩ => ⟨S2064x512, .f32⟩
  | .hbm, ⟨2, _⟩ => ⟨S2064x4, .f32⟩
  | .hbm, ⟨3, _⟩ => ⟨S2064x4, .f32⟩
  | .hbm, ⟨4, _⟩ => ⟨S4x1536, .f32⟩
  | .hbm, ⟨5, _⟩ => ⟨S4, .f32⟩
  | .hbm, ⟨6, _⟩ => ⟨S4, .f32⟩
  | .hbm, ⟨7, _⟩ => ⟨S128, .f32⟩
  | .hbm, ⟨8, _⟩ => ⟨S_, .f32⟩
  | .hbm, ⟨9, _⟩ => ⟨S2064x120, .f32⟩
  | .hbm, ⟨10, _⟩ => ⟨S2064x128, .f32⟩
  | .hbm, ⟨11, _⟩ => ⟨S2064x2176, .f32⟩
  | .hbm, ⟨12, _⟩ => ⟨S_, .f32⟩
  | .hbm, ⟨13, _⟩ => ⟨S48x2176, .f32⟩
  | .hbm, ⟨14, _⟩ => ⟨S2112x2176, .f32⟩
  | .hbm, ⟨15, _⟩ => ⟨S4x512, .f32⟩
  | .hbm, ⟨16, _⟩ => ⟨S4x512, .f32⟩
  | .hbm, ⟨17, _⟩ => ⟨S4x512, .f32⟩
  | .hbm, ⟨18, _⟩ => ⟨S1x4, .f32⟩
  | .hbm, ⟨19, _⟩ => ⟨S1x4, .f32⟩
  | .hbm, ⟨20, _⟩ => ⟨S1x128, .f32⟩
  | .hbm, ⟨21, _⟩ => ⟨S2112x512, .f32⟩
  | .hbm, ⟨22, _⟩ => ⟨S1x11x8x512, .f32⟩
  | .hbm, ⟨23, _⟩ => ⟨S1x11x8x512, .f32⟩
  | .hbm, ⟨24, _⟩ => ⟨S1x11x8x512, .f32⟩
  | .hbm, ⟨25, _⟩ => ⟨S1x11x512x128, .f32⟩
  | .local _ .vmem, ⟨0, _⟩ => ⟨S192x512, .f32⟩
  | .local _ .vmem, ⟨1, _⟩ => ⟨S192x512, .f32⟩
  | .local _ .vmem, ⟨2, _⟩ => ⟨S192x512, .f32⟩
  | .local _ .vmem, ⟨3, _⟩ => ⟨S192x512, .f32⟩
  | .local _ .vmem, ⟨4, _⟩ => ⟨S192x512, .f32⟩
  | .local _ .vmem, ⟨5, _⟩ => ⟨S192x512, .f32⟩
  | .local _ .vmem, ⟨6, _⟩ => ⟨S192x512, .f32⟩
  | .local _ .vmem, ⟨7, _⟩ => ⟨S192x512, .f32⟩
  | .local _ .vmem, ⟨8, _⟩ => ⟨S192x128, .f32⟩
  | .local _ .vmem, ⟨9, _⟩ => ⟨S192x128, .f32⟩
  | .local _ .vmem, ⟨10, _⟩ => ⟨S4x512, .f32⟩
  | .local _ .vmem, ⟨11, _⟩ => ⟨S4x512, .f32⟩
  | .local _ .vmem, ⟨12, _⟩ => ⟨S4x512, .f32⟩
  | .local _ .vmem, ⟨13, _⟩ => ⟨S1x4, .f32⟩
  | .local _ .vmem, ⟨14, _⟩ => ⟨S1x4, .f32⟩
  | .local _ .vmem, ⟨15, _⟩ => ⟨S1x128, .f32⟩
  | .local _ .vmem, ⟨16, _⟩ => ⟨S192x512, .f32⟩
  | .local _ .vmem, ⟨17, _⟩ => ⟨S192x512, .f32⟩
  | .local _ .vmem, ⟨18, _⟩ => ⟨S1x1x8x512, .f32⟩
  | .local _ .vmem, ⟨19, _⟩ => ⟨S1x1x8x512, .f32⟩
  | .local _ .vmem, ⟨20, _⟩ => ⟨S1x1x8x512, .f32⟩
  | .local _ .vmem, ⟨21, _⟩ => ⟨S1x1x8x512, .f32⟩
  | .local _ .vmem, ⟨22, _⟩ => ⟨S1x1x8x512, .f32⟩
  | .local _ .vmem, ⟨23, _⟩ => ⟨S1x1x8x512, .f32⟩
  | .local _ .vmem, ⟨24, _⟩ => ⟨S1x1x512x128, .f32⟩
  | .local _ .vmem, ⟨25, _⟩ => ⟨S1x1x512x128, .f32⟩
  | .local _ .vmem, ⟨26, _⟩ => ⟨S8x512, .f32⟩
  | .local _ .vmem, ⟨27, _⟩ => ⟨S8x512, .f32⟩
  | .local _ .vmem, ⟨28, _⟩ => ⟨S8x512, .f32⟩
  | .local _ .vmem, ⟨29, _⟩ => ⟨S512x128, .f32⟩
  | _, _ => ⟨S2064x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg1.toNat, c16_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S192x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== GdnFwdIdeal.lean ====
variable {F : FTy → Type} [FloatOps F] [Named F]
def κ : String → Option EReal := fun
  | "mask" => some ⊥
  | _ => none
-- ==== GdnFwdRefIdeal.lean ====
abbrev S2064x1536 : Shape := ⟨2, ![2064, 1536]⟩
abbrev S2064x512 : Shape := ⟨2, ![2064, 512]⟩
abbrev S2064x4 : Shape := ⟨2, ![2064, 4]⟩
abbrev S4x1536 : Shape := ⟨2, ![4, 1536]⟩
abbrev S4 : Shape := ⟨1, ![4]⟩
abbrev S128 : Shape := ⟨1, ![128]⟩
abbrev S_ : Shape := ⟨0, ![]⟩
abbrev S3x1536 : Shape := ⟨2, ![3, 1536]⟩
abbrev S2067x1536 : Shape := ⟨2, ![2067, 1536]⟩
abbrev S1x1536 : Shape := ⟨2, ![1, 1536]⟩
abbrev S1536 : Shape := ⟨1, ![1536]⟩
abbrev S2064x4x128 : Shape := ⟨3, ![2064, 4, 128]⟩
abbrev S2064x4x1 : Shape := ⟨3, ![2064, 4, 1]⟩
abbrev S1x4 : Shape := ⟨2, ![1, 4]⟩
abbrev S4x128x128 : Shape := ⟨3, ![4, 128, 128]⟩
abbrev S2064x4x128x128 : Shape := ⟨4, ![2064, 4, 128, 128]⟩
abbrev S1x4x128 : Shape := ⟨3, ![1, 4, 128]⟩
abbrev S4x128 : Shape := ⟨2, ![4, 128]⟩
abbrev S4x1x1 : Shape := ⟨3, ![4, 1, 1]⟩
abbrev S4x1 : Shape := ⟨2, ![4, 1]⟩
abbrev S4x128x1 : Shape := ⟨3, ![4, 128, 1]⟩
abbrev S4x1x128 : Shape := ⟨3, ![4, 1, 128]⟩
abbrev S1x4x128x128 : Shape := ⟨4, ![1, 4, 128, 128]⟩
abbrev S1x1x128 : Shape := ⟨3, ![1, 1, 128]⟩
abbrev S2056x1536 : Shape := ⟨2, ![2056, 1536]⟩
abbrev S56x1536 : Shape := ⟨2, ![56, 1536]⟩
abbrev S2112x1536 : Shape := ⟨2, ![2112, 1536]⟩
abbrev S11x192x3x512 : Shape := ⟨4, ![11, 192, 3, 512]⟩
abbrev S11x8x3x512 : Shape := ⟨4, ![11, 8, 3, 512]⟩
abbrev S3x11x8x512 : Shape := ⟨4, ![3, 11, 8, 512]⟩
abbrev S3x1x11x8x512 : Shape := ⟨5, ![3, 1, 11, 8, 512]⟩
abbrev S2064x65536 : Shape := ⟨2, ![2064, 65536]⟩
abbrev S2063x65536 : Shape := ⟨2, ![2063, 65536]⟩
abbrev S49x65536 : Shape := ⟨2, ![49, 65536]⟩
abbrev S2112x65536 : Shape := ⟨2, ![2112, 65536]⟩
abbrev S11x192x65536 : Shape := ⟨3, ![11, 192, 65536]⟩
abbrev S11x1x65536 : Shape := ⟨3, ![11, 1, 65536]⟩
abbrev S11x65536 : Shape := ⟨2, ![11, 65536]⟩
abbrev S1x11x512x128 : Shape := ⟨4, ![1, 11, 512, 128]⟩
abbrev S48x512 : Shape := ⟨2, ![48, 512]⟩
abbrev S2112x512 : Shape := ⟨2, ![2112, 512]⟩
abbrev S1x1x11x8x512 : Shape := ⟨5, ![1, 1, 11, 8, 512]⟩
abbrev S1x11x8x512 : Shape := ⟨4, ![1, 11, 8, 512]⟩

abbrev nBuf : Space → Nat
  | .hbm => 226
  | .vmem => 0
  | .smem => 0
  | _ => 0

abbrev hbmTy0_0 (i : Nat) : BufTy := match i % 128 with
  | 0 => ⟨S2064x1536, .f32⟩
  | 1 => ⟨S2064x512, .f32⟩
  | 2 => ⟨S2064x4, .f32⟩
  | 3 => ⟨S2064x4, .f32⟩
  | 4 => ⟨S4x1536, .f32⟩
  | 5 => ⟨S4, .f32⟩
  | 6 => ⟨S4, .f32⟩
  | 7 => ⟨S128, .f32⟩
  | 8 => ⟨S_, .f32⟩
  | 9 => ⟨S3x1536, .f32⟩
  | 10 => ⟨S2067x1536, .f32⟩
  | 11 => ⟨S2064x1536, .f32⟩
  | 12 => ⟨S1x1536, .f32⟩
  | 13 => ⟨S1536, .f32⟩
  | 14 => ⟨S1x1536, .f32⟩
  | 15 => ⟨S2064x1536, .f32⟩
  | 16 => ⟨S2064x1536, .f32⟩
  | 17 => ⟨S_, .f32⟩
  | 18 => ⟨S2064x1536, .f32⟩
  | 19 => ⟨S2064x1536, .f32⟩
  | 20 => ⟨S2064x1536, .f32⟩
  | 21 => ⟨S1x1536, .f32⟩
  | 22 => ⟨S1536, .f32⟩
  | 23 => ⟨S1x1536, .f32⟩
  | 24 => ⟨S2064x1536, .f32⟩
  | 25 => ⟨S2064x1536, .f32⟩
  | 26 => ⟨S2064x1536, .f32⟩
  | 27 => ⟨S2064x1536, .f32⟩
  | 28 => ⟨S1x1536, .f32⟩
  | 29 => ⟨S1536, .f32⟩
  | 30 => ⟨S1x1536, .f32⟩
  | 31 => ⟨S2064x1536, .f32⟩
  | 32 => ⟨S2064x1536, .f32⟩
  | 33 => ⟨S2064x1536, .f32⟩
  | 34 => ⟨S2064x1536, .f32⟩
  | 35 => ⟨S1x1536, .f32⟩
  | 36 => ⟨S1536, .f32⟩
  | 37 => ⟨S1x1536, .f32⟩
  | 38 => ⟨S2064x1536, .f32⟩
  | 39 => ⟨S2064x1536, .f32⟩
  | 40 => ⟨S2064x1536, .f32⟩
  | 41 => ⟨S2064x1536, .f32⟩
  | 42 => ⟨S2064x1536, .f32⟩
  | 43 => ⟨S_, .f32⟩
  | 44 => ⟨S2064x1536, .f32⟩
  | 45 => ⟨S2064x1536, .f32⟩
  | 46 => ⟨S_, .f32⟩
  | 47 => ⟨S2064x1536, .f32⟩
  | 48 => ⟨S2064x1536, .f32⟩
  | 49 => ⟨S2064x1536, .f32⟩
  | 50 => ⟨S2064x512, .f32⟩
  | 51 => ⟨S2064x512, .f32⟩
  | 52 => ⟨S2064x512, .f32⟩
  | 53 => ⟨S2064x4x128, .f32⟩
  | 54 => ⟨S2064x4x128, .f32⟩
  | 55 => ⟨S2064x4x128, .f32⟩
  | 56 => ⟨S2064x4x128, .f32⟩
  | 57 => ⟨S_, .f32⟩
  | 58 => ⟨S2064x4, .f32⟩
  | 59 => ⟨S2064x4x1, .f32⟩
  | 60 => ⟨S_, .f32⟩
  | 61 => ⟨S2064x4x1, .f32⟩
  | 62 => ⟨S2064x4x1, .f32⟩
  | 63 => ⟨S2064x4x1, .f32⟩
  | 64 => ⟨S2064x4x128, .f32⟩
  | 65 => ⟨S2064x4x128, .f32⟩
  | 66 => ⟨S_, .f32⟩
  | 67 => ⟨S2064x4x128, .f32⟩
  | 68 => ⟨S2064x4x128, .f32⟩
  | 69 => ⟨S2064x4x128, .f32⟩
  | 70 => ⟨S_, .f32⟩
  | 71 => ⟨S2064x4, .f32⟩
  | 72 => ⟨S2064x4x1, .f32⟩
  | 73 => ⟨S_, .f32⟩
  | 74 => ⟨S2064x4x1, .f32⟩
  | 75 => ⟨S2064x4x1, .f32⟩
  | 76 => ⟨S2064x4x1, .f32⟩
  | 77 => ⟨S2064x4x128, .f32⟩
  | 78 => ⟨S2064x4x128, .f32⟩
  | 79 => ⟨S2064x4, .f32⟩
  | 80 => ⟨S2064x4, .f32⟩
  | 81 => ⟨S_, .f32⟩
  | 82 => ⟨S2064x4, .f32⟩
  | 83 => ⟨S2064x4, .f32⟩
  | 84 => ⟨S_, .f32⟩
  | 85 => ⟨S2064x4, .f32⟩
  | 86 => ⟨S2064x4, .f32⟩
  | 87 => ⟨S4, .f32⟩
  | 88 => ⟨S4, .f32⟩
  | 89 => ⟨S1x4, .f32⟩
  | 90 => ⟨S2064x4, .f32⟩
  | 91 => ⟨S2064x4, .f32⟩
  | 92 => ⟨S_, .f32⟩
  | 93 => ⟨S2064x4, .f32⟩
  | 94 => ⟨S2064x4, .f32⟩
  | 95 => ⟨S2064x4, .f32⟩
  | 96 => ⟨S2064x4, .f32⟩
  | 97 => ⟨S2064x4, .i1⟩
  | 98 => ⟨S2064x4, .f32⟩
  | 99 => ⟨S2064x4, .f32⟩
  | 100 => ⟨S2064x4, .f32⟩
  | 101 => ⟨S2064x4, .f32⟩
  | 102 => ⟨S2064x4, .f32⟩
  | 103 => ⟨S2064x4, .f32⟩
  | 104 => ⟨S2064x4, .f32⟩
  | 105 => ⟨S2064x4, .f32⟩
  | 106 => ⟨S1x4, .f32⟩
  | 107 => ⟨S2064x4, .f32⟩
  | 108 => ⟨S2064x4, .f32⟩
  | 109 => ⟨S_, .f32⟩
  | 110 => ⟨S4x128x128, .f32⟩
  | 111 => ⟨S_, .f32⟩
  | 112 => ⟨S2064x4x128x128, .f32⟩
  | 113 => ⟨S_, .f32⟩
  | 114 => ⟨S2064x4x128, .f32⟩
  | 115 => ⟨S_, .i32⟩
  | 116 => ⟨S2064x4x128, .f32⟩
  | 117 => ⟨S2064x4x128, .f32⟩
  | 118 => ⟨S2064x4x128, .f32⟩
  | 119 => ⟨S2064x4, .f32⟩
  | 120 => ⟨S2064x4, .f32⟩
  | 121 => ⟨S_, .i32⟩
  | 122 => ⟨S4x128x128, .f32⟩
  | 123 => ⟨S2064x4x128x128, .f32⟩
  | 124 => ⟨S2064x4x128, .f32⟩
  | 125 => ⟨S_, .i32⟩
  | 126 => ⟨S_, .i1⟩
  | 127 => ⟨S_, .i32⟩
  | _ => ⟨S2064x1536, .f32⟩

abbrev hbmTy0_1 (i : Nat) : BufTy := match i % 128 with
  | 0 => ⟨S_, .i32⟩
  | 1 => ⟨S1x4x128, .f32⟩
  | 2 => ⟨S4x128, .f32⟩
  | 3 => ⟨S_, .i32⟩
  | 4 => ⟨S_, .i32⟩
  | 5 => ⟨S1x4x128, .f32⟩
  | 6 => ⟨S4x128, .f32⟩
  | 7 => ⟨S_, .i32⟩
  | 8 => ⟨S_, .i32⟩
  | 9 => ⟨S1x4x128, .f32⟩
  | 10 => ⟨S4x128, .f32⟩
  | 11 => ⟨S_, .i32⟩
  | 12 => ⟨S1x4, .f32⟩
  | 13 => ⟨S4, .f32⟩
  | 14 => ⟨S_, .i32⟩
  | 15 => ⟨S1x4, .f32⟩
  | 16 => ⟨S4, .f32⟩
  | 17 => ⟨S4, .f32⟩
  | 18 => ⟨S4x1x1, .f32⟩
  | 19 => ⟨S4x128x128, .f32⟩
  | 20 => ⟨S4x128x128, .f32⟩
  | 21 => ⟨S4x1, .f32⟩
  | 22 => ⟨S4x128, .f32⟩
  | 23 => ⟨S4x128, .f32⟩
  | 24 => ⟨S4x128, .f32⟩
  | 25 => ⟨S4x128, .f32⟩
  | 26 => ⟨S4x128x1, .f32⟩
  | 27 => ⟨S4x1x128, .f32⟩
  | 28 => ⟨S4x128x128, .f32⟩
  | 29 => ⟨S4x128x128, .f32⟩
  | 30 => ⟨S4x128x128, .f32⟩
  | 31 => ⟨S4x128x128, .f32⟩
  | 32 => ⟨S4x128, .f32⟩
  | 33 => ⟨S1x4x128x128, .f32⟩
  | 34 => ⟨S_, .i32⟩
  | 35 => ⟨S_, .i32⟩
  | 36 => ⟨S_, .i32⟩
  | 37 => ⟨S2064x4x128x128, .f32⟩
  | 38 => ⟨S1x4x128, .f32⟩
  | 39 => ⟨S_, .i32⟩
  | 40 => ⟨S_, .i32⟩
  | 41 => ⟨S2064x4x128, .f32⟩
  | 42 => ⟨S_, .i32⟩
  | 43 => ⟨S_, .i32⟩
  | 44 => ⟨S2064x4x128, .f32⟩
  | 45 => ⟨S_, .f32⟩
  | 46 => ⟨S2064x4, .f32⟩
  | 47 => ⟨S2064x4x1, .f32⟩
  | 48 => ⟨S_, .f32⟩
  | 49 => ⟨S2064x4x1, .f32⟩
  | 50 => ⟨S2064x4x1, .f32⟩
  | 51 => ⟨S_, .f32⟩
  | 52 => ⟨S2064x4x1, .f32⟩
  | 53 => ⟨S2064x4x1, .f32⟩
  | 54 => ⟨S2064x4x1, .f32⟩
  | 55 => ⟨S2064x4x128, .f32⟩
  | 56 => ⟨S2064x4x128, .f32⟩
  | 57 => ⟨S1x1x128, .f32⟩
  | 58 => ⟨S2064x4x128, .f32⟩
  | 59 => ⟨S2064x4x128, .f32⟩
  | 60 => ⟨S2064x4x128, .f32⟩
  | 61 => ⟨S2064x4x128, .f32⟩
  | 62 => ⟨S2064x4x128, .f32⟩
  | 63 => ⟨S_, .f32⟩
  | 64 => ⟨S2064x4x128, .f32⟩
  | 65 => ⟨S2064x4x128, .f32⟩
  | 66 => ⟨S_, .f32⟩
  | 67 => ⟨S2064x4x128, .f32⟩
  | 68 => ⟨S2064x4x128, .f32⟩
  | 69 => ⟨S2064x4x128, .f32⟩
  | 70 => ⟨S2064x4x128, .f32⟩
  | 71 => ⟨S2056x1536, .f32⟩
  | 72 => ⟨S_, .f32⟩
  | 73 => ⟨S56x1536, .f32⟩
  | 74 => ⟨S2112x1536, .f32⟩
  | 75 => ⟨S11x192x3x512, .f32⟩
  | 76 => ⟨S11x8x3x512, .f32⟩
  | 77 => ⟨S3x11x8x512, .f32⟩
  | 78 => ⟨S3x1x11x8x512, .f32⟩
  | 79 => ⟨S2064x65536, .f32⟩
  | 80 => ⟨S2063x65536, .f32⟩
  | 81 => ⟨S_, .f32⟩
  | 82 => ⟨S49x65536, .f32⟩
  | 83 => ⟨S2112x65536, .f32⟩
  | 84 => ⟨S11x192x65536, .f32⟩
  | 85 => ⟨S11x1x65536, .f32⟩
  | 86 => ⟨S11x65536, .f32⟩
  | 87 => ⟨S1x11x512x128, .f32⟩
  | 88 => ⟨S2064x512, .f32⟩
  | 89 => ⟨S_, .f32⟩
  | 90 => ⟨S48x512, .f32⟩
  | 91 => ⟨S2112x512, .f32⟩
  | 92 => ⟨S1x1x11x8x512, .f32⟩
  | 93 => ⟨S1x11x8x512, .f32⟩
  | 94 => ⟨S1x1x11x8x512, .f32⟩
  | 95 => ⟨S1x11x8x512, .f32⟩
  | 96 => ⟨S1x1x11x8x512, .f32⟩
  | 97 => ⟨S1x11x8x512, .f32⟩
  | _ => ⟨S2064x1536, .f32⟩

abbrev hbmTy (i : Nat) : BufTy := match i / 128 with
  | 0 => hbmTy0_0 i
  | 1 => hbmTy0_1 i
  | _ => ⟨S2064x1536, .f32⟩

abbrev bufTy : (tb : Table) → Fin (tcTables nBuf tb) → BufTy
  | .hbm, ⟨i, _⟩ => hbmTy i
  | _, _ => ⟨S2064x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_1 : Ref sig .tc := ⟨.hbm, 57, rfl⟩
abbrev main_v39 : Ref sig .tc := ⟨.hbm, 58, rfl⟩
abbrev main_v40 : Ref sig .tc := ⟨.hbm, 59, rfl⟩
abbrev main_cst_2 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_3 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_6 : Ref sig .tc := ⟨.hbm, 81, rfl⟩
abbrev main_v58 : Ref sig .tc := ⟨.hbm, 82, rfl⟩
abbrev main_v59 : Ref sig .tc := ⟨.hbm, 83, rfl⟩
abbrev main_cst_7 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_8 : Ref sig .tc := ⟨.hbm, 109, rfl⟩
abbrev main_v71 : Ref sig .tc := ⟨.hbm, 110, rfl⟩
abbrev main_cst_9 : Ref sig .tc := ⟨.hbm, 111, rfl⟩
abbrev main_v72 : Ref sig .tc := ⟨.hbm, 112, rfl⟩
abbrev main_cst_10 : Ref sig .tc := ⟨.hbm, 113, rfl⟩
abbrev main_v73 : Ref sig .tc := ⟨.hbm, 114, rfl⟩
abbrev main_c : Ref sig .tc := ⟨.hbm, 115, rfl⟩
abbrev main_v74_0 : Ref sig .tc := ⟨.hbm, 116, rfl⟩
abbrev main_v74_1 : Ref sig .tc := ⟨.hbm, 117, rfl⟩
abbrev main_v74_2 : Ref sig .tc := ⟨.hbm, 118, rfl⟩
abbrev main_v74_3 : Ref sig .tc := ⟨.hbm, 119, rfl⟩
abbrev main_v74_4 : Ref sig .tc := ⟨.hbm, 120, rfl⟩
abbrev main_v74_5 : Ref sig .tc := ⟨.hbm, 121, rfl⟩
abbrev main_v74_6 : Ref sig .tc := ⟨.hbm, 122, rfl⟩
abbrev main_v74_7 : Ref sig .tc := ⟨.hbm, 123, rfl⟩
abbrev main_v74_8 : Ref sig .tc := ⟨.hbm, 124, rfl⟩
abbrev main_while0c_c_25 : Ref sig .tc := ⟨.hbm, 125, rfl⟩
abbrev main_while0c_v115 : Ref sig .tc := ⟨.hbm, 126, rfl⟩
abbrev main_while0b_call2_c : Ref sig .tc := ⟨.hbm, 127, rfl⟩
abbrev main_while0b_call2_c_0 : Ref sig .tc := ⟨.hbm, 128, rfl⟩
abbrev main_while0b_call2_v0 : Ref sig .tc := ⟨.hbm, 129, rfl⟩
abbrev main_while0b_v115 : Ref sig .tc := ⟨.hbm, 130, rfl⟩
abbrev main_while0b_call3_c : Ref sig .tc := ⟨.hbm, 131, rfl⟩
abbrev main_while0b_call3_c_0 : Ref sig .tc := ⟨.hbm, 132, rfl⟩
abbrev main_while0b_call3_v0 : Ref sig .tc := ⟨.hbm, 133, rfl⟩
abbrev main_while0b_v116 : Ref sig .tc := ⟨.hbm, 134, rfl⟩
abbrev main_while0b_call4_c : Ref sig .tc := ⟨.hbm, 135, rfl⟩
abbrev main_while0b_call4_c_0 : Ref sig .tc := ⟨.hbm, 136, rfl⟩
abbrev main_while0b_call4_v0 : Ref sig .tc := ⟨.hbm, 137, rfl⟩
abbrev main_while0b_v117 : Ref sig .tc := ⟨.hbm, 138, rfl⟩
abbrev main_while0b_call5_c : Ref sig .tc := ⟨.hbm, 139, rfl⟩
abbrev main_while0b_call5_v0 : Ref sig .tc := ⟨.hbm, 140, rfl⟩
abbrev main_while0b_v118 : Ref sig .tc := ⟨.hbm, 141, rfl⟩
abbrev main_while0b_call6_c : Ref sig .tc := ⟨.hbm, 142, rfl⟩
abbrev main_while0b_call6_v0 : Ref sig .tc := ⟨.hbm, 143, rfl⟩
abbrev main_while0b_v119 : Ref sig .tc := ⟨.hbm, 144, rfl⟩
abbrev main_while0b_v120 : Ref sig .tc := ⟨.hbm, 145, rfl⟩
abbrev main_while0b_v121 : Ref sig .tc := ⟨.hbm, 146, rfl⟩
abbrev main_while0b_v122 : Ref sig .tc := ⟨.hbm, 147, rfl⟩
abbrev main_while0b_v123 : Ref sig .tc := ⟨.hbm, 148, rfl⟩
abbrev main_while0b_v124 : Ref sig .tc := ⟨.hbm, 149, rfl⟩
abbrev main_while0b_v125 : Ref sig .tc := ⟨.hbm, 150, rfl⟩
abbrev main_while0b_v126 : Ref sig .tc := ⟨.hbm, 151, rfl⟩
abbrev main_while0b_v127 : Ref sig .tc := ⟨.hbm, 152, rfl⟩
abbrev main_while0b_v128 : Ref sig .tc := ⟨.hbm, 153, rfl⟩
abbrev main_while0b_v129 : Ref sig .tc := ⟨.hbm, 154, rfl⟩
abbrev main_while0b_v130 : Ref sig .tc := ⟨.hbm, 155, rfl⟩
abbrev main_while0b_v131 : Ref sig .tc := ⟨.hbm, 156, rfl⟩
abbrev main_while0b_v132 : Ref sig .tc := ⟨.hbm, 157, rfl⟩
abbrev main_while0b_v133 : Ref sig .tc := ⟨.hbm, 158, rfl⟩
abbrev main_while0b_v134 : Ref sig .tc := ⟨.hbm, 159, rfl⟩
abbrev main_while0b_v135 : Ref sig .tc := ⟨.hbm, 160, rfl⟩
abbrev main_while0b_call7_v0 : Ref sig .tc := ⟨.hbm, 161, rfl⟩
abbrev main_while0b_call7_c : Ref sig .tc := ⟨.hbm, 162, rfl⟩
abbrev main_while0b_call7_c_0 : Ref sig .tc := ⟨.hbm, 163, rfl⟩
abbrev main_while0b_call7_c_1 : Ref sig .tc := ⟨.hbm, 164, rfl⟩
abbrev main_while0b_v136 : Ref sig .tc := ⟨.hbm, 165, rfl⟩
abbrev main_while0b_call8_v0 : Ref sig .tc := ⟨.hbm, 166, rfl⟩
abbrev main_while0b_call8_c : Ref sig .tc := ⟨.hbm, 167, rfl⟩
abbrev main_while0b_call8_c_0 : Ref sig .tc := ⟨.hbm, 168, rfl⟩
abbrev main_while0b_v137 : Ref sig .tc := ⟨.hbm, 169, rfl⟩
abbrev main_while0b_c_25 : Ref sig .tc := ⟨.hbm, 170, rfl⟩
abbrev main_while0b_v138 : Ref sig .tc := ⟨.hbm, 171, rfl⟩
abbrev main_v75 : Ref sig .tc := ⟨.hbm, 172, rfl⟩
abbrev main_cst_11 : Ref sig .tc := ⟨.hbm, 173, rfl⟩
abbrev main_v76 : Ref sig .tc := ⟨.hbm, 174, rfl⟩
abbrev main_v77 : Ref sig .tc := ⟨.hbm, 175, rfl⟩
abbrev main_cst_12 : Ref sig .tc := ⟨.hbm, 176, rfl⟩
abbrev main_v78 : Ref sig .tc := ⟨.hbm, 177, rfl⟩
abbrev main_v79 : Ref sig .tc := ⟨.hbm, 178, rfl⟩
abbrev main_cst_13 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_call9_v0 : Ref sig .tc := ⟨.hbm, 189, rfl⟩
abbrev main_call9_v1 : Ref sig .tc := ⟨.hbm, 190, rfl⟩
abbrev main_call9_cst : Ref sig .tc := ⟨.hbm, 191, rfl⟩
abbrev main_call9_v2 : Ref sig .tc := ⟨.hbm, 192, rfl⟩
abbrev main_call9_v3 : Ref sig .tc := ⟨.hbm, 193, rfl⟩
abbrev main_call9_cst_0 : Ref sig .tc := ⟨.hbm, 194, rfl⟩
abbrev main_call9_v4 : Ref sig .tc := ⟨.hbm, 195, rfl⟩
abbrev main_call9_v5 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_cst_14 : Ref sig .tc := ⟨.hbm, 200, rfl⟩
abbrev main_v92 : Ref sig .tc := ⟨.hbm, 201, rfl⟩
abbrev main_v93 : Ref sig .tc := ⟨.hbm, 202, rfl⟩
abbrev main_v94 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_v98 : Ref sig .tc := ⟨.hbm, 207, rfl⟩
abbrev main_v99 : Ref sig .tc := ⟨.hbm, 208, rfl⟩
abbrev main_cst_15 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_cst_16 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩

abbrev nD : Nat := 1
abbrev τ : Topo := Topo.v7x

variable {F : FTy → Type} [FloatOps F]

abbrev main_while0_count : Scf.Loop 32 := ⟨0#32, 2064#32, 1#32⟩
-- ==== Proof.FfnRun.lean ====
/-
  What one grid point of the feed-forward gradient's kernel does to its buffers, at any float instance.

  The point (j, i) works on column tile j of the hidden dimension and on half i of the rows. It adds the tile's part of the input's
  gradient to the rows of half i in a resident block, and the half's part of the three weight gradients to three scratch accumulators,
  which the second half casts into the tile's output blocks.
-/
module

public import proofs.«01_k».proof.Proof.Gen.FfnIdeal.Frame
public import proofs.«01_k».proof.Proof.Gen.FfnIdeal.Skeleton
public import Idealize.ShloMosaic.Lib.WritesUnit
public import Idealize.ShloMosaic.Lib.VecWindow
public import Idealize.ShloMosaic.Lib.Pipeline.DatRel
public import Idealize.ShloMosaic.Lib.Pipeline.ArrRel

@[expose] public section

set_option maxRecDepth 16384

noncomputable section

namespace Cert.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-! ## The branches of the body -/

/-- The point works on the first half of the rows. -/
abbrev FirstHalf (i : grid0.Coords) : Prop :=
  (Scalar.cmpi .ne (Scalar.extui (Scalar.cmpi .eq (BitVec.ofNat 32 (i 1).val) 0#32)) 0#32) = 1#1

/-- The point works on a later half of the rows, as the body asks it. -/
abbrev LaterHalf (i : grid0.Coords) : Prop :=
  (Scalar.cmpi .ne (Scalar.extui (Scalar.cmpi .sgt (BitVec.ofNat 32 (i 1).val) 0#32)) 0#32) = 1#1

/-- The point works on the first column tile. -/
abbrev FirstTile (i : grid0.Coords) : Prop := k0_cond4 i = 1#1

theorem laterHalf_iff : ∀ i : grid0.Coords, LaterHalf i ↔ ¬FirstHalf i := by decide +kernel
theorem lastHalf_iff : ∀ i : grid0.Coords, k0_cond3 i = 1#1 ↔ ¬FirstHalf i := by decide +kernel
theorem laterTile_iff : ∀ i : grid0.Coords, k0_cond5 i = 1#1 ↔ ¬FirstTile i := by decide +kernel

/-! ## What a point computes -/

/-- The rows of the point's half. -/
def half {e : EltTy} (i : grid0.Coords) (x : Vec F S2112x1024 e) : Vec F S1056x1024 e :=
  View.ld x (Rect.unit (s := S2112x1024) (k0_off1 i) S1056x1024.size (k0_off1_inb i))

/-- A block with the rows of the point's half replaced. -/
def put {e : EltTy} (i : grid0.Coords) (y : Vec F S2112x1024 e) (p : Vec F S1056x1024 e) : Vec F S2112x1024 e := fun q =>
  if h : 1056 * (i 1).val ≤ (q (0 : Fin 2)).val ∧ (q (0 : Fin 2)).val < 1056 * (i 1).val + 1056 then
    p (Rect.unitLocal (s := S2112x1024) (off := ![1056 * (i 1).val, 0]) (size := S1056x1024.size) q
      (Rect.unit_rows_mem (d := S2112x1024.size) q rfl rfl h))
  else y q

section Point

variable (i : grid0.Coords) (x0 : Vec F S2112x1024 .bf16) (x1 : Vec F S1056x1024 .f32) (x2 x3 : Vec F S1024x256 .bf16) (x4 : Vec F S256x1024 .bf16)

/-- What the point leaves in the rows of its half of the input's gradient, which held `y`. -/
def nextRows (y : Vec F S1056x1024 .f32) : Vec F S1056x1024 .f32 :=
  if FirstTile i then
    k0_pay1 (k0_pay15 x3) (k0_pay23 (half i x0) x1 x2 x4) (k0_pay26 (half i x0) x1 x2 x3 x4) (constant S1056x1024 .f32 0x00000000#32)
  else
    k0_pay11 (k0_pay15 x3) (k0_pay23 (half i x0) x1 x2 x4) (k0_pay26 (half i x0) x1 x2 x3 x4) (constant S1056x1024 .f32 0x00000000#32) y

/-- What it leaves in the accumulator of the gate weight's gradient, which held `s`. -/
def nextGate (s : Vec F S1024x256 .f32) : Vec F S1024x256 .f32 :=
  if FirstHalf i then k0_pay2 (k0_pay24 (half i x0) x1 x2 x3 x4) else k0_pay5 (k0_pay24 (half i x0) x1 x2 x3 x4) s

/-- What it leaves in the accumulator of the up weight's gradient, which held `s`. -/
def nextUp (s : Vec F S1024x256 .f32) : Vec F S1024x256 .f32 :=
  if FirstHalf i then k0_pay3 (k0_pay25 (half i x0) x1 x2 x4) else k0_pay6 (k0_pay25 (half i x0) x1 x2 x4) s

/-- What it leaves in the accumulator of the down weight's gradient, which held `s`. -/
def nextDown (s : Vec F S256x1024 .f32) : Vec F S256x1024 .f32 :=
  if FirstHalf i then k0_pay4 (k0_pay21 (half i x0) x1 x2 x3) else k0_pay7 (k0_pay21 (half i x0) x1 x2 x3) s

end Point

theorem hz2 : (![0, 0] : Fin 2 → ℕ) = fun _ => 0 := by funext a; match a with | 0 => rfl | 1 => rfl

/-- A load of rows depends on the offsets alone. -/
theorem ld_off {e : EltTy} (x : Vec F S2112x1024 e) {off off' : Fin 2 → ℕ} (h : off = off')
    (inb : ∀ a : Fin 2, off a + S1056x1024.size a ≤ S2112x1024.size a) (inb' : ∀ a : Fin 2, off' a + S1056x1024.size a ≤ S2112x1024.size a) :
    View.ld x (Rect.unit (s := S2112x1024) off S1056x1024.size inb) = View.ld x (Rect.unit (s := S2112x1024) off' S1056x1024.size inb') := by
  subst h; rfl

/-- One store of the rows of the half, read back. -/
theorem read_put (i : grid0.Coords) {arg : Memref sig .tc .vmem S2112x1024 .f32} (f : arg.view.ty.Contents (Elt F)) {off : Fin 2 → ℕ}
    (hoff : off = ![1056 * (i 1).val, 0]) (inb : ∀ a : Fin 2, off a + S1056x1024.size a ≤ S2112x1024.size a) (w : Vec F S1056x1024 .f32) :
    arg.view.read (Elt F) (arg.view.writes (Elt F) f [⟨Rect.unit (s := S2112x1024) off S1056x1024.size inb, w⟩])
      = put i (arg.view.read (Elt F) f) w :=
  funext fun q => View.read_writes_cons_rows arg.view f inb w [] q hoff rfl rfl

/-! ## The body -/

set_option maxHeartbeats 4000000 in
/-- The body at a point, on whole buffers: the inputs stay, the resident block has the rows of the half replaced, the accumulators move on,
    and at the second half the tile's output blocks hold the accumulators cast. -/
theorem body_wp (c : Dev nD) (i : grid0.Coords)
    (arg2 : Memref sig .tc .vmem S2112x1024 .bf16) (harg2 : arg2.IsWhole) (arg3 : Memref sig .tc .vmem S1056x1024 .f32) (harg3 : arg3.IsWhole)
    (arg4 : Memref sig .tc .vmem S1024x256 .bf16) (harg4 : arg4.IsWhole) (arg5 : Memref sig .tc .vmem S1024x256 .bf16) (harg5 : arg5.IsWhole)
    (arg6 : Memref sig .tc .vmem S256x1024 .bf16) (harg6 : arg6.IsWhole) (arg7 : Memref sig .tc .vmem S2112x1024 .f32) (harg7 : arg7.IsWhole)
    (arg8 : Memref sig .tc .vmem S1024x256 .bf16) (harg8 : arg8.IsWhole) (arg9 : Memref sig .tc .vmem S1024x256 .bf16) (harg9 : arg9.IsWhole)
    (arg10 : Memref sig .tc .vmem S256x1024 .bf16) (harg10 : arg10.IsWhole) (arg11 : Memref sig .tc .vmem S1024x256 .f32) (harg11 : arg11.IsWhole)
    (arg12 : Memref sig .tc .vmem S1024x256 .f32) (harg12 : arg12.IsWhole) (arg13 : Memref sig .tc .vmem S256x1024 .f32) (harg13 : arg13.IsWhole)
    (x0 : Vec F S2112x1024 .bf16) (x1 : Vec F S1056x1024 .f32) (x2 x3 : Vec F S1024x256 .bf16) (x4 : Vec F S256x1024 .bf16)
    (y5 : Vec F S2112x1024 .f32) (y6 y7 : Vec F S1024x256 .bf16) (y8 : Vec F S256x1024 .bf16)
    (s0 s1 : Vec F S1024x256 .f32) (s2 : Vec F S256x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y5
        ∗ owns (c : Thread nD τ) arg8 fullShare y6 ∗ owns (c : Thread nD τ) arg9 fullShare y7 ∗ owns (c : Thread nD τ) arg10 fullShare y8
        ∗ owns (c : Thread nD τ) arg11 fullShare s0 ∗ owns (c : Thread nD τ) arg12 fullShare s1 ∗ owns (c : Thread nD τ) arg13 fullShare s2
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ owns (c : Thread nD τ) arg7 fullShare (put i y5 (nextRows i x0 x1 x2 x3 x4 (half i y5)))
          ∗ owns (c : Thread nD τ) arg8 fullShare (if FirstHalf i then y6 else k0_pay8 (nextGate i x0 x1 x2 x3 x4 s0))
          ∗ owns (c : Thread nD τ) arg9 fullShare (if FirstHalf i then y7 else k0_pay9 (nextUp i x0 x1 x2 x4 s1))
          ∗ owns (c : Thread nD τ) arg10 fullShare (if FirstHalf i then y8 else k0_pay10 (nextDown i x0 x1 x2 x3 s2))
          ∗ owns (c : Thread nD τ) arg11 fullShare (nextGate i x0 x1 x2 x3 x4 s0)
          ∗ owns (c : Thread nD τ) arg12 fullShare (nextUp i x0 x1 x2 x4 s1)
          ∗ owns (c : Thread nD τ) arg13 fullShare (nextDown i x0 x1 x2 x3 s2)) -∗ K ⟨⟩))
      ⊢ wp frame (wpE (defs₀ (F := F)) Variants.none c none) E
          (cc0_ffn_bwd i arg2 harg2 arg3 harg3 arg4 harg4 arg5 harg5 arg6 harg6 arg7 harg7 arg8 harg8 arg9 harg9 arg10 harg10 arg11 harg11 arg12 harg12 arg13 harg13) K := by
  simp only [cc0_ffn_bwd_eq_skeleton]; unfold cc0_ffn_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hf11
  rcases Classical.em (FirstHalf i) with hc0 | hc0 <;> rcases Classical.em (FirstTile i) with hc3 | hc3
  all_goals
    first
    | (have hc1 : ¬LaterHalf i := fun h => (laterHalf_iff i).mp h hc0
       have hc2 : ¬k0_cond3 i = 1#1 := fun h => (lastHalf_iff i).mp h hc0)
    | (have hc1 : LaterHalf i := (laterHalf_iff i).mpr hc0
       have hc2 : k0_cond3 i = 1#1 := (lastHalf_iff i).mpr hc0)
    first
    | have hc4 : ¬k0_cond5 i = 1#1 := fun h => (laterTile_iff i).mp h hc3
    | have hc4 : k0_cond5 i = 1#1 := (laterTile_iff i).mpr hc3
    sl_exec (disch := first | sl_exact hc0 | sl_exact hc1 | sl_exact hc2 | sl_exact hc3 | sl_exact hc4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro
      first
      | (refine (read_put i _ (k0_off2_eq i) _ _).trans ?_; rw [hf5]; refine congrArg (put i y5) ?_; unfold nextRows; rw [if_pos hc3]; sl_unfold_words)
      | (refine (read_put i _ (k0_off3_eq i) _ _).trans ?_; rw [hf5]; refine congrArg (put i y5) ?_; unfold nextRows; rw [if_neg hc3]; sl_unfold_words)
      simp only [View.readAt_eq_ld, hf0, hf1, hf2, hf3, hf4, hf5, View.ld_unit_zero (S := S1056x1024) hz2, View.ld_unit_zero (S := S1024x256) hz2, View.ld_unit_zero (S := S256x1024) hz2]
      rfl
    isplitl [H6]
    · iexists _; isplitr; swap; · iexact H6
      ipureintro
      first
      | (rw [if_pos hc0]; exact hf6)
      | (rw [if_neg hc0]; refine (View.read_writes_full _ _ _ _ _).trans ?_; unfold nextGate; rw [if_neg hc0]; sl_unfold_words
         refine congrArg k0_pay8 ((View.readCov_full (s := S1024x256) _ _ _ _ _).trans ?_)
         simp only [View.readAt_eq_ld, hf0, hf1, hf2, hf3, hf4, hf9, hf10, hf11, View.ld_unit_zero (S := S1056x1024) hz2, View.ld_unit_zero (S := S1024x256) hz2, View.ld_unit_zero (S := S256x1024) hz2]
         rfl)
    isplitl [H7]
    · iexists _; isplitr; swap; · iexact H7
      ipureintro
      first
      | (rw [if_pos hc0]; exact hf7)
      | (rw [if_neg hc0]; refine (View.read_writes_full _ _ _ _ _).trans ?_; unfold nextUp; rw [if_neg hc0]; sl_unfold_words
         refine congrArg k0_pay9 ((View.readCov_full (s := S1024x256) _ _ _ _ _).trans ?_)
         simp only [View.readAt_eq_ld, hf0, hf1, hf2, hf3, hf4, hf9, hf10, hf11, View.ld_unit_zero (S := S1056x1024) hz2, View.ld_unit_zero (S := S1024x256) hz2, View.ld_unit_zero (S := S256x1024) hz2]
         rfl)
    isplitl [H8]
    · iexists _; isplitr; swap; · iexact H8
      ipureintro
      first
      | (rw [if_pos hc0]; exact hf8)
      | (rw [if_neg hc0]; refine (View.read_writes_full _ _ _ _ _).trans ?_; unfold nextDown; rw [if_neg hc0]; sl_unfold_words
         refine congrArg k0_pay10 ((View.readCov_full (s := S256x1024) _ _ _ _ _).trans ?_)
         simp only [View.readAt_eq_ld, hf0, hf1, hf2, hf3, hf4, hf9, hf10, hf11, View.ld_unit_zero (S := S1056x1024) hz2, View.ld_unit_zero (S := S1024x256) hz2, View.ld_unit_zero (S := S256x1024) hz2]
         rfl)
    isplitl [H9]
    · iexists _; isplitr; swap; · iexact H9
      ipureintro
      refine (View.read_writes_full _ _ _ _ _).trans ?_
      unfold nextGate
      first
      | rw [if_pos hc0]
      | rw [if_neg hc0]
      sl_unfold_words
      simp only [View.readAt_eq_ld, hf0, hf1, hf2, hf3, hf4, hf9, hf10, hf11, View.ld_unit_zero (S := S1056x1024) hz2, View.ld_unit_zero (S := S1024x256) hz2, View.ld_unit_zero (S := S256x1024) hz2]
      rfl
    isplitl [H10]
    · iexists _; isplitr; swap; · iexact H10
      ipureintro
      refine (View.read_writes_full _ _ _ _ _).trans ?_
      unfold nextUp
      first
      | rw [if_pos hc0]
      | rw [if_neg hc0]
      sl_unfold_words
      simp only [View.readAt_eq_ld, hf0, hf1, hf2, hf3, hf4, hf9, hf10, hf11, View.ld_unit_zero (S := S1056x1024) hz2, View.ld_unit_zero (S := S1024x256) hz2, View.ld_unit_zero (S := S256x1024) hz2]
      rfl
    iexists _; isplitr; swap; · iexact H11
    ipureintro
    refine (View.read_writes_full _ _ _ _ _).trans ?_
    unfold nextDown
    first
    | rw [if_pos hc0]
    | rw [if_neg hc0]
    sl_unfold_words
    simp only [View.readAt_eq_ld, hf0, hf1, hf2, hf3, hf4, hf9, hf10, hf11, View.ld_unit_zero (S := S1056x1024) hz2, View.ld_unit_zero (S := S1024x256) hz2, View.ld_unit_zero (S := S256x1024) hz2]
    rfl

end Cert.FfnRun

end
-- ==== Proof.FfnFrame.lean ====
/-
  The run of the feed-forward gradient's kernel over its whole grid, at any float instance: what each output block was given when it was
  written back, and that the arguments and the counters end as they began.

  Nothing is read of the resident block but the rows that a point of the same half has left there, so of that block the two halves that
  have been written so far are stated, each at its own running sum; of the blocks of the weight gradients only what the second half leaves.
-/
module

public import proofs.«01_k».proof.Proof.FfnRun
public import Idealize.ShloMosaic.Lib.Pipeline.ValueKit.Tiles

@[expose] public section

set_option maxRecDepth 16384

noncomputable section

namespace Cert.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)
open Cert.FfnIdeal Cert.FfnIdeal.Gen

variable {F : FTy → Type} [FloatOps F]

local notation "𝕄" => MT nD τ sig Unit (Elt F) ℕ (UR sig nD τ) ℕ

/-! ## The two halves of a block -/

/-- The index that a load of the point's half reads for `q`. -/
abbrev halfIdx (i : grid0.Coords) (q : S1056x1024.Idx) : S2112x1024.Idx :=
  (Rect.unit (s := S2112x1024) (k0_off1 i) S1056x1024.size (k0_off1_inb i)).idx q

theorem halfIdx_row (i : grid0.Coords) (q : S1056x1024.Idx) : (halfIdx i q (0 : Fin 2)).val = 1056 * (i 1).val + (q (0 : Fin 2)).val :=
  (Rect.idx_unit_val (s := S2112x1024) (k0_off1 i) S1056x1024.size (k0_off1_inb i) q (0 : Fin 2)).trans (congrArg (· + (q (0 : Fin 2)).val) (congrFun (k0_off1_eq i) (0 : Fin 2)))

theorem halfIdx_col (i : grid0.Coords) (q : S1056x1024.Idx) : (halfIdx i q (1 : Fin 2)).val = (q (1 : Fin 2)).val :=
  ((Rect.idx_unit_val (s := S2112x1024) (k0_off1 i) S1056x1024.size (k0_off1_inb i) q (1 : Fin 2)).trans (congrArg (· + (q (1 : Fin 2)).val) (congrFun (k0_off1_eq i) (1 : Fin 2)))).trans (Nat.zero_add _)

theorem half_apply {e : EltTy} (i : grid0.Coords) (x : Vec F S2112x1024 e) (q : S1056x1024.Idx) : half i x q = x (halfIdx i q) := rfl

theorem half_put {e : EltTy} (i : grid0.Coords) (y : Vec F S2112x1024 e) (p : Vec F S1056x1024 e) : half i (put i y p) = p := by
  funext q
  have h0 := halfIdx_row i q
  have h1 := halfIdx_col i q
  have hq : (q (0 : Fin 2)).val < 1056 := (q (0 : Fin 2)).isLt
  rw [half_apply]; unfold put
  rw [dif_pos ⟨by omega, by omega⟩]
  refine congrArg p (funext fun a => Fin.ext ?_)
  rw [Rect.unitLocal_val]
  match a with
  | 0 => show (halfIdx i q (0 : Fin 2)).val - 1056 * (i 1).val = (q (0 : Fin 2)).val; omega
  | 1 => show (halfIdx i q (1 : Fin 2)).val - 0 = (q (1 : Fin 2)).val; omega

theorem half_put_other {e : EltTy} {i i' : grid0.Coords} (h : (i' 1).val ≠ (i 1).val) (y : Vec F S2112x1024 e) (p : Vec F S1056x1024 e) :
    half i' (put i y p) = half i' y := by
  funext q
  have h0 := halfIdx_row i' q
  have hq : (q (0 : Fin 2)).val < 1056 := (q (0 : Fin 2)).isLt
  rw [half_apply, half_apply]; unfold put
  rw [dif_neg (by omega)]

theorem half_congr {e : EltTy} {i i' : grid0.Coords} (h : i' 1 = i 1) (y : Vec F S2112x1024 e) : half i' y = half i y := by
  unfold half
  exact ld_off y (by rw [k0_off1_eq, k0_off1_eq, h]) _ _

/-! ## The grid -/

theorem coord_half : ∀ t : Fin cfg0.N, (grid0.coords t 1).val = t.val % 2 := by decide +kernel
theorem firstHalf_iff : ∀ t : Fin cfg0.N, FirstHalf (grid0.coords t) ↔ t.val % 2 = 0 := by decide +kernel
theorem firstTile_iff : ∀ t : Fin cfg0.N, FirstTile (grid0.coords t) ↔ t.val < 2 := by decide +kernel
theorem no_flush5 : ∀ t : Fin cfg0.N, t.val ≠ 21 → (cfg0.win 5).flush t = false := by decide +kernel
theorem no_fetch5 : ∀ t : Fin cfg0.N, (cfg0.win 5).fetch t = false := by decide +kernel
theorem last_lt (t : Fin cfg0.N) : t.val < 22 := Nat.lt_of_lt_of_eq t.isLt N_0

variable (m : (ℓ : Loc nD τ sig) → Buf (Elt F) ℓ) (ρ : Dev nD → PrngReg)

/-! ## What the points have computed -/

section Parts

variable (c : Dev nD) (t : Fin cfg0.N)

/-- Point `t`'s part of the gate weight's gradient. -/
def gatePart : Vec F S1024x256 .f32 := k0_pay24 (half (grid0.coords t) (iblk m c 0 t)) (iblk m c 1 t) (iblk m c 2 t) (iblk m c 3 t) (iblk m c 4 t)

/-- Point `t`'s part of the up weight's gradient. -/
def upPart : Vec F S1024x256 .f32 := k0_pay25 (half (grid0.coords t) (iblk m c 0 t)) (iblk m c 1 t) (iblk m c 2 t) (iblk m c 4 t)

/-- Point `t`'s part of the down weight's gradient. -/
def downPart : Vec F S256x1024 .f32 := k0_pay21 (half (grid0.coords t) (iblk m c 0 t)) (iblk m c 1 t) (iblk m c 2 t) (iblk m c 3 t)

/-- The rows of point `t`'s half of the input's gradient, once they held `y`. -/
def rowsOver (y : Vec F S1056x1024 .f32) : Vec F S1056x1024 .f32 :=
  nextRows (grid0.coords t) (iblk m c 0 t) (iblk m c 1 t) (iblk m c 2 t) (iblk m c 3 t) (iblk m c 4 t) y

end Parts

/-- The rows of point `n`'s half after it: its half's running sum over the column tiles so far. -/
def rowsAfter (c : Dev nD) : (n : ℕ) → n < cfg0.N → Vec F S1056x1024 .f32
  | 0, h => rowsOver m c ⟨0, h⟩ (constant S1056x1024 .f32 0x00000000#32)
  | 1, h => rowsOver m c ⟨1, h⟩ (constant S1056x1024 .f32 0x00000000#32)
  | n + 2, h => rowsOver m c ⟨n + 2, h⟩ (rowsAfter c n (Nat.lt_of_succ_lt (Nat.lt_of_succ_lt h)))

/-- On the first column tile what the rows held does not matter. -/
theorem rowsOver_first (c : Dev nD) (t : Fin cfg0.N) (h : t.val < 2) (y y' : Vec F S1056x1024 .f32) : rowsOver m c t y = rowsOver m c t y' := by
  unfold rowsOver nextRows; rw [if_pos ((firstTile_iff t).mpr h), if_pos ((firstTile_iff t).mpr h)]

/-! ## The proof data -/

/-- What is stated of the resident block after point `t`: the point's half, and the other half where it has been written. -/
def RowsLeft (c : Dev nD) (t : Fin cfg0.N) (X : Vec F S2112x1024 .f32) : Prop :=
  half (grid0.coords t) X = rowsAfter m c t.val t.isLt
    ∧ ∀ u : Fin cfg0.N, u.val + 1 = t.val → half (grid0.coords u) X = rowsAfter m c u.val u.isLt

/-- The accumulators hold their first halves after a point of the first half. -/
def Carried (c : Dev nD) (n : ℕ) (d0 d1 : Vec F S1024x256 .f32) (d2 : Vec F S256x1024 .f32) : Prop :=
  ∀ u : Fin cfg0.N, u.val + 1 = n → u.val % 2 = 0 →
    d0 = k0_pay2 (gatePart m c u) ∧ d1 = k0_pay3 (upPart m c u) ∧ d2 = k0_pay4 (downPart m c u)

/-- What is stated of the output blocks after point `t`. -/
def Left (c : Dev nD) (w : Fin cfg0.W) (t : Fin cfg0.N) : ((cfg0.win w).block.Idx → Elt F (cfg0.win w).elt) → Prop :=
  match w with
  | ⟨5, _⟩ => fun X => RowsLeft m c t X
  | ⟨6, _⟩ => fun X => ∀ u : Fin cfg0.N, u.val + 1 = t.val → t.val % 2 = 1 → X = k0_pay8 (k0_pay5 (gatePart m c t) (k0_pay2 (gatePart m c u)))
  | ⟨7, _⟩ => fun X => ∀ u : Fin cfg0.N, u.val + 1 = t.val → t.val % 2 = 1 → X = k0_pay9 (k0_pay6 (upPart m c t) (k0_pay3 (upPart m c u)))
  | ⟨8, _⟩ => fun X => ∀ u : Fin cfg0.N, u.val + 1 = t.val → t.val % 2 = 1 → X = k0_pay10 (k0_pay7 (downPart m c t) (k0_pay4 (downPart m c u)))
  | _ => fun _ => True

/-- The output windows, of which what a body may leave is stated by `Left`. -/
def outs : Fin cfg0.W → Bool := fun w => w.val == 5 || w.val == 6 || w.val == 7 || w.val == 8

/-- The scratch accumulators and the generator's register between two points. -/
def Between (c : Dev nD) (n : ℕ) : sProp 𝕄 :=
  iprop((∃ d0 d1 d2, ⌜Carried m c n d0 d1 d2⌝ ∗ owns (c : Thread nD τ) (Memref.whole cc0_scratch0) fullShare d0
    ∗ owns (c : Thread nD τ) (Memref.whole cc0_scratch1) fullShare d1 ∗ owns (c : Thread nD τ) (Memref.whole cc0_scratch2) fullShare d2)
    ∗ (∃ r, prngReg c r))

/-- The proof data of the pipeline: inputs in place, outputs unnamed, the accumulators between the points. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := Between m c t.val
  q _ := fullShare
  owed _ := 0

/-- The data read relationally, the outputs held to `Left`. -/
abbrev rdats (c : Dev nD) : RDat τ (Elt F) Unit ℕ (UR sig nD τ) ℕ cfg0 c := (dats m c).toRRel outs (Left m c)

theorem dats_A (c : Dev nD) (w : Fin cfg0.W) : (dats m c).A w = V m c (Pipeline.arrRef spec0 w) := by dsimp only [dats]

theorem before_0 (c : Dev nD) (t : Fin cfg0.N) (d) : (dats m c).before 0 t d = iblk m c 0 t := before0_0_of m (dats m c) (dats_A m c 0) (fun _ => rfl) t d
theorem before_1 (c : Dev nD) (t : Fin cfg0.N) (d) : (dats m c).before 1 t d = iblk m c 1 t := before0_1_of m (dats m c) (dats_A m c 1) (fun _ => rfl) t d
theorem before_2 (c : Dev nD) (t : Fin cfg0.N) (d) : (dats m c).before 2 t d = iblk m c 2 t := before0_2_of m (dats m c) (dats_A m c 2) (fun _ => rfl) t d
theorem before_3 (c : Dev nD) (t : Fin cfg0.N) (d) : (dats m c).before 3 t d = iblk m c 3 t := before0_3_of m (dats m c) (dats_A m c 3) (fun _ => rfl) t d
theorem before_4 (c : Dev nD) (t : Fin cfg0.N) (d) : (dats m c).before 4 t d = iblk m c 4 t := before0_4_of m (dats m c) (dats_A m c 4) (fun _ => rfl) t d

/-- The resident block is found as the point before left it. -/
theorem found5 (c : Dev nD) (t u : Fin cfg0.N) (hu : u.val + 1 = t.val) (Y) (h : (rdats m c).Finds 5 t Y) : RowsLeft m c u Y := by
  have hv : (⟨t.val - 1, Nat.lt_of_le_of_lt (Nat.sub_le _ _) t.isLt⟩ : Fin cfg0.N) = u := Fin.ext (by show t.val - 1 = u.val; omega)
  rcases ((rdats m c).finds_of_pos (no_fetch5 t) (by omega) Y).mp h with hf | hl
  · rw [hv, no_flush5 u (by have := last_lt t; omega)] at hf; exact absurd hf Bool.false_ne_true
  · rw [hv] at hl; exact (dats m c).toRRel_leaves rfl hl

/-! ## A point -/

/-- The resident block after point `t`. -/
theorem rows_left (c : Dev nD) (t : Fin cfg0.N) (Y : Vec F S2112x1024 .f32) (h : ∀ u : Fin cfg0.N, u.val + 1 = t.val → RowsLeft m c u Y) :
    RowsLeft m c t (put (grid0.coords t) Y (rowsOver m c t (half (grid0.coords t) Y))) := by
  refine ⟨?_, fun u hu => ?_⟩
  · rw [half_put]
    obtain ⟨n, hn⟩ := t
    match n, hn with
    | 0, hn => exact rowsOver_first m c _ (Nat.zero_lt_two) _ _
    | 1, hn => exact rowsOver_first m c _ (Nat.one_lt_two) _ _
    | n + 2, hn =>
      have h2 := (h ⟨n + 1, Nat.lt_of_succ_lt hn⟩ rfl).2 ⟨n, Nat.lt_of_succ_lt (Nat.lt_of_succ_lt hn)⟩ rfl
      show rowsOver m c _ _ = rowsOver m c _ (rowsAfter m c n _)
      rw [← h2]
      refine congrArg (rowsOver m c _) (half_congr (Fin.ext ?_) Y)
      rw [coord_half, coord_half]; show (n + 2) % 2 = n % 2; omega
  · rw [half_put_other (by rw [coord_half, coord_half]; omega)]
    exact (h u hu).1

theorem gate_next (c : Dev nD) (t : Fin cfg0.N) (s : Vec F S1024x256 .f32) :
    nextGate (grid0.coords t) (iblk m c 0 t) (iblk m c 1 t) (iblk m c 2 t) (iblk m c 3 t) (iblk m c 4 t) s
      = if t.val % 2 = 0 then k0_pay2 (gatePart m c t) else k0_pay5 (gatePart m c t) s := by
  unfold nextGate gatePart; simp only [firstHalf_iff]
theorem up_next (c : Dev nD) (t : Fin cfg0.N) (s : Vec F S1024x256 .f32) :
    nextUp (grid0.coords t) (iblk m c 0 t) (iblk m c 1 t) (iblk m c 2 t) (iblk m c 4 t) s
      = if t.val % 2 = 0 then k0_pay3 (upPart m c t) else k0_pay6 (upPart m c t) s := by
  unfold nextUp upPart; simp only [firstHalf_iff]
theorem down_next (c : Dev nD) (t : Fin cfg0.N) (s : Vec F S256x1024 .f32) :
    nextDown (grid0.coords t) (iblk m c 0 t) (iblk m c 1 t) (iblk m c 2 t) (iblk m c 3 t) s
      = if t.val % 2 = 0 then k0_pay4 (downPart m c t) else k0_pay7 (downPart m c t) s := by
  unfold nextDown downPart; simp only [firstHalf_iff]

theorem sound_body (c : Dev nD) (t : Fin cfg0.N) :
    iprop((dats m c).Φ t.castSucc ∗ (dats m c).owesAt () t.castSucc
        ∗ (∃ d, owns (c : Thread nD τ) (st0_0 t) fullShare ((dats m c).before 0 t d))
        ∗ (∃ d, owns (c : Thread nD τ) (st0_1 t) fullShare ((dats m c).before 1 t d))
        ∗ (∃ d, owns (c : Thread nD τ) (st0_2 t) fullShare ((dats m c).before 2 t d))
        ∗ (∃ d, owns (c : Thread nD τ) (st0_3 t) fullShare ((dats m c).before 3 t d))
        ∗ (∃ d, owns (c : Thread nD τ) (st0_4 t) fullShare ((dats m c).before 4 t d))
        ∗ (∃ Y, ⌜(rdats m c).Finds 5 t Y⌝ ∗ owns (c : Thread nD τ) (st0_5 t) fullShare Y)
        ∗ (∃ Y, ⌜(rdats m c).Finds 6 t Y⌝ ∗ owns (c : Thread nD τ) (st0_6 t) fullShare Y)
        ∗ (∃ Y, ⌜(rdats m c).Finds 7 t Y⌝ ∗ owns (c : Thread nD τ) (st0_7 t) fullShare Y)
        ∗ (∃ Y, ⌜(rdats m c).Finds 8 t Y⌝ ∗ owns (c : Thread nD τ) (st0_8 t) fullShare Y))
      ⊢ wp frame (wpE (defs₀ (F := F)) Variants.none c none) Set.univ (bodyAt0 t) fun _ =>
          iprop((dats m c).Φ t.succ ∗ (dats m c).owesAt () t.succ
            ∗ owns (c : Thread nD τ) (st0_0 t) fullShare ((dats m c).after 0 t)
            ∗ owns (c : Thread nD τ) (st0_1 t) fullShare ((dats m c).after 1 t)
            ∗ owns (c : Thread nD τ) (st0_2 t) fullShare ((dats m c).after 2 t)
            ∗ owns (c : Thread nD τ) (st0_3 t) fullShare ((dats m c).after 3 t)
            ∗ owns (c : Thread nD τ) (st0_4 t) fullShare ((dats m c).after 4 t)
            ∗ (∃ X, ⌜Left m c 5 t X⌝ ∗ owns (c : Thread nD τ) (st0_5 t) fullShare X)
            ∗ (∃ X, ⌜Left m c 6 t X⌝ ∗ owns (c : Thread nD τ) (st0_6 t) fullShare X)
            ∗ (∃ X, ⌜Left m c 7 t X⌝ ∗ owns (c : Thread nD τ) (st0_7 t) fullShare X)
            ∗ (∃ X, ⌜Left m c 8 t X⌝ ∗ owns (c : Thread nD τ) (st0_8 t) fullShare X)) := by
  simp only [before_0, before_1, before_2, before_3, before_4]
  rw [show (dats m c).Φ t.castSucc = Between m c t.val from rfl, show (dats m c).Φ t.succ = Between m c (t.val + 1) from rfl]
  unfold Between
  iintro ⟨⟨⟨%s0, %s1, %s2, %hs, S0, S1, S2⟩, Hg⟩, Ho, ⟨%_, H0⟩, ⟨%_, H1⟩, ⟨%_, H2⟩, ⟨%_, H3⟩, ⟨%_, H4⟩, ⟨%y5, %h5, H5⟩, ⟨%y6, -, H6⟩, ⟨%y7, -, H7⟩, ⟨%y8, -, H8⟩⟩
  iapply (body_wp c (grid0.coords t) _ _ _ _ _ _ _ _ _ _ _ _ _ _ _ _ _ _ _ _ _ _ _ _ (iblk m c 0 t) (iblk m c 1 t) (iblk m c 2 t) (iblk m c 3 t) (iblk m c 4 t)
    y5 y6 y7 y8 s0 s1 s2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  rw [gate_next, up_next, down_next]
  iintro ⟨H0, H1, H2, H3, H4, H5, H6, H7, H8, S0, S1, S2⟩
  isplitl [S0 S1 S2 Hg]
  · isplitl [S0 S1 S2]
    · iexists _; iexists _; iexists _
      isplitr
      swap
      · isplitl [S0]; · iexact S0
        isplitl [S1]; · iexact S1
        iexact S2
      ipureintro
      intro u hu he
      obtain rfl : u = t := Fin.ext (by omega)
      exact ⟨if_pos he, if_pos he, if_pos he⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro
    exact rows_left m c t y5 fun u hu => found5 m c t u hu y5 h5
  have hodd : t.val % 2 = 1 → ¬FirstHalf (grid0.coords t) := fun h1 h => by have := (firstHalf_iff t).mp h; omega
  isplitl [H6]
  · iexists _; isplitr
    swap; · iexact H6
    ipureintro
    intro u hu ho
    rw [if_neg (hodd ho), if_neg (by omega), (hs u hu (by omega)).1]
  isplitl [H7]
  · iexists _; isplitr
    swap; · iexact H7
    ipureintro
    intro u hu ho
    rw [if_neg (hodd ho), if_neg (by omega), (hs u hu (by omega)).2.1]
  iexists _; isplitr
  swap; · iexact H8
  ipureintro
  intro u hu ho
  rw [if_neg (hodd ho), if_neg (by omega), (hs u hu (by omega)).2.2]

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m c) (defs₀ (F := F)) Variants.none () Set.univ outs (Left m c) := fun t => by
  rw [bigSep_W0, bigSep_W0, defs₀_row]
  exact triple_restated (sound_body m c t) rfl .rfl fun _ => .rfl

/-! ## The run -/

theorem start (c : Dev nD) : (Pipeline.ΦA spec0 c : sProp 𝕄) ⊢ (rdats m c).Φ 0 := by
  show _ ⊢ Between m c 0
  unfold Pipeline.ΦA Between; rw [scopedRest0_eq]; simp only [owns_whole]
  iintro ⟨⟨⟨%d0, S0⟩, ⟨%d1, S1⟩, ⟨%d2, S2⟩⟩, Hg⟩
  isplitl [S0 S1 S2]
  · iexists d0; iexists d1; iexists d2
    isplitr
    · ipureintro; intro u hu; omega
    isplitl [S0]; · iexact S0
    isplitl [S1]; · iexact S1
    iexact S2
  iexact Hg

theorem finish (c : Dev nD) : (rdats m c).Φ (Fin.last cfg0.N) ⊢ (Pipeline.ΦA spec0 c : sProp 𝕄) := by
  show Between m c cfg0.N ⊢ _
  unfold Pipeline.ΦA Between; rw [scopedRest0_eq]; simp only [owns_whole]
  iintro ⟨⟨%d0, %d1, %d2, -, S0, S1, S2⟩, Hg⟩
  isplitl [S0 S1 S2]
  · isplitl [S0]
    · iexists d0; iexact S0
    isplitl [S1]
    · iexists d1; iexact S1
    iexists d2; iexact S2
  iexact Hg

set_option backward.isDefEq.respectTransparency.types false in
/-- Every execution ends, with each array as the points left its blocks and with no signal outstanding. -/
theorem run_rel : θ_run defs (onTc (τ := τ) (main (F := F))) (s₀ m ρ) (fun r => Pipeline.RDat.FramePost (cfgs 0) (fun c => rdats m c) (V m) r ∧ r.2.sem = fun _ => 0) :=
  Pipeline.RDat.θ_run_frame_track (Q' := _) cfgs (0 : Fin 1) launch0 defs₀ Variants.none (fun c => rdats m c) m ρ main
    (hbody := fun c => (body_obligation m c).toRRel) (hshare := fun c => (rdats m c).share_full fun _ => rfl)
    (howed := fun _ _ => rfl) (V := V m) (hmain := hmain m Variants.none) (hA := dats_A m) (hin := start m) (hout := finish m)

/-- The arguments end unchanged. -/
theorem args_unchanged {r : PUnit × MemSt nD τ sig (Elt F)} (h : Pipeline.RDat.FramePost (cfgs 0) (fun c => rdats m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 1 rfl).trans ((dats_A m c 1).trans (V_main_arg4 m c))⟩

/-- The arguments end unchanged and every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_unchanged m h.1 c, h.2⟩) (run_rel m ρ)

end Cert.FfnRun

end
-- ==== Proof.Consts.lean ====
/-
  The constants of the programs as extended reals.
-/
module

public import Idealize.ShloMosaic.Lib.IdealHost

@[expose] public section

namespace Cert.Consts

open Idealize.ShloMosaic

/-- The word of one half. -/
theorem ofBits_half : Ideal.ofBits .f32 0x3F000000#32 = ((1 / 2 : ℝ) : EReal) := by
  simp [Ideal.ofBits, Ideal.ieee, -EReal.coe_mul]; norm_num

/-- The word of infinity. -/
theorem ofBits_infinite : Ideal.ofBits .f32 0x7F800000#32 = ⊤ := by
  simp [Ideal.ofBits, Ideal.ieee]

/-- The word of 1024. -/
theorem ofBits_1024 : Ideal.ofBits .f32 0x44800000#32 = ((1024 : ℝ) : EReal) := by
  simp [Ideal.ofBits, Ideal.ieee, -EReal.coe_mul]; norm_num

/-- The word of 1024 is not zero. -/
theorem ofBits_1024_ne_zero : Ideal.ofBits .f32 0x44800000#32 ≠ 0 := by
  rw [ofBits_1024]; exact_mod_cast (by norm_num : (1024 : ℝ) ≠ 0)

end Cert.Consts

end
-- ==== Proof.FfnSpec.lean ====
/-
  The feed-forward gradient over the extended reals: its formulas row by row, and that the kernel's payloads and the reference compute them.
-/
module

public import proofs.«01_k».proof.Proof.FfnFrame
public import proofs.«01_k».proof.Proof.Gen.FfnRefIdeal.Read
public import proofs.«01_k».proof.Proof.Consts
public import Idealize.ShloMosaic.Lib.Pointwise

@[expose] public section

set_option maxRecDepth 16384

noncomputable section

open Idealize.ShloMosaic Idealize.ShloMosaic.TcCoe Idealize.SL.Sem

namespace Cert.FfnRun

/-! ## The formulas at one row and one hidden unit -/

/-- The product of a row and a column. -/
def dot {n : ℕ} (x w : Fin n → EReal) : EReal := ∑ l, x l * w l

/-- Half of a row of the cotangent. -/
def halved {n : ℕ} (d : Fin n → EReal) (l : Fin n) : EReal := Ideal.ofBits .f32 0x3F000000#32 * d l

/-- The gated unit: the gate's argument times its sigmoid. -/
def silu (g : EReal) : EReal := g * Ideal.logistic g

/-- The gradient of the gate's argument, from the argument, the up unit and the gradient of the product, as the kernel writes it. -/
def dGate (g u a : EReal) : EReal :=
  (a * u) * (Ideal.logistic g * (1 + g * (1 - Ideal.logistic g)))

/-- The same as the sum of two products: the sigmoid's own gradient and the argument's. -/
def dGateRef (g u a : EReal) : EReal :=
  (a * u) * Ideal.logistic g + (g * (a * u)) * (Ideal.logistic g * (1 - Ideal.logistic g))

/-- The two agree where the up unit and the gradient of the product are finite, whatever the gate's argument. -/
theorem dGateRef_eq (g : EReal) (u a : ℝ) : dGateRef g u a = dGate g u a := by
  have h1 : (1 : EReal) - 1 = 0 := by rw [← EReal.coe_one, ← EReal.coe_sub, sub_self, EReal.coe_zero]
  unfold dGateRef dGate
  induction g with
  | bot => simp
  | top => simp [h1]
  | coe g =>
    rw [Ideal.logistic_coe]
    generalize (1 + Real.exp (-g))⁻¹ = s
    rw [← EReal.coe_one]
    norm_cast
    ring

section Kernel

open Cert.FfnIdeal Cert.FfnIdeal.Gen

variable (x : Vec Ideal S1056x1024 .bf16) (d : Vec Ideal S1056x1024 .f32) (wg wu : Vec Ideal S1024x256 .bf16) (wd : Vec Ideal S256x1024 .bf16)

/-- The gate's argument at a row and a unit of the blocks, the up unit, and the gradient of their product. -/
abbrev bG (r : Fin 1056) (k : Fin 256) : EReal := dot (fun l => x (ix2 r l)) (fun l => wg (ix2 l k))
abbrev bA (r : Fin 1056) (k : Fin 256) : EReal := dot (halved fun l => d (ix2 r l)) (fun l => wd (ix2 k l))

theorem pay16_at (r : Fin 1056) (k : Fin 256) : k0_pay16 x wg (ix2 r k) = bG x wg r k := by
  pointwise [k0_pay16, k0_pay12, k0_pay14]; rfl
theorem pay17_at (r : Fin 1056) (k : Fin 256) : k0_pay17 x wu (ix2 r k) = bG x wu r k := by
  pointwise [k0_pay17, k0_pay12, k0_pay15]; rfl
theorem pay18_at (r : Fin 1056) (k : Fin 256) : k0_pay18 x wg (ix2 r k) = Ideal.logistic (bG x wg r k) := by
  pointwise [k0_pay18]; simp only [pay16_at]
theorem pay19_at (r : Fin 1056) (k : Fin 256) : k0_pay19 x wg (ix2 r k) = silu (bG x wg r k) := by
  pointwise [k0_pay19]; simp only [pay16_at, pay18_at]; rfl
theorem pay13_at (r : Fin 1056) (l : Fin 1024) : k0_pay13 d (ix2 r l) = halved (fun l => d (ix2 r l)) l := by
  pointwise [k0_pay13]; rfl
theorem pay20_at (r : Fin 1056) (k : Fin 256) : k0_pay20 d wd (ix2 r k) = bA d wd r k := by
  pointwise [k0_pay20]; simp only [pay13_at]; rfl
theorem pay22_at (r : Fin 1056) (k : Fin 256) : k0_pay22 x d wg wu wd (ix2 r k) = dGate (bG x wg r k) (bG x wu r k) (bA d wd r k) := by
  pointwise [k0_pay22]; simp only [pay16_at, pay17_at, pay18_at, pay20_at]; rfl
theorem pay23_at (r : Fin 1056) (k : Fin 256) : k0_pay23 x d wg wd (ix2 r k) = bA d wd r k * silu (bG x wg r k) := by
  pointwise [k0_pay23]; simp only [pay19_at, pay20_at]

/-- A point's part of the down weight's gradient. -/
theorem pay21_at (k : Fin 256) (l : Fin 1024) : k0_pay21 x d wg wu (ix2 k l)
    = ∑ r : Fin 1056, (silu (bG x wg r k) * bG x wu r k) * halved (fun l => d (ix2 r l)) l := by
  pointwise [k0_pay21]; simp only [pay19_at, pay17_at, pay13_at]
/-- A point's part of the gate weight's gradient. -/
theorem pay24_at (l : Fin 1024) (k : Fin 256) : k0_pay24 x d wg wu wd (ix2 l k)
    = ∑ r : Fin 1056, x (ix2 r l) * dGate (bG x wg r k) (bG x wu r k) (bA d wd r k) := by
  pointwise [k0_pay24, k0_pay12]; simp only [pay22_at]
/-- A point's part of the up weight's gradient. -/
theorem pay25_at (l : Fin 1024) (k : Fin 256) : k0_pay25 x d wg wd (ix2 l k)
    = ∑ r : Fin 1056, x (ix2 r l) * (bA d wd r k * silu (bG x wg r k)) := by
  pointwise [k0_pay25, k0_pay12]; simp only [pay23_at]
/-- A column tile's part of the input's gradient. -/
theorem pay1_at (r : Fin 1056) (l : Fin 1024) :
    k0_pay1 (k0_pay15 wu) (k0_pay23 x d wg wd) (k0_pay26 x d wg wu wd) (constant S1056x1024 .f32 0x00000000#32) (ix2 r l)
    = (∑ k : Fin 256, dGate (bG x wg r k) (bG x wu r k) (bA d wd r k) * wg (ix2 l k))
      + ∑ k : Fin 256, (bA d wd r k * silu (bG x wg r k)) * wu (ix2 l k) := by
  pointwise [k0_pay1, k0_pay26, k0_pay15, k0_pay14]; simp only [pay22_at, pay23_at]

end Kernel

/-! ## The formulas of the whole arrays -/

section Whole

open Cert.FfnIdeal

variable (X D : Vec Ideal S2112x1024 .f32) (Wg Wu : Vec Ideal S1024x2816 .f32) (Wd : Vec Ideal S2816x1024 .f32)

/-- The gate's argument (with `Wg`) or the up unit (with `Wu`) at a row and a hidden unit. -/
abbrev wG (W : Vec Ideal S1024x2816 .f32) (r : Fin 2112) (k : Fin 2816) : EReal := dot (fun l => X (ix2 r l)) (fun l => W (ix2 l k))
/-- Half the cotangent's row. -/
abbrev wH (r : Fin 2112) : Fin 1024 → EReal := halved fun l => D (ix2 r l)
/-- The gradient of the gated product. -/
abbrev wA (r : Fin 2112) (k : Fin 2816) : EReal := dot (wH D r) (fun l => Wd (ix2 k l))
/-- The gradient of the gate's argument. -/
abbrev wGate (r : Fin 2112) (k : Fin 2816) : EReal := dGate (wG X Wg r k) (wG X Wu r k) (wA D Wd r k)
/-- The gradient of the up unit. -/
abbrev wUp (r : Fin 2112) (k : Fin 2816) : EReal := wA D Wd r k * silu (wG X Wg r k)

/-- The input's gradient. -/
def dxW : Vec Ideal S2112x1024 .f32 := fun i =>
  ∑ k : Fin 2816, (wGate X D Wg Wu Wd (i 0) k * Wg (ix2 (i 1) k) + wUp X D Wg Wd (i 0) k * Wu (ix2 (i 1) k))
/-- The gate weight's gradient. -/
def dGateW : Vec Ideal S1024x2816 .bf16 := fun i => ∑ r : Fin 2112, X (ix2 r (i 0)) * wGate X D Wg Wu Wd r (i 1)
/-- The up weight's gradient. -/
def dUpW : Vec Ideal S1024x2816 .bf16 := fun i => ∑ r : Fin 2112, X (ix2 r (i 0)) * wUp X D Wg Wd r (i 1)
/-- The down weight's gradient. -/
def dDownW : Vec Ideal S2816x1024 .bf16 := fun i => ∑ r : Fin 2112, (silu (wG X Wg r (i 0)) * wG X Wu r (i 0)) * wH D r (i 1)

end Whole

/-! ## The reference computes the same formulas -/

section Reference

open Cert.FfnRefIdeal Cert.FfnRefIdeal.Read Cert.Consts

variable (X D : Vec Ideal S2112x1024 .f32) (Wg Wu : Vec Ideal S1024x2816 .f32) (Wd : Vec Ideal S2816x1024 .f32)

theorem v0_at (r : Fin 2112) (k : Fin 2816) : val_main_v0 (F := Ideal) X Wg (ix2 r k) = wG X Wg r k := by
  pointwise [val_main_v0]; rfl
theorem v2_at (r : Fin 2112) (k : Fin 2816) : val_main_v2 (F := Ideal) X Wu (ix2 r k) = wG X Wu r k := by
  pointwise [val_main_v2]; rfl
theorem v1_2_at (r : Fin 2112) (k : Fin 2816) : val_main_v1_2 (F := Ideal) X Wg (ix2 r k) = Ideal.logistic (wG X Wg r k) := by
  pointwise [val_main_v1_2, val_main_call0_v4, val_main_call0_v3, val_main_call0_v2, val_main_call0_v1, val_main_call0_v0, val_main_call0_cst, val_main_call0_cst_0]
  simp only [v0_at]; rfl
theorem v1_0_at (r : Fin 2112) (k : Fin 2816) : val_main_v1_0 (F := Ideal) X Wg (ix2 r k) = silu (wG X Wg r k) := by
  pointwise [val_main_v1_0]; simp only [v0_at, v1_2_at]; rfl
theorem v1_1_at (r : Fin 2112) (k : Fin 2816) : val_main_v1_1 (F := Ideal) X Wg (ix2 r k)
    = Ideal.logistic (wG X Wg r k) * (1 - Ideal.logistic (wG X Wg r k)) := by
  pointwise [val_main_v1_1, val_main_call0_v7, val_main_call0_v6, val_main_call0_cst_1]; simp only [v1_2_at]
theorem v3_at (r : Fin 2112) (k : Fin 2816) : val_main_v3 (F := Ideal) X Wg Wu (ix2 r k) = silu (wG X Wg r k) * wG X Wu r k := by
  pointwise [val_main_v3]; simp only [v1_0_at, v2_at]
theorem v8_at (r : Fin 2112) (l : Fin 1024) : val_main_v8 (F := Ideal) D (ix2 r l) = wH D r l := by
  pointwise [val_main_v8, val_main_v7]; rfl
theorem v11_at (r : Fin 2112) (k : Fin 2816) : val_main_v11 (F := Ideal) Wd D (ix2 r k) = wA D Wd r k := by
  pointwise [val_main_v11]; simp only [v8_at]; rfl
theorem v12_at (r : Fin 2112) (k : Fin 2816) : val_main_v12 (F := Ideal) X Wg Wd D (ix2 r k) = wUp X D Wg Wd r k := by
  pointwise [val_main_v12]; simp only [v1_0_at, v11_at]; exact mul_comm _ _
theorem v13_at (r : Fin 2112) (k : Fin 2816) : val_main_v13 (F := Ideal) X Wu Wd D (ix2 r k) = wA D Wd r k * wG X Wu r k := by
  pointwise [val_main_v13]; simp only [v2_at, v11_at]
theorem v17_at (r : Fin 2112) (k : Fin 2816) : val_main_v17 (F := Ideal) X Wg Wu Wd D (ix2 r k)
    = dGateRef (wG X Wg r k) (wG X Wu r k) (wA D Wd r k) := by
  pointwise [val_main_v17, val_main_call1_v0, val_main_call1_v1, val_main_call1_v2]
  simp only [v0_at, v1_1_at, v1_2_at, v13_at]; rfl

/-- The up weight's gradient in the reference. -/
theorem ref_up : val_main_v23 (F := Ideal) X Wg Wd D = dUpW X D Wg Wd := by
  refine funext fun i : S1024x2816.Idx => ?_
  idx_vars i
  pointwise [val_main_v23, val_main_v15, val_main_v14]
  simp only [v12_at]
  exact Finset.sum_congr rfl fun r _ => mul_comm _ _

/-- The down weight's gradient in the reference. -/
theorem ref_down : val_main_v24 (F := Ideal) X Wg Wu D = dDownW X D Wg Wu := by
  refine funext fun i : S2816x1024.Idx => ?_
  idx_vars i
  pointwise [val_main_v24, val_main_v10, val_main_v9]
  simp only [v3_at, v8_at]
  exact Finset.sum_congr rfl fun r _ => mul_comm _ _

/-- The gate weight's gradient in the reference, where its two forms agree. -/
theorem ref_gate (h : ∀ r k, dGateRef (wG X Wg r k) (wG X Wu r k) (wA D Wd r k) = wGate X D Wg Wu Wd r k) :
    val_main_v22 (F := Ideal) X Wg Wu Wd D = dGateW X D Wg Wu Wd := by
  refine funext fun i : S1024x2816.Idx => ?_
  idx_vars i
  pointwise [val_main_v22, val_main_v19, val_main_v18]
  simp only [v17_at, h]
  exact Finset.sum_congr rfl fun r _ => mul_comm _ _

/-- The input's gradient in the reference, where the gate's two forms agree. -/
theorem ref_dx (h : ∀ r k, dGateRef (wG X Wg r k) (wG X Wu r k) (wA D Wd r k) = wGate X D Wg Wu Wd r k) :
    val_main_v21 (F := Ideal) X Wg Wu Wd D = dxW X D Wg Wu Wd := by
  refine funext fun i : S2112x1024.Idx => ?_
  idx_vars i
  pointwise [val_main_v21, val_main_v20, val_main_v16]
  simp only [v17_at, v12_at, h]
  exact (add_comm _ _).trans Finset.sum_add_distrib.symm

/-- Where the input, the up and down weights and the cotangent are finite the gate's two forms agree, whatever the gate's weight. -/
theorem gate_forms (hX : ∀ r l, ∃ a : ℝ, X (ix2 r l) = a) (hD : ∀ r l, ∃ a : ℝ, D (ix2 r l) = a)
    (hu : ∀ l k, ∃ a : ℝ, Wu (ix2 l k) = a) (hd : ∀ k l, ∃ a : ℝ, Wd (ix2 k l) = a) (r : Fin 2112) (k : Fin 2816) :
    dGateRef (wG X Wg r k) (wG X Wu r k) (wA D Wd r k) = wGate X D Wg Wu Wd r k := by
  have key : ∀ {n : ℕ} (f g : Fin n → EReal), (∀ l, ∃ a : ℝ, f l = a) → (∀ l, ∃ a : ℝ, g l = a) → ∃ a : ℝ, dot f g = a := by
    intro n f g hf hg
    choose f' hf' using hf
    choose g' hg' using hg
    refine ⟨∑ l, f' l * g' l, ?_⟩
    unfold dot
    simp only [hf', hg', ← EReal.coe_mul]
    exact (map_sum (⟨⟨((↑) : ℝ → EReal), rfl⟩, EReal.coe_add⟩ : ℝ →+ EReal) _ _).symm
  obtain ⟨u, hu'⟩ := key (fun l => X (ix2 r l)) (fun l => Wu (ix2 l k)) (fun l => hX r l) (fun l => hu l k)
  obtain ⟨a, ha⟩ := key (wH D r) (fun l => Wd (ix2 k l))
    (fun l => let ⟨b, hb⟩ := hD r l; ⟨1 / 2 * b, by show _ * D (ix2 r l) = _; rw [hb, ofBits_half, ← EReal.coe_mul]⟩) (fun l => hd k l)
  show dGateRef _ (dot _ _) (dot _ _) = dGate _ (dot _ _) (dot _ _)
  rw [hu', ha]
  exact dGateRef_eq _ _ _

end Reference

end Cert.FfnRun

end
-- ==== Proof.Tiles.lean ====
/-
  A sum over rows taken tile by tile.
-/
module

public import Idealize.ShloMosaic.Lib.Pointwise
public import Idealize.ShloMosaic.Lib.Claim
public import Idealize.ShloMosaic.Lib.ValueIdx

@[expose] public section

namespace Cert.Tiles

open Idealize.ShloMosaic

/-- The part of the sum of `f` that lies in tile `n`, of `K` tiles of `W` rows; zero past the last tile. -/
noncomputable def part (K W : ℕ) (f : Fin (K * W) → EReal) (n : ℕ) : EReal :=
  if h : n < K then ∑ r : Fin W, f ⟨n * W + r.val, by
    have := r.isLt
    calc n * W + r.val < n * W + W := by omega
      _ = (n + 1) * W := by ring
      _ ≤ K * W := Nat.mul_le_mul_right _ h⟩ else 0

/-- The tiles' parts sum to the whole. -/
theorem sum_parts (K W : ℕ) (f : Fin (K * W) → EReal) : ∑ n ∈ Finset.range K, part K W f n = ∑ r, f r := by
  rw [Finset.sum_range, Fin.sum_univ_tiles K W rfl]
  exact Finset.sum_congr rfl fun n _ => dif_pos n.isLt

end Cert.Tiles

end
-- ==== Proof.FfnValue.lean ====
/-
  The feed-forward gradient kernel's four results over the extended reals: what the points leave, read block by block, and the whole arrays.
-/
module

public import proofs.«01_k».proof.Proof.FfnSpec
public import proofs.«01_k».proof.Proof.Tiles
public import Idealize.ShloMosaic.Lib.Pipeline.ArrRel
public import Idealize.ShloMosaic.Lib.Pipeline.ValueKit

@[expose] public section

set_option maxRecDepth 16384

noncomputable section

open Idealize.ShloMosaic Idealize.ShloMosaic.TcCoe Idealize.SL.Sem

namespace Cert.FfnRun

open Cert.FfnIdeal Cert.FfnIdeal.Gen
open Cert.Tiles (part sum_parts)

variable (m : (ℓ : Loc nD τ sig) → Buf (Elt Ideal) ℓ) (c : Dev nD) (t : Fin cfg0.N)

/-! ## The blocks as entries of the arguments -/

abbrev argX (c : Dev nD) : Vec Ideal S2112x1024 .f32 := m ((c : Thread nD τ).loc main_arg0)
abbrev argG (c : Dev nD) : Vec Ideal S1024x2816 .f32 := m ((c : Thread nD τ).loc main_arg1)
abbrev argU (c : Dev nD) : Vec Ideal S1024x2816 .f32 := m ((c : Thread nD τ).loc main_arg2)
abbrev argW (c : Dev nD) : Vec Ideal S2816x1024 .f32 := m ((c : Thread nD τ).loc main_arg3)
abbrev argD (c : Dev nD) : Vec Ideal S2112x1024 .f32 := m ((c : Thread nD τ).loc main_arg4)

/-- Row `r` of point `t`'s half. -/
def row (r : Fin 1056) : Fin 2112 := ⟨t.val % 2 * 1056 + r.val, by have := r.isLt; omega⟩
/-- Unit `k` of point `t`'s column tile. -/
def unit (k : Fin 256) : Fin 2816 := ⟨t.val / 2 * 256 + k.val, by have := k.isLt; have := last_lt t; omega⟩

theorem idx_facts : ∀ t : Fin cfg0.N, (win0_0.index t (0 : Fin 2) = 0 ∧ win0_0.index t (1 : Fin 2) = 0)
    ∧ (win0_1.index t (0 : Fin 2) = t.val % 2 ∧ win0_1.index t (1 : Fin 2) = 0)
    ∧ (win0_2.index t (0 : Fin 2) = 0 ∧ win0_2.index t (1 : Fin 2) = t.val / 2)
    ∧ (win0_3.index t (0 : Fin 2) = 0 ∧ win0_3.index t (1 : Fin 2) = t.val / 2)
    ∧ (win0_4.index t (0 : Fin 2) = t.val / 2 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = t.val / 2)
    ∧ (win0_7.index t (0 : Fin 2) = 0 ∧ win0_7.index t (1 : Fin 2) = t.val / 2)
    ∧ (win0_8.index t (0 : Fin 2) = t.val / 2 ∧ win0_8.index t (1 : Fin 2) = 0) :=
  (by decide +kernel : ∀ t : Fin grid0.N, _)

theorem host_x : (V m c main_v0 : S2112x1024.Idx → EReal) = argX m c := by
  dsimp only [V, hostOps0]; after_results; rfl
theorem host_g : (V m c main_v1 : S1024x2816.Idx → EReal) = argG m c := by
  dsimp only [V, hostOps0]; after_results; rfl
theorem host_u : (V m c main_v2 : S1024x2816.Idx → EReal) = argU m c := by
  dsimp only [V, hostOps0]; after_results; rfl
theorem host_w : (V m c main_v3 : S2816x1024.Idx → EReal) = argW m c := by
  dsimp only [V, hostOps0]; after_results; rfl

theorem x_at (r : Fin 1056) (l : Fin 1024) :
    half (grid0.coords t) (iblk m c 0 t : Vec Ideal S2112x1024 .bf16) (ix2 r l) = argX m c (ix2 (row t r) l) := by
  obtain ⟨⟨h0, h1⟩, -⟩ := idx_facts t
  rw [half_apply, ← host_x]
  unfold iblk
  rw [View.read_apply]
  show V m c main_v0 _ = _
  congr 1
  funext a
  apply Fin.ext
  match a with
  | ⟨0, _⟩ =>
    show win0_0.index t 0 * 2112 + 1 * (halfIdx (grid0.coords t) (ix2 r l) 0).val = t.val % 2 * 1056 + r.val
    rw [h0, halfIdx_row, coord_half]; show 0 * 2112 + 1 * (1056 * (t.val % 2) + r.val) = _; omega
  | ⟨1, _⟩ =>
    show win0_0.index t 1 * 1024 + 1 * (halfIdx (grid0.coords t) (ix2 r l) 1).val = l.val
    rw [h1, halfIdx_col]; show 0 * 1024 + 1 * l.val = _; omega

theorem d_at (r : Fin 1056) (l : Fin 1024) : (iblk m c 1 t : Vec Ideal S1056x1024 .f32) (ix2 r l) = argD m c (ix2 (row t r) l) := by
  obtain ⟨-, ⟨h0, h1⟩, -⟩ := idx_facts t
  unfold iblk
  rw [View.read_apply]
  show V m c main_arg4 _ = _
  rw [V_main_arg4]
  congr 1
  funext a
  apply Fin.ext
  match a with
  | ⟨0, _⟩ => show win0_1.index t 0 * 1056 + 1 * r.val = t.val % 2 * 1056 + r.val; rw [h0]; omega
  | ⟨1, _⟩ => show win0_1.index t 1 * 1024 + 1 * l.val = l.val; rw [h1]; omega

theorem g_at (l : Fin 1024) (k : Fin 256) : (iblk m c 2 t : Vec Ideal S1024x256 .bf16) (ix2 l k) = argG m c (ix2 l (unit t k)) := by
  obtain ⟨-, -, ⟨h0, h1⟩, -⟩ := idx_facts t
  rw [← host_g]
  unfold iblk
  rw [View.read_apply]
  show V m c main_v1 _ = _
  congr 1
  funext a
  apply Fin.ext
  match a with
  | ⟨0, _⟩ => show win0_2.index t 0 * 1024 + 1 * l.val = l.val; rw [h0]; omega
  | ⟨1, _⟩ => show win0_2.index t 1 * 256 + 1 * k.val = t.val / 2 * 256 + k.val; rw [h1]; omega

theorem u_at (l : Fin 1024) (k : Fin 256) : (iblk m c 3 t : Vec Ideal S1024x256 .bf16) (ix2 l k) = argU m c (ix2 l (unit t k)) := by
  obtain ⟨-, -, -, ⟨h0, h1⟩, -⟩ := idx_facts t
  rw [← host_u]
  unfold iblk
  rw [View.read_apply]
  show V m c main_v2 _ = _
  congr 1
  funext a
  apply Fin.ext
  match a with
  | ⟨0, _⟩ => show win0_3.index t 0 * 1024 + 1 * l.val = l.val; rw [h0]; omega
  | ⟨1, _⟩ => show win0_3.index t 1 * 256 + 1 * k.val = t.val / 2 * 256 + k.val; rw [h1]; omega

theorem w_at (k : Fin 256) (l : Fin 1024) : (iblk m c 4 t : Vec Ideal S256x1024 .bf16) (ix2 k l) = argW m c (ix2 (unit t k) l) := by
  obtain ⟨-, -, -, -, ⟨h0, h1⟩, -⟩ := idx_facts t
  rw [← host_w]
  unfold iblk
  rw [View.read_apply]
  show V m c main_v3 _ = _
  congr 1
  funext a
  apply Fin.ext
  match a with
  | ⟨0, _⟩ => show win0_4.index t 0 * 256 + 1 * k.val = t.val / 2 * 256 + k.val; rw [h0]; omega
  | ⟨1, _⟩ => show win0_4.index t 1 * 1024 + 1 * l.val = l.val; rw [h1]; omega

/-! ## What a point adds -/

abbrev cGate (c : Dev nD) := wGate (argX m c) (argD m c) (argG m c) (argU m c) (argW m c)
abbrev cUp (c : Dev nD) := wUp (argX m c) (argD m c) (argG m c) (argW m c)

/-- One row's and one hidden unit's parts of the three weights' gradients, and of the input's. -/
abbrev gateTerm (l : Fin 1024) (k : Fin 2816) (r : Fin 2112) : EReal := argX m c (ix2 r l) * cGate m c r k
abbrev upTerm (l : Fin 1024) (k : Fin 2816) (r : Fin 2112) : EReal := argX m c (ix2 r l) * cUp m c r k
abbrev downTerm (l : Fin 1024) (k : Fin 2816) (r : Fin 2112) : EReal :=
  (silu (wG (argX m c) (argG m c) r k) * wG (argX m c) (argU m c) r k) * wH (argD m c) r l
abbrev rowTerm (r : Fin 2112) (l : Fin 1024) (k : Fin (11 * 256)) : EReal :=
  cGate m c r k * argG m c (ix2 l k) + cUp m c r k * argU m c (ix2 l k)

theorem gatePart_at (l : Fin 1024) (k : Fin 256) : gatePart m c t (ix2 l k) = ∑ r : Fin 1056, gateTerm m c l (unit t k) (row t r) := by
  unfold gatePart; rw [pay24_at]
  simp only [bG, bA, x_at, d_at, g_at, u_at, w_at]

theorem upPart_at (l : Fin 1024) (k : Fin 256) : upPart m c t (ix2 l k) = ∑ r : Fin 1056, upTerm m c l (unit t k) (row t r) := by
  unfold upPart; rw [pay25_at]
  simp only [bG, bA, x_at, d_at, g_at, u_at, w_at]

theorem downPart_at (k : Fin 256) (l : Fin 1024) : downPart m c t (ix2 k l) = ∑ r : Fin 1056, downTerm m c l (unit t k) (row t r) := by
  unfold downPart; rw [pay21_at]
  simp only [bG, bA, x_at, d_at, g_at, u_at, w_at]

/-- What a column tile adds to the rows. -/
theorem added_at (r : Fin 1056) (l : Fin 1024) :
    k0_pay1 (k0_pay15 (iblk m c 3 t)) (k0_pay23 (half (grid0.coords t) (iblk m c 0 t)) (iblk m c 1 t) (iblk m c 2 t) (iblk m c 4 t))
      (k0_pay26 (half (grid0.coords t) (iblk m c 0 t)) (iblk m c 1 t) (iblk m c 2 t) (iblk m c 3 t) (iblk m c 4 t))
      (constant S1056x1024 .f32 0x00000000#32) (ix2 r l)
    = part 11 256 (rowTerm m c (row t r) l) (t.val / 2) := by
  rw [pay1_at]
  simp only [bG, bA, x_at, d_at, g_at, u_at, w_at]
  unfold part
  rw [dif_pos (by have := last_lt t; omega)]
  exact Finset.sum_add_distrib.symm

theorem rowsOver_at (y : Vec Ideal S1056x1024 .f32) (r : Fin 1056) (l : Fin 1024) : rowsOver m c t y (ix2 r l)
    = if t.val < 2 then part 11 256 (rowTerm m c (row t r) l) (t.val / 2) else y (ix2 r l) + part 11 256 (rowTerm m c (row t r) l) (t.val / 2) := by
  unfold rowsOver nextRows
  by_cases h : t.val < 2
  · rw [if_pos h, if_pos ((firstTile_iff t).mpr h), added_at]
  · rw [if_neg h, if_neg (fun h' => h ((firstTile_iff t).mp h')), ← added_at]
    pointwise [k0_pay11]

/-- After point `n` its half's rows hold the sum over the column tiles so far. -/
theorem rowsAfter_at (r : Fin 1056) (l : Fin 1024) : ∀ (n : ℕ) (hn : n < cfg0.N), rowsAfter m c n hn (ix2 r l)
    = ∑ j ∈ Finset.range (n / 2 + 1), part 11 256 (rowTerm m c (row ⟨n, hn⟩ r) l) j
  | 0, hn => by
    rw [rowsAfter, rowsOver_at, if_pos (by dsimp only; omega)]
    simp only [Nat.reduceDiv, Nat.zero_div, zero_add, Finset.sum_range_one]
  | 1, hn => by
    rw [rowsAfter, rowsOver_at, if_pos (by dsimp only; omega)]
    simp only [Nat.reduceDiv, Nat.zero_div, zero_add, Finset.sum_range_one]
  | n + 2, hn => by
    have hr : row (⟨n, Nat.lt_of_succ_lt (Nat.lt_of_succ_lt hn)⟩ : Fin cfg0.N) r = row ⟨n + 2, hn⟩ r :=
      Fin.ext (by show n % 2 * 1056 + r.val = (n + 2) % 2 * 1056 + r.val; omega)
    rw [rowsAfter, rowsOver_at, if_neg (by dsimp only; omega), rowsAfter_at r l n, hr, show (n + 2) / 2 + 1 = (n / 2 + 1) + 1 by omega,
      Finset.sum_range_succ _ (n / 2 + 1), show (n + 2) / 2 = n / 2 + 1 by omega]

/-- The two halves' parts of a sum over the rows. -/
theorem two_halves (u : Fin cfg0.N) (hu : u.val + 1 = t.val) (ht : t.val % 2 = 1) (f : Fin 2112 → EReal) :
    ∑ r : Fin 1056, f (row u r) + ∑ r : Fin 1056, f (row t r) = ∑ r, f r := by
  rw [Fin.sum_univ_tiles 2 1056 rfl, Fin.sum_univ_two]
  refine congrArg₂ (fun a b : EReal => a + b) (Finset.sum_congr rfl fun r _ => congrArg f (Fin.ext ?_))
    (Finset.sum_congr rfl fun r _ => congrArg f (Fin.ext ?_))
  · show u.val % 2 * 1056 + r.val = 0 * 1056 + r.val; omega
  · show t.val % 2 * 1056 + r.val = 1 * 1056 + r.val; omega

theorem unit_eq (u : Fin cfg0.N) (hu : u.val + 1 = t.val) (ht : t.val % 2 = 1) (k : Fin 256) : unit u k = unit t k :=
  Fin.ext (by show u.val / 2 * 256 + k.val = t.val / 2 * 256 + k.val; omega)

theorem gate_at (u : Fin cfg0.N) (hu : u.val + 1 = t.val) (ht : t.val % 2 = 1) (l : Fin 1024) (k : Fin 256) :
    k0_pay8 (k0_pay5 (gatePart m c t) (k0_pay2 (gatePart m c u))) (ix2 l k)
      = dGateW (argX m c) (argD m c) (argG m c) (argU m c) (argW m c) (ix2 l (unit t k)) := by
  pointwise [k0_pay8, k0_pay5, k0_pay2]
  rw [gatePart_at, gatePart_at, unit_eq t u hu ht]
  exact two_halves t u hu ht (gateTerm m c l (unit t k))

theorem up_at (u : Fin cfg0.N) (hu : u.val + 1 = t.val) (ht : t.val % 2 = 1) (l : Fin 1024) (k : Fin 256) :
    k0_pay9 (k0_pay6 (upPart m c t) (k0_pay3 (upPart m c u))) (ix2 l k)
      = dUpW (argX m c) (argD m c) (argG m c) (argW m c) (ix2 l (unit t k)) := by
  pointwise [k0_pay9, k0_pay6, k0_pay3]
  rw [upPart_at, upPart_at, unit_eq t u hu ht]
  exact two_halves t u hu ht (upTerm m c l (unit t k))

theorem down_at (u : Fin cfg0.N) (hu : u.val + 1 = t.val) (ht : t.val % 2 = 1) (k : Fin 256) (l : Fin 1024) :
    k0_pay10 (k0_pay7 (downPart m c t) (k0_pay4 (downPart m c u))) (ix2 k l)
      = dDownW (argX m c) (argD m c) (argG m c) (argU m c) (ix2 (unit t k) l) := by
  pointwise [k0_pay10, k0_pay7, k0_pay4]
  rw [downPart_at, downPart_at, unit_eq t u hu ht]
  exact two_halves t u hu ht (downTerm m c l (unit t k))

/-! ## The result arrays -/

theorem flush5_iff : ∀ t : Fin cfg0.N, (cfg0.win 5).flush t = true ↔ t.val = 21 := by decide +kernel
theorem flush6_iff : ∀ t : Fin cfg0.N, (cfg0.win 6).flush t = true ↔ t.val % 2 = 1 := by decide +kernel
theorem flush7_iff : ∀ t : Fin cfg0.N, (cfg0.win 7).flush t = true ↔ t.val % 2 = 1 := by decide +kernel
theorem flush8_iff : ∀ t : Fin cfg0.N, (cfg0.win 8).flush t = true ↔ t.val % 2 = 1 := by decide +kernel

theorem mem_of_emb {κ : Kind} {sp : Space} {S : Shape} {e : EltTy} (v : View sig κ sp S e) (j : S.Idx) {i : v.ty.Idx} (h : v.emb j = i) : i ∈ v.set := h ▸ v.emb_mem_set j

/-- Where the blocks' elements lie in the result arrays. -/
theorem emb_5 (j : S2112x1024.Idx) : (((cfg0.win 5).blk t).view.emb j : S2112x1024.Idx) = j := by
  obtain ⟨-, -, -, -, -, ⟨h0, h1⟩, -⟩ := idx_facts t
  funext a
  apply Fin.ext
  match a with
  | ⟨0, _⟩ => show win0_5.index t 0 * 2112 + 1 * (j 0).val = (j 0).val; rw [h0]; omega
  | ⟨1, _⟩ => show win0_5.index t 1 * 1024 + 1 * (j 1).val = (j 1).val; rw [h1]; omega

theorem emb_6 (j : S1024x256.Idx) : ((cfg0.win 6).blk t).view.emb j = (ix2 (j 0) (unit t (j 1)) : S1024x2816.Idx) := by
  obtain ⟨-, -, -, -, -, -, ⟨h0, h1⟩, -⟩ := idx_facts t
  funext a
  apply Fin.ext
  match a with
  | ⟨0, _⟩ => show win0_6.index t 0 * 1024 + 1 * (j 0).val = (j 0).val; rw [h0]; omega
  | ⟨1, _⟩ => show win0_6.index t 1 * 256 + 1 * (j 1).val = t.val / 2 * 256 + (j 1).val; rw [h1]; omega

theorem emb_7 (j : S1024x256.Idx) : ((cfg0.win 7).blk t).view.emb j = (ix2 (j 0) (unit t (j 1)) : S1024x2816.Idx) := by
  obtain ⟨-, -, -, -, -, -, -, ⟨h0, h1⟩, -⟩ := idx_facts t
  funext a
  apply Fin.ext
  match a with
  | ⟨0, _⟩ => show win0_7.index t 0 * 1024 + 1 * (j 0).val = (j 0).val; rw [h0]; omega
  | ⟨1, _⟩ => show win0_7.index t 1 * 256 + 1 * (j 1).val = t.val / 2 * 256 + (j 1).val; rw [h1]; omega

theorem emb_8 (j : S256x1024.Idx) : ((cfg0.win 8).blk t).view.emb j = (ix2 (unit t (j 0)) (j 1) : S2816x1024.Idx) := by
  obtain ⟨-, -, -, -, -, -, -, -, ⟨h0, h1⟩⟩ := idx_facts t
  funext a
  apply Fin.ext
  match a with
  | ⟨0, _⟩ => show win0_8.index t 0 * 256 + 1 * (j 0).val = t.val / 2 * 256 + (j 0).val; rw [h0]; omega
  | ⟨1, _⟩ => show win0_8.index t 1 * 1024 + 1 * (j 1).val = (j 1).val; rw [h1]; omega

/-- The resident block after the last point: its two halves hold the sums over all column tiles. -/
theorem rows_last (ht : t.val = 21) (X : Vec Ideal S2112x1024 .f32) (h : RowsLeft m c t X) :
    X = dxW (argX m c) (argD m c) (argG m c) (argU m c) (argW m c) := by
  have hN : cfg0.N = 22 := N_0
  have key : ∀ u : Fin cfg0.N, u.val / 2 = 10 → half (grid0.coords u) X = rowsAfter m c u.val u.isLt → ∀ (r : Fin 1056) (l : Fin 1024),
      X (ix2 (row u r) l) = dxW (argX m c) (argD m c) (argG m c) (argU m c) (argW m c) (ix2 (row u r) l) := by
    intro u hu hX r l
    have e := congrFun hX (ix2 r l)
    rw [half_apply, rowsAfter_at, hu, sum_parts] at e
    have hi : halfIdx (grid0.coords u) (ix2 r l) = (ix2 (row u r) l : S2112x1024.Idx) := by
      funext a
      apply Fin.ext
      match a with
      | ⟨0, _⟩ => exact (halfIdx_row _ _).trans (by rw [coord_half]; show 1056 * (u.val % 2) + r.val = u.val % 2 * 1056 + r.val; omega)
      | ⟨1, _⟩ => exact halfIdx_col _ _
    rw [hi] at e
    exact e
  refine funext fun i : S2112x1024.Idx => ?_
  obtain ⟨R, l, rfl⟩ : ∃ R l, i = ix2 R l := ⟨i 0, i 1, funext fun a => match a with | ⟨0, _⟩ => rfl | ⟨1, _⟩ => rfl⟩
  by_cases hR : R.val < 1056
  · have := key ⟨20, by omega⟩ (by dsimp only) (h.2 ⟨20, by omega⟩ (by rw [ht])) ⟨R.val, hR⟩ l
    rwa [show row (⟨20, by omega⟩ : Fin cfg0.N) ⟨R.val, hR⟩ = R from Fin.ext (by show 20 % 2 * 1056 + R.val = R.val; omega)] at this
  · have hR' := R.isLt
    have := key t (by omega) h.1 ⟨R.val - 1056, by omega⟩ l
    rwa [show row t ⟨R.val - 1056, by omega⟩ = R from Fin.ext (by show t.val % 2 * 1056 + (R.val - 1056) = R.val; omega)] at this

/-- Every element of a result array lies in a block that is written back. -/
theorem cover_5 (i : S2112x1024.Idx) : ∃ t : Fin cfg0.N, (cfg0.win 5).flush t = true ∧ i ∈ ((cfg0.win 5).blk t).view.set := by
  have hN : cfg0.N = 22 := N_0
  obtain ⟨t, ht⟩ : ∃ t : Fin cfg0.N, t.val = 21 := ⟨⟨21, by omega⟩, rfl⟩
  exact ⟨t, (flush5_iff t).mpr ht, mem_of_emb _ i (emb_5 t i)⟩

theorem cover_6 (i : S1024x2816.Idx) : ∃ t : Fin cfg0.N, (cfg0.win 6).flush t = true ∧ i ∈ ((cfg0.win 6).blk t).view.set := by
  have hN : cfg0.N = 22 := N_0
  have hi : (i 1).val < 2816 := (i 1).isLt
  obtain ⟨t, ht⟩ : ∃ t : Fin cfg0.N, t.val = 2 * ((i 1).val / 256) + 1 := ⟨⟨_, by omega⟩, rfl⟩
  have e : (ix2 (i 0) (unit t ⟨(i 1).val % 256, Nat.mod_lt _ (by decide)⟩) : S1024x2816.Idx) = i := funext fun a => Fin.ext <| match a with
    | ⟨0, _⟩ => by rfl
    | ⟨1, _⟩ => by show t.val / 2 * 256 + (i 1).val % 256 = (i 1).val; omega
  exact ⟨t, (flush6_iff t).mpr (by omega), mem_of_emb _ _ ((emb_6 t (ix2 (i 0) ⟨(i 1).val % 256, Nat.mod_lt _ (by decide)⟩)).trans e)⟩

theorem cover_7 (i : S1024x2816.Idx) : ∃ t : Fin cfg0.N, (cfg0.win 7).flush t = true ∧ i ∈ ((cfg0.win 7).blk t).view.set := by
  have hN : cfg0.N = 22 := N_0
  have hi : (i 1).val < 2816 := (i 1).isLt
  obtain ⟨t, ht⟩ : ∃ t : Fin cfg0.N, t.val = 2 * ((i 1).val / 256) + 1 := ⟨⟨_, by omega⟩, rfl⟩
  have e : (ix2 (i 0) (unit t ⟨(i 1).val % 256, Nat.mod_lt _ (by decide)⟩) : S1024x2816.Idx) = i := funext fun a => Fin.ext <| match a with
    | ⟨0, _⟩ => by rfl
    | ⟨1, _⟩ => by show t.val / 2 * 256 + (i 1).val % 256 = (i 1).val; omega
  exact ⟨t, (flush7_iff t).mpr (by omega), mem_of_emb _ _ ((emb_7 t (ix2 (i 0) ⟨(i 1).val % 256, Nat.mod_lt _ (by decide)⟩)).trans e)⟩

theorem cover_8 (i : S2816x1024.Idx) : ∃ t : Fin cfg0.N, (cfg0.win 8).flush t = true ∧ i ∈ ((cfg0.win 8).blk t).view.set := by
  have hN : cfg0.N = 22 := N_0
  have hi : (i 0).val < 2816 := (i 0).isLt
  obtain ⟨t, ht⟩ : ∃ t : Fin cfg0.N, t.val = 2 * ((i 0).val / 256) + 1 := ⟨⟨_, by omega⟩, rfl⟩
  have e : (ix2 (unit t ⟨(i 0).val % 256, Nat.mod_lt _ (by decide)⟩) (i 1) : S2816x1024.Idx) = i := funext fun a => Fin.ext <| match a with
    | ⟨0, _⟩ => by show t.val / 2 * 256 + (i 0).val % 256 = (i 0).val; omega
    | ⟨1, _⟩ => by rfl
  exact ⟨t, (flush8_iff t).mpr (by omega), mem_of_emb _ _ ((emb_8 t (ix2 ⟨(i 0).val % 256, Nat.mod_lt _ (by decide)⟩ (i 1))).trans e)⟩

section Arrays

variable {m c}
variable (after : (w : Fin cfg0.W) → Fin cfg0.N → (cfg0.win w).block.Idx → Elt Ideal (cfg0.win w).elt)

/-- The result arrays from what is stated of the blocks left at the points that write them back. -/
theorem final_5 (h : ∀ t : Fin cfg0.N, (cfg0.win 5).flush t = true → Left m c 5 t (after 5 t)) :
    ((rdats m c).withAfter after).arrAt 5 cfg0.N = dxW (argX m c) (argD m c) (argG m c) (argU m c) (argW m c) := by
  refine ((rdats m c).withAfter after).arrAt_eq_of_cover 5 _ (fun t hf => ?_) cover_5
  have hX := rows_last m c t ((flush5_iff t).mp hf) _ (h t hf)
  refine funext fun (j : S2112x1024.Idx) => ?_
  rw [View.read_apply, emb_5]
  exact congrFun hX j

theorem final_6 (h : ∀ t : Fin cfg0.N, (cfg0.win 6).flush t = true → Left m c 6 t (after 6 t)) :
    ((rdats m c).withAfter after).arrAt 6 cfg0.N = dGateW (argX m c) (argD m c) (argG m c) (argU m c) (argW m c) := by
  refine ((rdats m c).withAfter after).arrAt_eq_of_cover 6 _ (fun t hf => ?_) cover_6
  have ht := (flush6_iff t).mp hf
  have hX := h t hf ⟨t.val - 1, by omega⟩ (by dsimp only; omega) ht
  refine funext fun (j : S1024x256.Idx) => ?_
  rw [View.read_apply, emb_6]
  refine (congrFun hX j).trans ?_
  idx_vars j
  exact gate_at m c t _ (by dsimp only; omega) ht _ _

theorem final_7 (h : ∀ t : Fin cfg0.N, (cfg0.win 7).flush t = true → Left m c 7 t (after 7 t)) :
    ((rdats m c).withAfter after).arrAt 7 cfg0.N = dUpW (argX m c) (argD m c) (argG m c) (argW m c) := by
  refine ((rdats m c).withAfter after).arrAt_eq_of_cover 7 _ (fun t hf => ?_) cover_7
  have ht := (flush7_iff t).mp hf
  have hX := h t hf ⟨t.val - 1, by omega⟩ (by dsimp only; omega) ht
  refine funext fun (j : S1024x256.Idx) => ?_
  rw [View.read_apply, emb_7]
  refine (congrFun hX j).trans ?_
  idx_vars j
  exact up_at m c t _ (by dsimp only; omega) ht _ _

theorem final_8 (h : ∀ t : Fin cfg0.N, (cfg0.win 8).flush t = true → Left m c 8 t (after 8 t)) :
    ((rdats m c).withAfter after).arrAt 8 cfg0.N = dDownW (argX m c) (argD m c) (argG m c) (argU m c) := by
  refine ((rdats m c).withAfter after).arrAt_eq_of_cover 8 _ (fun t hf => ?_) cover_8
  have ht := (flush8_iff t).mp hf
  have hX := h t hf ⟨t.val - 1, by omega⟩ (by dsimp only; omega) ht
  refine funext fun (j : S256x1024.Idx) => ?_
  rw [View.read_apply, emb_8]
  refine (congrFun hX j).trans ?_
  idx_vars j
  exact down_at m c t _ (by dsimp only; omega) ht _ _

end Arrays

/-- After the run the four result arrays hold the gradients. -/
theorem results {r : PUnit × MemSt nD τ sig (Elt Ideal)} (h : Pipeline.RDat.FramePost (cfgs 0) (fun c => rdats m c) (V m) r) (c : Dev nD) :
    r.2.mem ((c : Thread nD τ).loc main_v4_0) = dxW (argX m c) (argD m c) (argG m c) (argU m c) (argW m c)
      ∧ r.2.mem ((c : Thread nD τ).loc main_v4_1) = dGateW (argX m c) (argD m c) (argG m c) (argU m c) (argW m c)
      ∧ r.2.mem ((c : Thread nD τ).loc main_v4_2) = dUpW (argX m c) (argD m c) (argG m c) (argW m c)
      ∧ r.2.mem ((c : Thread nD τ).loc main_v4_3) = dDownW (argX m c) (argD m c) (argG m c) (argU m c) :=
  let ⟨after, hL, hA⟩ := h.exists_exact c
  ⟨(hA 5).trans (final_5 after fun t hf => (dats m c).toRRel_leaves rfl (hL 5 t hf)),
    (hA 6).trans (final_6 after fun t hf => (dats m c).toRRel_leaves rfl (hL 6 t hf)),
    (hA 7).trans (final_7 after fun t hf => (dats m c).toRRel_leaves rfl (hL 7 t hf)),
    (hA 8).trans (final_8 after fun t hf => (dats m c).toRRel_leaves rfl (hL 8 t hf))⟩

end Cert.FfnRun

end
-- ==== Proof.Finite.lean ====
/-
  A precondition that compares absolute values with the infinite word says that the numbers are real.
-/
module

public import proofs.«01_k».proof.Proof.Consts
public import Idealize.ShloMosaic.PureOps

@[expose] public section

noncomputable section

open Idealize.ShloMosaic

namespace Cert.Proof

open Cert.Consts

/-- A number whose absolute value is below the infinite word is real. -/
theorem real_of_below (x : EReal) (h : Ideal.cmp .olt (max x (-x)) (Ideal.ofBits .f32 0x7F800000#32) = 1#1) : ∃ a : ℝ, x = a := by
  have hx : max x (-x) < ⊤ := by
    rw [← ofBits_infinite]
    by_contra hn
    simp [Ideal.cmp, hn] at h
  induction x with
  | bot => simp at hx
  | top => simp at hx
  | coe a => exact ⟨a, rfl⟩

end Cert.Proof

end
-- ==== Proof.FfnClaims.lean ====
/-
  The claims about the feed-forward part's gradient.
-/
module

public import proofs.«01_k».proof.Defs
public import proofs.«01_k».proof.Proof.FfnValue
public import proofs.«01_k».proof.Proof.Gen.Ffn.Launch
public import proofs.«01_k».proof.Proof.Gen.FfnRefIdeal.Run
public import proofs.«01_k».proof.Proof.Gen.Pre_ffn_finite
public import proofs.«01_k».proof.Proof.Finite
public import Idealize.ShloMosaic.Lib.Quiescent
public import Idealize.ShloMosaic.Lib.ReduceAll

@[expose] public section

set_option maxRecDepth 16384

noncomputable section

open Idealize.ShloMosaic Idealize.ShloMosaic.TcCoe Idealize.SL.Sem

namespace Cert.Proof

open Cert.FfnRun Cert.Consts Cert.FfnIdeal

/-- The two printed programs are one program: what is claimed of the first is what is proved of the second at machine words. -/
theorem ffn_same : (∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)) = Cert.quiescent_Ffn (hFfn := Cert.Ffn.Gen.facts) := by
  sl_kernel_rfl

theorem ffn_frame : Cert.quiescent_Ffn (hFfn := Cert.Ffn.Gen.facts) := ffn_same.mp fun m ρ _ => frame_run (F := Bits) m ρ

theorem ffn_ideal_frame : Cert.quiescent_FfnIdeal (hFfnIdeal := Cert.FfnIdeal.Gen.facts) := fun m ρ _ => frame_run m ρ

theorem ffn_ideal_frame_pre : Cert.quiescent_FfnIdeal_pre_ffn_finite (hFfnIdeal := Cert.FfnIdeal.Gen.facts)
    (hPre_ffn_finite := Cert.Pre_ffn_finite.Gen.facts) := fun m ρ _ => frame_run m ρ

theorem ffn_ref_frame : Cert.quiescent_FfnRefIdeal (hFfnRefIdeal := Cert.FfnRefIdeal.Gen.facts) := fun m ρ _ =>
  (θ_run Cert.FfnRefIdeal.defs _ _).mono (fun r h => ⟨fun c => (h c).2.2.2.2, sem_eq_zero_of_no_sems (by decide) r.2⟩)
    (Cert.FfnRefIdeal.Value.run (F := Ideal) m ρ)

theorem ffn_ref_frame_pre : Cert.quiescent_FfnRefIdeal_pre_ffn_finite (hFfnRefIdeal := Cert.FfnRefIdeal.Gen.facts)
    (hPre_ffn_finite := Cert.Pre_ffn_finite.Gen.facts) := fun m ρ _ => ffn_ref_frame m ρ trivial

instance : Subsingleton Cert.Pre_ffn_finite.S_.Idx := ⟨fun a b => funext fun i => i.elim0⟩

/-- What the precondition states of the arguments: the input, the up and down weights and the cotangent are real. -/
theorem finite_args (x0 : Vec Ideal S2112x1024 .f32) (x1 x2 : Vec Ideal S1024x2816 .f32) (x3 : Vec Ideal S2816x1024 .f32)
    (x4 : Vec Ideal S2112x1024 .f32) (h : @Cert.Pre_ffn_finite.fn Cert.Pre_ffn_finite.Gen.facts Ideal _ x0 x1 x2 x3 x4 = fun _ => 1#1) :
    (∀ i, ∃ a : ℝ, x0 i = a) ∧ (∀ i, ∃ a : ℝ, x2 i = a) ∧ (∀ i, ∃ a : ℝ, x3 i = a) ∧ (∀ i, ∃ a : ℝ, x4 i = a) := by
  have h' := congrFun h ix0
  unfold Cert.Pre_ffn_finite.fn Cert.Pre_ffn_finite.fn_part1 at h'
  obtain ⟨h', h4⟩ := IntOp.andi_eq_one.mp h'
  obtain ⟨h', h3⟩ := IntOp.andi_eq_one.mp h'
  obtain ⟨h0, h2⟩ := IntOp.andi_eq_one.mp h'
  exact ⟨fun i => real_of_below _ (Host.reduce_andi_all _ _ _ _ _ h0 i), fun i => real_of_below _ (Host.reduce_andi_all _ _ _ _ _ h2 i),
    fun i => real_of_below _ (Host.reduce_andi_all _ _ _ _ _ h3 i), fun i => real_of_below _ (Host.reduce_andi_all _ _ _ _ _ h4 i)⟩

theorem ffn_algebraic : Cert.algebraic_FfnIdeal_FfnRefIdeal_pre_ffn_finite (hFfnIdeal := Cert.FfnIdeal.Gen.facts)
    (hFfnRefIdeal := Cert.FfnRefIdeal.Gen.facts) (hPre_ffn_finite := Cert.Pre_ffn_finite.Gen.facts) := fun m ρ m' ρ' hpre hagree =>
  ⟨_, _, _, _, (θ_run Cert.FfnIdeal.defs _ _).mono (fun r h c => by
      obtain ⟨h0, h1, h2, h3⟩ := results m h.1 c
      exact ⟨h0, h1, h2, h3, args_unchanged m h.1 c⟩) (run_rel m ρ),
    (θ_run Cert.FfnRefIdeal.defs _ _).mono (fun r h c => by
    obtain ⟨e0, e1, e2, e3, e4⟩ := hagree c
    obtain ⟨h0, h1, h2, h3, hargs⟩ := h c
    have hp := hpre c
    obtain ⟨f0, f2, f3, f4⟩ := finite_args _ _ _ _ _ (hpre c)
    have hg := gate_forms (argX m c) (argD m c) (argG m c) (argU m c) (argW m c) (fun _ _ => f0 _) (fun _ _ => f4 _) (fun _ _ => f2 _) (fun _ _ => f3 _)
    refine ⟨h0.trans ?_, h1.trans ?_, h2.trans ?_, h3.trans ?_, hargs⟩
    · rw [e0, e1, e2, e3, e4]; exact ref_dx _ _ _ _ _ hg
    · rw [e0, e1, e2, e3, e4]; exact ref_gate _ _ _ _ _ hg
    · rw [e0, e1, e3, e4]; exact ref_up _ _ _ _
    · rw [e0, e1, e2, e4]; exact ref_down _ _ _ _) (Cert.FfnRefIdeal.Value.run (F := Ideal) m' ρ')⟩

end Cert.Proof

end
-- ==== Proof.RmsValue.lean ====
/-
  The value of the backward call of the RMS norm with a residual: what its two results hold after the run.
-/
module

public import proofs.«01_k».proof.Proof.Gen.RmsIdeal.Value
public import proofs.«01_k».proof.Proof.Gen.RmsRefIdeal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RmsIdeal.Value

open Cert.RmsIdeal Cert.RmsIdeal.Gen

section AnyValues
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The gradient block of one point, from the point's blocks of `h`, `ct_y`, `ct_h` and the gain. -/
abbrev dhBlock (x0 x1 x2 : Vec F S1056x1024 .f32) (x3 : Vec F S1x1024 .f32) : Vec F S1056x1024 .f32 :=
  k0_pay1 x0 x2 (k0_pay8 x3 x0 x1) (k0_pay9 x3 x0 x1)

theorem out_A_4 (c : Dev nD) (i : grid0.Coords) (a2 : Memref sig .tc .vmem S1056x1024 .f32) (h2 : a2.IsWhole) (a3 : Memref sig .tc .vmem S1056x1024 .f32) (h3 : a3.IsWhole) (a4 : Memref sig .tc .vmem S1056x1024 .f32) (h4 : a4.IsWhole) (a5 : Memref sig .tc .vmem S1x1024 .f32) (h5 : a5.IsWhole) (a6 : Memref sig .tc .vmem S1056x1024 .f32) (h6 : a6.IsWhole) (a7 : Memref sig .tc .vmem S1x1x1024 .f32) (h7 : a7.IsWhole) (hc : cond0_0 i)
    (x0 x1 x2 : Vec F S1056x1024 .f32) (x3 : Vec F S1x1024 .f32) :
    out0_A_4 c i a2 h2 a3 h3 a4 h4 a5 h5 a6 h6 a7 h7 hc x0 x1 x2 x3 = dhBlock x0 x1 x2 x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz2]
  simp only [View.readAt_eq_ld, h2.read_unread, h3.read_unread, h4.read_unread, h5.read_unread, View.ld_unit_zero (S := S1056x1024) hz2, View.ld_unit_zero (S := S1x1024) hz2]

theorem out_A_5 (c : Dev nD) (i : grid0.Coords) (a2 : Memref sig .tc .vmem S1056x1024 .f32) (h2 : a2.IsWhole) (a3 : Memref sig .tc .vmem S1056x1024 .f32) (h3 : a3.IsWhole) (a4 : Memref sig .tc .vmem S1056x1024 .f32) (h4 : a4.IsWhole) (a5 : Memref sig .tc .vmem S1x1024 .f32) (h5 : a5.IsWhole) (a6 : Memref sig .tc .vmem S1056x1024 .f32) (h6 : a6.IsWhole) (a7 : Memref sig .tc .vmem S1x1x1024 .f32) (h7 : a7.IsWhole) (hc : cond0_0 i)
    (x0 x1 x2 : Vec F S1056x1024 .f32) (x3 : Vec F S1x1024 .f32) :
    out0_A_5 c i a2 h2 a3 h3 a4 h4 a5 h5 a6 h6 a7 h7 hc x0 x1 x2 x3 = k0_pay2 (k0_pay6 x0 x1) k0_pay3 := by
  unfold out0_A_5
  rw [View.read_writes_eq_canon _ _ _ (cover0_A_5 c i a2 h2 a3 h3 a4 h4 a5 h5 a6 h6 a7 h7 hc x0 x1 x2 x3)]
  unfold kernelRun0_A
  dsimp only
  sl_unfold_words
  rw [View.canon_cons_unit_zero (S := S1x1x1024) hz3, View.readCov_unit_zero (S := S1x1x1024) _ hz3]
  simp only [View.readAt_eq_ld, h2.read_unread, h3.read_unread, h4.read_unread, h5.read_unread, View.ld_unit_zero (S := S1056x1024) hz2, View.ld_unit_zero (S := S1x1024) hz2]

theorem out_B_4 (c : Dev nD) (i : grid0.Coords) (a2 : Memref sig .tc .vmem S1056x1024 .f32) (h2 : a2.IsWhole) (a3 : Memref sig .tc .vmem S1056x1024 .f32) (h3 : a3.IsWhole) (a4 : Memref sig .tc .vmem S1056x1024 .f32) (h4 : a4.IsWhole) (a5 : Memref sig .tc .vmem S1x1024 .f32) (h5 : a5.IsWhole) (a6 : Memref sig .tc .vmem S1056x1024 .f32) (h6 : a6.IsWhole) (a7 : Memref sig .tc .vmem S1x1x1024 .f32) (h7 : a7.IsWhole) (hc : ¬cond0_0 i)
    (x0 x1 x2 : Vec F S1056x1024 .f32) (x3 : Vec F S1x1024 .f32) (xo : Vec F S1x1x1024 .f32) :
    out0_B_4 c i a2 h2 a3 h3 a4 h4 a5 h5 a6 h6 a7 h7 hc x0 x1 x2 x3 xo = dhBlock x0 x1 x2 x3 := by
  unfold out0_B_4
  rw [View.read_writes_eq_canon _ _ _ (cover0_B_4 c i a2 h2 a3 h3 a4 h4 a5 h5 a6 h6 a7 h7 hc x0 x1 x2 x3 xo)]
  unfold kernelRun0_B
  dsimp only
  sl_unfold_words
  rw [View.canon_unit_zero hz2]
  simp only [View.readAt_eq_ld, h2.read_unread, h3.read_unread, h4.read_unread, h5.read_unread, View.ld_unit_zero (S := S1056x1024) hz2, View.ld_unit_zero (S := S1x1024) hz2]

theorem out_B_5 (c : Dev nD) (i : grid0.Coords) (a2 : Memref sig .tc .vmem S1056x1024 .f32) (h2 : a2.IsWhole) (a3 : Memref sig .tc .vmem S1056x1024 .f32) (h3 : a3.IsWhole) (a4 : Memref sig .tc .vmem S1056x1024 .f32) (h4 : a4.IsWhole) (a5 : Memref sig .tc .vmem S1x1024 .f32) (h5 : a5.IsWhole) (a6 : Memref sig .tc .vmem S1056x1024 .f32) (h6 : a6.IsWhole) (a7 : Memref sig .tc .vmem S1x1x1024 .f32) (h7 : a7.IsWhole) (hc : ¬cond0_0 i)
    (x0 x1 x2 : Vec F S1056x1024 .f32) (x3 : Vec F S1x1024 .f32) (xo : Vec F S1x1x1024 .f32) :
    out0_B_5 c i a2 h2 a3 h3 a4 h4 a5 h5 a6 h6 a7 h7 hc x0 x1 x2 x3 xo = k0_pay2 (k0_pay6 x0 x1) xo := by
  unfold out0_B_5
  rw [View.read_writes_eq_canon _ _ _ (cover0_B_5 c i a2 h2 a3 h3 a4 h4 a5 h5 a6 h6 a7 h7 hc x0 x1 x2 x3 xo)]
  unfold kernelRun0_B
  dsimp only
  sl_unfold_words
  rw [View.canon_unit_zero hz3]
  simp only [View.readAt_eq_ld, h2.read_unread, h3.read_unread, h4.read_unread, h5.read_unread, h7.read_unread, View.ld_unit_zero (S := S1056x1024) hz2, View.ld_unit_zero (S := S1x1024) hz2, View.ld_unit_zero (S := S1x1x1024) hz3]

end AnyValues

/-! ## The two results as formulas of one row, at the extended reals -/

/-- The mean square of a row plus the norm's epsilon. -/
def meanSq (x : Fin 1024 → EReal) : EReal :=
  Ideal.div (∑ k, x k * x k) (Ideal.ofBits .f32 0x44800000#32) + Ideal.ofBits .f32 0x358637BD#32

/-- The factor that the derivative of the reciprocal root puts on the row, `u` the cotangent times the gain. -/
def pull (x u : Fin 1024 → EReal) : EReal :=
  ∑ _k : Fin 1, Ideal.div ((∑ k, x k * u k) * (Ideal.ofBits .f32 0xBF000000#32 * Ideal.div (Ideal.rsqrt (meanSq x)) (meanSq x)))
    (Ideal.ofBits .f32 0x44800000#32)

/-- The gradient of the input at lane `l` of a row `x`: `u` the cotangent times the gain, `d` the residual's cotangent. -/
def dhRow (x u : Fin 1024 → EReal) (d : EReal) (l : Fin 1024) : EReal :=
  d + u l * Ideal.rsqrt (meanSq x) + x l * pull x u + pull x u * x l

/-- What one row adds to the gain's gradient at lane `l`. -/
def dgRow (x ct : Fin 1024 → EReal) (l : Fin 1024) : EReal := x l * Ideal.rsqrt (meanSq x) * ct l

theorem dhBlock_apply (x0 x1 x2 : Vec Ideal S1056x1024 .f32) (x3 : Vec Ideal S1x1024 .f32) (r : Fin 1056) (l : Fin 1024) :
    dhBlock x0 x1 x2 x3 (ix2 r l)
      = dhRow (fun k => x0 (ix2 r k)) (fun k => x1 (ix2 r k) * x3 (ix2 0 k)) (x2 (ix2 r l)) l := by
  unfold dhBlock
  pointwise [k0_pay1, k0_pay8, k0_pay9, k0_pay7, k0_pay5, k0_pay4]
  unfold dhRow pull meanSq
  rw [add_assoc, add_assoc, add_assoc]

theorem dgBlock_apply (x0 x1 : Vec Ideal S1056x1024 .f32) (xo : Vec Ideal S1x1x1024 .f32) (l : Fin 1024) :
    k0_pay2 (k0_pay6 x0 x1) xo (ix3 0 0 l) = xo (ix3 0 0 l) + ∑ r, dgRow (fun k => x0 (ix2 r k)) (fun k => x1 (ix2 r k)) l := by
  pointwise [k0_pay2, k0_pay6, k0_pay5, k0_pay4]
  rfl

theorem zero_apply (l : Fin 1024) : (k0_pay3 (F := Ideal)) (ix3 0 0 l) = 0 := by
  pointwise [k0_pay3]

/-! ## The arrays after the run -/

variable (m : (ℓ : Loc nD τ sig) → Buf (Elt Ideal) ℓ)

/-- The four arguments as the run finds them. -/
abbrev argH (c : Dev nD) : S2112x1024.Idx → EReal := m ((c : Thread nD τ).loc main_arg0)
abbrev argG (c : Dev nD) : S1024.Idx → EReal := m ((c : Thread nD τ).loc main_arg1)
abbrev argY (c : Dev nD) : S2112x1024.Idx → EReal := m ((c : Thread nD τ).loc main_arg2)
abbrev argR (c : Dev nD) : S2112x1024.Idx → EReal := m ((c : Thread nD τ).loc main_arg3)

/-- The row of the array that row `r` of point `t`'s block is. -/
def rowOf (t : Fin cfg0.N) (r : Fin 1056) : Fin 2112 :=
  ⟨t.val * 1056 + r.val, by have := t.isLt; have hN : cfg0.N = 2 := N_0; have := r.isLt; omega⟩

theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

theorem iblk_0 (c : Dev nD) (t : Fin cfg0.N) (r : Fin 1056) (l : Fin 1024) :
    (iblk m c 0 t : Vec Ideal S1056x1024 .f32) (ix2 r l) = argH m c (ix2 (rowOf t r) l) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 1056 + 1 * r.val = t.val * 1056 + r.val; rw [h0]; omega
  | ⟨1, _⟩ => show win0_0.index t 1 * 1024 + 1 * l.val = l.val; rw [h1]; omega

theorem iblk_1 (c : Dev nD) (t : Fin cfg0.N) (r : Fin 1056) (l : Fin 1024) :
    (iblk m c 1 t : Vec Ideal S1056x1024 .f32) (ix2 r l) = argY m c (ix2 (rowOf t r) l) := by
  obtain ⟨-, ⟨h0, h1⟩, -⟩ := idx_facts t
  unfold iblk
  rw [View.read_apply]
  show V m c main_arg2 _ = _
  rw [V_main_arg2]
  congr 1
  funext a
  apply Fin.ext
  match a with
  | ⟨0, _⟩ => show win0_1.index t 0 * 1056 + 1 * r.val = t.val * 1056 + r.val; rw [h0]; omega
  | ⟨1, _⟩ => show win0_1.index t 1 * 1024 + 1 * l.val = l.val; rw [h1]; omega

theorem iblk_2 (c : Dev nD) (t : Fin cfg0.N) (r : Fin 1056) (l : Fin 1024) :
    (iblk m c 2 t : Vec Ideal S1056x1024 .f32) (ix2 r l) = argR m c (ix2 (rowOf t r) l) := by
  obtain ⟨-, -, ⟨h0, h1⟩, -⟩ := idx_facts t
  unfold iblk
  rw [View.read_apply]
  show V m c main_arg3 _ = _
  rw [V_main_arg3]
  congr 1
  funext a
  apply Fin.ext
  match a with
  | ⟨0, _⟩ => show win0_2.index t 0 * 1056 + 1 * r.val = t.val * 1056 + r.val; rw [h0]; omega
  | ⟨1, _⟩ => show win0_2.index t 1 * 1024 + 1 * l.val = l.val; rw [h1]; omega

theorem iblk_3 (c : Dev nD) (t : Fin cfg0.N) (l : Fin 1024) :
    (iblk m c 3 t : Vec Ideal S1x1024 .f32) (ix2 0 l) = argG m c (ix1 l) := by
  obtain ⟨-, -, -, ⟨h0, h1⟩, -⟩ := idx_facts t
  have e : (V m c main_v0 : S1x1024.Idx → EReal) (ix2 0 l) = argG m c (ix1 l) := by
    have : V m c main_v0 = shapeCast S1x1024 (argG m c) shapeCasts_S1024_S1x1024 := by
      dsimp only [V, hostOps0]
      after_results
      rfl
    rw [this]
    pointwise []
  rw [← e]
  unfold iblk
  rw [View.read_apply]
  show V m c main_v0 _ = _
  congr 1
  funext a
  apply Fin.ext
  match a with
  | ⟨0, _⟩ => show win0_3.index t 0 * 1 + 1 * 0 = 0; rw [h0]
  | ⟨1, _⟩ => show win0_3.index t 1 * 1024 + 1 * l.val = l.val; rw [h1]; omega

/-- The gradient of the input, as a function of the four arguments. -/
def dh (h : S2112x1024.Idx → EReal) (g : S1024.Idx → EReal) (y d : S2112x1024.Idx → EReal) (i : S2112x1024.Idx) : EReal :=
  dhRow (fun k => h (ix2 (i 0) k)) (fun k => y (ix2 (i 0) k) * g (ix1 k)) (d i) (i 1)

/-- The gradient of the gain: the sum over the rows. -/
def dg (h : S2112x1024.Idx → EReal) (y : S2112x1024.Idx → EReal) (i : S1x1x1024.Idx) : EReal :=
  ∑ r : Fin 2112, dgRow (fun k => h (ix2 r k)) (fun k => y (ix2 r k)) (i 2)

/-- What a point leaves for the input's gradient is its block of `dh`. -/
theorem left_4 (c : Dev nD) (t : Fin cfg0.N) :
    (outsAt0 m c t.val t.isLt).1 = dhBlock (iblk m c 0 t) (iblk m c 1 t) (iblk m c 2 t) (iblk m c 3 t) := by
  by_cases h0 : t.val % 2 = 0
  · rw [outsAt0_A m c t h0, out_A_4]
  · rw [outsAt0_B m c t h0, out_B_4]

theorem flushed_eq_4 (c : Dev nD) (t : Fin cfg0.N) :
    (dats m 0 c).flushed 4 t = ((cfg0.win 4).blk t).view.read (Elt Ideal) (dh (argH m c) (argG m c) (argY m c) (argR m c)) := by
  obtain ⟨-, -, -, -, ⟨h0, h1⟩⟩ := idx_facts t
  rw [flushed4, left_4]
  refine funext fun (j : S1056x1024.Idx) => ?_
  rw [View.read_apply]
  show dhBlock _ _ _ _ j = _
  have hj : ((cfg0.win 4).blk t).view.emb j = (ix2 (rowOf t (j 0)) (j 1) : S2112x1024.Idx) := by
    funext a
    apply Fin.ext
    match a with
    | ⟨0, _⟩ => show win0_4.index t 0 * 1056 + 1 * (j 0).val = t.val * 1056 + (j 0).val; rw [h0]; omega
    | ⟨1, _⟩ => show win0_4.index t 1 * 1024 + 1 * (j 1).val = (j 1).val; rw [h1]; omega
  rw [hj]
  idx_vars j
  rw [dhBlock_apply]
  simp only [iblk_0, iblk_1, iblk_2, iblk_3]
  rfl

theorem mem_blk_4 (t : Fin cfg0.N) (i : S2112x1024.Idx) : i ∈ ((cfg0.win 4).blk t).view.set ↔
    ∀ a : Fin 2, win0_4.index t a * S1056x1024.size a ≤ (i a : ℕ) ∧ (i a : ℕ) < win0_4.index t a * S1056x1024.size a + S1056x1024.size a := by
  show i ∈ ((View.whole main_v1_0).slice (win0_4.rect t)).set ↔ _
  rw [View.set_slice_whole, Rect.mem_set_unit]
  exact Iff.rfl

theorem final_4 (c : Dev nD) : (dats m 0 c).arrAt 4 cfg0.N = dh (argH m c) (argG m c) (argY m c) (argR m c) :=
  (dats m 0 c).arrAt_eq_of_cover 4 _ (fun t _ => flushed_eq_4 m c t) fun (i : S2112x1024.Idx) => by
    have hN : cfg0.N = 2 := N_0
    have hi0 : (i 0 : ℕ) < 2112 := (i 0).isLt
    have hi1 : (i 1 : ℕ) < 1024 := (i 1).isLt
    refine ⟨⟨(i 0 : ℕ) / 1056, by omega⟩, flush0_4 _, ?_⟩
    obtain ⟨-, -, -, -, ⟨h0, h1⟩⟩ := idx_facts ⟨(i 0 : ℕ) / 1056, by omega⟩
    rw [mem_blk_4]
    intro a
    match a with
    | ⟨0, _⟩ => show win0_4.index _ 0 * 1056 ≤ (i 0 : ℕ) ∧ (i 0 : ℕ) < win0_4.index _ 0 * 1056 + 1056; rw [h0]; dsimp only; omega
    | ⟨1, _⟩ => show win0_4.index _ 1 * 1024 ≤ (i 1 : ℕ) ∧ (i 1 : ℕ) < win0_4.index _ 1 * 1024 + 1024; rw [h1]; omega

/-- After the second point the gain's gradient holds the sum over both row tiles. -/
theorem left_5 (c : Dev nD) (t : Fin cfg0.N) (ht : t.val = 1) (l : Fin 1024) :
    (outsAt0 m c t.val t.isLt).2 (ix3 0 0 l) = dg (argH m c) (argY m c) (ix3 0 0 l) := by
  have hN : cfg0.N = 2 := N_0
  have hprev := outsAt0_A m c ⟨t.val - 1, by omega⟩ (by dsimp only; omega)
  rw [outsAt0_B m c t (by omega), out_B_5]
  dsimp only at hprev ⊢
  rw [dgBlock_apply, hprev, out_A_5]
  dsimp only
  rw [dgBlock_apply, zero_apply, zero_add]
  unfold dg
  rw [Fin.sum_univ_tiles 2 1056 rfl, Fin.sum_univ_two]
  simp only [iblk_0, iblk_1]
  refine congrArg₂ (fun a b : EReal => a + b) (Finset.sum_congr rfl fun r _ => ?_) (Finset.sum_congr rfl fun r _ => ?_)
  · rw [show rowOf ⟨t.val - 1, by omega⟩ r = ⟨(0 : Fin 2).val * 1056 + r.val, by have := r.isLt; show 0 * 1056 + r.val < 2112; omega⟩ from Fin.ext (by simp [rowOf, ht])]
    rfl
  · rw [show rowOf t r = ⟨(1 : Fin 2).val * 1056 + r.val, by have := r.isLt; show 1 * 1056 + r.val < 2112; omega⟩ from Fin.ext (by simp [rowOf, ht])]
    rfl

theorem flushed_eq_5 (c : Dev nD) (t : Fin cfg0.N) (hf : (cfg0.win 5).flush t = true) :
    (dats m 0 c).flushed 5 t = ((cfg0.win 5).blk t).view.read (Elt Ideal) (dg (argH m c) (argY m c)) := by
  have hN : cfg0.N = 2 := N_0
  have h1 : t.val = 1 := by have := (flush0_5 t).mp hf; have := t.isLt; omega
  have hz' : (fun a => win0_5.index t a * main_v1_1.ty.shape.size a) = fun _ => 0 := by
    obtain rfl : t = t0_1 := Fin.ext h1
    exact funext fun a => by fin_cases a <;> decide
  rw [flushed5]
  refine Eq.trans ?_ (Memref.read_access_unit_zero (Elt Ideal) main_v1_1 hz' (fun a => by rw [congrFun hz' a]; simp) (dg (argH m c) (argY m c))).symm
  refine funext fun (j : S1x1x1024.Idx) => ?_
  idx_vars j
  obtain rfl : j0 = 0 := Subsingleton.elim _ _
  obtain rfl : j1 = 0 := Subsingleton.elim _ _
  exact left_5 m c t h1 _

theorem final_5 (c : Dev nD) : (dats m 0 c).arrAt 5 cfg0.N = dg (argH m c) (argY m c) :=
  (dats m 0 c).arrAt_eq_of_cover 5 _ (flushed_eq_5 m c) fun (i : S1x1x1024.Idx) =>
    ⟨t0_1, (flush0_5 t0_1).mpr rfl, by
      show i ∈ ((View.whole main_v1_1).slice (win0_5.rect t0_1)).set
      rw [View.set_slice_whole, Rect.mem_set_unit]
      intro a
      have h0 : (i 0 : ℕ) < 1 := (i 0).isLt
      have h1 : (i 1 : ℕ) < 1 := (i 1).isLt
      have h2 : (i 2 : ℕ) < 1024 := (i 2).isLt
      match a with
      | ⟨0, _⟩ => show win0_5.index t0_1 0 * win0_5.size 0 ≤ (i 0 : ℕ) ∧ (i 0 : ℕ) < win0_5.index t0_1 0 * win0_5.size 0 + win0_5.xsize (grid0.coords t0_1) 0
                  rw [show win0_5.index t0_1 0 * win0_5.size 0 = 0 from by decide +kernel, show win0_5.xsize (grid0.coords t0_1) 0 = 1 from by decide +kernel]; omega
      | ⟨1, _⟩ => show win0_5.index t0_1 1 * win0_5.size 1 ≤ (i 1 : ℕ) ∧ (i 1 : ℕ) < win0_5.index t0_1 1 * win0_5.size 1 + win0_5.xsize (grid0.coords t0_1) 1
                  rw [show win0_5.index t0_1 1 * win0_5.size 1 = 0 from by decide +kernel, show win0_5.xsize (grid0.coords t0_1) 1 = 1 from by decide +kernel]; omega
      | ⟨2, _⟩ => show win0_5.index t0_1 2 * win0_5.size 2 ≤ (i 2 : ℕ) ∧ (i 2 : ℕ) < win0_5.index t0_1 2 * win0_5.size 2 + win0_5.xsize (grid0.coords t0_1) 2
                  rw [show win0_5.index t0_1 2 * win0_5.size 2 = 0 from by decide +kernel, show win0_5.xsize (grid0.coords t0_1) 2 = 1024 from by decide +kernel]; omega⟩

/-- The run read: the two results are the two gradients, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = dh (argH m c) (argG m c) (argY m c) (argR m c)
      ∧ r.2.mem ((c : Thread nD τ).loc main_v1_1) = dg (argH m c) (argY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by rw [← final_4, ← final_5]; exact h c) (run_blocks m ρ)

end Cert.RmsIdeal.Value

/-! ## The reference computes the same two formulas -/

namespace Cert.RmsRefIdeal.Value

open Cert.RmsRefIdeal Cert.RmsRefIdeal.Gen Cert.RmsRefIdeal.Read
open Cert.RmsIdeal.Value (dh dg dhRow dgRow pull meanSq)

theorem ref_dh (h : (⟨S2112x1024, .f32⟩ : BufTy).Contents (Elt Ideal)) (g : (⟨S1024, .f32⟩ : BufTy).Contents (Elt Ideal))
    (y d : (⟨S2112x1024, .f32⟩ : BufTy).Contents (Elt Ideal)) : val_main_v36 h g y d = dh h g y d := by
  refine funext fun (i : S2112x1024.Idx) => ?_
  idx_vars i
  pointwise [val_main_v36, val_main_v35, val_main_v34, val_main_v33, val_main_v32, val_main_v31, val_main_v30, val_main_v29, val_main_v28, val_main_v27, val_main_v26, val_main_v25, val_main_v24, val_main_v23, val_main_v22, val_main_v20, val_main_v19, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  rfl

theorem ref_dg (h y : (⟨S2112x1024, .f32⟩ : BufTy).Contents (Elt Ideal)) : val_main_v37 h y = dg h y := by
  refine funext fun (i : S1x1x1024.Idx) => ?_
  idx_vars i
  pointwise [val_main_v37, val_main_v21, val_main_v18, val_main_v17, val_main_v16, val_main_v12, val_main_v11, val_main_v7, val_main_v6, val_main_v5, val_main_v4, val_main_v3, val_main_v2, val_main_v1, val_main_v0, val_main_cst, val_main_cst_0, val_main_cst_1, val_main_cst_3, val_main_cst_4]
  simp
  rfl

end Cert.RmsRefIdeal.Value

end
-- ==== Proof.RmsClaims.lean ====
/-
  The claims about the backward call of the RMS norm with a residual.
-/
module

public import proofs.«01_k».proof.Defs
public import proofs.«01_k».proof.Proof.RmsValue
public import proofs.«01_k».proof.Proof.Gen.Rms.Frame
public import proofs.«01_k».proof.Proof.Gen.RmsRefIdeal.Run
public import Idealize.ShloMosaic.Lib.Quiescent

@[expose] public section

noncomputable section

open Idealize.ShloMosaic Idealize.ShloMosaic.TcCoe Idealize.SL.Sem

namespace Cert.Proof

theorem rms_frame : Cert.quiescent_Rms (hRms := Cert.Rms.Gen.facts) := fun m ρ _ => Cert.Rms.Gen.frame m ρ

theorem rms_ideal_frame : Cert.quiescent_RmsIdeal (hRmsIdeal := Cert.RmsIdeal.Gen.facts) := fun m ρ _ => Cert.RmsIdeal.Gen.frame m ρ

theorem rms_ref_frame : Cert.quiescent_RmsRefIdeal (hRmsRefIdeal := Cert.RmsRefIdeal.Gen.facts) := fun m ρ _ =>
  (θ_run Cert.RmsRefIdeal.defs _ _).mono (fun r h => ⟨fun c => (h c).2.2, sem_eq_zero_of_no_sems (by decide) r.2⟩)
    (Cert.RmsRefIdeal.Value.run (F := Ideal) m ρ)

theorem rms_algebraic : Cert.algebraic_RmsIdeal_RmsRefIdeal (hRmsIdeal := Cert.RmsIdeal.Gen.facts)
    (hRmsRefIdeal := Cert.RmsRefIdeal.Gen.facts) := fun m ρ m' ρ' _ hagree =>
  ⟨_, _, Cert.RmsIdeal.Value.run m ρ, (θ_run Cert.RmsRefIdeal.defs _ _).mono (fun r h c => by
    obtain ⟨e0, e1, e2, e3⟩ := hagree c
    obtain ⟨h0, h1, hargs⟩ := h c
    refine ⟨h0.trans ?_, h1.trans ?_, hargs⟩
    · rw [e0, e1, e2, e3]
      exact Cert.RmsRefIdeal.Value.ref_dh _ _ _ _
    · rw [e0, e2]
      exact Cert.RmsRefIdeal.Value.ref_dg _ _) (Cert.RmsRefIdeal.Value.run (F := Ideal) m' ρ')⟩

end Cert.Proof

end
-- ==== Proof.LossValue.lean ====
/-
  The value of the call that computes the loss and its gradient: what its three results hold after the run.
-/
module

public import proofs.«01_k».proof.Proof.Gen.LossIdeal.Value
public import proofs.«01_k».proof.Proof.Gen.LossRefIdeal.Read
public import proofs.«01_k».proof.Proof.RmsValue
public import proofs.«01_k».proof.Proof.Consts

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen
open Cert.RmsIdeal.Value (hz2 hz3 meanSq pull)

section AnyValues
variable {F : FTy → Type} [FloatOps F]

/-- The gradient block of one point, from the point's blocks of `h` and the target and the gain. -/
abbrev dhBlock (i : grid0.Coords) (x0 x1 : Vec F S1056x1024 .f32) (x2 : Vec F S1x1024 .f32) : Vec F S1056x1024 .f32 :=
  k0_pay15 (k0_pay5 x2) x0 (k0_pay6 i) (k0_pay8 x0) (k0_pay9 x0) (k0_pay11 x2 x0 x1)

/-- What one point adds to the loss. -/
abbrev lossBlock (i : grid0.Coords) (x0 x1 : Vec F S1056x1024 .f32) (x2 : Vec F S1x1024 .f32) : Vec F S1x128 .f32 :=
  k0_pay16 (k0_pay12 i x2 x0 x1)

/-- What one point adds to the gain's gradient. -/
abbrev dgBlock (i : grid0.Coords) (x0 x1 : Vec F S1056x1024 .f32) (x2 : Vec F S1x1024 .f32) : Vec F S1x1024 .f32 :=
  k0_pay14 (k0_pay6 i) (k0_pay10 x0) (k0_pay11 x2 x0 x1)

variable (c : Dev nD) (i : grid0.Coords) (a2 : Memref sig .tc .vmem S1056x1024 .f32) (h2 : a2.IsWhole) (a3 : Memref sig .tc .vmem S1056x1024 .f32) (h3 : a3.IsWhole) (a4 : Memref sig .tc .vmem S1x1024 .f32) (h4 : a4.IsWhole) (a5 : Memref sig .tc .vmem S1056x1024 .f32) (h5 : a5.IsWhole) (a6 : Memref sig .tc .vmem S1x1x128 .f32) (h6 : a6.IsWhole) (a7 : Memref sig .tc .vmem S1x1x1024 .f32) (h7 : a7.IsWhole)
  (x0 x1 : Vec F S1056x1024 .f32) (x2 : Vec F S1x1024 .f32) (xo4 : Vec F S1x1x128 .f32) (xo5 : Vec F S1x1x1024 .f32)

theorem out_A_3 (hc : cond0_0 i) : out0_A_3 c i a2 h2 a3 h3 a4 h4 a5 h5 a6 h6 a7 h7 hc x0 x1 x2 = dhBlock i x0 x1 x2 := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz2]
  simp only [View.readAt_eq_ld, h2.read_unread, h3.read_unread, h4.read_unread, View.ld_unit_zero (S := S1056x1024) hz2, View.ld_unit_zero (S := S1x1024) hz2]

theorem out_A_4 (hc : cond0_0 i) : out0_A_4 c i a2 h2 a3 h3 a4 h4 a5 h5 a6 h6 a7 h7 hc x0 x1 x2 = k0_pay1 (lossBlock i x0 x1 x2) k0_pay3 := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, View.ld_unit_zero (S := S1056x1024) hz2, View.ld_unit_zero (S := S1x1024) hz2]

theorem out_A_5 (hc : cond0_0 i) : out0_A_5 c i a2 h2 a3 h3 a4 h4 a5 h5 a6 h6 a7 h7 hc x0 x1 x2 = k0_pay2 (dgBlock i x0 x1 x2) k0_pay4 := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x1x1024) hz3, View.readCov_unit_zero (S := S1x1x1024) _ hz3]
  simp only [View.readAt_eq_ld, h2.read_unread, h3.read_unread, h4.read_unread, View.ld_unit_zero (S := S1056x1024) hz2, View.ld_unit_zero (S := S1x1024) hz2]

theorem out_B_3 (hc : ¬cond0_0 i) : out0_B_3 c i a2 h2 a3 h3 a4 h4 a5 h5 a6 h6 a7 h7 hc x0 x1 x2 xo4 xo5 = dhBlock i x0 x1 x2 := by
  unfold out0_B_3
  rw [View.read_writes_eq_canon _ _ _ (cover0_B_3 c i a2 h2 a3 h3 a4 h4 a5 h5 a6 h6 a7 h7 hc x0 x1 x2 xo4 xo5)]
  unfold kernelRun0_B
  dsimp only
  sl_unfold_words
  rw [View.canon_unit_zero hz2]
  simp only [View.readAt_eq_ld, h2.read_unread, h3.read_unread, h4.read_unread, View.ld_unit_zero (S := S1056x1024) hz2, View.ld_unit_zero (S := S1x1024) hz2]

theorem out_B_4 (hc : ¬cond0_0 i) : out0_B_4 c i a2 h2 a3 h3 a4 h4 a5 h5 a6 h6 a7 h7 hc x0 x1 x2 xo4 xo5 = k0_pay1 (lossBlock i x0 x1 x2) xo4 := by
  unfold out0_B_4
  rw [View.read_writes_eq_canon _ _ _ (cover0_B_4 c i a2 h2 a3 h3 a4 h4 a5 h5 a6 h6 a7 h7 hc x0 x1 x2 xo4 xo5)]
  unfold kernelRun0_B
  dsimp only
  sl_unfold_words
  rw [View.canon_unit_zero hz3]
  simp only [View.readAt_eq_ld, h2.read_unread, h3.read_unread, h4.read_unread, h6.read_unread, View.ld_unit_zero (S := S1056x1024) hz2, View.ld_unit_zero (S := S1x1024) hz2, View.ld_unit_zero (S := S1x1x128) hz3]

theorem out_B_5 (hc : ¬cond0_0 i) : out0_B_5 c i a2 h2 a3 h3 a4 h4 a5 h5 a6 h6 a7 h7 hc x0 x1 x2 xo4 xo5 = k0_pay2 (dgBlock i x0 x1 x2) xo5 := by
  unfold out0_B_5
  rw [View.read_writes_eq_canon _ _ _ (cover0_B_5 c i a2 h2 a3 h3 a4 h4 a5 h5 a6 h6 a7 h7 hc x0 x1 x2 xo4 xo5)]
  unfold kernelRun0_B
  dsimp only
  sl_unfold_words
  rw [View.canon_unit_zero hz3]
  simp only [View.readAt_eq_ld, h2.read_unread, h3.read_unread, h4.read_unread, h7.read_unread, View.ld_unit_zero (S := S1056x1024) hz2, View.ld_unit_zero (S := S1x1024) hz2, View.ld_unit_zero (S := S1x1x1024) hz3]

end AnyValues

/-! ## The results as formulas of one row, at the extended reals -/

/-- The error of a row at a lane: the normed row minus the target. -/
def err (x g y : Fin 1024 → EReal) (l : Fin 1024) : EReal := x l * Ideal.rsqrt (meanSq x) * g l - y l

/-- The cotangent of a row's mean square error, times two, for a row of weight `k`. -/
def cot (k : EReal) : EReal := Ideal.div (Ideal.ofBits .f32 0x3F000000#32 * k) (Ideal.ofBits .f32 0x44800000#32)

/-- The cotangent of the normed row: the derivative of the square, its two factors apart. -/
def ctRow (x g y : Fin 1024 → EReal) (k : EReal) (l : Fin 1024) : EReal := err x g y l * cot k + cot k * err x g y l

/-- The gradient of a row `x` whose normed value has cotangent `u` after the gain. -/
def backRow (x u : Fin 1024 → EReal) (l : Fin 1024) : EReal :=
  u l * Ideal.rsqrt (meanSq x) + x l * pull x u + pull x u * x l

/-- The mean square error of a row. -/
def lossRow (x g y : Fin 1024 → EReal) : EReal :=
  Ideal.div (∑ l, err x g y l * err x g y l) (Ideal.ofBits .f32 0x44800000#32)

/-- A row's weight as the kernel computes it: one from row 64 on. -/
abbrev mask (t : Fin cfg0.N) (r : Fin 1056) : EReal := if 64 ≤ t.val * 1056 + r.val then 1 else 0

theorem mask_word : ∀ (t : Fin 2) (r : Fin 1056), (BitVec.setWidth 32 (IntOp.cmpi CmpIPredicate.sge
      (IntOp.addi (Scalar.muli (BitVec.ofNat 32 t.val) 1056#32) (BitVec.ofNat 32 r.val)) 64#32)).toInt = if 64 ≤ t.val * 1056 + r.val then 1 else 0 := by
  decide +kernel

theorem coord_1 : ∀ t : Fin cfg0.N, (grid0.coords t 1).val = t.val := (by decide +kernel : ∀ t : Fin grid0.N, _)

theorem mask_apply (t : Fin cfg0.N) (r : Fin 1056) : k0_pay6 (F := Ideal) (grid0.coords t) (ix2 r 0) = mask t r := by
  pointwise [k0_pay6]
  have hN : cfg0.N = 2 := N_0
  rw [coord_1]
  show (((BitVec.setWidth 32 (IntOp.cmpi CmpIPredicate.sge
      (IntOp.addi (Scalar.muli (BitVec.ofNat 32 t.val) 1056#32) (BitVec.ofNat 32 r.val)) 64#32)).toInt : ℝ) : EReal) = _
  rw [mask_word ⟨t.val, by have := t.isLt; omega⟩ r]
  dsimp only [mask]
  split <;> simp

theorem dhBlock_apply (i : grid0.Coords) (x0 x1 : Vec Ideal S1056x1024 .f32) (x2 : Vec Ideal S1x1024 .f32) (r : Fin 1056) (l : Fin 1024) :
    dhBlock i x0 x1 x2 (ix2 r l) = backRow (fun k => x0 (ix2 r k)) (fun l => ctRow (fun k => x0 (ix2 r k)) (fun k => x2 (ix2 0 k))
      (fun k => x1 (ix2 r k)) (k0_pay6 (F := Ideal) i (ix2 r 0)) l * x2 (ix2 0 l)) l := by
  unfold dhBlock
  generalize k0_pay6 (F := Ideal) i = mk
  pointwise [k0_pay15, k0_pay13, k0_pay11, k0_pay10, k0_pay9, k0_pay8, k0_pay7, k0_pay5]
  unfold backRow pull ctRow cot err meanSq
  simp only [Fin.sum_univ_one]

theorem lossBlock_apply (i : grid0.Coords) (x0 x1 : Vec Ideal S1056x1024 .f32) (x2 : Vec Ideal S1x1024 .f32) (x : Vec Ideal S1x1x128 .f32) (l : Fin 128) :
    k0_pay1 (lossBlock i x0 x1 x2) x (ix3 0 0 l) = x (ix3 0 0 l) + Ideal.ofBits .f32 0x3F000000#32
      * ∑ r : Fin 1056, lossRow (fun k => x0 (ix2 r k)) (fun k => x2 (ix2 0 k)) (fun k => x1 (ix2 r k)) * k0_pay6 (F := Ideal) i (ix2 r 0) := by
  unfold lossBlock
  unfold k0_pay12
  generalize k0_pay6 (F := Ideal) i = mk
  pointwise [k0_pay1, k0_pay16, k0_pay11, k0_pay10, k0_pay9, k0_pay8, k0_pay7, k0_pay5]
  rfl

theorem dgBlock_apply (i : grid0.Coords) (x0 x1 : Vec Ideal S1056x1024 .f32) (x2 : Vec Ideal S1x1024 .f32) (x : Vec Ideal S1x1x1024 .f32) (l : Fin 1024) :
    k0_pay2 (dgBlock i x0 x1 x2) x (ix3 0 0 l) = x (ix3 0 0 l) + ∑ r : Fin 1056, x0 (ix2 r l) * Ideal.rsqrt (meanSq fun k => x0 (ix2 r k))
      * ctRow (fun k => x0 (ix2 r k)) (fun k => x2 (ix2 0 k)) (fun k => x1 (ix2 r k)) (k0_pay6 (F := Ideal) i (ix2 r 0)) l := by
  unfold dgBlock
  generalize k0_pay6 (F := Ideal) i = mk
  pointwise [k0_pay2, k0_pay14, k0_pay13, k0_pay11, k0_pay10, k0_pay9, k0_pay8, k0_pay7, k0_pay5]
  unfold ctRow cot err meanSq
  simp only [Fin.sum_univ_one]

theorem zero3_apply (l : Fin 128) : (k0_pay3 (F := Ideal)) (ix3 0 0 l) = 0 := by
  pointwise [k0_pay3]

theorem zero4_apply (l : Fin 1024) : (k0_pay4 (F := Ideal)) (ix3 0 0 l) = 0 := by
  pointwise [k0_pay4]

/-! ## The arrays after the run -/

variable (m : (ℓ : Loc nD τ sig) → Buf (Elt Ideal) ℓ)

/-- The three arguments as the run finds them. -/
abbrev argH (c : Dev nD) : S2112x1024.Idx → EReal := m ((c : Thread nD τ).loc main_arg0)
abbrev argG (c : Dev nD) : S1024.Idx → EReal := m ((c : Thread nD τ).loc main_arg1)
abbrev argT (c : Dev nD) : S2048x1024.Idx → EReal := m ((c : Thread nD τ).loc main_arg2)

/-- The row of the array that row `r` of point `t`'s block is. -/
def rowOf (t : Fin cfg0.N) (r : Fin 1056) : Fin 2112 :=
  ⟨t.val * 1056 + r.val, by have := t.isLt; have hN : cfg0.N = 2 := N_0; have := r.isLt; omega⟩

/-- The target's row for row `r` of `h`: zero for the 64 rows before the first token's. -/
def tgt (y : S2048x1024.Idx → EReal) (r : Fin 2112) (k : Fin 1024) : EReal :=
  if h : 64 ≤ r.val ∧ r.val - 64 < 2048 then y (ix2 ⟨r.val - 64, h.2⟩ k) else 0

/-- A row's weight in the loss. -/
def wt (r : Fin 2112) : EReal := if 64 ≤ r.val then 1 else 0

theorem weight_apply (t : Fin cfg0.N) (r : Fin 1056) : k0_pay6 (F := Ideal) (grid0.coords t) (ix2 r 0) = wt (rowOf t r) := mask_apply t r

theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem iblk_0 (c : Dev nD) (t : Fin cfg0.N) (r : Fin 1056) (l : Fin 1024) :
    (iblk m c 0 t : Vec Ideal S1056x1024 .f32) (ix2 r l) = argH m c (ix2 (rowOf t r) l) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 1056 + 1 * r.val = t.val * 1056 + r.val; rw [h0]; omega
  | ⟨1, _⟩ => show win0_0.index t 1 * 1024 + 1 * l.val = l.val; rw [h1]; omega

theorem target_padded (c : Dev nD) (r : Fin 2112) (l : Fin 1024) :
    (V m c main_v1 : S2112x1024.Idx → EReal) (ix2 r l) = tgt (argT m c) r l := by
  dsimp only [V, hostOps0]
  after_results
  pointwise []
  unfold tgt
  have hr := r.isLt
  by_cases h : r.val < 64
  · rw [dif_pos h, dif_neg (by omega)]
  · rw [dif_neg h, dif_pos ⟨by omega, by omega⟩]

theorem iblk_1 (c : Dev nD) (t : Fin cfg0.N) (r : Fin 1056) (l : Fin 1024) :
    (iblk m c 1 t : Vec Ideal S1056x1024 .f32) (ix2 r l) = tgt (argT m c) (rowOf t r) l := by
  obtain ⟨-, ⟨h0, h1⟩, -⟩ := idx_facts t
  rw [← target_padded]
  unfold iblk
  rw [View.read_apply]
  show V m c main_v1 _ = _
  congr 1
  funext a
  apply Fin.ext
  match a with
  | ⟨0, _⟩ => show win0_1.index t 0 * 1056 + 1 * r.val = t.val * 1056 + r.val; rw [h0]; omega
  | ⟨1, _⟩ => show win0_1.index t 1 * 1024 + 1 * l.val = l.val; rw [h1]; omega

theorem iblk_2 (c : Dev nD) (t : Fin cfg0.N) (l : Fin 1024) :
    (iblk m c 2 t : Vec Ideal S1x1024 .f32) (ix2 0 l) = argG m c (ix1 l) := by
  obtain ⟨-, -, ⟨h0, h1⟩, -⟩ := idx_facts t
  have e : (V m c main_v2 : S1x1024.Idx → EReal) (ix2 0 l) = argG m c (ix1 l) := by
    have : V m c main_v2 = shapeCast S1x1024 (argG m c) shapeCasts_S1024_S1x1024 := by
      dsimp only [V, hostOps0]
      after_results
      rfl
    rw [this]
    pointwise []
  rw [← e]
  unfold iblk
  rw [View.read_apply]
  show V m c main_v2 _ = _
  congr 1
  funext a
  apply Fin.ext
  match a with
  | ⟨0, _⟩ => show win0_2.index t 0 * 1 + 1 * 0 = 0; rw [h0]
  | ⟨1, _⟩ => show win0_2.index t 1 * 1024 + 1 * l.val = l.val; rw [h1]; omega

/-- The gradient of the input, as a function of the three arguments. -/
def dh (h : S2112x1024.Idx → EReal) (g : S1024.Idx → EReal) (y : S2048x1024.Idx → EReal) (i : S2112x1024.Idx) : EReal :=
  backRow (fun k => h (ix2 (i 0) k)) (fun l => ctRow (fun k => h (ix2 (i 0) k)) (fun k => g (ix1 k)) (tgt y (i 0)) (wt (i 0)) l * g (ix1 l)) (i 1)

/-- The loss, once for each lane of its block. -/
def lossOf (h : S2112x1024.Idx → EReal) (g : S1024.Idx → EReal) (y : S2048x1024.Idx → EReal) (i : S1x1x128.Idx) : EReal :=
  Ideal.ofBits .f32 0x3F000000#32 * ∑ r : Fin 2112, lossRow (fun k => h (ix2 r k)) (fun k => g (ix1 k)) (tgt y r) * wt r

/-- The gradient of the gain: the sum over the rows. -/
def dg (h : S2112x1024.Idx → EReal) (g : S1024.Idx → EReal) (y : S2048x1024.Idx → EReal) (i : S1x1x1024.Idx) : EReal :=
  ∑ r : Fin 2112, h (ix2 r (i 2)) * Ideal.rsqrt (meanSq fun k => h (ix2 r k))
    * ctRow (fun k => h (ix2 r k)) (fun k => g (ix1 k)) (tgt y r) (wt r) (i 2)

/-- What a point leaves for the input's gradient is its block of `dh`. -/
theorem left_3 (c : Dev nD) (t : Fin cfg0.N) :
    (outsAt0 m c t.val t.isLt).1 = dhBlock (grid0.coords t) (iblk m c 0 t) (iblk m c 1 t) (iblk m c 2 t) := by
  by_cases h0 : t.val % 2 = 0
  · rw [outsAt0_A m c t h0, out_A_3]
  · rw [outsAt0_B m c t h0, out_B_3]

theorem flushed_eq_3 (c : Dev nD) (t : Fin cfg0.N) :
    (dats m 0 c).flushed 3 t = ((cfg0.win 3).blk t).view.read (Elt Ideal) (dh (argH m c) (argG m c) (argT m c)) := by
  obtain ⟨-, -, -, ⟨h0, h1⟩⟩ := idx_facts t
  rw [flushed3, left_3]
  refine funext fun (j : S1056x1024.Idx) => ?_
  rw [View.read_apply]
  show dhBlock _ _ _ _ j = _
  have hj : ((cfg0.win 3).blk t).view.emb j = (ix2 (rowOf t (j 0)) (j 1) : S2112x1024.Idx) := by
    funext a
    apply Fin.ext
    match a with
    | ⟨0, _⟩ => show win0_3.index t 0 * 1056 + 1 * (j 0).val = t.val * 1056 + (j 0).val; rw [h0]; omega
    | ⟨1, _⟩ => show win0_3.index t 1 * 1024 + 1 * (j 1).val = (j 1).val; rw [h1]; omega
  rw [hj]
  idx_vars j
  rw [dhBlock_apply]
  simp only [iblk_0, iblk_1, iblk_2, weight_apply]
  rfl

theorem mem_blk_3 (t : Fin cfg0.N) (i : S2112x1024.Idx) : i ∈ ((cfg0.win 3).blk t).view.set ↔
    ∀ a : Fin 2, win0_3.index t a * S1056x1024.size a ≤ (i a : ℕ) ∧ (i a : ℕ) < win0_3.index t a * S1056x1024.size a + S1056x1024.size a := by
  show i ∈ ((View.whole main_v3_0).slice (win0_3.rect t)).set ↔ _
  rw [View.set_slice_whole, Rect.mem_set_unit]
  exact Iff.rfl

theorem final_3 (c : Dev nD) : (dats m 0 c).arrAt 3 cfg0.N = dh (argH m c) (argG m c) (argT m c) :=
  (dats m 0 c).arrAt_eq_of_cover 3 _ (fun t _ => flushed_eq_3 m c t) fun (i : S2112x1024.Idx) => by
    have hN : cfg0.N = 2 := N_0
    have hi0 : (i 0 : ℕ) < 2112 := (i 0).isLt
    have hi1 : (i 1 : ℕ) < 1024 := (i 1).isLt
    refine ⟨⟨(i 0 : ℕ) / 1056, by omega⟩, flush0_3 _, ?_⟩
    obtain ⟨-, -, -, ⟨h0, h1⟩⟩ := idx_facts ⟨(i 0 : ℕ) / 1056, by omega⟩
    rw [mem_blk_3]
    intro a
    match a with
    | ⟨0, _⟩ => show win0_3.index _ 0 * 1056 ≤ (i 0 : ℕ) ∧ (i 0 : ℕ) < win0_3.index _ 0 * 1056 + 1056; rw [h0]; dsimp only; omega
    | ⟨1, _⟩ => show win0_3.index _ 1 * 1024 ≤ (i 1 : ℕ) ∧ (i 1 : ℕ) < win0_3.index _ 1 * 1024 + 1024; rw [h1]; omega

/-- One half times a sum is the sum of the halves, at infinite summands too. -/
theorem half_mul_add (a b : EReal) : Ideal.ofBits .f32 0x3F000000#32 * (a + b)
    = Ideal.ofBits .f32 0x3F000000#32 * a + Ideal.ofBits .f32 0x3F000000#32 * b := by
  rw [Consts.ofBits_half]
  exact EReal.left_distrib_of_nonneg_of_ne_top (by exact_mod_cast (by norm_num : (0 : ℝ) ≤ 1 / 2)) (EReal.coe_ne_top _) a b

theorem tile_0 (t : Fin cfg0.N) (ht : t.val = 1) (r : Fin 1056) : rowOf ⟨t.val - 1, by omega⟩ r
    = ⟨(0 : Fin 2).val * 1056 + r.val, by have := r.isLt; show 0 * 1056 + r.val < 2112; omega⟩ := Fin.ext (by simp [rowOf, ht])

theorem tile_1 (t : Fin cfg0.N) (ht : t.val = 1) (r : Fin 1056) : rowOf t r
    = ⟨(1 : Fin 2).val * 1056 + r.val, by have := r.isLt; show 1 * 1056 + r.val < 2112; omega⟩ := Fin.ext (by simp [rowOf, ht])

/-- After the second point the loss block holds the loss over both row tiles. -/
theorem left_4 (c : Dev nD) (t : Fin cfg0.N) (ht : t.val = 1) (l : Fin 128) :
    (outsAt0 m c t.val t.isLt).2.1 (ix3 0 0 l) = lossOf (argH m c) (argG m c) (argT m c) (ix3 0 0 l) := by
  have hN : cfg0.N = 2 := N_0
  have hprev := outsAt0_A m c ⟨t.val - 1, by omega⟩ (by dsimp only; omega)
  rw [outsAt0_B m c t (by omega), out_B_4]
  dsimp only at hprev ⊢
  rw [lossBlock_apply, hprev, out_A_4]
  dsimp only
  rw [lossBlock_apply, zero3_apply, zero_add]
  unfold lossOf
  rw [Fin.sum_univ_tiles 2 1056 rfl, Fin.sum_univ_two, half_mul_add]
  simp only [iblk_0, iblk_1, iblk_2, weight_apply]
  refine congrArg₂ (fun a b : EReal => a + b) (congrArg (fun a : EReal => _ * a) (Finset.sum_congr rfl fun r _ => ?_))
    (congrArg (fun a : EReal => _ * a) (Finset.sum_congr rfl fun r _ => ?_))
  · rw [tile_0 t ht r]
  · rw [tile_1 t ht r]

/-- After the second point the gain's gradient holds the sum over both row tiles. -/
theorem left_5 (c : Dev nD) (t : Fin cfg0.N) (ht : t.val = 1) (l : Fin 1024) :
    (outsAt0 m c t.val t.isLt).2.2 (ix3 0 0 l) = dg (argH m c) (argG m c) (argT m c) (ix3 0 0 l) := by
  have hN : cfg0.N = 2 := N_0
  have hprev := outsAt0_A m c ⟨t.val - 1, by omega⟩ (by dsimp only; omega)
  rw [outsAt0_B m c t (by omega), out_B_5]
  dsimp only at hprev ⊢
  rw [dgBlock_apply, hprev, out_A_5]
  dsimp only
  rw [dgBlock_apply, zero4_apply, zero_add]
  unfold dg
  rw [Fin.sum_univ_tiles 2 1056 rfl, Fin.sum_univ_two]
  simp only [iblk_0, iblk_1, iblk_2, weight_apply]
  refine congrArg₂ (fun a b : EReal => a + b) (Finset.sum_congr rfl fun r _ => ?_) (Finset.sum_congr rfl fun r _ => ?_)
  · rw [tile_0 t ht r]
    rfl
  · rw [tile_1 t ht r]
    rfl

theorem flushed_eq_4 (c : Dev nD) (t : Fin cfg0.N) (hf : (cfg0.win 4).flush t = true) :
    (dats m 0 c).flushed 4 t = ((cfg0.win 4).blk t).view.read (Elt Ideal) (lossOf (argH m c) (argG m c) (argT m c)) := by
  have hN : cfg0.N = 2 := N_0
  have h1 : t.val = 1 := by have := (flush0_4 t).mp hf; have := t.isLt; omega
  have hz' : (fun a => win0_4.index t a * main_v3_1.ty.shape.size a) = fun _ => 0 := by
    obtain rfl : t = t0_1 := Fin.ext h1
    exact funext fun a => by fin_cases a <;> decide
  rw [flushed4]
  refine Eq.trans ?_ (Memref.read_access_unit_zero (Elt Ideal) main_v3_1 hz' (fun a => by rw [congrFun hz' a]; simp) (lossOf (argH m c) (argG m c) (argT m c))).symm
  refine funext fun (j : S1x1x128.Idx) => ?_
  idx_vars j
  obtain rfl : j0 = 0 := Subsingleton.elim _ _
  obtain rfl : j1 = 0 := Subsingleton.elim _ _
  exact left_4 m c t h1 _

theorem flushed_eq_5 (c : Dev nD) (t : Fin cfg0.N) (hf : (cfg0.win 5).flush t = true) :
    (dats m 0 c).flushed 5 t = ((cfg0.win 5).blk t).view.read (Elt Ideal) (dg (argH m c) (argG m c) (argT m c)) := by
  have hN : cfg0.N = 2 := N_0
  have h1 : t.val = 1 := by have := (flush0_5 t).mp hf; have := t.isLt; omega
  have hz' : (fun a => win0_5.index t a * main_v3_2.ty.shape.size a) = fun _ => 0 := by
    obtain rfl : t = t0_1 := Fin.ext h1
    exact funext fun a => by fin_cases a <;> decide
  rw [flushed5]
  refine Eq.trans ?_ (Memref.read_access_unit_zero (Elt Ideal) main_v3_2 hz' (fun a => by rw [congrFun hz' a]; simp) (dg (argH m c) (argG m c) (argT m c))).symm
  refine funext fun (j : S1x1x1024.Idx) => ?_
  idx_vars j
  obtain rfl : j0 = 0 := Subsingleton.elim _ _
  obtain rfl : j1 = 0 := Subsingleton.elim _ _
  exact left_5 m c t h1 _

theorem final_4 (c : Dev nD) : (dats m 0 c).arrAt 4 cfg0.N = lossOf (argH m c) (argG m c) (argT m c) :=
  (dats m 0 c).arrAt_eq_of_cover 4 _ (flushed_eq_4 m c) fun (i : S1x1x128.Idx) =>
    ⟨t0_1, (flush0_4 t0_1).mpr rfl, by
      show i ∈ ((View.whole main_v3_1).slice (win0_4.rect t0_1)).set
      rw [View.set_slice_whole, Rect.mem_set_unit]
      intro a
      have hz : ∀ a, win0_4.index t0_1 a * win0_4.size a = 0 := by decide +kernel
      have hs : ∀ a, win0_4.xsize (grid0.coords t0_1) a = S1x1x128.size a := by decide +kernel
      show win0_4.index t0_1 a * win0_4.size a ≤ (i a : ℕ) ∧ (i a : ℕ) < win0_4.index t0_1 a * win0_4.size a + win0_4.xsize (grid0.coords t0_1) a
      rw [hz a, hs a]
      exact ⟨Nat.zero_le _, (Nat.zero_add _).symm ▸ (i a).isLt⟩⟩

theorem final_5 (c : Dev nD) : (dats m 0 c).arrAt 5 cfg0.N = dg (argH m c) (argG m c) (argT m c) :=
  (dats m 0 c).arrAt_eq_of_cover 5 _ (flushed_eq_5 m c) fun (i : S1x1x1024.Idx) =>
    ⟨t0_1, (flush0_5 t0_1).mpr rfl, by
      show i ∈ ((View.whole main_v3_2).slice (win0_5.rect t0_1)).set
      rw [View.set_slice_whole, Rect.mem_set_unit]
      intro a
      have hz : ∀ a, win0_5.index t0_1 a * win0_5.size a = 0 := by decide +kernel
      have hs : ∀ a, win0_5.xsize (grid0.coords t0_1) a = S1x1x1024.size a := by decide +kernel
      show win0_5.index t0_1 a * win0_5.size a ≤ (i a : ℕ) ∧ (i a : ℕ) < win0_5.index t0_1 a * win0_5.size a + win0_5.xsize (grid0.coords t0_1) a
      rw [hz a, hs a]
      exact ⟨Nat.zero_le _, (Nat.zero_add _).symm ▸ (i a).isLt⟩⟩

/-- The run read: the three results are the loss and the two gradients, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = dh (argH m c) (argG m c) (argT m c)
      ∧ r.2.mem ((c : Thread nD τ).loc main_v3_1) = lossOf (argH m c) (argG m c) (argT m c)
      ∧ r.2.mem ((c : Thread nD τ).loc main_v3_2) = dg (argH m c) (argG m c) (argT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by rw [← final_3, ← final_4, ← final_5]; exact h c) (run_blocks m ρ)

end Cert.LossIdeal.Value

/-! ## The reference computes the same formulas -/

namespace Cert.LossRefIdeal.Value

open Cert.LossRefIdeal Cert.LossRefIdeal.Gen Cert.LossRefIdeal.Read
open Cert.LossIdeal.Value (dh dg lossOf backRow ctRow cot err lossRow tgt wt)
open Cert.RmsIdeal.Value (meanSq pull)

variable (h : (⟨S2112x1024, .f32⟩ : BufTy).Contents (Elt Ideal)) (g : (⟨S1024, .f32⟩ : BufTy).Contents (Elt Ideal))
  (y : (⟨S2048x1024, .f32⟩ : BufTy).Contents (Elt Ideal))

/-- The target's row of a row from 64 on. -/
theorem tgt_add (r : Fin 2048) (k : Fin 1024) : tgt y ⟨64 + r.val, by have := r.isLt; omega⟩ k = y (ix2 r k) := by
  unfold tgt
  rw [dif_pos ⟨by dsimp only; omega, by have := r.isLt; dsimp only; omega⟩]
  congr 2
  exact Fin.ext (by dsimp only; omega)

theorem ref_err (r : Fin 2048) (l : Fin 1024) : val_main_v17 h g y (ix2 r l)
    = err (fun k => h (ix2 ⟨64 + r.val, by have := r.isLt; omega⟩ k)) (fun k => g (ix1 k)) (tgt y ⟨64 + r.val, by have := r.isLt; omega⟩) l := by
  pointwise [val_main_v17, val_main_v16, val_main_v15, val_main_v14, val_main_v13, val_main_v12, val_main_v11, val_main_v7, val_main_v6, val_main_v5, val_main_v4, val_main_v3, val_main_v2, val_main_v1, val_main_v0, val_main_cst, val_main_cst_0, val_main_cst_1]
  unfold err
  rw [tgt_add]
  rfl

/-- The cotangent of the normed rows, zero before row 64. -/
theorem ref_ct (r : Fin 2112) (l : Fin 1024) : val_main_v32 h g y (ix2 r l)
    = ctRow (fun k => h (ix2 r k)) (fun k => g (ix1 k)) (tgt y r) (wt r) l := by
  pointwise [val_main_v32]
  unfold ctRow wt cot
  by_cases hr : 64 ≤ r.val
  · have hlt := r.isLt
    rw [dif_pos ⟨hr, by omega⟩, if_pos hr, mul_one]
    pointwise [val_main_v31, val_main_v30, val_main_v29, val_main_v28, val_main_v27, val_main_v26, val_main_v25, val_main_v24, val_main_cst_7, val_main_cst_8, val_main_cst_9]
    rw [ref_err]
    simp only [show 64 + (r.val - 64) = r.val by omega]
  · rw [dif_neg (by omega), if_neg hr, mul_zero]
    pointwise [val_main_cst_10]
    simp [Ideal.div, Consts.ofBits_1024_ne_zero]

theorem ref_dh : val_main_v52 h g y = dh h g y := by
  refine funext fun (i : S2112x1024.Idx) => ?_
  idx_vars i
  pointwise [val_main_v52, val_main_v51, val_main_v50, val_main_v49, val_main_v48, val_main_v47, val_main_v46, val_main_v45, val_main_v44, val_main_v43, val_main_v42, val_main_v41, val_main_v40, val_main_v39, val_main_v37, val_main_v36, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_13, val_main_cst_14, val_main_cst_15]
  simp only [ref_ct]
  rfl

theorem ref_loss : val_main_v53 h g y = lossOf h g y := by
  refine funext fun (i : S1x1x128.Idx) => ?_
  idx_vars i
  pointwise [val_main_v53, val_main_v23, val_main_v22, val_main_v21, val_main_v20, val_main_v19, val_main_v18, val_main_cst_3, val_main_cst_4, val_main_cst_5, val_main_cst_6]
  simp only [ref_err]
  unfold lossOf
  refine congrArg (fun a : EReal => _ * a) ?_
  refine Eq.trans ?_ (Fin.sum_univ_add (a := 64) (b := 2048) (fun r : Fin (64 + 2048) => lossRow (fun k => h (ix2 (r : Fin 2112) k)) (fun k => g (ix1 k)) (tgt y r) * wt r)).symm
  rw [Finset.sum_eq_zero (s := (Finset.univ : Finset (Fin 64))) (fun r _ => by
    rw [show wt (Fin.castAdd 2048 r : Fin (64 + 2048)) = 0 from if_neg (by have := r.isLt; simp)]; exact mul_zero _), zero_add]
  refine Finset.sum_congr rfl fun r _ => ?_
  rw [show wt (Fin.natAdd 64 r : Fin (64 + 2048)) = 1 from if_pos (by simp), mul_one]
  rfl

theorem ref_dg : val_main_v54 h g y = dg h g y := by
  refine funext fun (i : S1x1x1024.Idx) => ?_
  idx_vars i
  pointwise [val_main_v54, val_main_v38, val_main_v35, val_main_v34, val_main_v33, val_main_v12, val_main_v11, val_main_v7, val_main_v6, val_main_v5, val_main_v4, val_main_v3, val_main_v2, val_main_v1, val_main_v0, val_main_cst, val_main_cst_0, val_main_cst_1, val_main_cst_11, val_main_cst_12]
  simp only [ref_ct]
  simp
  rfl

end Cert.LossRefIdeal.Value

end
-- ==== Proof.LossClaims.lean ====
/-
  The claims about the call that computes the loss and its gradient.
-/
module

public import proofs.«01_k».proof.Defs
public import proofs.«01_k».proof.Proof.LossValue
public import proofs.«01_k».proof.Proof.Gen.Loss.Frame
public import proofs.«01_k».proof.Proof.Gen.LossRefIdeal.Run
public import Idealize.ShloMosaic.Lib.Quiescent

@[expose] public section

noncomputable section

open Idealize.ShloMosaic Idealize.ShloMosaic.TcCoe Idealize.SL.Sem

namespace Cert.Proof

theorem loss_frame : Cert.quiescent_Loss (hLoss := Cert.Loss.Gen.facts) := fun m ρ _ => Cert.Loss.Gen.frame m ρ

theorem loss_ideal_frame : Cert.quiescent_LossIdeal (hLossIdeal := Cert.LossIdeal.Gen.facts) := fun m ρ _ => Cert.LossIdeal.Gen.frame m ρ

theorem loss_ref_frame : Cert.quiescent_LossRefIdeal (hLossRefIdeal := Cert.LossRefIdeal.Gen.facts) := fun m ρ _ =>
  (θ_run Cert.LossRefIdeal.defs _ _).mono (fun r h => ⟨fun c => (h c).2.2.2, sem_eq_zero_of_no_sems (by decide) r.2⟩)
    (Cert.LossRefIdeal.Value.run (F := Ideal) m ρ)

theorem loss_algebraic : Cert.algebraic_LossIdeal_LossRefIdeal (hLossIdeal := Cert.LossIdeal.Gen.facts)
    (hLossRefIdeal := Cert.LossRefIdeal.Gen.facts) := fun m ρ m' ρ' _ hagree =>
  ⟨_, _, _, (θ_run Cert.LossIdeal.defs _ _).mono (fun r h c => ⟨(h c).2.1, (h c).1, (h c).2.2⟩) (Cert.LossIdeal.Value.run m ρ),
    (θ_run Cert.LossRefIdeal.defs _ _).mono (fun r h c => by
    obtain ⟨e0, e1, e2⟩ := hagree c
    obtain ⟨h0, h1, h2, hargs⟩ := h c
    refine ⟨h0.trans ?_, h1.trans ?_, h2.trans ?_, hargs⟩
    · rw [e0, e1, e2]
      exact Cert.LossRefIdeal.Value.ref_loss _ _ _
    · unfold Cert.LossRefIdeal.Value.res_main_v52
      rw [e0, e1, e2]
      exact Cert.LossRefIdeal.Value.ref_dh _ _ _
    · rw [e0, e1, e2]
      exact Cert.LossRefIdeal.Value.ref_dg _ _ _) (Cert.LossRefIdeal.Value.run (F := Ideal) m' ρ')⟩

end Cert.Proof

end
-- ==== Proof.PostValue.lean ====
/-
  The value of the backward call of the diagonal recurrence's gate and norm: what its three results hold after the run.
-/
module

public import proofs.«01_k».proof.Proof.Gen.PostIdeal.Value
public import proofs.«01_k».proof.Proof.Gen.PostRefIdeal.Read
public import proofs.«01_k».proof.Proof.RmsValue
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.PostIdeal.Value

open Cert.PostIdeal Cert.PostIdeal.Gen
open Cert.RmsIdeal.Value (hz2 hz3)

section AnyValues
variable {F : FTy → Type} [FloatOps F]

/-- The gradient block of one point, from the point's blocks of `y` and the cotangent, the weight and the gain. -/
abbrev dyBlock (x0 x1 : Vec F S192x512 .f32) (x2 : Vec F S512x512 .bf16) (x3 : Vec F S1x512 .f32) : Vec F S192x512 .f32 :=
  k0_pay1 (k0_pay8 x0) (k0_pay23 (k0_pay6 x3) x1 (k0_pay7 x2) (k0_pay11 x0) (k0_pay12 x0) (k0_pay13 x2 x0) (k0_pay14 x2 x0))
    (k0_pay24 (k0_pay6 x3) x0 x1 (k0_pay7 x2) (k0_pay10 x0) (k0_pay12 x0) (k0_pay13 x2 x0) (k0_pay14 x2 x0))

/-- What one point adds to the weight's gradient. -/
abbrev dwBlock (x0 x1 : Vec F S192x512 .f32) (x2 : Vec F S512x512 .bf16) (x3 : Vec F S1x512 .f32) : Vec F S512x512 .f32 :=
  k0_pay21 (k0_pay6 x3) x1 (k0_pay12 x0) (k0_pay13 x2 x0) (k0_pay14 x2 x0)

/-- What one point adds to the gain's gradient. -/
abbrev dgBlock (x0 x1 : Vec F S192x512 .f32) (x2 : Vec F S512x512 .bf16) : Vec F S1x512 .f32 :=
  k0_pay18 x1 (k0_pay12 x0) (k0_pay13 x2 x0)

variable (c : Dev nD) (i : grid0.Coords) (a2 : Memref sig .tc .vmem S192x512 .f32) (h2 : a2.IsWhole) (a3 : Memref sig .tc .vmem S192x512 .f32) (h3 : a3.IsWhole) (a4 : Memref sig .tc .vmem S512x512 .bf16) (h4 : a4.IsWhole) (a5 : Memref sig .tc .vmem S1x512 .f32) (h5 : a5.IsWhole) (a6 : Memref sig .tc .vmem S192x512 .f32) (h6 : a6.IsWhole) (a7 : Memref sig .tc .vmem S1x512x512 .f32) (h7 : a7.IsWhole) (a8 : Memref sig .tc .vmem S1x1x512 .f32) (h8 : a8.IsWhole)
  (x0 x1 : Vec F S192x512 .f32) (x2 : Vec F S512x512 .bf16) (x3 : Vec F S1x512 .f32) (xo5 : Vec F S1x512x512 .f32) (xo6 : Vec F S1x1x512 .f32)

theorem out_A_4 (hc : cond0_0 i) : out0_A_4 c i a2 h2 a3 h3 a4 h4 a5 h5 a6 h6 a7 h7 a8 h8 hc x0 x1 x2 x3 = dyBlock x0 x1 x2 x3 := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_unit_zero hz2]
  simp only [View.readAt_eq_ld, h2.read_unread, h3.read_unread, h4.read_unread, h5.read_unread, View.ld_unit_zero (S := S192x512) hz2, View.ld_unit_zero (S := S512x512) hz2, View.ld_unit_zero (S := S1x512) hz2]

theorem out_A_5 (hc : cond0_0 i) : out0_A_5 c i a2 h2 a3 h3 a4 h4 a5 h5 a6 h6 a7 h7 a8 h8 hc x0 x1 x2 x3 = k0_pay2 (dwBlock x0 x1 x2 x3) k0_pay4 := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  sl_unfold_words
  rw [View.canon_cons_unit_zero (S := S1x512x512) hz3, View.readCov_unit_zero (S := S1x512x512) _ hz3]
  simp only [View.readAt_eq_ld, h2.read_unread, h3.read_unread, h4.read_unread, h5.read_unread, View.ld_unit_zero (S := S192x512) hz2, View.ld_unit_zero (S := S512x512) hz2, View.ld_unit_zero (S := S1x512) hz2]

theorem out_A_6 (hc : cond0_0 i) : out0_A_6 c i a2 h2 a3 h3 a4 h4 a5 h5 a6 h6 a7 h7 a8 h8 hc x0 x1 x2 x3 = k0_pay3 (dgBlock x0 x1 x2) k0_pay5 := by
  unfold out0_A_6
  rw [View.read_writes_eq_canon _ _ _ (cover0_A_6 c i a2 h2 a3 h3 a4 h4 a5 h5 a6 h6 a7 h7 a8 h8 hc x0 x1 x2 x3)]
  unfold kernelRun0_A
  dsimp only
  sl_unfold_words
  rw [View.canon_cons_unit_zero (S := S1x1x512) hz3, View.readCov_unit_zero (S := S1x1x512) _ hz3]
  simp only [View.readAt_eq_ld, h2.read_unread, h3.read_unread, h4.read_unread, h5.read_unread, View.ld_unit_zero (S := S192x512) hz2, View.ld_unit_zero (S := S512x512) hz2, View.ld_unit_zero (S := S1x512) hz2]

theorem out_B_4 (hc : ¬cond0_0 i) : out0_B_4 c i a2 h2 a3 h3 a4 h4 a5 h5 a6 h6 a7 h7 a8 h8 hc x0 x1 x2 x3 xo5 xo6 = dyBlock x0 x1 x2 x3 := by
  unfold out0_B_4
  rw [View.read_writes_eq_canon _ _ _ (cover0_B_4 c i a2 h2 a3 h3 a4 h4 a5 h5 a6 h6 a7 h7 a8 h8 hc x0 x1 x2 x3 xo5 xo6)]
  unfold kernelRun0_B
  dsimp only
  sl_unfold_words
  rw [View.canon_unit_zero hz2]
  simp only [View.readAt_eq_ld, h2.read_unread, h3.read_unread, h4.read_unread, h5.read_unread, View.ld_unit_zero (S := S192x512) hz2, View.ld_unit_zero (S := S512x512) hz2, View.ld_unit_zero (S := S1x512) hz2]

theorem out_B_5 (hc : ¬cond0_0 i) : out0_B_5 c i a2 h2 a3 h3 a4 h4 a5 h5 a6 h6 a7 h7 a8 h8 hc x0 x1 x2 x3 xo5 xo6 = k0_pay2 (dwBlock x0 x1 x2 x3) xo5 := by
  unfold out0_B_5
  rw [View.read_writes_eq_canon _ _ _ (cover0_B_5 c i a2 h2 a3 h3 a4 h4 a5 h5 a6 h6 a7 h7 a8 h8 hc x0 x1 x2 x3 xo5 xo6)]
  unfold kernelRun0_B
  dsimp only
  sl_unfold_words
  rw [View.canon_unit_zero hz3]
  simp only [View.readAt_eq_ld, h2.read_unread, h3.read_unread, h4.read_unread, h5.read_unread, h7.read_unread, View.ld_unit_zero (S := S192x512) hz2, View.ld_unit_zero (S := S512x512) hz2, View.ld_unit_zero (S := S1x512) hz2, View.ld_unit_zero (S := S1x512x512) hz3]

theorem out_B_6 (hc : ¬cond0_0 i) : out0_B_6 c i a2 h2 a3 h3 a4 h4 a5 h5 a6 h6 a7 h7 a8 h8 hc x0 x1 x2 x3 xo5 xo6 = k0_pay3 (dgBlock x0 x1 x2) xo6 := by
  unfold out0_B_6
  rw [View.read_writes_eq_canon _ _ _ (cover0_B_6 c i a2 h2 a3 h3 a4 h4 a5 h5 a6 h6 a7 h7 a8 h8 hc x0 x1 x2 x3 xo5 xo6)]
  unfold kernelRun0_B
  dsimp only
  sl_unfold_words
  rw [View.canon_unit_zero hz3]
  simp only [View.readAt_eq_ld, h2.read_unread, h3.read_unread, h4.read_unread, h5.read_unread, h8.read_unread, View.ld_unit_zero (S := S192x512) hz2, View.ld_unit_zero (S := S512x512) hz2, View.ld_unit_zero (S := S1x512) hz2, View.ld_unit_zero (S := S1x1x512) hz3]

end AnyValues

/-! ## The three results as formulas of one row, at the extended reals -/

/-- The hyperbolic tangent inside the GELU. -/
def th (x : EReal) : EReal := Ideal.tanh (Ideal.ofBits .f32 0x3F4C422A#32 * (x + Ideal.ofBits .f32 0x3D372713#32 * (x * (x * x))))

/-- The GELU's factor. -/
def gate (x : EReal) : EReal := Ideal.ofBits .f32 0x3F000000#32 * (1 + th x)

/-- The GELU. -/
def gelu (x : EReal) : EReal := x * gate x

/-- The sigmoid of a row's product with the weight. -/
def sgm (x : Fin 512 → EReal) (w : Fin 512 → Fin 512 → EReal) (j : Fin 512) : EReal := Ideal.logistic (∑ k, gelu (x k) * w k j)

/-- The row that the norm takes. -/
def gated (x : Fin 512 → EReal) (w : Fin 512 → Fin 512 → EReal) (j : Fin 512) : EReal := gelu (x j) * sgm x w j

/-- The mean square of a row plus the norm's epsilon. -/
def meanSq (z : Fin 512 → EReal) : EReal :=
  Ideal.div (∑ k, z k * z k) (Ideal.ofBits .f32 0x44000000#32) + Ideal.ofBits .f32 0x358637BD#32

/-- The factor that the derivative of the reciprocal root puts on the row, `u` the cotangent times the gain. -/
def pull (z u : Fin 512 → EReal) : EReal :=
  ∑ _k : Fin 1, Ideal.div ((∑ k, z k * u k) * (Ideal.ofBits .f32 0xBF000000#32 * Ideal.div (Ideal.rsqrt (meanSq z)) (meanSq z)))
    (Ideal.ofBits .f32 0x44000000#32)

/-- The gradient of the norm's row. -/
def back (z u : Fin 512 → EReal) (j : Fin 512) : EReal := u j * Ideal.rsqrt (meanSq z) + z j * pull z u + pull z u * z j

/-- The gradient of the sigmoid's argument. -/
def dpre (x : Fin 512 → EReal) (w : Fin 512 → Fin 512 → EReal) (u : Fin 512 → EReal) (j : Fin 512) : EReal :=
  gelu (x j) * back (gated x w) u j * (sgm x w j * (1 - sgm x w j))

/-- The gradient of the GELU's value. -/
def dgelu (x : Fin 512 → EReal) (w : Fin 512 → Fin 512 → EReal) (u : Fin 512 → EReal) (j : Fin 512) : EReal :=
  back (gated x w) u j * sgm x w j + ∑ k, dpre x w u k * w j k

/-- The gradient that goes through the tangent's argument. -/
def dth (x d : EReal) : EReal :=
  Ideal.ofBits .f32 0x3F4C422A#32 * (Ideal.ofBits .f32 0x3F000000#32 * (x * d) * ((1 + th x) * (1 - th x)))

/-- The gradient of the GELU's argument `x`, `d` the gradient of its value. -/
def dxOf (x d : EReal) : EReal :=
  d * gate x + dth x d + Ideal.ofBits .f32 0x3D372713#32 * dth x d * (Ideal.ofBits .f32 0x40400000#32 * (x * x))

/-- A row of a block. -/
abbrev row {n : ℕ} (x : Shape.Idx ⟨2, ![n, 512]⟩ → EReal) (r : Fin n) : Fin 512 → EReal := fun k => x (ix2 r k)

section Blocks
variable (x0 x1 : Vec Ideal S192x512 .f32) (x2 : Vec Ideal S512x512 .bf16) (x3 : Vec Ideal S1x512 .f32)

/-- The cotangent times the gain. -/
abbrev cg (r : Fin 192) : Fin 512 → EReal := fun k => x1 (ix2 r k) * x3 (ix2 0 k)

theorem gelu_apply (r : Fin 192) (l : Fin 512) : k0_pay12 x0 (ix2 r l) = gelu (x0 (ix2 r l)) := by
  pointwise [k0_pay12, k0_pay11, k0_pay9]
  rfl

theorem gate_apply (r : Fin 192) (l : Fin 512) : k0_pay11 x0 (ix2 r l) = gate (x0 (ix2 r l)) := by
  pointwise [k0_pay11, k0_pay9]
  rfl

theorem sgm_apply (r : Fin 192) (l : Fin 512) : k0_pay13 x2 x0 (ix2 r l) = sgm (row x0 r) (row x2) l := by
  pointwise [k0_pay13, k0_pay7]
  simp only [gelu_apply]
  rfl

theorem dsgm_apply (r : Fin 192) (l : Fin 512) : k0_pay14 x2 x0 (ix2 r l) = sgm (row x0 r) (row x2) l * (1 - sgm (row x0 r) (row x2) l) := by
  pointwise [k0_pay14]
  simp only [sgm_apply]

theorem gated_apply (r : Fin 192) (l : Fin 512) : k0_pay15 (k0_pay12 x0) (k0_pay13 x2 x0) (ix2 r l) = gated (row x0 r) (row x2) l := by
  pointwise [k0_pay15]
  simp only [gelu_apply, sgm_apply]
  rfl

theorem meanSq_apply (r : Fin 192) : k0_pay16 (k0_pay12 x0) (k0_pay13 x2 x0) (ix2 r 0) = meanSq (gated (row x0 r) (row x2)) := by
  pointwise [k0_pay16]
  simp only [gated_apply]
  rfl

theorem rsqrt_apply (r : Fin 192) : k0_pay17 (k0_pay12 x0) (k0_pay13 x2 x0) (ix2 r 0) = Ideal.rsqrt (meanSq (gated (row x0 r) (row x2))) := by
  pointwise [k0_pay17]
  simp only [meanSq_apply]

theorem back_apply (r : Fin 192) (l : Fin 512) : k0_pay19 (k0_pay6 x3) x1 (k0_pay12 x0) (k0_pay13 x2 x0) (ix2 r l)
    = back (gated (row x0 r) (row x2)) (cg x1 x3 r) l := by
  pointwise [k0_pay19, k0_pay6]
  simp only [Fin.sum_univ_one, gated_apply, meanSq_apply, rsqrt_apply]
  unfold back pull
  simp only [Fin.sum_univ_one]

theorem dpre_apply (r : Fin 192) (l : Fin 512) : k0_pay20 (k0_pay6 x3) x1 (k0_pay12 x0) (k0_pay13 x2 x0) (k0_pay14 x2 x0) (ix2 r l)
    = dpre (row x0 r) (row x2) (cg x1 x3 r) l := by
  pointwise [k0_pay20]
  simp only [gelu_apply, back_apply, dsgm_apply]
  rfl

theorem dgelu_apply (r : Fin 192) (l : Fin 512) : k0_pay22 (k0_pay6 x3) x1 (k0_pay7 x2) (k0_pay12 x0) (k0_pay13 x2 x0) (k0_pay14 x2 x0) (ix2 r l)
    = dgelu (row x0 r) (row x2) (cg x1 x3 r) l := by
  pointwise [k0_pay22, k0_pay7]
  simp only [back_apply, dpre_apply, sgm_apply]
  rfl

theorem dyBlock_apply (r : Fin 192) (l : Fin 512) : dyBlock x0 x1 x2 x3 (ix2 r l)
    = dxOf (x0 (ix2 r l)) (dgelu (row x0 r) (row x2) (cg x1 x3 r) l) := by
  unfold dyBlock
  pointwise [k0_pay1, k0_pay23, k0_pay24, k0_pay8, k0_pay10, k0_pay9]
  simp only [dgelu_apply, gate_apply]
  rfl

theorem dwBlock_apply (x : Vec Ideal S1x512x512 .f32) (i j : Fin 512) : k0_pay2 (dwBlock x0 x1 x2 x3) x (ix3 0 i j)
    = x (ix3 0 i j) + ∑ r : Fin 192, gelu (x0 (ix2 r i)) * dpre (row x0 r) (row x2) (cg x1 x3 r) j := by
  unfold dwBlock
  pointwise [k0_pay2, k0_pay21]
  simp only [gelu_apply, dpre_apply]

theorem dgBlock_apply (x : Vec Ideal S1x1x512 .f32) (l : Fin 512) : k0_pay3 (dgBlock x0 x1 x2) x (ix3 0 0 l)
    = x (ix3 0 0 l) + ∑ r : Fin 192, gated (row x0 r) (row x2) l * Ideal.rsqrt (meanSq (gated (row x0 r) (row x2))) * x1 (ix2 r l) := by
  unfold dgBlock
  pointwise [k0_pay3, k0_pay18]
  simp only [gated_apply, rsqrt_apply]

theorem zero4_apply (i j : Fin 512) : (k0_pay4 (F := Ideal)) (ix3 0 i j) = 0 := by
  pointwise [k0_pay4]

theorem zero5_apply (l : Fin 512) : (k0_pay5 (F := Ideal)) (ix3 0 0 l) = 0 := by
  pointwise [k0_pay5]

end Blocks

/-! ## The arrays after the run -/

variable (m : (ℓ : Loc nD τ sig) → Buf (Elt Ideal) ℓ)

/-- The four arguments as the run finds them. -/
abbrev argY (c : Dev nD) : S2112x512.Idx → EReal := m ((c : Thread nD τ).loc main_arg0)
abbrev argW (c : Dev nD) : S512x512.Idx → EReal := m ((c : Thread nD τ).loc main_arg1)
abbrev argG (c : Dev nD) : S512.Idx → EReal := m ((c : Thread nD τ).loc main_arg2)
abbrev argC (c : Dev nD) : S2112x512.Idx → EReal := m ((c : Thread nD τ).loc main_arg3)

/-- The row of the array that row `r` of point `t`'s block is: the tiles are walked from the last to the first. -/
def rowOf (t : Fin cfg0.N) (r : Fin 192) : Fin 2112 :=
  ⟨(10 - t.val) * 192 + r.val, by have := t.isLt; have hN : cfg0.N = 11 := N_0; have := r.isLt; omega⟩

theorem idx_facts : ∀ t : Fin cfg0.N, (win0_0.index t (0 : Fin 2) = 10 - t.val ∧ win0_0.index t (1 : Fin 2) = 0)
    ∧ (win0_1.index t (0 : Fin 2) = 10 - t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 10 - t.val ∧ win0_4.index t (1 : Fin 2) = 0) :=
  (by decide +kernel : ∀ t : Fin grid0.N, _)

theorem iblk_0 (c : Dev nD) (t : Fin cfg0.N) (r : Fin 192) (l : Fin 512) :
    (iblk m c 0 t : Vec Ideal S192x512 .f32) (ix2 r l) = argY m c (ix2 (rowOf t r) l) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 192 + 1 * r.val = (10 - t.val) * 192 + r.val; rw [h0]; omega
  | ⟨1, _⟩ => show win0_0.index t 1 * 512 + 1 * l.val = l.val; rw [h1]; omega

theorem iblk_1 (c : Dev nD) (t : Fin cfg0.N) (r : Fin 192) (l : Fin 512) :
    (iblk m c 1 t : Vec Ideal S192x512 .f32) (ix2 r l) = argC m c (ix2 (rowOf t r) l) := by
  obtain ⟨-, ⟨h0, h1⟩, -⟩ := idx_facts t
  unfold iblk
  rw [View.read_apply]
  show V m c main_arg3 _ = _
  rw [V_main_arg3]
  congr 1
  funext a
  apply Fin.ext
  match a with
  | ⟨0, _⟩ => show win0_1.index t 0 * 192 + 1 * r.val = (10 - t.val) * 192 + r.val; rw [h0]; omega
  | ⟨1, _⟩ => show win0_1.index t 1 * 512 + 1 * l.val = l.val; rw [h1]; omega

theorem iblk_2 (c : Dev nD) (t : Fin cfg0.N) (k l : Fin 512) :
    (iblk m c 2 t : Vec Ideal S512x512 .bf16) (ix2 k l) = argW m c (ix2 k l) := by
  obtain ⟨-, -, ⟨h0, h1⟩, -⟩ := idx_facts t
  have e : (V m c main_v0 : S512x512.Idx → EReal) = argW m c := by
    dsimp only [V, hostOps0]
    after_results
    rfl
  rw [← e]
  unfold iblk
  rw [View.read_apply]
  show V m c main_v0 _ = _
  congr 1
  funext a
  apply Fin.ext
  match a with
  | ⟨0, _⟩ => show win0_2.index t 0 * 512 + 1 * k.val = k.val; rw [h0]; omega
  | ⟨1, _⟩ => show win0_2.index t 1 * 512 + 1 * l.val = l.val; rw [h1]; omega

theorem iblk_3 (c : Dev nD) (t : Fin cfg0.N) (l : Fin 512) :
    (iblk m c 3 t : Vec Ideal S1x512 .f32) (ix2 0 l) = argG m c (ix1 l) := by
  obtain ⟨-, -, -, ⟨h0, h1⟩, -⟩ := idx_facts t
  have e : (V m c main_v1 : S1x512.Idx → EReal) (ix2 0 l) = argG m c (ix1 l) := by
    have : V m c main_v1 = shapeCast S1x512 (argG m c) shapeCasts_S512_S1x512 := by
      dsimp only [V, hostOps0]
      after_results
      rfl
    rw [this]
    pointwise []
  rw [← e]
  unfold iblk
  rw [View.read_apply]
  show V m c main_v1 _ = _
  congr 1
  funext a
  apply Fin.ext
  match a with
  | ⟨0, _⟩ => show win0_3.index t 0 * 1 + 1 * 0 = 0; rw [h0]
  | ⟨1, _⟩ => show win0_3.index t 1 * 512 + 1 * l.val = l.val; rw [h1]; omega

section Results
variable (y : S2112x512.Idx → EReal) (w : S512x512.Idx → EReal) (g : S512.Idx → EReal) (d : S2112x512.Idx → EReal)

/-- The cotangent of row `r` times the gain. -/
def ctg (r : Fin 2112) (k : Fin 512) : EReal := d (ix2 r k) * g (ix1 k)

/-- The gradient of the input. -/
def dy (i : S2112x512.Idx) : EReal := dxOf (y i) (dgelu (row y (i 0)) (row w) (ctg g d (i 0)) (i 1))

/-- What row `r` adds to the weight's gradient. -/
def dwRow (i j : Fin 512) (r : Fin 2112) : EReal := gelu (y (ix2 r i)) * dpre (row y r) (row w) (ctg g d r) j

/-- The gradient of the weight: the sum over the rows. -/
def dw (i : S1x512x512.Idx) : EReal := ∑ r, dwRow y w g d (i 1) (i 2) r

/-- What row `r` adds to the gain's gradient. -/
def dgRow (l : Fin 512) (r : Fin 2112) : EReal :=
  gated (row y r) (row w) l * Ideal.rsqrt (meanSq (gated (row y r) (row w))) * d (ix2 r l)

/-- The gradient of the gain: the sum over the rows. -/
def dg (i : S1x1x512.Idx) : EReal := ∑ r, dgRow y w d (i 2) r

end Results

theorem ctg_eq (c : Dev nD) (t : Fin cfg0.N) (r : Fin 192) : cg (iblk m c 1 t) (iblk m c 3 t) r = ctg (argG m c) (argC m c) (rowOf t r) := by
  funext k
  exact congrArg₂ (fun a b : EReal => a * b) (iblk_1 m c t r k) (iblk_3 m c t k)

theorem row_eq (c : Dev nD) (t : Fin cfg0.N) (r : Fin 192) : row (iblk m c 0 t) r = row (argY m c) (rowOf t r) :=
  funext fun k => iblk_0 m c t r k

theorem w_eq (c : Dev nD) (t : Fin cfg0.N) : row (iblk m c 2 t) = row (argW m c) :=
  funext fun k => funext fun l => iblk_2 m c t k l

/-- What a point leaves for the input's gradient is its block of `dy`. -/
theorem left_4 (c : Dev nD) (t : Fin cfg0.N) :
    (outsAt0 m c t.val t.isLt).1 = dyBlock (iblk m c 0 t) (iblk m c 1 t) (iblk m c 2 t) (iblk m c 3 t) := by
  by_cases h0 : t.val % 11 = 0
  · rw [outsAt0_A m c t h0, out_A_4]
  · rw [outsAt0_B m c t h0, out_B_4]

theorem flushed_eq_4 (c : Dev nD) (t : Fin cfg0.N) :
    (dats m 0 c).flushed 4 t = ((cfg0.win 4).blk t).view.read (Elt Ideal) (dy (argY m c) (argW m c) (argG m c) (argC m c)) := by
  obtain ⟨-, -, -, -, ⟨h0, h1⟩⟩ := idx_facts t
  rw [flushed4, left_4]
  refine funext fun (j : S192x512.Idx) => ?_
  rw [View.read_apply]
  show dyBlock _ _ _ _ j = _
  have hj : ((cfg0.win 4).blk t).view.emb j = (ix2 (rowOf t (j 0)) (j 1) : S2112x512.Idx) := by
    funext a
    apply Fin.ext
    match a with
    | ⟨0, _⟩ => show win0_4.index t 0 * 192 + 1 * (j 0).val = (10 - t.val) * 192 + (j 0).val; rw [h0]; omega
    | ⟨1, _⟩ => show win0_4.index t 1 * 512 + 1 * (j 1).val = (j 1).val; rw [h1]; omega
  rw [hj]
  idx_vars j
  rw [dyBlock_apply, ctg_eq, row_eq, w_eq, iblk_0]
  rfl

theorem mem_blk_4 (t : Fin cfg0.N) (i : S2112x512.Idx) : i ∈ ((cfg0.win 4).blk t).view.set ↔
    ∀ a : Fin 2, win0_4.index t a * S192x512.size a ≤ (i a : ℕ) ∧ (i a : ℕ) < win0_4.index t a * S192x512.size a + S192x512.size a := by
  show i ∈ ((View.whole main_v2_0).slice (win0_4.rect t)).set ↔ _
  rw [View.set_slice_whole, Rect.mem_set_unit]
  exact Iff.rfl

theorem final_4 (c : Dev nD) : (dats m 0 c).arrAt 4 cfg0.N = dy (argY m c) (argW m c) (argG m c) (argC m c) :=
  (dats m 0 c).arrAt_eq_of_cover 4 _ (fun t _ => flushed_eq_4 m c t) fun (i : S2112x512.Idx) => by
    have hN : cfg0.N = 11 := N_0
    have hi0 : (i 0 : ℕ) < 2112 := (i 0).isLt
    have hi1 : (i 1 : ℕ) < 512 := (i 1).isLt
    refine ⟨⟨10 - (i 0 : ℕ) / 192, by omega⟩, flush0_4 _, ?_⟩
    obtain ⟨-, -, -, -, ⟨h0, h1⟩⟩ := idx_facts ⟨10 - (i 0 : ℕ) / 192, by omega⟩
    rw [mem_blk_4]
    intro a
    match a with
    | ⟨0, _⟩ => show win0_4.index _ 0 * 192 ≤ (i 0 : ℕ) ∧ (i 0 : ℕ) < win0_4.index _ 0 * 192 + 192; rw [h0]; dsimp only; omega
    | ⟨1, _⟩ => show win0_4.index _ 1 * 512 ≤ (i 1 : ℕ) ∧ (i 1 : ℕ) < win0_4.index _ 1 * 512 + 512; rw [h1]; omega

/-- After point `t` the two accumulators hold the sums over the tiles walked so far. -/
theorem left_acc (c : Dev nD) : ∀ (n : ℕ) (hn : n < cfg0.N),
    (∀ i j, (outsAt0 m c n hn).2.1 (ix3 0 i j)
      = ∑ k ∈ Finset.range (n + 1), Tiles.part 11 192 (dwRow (argY m c) (argW m c) (argG m c) (argC m c) i j) (10 - k))
    ∧ ∀ l, (outsAt0 m c n hn).2.2 (ix3 0 0 l)
      = ∑ k ∈ Finset.range (n + 1), Tiles.part 11 192 (dgRow (argY m c) (argW m c) (argC m c) l) (10 - k) := by
  have hN : cfg0.N = 11 := N_0
  have hw : ∀ (t : Fin cfg0.N) (x : Vec Ideal S1x512x512 .f32) (i j : Fin 512),
      k0_pay2 (dwBlock (iblk m c 0 t) (iblk m c 1 t) (iblk m c 2 t) (iblk m c 3 t)) x (ix3 0 i j)
        = x (ix3 0 i j) + Tiles.part 11 192 (dwRow (argY m c) (argW m c) (argG m c) (argC m c) i j) (10 - t.val) := fun t x i j => by
    rw [dwBlock_apply, Tiles.part, dif_pos (by have := t.isLt; omega)]
    simp only [ctg_eq, row_eq, w_eq, iblk_0]
    rfl
  have hg : ∀ (t : Fin cfg0.N) (x : Vec Ideal S1x1x512 .f32) (l : Fin 512),
      k0_pay3 (dgBlock (iblk m c 0 t) (iblk m c 1 t) (iblk m c 2 t)) x (ix3 0 0 l)
        = x (ix3 0 0 l) + Tiles.part 11 192 (dgRow (argY m c) (argW m c) (argC m c) l) (10 - t.val) := fun t x l => by
    rw [dgBlock_apply, Tiles.part, dif_pos (by have := t.isLt; omega)]
    simp only [row_eq, w_eq, iblk_1]
    rfl
  intro n
  induction n with
  | zero =>
    intro hn
    have h := outsAt0_A m c ⟨0, hn⟩ rfl
    dsimp only at h
    rw [h, out_A_5, out_A_6]
    refine ⟨fun i j => ?_, fun l => ?_⟩
    · dsimp only
      rw [hw, zero4_apply, zero_add, Finset.sum_range_one]
    · dsimp only
      rw [hg, zero5_apply, zero_add, Finset.sum_range_one]
  | succ n ih =>
    intro hn
    obtain ⟨i5, i6⟩ := ih (by omega)
    have h := outsAt0_B m c ⟨n + 1, hn⟩ (by dsimp only; omega)
    dsimp only at h
    rw [h, out_B_5, out_B_6]
    refine ⟨fun i j => ?_, fun l => ?_⟩
    · dsimp only
      rw [hw, Finset.sum_range_succ]
      exact congrArg (fun a : EReal => a + _) (i5 i j)
    · dsimp only
      rw [hg, Finset.sum_range_succ]
      exact congrArg (fun a : EReal => a + _) (i6 l)

/-- The last point. -/
abbrev tLast : Fin cfg0.N := ⟨10, by have hN : cfg0.N = 11 := N_0; omega⟩

theorem flushed_eq_5 (c : Dev nD) (t : Fin cfg0.N) (hf : (cfg0.win 5).flush t = true) :
    (dats m 0 c).flushed 5 t = ((cfg0.win 5).blk t).view.read (Elt Ideal) (dw (argY m c) (argW m c) (argG m c) (argC m c)) := by
  have hN : cfg0.N = 11 := N_0
  have h1 : t.val = 10 := by have := (flush0_5 t).mp hf; have := t.isLt; omega
  have hz' : (fun a => win0_5.index t a * main_v2_1.ty.shape.size a) = fun _ => 0 := by
    obtain rfl : t = tLast := Fin.ext h1
    exact funext fun a => by fin_cases a <;> decide
  rw [flushed5]
  refine Eq.trans ?_ (Memref.read_access_unit_zero (Elt Ideal) main_v2_1 hz' (fun a => by rw [congrFun hz' a]; simp) (dw (argY m c) (argW m c) (argG m c) (argC m c))).symm
  refine funext fun (j : S1x512x512.Idx) => ?_
  idx_vars j
  obtain rfl : j0 = 0 := Subsingleton.elim _ _
  refine ((left_acc m c t.val t.isLt).1 j1 j2).trans ?_
  rw [h1]
  exact (Finset.sum_range_reflect _ 11).trans (Tiles.sum_parts 11 192 _)

theorem flushed_eq_6 (c : Dev nD) (t : Fin cfg0.N) (hf : (cfg0.win 6).flush t = true) :
    (dats m 0 c).flushed 6 t = ((cfg0.win 6).blk t).view.read (Elt Ideal) (dg (argY m c) (argW m c) (argC m c)) := by
  have hN : cfg0.N = 11 := N_0
  have h1 : t.val = 10 := by have := (flush0_6 t).mp hf; have := t.isLt; omega
  have hz' : (fun a => win0_6.index t a * main_v2_2.ty.shape.size a) = fun _ => 0 := by
    obtain rfl : t = tLast := Fin.ext h1
    exact funext fun a => by fin_cases a <;> decide
  rw [flushed6]
  refine Eq.trans ?_ (Memref.read_access_unit_zero (Elt Ideal) main_v2_2 hz' (fun a => by rw [congrFun hz' a]; simp) (dg (argY m c) (argW m c) (argC m c))).symm
  refine funext fun (j : S1x1x512.Idx) => ?_
  idx_vars j
  obtain rfl : j0 = 0 := Subsingleton.elim _ _
  obtain rfl : j1 = 0 := Subsingleton.elim _ _
  refine ((left_acc m c t.val t.isLt).2 j2).trans ?_
  rw [h1]
  exact (Finset.sum_range_reflect _ 11).trans (Tiles.sum_parts 11 192 _)

theorem final_5 (c : Dev nD) : (dats m 0 c).arrAt 5 cfg0.N = dw (argY m c) (argW m c) (argG m c) (argC m c) :=
  (dats m 0 c).arrAt_eq_of_cover 5 _ (flushed_eq_5 m c) fun (i : S1x512x512.Idx) =>
    ⟨tLast, (flush0_5 tLast).mpr rfl, by
      show i ∈ ((View.whole main_v2_1).slice (win0_5.rect tLast)).set
      rw [View.set_slice_whole, Rect.mem_set_unit]
      intro a
      have hz : ∀ a, win0_5.index tLast a * win0_5.size a = 0 := by decide +kernel
      have hs : ∀ a, win0_5.xsize (grid0.coords tLast) a = S1x512x512.size a := by decide +kernel
      show win0_5.index tLast a * win0_5.size a ≤ (i a : ℕ) ∧ (i a : ℕ) < win0_5.index tLast a * win0_5.size a + win0_5.xsize (grid0.coords tLast) a
      rw [hz a, hs a]
      exact ⟨Nat.zero_le _, (Nat.zero_add _).symm ▸ (i a).isLt⟩⟩

theorem final_6 (c : Dev nD) : (dats m 0 c).arrAt 6 cfg0.N = dg (argY m c) (argW m c) (argC m c) :=
  (dats m 0 c).arrAt_eq_of_cover 6 _ (flushed_eq_6 m c) fun (i : S1x1x512.Idx) =>
    ⟨tLast, (flush0_6 tLast).mpr rfl, by
      show i ∈ ((View.whole main_v2_2).slice (win0_6.rect tLast)).set
      rw [View.set_slice_whole, Rect.mem_set_unit]
      intro a
      have hz : ∀ a, win0_6.index tLast a * win0_6.size a = 0 := by decide +kernel
      have hs : ∀ a, win0_6.xsize (grid0.coords tLast) a = S1x1x512.size a := by decide +kernel
      show win0_6.index tLast a * win0_6.size a ≤ (i a : ℕ) ∧ (i a : ℕ) < win0_6.index tLast a * win0_6.size a + win0_6.xsize (grid0.coords tLast) a
      rw [hz a, hs a]
      exact ⟨Nat.zero_le _, (Nat.zero_add _).symm ▸ (i a).isLt⟩⟩

/-- The run read: the three results are the three gradients, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2_0) = dy (argY m c) (argW m c) (argG m c) (argC m c)
      ∧ r.2.mem ((c : Thread nD τ).loc main_v2_1) = dw (argY m c) (argW m c) (argG m c) (argC m c)
      ∧ r.2.mem ((c : Thread nD τ).loc main_v2_2) = dg (argY m c) (argW m c) (argC m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by rw [← final_4, ← final_5, ← final_6]; exact h c) (run_blocks m ρ)

end Cert.PostIdeal.Value

/-! ## The reference computes the same formulas -/

namespace Cert.PostRefIdeal.Value

open Cert.PostRefIdeal Cert.PostRefIdeal.Gen Cert.PostRefIdeal.Read
open Cert.PostIdeal.Value (th gate gelu sgm gated meanSq pull back dpre dgelu dth dxOf row ctg dy dwRow dw dgRow dg)

variable (y : (⟨S2112x512, .f32⟩ : BufTy).Contents (Elt Ideal)) (w : (⟨S512x512, .f32⟩ : BufTy).Contents (Elt Ideal))
  (g : (⟨S512, .f32⟩ : BufTy).Contents (Elt Ideal)) (d : (⟨S2112x512, .f32⟩ : BufTy).Contents (Elt Ideal))

theorem ref_th (r : Fin 2112) (l : Fin 512) : val_main_v10 y (ix2 r l) = th (y (ix2 r l)) := by
  pointwise [val_main_v10, val_main_v9, val_main_v8, val_main_v7, val_main_v6, val_main_v5, val_main_v1, val_main_v0, val_main_cst_0, val_main_cst_1]
  unfold th
  rw [mul_comm (y (ix2 r l) * y (ix2 r l)) (y (ix2 r l))]

theorem ref_gate (r : Fin 2112) (l : Fin 512) : val_main_v19 y (ix2 r l) = gate (y (ix2 r l)) := by
  pointwise [val_main_v19, val_main_v18, val_main_v17, val_main_v16, val_main_cst_4, val_main_cst_5]
  rw [ref_th]
  rfl

theorem ref_gelu (r : Fin 2112) (l : Fin 512) : val_main_v20 y (ix2 r l) = gelu (y (ix2 r l)) := by
  pointwise [val_main_v20]
  rw [ref_gate]
  rfl

theorem ref_sgm (r : Fin 2112) (l : Fin 512) : val_main_v27 y w (ix2 r l) = sgm (row y r) (row w) l := by
  pointwise [val_main_v27, val_main_v26, val_main_v25, val_main_v24, val_main_v23, val_main_v22, val_main_v21, val_main_cst_6, val_main_cst_7]
  simp only [ref_gelu]
  rfl

theorem ref_gated (r : Fin 2112) (l : Fin 512) : val_main_v31 y w (ix2 r l) = gated (row y r) (row w) l := by
  pointwise [val_main_v31]
  simp only [ref_gelu, ref_sgm]
  rfl

theorem ref_meanSq (r : Fin 2112) : val_main_v38 y w (ix2 r 0) = meanSq (gated (row y r) (row w)) := by
  pointwise [val_main_v38, val_main_v37, val_main_v36, val_main_v35, val_main_v34, val_main_v33, val_main_v32, val_main_cst_9, val_main_cst_10, val_main_cst_11]
  simp only [ref_gated]
  rfl

theorem ref_back (r : Fin 2112) (l : Fin 512) : val_main_v67 y w g d (ix2 r l) = back (gated (row y r) (row w)) (ctg g d r) l := by
  pointwise [val_main_v67, val_main_v66, val_main_v65, val_main_v64, val_main_v63, val_main_v62, val_main_v61, val_main_v60, val_main_v59, val_main_v58, val_main_v57, val_main_v56, val_main_v55, val_main_v54, val_main_v52, val_main_v51, val_main_v45, val_main_v42, val_main_v41, val_main_v40, val_main_v39, val_main_cst_12, val_main_cst_15, val_main_cst_16, val_main_cst_17]
  unfold back pull
  simp only [Fin.sum_univ_one, ref_gated, ref_meanSq]
  rfl

theorem ref_dpre (r : Fin 2112) (l : Fin 512) : val_main_v70 y w g d (ix2 r l) = dpre (row y r) (row w) (ctg g d r) l := by
  pointwise [val_main_v70, val_main_v68, val_main_v30, val_main_v29, val_main_v28, val_main_cst_8]
  simp only [ref_gelu, ref_back, ref_sgm]
  rfl

theorem ref_dgelu (r : Fin 2112) (l : Fin 512) : val_main_v74 y w g d (ix2 r l) = dgelu (row y r) (row w) (ctg g d r) l := by
  pointwise [val_main_v74, val_main_v73, val_main_v69]
  simp only [ref_back, ref_sgm, ref_dpre]
  rfl

theorem ref_dy : val_main_v86 y w g d = dy y w g d := by
  refine funext fun (i : S2112x512.Idx) => ?_
  idx_vars i
  pointwise [val_main_v86, val_main_v85, val_main_v84, val_main_v83, val_main_v82, val_main_v81, val_main_v80, val_main_v79, val_main_v78, val_main_v77, val_main_v76, val_main_v75, val_main_v15, val_main_v14, val_main_v13, val_main_v12, val_main_v11, val_main_v4, val_main_v3, val_main_v2, val_main_cst, val_main_cst_2, val_main_cst_3, val_main_cst_18, val_main_cst_19, val_main_cst_20]
  simp only [ref_dgelu, ref_gate, ref_th]
  rfl

theorem ref_dw : val_main_v87 y w g d = dw y w g d := by
  refine funext fun (i : S1x512x512.Idx) => ?_
  idx_vars i
  pointwise [val_main_v87, val_main_v72, val_main_v71]
  simp only [ref_dpre, ref_gelu]
  exact Finset.sum_congr rfl fun r _ => mul_comm _ _

theorem ref_dg : val_main_v88 y w d = dg y w d := by
  refine funext fun (i : S1x1x512.Idx) => ?_
  idx_vars i
  pointwise [val_main_v88, val_main_v53, val_main_v50, val_main_v49, val_main_v48, val_main_v44, val_main_v43, val_main_v39, val_main_cst_13, val_main_cst_14]
  simp only [ref_gated, ref_meanSq, Fin.sum_univ_one]
  rfl

end Cert.PostRefIdeal.Value

end
-- ==== Proof.PostClaims.lean ====
/-
  The claims about the backward call of the diagonal recurrence's gate and norm.
-/
module

public import proofs.«01_k».proof.Defs
public import proofs.«01_k».proof.Proof.PostValue
public import proofs.«01_k».proof.Proof.Gen.Post.Frame
public import proofs.«01_k».proof.Proof.Gen.PostRefIdeal.Run
public import Idealize.ShloMosaic.Lib.Quiescent

@[expose] public section

noncomputable section

open Idealize.ShloMosaic Idealize.ShloMosaic.TcCoe Idealize.SL.Sem

namespace Cert.Proof

theorem post_frame : Cert.quiescent_Post (hPost := Cert.Post.Gen.facts) := fun m ρ _ => Cert.Post.Gen.frame m ρ

theorem post_ideal_frame : Cert.quiescent_PostIdeal (hPostIdeal := Cert.PostIdeal.Gen.facts) := fun m ρ _ => Cert.PostIdeal.Gen.frame m ρ

theorem post_ref_frame : Cert.quiescent_PostRefIdeal (hPostRefIdeal := Cert.PostRefIdeal.Gen.facts) := fun m ρ _ =>
  (θ_run Cert.PostRefIdeal.defs _ _).mono (fun r h => ⟨fun c => (h c).2.2.2, sem_eq_zero_of_no_sems (by decide) r.2⟩)
    (Cert.PostRefIdeal.Value.run (F := Ideal) m ρ)

theorem post_algebraic : Cert.algebraic_PostIdeal_PostRefIdeal (hPostIdeal := Cert.PostIdeal.Gen.facts)
    (hPostRefIdeal := Cert.PostRefIdeal.Gen.facts) := fun m ρ m' ρ' _ hagree =>
  ⟨_, _, _, Cert.PostIdeal.Value.run m ρ, (θ_run Cert.PostRefIdeal.defs _ _).mono (fun r h c => by
    obtain ⟨e0, e1, e2, e3⟩ := hagree c
    obtain ⟨h0, h1, h2, hargs⟩ := h c
    refine ⟨(h0.trans (Cert.PostRefIdeal.Read.val_main_v86_eq _)).trans ?_, (h1.trans (Cert.PostRefIdeal.Read.val_main_v87_eq _)).trans ?_,
      (h2.trans (Cert.PostRefIdeal.Read.val_main_v88_eq _)).trans ?_, hargs⟩
    · rw [show StableHlo.launchContents m' c (Proc.tc.devRef Cert.PostRefIdeal.main_arg0) = _ from e0,
        show StableHlo.launchContents m' c (Proc.tc.devRef Cert.PostRefIdeal.main_arg1) = _ from e1,
        show StableHlo.launchContents m' c (Proc.tc.devRef Cert.PostRefIdeal.main_arg2) = _ from e2,
        show StableHlo.launchContents m' c (Proc.tc.devRef Cert.PostRefIdeal.main_arg3) = _ from e3]
      exact Cert.PostRefIdeal.Value.ref_dy _ _ _ _
    · rw [show StableHlo.launchContents m' c (Proc.tc.devRef Cert.PostRefIdeal.main_arg0) = _ from e0,
        show StableHlo.launchContents m' c (Proc.tc.devRef Cert.PostRefIdeal.main_arg1) = _ from e1,
        show StableHlo.launchContents m' c (Proc.tc.devRef Cert.PostRefIdeal.main_arg2) = _ from e2,
        show StableHlo.launchContents m' c (Proc.tc.devRef Cert.PostRefIdeal.main_arg3) = _ from e3]
      exact Cert.PostRefIdeal.Value.ref_dw _ _ _ _
    · rw [show StableHlo.launchContents m' c (Proc.tc.devRef Cert.PostRefIdeal.main_arg0) = _ from e0,
        show StableHlo.launchContents m' c (Proc.tc.devRef Cert.PostRefIdeal.main_arg1) = _ from e1,
        show StableHlo.launchContents m' c (Proc.tc.devRef Cert.PostRefIdeal.main_arg3) = _ from e3]
      exact Cert.PostRefIdeal.Value.ref_dg _ _ _) (Cert.PostRefIdeal.Value.run (F := Ideal) m' ρ')⟩

end Cert.Proof

end
-- ==== Proof.RmsFwdValue.lean ====
/-
  The value of the forward call of the RMS norm: what its result holds after the run.
-/
module

public import proofs.«01_k».proof.Proof.Gen.RmsFwdIdeal.Value
public import proofs.«01_k».proof.Proof.Gen.RmsFwdRefIdeal.Read
public import proofs.«01_k».proof.Proof.RmsValue

@[expose] public section

set_option maxRecDepth 16384

noncomputable section

open Idealize.ShloMosaic Idealize.ShloMosaic.TcCoe Idealize.SL.Sem
open Idealize.ShloMosaic.Pipeline (Dat)

namespace Cert.RmsFwdIdeal.Value

open Cert.RmsFwdIdeal Cert.RmsFwdIdeal.Gen
open Cert.RmsIdeal.Value (hz2 meanSq)

/-- The norm of a row `x` with the gain `g` at lane `l`. -/
def normRow (x : Fin 1024 → EReal) (g : EReal) (l : Fin 1024) : EReal := x l * Ideal.rsqrt (meanSq x) * g

theorem block_apply (x : Vec Ideal S1056x1024 .f32) (g : Vec Ideal S1x1024 .f32) (r : Fin 1056) (l : Fin 1024) :
    out0_2 x g (ix2 r l) = normRow (fun k => x (ix2 r k)) (g (ix2 0 l)) l := by
  unfold out0_2
  rw [View.canon_unit_zero hz2]
  simp only [View.ld_unit_zero (S := S1056x1024) hz2, View.ld_unit_zero (S := S1x1024) hz2]
  pointwise [k0_pay1]
  rfl

variable (m : (ℓ : Loc nD τ sig) → Buf (Elt Ideal) ℓ)

/-- The arguments. -/
abbrev argH (c : Dev nD) : S2112x1024.Idx → EReal := m ((c : Thread nD τ).loc main_arg0)
abbrev argG (c : Dev nD) : S1024.Idx → EReal := m ((c : Thread nD τ).loc main_arg1)

/-- The row of the array that row `r` of point `t`'s block is. -/
def rowOf (t : Fin cfg0.N) (r : Fin 1056) : Fin 2112 :=
  ⟨t.val * 1056 + r.val, by have := t.isLt; have hN : cfg0.N = 2 := N_0; have := r.isLt; omega⟩

theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem iblk_0 (c : Dev nD) (t : Fin cfg0.N) (r : Fin 1056) (l : Fin 1024) :
    (iblk m c 0 t : Vec Ideal S1056x1024 .f32) (ix2 r l) = argH m c (ix2 (rowOf t r) l) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 1056 + 1 * r.val = t.val * 1056 + r.val; rw [h0]; omega
  | ⟨1, _⟩ => show win0_0.index t 1 * 1024 + 1 * l.val = l.val; rw [h1]; omega

theorem iblk_1 (c : Dev nD) (t : Fin cfg0.N) (l : Fin 1024) :
    (iblk m c 1 t : Vec Ideal S1x1024 .f32) (ix2 0 l) = argG m c (ix1 l) := by
  obtain ⟨-, ⟨h0, h1⟩, -⟩ := idx_facts t
  have e : (V m c main_v0 : S1x1024.Idx → EReal) (ix2 0 l) = argG m c (ix1 l) := by
    have : V m c main_v0 = shapeCast S1x1024 (argG m c) shapeCasts_S1024_S1x1024 := by
      dsimp only [V, hostOps0]
      after_results
      rfl
    rw [this]
    pointwise []
  rw [← e]
  unfold iblk
  rw [View.read_apply]
  show V m c main_v0 _ = _
  congr 1
  funext a
  apply Fin.ext
  match a with
  | ⟨0, _⟩ => show win0_1.index t 0 * 1 + 1 * 0 = 0; rw [h0]
  | ⟨1, _⟩ => show win0_1.index t 1 * 1024 + 1 * l.val = l.val; rw [h1]; omega

/-- The norm of every row. -/
def norm (h : S2112x1024.Idx → EReal) (g : S1024.Idx → EReal) (i : S2112x1024.Idx) : EReal :=
  normRow (fun k => h (ix2 (i 0) k)) (g (ix1 (i 1))) (i 1)

theorem flushed_eq_2 (c : Dev nD) (t : Fin cfg0.N) :
    (dats m 0 c).flushed 2 t = ((cfg0.win 2).blk t).view.read (Elt Ideal) (norm (argH m c) (argG m c)) := by
  obtain ⟨-, -, ⟨h0, h1⟩⟩ := idx_facts t
  rw [flushed2]
  refine funext fun (j : S1056x1024.Idx) => ?_
  rw [View.read_apply]
  show out0_2 _ _ j = _
  have hj : ((cfg0.win 2).blk t).view.emb j = (ix2 (rowOf t (j 0)) (j 1) : S2112x1024.Idx) := by
    funext a
    apply Fin.ext
    match a with
    | ⟨0, _⟩ => show win0_2.index t 0 * 1056 + 1 * (j 0).val = t.val * 1056 + (j 0).val; rw [h0]; omega
    | ⟨1, _⟩ => show win0_2.index t 1 * 1024 + 1 * (j 1).val = (j 1).val; rw [h1]; omega
  rw [hj]
  idx_vars j
  rw [block_apply]
  simp only [iblk_0, iblk_1]
  rfl

theorem mem_blk_2 (t : Fin cfg0.N) (i : S2112x1024.Idx) : i ∈ ((cfg0.win 2).blk t).view.set ↔
    ∀ a, win0_2.index t a * win0_2.size a ≤ (i a : ℕ) ∧ (i a : ℕ) < win0_2.index t a * win0_2.size a + win0_2.xsize (grid0.coords t) a := by
  show i ∈ ((View.whole main_v1).slice (win0_2.rect t)).set ↔ _
  rw [View.set_slice_whole, Rect.mem_set_unit]

theorem final_2 (c : Dev nD) : (dats m 0 c).arrAt 2 cfg0.N = norm (argH m c) (argG m c) :=
  (dats m 0 c).arrAt_eq_of_cover 2 _ (fun t _ => flushed_eq_2 m c t) fun (i : S2112x1024.Idx) => by
    have hN : cfg0.N = 2 := N_0
    have hi0 : (i 0 : ℕ) < 2112 := (i 0).isLt
    have hi1 : (i 1 : ℕ) < 1024 := (i 1).isLt
    refine ⟨⟨(i 0 : ℕ) / 1056, by omega⟩, flush0_2 _, ?_⟩
    obtain ⟨-, -, ⟨h0, h1⟩⟩ := idx_facts ⟨(i 0 : ℕ) / 1056, by omega⟩
    rw [mem_blk_2]
    intro a
    match a with
    | ⟨0, _⟩ => show win0_2.index _ 0 * 1056 ≤ (i 0 : ℕ) ∧ (i 0 : ℕ) < win0_2.index _ 0 * 1056 + 1056; rw [h0]; dsimp only; omega
    | ⟨1, _⟩ => show win0_2.index _ 1 * 1024 ≤ (i 1 : ℕ) ∧ (i 1 : ℕ) < win0_2.index _ 1 * 1024 + 1024; rw [h1]; omega

/-- The run read: the result is the norm, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v1) = norm (argH m c) (argG m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by rw [← final_2]; exact h c) (run_blocks m ρ)

end Cert.RmsFwdIdeal.Value

/-! ## The reference computes the same formula -/

namespace Cert.RmsFwdRefIdeal.Value

open Cert.RmsFwdRefIdeal Cert.RmsFwdRefIdeal.Gen Cert.RmsFwdRefIdeal.Read
open Cert.RmsFwdIdeal.Value (norm normRow)
open Cert.RmsIdeal.Value (meanSq)

theorem ref_norm (h : (⟨S2112x1024, .f32⟩ : BufTy).Contents (Elt Ideal)) (g : (⟨S1024, .f32⟩ : BufTy).Contents (Elt Ideal)) :
    val_main_v13 h g = norm h g := by
  refine funext fun (i : S2112x1024.Idx) => ?_
  idx_vars i
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.RmsFwdRefIdeal.Value

end
-- ==== Proof.RmsFwdClaims.lean ====
/-
  The five claims of the forward call of the RMS norm.
-/
module

public import proofs.«01_k».proof.Defs
public import proofs.«01_k».proof.Proof.RmsFwdValue
public import proofs.«01_k».proof.Proof.Gen.RmsFwd.Frame
public import proofs.«01_k».proof.Proof.Gen.RmsFwdRefIdeal.Run
public import Idealize.ShloMosaic.Lib.Quiescent

@[expose] public section

noncomputable section

open Idealize.ShloMosaic Idealize.ShloMosaic.TcCoe Idealize.SL.Sem

namespace Cert.Proof

theorem rmsfwd_frame : Cert.quiescent_RmsFwd (hRmsFwd := Cert.RmsFwd.Gen.facts) := fun m ρ _ => Cert.RmsFwd.Gen.frame m ρ

theorem rmsfwd_ideal_frame : Cert.quiescent_RmsFwdIdeal (hRmsFwdIdeal := Cert.RmsFwdIdeal.Gen.facts) := fun m ρ _ => Cert.RmsFwdIdeal.Gen.frame m ρ

theorem rmsfwd_ref_frame : Cert.quiescent_RmsFwdRefIdeal (hRmsFwdRefIdeal := Cert.RmsFwdRefIdeal.Gen.facts) := fun m ρ _ =>
  (θ_run Cert.RmsFwdRefIdeal.defs _ _).mono (fun r h => ⟨fun c => (h c).2, sem_eq_zero_of_no_sems (by decide) r.2⟩)
    (Cert.RmsFwdRefIdeal.Value.run (F := Ideal) m ρ)

theorem rmsfwd_algebraic : Cert.algebraic_RmsFwdIdeal_RmsFwdRefIdeal (hRmsFwdIdeal := Cert.RmsFwdIdeal.Gen.facts)
    (hRmsFwdRefIdeal := Cert.RmsFwdRefIdeal.Gen.facts) := fun m ρ m' ρ' _ hagree =>
  ⟨_, Cert.RmsFwdIdeal.Value.run m ρ, (θ_run Cert.RmsFwdRefIdeal.defs _ _).mono (fun r h c => by
    obtain ⟨e0, e1⟩ := hagree c
    obtain ⟨h0, hargs⟩ := h c
    refine ⟨h0.trans ?_, hargs⟩
    rw [e0, e1]
    exact Cert.RmsFwdRefIdeal.Value.ref_norm _ _) (Cert.RmsFwdRefIdeal.Value.run (F := Ideal) m' ρ')⟩

end Cert.Proof

end
-- ==== Proof.PostFwdValue.lean ====
/-
  The value of the forward call of the S5 output stage: what its result holds after the run.
-/
module

public import proofs.«01_k».proof.Proof.Gen.PostFwdIdeal.Value
public import proofs.«01_k».proof.Proof.Gen.PostFwdRefIdeal.Read
public import proofs.«01_k».proof.Proof.PostValue

@[expose] public section

set_option maxRecDepth 16384

noncomputable section

open Idealize.ShloMosaic Idealize.ShloMosaic.TcCoe Idealize.SL.Sem
open Idealize.ShloMosaic.Pipeline (Dat)

namespace Cert.PostFwdIdeal.Value

open Cert.PostFwdIdeal Cert.PostFwdIdeal.Gen
open Cert.RmsIdeal.Value (hz2)
open Cert.PostIdeal.Value (th gate gelu sgm gated meanSq)

/-- The result at lane `j` of a row `x`, with the weight `w` and the gain `g`. -/
def postRow (x : Fin 512 → EReal) (w : Fin 512 → Fin 512 → EReal) (g : EReal) (j : Fin 512) : EReal :=
  gated x w j * Ideal.rsqrt (meanSq (gated x w)) * g

theorem block_apply (x : Vec Ideal S192x512 .f32) (w : Vec Ideal S512x512 .bf16) (g : Vec Ideal S1x512 .f32) (r : Fin 192) (l : Fin 512) :
    out0_3 x w g (ix2 r l) = postRow (fun k => x (ix2 r k)) (fun i j => w (ix2 i j)) (g (ix2 0 l)) l := by
  unfold out0_3
  rw [View.canon_unit_zero hz2]
  simp only [View.ld_unit_zero (S := S192x512) hz2, View.ld_unit_zero (S := S512x512) hz2, View.ld_unit_zero (S := S1x512) hz2]
  pointwise [k0_pay1]
  rfl

variable (m : (ℓ : Loc nD τ sig) → Buf (Elt Ideal) ℓ)

/-- The arguments. -/
abbrev argY (c : Dev nD) : S2112x512.Idx → EReal := m ((c : Thread nD τ).loc main_arg0)
abbrev argW (c : Dev nD) : S512x512.Idx → EReal := m ((c : Thread nD τ).loc main_arg1)
abbrev argG (c : Dev nD) : S512.Idx → EReal := m ((c : Thread nD τ).loc main_arg2)

/-- The row of the array that row `r` of point `t`'s block is. -/
def rowOf (t : Fin cfg0.N) (r : Fin 192) : Fin 2112 :=
  ⟨t.val * 192 + r.val, by have := t.isLt; have hN : cfg0.N = 11 := N_0; have := r.isLt; omega⟩

theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem iblk_0 (c : Dev nD) (t : Fin cfg0.N) (r : Fin 192) (l : Fin 512) :
    (iblk m c 0 t : Vec Ideal S192x512 .f32) (ix2 r l) = argY m c (ix2 (rowOf t r) l) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 192 + 1 * r.val = t.val * 192 + r.val; rw [h0]; omega
  | ⟨1, _⟩ => show win0_0.index t 1 * 512 + 1 * l.val = l.val; rw [h1]; omega

theorem iblk_1 (c : Dev nD) (t : Fin cfg0.N) (k l : Fin 512) :
    (iblk m c 1 t : Vec Ideal S512x512 .bf16) (ix2 k l) = argW m c (ix2 k l) := by
  obtain ⟨-, ⟨h0, h1⟩, -⟩ := idx_facts t
  have e : (V m c main_v0 : S512x512.Idx → EReal) = argW m c := by
    dsimp only [V, hostOps0]
    after_results
    rfl
  rw [← e]
  unfold iblk
  rw [View.read_apply]
  show V m c main_v0 _ = _
  congr 1
  funext a
  apply Fin.ext
  match a with
  | ⟨0, _⟩ => show win0_1.index t 0 * 512 + 1 * k.val = k.val; rw [h0]; omega
  | ⟨1, _⟩ => show win0_1.index t 1 * 512 + 1 * l.val = l.val; rw [h1]; omega

theorem iblk_2 (c : Dev nD) (t : Fin cfg0.N) (l : Fin 512) :
    (iblk m c 2 t : Vec Ideal S1x512 .f32) (ix2 0 l) = argG m c (ix1 l) := by
  obtain ⟨-, -, ⟨h0, h1⟩, -⟩ := idx_facts t
  have e : (V m c main_v1 : S1x512.Idx → EReal) (ix2 0 l) = argG m c (ix1 l) := by
    have : V m c main_v1 = shapeCast S1x512 (argG m c) shapeCasts_S512_S1x512 := by
      dsimp only [V, hostOps0]
      after_results
      rfl
    rw [this]
    pointwise []
  rw [← e]
  unfold iblk
  rw [View.read_apply]
  show V m c main_v1 _ = _
  congr 1
  funext a
  apply Fin.ext
  match a with
  | ⟨0, _⟩ => show win0_2.index t 0 * 1 + 1 * 0 = 0; rw [h0]
  | ⟨1, _⟩ => show win0_2.index t 1 * 512 + 1 * l.val = l.val; rw [h1]; omega

/-- The output stage of every row. -/
def post (y : S2112x512.Idx → EReal) (w : S512x512.Idx → EReal) (g : S512.Idx → EReal) (i : S2112x512.Idx) : EReal :=
  postRow (fun k => y (ix2 (i 0) k)) (fun k j => w (ix2 k j)) (g (ix1 (i 1))) (i 1)

theorem flushed_eq_3 (c : Dev nD) (t : Fin cfg0.N) :
    (dats m 0 c).flushed 3 t = ((cfg0.win 3).blk t).view.read (Elt Ideal) (post (argY m c) (argW m c) (argG m c)) := by
  obtain ⟨-, -, -, ⟨h0, h1⟩⟩ := idx_facts t
  rw [flushed3]
  refine funext fun (j : S192x512.Idx) => ?_
  rw [View.read_apply]
  show out0_3 _ _ _ j = _
  have hj : ((cfg0.win 3).blk t).view.emb j = (ix2 (rowOf t (j 0)) (j 1) : S2112x512.Idx) := by
    funext a
    apply Fin.ext
    match a with
    | ⟨0, _⟩ => show win0_3.index t 0 * 192 + 1 * (j 0).val = t.val * 192 + (j 0).val; rw [h0]; omega
    | ⟨1, _⟩ => show win0_3.index t 1 * 512 + 1 * (j 1).val = (j 1).val; rw [h1]; omega
  rw [hj]
  idx_vars j
  rw [block_apply]
  simp only [iblk_0, iblk_1, iblk_2]
  rfl

theorem mem_blk_3 (t : Fin cfg0.N) (i : S2112x512.Idx) : i ∈ ((cfg0.win 3).blk t).view.set ↔
    ∀ a, win0_3.index t a * win0_3.size a ≤ (i a : ℕ) ∧ (i a : ℕ) < win0_3.index t a * win0_3.size a + win0_3.xsize (grid0.coords t) a := by
  show i ∈ ((View.whole main_v2).slice (win0_3.rect t)).set ↔ _
  rw [View.set_slice_whole, Rect.mem_set_unit]

theorem final_3 (c : Dev nD) : (dats m 0 c).arrAt 3 cfg0.N = post (argY m c) (argW m c) (argG m c) :=
  (dats m 0 c).arrAt_eq_of_cover 3 _ (fun t _ => flushed_eq_3 m c t) fun (i : S2112x512.Idx) => by
    have hN : cfg0.N = 11 := N_0
    have hi0 : (i 0 : ℕ) < 2112 := (i 0).isLt
    have hi1 : (i 1 : ℕ) < 512 := (i 1).isLt
    refine ⟨⟨(i 0 : ℕ) / 192, by omega⟩, flush0_3 _, ?_⟩
    obtain ⟨-, -, -, ⟨h0, h1⟩⟩ := idx_facts ⟨(i 0 : ℕ) / 192, by omega⟩
    rw [mem_blk_3]
    intro a
    match a with
    | ⟨0, _⟩ => show win0_3.index _ 0 * 192 ≤ (i 0 : ℕ) ∧ (i 0 : ℕ) < win0_3.index _ 0 * 192 + 192; rw [h0]; dsimp only; omega
    | ⟨1, _⟩ => show win0_3.index _ 1 * 512 ≤ (i 1 : ℕ) ∧ (i 1 : ℕ) < win0_3.index _ 1 * 512 + 512; rw [h1]; omega

/-- The run read: the result is the output stage, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = post (argY m c) (argW m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by rw [← final_3]; exact h c) (run_blocks m ρ)

end Cert.PostFwdIdeal.Value

/-! ## The reference computes the same formula -/

namespace Cert.PostFwdRefIdeal.Value

open Cert.PostFwdRefIdeal Cert.PostFwdRefIdeal.Gen Cert.PostFwdRefIdeal.Read
open Cert.PostFwdIdeal.Value (post postRow)
open Cert.PostIdeal.Value (th gate gelu sgm gated meanSq)

variable (y : (⟨S2112x512, .f32⟩ : BufTy).Contents (Elt Ideal)) (w : (⟨S512x512, .f32⟩ : BufTy).Contents (Elt Ideal))
  (g : (⟨S512, .f32⟩ : BufTy).Contents (Elt Ideal))

theorem ref_gelu (r : Fin 2112) (l : Fin 512) : val_main_v12 y (ix2 r l) = gelu (y (ix2 r l)) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  unfold gelu gate th
  rw [mul_comm (y (ix2 r l) * y (ix2 r l)) (y (ix2 r l))]

theorem ref_gated (r : Fin 2112) (l : Fin 512) :
    val_main_v20 y w (ix2 r l) = gated (fun k => y (ix2 r k)) (fun k j => w (ix2 k j)) l := by
  pointwise [val_main_v20, val_main_v19, val_main_v18, val_main_v17, val_main_v16, val_main_v15, val_main_v14, val_main_v13, val_main_cst_3, val_main_cst_4]
  simp only [ref_gelu]
  rfl

theorem ref_meanSq (r : Fin 2112) :
    val_main_v27 y w (ix2 r 0) = meanSq (gated (fun k => y (ix2 r k)) (fun k j => w (ix2 k j))) := by
  pointwise [val_main_v27, val_main_v26, val_main_v25, val_main_v24, val_main_v23, val_main_v22, val_main_v21, val_main_cst_5, val_main_cst_6, val_main_cst_7]
  simp only [ref_gated]
  rfl

theorem ref_post : val_main_v33 y w g = post y w g := by
  refine funext fun (i : S2112x512.Idx) => ?_
  idx_vars i
  pointwise [val_main_v33, val_main_v32, val_main_v31, val_main_v30, val_main_v29, val_main_v28]
  simp only [ref_gated, ref_meanSq]
  rfl

end Cert.PostFwdRefIdeal.Value

end
-- ==== Proof.PostFwdClaims.lean ====
/-
  The five claims of the forward call of the S5 output stage.
-/
module

public import proofs.«01_k».proof.Defs
public import proofs.«01_k».proof.Proof.PostFwdValue
public import proofs.«01_k».proof.Proof.Gen.PostFwd.Frame
public import proofs.«01_k».proof.Proof.Gen.PostFwdRefIdeal.Run
public import Idealize.ShloMosaic.Lib.Quiescent

@[expose] public section

noncomputable section

open Idealize.ShloMosaic Idealize.ShloMosaic.TcCoe Idealize.SL.Sem

namespace Cert.Proof

theorem postfwd_frame : Cert.quiescent_PostFwd (hPostFwd := Cert.PostFwd.Gen.facts) := fun m ρ _ => Cert.PostFwd.Gen.frame m ρ

theorem postfwd_ideal_frame : Cert.quiescent_PostFwdIdeal (hPostFwdIdeal := Cert.PostFwdIdeal.Gen.facts) := fun m ρ _ => Cert.PostFwdIdeal.Gen.frame m ρ

theorem postfwd_ref_frame : Cert.quiescent_PostFwdRefIdeal (hPostFwdRefIdeal := Cert.PostFwdRefIdeal.Gen.facts) := fun m ρ _ =>
  (θ_run Cert.PostFwdRefIdeal.defs _ _).mono (fun r h => ⟨fun c => (h c).2, sem_eq_zero_of_no_sems (by decide) r.2⟩)
    (Cert.PostFwdRefIdeal.Value.run (F := Ideal) m ρ)

theorem postfwd_algebraic : Cert.algebraic_PostFwdIdeal_PostFwdRefIdeal (hPostFwdIdeal := Cert.PostFwdIdeal.Gen.facts)
    (hPostFwdRefIdeal := Cert.PostFwdRefIdeal.Gen.facts) := fun m ρ m' ρ' _ hagree =>
  ⟨_, Cert.PostFwdIdeal.Value.run m ρ, (θ_run Cert.PostFwdRefIdeal.defs _ _).mono (fun r h c => by
    obtain ⟨e0, e1, e2⟩ := hagree c
    obtain ⟨h0, hargs⟩ := h c
    refine ⟨(h0.trans (Cert.PostFwdRefIdeal.Read.val_main_v33_eq _ _)).trans ?_, hargs⟩
    rw [e0, e1, e2]
    exact Cert.PostFwdRefIdeal.Value.ref_post _ _ _) (Cert.PostFwdRefIdeal.Value.run (F := Ideal) m' ρ')⟩

end Cert.Proof

end
-- ==== Proof.FfnFwdValue.lean ====
/-
  The value of the forward call of the gated FFN: what its result holds after the run.
-/
module

public import proofs.«01_k».proof.Proof.Gen.FfnFwdIdeal.Value
public import proofs.«01_k».proof.Proof.Gen.FfnFwdRefIdeal.Read
public import proofs.«01_k».proof.Proof.RmsValue
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.FfnFwdIdeal.Value

open Cert.FfnFwdIdeal Cert.FfnFwdIdeal.Gen
open Cert.RmsIdeal.Value (hz2)

section AnyValues
variable {F : FTy → Type} [FloatOps F]

theorem acc_A (c : Dev nD) (i : grid0.Coords) (a2 : Memref sig .tc .vmem S1056x1024 .f32) (h2 : a2.IsWhole) (a3 : Memref sig .tc .vmem S1056x1024 .bf16) (h3 : a3.IsWhole) (a4 : Memref sig .tc .vmem S1024x256 .bf16) (h4 : a4.IsWhole) (a5 : Memref sig .tc .vmem S1024x256 .bf16) (h5 : a5.IsWhole) (a6 : Memref sig .tc .vmem S256x1024 .bf16) (h6 : a6.IsWhole) (a7 : Memref sig .tc .vmem S1056x1024 .f32) (h7 : a7.IsWhole) (a8 : Memref sig .tc .vmem S1056x1024 .f32) (h8 : a8.IsWhole) (hc : cond0_0 i) (hc' : ¬cond0_1 i)
    (x0 : Vec F S1056x1024 .f32) (x1 : Vec F S1056x1024 .bf16) (x2 x3 : Vec F S1024x256 .bf16) (x4 : Vec F S256x1024 .bf16) :
    sout0_A_0 c i a2 h2 a3 h3 a4 h4 a5 h5 a6 h6 a7 h7 a8 h8 hc hc' x0 x1 x2 x3 x4 = k0_pay2 x1 x2 x3 k0_pay1 x4 := by
  unfold sout0_A_0
  rw [View.read_writes_eq_canon _ _ _ (scover0_A_0 c i a2 h2 a3 h3 a4 h4 a5 h5 a6 h6 a7 h7 a8 h8 hc hc' x0 x1 x2 x3 x4)]
  unfold kernelRun0_A
  dsimp only
  sl_unfold_words
  rw [View.canon_cons_unit_zero (S := S1056x1024) hz2, View.readCov_unit_zero (S := S1056x1024) _ hz2]
  simp only [View.readAt_eq_ld, h2.read_unread, h3.read_unread, h4.read_unread, h5.read_unread, h6.read_unread, h8.read_unread, View.ld_unit_zero (S := S1056x1024) hz2, View.ld_unit_zero (S := S1024x256) hz2, View.ld_unit_zero (S := S256x1024) hz2]

theorem acc_B (c : Dev nD) (i : grid0.Coords) (a2 : Memref sig .tc .vmem S1056x1024 .f32) (h2 : a2.IsWhole) (a3 : Memref sig .tc .vmem S1056x1024 .bf16) (h3 : a3.IsWhole) (a4 : Memref sig .tc .vmem S1024x256 .bf16) (h4 : a4.IsWhole) (a5 : Memref sig .tc .vmem S1024x256 .bf16) (h5 : a5.IsWhole) (a6 : Memref sig .tc .vmem S256x1024 .bf16) (h6 : a6.IsWhole) (a7 : Memref sig .tc .vmem S1056x1024 .f32) (h7 : a7.IsWhole) (a8 : Memref sig .tc .vmem S1056x1024 .f32) (h8 : a8.IsWhole) (hc : ¬cond0_0 i) (hc' : ¬cond0_1 i)
    (x0 : Vec F S1056x1024 .f32) (x1 : Vec F S1056x1024 .bf16) (x2 x3 : Vec F S1024x256 .bf16) (x4 : Vec F S256x1024 .bf16) (xs : Vec F S1056x1024 .f32) :
    sout0_B_0 c i a2 h2 a3 h3 a4 h4 a5 h5 a6 h6 a7 h7 a8 h8 hc hc' x0 x1 x2 x3 x4 xs = k0_pay2 x1 x2 x3 xs x4 := by
  unfold sout0_B_0
  rw [View.read_writes_eq_canon _ _ _ (scover0_B_0 c i a2 h2 a3 h3 a4 h4 a5 h5 a6 h6 a7 h7 a8 h8 hc hc' x0 x1 x2 x3 x4 xs)]
  unfold kernelRun0_B
  dsimp only
  sl_unfold_words
  rw [View.canon_unit_zero hz2]
  simp only [View.readAt_eq_ld, h2.read_unread, h3.read_unread, h4.read_unread, h5.read_unread, h6.read_unread, h8.read_unread, View.ld_unit_zero (S := S1056x1024) hz2, View.ld_unit_zero (S := S1024x256) hz2, View.ld_unit_zero (S := S256x1024) hz2]

theorem acc_C (c : Dev nD) (i : grid0.Coords) (a2 : Memref sig .tc .vmem S1056x1024 .f32) (h2 : a2.IsWhole) (a3 : Memref sig .tc .vmem S1056x1024 .bf16) (h3 : a3.IsWhole) (a4 : Memref sig .tc .vmem S1024x256 .bf16) (h4 : a4.IsWhole) (a5 : Memref sig .tc .vmem S1024x256 .bf16) (h5 : a5.IsWhole) (a6 : Memref sig .tc .vmem S256x1024 .bf16) (h6 : a6.IsWhole) (a7 : Memref sig .tc .vmem S1056x1024 .f32) (h7 : a7.IsWhole) (a8 : Memref sig .tc .vmem S1056x1024 .f32) (h8 : a8.IsWhole) (hc : ¬cond0_0 i) (hc' : cond0_1 i)
    (x0 : Vec F S1056x1024 .f32) (x1 : Vec F S1056x1024 .bf16) (x2 x3 : Vec F S1024x256 .bf16) (x4 : Vec F S256x1024 .bf16) (xs : Vec F S1056x1024 .f32) :
    sout0_C_0 c i a2 h2 a3 h3 a4 h4 a5 h5 a6 h6 a7 h7 a8 h8 hc hc' x0 x1 x2 x3 x4 xs = k0_pay2 x1 x2 x3 xs x4 := by
  unfold sout0_C_0
  rw [View.read_writes_eq_canon _ _ _ (scover0_C_0 c i a2 h2 a3 h3 a4 h4 a5 h5 a6 h6 a7 h7 a8 h8 hc hc' x0 x1 x2 x3 x4 xs)]
  unfold kernelRun0_C
  dsimp only
  sl_unfold_words
  rw [View.canon_unit_zero hz2]
  simp only [View.readAt_eq_ld, h2.read_unread, h3.read_unread, h4.read_unread, h5.read_unread, h6.read_unread, h8.read_unread, View.ld_unit_zero (S := S1056x1024) hz2, View.ld_unit_zero (S := S1024x256) hz2, View.ld_unit_zero (S := S256x1024) hz2]

theorem out_C (c : Dev nD) (i : grid0.Coords) (a2 : Memref sig .tc .vmem S1056x1024 .f32) (h2 : a2.IsWhole) (a3 : Memref sig .tc .vmem S1056x1024 .bf16) (h3 : a3.IsWhole) (a4 : Memref sig .tc .vmem S1024x256 .bf16) (h4 : a4.IsWhole) (a5 : Memref sig .tc .vmem S1024x256 .bf16) (h5 : a5.IsWhole) (a6 : Memref sig .tc .vmem S256x1024 .bf16) (h6 : a6.IsWhole) (a7 : Memref sig .tc .vmem S1056x1024 .f32) (h7 : a7.IsWhole) (a8 : Memref sig .tc .vmem S1056x1024 .f32) (h8 : a8.IsWhole) (hc : ¬cond0_0 i) (hc' : cond0_1 i)
    (x0 : Vec F S1056x1024 .f32) (x1 : Vec F S1056x1024 .bf16) (x2 x3 : Vec F S1024x256 .bf16) (x4 : Vec F S256x1024 .bf16) (xs : Vec F S1056x1024 .f32) :
    out0_C_5 c i a2 h2 a3 h3 a4 h4 a5 h5 a6 h6 a7 h7 a8 h8 hc hc' x0 x1 x2 x3 x4 xs = k0_pay3 x0 (k0_pay2 x1 x2 x3 xs x4) := by
  unfold out0_C_5
  rw [View.read_writes_eq_canon _ _ _ (cover0_C_5 c i a2 h2 a3 h3 a4 h4 a5 h5 a6 h6 a7 h7 a8 h8 hc hc' x0 x1 x2 x3 x4 xs)]
  unfold kernelRun0_C
  dsimp only
  sl_unfold_words
  rw [View.canon_unit_zero hz2, View.readCov_unit_zero (S := S1056x1024) _ hz2]
  simp only [View.readAt_eq_ld, h2.read_unread, h3.read_unread, h4.read_unread, h5.read_unread, h6.read_unread, h8.read_unread, View.ld_unit_zero (S := S1056x1024) hz2, View.ld_unit_zero (S := S1024x256) hz2, View.ld_unit_zero (S := S256x1024) hz2]

end AnyValues

/-! ## One row, at the extended reals -/

/-- The hidden unit of a row `x`, `g` and `u` the unit's gate and up weights. -/
def hidden (x g u : Fin 1024 → EReal) : EReal :=
  (∑ l, x l * g l) * Ideal.logistic (∑ l, x l * g l) * ∑ l, x l * u l

theorem step_apply (x : Vec Ideal S1056x1024 .bf16) (g u : Vec Ideal S1024x256 .bf16) (a : Vec Ideal S1056x1024 .f32) (w : Vec Ideal S256x1024 .bf16)
    (r : Fin 1056) (l : Fin 1024) : k0_pay2 x g u a w (ix2 r l)
      = a (ix2 r l) + ∑ k, hidden (fun j => x (ix2 r j)) (fun j => g (ix2 j k)) (fun j => u (ix2 j k)) * w (ix2 k l) := by
  pointwise [k0_pay2]
  rfl

theorem zero_apply (r : Fin 1056) (l : Fin 1024) : (k0_pay1 (F := Ideal)) (ix2 r l) = 0 := by
  pointwise [k0_pay1]

theorem last_apply (h a : Vec Ideal S1056x1024 .f32) (r : Fin 1056) (l : Fin 1024) :
    k0_pay3 h a (ix2 r l) = h (ix2 r l) + Ideal.ofBits .f32 0x3F000000#32 * a (ix2 r l) := by
  pointwise [k0_pay3]
  try rfl

variable (m : (ℓ : Loc nD τ sig) → Buf (Elt Ideal) ℓ)

/-- The arguments. -/
abbrev argH (c : Dev nD) : S2112x1024.Idx → EReal := m ((c : Thread nD τ).loc main_arg0)
abbrev argX (c : Dev nD) : S2112x1024.Idx → EReal := m ((c : Thread nD τ).loc main_arg1)
abbrev argG (c : Dev nD) : S1024x2816.Idx → EReal := m ((c : Thread nD τ).loc main_arg2)
abbrev argU (c : Dev nD) : S1024x2816.Idx → EReal := m ((c : Thread nD τ).loc main_arg3)
abbrev argW (c : Dev nD) : S2816x1024.Idx → EReal := m ((c : Thread nD τ).loc main_arg4)

/-- The row of the array that row `r` of point `t`'s block is. -/
def rowOf (t : Fin cfg0.N) (r : Fin 1056) : Fin 2112 :=
  ⟨t.val / 11 * 1056 + r.val, by have := t.isLt; have hN : cfg0.N = 22 := N_0; have := r.isLt; omega⟩

/-- The hidden unit that unit `k` of point `t`'s block is. -/
def unit (t : Fin cfg0.N) (k : Fin 256) : Fin 2816 := ⟨t.val % 11 * 256 + k.val, by have := k.isLt; omega⟩

theorem idx_facts : ∀ t : Fin cfg0.N, (win0_0.index t (0 : Fin 2) = t.val / 11 ∧ win0_0.index t (1 : Fin 2) = 0)
    ∧ (win0_1.index t (0 : Fin 2) = t.val / 11 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = t.val % 11)
    ∧ (win0_4.index t (0 : Fin 2) = t.val % 11 ∧ win0_4.index t (1 : Fin 2) = 0)
    ∧ (win0_5.index t (0 : Fin 2) = t.val / 11 ∧ win0_5.index t (1 : Fin 2) = 0) :=
  (by decide +kernel : ∀ t : Fin grid0.N, _)

theorem h_at (c : Dev nD) (t : Fin cfg0.N) (r : Fin 1056) (l : Fin 1024) :
    (iblk m c 0 t : Vec Ideal S1056x1024 .f32) (ix2 r l) = argH m c (ix2 (rowOf t r) (l)) := by
  obtain ⟨⟨h0, h1⟩, -⟩ := idx_facts t
  have e : V m c main_arg0 = argH m c := V_main_arg0 m c
  rw [← e]
  unfold iblk
  rw [View.read_apply]
  show V m c main_arg0 _ = _
  congr 1
  funext a
  apply Fin.ext
  match a with
  | ⟨0, _⟩ => show win0_0.index t 0 * 1056 + 1 * r.val = t.val / 11 * 1056 + r.val; rw [h0]; omega
  | ⟨1, _⟩ => show win0_0.index t 1 * 1024 + 1 * l.val = l.val; rw [h1]; omega

theorem x_at (c : Dev nD) (t : Fin cfg0.N) (r : Fin 1056) (l : Fin 1024) :
    (iblk m c 1 t : Vec Ideal S1056x1024 .bf16) (ix2 r l) = argX m c (ix2 (rowOf t r) (l)) := by
  obtain ⟨-, ⟨h0, h1⟩, -⟩ := idx_facts t
  have e : (V m c main_v0 : S2112x1024.Idx → EReal) = argX m c := by
    dsimp only [V, hostOps0]
    after_results
    rfl
  rw [← e]
  unfold iblk
  rw [View.read_apply]
  show V m c main_v0 _ = _
  congr 1
  funext a
  apply Fin.ext
  match a with
  | ⟨0, _⟩ => show win0_1.index t 0 * 1056 + 1 * r.val = t.val / 11 * 1056 + r.val; rw [h0]; omega
  | ⟨1, _⟩ => show win0_1.index t 1 * 1024 + 1 * l.val = l.val; rw [h1]; omega

theorem g_at (c : Dev nD) (t : Fin cfg0.N) (r : Fin 1024) (l : Fin 256) :
    (iblk m c 2 t : Vec Ideal S1024x256 .bf16) (ix2 r l) = argG m c (ix2 (r) (unit t l)) := by
  obtain ⟨-, -, ⟨h0, h1⟩, -⟩ := idx_facts t
  have e : (V m c main_v1 : S1024x2816.Idx → EReal) = argG m c := by
    dsimp only [V, hostOps0]
    after_results
    rfl
  rw [← e]
  unfold iblk
  rw [View.read_apply]
  show V m c main_v1 _ = _
  congr 1
  funext a
  apply Fin.ext
  match a with
  | ⟨0, _⟩ => show win0_2.index t 0 * 1024 + 1 * r.val = r.val; rw [h0]; omega
  | ⟨1, _⟩ => show win0_2.index t 1 * 256 + 1 * l.val = t.val % 11 * 256 + l.val; rw [h1]; omega

theorem u_at (c : Dev nD) (t : Fin cfg0.N) (r : Fin 1024) (l : Fin 256) :
    (iblk m c 3 t : Vec Ideal S1024x256 .bf16) (ix2 r l) = argU m c (ix2 (r) (unit t l)) := by
  obtain ⟨-, -, -, ⟨h0, h1⟩, -⟩ := idx_facts t
  have e : (V m c main_v2 : S1024x2816.Idx → EReal) = argU m c := by
    dsimp only [V, hostOps0]
    after_results
    rfl
  rw [← e]
  unfold iblk
  rw [View.read_apply]
  show V m c main_v2 _ = _
  congr 1
  funext a
  apply Fin.ext
  match a with
  | ⟨0, _⟩ => show win0_3.index t 0 * 1024 + 1 * r.val = r.val; rw [h0]; omega
  | ⟨1, _⟩ => show win0_3.index t 1 * 256 + 1 * l.val = t.val % 11 * 256 + l.val; rw [h1]; omega

theorem w_at (c : Dev nD) (t : Fin cfg0.N) (r : Fin 256) (l : Fin 1024) :
    (iblk m c 4 t : Vec Ideal S256x1024 .bf16) (ix2 r l) = argW m c (ix2 (unit t r) (l)) := by
  obtain ⟨-, -, -, -, ⟨h0, h1⟩, -⟩ := idx_facts t
  have e : (V m c main_v3 : S2816x1024.Idx → EReal) = argW m c := by
    dsimp only [V, hostOps0]
    after_results
    rfl
  rw [← e]
  unfold iblk
  rw [View.read_apply]
  show V m c main_v3 _ = _
  congr 1
  funext a
  apply Fin.ext
  match a with
  | ⟨0, _⟩ => show win0_4.index t 0 * 256 + 1 * r.val = t.val % 11 * 256 + r.val; rw [h0]; omega
  | ⟨1, _⟩ => show win0_4.index t 1 * 1024 + 1 * l.val = l.val; rw [h1]; omega

section Result
variable (h x : S2112x1024.Idx → EReal) (g u : S1024x2816.Idx → EReal) (w : S2816x1024.Idx → EReal)

/-- What hidden unit `k` adds to lane `l` of row `r`. -/
def term (r : Fin 2112) (l : Fin 1024) (k : Fin (11 * 256)) : EReal :=
  hidden (fun j => x (ix2 r j)) (fun j => g (ix2 j k)) (fun j => u (ix2 j k)) * w (ix2 k l)

/-- The FFN with its residual. -/
def ffn (i : S2112x1024.Idx) : EReal :=
  h i + Ideal.ofBits .f32 0x3F000000#32 * ∑ k, term x g u w (i 0) (i 1) k

end Result

theorem step_at (c : Dev nD) (t : Fin cfg0.N) (a : Vec Ideal S1056x1024 .f32) (r : Fin 1056) (l : Fin 1024) :
    k0_pay2 (iblk m c 1 t) (iblk m c 2 t) (iblk m c 3 t) a (iblk m c 4 t) (ix2 r l)
      = a (ix2 r l) + Tiles.part 11 256 (term (argX m c) (argG m c) (argU m c) (argW m c) (rowOf t r) l) (t.val % 11) := by
  rw [step_apply, Tiles.part, dif_pos (Nat.mod_lt _ (by decide))]
  simp only [x_at, g_at, u_at, w_at]
  rfl

/-- After point `n` the accumulator holds the sum over the hidden tiles walked so far in this row tile. -/
theorem left_acc (c : Dev nD) (r : Fin 1056) (l : Fin 1024) : ∀ (n : ℕ) (hn : n < cfg0.N),
    (outsAt0 m c n hn).2 (ix2 r l) = ∑ k ∈ Finset.range (n % 11 + 1),
      Tiles.part 11 256 (term (argX m c) (argG m c) (argU m c) (argW m c) (rowOf ⟨n, hn⟩ r) l) k := by
  have first : ∀ (n : ℕ) (hn : n < cfg0.N), n % 11 = 0 → (outsAt0 m c n hn).2 (ix2 r l) = ∑ k ∈ Finset.range (n % 11 + 1),
      Tiles.part 11 256 (term (argX m c) (argG m c) (argU m c) (argW m c) (rowOf ⟨n, hn⟩ r) l) k := fun n hn h0 => by
    have h := outsAt0_A m c ⟨n, hn⟩ h0 (by dsimp only; omega)
    dsimp only at h
    rw [h, acc_A]
    dsimp only
    rw [step_at, zero_apply]
    dsimp only
    rw [h0]
    simp only [zero_add, Finset.sum_range_one]
  intro n
  induction n with
  | zero => exact fun hn => first 0 hn rfl
  | succ n ih =>
    intro hn
    rcases eq_or_ne ((n + 1) % 11) 0 with h0 | h0
    · exact first _ hn h0
    have hs : (outsAt0 m c (n + 1) hn).2
        = k0_pay2 (iblk m c 1 ⟨n + 1, hn⟩) (iblk m c 2 ⟨n + 1, hn⟩) (iblk m c 3 ⟨n + 1, hn⟩) (outsAt0 m c n (by omega)).2 (iblk m c 4 ⟨n + 1, hn⟩) := by
      rcases eq_or_ne ((n + 1) % 11) 10 with h1 | h1
      · have h := outsAt0_C m c ⟨n + 1, hn⟩ h0 h1
        dsimp only at h
        rw [h, acc_C]
        rfl
      · have h := outsAt0_B m c ⟨n + 1, hn⟩ h0 h1
        dsimp only at h
        rw [h, acc_B]
        rfl
    have hm : (n + 1) % 11 = n % 11 + 1 := by omega
    rw [hs, step_at, ih (by omega), show rowOf ⟨n + 1, hn⟩ r = rowOf ⟨n, by omega⟩ r from Fin.ext (by show (n + 1) / 11 * 1056 + _ = n / 11 * 1056 + _; omega)]
    dsimp only
    rw [hm]
    exact (Finset.sum_range_succ _ _).symm

/-- At the last point of a row tile the output block is the result's. -/
theorem left_5 (c : Dev nD) (t : Fin cfg0.N) (h1 : t.val % 11 = 10) (r : Fin 1056) (l : Fin 1024) :
    (outsAt0 m c t.val t.isLt).1 (ix2 r l) = ffn (argH m c) (argX m c) (argG m c) (argU m c) (argW m c) (ix2 (rowOf t r) l) := by
  have h := outsAt0_C m c t (by omega) h1
  have e : (outsAt0 m c t.val t.isLt).1 = k0_pay3 (iblk m c 0 t) (outsAt0 m c t.val t.isLt).2 := by
    rw [h, out_C, acc_C]
  rw [e, last_apply, left_acc, h_at, h1]
  show _ + _ * _ = _ + _ * _
  rw [Tiles.sum_parts]
  rfl

theorem emb_5 (t : Fin cfg0.N) (j : S1056x1024.Idx) : ((cfg0.win 5).blk t).view.emb j = (ix2 (rowOf t (j 0)) (j 1) : S2112x1024.Idx) := by
  obtain ⟨-, -, -, -, -, ⟨h0, h1⟩⟩ := idx_facts t
  funext a
  apply Fin.ext
  match a with
  | ⟨0, _⟩ => show win0_5.index t 0 * 1056 + 1 * (j 0).val = t.val / 11 * 1056 + (j 0).val; rw [h0]; omega
  | ⟨1, _⟩ => show win0_5.index t 1 * 1024 + 1 * (j 1).val = (j 1).val; rw [h1]; omega

theorem flushed_eq_5 (c : Dev nD) (t : Fin cfg0.N) (hf : (cfg0.win 5).flush t = true) :
    (dats m 0 c).flushed 5 t = ((cfg0.win 5).blk t).view.read (Elt Ideal) (ffn (argH m c) (argX m c) (argG m c) (argU m c) (argW m c)) := by
  rw [flushed5]
  refine funext fun (j : S1056x1024.Idx) => ?_
  rw [View.read_apply, emb_5]
  idx_vars j
  exact left_5 m c t ((flush0_5 t).mp hf) j0 j1

theorem final_5 (c : Dev nD) : (dats m 0 c).arrAt 5 cfg0.N = ffn (argH m c) (argX m c) (argG m c) (argU m c) (argW m c) :=
  (dats m 0 c).arrAt_eq_of_cover 5 _ (flushed_eq_5 m c) fun (i : S2112x1024.Idx) =>
    (covered_iff5 i).mpr ⟨Nat.zero_le _, (i 0).isLt, Nat.zero_le _, (i 1).isLt⟩

/-- The run read: the result is the FFN with its residual, the arguments are unchanged. -/
theorem run_ffn (ρ : Dev nD → PrngReg) : θ_run defs (onTc (τ := τ) (main (F := Ideal))) ⟨m, fun _ => 0, ρ⟩ fun r => ∀ c : Dev nD,
      r.2.mem ((c : Thread nD τ).loc main_v4) = ffn (argH m c) (argX m c) (argG m c) (argU m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by rw [← final_5]; exact h c) (run_blocks m ρ)

end Cert.FfnFwdIdeal.Value

/-! ## The reference computes the same formula -/

namespace Cert.FfnFwdRefIdeal.Value

open Cert.FfnFwdRefIdeal Cert.FfnFwdRefIdeal.Gen Cert.FfnFwdRefIdeal.Read
open Cert.FfnFwdIdeal.Value (ffn term hidden)

theorem ref_ffn (h x : (⟨S2112x1024, .f32⟩ : BufTy).Contents (Elt Ideal)) (g u : (⟨S1024x2816, .f32⟩ : BufTy).Contents (Elt Ideal))
    (w : (⟨S2816x1024, .f32⟩ : BufTy).Contents (Elt Ideal)) : val_main_v7 h x g u w = ffn h x g u w := by
  refine funext fun (i : S2112x1024.Idx) => ?_
  idx_vars i
  pointwise [val_main_v7, val_main_v6, val_main_v5, val_main_v4, val_main_v3, val_main_v2, val_main_v1, val_main_v0, val_main_call0_v0, val_main_call0_v1, val_main_call0_v2, val_main_call0_v3, val_main_call0_v4, val_main_call0_v5, val_main_cst, val_main_call0_cst, val_main_call0_cst_0]
  rfl

end Cert.FfnFwdRefIdeal.Value

end
-- ==== Proof.FfnFwdClaims.lean ====
/-
  The five claims of the forward call of the gated FFN.
-/
module

public import proofs.«01_k».proof.Defs
public import proofs.«01_k».proof.Proof.FfnFwdValue
public import proofs.«01_k».proof.Proof.Gen.FfnFwd.Frame
public import proofs.«01_k».proof.Proof.Gen.FfnFwdRefIdeal.Run
public import Idealize.ShloMosaic.Lib.Quiescent

@[expose] public section

noncomputable section

open Idealize.ShloMosaic Idealize.ShloMosaic.TcCoe Idealize.SL.Sem

namespace Cert.Proof

theorem ffnfwd_frame : Cert.quiescent_FfnFwd (hFfnFwd := Cert.FfnFwd.Gen.facts) := fun m ρ _ => Cert.FfnFwd.Gen.frame m ρ

theorem ffnfwd_ideal_frame : Cert.quiescent_FfnFwdIdeal (hFfnFwdIdeal := Cert.FfnFwdIdeal.Gen.facts) := fun m ρ _ => Cert.FfnFwdIdeal.Gen.frame m ρ

theorem ffnfwd_ref_frame : Cert.quiescent_FfnFwdRefIdeal (hFfnFwdRefIdeal := Cert.FfnFwdRefIdeal.Gen.facts) := fun m ρ _ =>
  (θ_run Cert.FfnFwdRefIdeal.defs _ _).mono (fun r h => ⟨fun c => (h c).2, sem_eq_zero_of_no_sems (by decide) r.2⟩)
    (Cert.FfnFwdRefIdeal.Value.run (F := Ideal) m ρ)

theorem ffnfwd_algebraic : Cert.algebraic_FfnFwdIdeal_FfnFwdRefIdeal (hFfnFwdIdeal := Cert.FfnFwdIdeal.Gen.facts)
    (hFfnFwdRefIdeal := Cert.FfnFwdRefIdeal.Gen.facts) := fun m ρ m' ρ' _ hagree =>
  ⟨_, Cert.FfnFwdIdeal.Value.run_ffn m ρ, (θ_run Cert.FfnFwdRefIdeal.defs _ _).mono (fun r h c => by
    obtain ⟨e0, e1, e2, e3, e4⟩ := hagree c
    obtain ⟨h0, hargs⟩ := h c
    refine ⟨h0.trans ?_, hargs⟩
    rw [e0, e1, e2, e3, e4]
    exact Cert.FfnFwdRefIdeal.Value.ref_ffn _ _ _ _ _) (Cert.FfnFwdRefIdeal.Value.run (F := Ideal) m' ρ')⟩

end Cert.Proof

end
-- ==== Proof.Scan.lean ====
/-
  A linear recurrence with a constant factor, and the doubling scan that computes it: a window of the last `w` terms,
  doubled in width by one shifted multiple of itself.
-/
module

public import Mathlib.Algebra.BigOperators.Intervals
public import Mathlib.Analysis.Complex.Basic
public import Mathlib.Tactic.Ring

@[expose] public section

namespace Cert.Scan

open Finset

/-- The terms of the last `w` steps, each carried forward to step `r`. -/
noncomputable def win (A : ℂ) (B : ℕ → ℂ) (w r : ℕ) : ℂ := ∑ i ∈ range w, if i ≤ r then A ^ i * B (r - i) else 0

/-- The recurrence `s ↦ A s + B r` after step `r`, started at `s`. -/
noncomputable def steps (A : ℂ) (B : ℕ → ℂ) (s : ℂ) : ℕ → ℂ
  | 0 => B 0 + A * s
  | r + 1 => A * steps A B s r + B (r + 1)

/-- The recurrence's terms with the carried state folded into the first. -/
noncomputable def primed (A : ℂ) (B : ℕ → ℂ) (s : ℂ) (r : ℕ) : ℂ := B r + if r = 0 then A * s else 0

theorem win_one (A : ℂ) (B : ℕ → ℂ) (r : ℕ) : win A B 1 r = B r := by simp [win]

theorem win_twice (A : ℂ) (B : ℕ → ℂ) (w r : ℕ) : win A B (w + w) r = win A B w r + A ^ w * (if r < w then 0 else win A B w (r - w)) := by
  rw [win, sum_range_add]
  congr 1
  by_cases h : r < w
  · rw [if_pos h, mul_zero]
    exact sum_eq_zero fun i _ => if_neg (by omega)
  · rw [if_neg h, win, mul_sum]
    refine sum_congr rfl fun i _ => ?_
    by_cases hi : i ≤ r - w
    · rw [if_pos hi, if_pos (by omega), pow_add, mul_assoc, show r - (w + i) = r - w - i by omega]
    · rw [if_neg hi, if_neg (by omega), mul_zero]

/-- A window wider than the steps so far holds every term. -/
theorem win_wide (A : ℂ) (B : ℕ → ℂ) (w r : ℕ) (h : r < w) : win A B w r = ∑ i ∈ range (r + 1), A ^ i * B (r - i) := by
  obtain ⟨k, rfl⟩ := Nat.exists_eq_add_of_lt h
  rw [win, show r + k + 1 = r + 1 + k by omega, sum_range_add]
  rw [sum_eq_zero (s := range k) fun i _ => if_neg (by omega), add_zero]
  exact sum_congr rfl fun i hi => if_pos (by have := mem_range.mp hi; omega)

/-- A wide enough window over the terms that hold the carried state is the recurrence. -/
theorem win_steps (A : ℂ) (B : ℕ → ℂ) (s : ℂ) (w : ℕ) : ∀ r, r < w → win A (primed A B s) w r = steps A B s r
  | 0, h => by rw [win_wide _ _ _ _ h]; simp [primed, steps]
  | r + 1, h => by
    rw [win_wide _ _ _ _ h, sum_range_succ', steps, ← win_steps A B s w r (by omega), win_wide _ _ _ _ (by omega : r < w), mul_sum]
    congr 1
    · refine sum_congr rfl fun i hi => ?_
      rw [show r + 1 - (i + 1) = r - i by omega, pow_succ]; ring
    · simp [primed]

/-- The state of the recurrence after `k` inputs, from none. -/
noncomputable def past (A : ℂ) (B : ℕ → ℂ) : ℕ → ℂ
  | 0 => 0
  | k + 1 => A * past A B k + B k

theorem steps_past (A : ℂ) (B : ℕ → ℂ) (n : ℕ) : ∀ r, steps A (fun i => B (n + i)) (past A B n) r = past A B (n + r + 1)
  | 0 => by rw [steps, add_zero, past]; ring
  | r + 1 => by rw [steps, steps_past A B n r, past]; rfl

/-- Inputs with `d` of nothing in front. -/
noncomputable def padded (d : ℕ) (B : ℕ → ℂ) (t : ℕ) : ℂ := if t < d then 0 else B (t - d)

theorem past_padded (A : ℂ) (B : ℕ → ℂ) (d : ℕ) : ∀ t, past A (padded d B) t = past A B (t - d)
  | 0 => by rw [past, Nat.zero_sub, past]
  | t + 1 => by
    rw [past, past_padded A B d t, padded]
    by_cases h : t < d
    · rw [if_pos h, Nat.sub_eq_zero_of_le (by omega), Nat.sub_eq_zero_of_le (by omega), past]; simp
    · rw [if_neg h, Nat.succ_sub (by omega), past]

end Cert.Scan

end
-- ==== Proof.S5FwdTile.lean ====
/-
  One tile of the forward call of the diagonal state-space layer: its doubling scan over the 192 rows, complex numbers held
  as two arrays, is the recurrence.
-/
module

public import proofs.«01_k».proof.Proof.Gen.S5FwdIdeal.Skeleton
public import proofs.«01_k».proof.Proof.Scan
public import Idealize.ShloMosaic.Lib.Pointwise

@[expose] public section

set_option maxRecDepth 16384

noncomputable section

open Idealize.ShloMosaic Idealize.ShloMosaic.TcCoe

namespace Cert.S5FwdIdeal.Value

open Cert.S5FwdIdeal Cert.S5FwdIdeal.Gen Cert.Scan

/-- Two arrays of rows hold the parts of a complex number in each row and lane. -/
structure Rows (x y : FVec Ideal S192x512 .f32) (Z : ℕ → Fin 512 → ℂ) : Prop where
  re : ∀ (r : Fin 192) (n : Fin 512), x (ix2 r n) = ((Z r n).re : EReal)
  im : ∀ (r : Fin 192) (n : Fin 512), y (ix2 r n) = ((Z r n).im : EReal)

/-- Two rows hold the parts of a complex number in each lane. -/
structure Lanes (a b : FVec Ideal S1x512 .f32) (A : Fin 512 → ℂ) : Prop where
  re : ∀ n : Fin 512, a (ix2 0 n) = ((A n).re : EReal)
  im : ∀ n : Fin 512, b (ix2 0 n) = ((A n).im : EReal)

/-- An array shifted down by `s` rows, zeros in front. -/
def Shifted (s : ℕ) (d x : FVec Ideal S192x512 .f32) : Prop :=
  ∀ (r : Fin 192) (n : Fin 512), d (ix2 r n) = if h : r.val < s then (0 : EReal) else x (ix2 ⟨r.val - s, by omega⟩ n)

theorem ofBits_two : Ideal.ofBits .f32 0x40000000#32 = ((2 : ℝ) : EReal) := by
  simp [Ideal.ofBits, Ideal.ieee, -EReal.coe_mul]; norm_num

/-- One level of the scan, each array and its multiple shifted down by `s` rows added. -/
theorem Rows.level {x y dx dy : FVec Ideal S192x512 .f32} {a b : FVec Ideal S1x512 .f32} {Z : ℕ → Fin 512 → ℂ} {A : Fin 512 → ℂ} (s : ℕ)
    (h : Rows x y Z) (ha : Lanes a b A) (hx : Shifted s dx x) (hy : Shifted s dy y) :
    Rows (subf (addf x (mulf (broadcastTo S192x512 a broadcasts_S1x512_S192x512) dx)) (mulf (broadcastTo S192x512 b broadcasts_S1x512_S192x512) dy))
      (addf (addf y (mulf (broadcastTo S192x512 a broadcasts_S1x512_S192x512) dy)) (mulf (broadcastTo S192x512 b broadcasts_S1x512_S192x512) dx))
      fun r n => Z r n + A n * if r < s then 0 else Z (r - s) n := by
  constructor <;> intro r n <;> pointwise <;> (try simp only [ha.re, ha.im, hx r n, hy r n, h.re, h.im]) <;> by_cases hr : r.val < s
  all_goals simp only [hr, dite_true, dite_false, if_true, if_false, h.re, h.im, mul_zero, add_zero, sub_zero, Complex.add_re, Complex.add_im, Complex.mul_re, Complex.mul_im]
  all_goals norm_cast
  all_goals ring

theorem Rows.twice {x y dx dy : FVec Ideal S192x512 .f32} {a b : FVec Ideal S1x512 .f32} {A : Fin 512 → ℂ} {B : Fin 512 → ℕ → ℂ} (w : ℕ)
    (h : Rows x y fun r n => win (A n) (B n) w r) (ha : Lanes a b fun n => A n ^ w) (hx : Shifted w dx x) (hy : Shifted w dy y) :
    Rows (subf (addf x (mulf (broadcastTo S192x512 a broadcasts_S1x512_S192x512) dx)) (mulf (broadcastTo S192x512 b broadcasts_S1x512_S192x512) dy))
      (addf (addf y (mulf (broadcastTo S192x512 a broadcasts_S1x512_S192x512) dy)) (mulf (broadcastTo S192x512 b broadcasts_S1x512_S192x512) dx))
      fun r n => win (A n) (B n) (w + w) r := by
  simpa only [win_twice] using h.level w ha hx hy

/-- The square of the factor in each lane. -/
theorem Lanes.square {a b : FVec Ideal S1x512 .f32} {A : Fin 512 → ℂ} {w : ℕ} (h : Lanes a b fun n => A n ^ w) :
    Lanes (subf (mulf a a) (mulf b b)) (mulf (mulf (broadcast S1x512 (Scalar.ofBits (F := Ideal) .f32 0x40000000#32)) a) b) fun n => A n ^ (w + w) := by
  constructor <;> intro n <;> pointwise <;> simp only [h.re, h.im, ofBits_two, pow_add, Complex.mul_re, Complex.mul_im]
  all_goals norm_cast
  all_goals ring

theorem shift_1 (x : FVec Ideal S192x512 .f32) : Shifted 1 (concatenate S192x512 0 [⟨S1x512, broadcast S1x512 (Scalar.ofBits (F := Ideal) .f32 0x00000000#32)⟩,
    ⟨S191x512, extractStridedSlice S191x512 ![0, 0] x slices_S192x512_o0_0_S191x512⟩] concatenates_S1x512_S191x512_S192x512_d0) x := by
  intro r n; pointwise; try rfl

theorem shift_2 (x : FVec Ideal S192x512 .f32) : Shifted 2 (concatenate S192x512 0 [⟨S2x512, broadcast S2x512 (Scalar.ofBits (F := Ideal) .f32 0x00000000#32)⟩,
    ⟨S190x512, extractStridedSlice S190x512 ![0, 0] x slices_S192x512_o0_0_S190x512⟩] concatenates_S2x512_S190x512_S192x512_d0) x := by
  intro r n; pointwise; try rfl

theorem shift_4 (x : FVec Ideal S192x512 .f32) : Shifted 4 (concatenate S192x512 0 [⟨S4x512, broadcast S4x512 (Scalar.ofBits (F := Ideal) .f32 0x00000000#32)⟩,
    ⟨S188x512, extractStridedSlice S188x512 ![0, 0] x slices_S192x512_o0_0_S188x512⟩] concatenates_S4x512_S188x512_S192x512_d0) x := by
  intro r n; pointwise; try rfl

theorem shift_8 (x : FVec Ideal S192x512 .f32) : Shifted 8 (concatenate S192x512 0 [⟨S8x512, broadcast S8x512 (Scalar.ofBits (F := Ideal) .f32 0x00000000#32)⟩,
    ⟨S184x512, extractStridedSlice S184x512 ![0, 0] x slices_S192x512_o0_0_S184x512⟩] concatenates_S8x512_S184x512_S192x512_d0) x := by
  intro r n; pointwise; try rfl

theorem shift_16 (x : FVec Ideal S192x512 .f32) : Shifted 16 (concatenate S192x512 0 [⟨S16x512, broadcast S16x512 (Scalar.ofBits (F := Ideal) .f32 0x00000000#32)⟩,
    ⟨S176x512, extractStridedSlice S176x512 ![0, 0] x slices_S192x512_o0_0_S176x512⟩] concatenates_S16x512_S176x512_S192x512_d0) x := by
  intro r n; pointwise; try rfl

theorem shift_32 (x : FVec Ideal S192x512 .f32) : Shifted 32 (concatenate S192x512 0 [⟨S32x512, broadcast S32x512 (Scalar.ofBits (F := Ideal) .f32 0x00000000#32)⟩,
    ⟨S160x512, extractStridedSlice S160x512 ![0, 0] x slices_S192x512_o0_0_S160x512⟩] concatenates_S32x512_S160x512_S192x512_d0) x := by
  intro r n; pointwise; try rfl

theorem shift_64 (x : FVec Ideal S192x512 .f32) : Shifted 64 (concatenate S192x512 0 [⟨S64x512, broadcast S64x512 (Scalar.ofBits (F := Ideal) .f32 0x00000000#32)⟩,
    ⟨S128x512, extractStridedSlice S128x512 ![0, 0] x slices_S192x512_o0_0_S128x512⟩] concatenates_S64x512_S128x512_S192x512_d0) x := by
  intro r n; pointwise; try rfl

theorem shift_128 (x : FVec Ideal S192x512 .f32) : Shifted 128 (concatenate S192x512 0 [⟨S128x512, broadcast S128x512 (Scalar.ofBits (F := Ideal) .f32 0x00000000#32)⟩,
    ⟨S64x512, extractStridedSlice S64x512 ![0, 0] x slices_S192x512_o0_0_S64x512⟩] concatenates_S128x512_S64x512_S192x512_d0) x := by
  intro r n; pointwise; try rfl

/-! ## The eight levels -/

section Levels
variable (v72 v75 : FVec Ideal S1x512 .f32) (v118 v125 : FVec Ideal S192x512 .f32)

/-- The front of the first array, which the first level shifts. -/
abbrev head1 : FVec Ideal S191x512 .f32 := extractStridedSlice S191x512 ![0, 0] v118 slices_S192x512_o0_0_S191x512

/-- The arrays after the first two levels and, shifted for the third, their factor to the fourth power. -/
abbrev x4 := k0_pay36 v72 v75 v118 v125 k0_pay26 (head1 v118)
abbrev y4 := k0_pay37 v72 v75 v118 v125 k0_pay26 (head1 v118)
abbrev a4 := k0_pay38 v72 v75
abbrev b4 := k0_pay39 v72 v75
abbrev dx4 := k0_pay40 v72 v75 v118 v125 k0_pay26 (head1 v118)
abbrev dy4 := k0_pay41 v72 v75 v118 v125 k0_pay26 (head1 v118)

/-- The same after the third, the fourth and the fifth level. -/
abbrev x16 := k0_pay49 (x4 v72 v75 v118 v125) (y4 v72 v75 v118 v125) (a4 v72 v75) (b4 v72 v75) (dx4 v72 v75 v118 v125) (dy4 v72 v75 v118 v125) (k0_pay42 v72 v75)
abbrev y16 := k0_pay50 (x4 v72 v75 v118 v125) (y4 v72 v75 v118 v125) (a4 v72 v75) (b4 v72 v75) (dx4 v72 v75 v118 v125) (dy4 v72 v75 v118 v125) (k0_pay42 v72 v75)
abbrev a16 := k0_pay51 (a4 v72 v75) (b4 v72 v75)
abbrev b16 := k0_pay52 (a4 v72 v75) (b4 v72 v75)
abbrev dx16 := k0_pay53 (x4 v72 v75 v118 v125) (y4 v72 v75 v118 v125) (a4 v72 v75) (b4 v72 v75) (dx4 v72 v75 v118 v125) (dy4 v72 v75 v118 v125) (k0_pay42 v72 v75)
abbrev dy16 := k0_pay54 (x4 v72 v75 v118 v125) (y4 v72 v75 v118 v125) (a4 v72 v75) (b4 v72 v75) (dx4 v72 v75 v118 v125) (dy4 v72 v75 v118 v125) (k0_pay42 v72 v75)
abbrev x32 := k0_pay55 (x4 v72 v75 v118 v125) (y4 v72 v75 v118 v125) (a4 v72 v75) (b4 v72 v75) (dx4 v72 v75 v118 v125) (dy4 v72 v75 v118 v125) (k0_pay42 v72 v75)

/-- The same after the sixth and the seventh. -/
abbrev a64 := k0_pay64 (a16 v72 v75) (b16 v72 v75)
abbrev b64 := k0_pay65 (a16 v72 v75) (b16 v72 v75)
abbrev x128 := k0_pay68 (y16 v72 v75 v118 v125) (a16 v72 v75) (b16 v72 v75) (dx16 v72 v75 v118 v125) (dy16 v72 v75 v118 v125) (x32 v72 v75 v118 v125) (k0_pay56 (a4 v72 v75) (b4 v72 v75))
abbrev y128 := k0_pay69 (y16 v72 v75 v118 v125) (a16 v72 v75) (b16 v72 v75) (dx16 v72 v75 v118 v125) (dy16 v72 v75 v118 v125) (x32 v72 v75 v118 v125) (k0_pay56 (a4 v72 v75) (b4 v72 v75))
abbrev a64sq := k0_pay70 (a16 v72 v75) (b16 v72 v75)

variable {v72 v75 v118 v125} {A : Fin 512 → ℂ} {B : Fin 512 → ℕ → ℂ}

theorem level_4 (h : Rows v118 v125 fun r n => B n r) (ha : Lanes v72 v75 A) :
    Rows (x4 v72 v75 v118 v125) (y4 v72 v75 v118 v125) (fun r n => win (A n) (B n) 4 r) ∧ Lanes (a4 v72 v75) (b4 v72 v75) fun n => A n ^ 4 := by
  have h1 : Rows v118 v125 fun r n => win (A n) (B n) 1 r := by simpa only [win_one] using h
  have a1 : Lanes v72 v75 fun n => A n ^ 1 := by simpa only [pow_one] using ha
  have h2 := h1.twice 1 a1 (shift_1 v118) (shift_1 v125)
  have a2 := a1.square
  exact ⟨h2.twice 2 a2 (shift_2 _) (shift_2 _), a2.square⟩

theorem level_16 (h : Rows v118 v125 fun r n => B n r) (ha : Lanes v72 v75 A) :
    Rows (x16 v72 v75 v118 v125) (y16 v72 v75 v118 v125) (fun r n => win (A n) (B n) 16 r) ∧ Lanes (a16 v72 v75) (b16 v72 v75) fun n => A n ^ 16 := by
  obtain ⟨h4, a4⟩ := level_4 h ha
  have h8 := h4.twice 4 a4 (shift_4 _) (shift_4 _)
  have a8 := a4.square
  exact ⟨h8.twice 8 a8 (shift_8 _) (shift_8 _), a8.square⟩

theorem level_64 (h : Rows v118 v125 fun r n => B n r) (ha : Lanes v72 v75 A) :
    Rows (x128 v72 v75 v118 v125) (y128 v72 v75 v118 v125) (fun r n => win (A n) (B n) 128 r) ∧ Lanes (a64 v72 v75) (b64 v72 v75) fun n => A n ^ 64 := by
  obtain ⟨h16, a16⟩ := level_16 h ha
  have h32 := h16.twice 16 a16 (shift_16 _) (shift_16 _)
  have a32 := a16.square
  have h64 := h32.twice 32 a32 (shift_32 _) (shift_32 _)
  have a64 := a32.square
  exact ⟨h64.twice 64 a64 (shift_64 _) (shift_64 _), a64⟩

end Levels

end Cert.S5FwdIdeal.Value

end
-- ==== Proof.S5Math.lean ====
/-
  The parameters of one lane of the diagonal state-space layer as real and complex numbers, and the few facts about real
  numbers among the extended ones that reading them off a program takes.
-/
module

public import proofs.«01_k».proof.Proof.Scan
public import Idealize.ShloMosaic.Lib.Pointwise

@[expose] public section

noncomputable section

open Idealize.ShloMosaic

namespace Cert.S5

/-- The bound from above on the real part of a pole, -1e-4 as a single-precision number. -/
def cut : ℝ := -13743895 / 2 ^ 37

theorem cut_neg : cut < 0 := by norm_num [cut]

theorem ofBits_cut : Ideal.ofBits .f32 0xB8D1B717#32 = (cut : EReal) := by
  simp [Ideal.ofBits, Ideal.ieee, cut, -EReal.coe_mul]; norm_num

/-- The factor of one step of the recurrence: the exponential of the step width times the pole. -/
def decay (ar ai l : ℝ) : ℂ :=
  ⟨Real.exp (Real.exp l * min ar cut) * Real.cos (Real.exp l * ai), Real.exp (Real.exp l * min ar cut) * Real.sin (Real.exp l * ai)⟩

/-- The factor of an input: the step's factor less one over the pole. -/
def gain (ar ai l : ℝ) : ℂ :=
  ⟨(((decay ar ai l).re - 1) * min ar cut + (decay ar ai l).im * ai) / (min ar cut * min ar cut + ai * ai),
   ((decay ar ai l).im * min ar cut - ((decay ar ai l).re - 1) * ai) / (min ar cut * min ar cut + ai * ai)⟩

theorem den_ne (ar ai : ℝ) : min ar cut * min ar cut + ai * ai ≠ 0 := by
  have : min ar cut < 0 := lt_of_le_of_lt (min_le_right _ _) cut_neg
  have := mul_pos_of_neg_of_neg this this
  have := mul_self_nonneg ai
  positivity

theorem div_coe (x y : ℝ) (h : y ≠ 0) : Ideal.div (x : EReal) (y : EReal) = ((x / y : ℝ) : EReal) := by
  have hy : (y : EReal) ≠ 0 := by exact_mod_cast h
  unfold Ideal.div
  rw [if_neg hy, div_eq_mul_inv, EReal.coe_mul, EReal.coe_inv]

theorem min_coe (x y : ℝ) : min (x : EReal) (y : EReal) = ((min x y : ℝ) : EReal) := (EReal.coe_strictMono.monotone.map_min).symm

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem exp_coe (x : ℝ) : Ideal.exp (x : EReal) = ((Real.exp x : ℝ) : EReal) := rfl
theorem cos_coe (x : ℝ) : Ideal.cos (x : EReal) = ((Real.cos x : ℝ) : EReal) := rfl
theorem sin_coe (x : ℝ) : Ideal.sin (x : EReal) = ((Real.sin x : ℝ) : EReal) := rfl

theorem coe_ite (p : Prop) [Decidable p] (x : ℝ) : (if p then (x : EReal) else 0) = ((if p then x else 0 : ℝ) : EReal) := by
  split_ifs <;> simp

end Cert.S5

end
-- ==== Proof.S5FwdParam.lean ====
/-
  The parameters that a tile of the forward call of the diagonal state-space layer computes, and what it takes into its scan.
-/
module

public import proofs.«01_k».proof.Proof.S5FwdTile
public import proofs.«01_k».proof.Proof.S5Math

@[expose] public section

set_option maxRecDepth 16384

noncomputable section

open Idealize.ShloMosaic Idealize.ShloMosaic.TcCoe

namespace Cert.S5FwdIdeal.Value

open Cert.S5FwdIdeal Cert.S5FwdIdeal.Gen Cert.Scan Cert.S5

/-- The number of each lane, as the tile counts them. -/
abbrev lanes : IVec S8x512 32 := iota .tc S8x512 32 [1] iota_S8x512_d1_w32

/-- The group of a lane among the eight of a tile. -/
def grp (n : Fin 512) : Fin 8 := ⟨n / 64, by omega⟩

theorem expand_bits : ∀ (n : Fin 512) (x : Fin 8),
    BitVec.setWidth 32 (IntOp.cmpi CmpIPredicate.eq
      (Scalar.select
        (IntOp.andi
          (IntOp.cmpi CmpIPredicate.ne
            (IntOp.subi (BitVec.setWidth 32 (IntOp.cmpi CmpIPredicate.sgt (BitVec.ofNat 32 n) 0#32))
              (BitVec.setWidth 32 (IntOp.cmpi CmpIPredicate.slt (BitVec.ofNat 32 n) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n) 64#32) 0#32))
        (IntOp.subi (IntOp.divsi ArithUnit.vector (BitVec.ofNat 32 n) 64#32) 1#32)
        (IntOp.divsi ArithUnit.vector (BitVec.ofNat 32 n) 64#32))
      (BitVec.ofNat 32 x)) = if x = grp n then 1#32 else 0#32 := by decide +kernel

theorem float_bit (p : Prop) [Decidable p] : (FloatOps.sitofp FTy.f32 (if p then 1#32 else 0#32) : Ideal .f32) = ((if p then 1 else 0 : ℝ) : EReal) := by
  split_ifs
  · show (((1#32 : BitVec 32).toInt : ℝ) : EReal) = _
    norm_num
  · show (((0#32 : BitVec 32).toInt : ℝ) : EReal) = _
    norm_num

theorem width_at (v8 : FVec Ideal S1x8 .f32) (ld : Fin 8 → ℝ) (h : ∀ g, v8 (ix2 0 g) = (ld g : EReal)) (n : Fin 512) :
    k0_pay14 v8 lanes 64#32 (ix2 0 n) = ((Real.exp (ld (grp n)) : ℝ) : EReal) := by
  pointwise [k0_pay14]
  simp only [expand_bits, float_bit, h, ← EReal.coe_sub, ← EReal.coe_mul, coe_sum, ← EReal.coe_add, exp_coe]
  simp

section Params
variable {v4 v6 : FVec Ideal S1x512 .f32} {v8 : FVec Ideal S1x8 .f32} {ar ai : Fin 512 → ℝ} {ld : Fin 8 → ℝ}

abbrev ab_re (v4 v6 : FVec Ideal S1x512 .f32) (v8 : FVec Ideal S1x8 .f32) := k0_pay17 v4 v6 v8 lanes 64#32
abbrev ab_im (v4 v6 : FVec Ideal S1x512 .f32) (v8 : FVec Ideal S1x8 .f32) := k0_pay19 (k0_pay16 v4 v8 lanes 64#32) (k0_pay18 v6 v8 lanes 64#32)
abbrev f_re (v4 v6 : FVec Ideal S1x512 .f32) (v8 : FVec Ideal S1x8 .f32) :=
  k0_pay21 v6 (k0_pay15 v4) (k0_pay16 v4 v8 lanes 64#32) (k0_pay17 v4 v6 v8 lanes 64#32) (k0_pay18 v6 v8 lanes 64#32)
abbrev f_im (v4 v6 : FVec Ideal S1x512 .f32) (v8 : FVec Ideal S1x8 .f32) :=
  k0_pay22 v6 (k0_pay15 v4) (k0_pay16 v4 v8 lanes 64#32) (k0_pay17 v4 v6 v8 lanes 64#32) (k0_pay18 v6 v8 lanes 64#32)

theorem decay_lanes (h4 : ∀ n : Fin 512, v4 (ix2 0 n) = (ar n : EReal)) (h6 : ∀ n : Fin 512, v6 (ix2 0 n) = (ai n : EReal)) (h8 : ∀ g, v8 (ix2 0 g) = (ld g : EReal)) :
    Lanes (ab_re v4 v6 v8) (ab_im v4 v6 v8) fun n => decay (ar n) (ai n) (ld (grp n)) := by
  constructor <;> intro n <;> pointwise [k0_pay15, k0_pay16, k0_pay17, k0_pay18, k0_pay19] <;>
    simp only [width_at v8 ld h8, h4, h6, ofBits_cut, min_coe, ← EReal.coe_mul, exp_coe, cos_coe, sin_coe] <;> rfl

theorem gain_lanes (h4 : ∀ n : Fin 512, v4 (ix2 0 n) = (ar n : EReal)) (h6 : ∀ n : Fin 512, v6 (ix2 0 n) = (ai n : EReal)) (h8 : ∀ g, v8 (ix2 0 g) = (ld g : EReal)) :
    Lanes (f_re v4 v6 v8) (f_im v4 v6 v8) fun n => gain (ar n) (ai n) (ld (grp n)) := by
  have hd := decay_lanes h4 h6 h8
  have h15 (n : Fin 512) : k0_pay15 v4 (ix2 0 n) = ((min (ar n) cut : ℝ) : EReal) := by
    pointwise [k0_pay15]; rw [h4, ofBits_cut, min_coe]
  have h20 (n : Fin 512) : k0_pay20 v6 (k0_pay15 v4) (ix2 0 n) = ((min (ar n) cut * min (ar n) cut + ai n * ai n : ℝ) : EReal) := by
    pointwise [k0_pay20]; rw [h15, h6]; rfl
  constructor <;> intro n
  · show Ideal.div ((ab_re v4 v6 v8 (ix2 0 n) - Ideal.ofBits .f32 0x3F800000#32) * k0_pay15 v4 (ix2 0 n) + ab_im v4 v6 v8 (ix2 0 n) * v6 (ix2 0 n))
      (k0_pay20 v6 (k0_pay15 v4) (ix2 0 n)) = _
    rw [hd.re, hd.im, h15, h20, h6, show Ideal.ofBits .f32 0x3F800000#32 = ((1 : ℝ) : EReal) from by simp, ← EReal.coe_sub, ← EReal.coe_mul, ← EReal.coe_mul, ← EReal.coe_add, div_coe _ _ (den_ne _ _)]
    rfl
  · show Ideal.div (ab_im v4 v6 v8 (ix2 0 n) * k0_pay15 v4 (ix2 0 n) - (ab_re v4 v6 v8 (ix2 0 n) - Ideal.ofBits .f32 0x3F800000#32) * v6 (ix2 0 n))
      (k0_pay20 v6 (k0_pay15 v4) (ix2 0 n)) = _
    rw [hd.re, hd.im, h15, h20, h6, show Ideal.ofBits .f32 0x3F800000#32 = ((1 : ℝ) : EReal) from by simp, ← EReal.coe_sub, ← EReal.coe_mul, ← EReal.coe_mul, ← EReal.coe_sub, div_coe _ _ (den_ne _ _)]
    rfl

end Params

theorem first_row : ∀ r : Fin 192, BitVec.setWidth 32 (IntOp.cmpi CmpIPredicate.eq (BitVec.ofNat 32 r) 0#32) = if r.val = 0 then 1#32 else 0#32 := by decide +kernel

theorem first_at (r : Fin 192) : k0_pay23 (F := Ideal) (ix2 r 0) = ((if r.val = 0 then 1 else 0 : ℝ) : EReal) := by
  pointwise [k0_pay23]
  rw [first_row, float_bit]

section Inputs
variable {v4 v6 : FVec Ideal S1x512 .f32} {v8 : FVec Ideal S1x8 .f32} {ar ai : Fin 512 → ℝ} {ld : Fin 8 → ℝ}
variable {v10 v12 : FVec Ideal S128x512 .f32} {v20 : FVec Ideal S192x128 .f32} {v21 v22 : FVec Ideal S1x512 .f32}
variable {br bi : Fin 128 → Fin 512 → ℝ} {u : ℕ → Fin 128 → ℝ} {s : Fin 512 → ℂ}

theorem in_rows (h4 : ∀ n : Fin 512, v4 (ix2 0 n) = (ar n : EReal)) (h6 : ∀ n : Fin 512, v6 (ix2 0 n) = (ai n : EReal)) (h8 : ∀ g, v8 (ix2 0 g) = (ld g : EReal))
    (h10 : ∀ (k : Fin 128) (n : Fin 512), v10 (ix2 k n) = (br k n : EReal)) (h12 : ∀ (k : Fin 128) (n : Fin 512), v12 (ix2 k n) = (bi k n : EReal))
    (h20 : ∀ (r : Fin 192) (k : Fin 128), v20 (ix2 r k) = (u r k : EReal)) (hs : Lanes v21 v22 s) :
    Rows (k0_pay24 v6 v10 v12 v20 v21 v22 (k0_pay15 v4) (k0_pay16 v4 v8 lanes 64#32) (k0_pay17 v4 v6 v8 lanes 64#32) (k0_pay18 v6 v8 lanes 64#32))
      (k0_pay25 v6 v10 v12 v20 v21 v22 (k0_pay15 v4) (k0_pay16 v4 v8 lanes 64#32) (k0_pay17 v4 v6 v8 lanes 64#32) (k0_pay18 v6 v8 lanes 64#32))
      fun r n => primed (decay (ar n) (ai n) (ld (grp n))) (fun t => ∑ k, (u t k : ℂ) * (gain (ar n) (ai n) (ld (grp n)) * ⟨br k n, bi k n⟩)) (s n) r := by
  obtain ⟨hre, him⟩ : Lanes (k0_pay17 v4 v6 v8 lanes 64#32) (k0_pay19 (k0_pay16 v4 v8 lanes 64#32) (k0_pay18 v6 v8 lanes 64#32)) _ := decay_lanes h4 h6 h8
  obtain ⟨gre, gim⟩ : Lanes (k0_pay21 v6 (k0_pay15 v4) (k0_pay16 v4 v8 lanes 64#32) (k0_pay17 v4 v6 v8 lanes 64#32) (k0_pay18 v6 v8 lanes 64#32))
    (k0_pay22 v6 (k0_pay15 v4) (k0_pay16 v4 v8 lanes 64#32) (k0_pay17 v4 v6 v8 lanes 64#32) (k0_pay18 v6 v8 lanes 64#32)) _ := gain_lanes h4 h6 h8
  constructor <;> intro r n
  · pointwise [k0_pay24]
    rw [first_at, hs.re, hs.im, hre, him]
    simp only [gre n, gim n, h10, h12, h20, ← EReal.coe_sub, ← EReal.coe_mul, coe_sum, ← EReal.coe_add]
    by_cases h0 : r.val = 0
    · rw [primed, if_pos h0, if_pos h0]
      simp only [Complex.add_re, Complex.re_sum, Complex.mul_re, Complex.mul_im, Complex.ofReal_re, Complex.ofReal_im, Complex.zero_re, zero_mul, one_mul, sub_zero, add_zero]
    · rw [primed, if_neg h0, if_neg h0]
      simp only [Complex.add_re, Complex.re_sum, Complex.mul_re, Complex.mul_im, Complex.ofReal_re, Complex.ofReal_im, Complex.zero_re, zero_mul, one_mul, sub_zero, add_zero]
  · pointwise [k0_pay25]
    rw [first_at, hs.re, hs.im, hre, him]
    simp only [gre n, gim n, h10, h12, h20, ← EReal.coe_sub, ← EReal.coe_mul, coe_sum, ← EReal.coe_add]
    by_cases h0 : r.val = 0
    · rw [primed, if_pos h0, if_pos h0]
      simp only [Complex.add_im, Complex.im_sum, Complex.mul_re, Complex.mul_im, Complex.ofReal_re, Complex.ofReal_im, Complex.zero_im, zero_mul, one_mul, sub_zero, add_zero]
    · rw [primed, if_neg h0, if_neg h0]
      simp only [Complex.add_im, Complex.im_sum, Complex.mul_re, Complex.mul_im, Complex.ofReal_re, Complex.ofReal_im, Complex.zero_im, zero_mul, one_mul, sub_zero, add_zero]

abbrev in_re (v4 v6 : FVec Ideal S1x512 .f32) (v8 : FVec Ideal S1x8 .f32) (v10 v12 : FVec Ideal S128x512 .f32) (v20 : FVec Ideal S192x128 .f32) (v21 v22 : FVec Ideal S1x512 .f32) :=
  k0_pay24 v6 v10 v12 v20 v21 v22 (k0_pay15 v4) (k0_pay16 v4 v8 lanes 64#32) (k0_pay17 v4 v6 v8 lanes 64#32) (k0_pay18 v6 v8 lanes 64#32)
abbrev in_im (v4 v6 : FVec Ideal S1x512 .f32) (v8 : FVec Ideal S1x8 .f32) (v10 v12 : FVec Ideal S128x512 .f32) (v20 : FVec Ideal S192x128 .f32) (v21 v22 : FVec Ideal S1x512 .f32) :=
  k0_pay25 v6 v10 v12 v20 v21 v22 (k0_pay15 v4) (k0_pay16 v4 v8 lanes 64#32) (k0_pay17 v4 v6 v8 lanes 64#32) (k0_pay18 v6 v8 lanes 64#32)

/-- The states of a tile, row by row. -/
abbrev st_re (v4 v6 : FVec Ideal S1x512 .f32) (v8 : FVec Ideal S1x8 .f32) (v10 v12 : FVec Ideal S128x512 .f32) (v20 : FVec Ideal S192x128 .f32) (v21 v22 : FVec Ideal S1x512 .f32) :=
  let a := ab_re v4 v6 v8
  let b := ab_im v4 v6 v8
  let x := in_re v4 v6 v8 v10 v12 v20 v21 v22
  let y := in_im v4 v6 v8 v10 v12 v20 v21 v22
  k0_pay75 (a64 a b) (b64 a b) (x128 a b x y) (y128 a b x y) (a64sq a b)
abbrev st_im (v4 v6 : FVec Ideal S1x512 .f32) (v8 : FVec Ideal S1x8 .f32) (v10 v12 : FVec Ideal S128x512 .f32) (v20 : FVec Ideal S192x128 .f32) (v21 v22 : FVec Ideal S1x512 .f32) :=
  let a := ab_re v4 v6 v8
  let b := ab_im v4 v6 v8
  let x := in_re v4 v6 v8 v10 v12 v20 v21 v22
  let y := in_im v4 v6 v8 v10 v12 v20 v21 v22
  k0_pay76 (a64 a b) (b64 a b) (x128 a b x y) (y128 a b x y) (a64sq a b)

theorem tile_rows (h4 : ∀ n : Fin 512, v4 (ix2 0 n) = (ar n : EReal)) (h6 : ∀ n : Fin 512, v6 (ix2 0 n) = (ai n : EReal)) (h8 : ∀ g, v8 (ix2 0 g) = (ld g : EReal))
    (h10 : ∀ (k : Fin 128) (n : Fin 512), v10 (ix2 k n) = (br k n : EReal)) (h12 : ∀ (k : Fin 128) (n : Fin 512), v12 (ix2 k n) = (bi k n : EReal))
    (h20 : ∀ (r : Fin 192) (k : Fin 128), v20 (ix2 r k) = (u r k : EReal)) (hs : Lanes v21 v22 s) :
    Rows (st_re v4 v6 v8 v10 v12 v20 v21 v22) (st_im v4 v6 v8 v10 v12 v20 v21 v22)
      fun r n => steps (decay (ar n) (ai n) (ld (grp n))) (fun t => ∑ k, (u t k : ℂ) * (gain (ar n) (ai n) (ld (grp n)) * ⟨br k n, bi k n⟩)) (s n) r := by
  obtain ⟨hx, ha⟩ := level_64 (in_rows h4 h6 h8 h10 h12 h20 hs) (decay_lanes h4 h6 h8)
  have a128 := ha.square
  have h := hx.twice 128 a128 (shift_128 _) (shift_128 _)
  constructor <;> intro r n
  · exact (h.re r n).trans (by rw [win_steps _ _ _ _ _ (by omega)])
  · exact (h.im r n).trans (by rw [win_steps _ _ _ _ _ (by omega)])

end Inputs

section Last
variable (a b q : FVec Ideal S1x512 .f32) (x y : FVec Ideal S192x512 .f32) (c d : FVec Ideal S512x128 .f32) (w : FVec Ideal S1x128 .f32) (u : FVec Ideal S192x128 .f32)

theorem last_re (n : Fin 512) : k0_pay1 (k0_pay78 a b x y q) (ix2 0 n) = k0_pay75 a b x y q (ix2 ⟨191, by omega⟩ n) := by
  pointwise [k0_pay1, k0_pay78]
theorem last_im (n : Fin 512) : k0_pay2 (k0_pay79 a b x y q) (ix2 0 n) = k0_pay76 a b x y q (ix2 ⟨191, by omega⟩ n) := by
  pointwise [k0_pay2, k0_pay79]
theorem y_at (r : Fin 192) (j : Fin 128) : k0_pay77 c d w u a b x y q (ix2 r j) =
    ∑ k : Fin 512, k0_pay75 a b x y q (ix2 r k) * c (ix2 k j) - ∑ k : Fin 512, k0_pay76 a b x y q (ix2 r k) * d (ix2 k j) + w (ix2 0 j) * u (ix2 r j) := by
  pointwise [k0_pay77]
theorem zero_re (n : Fin 512) : k0_pay3 (F := Ideal) (ix2 0 n) = 0 := by pointwise [k0_pay3]
theorem zero_im (n : Fin 512) : k0_pay4 (F := Ideal) (ix2 0 n) = 0 := by pointwise [k0_pay4]
theorem saved_re (v : FVec Ideal S1x512 .f32) (n : Fin 512) : k0_pay80 v (ix4 0 0 0 n) = v (ix2 0 n) := by pointwise [k0_pay80]
theorem saved_im (v : FVec Ideal S1x512 .f32) (n : Fin 512) : k0_pay81 v (ix4 0 0 0 n) = v (ix2 0 n) := by pointwise [k0_pay81]
theorem cast_5 (v : FVec Ideal S1x1x512 .f32) (n : Fin 512) : k0_pay5 v (ix2 0 n) = v (ix3 0 0 n) := by pointwise [k0_pay5]
theorem cast_6 (v : FVec Ideal S1x1x512 .f32) (n : Fin 512) : k0_pay6 v (ix2 0 n) = v (ix3 0 0 n) := by pointwise [k0_pay6]
theorem cast_7 (v : FVec Ideal S1x1x8 .f32) (n : Fin 8) : k0_pay7 v (ix2 0 n) = v (ix3 0 0 n) := by pointwise [k0_pay7]
theorem cast_8 (v : FVec Ideal S1x128x512 .f32) (k : Fin 128) (n : Fin 512) : k0_pay8 v (ix2 k n) = v (ix3 0 k n) := by pointwise [k0_pay8]
theorem cast_9 (v : FVec Ideal S1x128x512 .f32) (k : Fin 128) (n : Fin 512) : k0_pay9 v (ix2 k n) = v (ix3 0 k n) := by pointwise [k0_pay9]
theorem cast_10 (v : FVec Ideal S1x512x128 .f32) (k : Fin 512) (n : Fin 128) : k0_pay10 v (ix2 k n) = v (ix3 0 k n) := by pointwise [k0_pay10]
theorem cast_11 (v : FVec Ideal S1x512x128 .f32) (k : Fin 512) (n : Fin 128) : k0_pay11 v (ix2 k n) = v (ix3 0 k n) := by pointwise [k0_pay11]
theorem cast_12 (v : FVec Ideal S1x1x128 .f32) (n : Fin 128) : k0_pay12 v (ix2 0 n) = v (ix3 0 0 n) := by pointwise [k0_pay12]
theorem cast_13 (v : FVec Ideal S192x128 .f32) (k : Fin 192) (n : Fin 128) : k0_pay13 v (ix2 k n) = v (ix2 k n) := by pointwise [k0_pay13]

end Last

end Cert.S5FwdIdeal.Value

end
-- ==== Proof.S5FwdBlocks.lean ====
/-
  The values of the forward call of the diagonal state-space layer: what each tile leaves in its blocks and carries on.
-/
module

public import proofs.«01_k».proof.Proof.Gen.S5FwdIdeal.Value
public import proofs.«01_k».proof.Proof.S5FwdParam
public import proofs.«01_k».proof.Proof.RmsValue

@[expose] public section

set_option maxRecDepth 16384

noncomputable section

open Idealize.ShloMosaic Idealize.ShloMosaic.TcCoe Idealize.ShloMosaic.Tactic

namespace Cert.S5FwdIdeal.Value

open Cert.S5FwdIdeal Cert.S5FwdIdeal.Gen Cert.Scan Cert.S5
open Cert.RmsIdeal.Value (hz2 hz3)

theorem hz4 : (![0, 0, 0, 0] : Fin 4 → Nat) = fun _ => 0 := by decide

section Blocks
variable (c : Dev nD) (i : grid0.Coords) (a2 : Memref sig .tc .vmem S192x128 .f32) (h2 : a2.IsWhole) (a3 : Memref sig .tc .vmem S1x1x512 .f32) (h3 : a3.IsWhole) (a4 : Memref sig .tc .vmem S1x1x512 .f32) (h4 : a4.IsWhole) (a5 : Memref sig .tc .vmem S1x1x8 .f32) (h5 : a5.IsWhole) (a6 : Memref sig .tc .vmem S1x128x512 .f32) (h6 : a6.IsWhole) (a7 : Memref sig .tc .vmem S1x128x512 .f32) (h7 : a7.IsWhole) (a8 : Memref sig .tc .vmem S1x512x128 .f32) (h8 : a8.IsWhole) (a9 : Memref sig .tc .vmem S1x512x128 .f32) (h9 : a9.IsWhole) (a10 : Memref sig .tc .vmem S1x1x128 .f32) (h10 : a10.IsWhole) (a11 : Memref sig .tc .vmem S192x128 .f32) (h11 : a11.IsWhole) (a12 : Memref sig .tc .vmem S1x1x1x512 .f32) (h12 : a12.IsWhole) (a13 : Memref sig .tc .vmem S1x1x1x512 .f32) (h13 : a13.IsWhole) (a14 : Memref sig .tc .vmem S1x512 .f32) (h14 : a14.IsWhole) (a15 : Memref sig .tc .vmem S1x512 .f32) (h15 : a15.IsWhole)
  (x0 : Vec Ideal S192x128 .f32) (x1 x2 : Vec Ideal S1x1x512 .f32) (x3 : Vec Ideal S1x1x8 .f32) (x4 x5 : Vec Ideal S1x128x512 .f32) (x6 x7 : Vec Ideal S1x512x128 .f32) (x8 : Vec Ideal S1x1x128 .f32) (s0 s1 : Vec Ideal S1x512 .f32)

/-- The states of a tile from its blocks and the state carried in. -/
abbrev t_re := st_re (k0_pay5 x1) (k0_pay6 x2) (k0_pay7 x3) (k0_pay8 x4) (k0_pay9 x5) (k0_pay13 x0) s0 s1
abbrev t_im := st_im (k0_pay5 x1) (k0_pay6 x2) (k0_pay7 x3) (k0_pay8 x4) (k0_pay9 x5) (k0_pay13 x0) s0 s1
/-- The last of them, carried on. -/
def c_re : FVec Ideal S1x512 .f32 := k0_pay1 (extractStridedSlice S1x512 ![191, 0] (t_re x0 x1 x2 x3 x4 x5 s0 s1) slices_S192x512_o191_0_S1x512)
def c_im : FVec Ideal S1x512 .f32 := k0_pay2 (extractStridedSlice S1x512 ![191, 0] (t_im x0 x1 x2 x3 x4 x5 s0 s1) slices_S192x512_o191_0_S1x512)
/-- The tile's result. -/
def t_y : FVec Ideal S192x128 .f32 :=
  let a := ab_re (k0_pay5 x1) (k0_pay6 x2) (k0_pay7 x3)
  let b := ab_im (k0_pay5 x1) (k0_pay6 x2) (k0_pay7 x3)
  let x := in_re (k0_pay5 x1) (k0_pay6 x2) (k0_pay7 x3) (k0_pay8 x4) (k0_pay9 x5) (k0_pay13 x0) s0 s1
  let y := in_im (k0_pay5 x1) (k0_pay6 x2) (k0_pay7 x3) (k0_pay8 x4) (k0_pay9 x5) (k0_pay13 x0) s0 s1
  k0_pay77 (k0_pay10 x6) (k0_pay11 x7) (k0_pay12 x8) (k0_pay13 x0) (a64 a b) (b64 a b) (x128 a b x y) (y128 a b x y) (a64sq a b)

theorem sout_B_0 (hc : ¬cond0_0 i) : sout0_B_0 c i a2 h2 a3 h3 a4 h4 a5 h5 a6 h6 a7 h7 a8 h8 a9 h9 a10 h10 a11 h11 a12 h12 a13 h13 a14 h14 a15 h15 hc x0 x1 x2 x3 x4 x5 x6 x7 x8 s0 s1 = c_re x0 x1 x2 x3 x4 x5 s0 s1 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 hc x0 x1 x2 x3 x4 x5 x6 x7 x8 s0 s1)]
  unfold kernelRun0_B
  dsimp only
  sl_unfold_words
  rw [View.canon_unit_zero (S := S1x512) hz2]
  simp only [View.readAt_eq_ld, h2.read_unread, h3.read_unread, h4.read_unread, h5.read_unread, h6.read_unread, h7.read_unread, h8.read_unread, h9.read_unread, h10.read_unread, h14.read_unread, h15.read_unread, View.ld_unit_zero (S := S192x128) hz2, View.ld_unit_zero (S := S1x512) hz2, View.ld_unit_zero (S := S1x1x512) hz3, View.ld_unit_zero (S := S1x1x8) hz3, View.ld_unit_zero (S := S1x128x512) hz3, View.ld_unit_zero (S := S1x512x128) hz3, View.ld_unit_zero (S := S1x1x128) hz3]
  rfl

theorem sout_B_1 (hc : ¬cond0_0 i) : sout0_B_1 c i a2 h2 a3 h3 a4 h4 a5 h5 a6 h6 a7 h7 a8 h8 a9 h9 a10 h10 a11 h11 a12 h12 a13 h13 a14 h14 a15 h15 hc x0 x1 x2 x3 x4 x5 x6 x7 x8 s0 s1 = c_im x0 x1 x2 x3 x4 x5 s0 s1 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 a15 h15 hc x0 x1 x2 x3 x4 x5 x6 x7 x8 s0 s1)]
  unfold kernelRun0_B
  dsimp only
  sl_unfold_words
  rw [View.canon_unit_zero (S := S1x512) hz2]
  simp only [View.readAt_eq_ld, h2.read_unread, h3.read_unread, h4.read_unread, h5.read_unread, h6.read_unread, h7.read_unread, h8.read_unread, h9.read_unread, h10.read_unread, h14.read_unread, h15.read_unread, View.ld_unit_zero (S := S192x128) hz2, View.ld_unit_zero (S := S1x512) hz2, View.ld_unit_zero (S := S1x1x512) hz3, View.ld_unit_zero (S := S1x1x8) hz3, View.ld_unit_zero (S := S1x128x512) hz3, View.ld_unit_zero (S := S1x512x128) hz3, View.ld_unit_zero (S := S1x1x128) hz3]
  rfl

theorem out_B_9 (hc : ¬cond0_0 i) : out0_B_9 c i a2 h2 a3 h3 a4 h4 a5 h5 a6 h6 a7 h7 a8 h8 a9 h9 a10 h10 a11 h11 a12 h12 a13 h13 a14 h14 a15 h15 hc x0 x1 x2 x3 x4 x5 x6 x7 x8 s0 s1 = t_y x0 x1 x2 x3 x4 x5 x6 x7 x8 s0 s1 := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 a15 h15 hc x0 x1 x2 x3 x4 x5 x6 x7 x8 s0 s1)]
  unfold kernelRun0_B
  dsimp only
  sl_unfold_words
  rw [View.canon_unit_zero (S := S192x128) hz2]
  simp only [View.readAt_eq_ld, h2.read_unread, h3.read_unread, h4.read_unread, h5.read_unread, h6.read_unread, h7.read_unread, h8.read_unread, h9.read_unread, h10.read_unread, h14.read_unread, h15.read_unread, View.ld_unit_zero (S := S192x128) hz2, View.ld_unit_zero (S := S1x512) hz2, View.ld_unit_zero (S := S1x1x512) hz3, View.ld_unit_zero (S := S1x1x8) hz3, View.ld_unit_zero (S := S1x128x512) hz3, View.ld_unit_zero (S := S1x512x128) hz3, View.ld_unit_zero (S := S1x1x128) hz3]
  rfl

theorem out_B_10 (hc : ¬cond0_0 i) : out0_B_10 c i a2 h2 a3 h3 a4 h4 a5 h5 a6 h6 a7 h7 a8 h8 a9 h9 a10 h10 a11 h11 a12 h12 a13 h13 a14 h14 a15 h15 hc x0 x1 x2 x3 x4 x5 x6 x7 x8 s0 s1 = k0_pay80 (F := Ideal) s0 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 a15 h15 hc x0 x1 x2 x3 x4 x5 x6 x7 x8 s0 s1)]
  unfold kernelRun0_B
  dsimp only
  sl_unfold_words
  rw [View.canon_unit_zero (S := S1x1x1x512) hz4]
  simp only [View.readAt_eq_ld, h2.read_unread, h3.read_unread, h4.read_unread, h5.read_unread, h6.read_unread, h7.read_unread, h8.read_unread, h9.read_unread, h10.read_unread, h14.read_unread, h15.read_unread, View.ld_unit_zero (S := S192x128) hz2, View.ld_unit_zero (S := S1x512) hz2, View.ld_unit_zero (S := S1x1x512) hz3, View.ld_unit_zero (S := S1x1x8) hz3, View.ld_unit_zero (S := S1x128x512) hz3, View.ld_unit_zero (S := S1x512x128) hz3, View.ld_unit_zero (S := S1x1x128) hz3]

theorem out_B_11 (hc : ¬cond0_0 i) : out0_B_11 c i a2 h2 a3 h3 a4 h4 a5 h5 a6 h6 a7 h7 a8 h8 a9 h9 a10 h10 a11 h11 a12 h12 a13 h13 a14 h14 a15 h15 hc x0 x1 x2 x3 x4 x5 x6 x7 x8 s0 s1 = k0_pay81 (F := Ideal) s1 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 hc x0 x1 x2 x3 x4 x5 x6 x7 x8 s0 s1)]
  unfold kernelRun0_B
  dsimp only
  sl_unfold_words
  rw [View.canon_unit_zero (S := S1x1x1x512) hz4]
  simp only [View.readAt_eq_ld, h2.read_unread, h3.read_unread, h4.read_unread, h5.read_unread, h6.read_unread, h7.read_unread, h8.read_unread, h9.read_unread, h10.read_unread, h14.read_unread, h15.read_unread, View.ld_unit_zero (S := S192x128) hz2, View.ld_unit_zero (S := S1x512) hz2, View.ld_unit_zero (S := S1x1x512) hz3, View.ld_unit_zero (S := S1x1x8) hz3, View.ld_unit_zero (S := S1x128x512) hz3, View.ld_unit_zero (S := S1x512x128) hz3, View.ld_unit_zero (S := S1x1x128) hz3]

theorem sout_A_0 (hc : cond0_0 i) : sout0_A_0 c i a2 h2 a3 h3 a4 h4 a5 h5 a6 h6 a7 h7 a8 h8 a9 h9 a10 h10 a11 h11 a12 h12 a13 h13 a14 h14 a15 h15 hc x0 x1 x2 x3 x4 x5 x6 x7 x8 = c_re x0 x1 x2 x3 x4 x5 (k0_pay3 (F := Ideal)) (k0_pay4 (F := Ideal)) := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_cons_unit_zero (S := S1x512) hz2]
  simp only [View.readCov_unit_zero (S := S1x512) _ hz2]
  simp only [View.readAt_eq_ld, h2.read_unread, h3.read_unread, h4.read_unread, h5.read_unread, h6.read_unread, h7.read_unread, h8.read_unread, h9.read_unread, h10.read_unread, h14.read_unread, h15.read_unread, View.ld_unit_zero (S := S192x128) hz2, View.ld_unit_zero (S := S1x512) hz2, View.ld_unit_zero (S := S1x1x512) hz3, View.ld_unit_zero (S := S1x1x8) hz3, View.ld_unit_zero (S := S1x128x512) hz3, View.ld_unit_zero (S := S1x512x128) hz3, View.ld_unit_zero (S := S1x1x128) hz3]
  rfl

theorem sout_A_1 (hc : cond0_0 i) : sout0_A_1 c i a2 h2 a3 h3 a4 h4 a5 h5 a6 h6 a7 h7 a8 h8 a9 h9 a10 h10 a11 h11 a12 h12 a13 h13 a14 h14 a15 h15 hc x0 x1 x2 x3 x4 x5 x6 x7 x8 = c_im x0 x1 x2 x3 x4 x5 (k0_pay3 (F := Ideal)) (k0_pay4 (F := Ideal)) := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_cons_unit_zero (S := S1x512) hz2]
  simp only [View.readCov_unit_zero (S := S1x512) _ hz2]
  simp only [View.readAt_eq_ld, h2.read_unread, h3.read_unread, h4.read_unread, h5.read_unread, h6.read_unread, h7.read_unread, h8.read_unread, h9.read_unread, h10.read_unread, h14.read_unread, h15.read_unread, View.ld_unit_zero (S := S192x128) hz2, View.ld_unit_zero (S := S1x512) hz2, View.ld_unit_zero (S := S1x1x512) hz3, View.ld_unit_zero (S := S1x1x8) hz3, View.ld_unit_zero (S := S1x128x512) hz3, View.ld_unit_zero (S := S1x512x128) hz3, View.ld_unit_zero (S := S1x1x128) hz3]
  rfl

theorem out_A_9 (hc : cond0_0 i) : out0_A_9 c i a2 h2 a3 h3 a4 h4 a5 h5 a6 h6 a7 h7 a8 h8 a9 h9 a10 h10 a11 h11 a12 h12 a13 h13 a14 h14 a15 h15 hc x0 x1 x2 x3 x4 x5 x6 x7 x8 = t_y x0 x1 x2 x3 x4 x5 x6 x7 x8 (k0_pay3 (F := Ideal)) (k0_pay4 (F := Ideal)) := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_unit_zero (S := S192x128) hz2]
  simp only [View.readCov_unit_zero (S := S1x512) _ hz2]
  simp only [View.readAt_eq_ld, h2.read_unread, h3.read_unread, h4.read_unread, h5.read_unread, h6.read_unread, h7.read_unread, h8.read_unread, h9.read_unread, h10.read_unread, h14.read_unread, h15.read_unread, View.ld_unit_zero (S := S192x128) hz2, View.ld_unit_zero (S := S1x512) hz2, View.ld_unit_zero (S := S1x1x512) hz3, View.ld_unit_zero (S := S1x1x8) hz3, View.ld_unit_zero (S := S1x128x512) hz3, View.ld_unit_zero (S := S1x512x128) hz3, View.ld_unit_zero (S := S1x1x128) hz3]
  rfl

theorem out_A_10 (hc : cond0_0 i) : out0_A_10 c i a2 h2 a3 h3 a4 h4 a5 h5 a6 h6 a7 h7 a8 h8 a9 h9 a10 h10 a11 h11 a12 h12 a13 h13 a14 h14 a15 h15 hc x0 x1 x2 x3 x4 x5 x6 x7 x8 = k0_pay80 (F := Ideal) (k0_pay3 (F := Ideal)) := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_unit_zero (S := S1x1x1x512) hz4]
  simp only [View.readCov_unit_zero (S := S1x512) _ hz2]

theorem out_A_11 (hc : cond0_0 i) : out0_A_11 c i a2 h2 a3 h3 a4 h4 a5 h5 a6 h6 a7 h7 a8 h8 a9 h9 a10 h10 a11 h11 a12 h12 a13 h13 a14 h14 a15 h15 hc x0 x1 x2 x3 x4 x5 x6 x7 x8 = k0_pay81 (F := Ideal) (k0_pay4 (F := Ideal)) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_unit_zero (S := S1x1x1x512) hz4]
  simp only [View.readCov_unit_zero (S := S1x512) _ hz2]

end Blocks

end Cert.S5FwdIdeal.Value

end
-- ==== Proof.S5FwdSpec.lean ====
/-
  What the forward call of the diagonal state-space layer computes, for finite inputs of the recurrence.
-/
module

public import proofs.«01_k».proof.Proof.Scan
public import proofs.«01_k».proof.Proof.S5Math

@[expose] public section

noncomputable section

namespace Cert.S5

open Cert.Scan

/-- A group's channel among the 512. -/
def chan (g : Fin 32) (i : Fin 16) : Fin 512 := ⟨g * 16 + i, by omega⟩

/-- The input of the recurrence at a position. -/
def feed (U : Fin 2064 → Fin 512 → ℝ) (ar ai : Fin 32 → Fin 64 → ℝ) (ld : Fin 32 → ℝ) (br bi : Fin 32 → Fin 64 → Fin 16 → ℝ) (g : Fin 32) (p : Fin 64) (t : ℕ) : ℂ :=
  if h : t < 2064 then ∑ i : Fin 16, (U ⟨t, h⟩ (chan g i) : ℂ) * (gain (ar g p) (ai g p) (ld g) * ⟨br g p i, bi g p i⟩) else 0

/-- The group of a channel, and the channel's place in it. -/
abbrev groupOf (j : Fin 512) : Fin 32 := ⟨j / 16, by omega⟩
abbrev placeOf (j : Fin 512) : Fin 16 := ⟨j % 16, by omega⟩

section Results
variable (A : Fin 32 → Fin 64 → ℂ) (B : Fin 32 → Fin 64 → ℕ → ℂ)

/-- The layer's result at row `i`, channel `j`: nothing in the 48 rows of padding, after them the output map of the states
    and the direct term. -/
def result (cr ci : Fin 32 → Fin 16 → Fin 64 → EReal) (d : Fin 512 → EReal) (u : Fin 2064 → Fin 512 → EReal) (i : Fin 2112) (j : Fin 512) : EReal :=
  if h : i.val < 48 then 0
  else ∑ p, cr (groupOf j) (placeOf j) p * ((past (A (groupOf j) p) (B (groupOf j) p) (i - 48 + 1)).re : EReal)
    - ∑ p, ci (groupOf j) (placeOf j) p * ((past (A (groupOf j) p) (B (groupOf j) p) (i - 48 + 1)).im : EReal)
    + d j * u ⟨i - 48, by omega⟩ j

/-- The state that enters tile `i` of block `q`, in lane `n`. -/
def entering (q : Fin 4) (i : Fin 11) (n : Fin 512) : ℂ :=
  past (A ⟨(q * 512 + n) / 64, by omega⟩ ⟨(q * 512 + n) % 64, by omega⟩) (B ⟨(q * 512 + n) / 64, by omega⟩ ⟨(q * 512 + n) % 64, by omega⟩) (192 * i - 48)

end Results

end Cert.S5

end
-- ==== Proof.S5FwdHost.lean ====
/-
  The blocks that the forward call of the diagonal state-space layer reads: the arguments, regrouped on the host into four
  blocks of 128 channels and 512 states with the maps of the eight groups of a block side by side.
-/
module

public import proofs.«01_k».proof.Proof.Gen.S5FwdIdeal.Frame
public import proofs.«01_k».proof.Proof.S5FwdSpec
public import Idealize.ShloMosaic.Lib.Pointwise

@[expose] public section

set_option maxRecDepth 16384

noncomputable section

open Idealize.ShloMosaic Idealize.ShloMosaic.TcCoe Idealize.ShloMosaic.Tactic

namespace Cert.S5FwdIdeal.Value

open Cert.S5FwdIdeal Cert.S5FwdIdeal.Gen Cert.S5

/-- The identity matrix that spreads the maps of eight groups over a block. -/
def eye : FVec Ideal S1x8x1x8x1 .f32 :=
  broadcastInDim S1x8x1x8x1 ![1, 3] bcast_S8x8_S1x8x1x8x1_1_3 (uitofp .f32 (cmpi .eq (addi (iotaInDim S8x8 32 0) (broadcastInDim S8x8 ![] bcast_S_S8x8 (constantI S_ 32 0#32))) (iotaInDim S8x8 32 1)))

/-- An input map, its groups side by side. -/
def spreadIn (b : FVec Ideal S32x64x16 .f32) : FVec Ideal S4x128x512 .f32 :=
  shapeCast S4x128x512 (mulf (broadcastInDim S4x8x16x8x64 ![0, 1, 2, 3, 4] bcast_S4x8x16x1x64_S4x8x16x8x64_0_1_2_3_4 (shapeCast S4x8x16x1x64 (transpose S32x16x64 [0, 2, 1] b transposes_S32x64x16_S32x16x64_0_2_1) shapeCasts_S32x16x64_S4x8x16x1x64))
    (broadcastInDim S4x8x16x8x64 ![0, 1, 2, 3, 4] bcast_S1x8x1x8x1_S4x8x16x8x64_0_1_2_3_4 eye)) shapeCasts_S4x8x16x8x64_S4x128x512

/-- An output map, its groups side by side. -/
def spreadOut (b : FVec Ideal S32x16x64 .f32) : FVec Ideal S4x512x128 .f32 :=
  shapeCast S4x512x128 (mulf (broadcastInDim S4x8x64x8x16 ![0, 1, 2, 3, 4] bcast_S4x8x64x1x16_S4x8x64x8x16_0_1_2_3_4 (shapeCast S4x8x64x1x16 (transpose S32x64x16 [0, 2, 1] b transposes_S32x16x64_S32x64x16_0_2_1) shapeCasts_S32x64x16_S4x8x64x1x16))
    (broadcastInDim S4x8x64x8x16 ![0, 1, 2, 3, 4] bcast_S1x8x1x8x1_S4x8x64x8x16_0_1_2_3_4 eye)) shapeCasts_S4x8x64x8x16_S4x512x128

/-- The input with the rows of padding in front. -/
def paddedIn (x : FVec Ideal S2064x512 .f32) : FVec Ideal S2112x512 .f32 :=
  concatenate S2112x512 0 [⟨S48x512, broadcastInDim S48x512 ![] bcast_S_S48x512 (constant (F := Ideal) S_ .f32 0x00000000#32)⟩, ⟨S2064x512, x⟩] concatenates_S48x512_S2064x512_S2112x512_d0

theorem same_bit : ∀ a b : Fin 8, IntOp.cmpi CmpIPredicate.eq (IntOp.addi (BitVec.ofNat 32 a) 0#32) (BitVec.ofNat 32 b) = if a = b then 1#1 else 0#1 := by decide +kernel

theorem one_bit (p : Prop) [Decidable p] : (FloatOps.uitofp FTy.f32 (if p then 1#1 else 0#1) : Ideal .f32) = (if p then 1 else 0 : EReal) := by
  split_ifs
  · show (((1#1 : BitVec 1).toNat : ℝ) : EReal) = _
    norm_num
  · show (((0#1 : BitVec 1).toNat : ℝ) : EReal) = _
    norm_num

theorem spreadIn_at (b : FVec Ideal S32x64x16 .f32) (q : Fin 4) (k : Fin 128) (n : Fin 512) :
    spreadIn b (ix3 q k n) = if k.val / 16 = n.val / 64 then b (ix3 ⟨q * 8 + n / 64, by omega⟩ ⟨n % 64, by omega⟩ ⟨k % 16, by omega⟩) else 0 := by
  pointwise [spreadIn, eye]
  have e := same_bit ⟨k / 16, by omega⟩ ⟨n / 64, by omega⟩
  dsimp only at e
  rw [e, one_bit]
  by_cases h : k.val / 16 = n.val / 64
  · rw [if_pos (Fin.ext h), if_pos h, mul_one]
    simp only [h]
  · rw [if_neg (fun h' => h (congrArg Fin.val h')), if_neg h, mul_zero]

theorem spreadOut_at (b : FVec Ideal S32x16x64 .f32) (q : Fin 4) (k : Fin 512) (n : Fin 128) :
    spreadOut b (ix3 q k n) = if k.val / 64 = n.val / 16 then b (ix3 ⟨q * 8 + n / 16, by omega⟩ ⟨n % 16, by omega⟩ ⟨k % 64, by omega⟩) else 0 := by
  pointwise [spreadOut, eye]
  have e := same_bit ⟨k / 64, by omega⟩ ⟨n / 16, by omega⟩
  dsimp only at e
  rw [e, one_bit]
  by_cases h : k.val / 64 = n.val / 16
  · rw [if_pos (Fin.ext h), if_pos h, mul_one]
    simp only [h]
  · rw [if_neg (fun h' => h (congrArg Fin.val h')), if_neg h, mul_zero]

theorem paddedIn_at (x : FVec Ideal S2064x512 .f32) (i : Fin 2112) (j : Fin 512) :
    paddedIn x (ix2 i j) = if h : i.val < 48 then 0 else x (ix2 ⟨i - 48, by omega⟩ j) := by
  pointwise [paddedIn]

theorem row_at (x : FVec Ideal S32x64 .f32) (q : Fin 4) (n : Fin 512) :
    shapeCast S4x1x512 x shapeCasts_S32x64_S4x1x512 (ix3 q 0 n) = x (ix2 ⟨q * 8 + n / 64, by omega⟩ ⟨n % 64, by omega⟩) := by
  pointwise

theorem step_at (x : FVec Ideal S32 .f32) (q : Fin 4) (g : Fin 8) :
    shapeCast S4x1x8 x shapeCasts_S32_S4x1x8 (ix3 q 0 g) = x (ix1 ⟨q * 8 + g, by omega⟩) := by
  pointwise

theorem direct_at (x : FVec Ideal S512 .f32) (q : Fin 4) (j : Fin 128) :
    shapeCast S4x1x128 x shapeCasts_S512_S4x1x128 (ix3 q 0 j) = x (ix1 ⟨q * 128 + j, by omega⟩) := by
  pointwise

variable (m : (ℓ : Loc nD τ sig) → Buf (Elt Ideal) ℓ)

abbrev arg0 (c : Dev nD) : S2064x512.Idx → EReal := m ((c : Thread nD τ).loc main_arg0)
abbrev arg1 (c : Dev nD) : S32x64.Idx → EReal := m ((c : Thread nD τ).loc main_arg1)
abbrev arg2 (c : Dev nD) : S32x64.Idx → EReal := m ((c : Thread nD τ).loc main_arg2)
abbrev arg3 (c : Dev nD) : S32.Idx → EReal := m ((c : Thread nD τ).loc main_arg3)
abbrev arg4 (c : Dev nD) : S32x64x16.Idx → EReal := m ((c : Thread nD τ).loc main_arg4)
abbrev arg5 (c : Dev nD) : S32x64x16.Idx → EReal := m ((c : Thread nD τ).loc main_arg5)
abbrev arg6 (c : Dev nD) : S32x16x64.Idx → EReal := m ((c : Thread nD τ).loc main_arg6)
abbrev arg7 (c : Dev nD) : S32x16x64.Idx → EReal := m ((c : Thread nD τ).loc main_arg7)
abbrev arg8 (c : Dev nD) : S512.Idx → EReal := m ((c : Thread nD τ).loc main_arg8)

theorem v_1 (c : Dev nD) : (V m c main_v1 : S2112x512.Idx → EReal) = paddedIn (arg0 m c) := by
  dsimp only [V, hostOps0]
  after_results
  rfl
theorem v_9 (c : Dev nD) : (V m c main_v9 : S4x1x512.Idx → EReal) = shapeCast S4x1x512 (arg1 m c : FVec Ideal S32x64 .f32) shapeCasts_S32x64_S4x1x512 := by
  dsimp only [V, hostOps0]
  after_results
  rfl
theorem v_10 (c : Dev nD) : (V m c main_v10 : S4x1x512.Idx → EReal) = shapeCast S4x1x512 (arg2 m c : FVec Ideal S32x64 .f32) shapeCasts_S32x64_S4x1x512 := by
  dsimp only [V, hostOps0]
  after_results
  rfl
theorem v_11 (c : Dev nD) : (V m c main_v11 : S4x1x8.Idx → EReal) = shapeCast S4x1x8 (arg3 m c : FVec Ideal S32 .f32) shapeCasts_S32_S4x1x8 := by
  dsimp only [V, hostOps0]
  after_results
  rfl
theorem v_17 (c : Dev nD) : (V m c main_v17 : S4x128x512.Idx → EReal) = spreadIn (arg4 m c) := by
  dsimp only [V, hostOps0]
  after_results
  rfl
theorem v_23 (c : Dev nD) : (V m c main_v23 : S4x128x512.Idx → EReal) = spreadIn (arg5 m c) := by
  dsimp only [V, hostOps0]
  after_results
  rfl
theorem v_29 (c : Dev nD) : (V m c main_v29 : S4x512x128.Idx → EReal) = spreadOut (arg6 m c) := by
  dsimp only [V, hostOps0]
  after_results
  rfl
theorem v_35 (c : Dev nD) : (V m c main_v35 : S4x512x128.Idx → EReal) = spreadOut (arg7 m c) := by
  dsimp only [V, hostOps0]
  after_results
  rfl
theorem v_36 (c : Dev nD) : (V m c main_v36 : S4x1x128.Idx → EReal) = shapeCast S4x1x128 (arg8 m c : FVec Ideal S512 .f32) shapeCasts_S512_S4x1x128 := by
  dsimp only [V, hostOps0]
  after_results
  rfl

theorem point_lt (t : Fin cfg0.N) : t.val < 44 := t.isLt

theorem idx_in : ∀ t : Fin grid0.N, (win0_0.index t (0 : Fin 2) = t.val % 11 ∧ win0_0.index t (1 : Fin 2) = t.val / 11)
    ∧ (win0_9.index t (0 : Fin 2) = t.val % 11 ∧ win0_9.index t (1 : Fin 2) = t.val / 11) := by decide +kernel

theorem idx_par : ∀ t : Fin grid0.N,
    (win0_1.index t (0 : Fin 3) = t.val / 11 ∧ win0_1.index t (1 : Fin 3) = 0 ∧ win0_1.index t (2 : Fin 3) = 0)
    ∧ (win0_2.index t (0 : Fin 3) = t.val / 11 ∧ win0_2.index t (1 : Fin 3) = 0 ∧ win0_2.index t (2 : Fin 3) = 0)
    ∧ (win0_3.index t (0 : Fin 3) = t.val / 11 ∧ win0_3.index t (1 : Fin 3) = 0 ∧ win0_3.index t (2 : Fin 3) = 0)
    ∧ (win0_4.index t (0 : Fin 3) = t.val / 11 ∧ win0_4.index t (1 : Fin 3) = 0 ∧ win0_4.index t (2 : Fin 3) = 0)
    ∧ (win0_5.index t (0 : Fin 3) = t.val / 11 ∧ win0_5.index t (1 : Fin 3) = 0 ∧ win0_5.index t (2 : Fin 3) = 0)
    ∧ (win0_6.index t (0 : Fin 3) = t.val / 11 ∧ win0_6.index t (1 : Fin 3) = 0 ∧ win0_6.index t (2 : Fin 3) = 0)
    ∧ (win0_7.index t (0 : Fin 3) = t.val / 11 ∧ win0_7.index t (1 : Fin 3) = 0 ∧ win0_7.index t (2 : Fin 3) = 0)
    ∧ (win0_8.index t (0 : Fin 3) = t.val / 11 ∧ win0_8.index t (1 : Fin 3) = 0 ∧ win0_8.index t (2 : Fin 3) = 0) := by decide +kernel

theorem idx_saved : ∀ t : Fin grid0.N,
    (win0_10.index t (0 : Fin 4) = t.val / 11 ∧ win0_10.index t (1 : Fin 4) = t.val % 11 ∧ win0_10.index t (2 : Fin 4) = 0 ∧ win0_10.index t (3 : Fin 4) = 0)
    ∧ (win0_11.index t (0 : Fin 4) = t.val / 11 ∧ win0_11.index t (1 : Fin 4) = t.val % 11 ∧ win0_11.index t (2 : Fin 4) = 0 ∧ win0_11.index t (3 : Fin 4) = 0) := by decide +kernel

/-- The block and the tile of a point. -/
abbrev blkOf (t : Fin cfg0.N) : Fin 4 := ⟨t / 11, by have := point_lt t; omega⟩
abbrev tileOf (t : Fin cfg0.N) : Fin 11 := ⟨t % 11, by omega⟩

theorem b_0 (c : Dev nD) (t : Fin cfg0.N) (r : Fin 192) (k : Fin 128) : (iblk m c 0 t : Vec Ideal S192x128 .f32) (ix2 r k)
    = paddedIn (arg0 m c) (ix2 ⟨tileOf t * 192 + r, by have := (tileOf t).isLt; omega⟩ ⟨blkOf t * 128 + k, by have := (blkOf t).isLt; omega⟩) := by
  obtain ⟨⟨h0, h1⟩, -⟩ := idx_in t
  rw [← v_1]
  unfold iblk
  rw [View.read_apply]
  show V m c main_v1 _ = _
  congr 1
  funext a
  apply Fin.ext
  match a with
  | ⟨0, _⟩ => show win0_0.index t 0 * 192 + 1 * r.val = t.val % 11 * 192 + r.val; rw [h0]; omega
  | ⟨1, _⟩ => show win0_0.index t 1 * 128 + 1 * k.val = t.val / 11 * 128 + k.val; rw [h1]; omega

theorem b_1 (c : Dev nD) (t : Fin cfg0.N) (r : Fin 1) (n : Fin 512) : (iblk m c 1 t : Vec Ideal S1x1x512 .f32) (ix3 0 r n) = (V m c main_v9 : S4x1x512.Idx → EReal) (ix3 (blkOf t) r n) := by
  obtain ⟨⟨h0, h1, h2⟩, -⟩ := idx_par t
  unfold iblk
  rw [View.read_apply]
  show V m c main_v9 _ = _
  congr 1
  funext a
  apply Fin.ext
  match a with
  | ⟨0, _⟩ => show win0_1.index t 0 * 1 + 1 * 0 = t.val / 11; rw [h0]; omega
  | ⟨1, _⟩ => show win0_1.index t 1 * 1 + 1 * r.val = r.val; rw [h1]; omega
  | ⟨2, _⟩ => show win0_1.index t 2 * 512 + 1 * n.val = n.val; rw [h2]; omega

theorem b_2 (c : Dev nD) (t : Fin cfg0.N) (r : Fin 1) (n : Fin 512) : (iblk m c 2 t : Vec Ideal S1x1x512 .f32) (ix3 0 r n) = (V m c main_v10 : S4x1x512.Idx → EReal) (ix3 (blkOf t) r n) := by
  obtain ⟨-, ⟨h0, h1, h2⟩, -⟩ := idx_par t
  unfold iblk
  rw [View.read_apply]
  show V m c main_v10 _ = _
  congr 1
  funext a
  apply Fin.ext
  match a with
  | ⟨0, _⟩ => show win0_2.index t 0 * 1 + 1 * 0 = t.val / 11; rw [h0]; omega
  | ⟨1, _⟩ => show win0_2.index t 1 * 1 + 1 * r.val = r.val; rw [h1]; omega
  | ⟨2, _⟩ => show win0_2.index t 2 * 512 + 1 * n.val = n.val; rw [h2]; omega

theorem b_3 (c : Dev nD) (t : Fin cfg0.N) (r : Fin 1) (n : Fin 8) : (iblk m c 3 t : Vec Ideal S1x1x8 .f32) (ix3 0 r n) = (V m c main_v11 : S4x1x8.Idx → EReal) (ix3 (blkOf t) r n) := by
  obtain ⟨-, -, ⟨h0, h1, h2⟩, -⟩ := idx_par t
  unfold iblk
  rw [View.read_apply]
  show V m c main_v11 _ = _
  congr 1
  funext a
  apply Fin.ext
  match a with
  | ⟨0, _⟩ => show win0_3.index t 0 * 1 + 1 * 0 = t.val / 11; rw [h0]; omega
  | ⟨1, _⟩ => show win0_3.index t 1 * 1 + 1 * r.val = r.val; rw [h1]; omega
  | ⟨2, _⟩ => show win0_3.index t 2 * 8 + 1 * n.val = n.val; rw [h2]; omega

theorem b_4 (c : Dev nD) (t : Fin cfg0.N) (r : Fin 128) (n : Fin 512) : (iblk m c 4 t : Vec Ideal S1x128x512 .f32) (ix3 0 r n) = (V m c main_v17 : S4x128x512.Idx → EReal) (ix3 (blkOf t) r n) := by
  obtain ⟨-, -, -, ⟨h0, h1, h2⟩, -⟩ := idx_par t
  unfold iblk
  rw [View.read_apply]
  show V m c main_v17 _ = _
  congr 1
  funext a
  apply Fin.ext
  match a with
  | ⟨0, _⟩ => show win0_4.index t 0 * 1 + 1 * 0 = t.val / 11; rw [h0]; omega
  | ⟨1, _⟩ => show win0_4.index t 1 * 128 + 1 * r.val = r.val; rw [h1]; omega
  | ⟨2, _⟩ => show win0_4.index t 2 * 512 + 1 * n.val = n.val; rw [h2]; omega

theorem b_5 (c : Dev nD) (t : Fin cfg0.N) (r : Fin 128) (n : Fin 512) : (iblk m c 5 t : Vec Ideal S1x128x512 .f32) (ix3 0 r n) = (V m c main_v23 : S4x128x512.Idx → EReal) (ix3 (blkOf t) r n) := by
  obtain ⟨-, -, -, -, ⟨h0, h1, h2⟩, -⟩ := idx_par t
  unfold iblk
  rw [View.read_apply]
  show V m c main_v23 _ = _
  congr 1
  funext a
  apply Fin.ext
  match a with
  | ⟨0, _⟩ => show win0_5.index t 0 * 1 + 1 * 0 = t.val / 11; rw [h0]; omega
  | ⟨1, _⟩ => show win0_5.index t 1 * 128 + 1 * r.val = r.val; rw [h1]; omega
  | ⟨2, _⟩ => show win0_5.index t 2 * 512 + 1 * n.val = n.val; rw [h2]; omega

theorem b_6 (c : Dev nD) (t : Fin cfg0.N) (r : Fin 512) (n : Fin 128) : (iblk m c 6 t : Vec Ideal S1x512x128 .f32) (ix3 0 r n) = (V m c main_v29 : S4x512x128.Idx → EReal) (ix3 (blkOf t) r n) := by
  obtain ⟨-, -, -, -, -, ⟨h0, h1, h2⟩, -⟩ := idx_par t
  unfold iblk
  rw [View.read_apply]
  show V m c main_v29 _ = _
  congr 1
  funext a
  apply Fin.ext
  match a with
  | ⟨0, _⟩ => show win0_6.index t 0 * 1 + 1 * 0 = t.val / 11; rw [h0]; omega
  | ⟨1, _⟩ => show win0_6.index t 1 * 512 + 1 * r.val = r.val; rw [h1]; omega
  | ⟨2, _⟩ => show win0_6.index t 2 * 128 + 1 * n.val = n.val; rw [h2]; omega

theorem b_7 (c : Dev nD) (t : Fin cfg0.N) (r : Fin 512) (n : Fin 128) : (iblk m c 7 t : Vec Ideal S1x512x128 .f32) (ix3 0 r n) = (V m c main_v35 : S4x512x128.Idx → EReal) (ix3 (blkOf t) r n) := by
  obtain ⟨-, -, -, -, -, -, ⟨h0, h1, h2⟩, -⟩ := idx_par t
  unfold iblk
  rw [View.read_apply]
  show V m c main_v35 _ = _
  congr 1
  funext a
  apply Fin.ext
  match a with
  | ⟨0, _⟩ => show win0_7.index t 0 * 1 + 1 * 0 = t.val / 11; rw [h0]; omega
  | ⟨1, _⟩ => show win0_7.index t 1 * 512 + 1 * r.val = r.val; rw [h1]; omega
  | ⟨2, _⟩ => show win0_7.index t 2 * 128 + 1 * n.val = n.val; rw [h2]; omega

theorem b_8 (c : Dev nD) (t : Fin cfg0.N) (r : Fin 1) (n : Fin 128) : (iblk m c 8 t : Vec Ideal S1x1x128 .f32) (ix3 0 r n) = (V m c main_v36 : S4x1x128.Idx → EReal) (ix3 (blkOf t) r n) := by
  obtain ⟨-, -, -, -, -, -, -, ⟨h0, h1, h2⟩⟩ := idx_par t
  unfold iblk
  rw [View.read_apply]
  show V m c main_v36 _ = _
  congr 1
  funext a
  apply Fin.ext
  match a with
  | ⟨0, _⟩ => show win0_8.index t 0 * 1 + 1 * 0 = t.val / 11; rw [h0]; omega
  | ⟨1, _⟩ => show win0_8.index t 1 * 1 + 1 * r.val = r.val; rw [h1]; omega
  | ⟨2, _⟩ => show win0_8.index t 2 * 128 + 1 * n.val = n.val; rw [h2]; omega

end Cert.S5FwdIdeal.Value

end
-- ==== Proof.Groups.lean ====
/-
  Sums over the pairs of a group and a place in it.
-/
module

public import Mathlib.Algebra.BigOperators.Fin
public import Mathlib.Data.Fintype.BigOperators

@[expose] public section

namespace Cert.Groups

/-- A sum over the pairs of a group and a place in it, of which one group counts. -/
theorem sum_group {M : Type} [AddCommMonoid M] (a b : ℕ) (g : Fin a) (f : Fin (a * b) → M) (h : ∀ k : Fin (a * b), k.val / b ≠ g → f k = 0) :
    ∑ k, f k = ∑ p : Fin b, f ⟨p + b * g, by have := g.isLt; have := p.isLt; calc p.val + b * g < b * (g + 1) := by rw [Nat.mul_add]; omega
                                               _ ≤ b * a := Nat.mul_le_mul_left _ (by omega)
                                               _ = a * b := Nat.mul_comm _ _⟩ := by
  rw [← finProdFinEquiv.sum_comp, Fintype.sum_prod_type]
  rw [Finset.sum_eq_single g]
  · rfl
  · intro x _ hx
    refine Finset.sum_eq_zero fun p _ => h _ ?_
    show (p.val + b * x.val) / b ≠ g
    rw [Nat.add_mul_div_left _ _ (by have := p.isLt; omega), Nat.div_eq_of_lt p.isLt, zero_add]
    exact fun e => hx (Fin.ext e)
  · exact fun h' => absurd (Finset.mem_univ _) h'

end Cert.Groups

end
-- ==== Proof.S5FwdValue.lean ====
/-
  The values of the forward call of the diagonal state-space layer: by induction over the tiles the state carried is the
  recurrence's, so each tile's result is the layer's.
-/
module

public import proofs.«01_k».proof.Proof.S5FwdBlocks
public import proofs.«01_k».proof.Proof.S5FwdHost
public import proofs.«01_k».proof.Proof.Groups

@[expose] public section

set_option maxRecDepth 16384

noncomputable section

open Idealize.ShloMosaic Idealize.ShloMosaic.TcCoe Idealize.ShloMosaic.Tactic

namespace Cert.S5FwdIdeal.Value

open Cert.S5FwdIdeal Cert.S5FwdIdeal.Gen Cert.Scan Cert.S5 Cert.Groups

theorem last_row (v : FVec Ideal S192x512 .f32) (n : Fin 512) : k0_pay1 (extractStridedSlice S1x512 ![191, 0] v slices_S192x512_o191_0_S1x512) (ix2 0 n) = v (ix2 ⟨191, by omega⟩ n) := by
  pointwise [k0_pay1]
theorem last_row' (v : FVec Ideal S192x512 .f32) (n : Fin 512) : k0_pay2 (extractStridedSlice S1x512 ![191, 0] v slices_S192x512_o191_0_S1x512) (ix2 0 n) = v (ix2 ⟨191, by omega⟩ n) := by
  pointwise [k0_pay2]

variable (m : (ℓ : Loc nD τ sig) → Buf (Elt Ideal) ℓ)

/-- The arguments that the recurrence reads are finite. -/
structure Given (c : Dev nD) (U : Fin 2064 → Fin 512 → ℝ) (ar ai : Fin 32 → Fin 64 → ℝ) (ld : Fin 32 → ℝ) (br bi : Fin 32 → Fin 64 → Fin 16 → ℝ) : Prop where
  h0 : ∀ (t : Fin 2064) (j : Fin 512), arg0 m c (ix2 t j) = (U t j : EReal)
  h1 : ∀ (g : Fin 32) (p : Fin 64), arg1 m c (ix2 g p) = (ar g p : EReal)
  h2 : ∀ (g : Fin 32) (p : Fin 64), arg2 m c (ix2 g p) = (ai g p : EReal)
  h3 : ∀ g : Fin 32, arg3 m c (ix1 g) = (ld g : EReal)
  h4 : ∀ (g : Fin 32) (p : Fin 64) (i : Fin 16), arg4 m c (ix3 g p i) = (br g p i : EReal)
  h5 : ∀ (g : Fin 32) (p : Fin 64) (i : Fin 16), arg5 m c (ix3 g p i) = (bi g p i : EReal)

/-- The group and the state that a lane of a block holds. -/
abbrev laneGroup (q : Fin 4) (n : Fin 512) : Fin 32 := ⟨q * 8 + n / 64, by omega⟩
abbrev laneState (n : Fin 512) : Fin 64 := ⟨n % 64, by omega⟩

section Carry
variable {m} {c : Dev nD} {U : Fin 2064 → Fin 512 → ℝ} {ar ai : Fin 32 → Fin 64 → ℝ} {ld : Fin 32 → ℝ} {br bi : Fin 32 → Fin 64 → Fin 16 → ℝ}

/-- The factor of the recurrence in a lane, and its inputs counted from the first row of padding. -/
def laneA (ar ai : Fin 32 → Fin 64 → ℝ) (ld : Fin 32 → ℝ) (q : Fin 4) (n : Fin 512) : ℂ :=
  decay (ar (laneGroup q n) (laneState n)) (ai (laneGroup q n) (laneState n)) (ld (laneGroup q n))
def laneB (U : Fin 2064 → Fin 512 → ℝ) (ar ai : Fin 32 → Fin 64 → ℝ) (ld : Fin 32 → ℝ) (br bi : Fin 32 → Fin 64 → Fin 16 → ℝ) (q : Fin 4) (n : Fin 512) : ℕ → ℂ :=
  padded 48 (feed U ar ai ld br bi (laneGroup q n) (laneState n))

/-- The input of a row counted from the first row of padding. -/
def rowIn (U : Fin 2064 → Fin 512 → ℝ) (t : ℕ) (j : Fin 512) : ℝ := if h : 48 ≤ t ∧ t - 48 < 2064 then U ⟨t - 48, h.2⟩ j else 0

/-- A row times the map spread over the block is the input of the recurrence in each lane. -/
theorem lane_feed (q : Fin 4) (n : Fin 512) (t : ℕ) :
    ∑ k : Fin 128, (rowIn U t ⟨q * 128 + k, by omega⟩ : ℂ) * (gain (ar (laneGroup q n) (laneState n)) (ai (laneGroup q n) (laneState n)) (ld (laneGroup q n))
        * ⟨if k.val / 16 = n.val / 64 then br (laneGroup q n) (laneState n) ⟨k % 16, by omega⟩ else 0, if k.val / 16 = n.val / 64 then bi (laneGroup q n) (laneState n) ⟨k % 16, by omega⟩ else 0⟩)
      = laneB U ar ai ld br bi q n t := by
  refine (sum_group 8 16 ⟨n / 64, by omega⟩ _ fun k hk => ?_).trans ?_
  · have hk' : ¬ k.val / 16 = n.val / 64 := hk
    simp only [if_neg hk']
    rw [show (⟨0, 0⟩ : ℂ) = 0 from rfl, mul_zero, mul_zero]
  · unfold laneB padded feed
    by_cases h : t < 48
    · rw [if_pos h]
      refine Finset.sum_eq_zero fun p _ => ?_
      rw [rowIn, dif_neg (by omega), Complex.ofReal_zero, zero_mul]
    · rw [if_neg h]
      by_cases h' : t - 48 < 2064
      · rw [dif_pos h']
        refine Finset.sum_congr rfl fun p _ => ?_
        have e1 : (p.val + 16 * (n.val / 64)) / 16 = n.val / 64 := by omega
        have e2 : (p.val + 16 * (n.val / 64)) % 16 = p.val := by omega
        simp only [e1, e2, if_true]
        rw [rowIn, dif_pos ⟨by omega, h'⟩]
        congr 3
        apply Fin.ext
        show q.val * 128 + (p.val + 16 * (n.val / 64)) = (q.val * 8 + n.val / 64) * 16 + p.val
        omega
      · rw [dif_neg h']
        refine Finset.sum_eq_zero fun p _ => ?_
        rw [rowIn, dif_neg (by omega), Complex.ofReal_zero, zero_mul]

/-- The states of a tile, from the state that enters it. -/
theorem tile_states (G : Given m c U ar ai ld br bi) (t : Fin cfg0.N) (s0 s1 : Vec Ideal S1x512 .f32)
    (hs : Lanes s0 s1 fun n => past (laneA ar ai ld (blkOf t) n) (laneB U ar ai ld br bi (blkOf t) n) (t.val % 11 * 192)) :
    Rows (t_re (iblk m c 0 t) (iblk m c 1 t) (iblk m c 2 t) (iblk m c 3 t) (iblk m c 4 t) (iblk m c 5 t) s0 s1)
      (t_im (iblk m c 0 t) (iblk m c 1 t) (iblk m c 2 t) (iblk m c 3 t) (iblk m c 4 t) (iblk m c 5 t) s0 s1)
      fun r n => past (laneA ar ai ld (blkOf t) n) (laneB U ar ai ld br bi (blkOf t) n) (t.val % 11 * 192 + r + 1) := by
  have h := tile_rows (v4 := k0_pay5 (iblk m c 1 t)) (v6 := k0_pay6 (iblk m c 2 t)) (v8 := k0_pay7 (iblk m c 3 t)) (v10 := k0_pay8 (iblk m c 4 t)) (v12 := k0_pay9 (iblk m c 5 t))
    (v20 := k0_pay13 (iblk m c 0 t)) (v21 := s0) (v22 := s1)
    (ar := fun n => ar (laneGroup (blkOf t) n) (laneState n)) (ai := fun n => ai (laneGroup (blkOf t) n) (laneState n))
    (ld := fun g => ld ⟨blkOf t * 8 + g, by have := (blkOf t).isLt; omega⟩)
    (br := fun k n => if k.val / 16 = n.val / 64 then br (laneGroup (blkOf t) n) (laneState n) ⟨k % 16, by omega⟩ else 0)
    (bi := fun k n => if k.val / 16 = n.val / 64 then bi (laneGroup (blkOf t) n) (laneState n) ⟨k % 16, by omega⟩ else 0)
    (u := fun r k => rowIn U (t.val % 11 * 192 + r) ⟨blkOf t * 128 + k, by have := (blkOf t).isLt; omega⟩)
    (s := fun n => past (laneA ar ai ld (blkOf t) n) (laneB U ar ai ld br bi (blkOf t) n) (t.val % 11 * 192))
    (fun n => by rw [cast_5, b_1, v_9, row_at]; exact G.h1 _ _)
    (fun n => by rw [cast_6, b_2, v_10, row_at]; exact G.h2 _ _)
    (fun g => by rw [cast_7, b_3, v_11, step_at]; exact G.h3 _)
    (fun k n => by
      rw [cast_8, b_4, v_17, spreadIn_at]
      split_ifs
      · exact G.h4 _ _ _
      · rfl)
    (fun k n => by
      rw [cast_9, b_5, v_23, spreadIn_at]
      split_ifs
      · exact G.h5 _ _ _
      · rfl)
    (fun r k => by
      rw [cast_13, b_0, paddedIn_at, rowIn]
      by_cases h : t.val % 11 * 192 + r.val < 48
      · rw [dif_pos h, dif_neg (by omega)]; rfl
      · rw [dif_neg h, dif_pos ⟨by omega, by omega⟩]; exact G.h0 _ _)
    hs
  have e : ∀ (r : Fin 192) (n : Fin 512), _ = past (laneA ar ai ld (blkOf t) n) (laneB U ar ai ld br bi (blkOf t) n) (t.val % 11 * 192 + r + 1) := fun r n =>
    (congrFun (congrArg (fun f => steps (laneA ar ai ld (blkOf t) n) f _) (funext fun i => lane_feed (blkOf t) n _)) r.val).trans (steps_past _ _ _ _)
  exact ⟨fun r n => (h.re r n).trans (congrArg (fun z : ℂ => ((z.re : ℝ) : EReal)) (e r n)),
    fun r n => (h.im r n).trans (congrArg (fun z : ℂ => ((z.im : ℝ) : EReal)) (e r n))⟩

/-- What every point leaves, in terms of the state that enters it, which is the recurrence's. -/
theorem carried (G : Given m c U ar ai ld br bi) : ∀ (n : ℕ) (hn : n < cfg0.N), ∃ s0 s1 : Vec Ideal S1x512 .f32,
    (Lanes s0 s1 fun l => past (laneA ar ai ld (blkOf ⟨n, hn⟩) l) (laneB U ar ai ld br bi (blkOf ⟨n, hn⟩) l) (n % 11 * 192))
    ∧ outsAt0 m c n hn = (t_y (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) s0 s1,
        k0_pay80 (F := Ideal) s0, k0_pay81 (F := Ideal) s1,
        c_re (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) s0 s1,
        c_im (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) s0 s1) := by
  have first : ∀ (n : ℕ) (hn : n < cfg0.N), n % 11 = 0 → ∃ s0 s1 : Vec Ideal S1x512 .f32,
    (Lanes s0 s1 fun l => past (laneA ar ai ld (blkOf ⟨n, hn⟩) l) (laneB U ar ai ld br bi (blkOf ⟨n, hn⟩) l) (n % 11 * 192))
    ∧ outsAt0 m c n hn = (t_y (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) s0 s1,
        k0_pay80 (F := Ideal) s0, k0_pay81 (F := Ideal) s1,
        c_re (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) s0 s1,
        c_im (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) s0 s1) := fun n hn h0 => by
    refine ⟨k0_pay3 (F := Ideal), k0_pay4 (F := Ideal), ⟨fun l => ?_, fun l => ?_⟩, ?_⟩
    · rw [zero_re, h0, zero_mul, past]; rfl
    · rw [zero_im, h0, zero_mul, past]; rfl
    · have h := outsAt0_A m c ⟨n, hn⟩ h0
      dsimp only at h
      rw [h, out_A_9, out_A_10, out_A_11, sout_A_0, sout_A_1]
  intro n
  induction n with
  | zero => exact fun hn => first 0 hn rfl
  | succ n ih =>
    intro hn
    rcases eq_or_ne ((n + 1) % 11) 0 with h0 | h0
    · exact first _ hn h0
    obtain ⟨s0, s1, hs, he⟩ := ih (by omega)
    have hr := tile_states G ⟨n, by omega⟩ s0 s1 hs
    have hb : blkOf ⟨n + 1, hn⟩ = blkOf ⟨n, by omega⟩ := Fin.ext (by show (n + 1) / 11 = n / 11; omega)
    have ht : (n + 1) % 11 * 192 = n % 11 * 192 + 191 + 1 := by omega
    refine ⟨(outsAt0 m c n (by omega)).2.2.2.1, (outsAt0 m c n (by omega)).2.2.2.2, ⟨fun l => ?_, fun l => ?_⟩, ?_⟩
    · rw [he, hb, ht]
      exact (last_row _ l).trans (hr.re ⟨191, by omega⟩ l)
    · rw [he, hb, ht]
      exact (last_row' _ l).trans (hr.im ⟨191, by omega⟩ l)
    · have h := outsAt0_B m c ⟨n + 1, hn⟩ h0
      dsimp only at h
      rw [h, out_B_9, out_B_10, out_B_11, sout_B_0, sout_B_1]
      rfl

/-- The factors of the recurrence. -/
def factor (ar ai : Fin 32 → Fin 64 → ℝ) (ld : Fin 32 → ℝ) (g : Fin 32) (p : Fin 64) : ℂ := decay (ar g p) (ai g p) (ld g)

theorem lane_past (q : Fin 4) (n : Fin 512) (g : Fin 32) (p : Fin 64) (hg : q.val * 8 + n.val / 64 = g.val) (hp : n.val % 64 = p.val) (k : ℕ) :
    past (laneA ar ai ld q n) (laneB U ar ai ld br bi q n) k = past (factor ar ai ld g p) (feed U ar ai ld br bi g p) (k - 48) := by
  obtain rfl : laneGroup q n = g := Fin.ext hg
  obtain rfl : laneState n = p := Fin.ext hp
  rw [laneB, past_padded]
  rfl

theorem left_10 (G : Given m c U ar ai ld br bi) (t : Fin cfg0.N) (n : Fin 512) :
    (outsAt0 m c t.val t.isLt).2.1 (ix4 0 0 0 n) = ((entering (factor ar ai ld) (feed U ar ai ld br bi) (blkOf t) (tileOf t) n).re : EReal) := by
  obtain ⟨s0, s1, hs, he⟩ := carried G t.val t.isLt
  rw [he]
  refine (saved_re s0 n).trans ((hs.re n).trans ?_)
  rw [lane_past (blkOf t) n ⟨(blkOf t * 512 + n) / 64, by have := (blkOf t).isLt; omega⟩ ⟨(blkOf t * 512 + n) % 64, by omega⟩ (by dsimp only; omega) (by dsimp only; omega),
    entering, Nat.mul_comm 192]

theorem left_11 (G : Given m c U ar ai ld br bi) (t : Fin cfg0.N) (n : Fin 512) :
    (outsAt0 m c t.val t.isLt).2.2.1 (ix4 0 0 0 n) = ((entering (factor ar ai ld) (feed U ar ai ld br bi) (blkOf t) (tileOf t) n).im : EReal) := by
  obtain ⟨s0, s1, hs, he⟩ := carried G t.val t.isLt
  rw [he]
  refine (saved_im s1 n).trans ((hs.im n).trans ?_)
  rw [lane_past (blkOf t) n ⟨(blkOf t * 512 + n) / 64, by have := (blkOf t).isLt; omega⟩ ⟨(blkOf t * 512 + n) % 64, by omega⟩ (by dsimp only; omega) (by dsimp only; omega),
    entering, Nat.mul_comm 192]

/-- A row of states times a map spread over the block: the map of the channel's group. -/
theorem out_sum (q : Fin 4) (j : Fin 128) (x : Fin 512 → EReal) (z : Fin 64 → EReal) (w : FVec Ideal S32x16x64 .f32) (J : Fin 512) (hJ : J.val = q * 128 + j)
    (hx : ∀ p : Fin 64, x ⟨p + 64 * (j / 16), by omega⟩ = z p) :
    ∑ k : Fin 512, x k * spreadOut w (ix3 q k j) = ∑ p, w (ix3 (groupOf J) (placeOf J) p) * z p := by
  refine (sum_group 8 64 ⟨j / 16, by omega⟩ (fun k : Fin (8 * 64) => x k * spreadOut w (ix3 q k j)) fun k hk => ?_).trans ?_
  · have hk' : ¬ k.val / 64 = j.val / 16 := hk
    rw [spreadOut_at, if_neg hk', mul_zero]
  · refine Finset.sum_congr rfl fun p _ => ?_
    dsimp only
    rw [spreadOut_at, if_pos (by dsimp only; omega), mul_comm]
    refine congrArg₂ (· * ·) (congrArg w ?_) (hx p)
    funext a
    apply Fin.ext
    match a with
    | ⟨0, _⟩ => show q.val * 8 + j.val / 16 = J.val / 16; omega
    | ⟨1, _⟩ => show j.val % 16 = J.val % 16; omega
    | ⟨2, _⟩ => show (p.val + 64 * (j.val / 16)) % 64 = p.val; omega

/-- The row and the channel of a place in a point's block of the result. -/
abbrev rowAt (t : Fin cfg0.N) (r : Fin 192) : Fin 2112 := ⟨tileOf t * 192 + r, by have := (tileOf t).isLt; omega⟩
abbrev chanAt (t : Fin cfg0.N) (j : Fin 128) : Fin 512 := ⟨blkOf t * 128 + j, by have := (blkOf t).isLt; omega⟩

theorem left_9 (G : Given m c U ar ai ld br bi) (t : Fin cfg0.N) (r : Fin 192) (j : Fin 128) :
    (outsAt0 m c t.val t.isLt).1 (ix2 r j) = result (factor ar ai ld) (feed U ar ai ld br bi) (fun g l p => arg6 m c (ix3 g l p)) (fun g l p => arg7 m c (ix3 g l p))
      (fun j => arg8 m c (ix1 j)) (fun t j => arg0 m c (ix2 t j)) (rowAt t r) (chanAt t j) := by
  obtain ⟨s0, s1, hs, he⟩ := carried G t.val t.isLt
  have hr := tile_states G t s0 s1 hs
  rw [he]
  refine (y_at _ _ _ _ _ _ _ _ _ r j).trans ?_
  have hz : ∀ p : Fin 64, past (laneA ar ai ld (blkOf t) ⟨p + 64 * (j / 16), by omega⟩) (laneB U ar ai ld br bi (blkOf t) ⟨p + 64 * (j / 16), by omega⟩) (t.val % 11 * 192 + r + 1)
      = past (factor ar ai ld (groupOf (chanAt t j)) p) (feed U ar ai ld br bi (groupOf (chanAt t j)) p) (t.val % 11 * 192 + r + 1 - 48) := fun p =>
    lane_past _ _ _ _ (by dsimp only; omega) (by dsimp only; omega) _
  have e0 : k0_pay10 (iblk m c 6 t) = fun i => spreadOut (arg6 m c) (ix3 (blkOf t) (i 0) (i 1)) := by
    funext (i : S512x128.Idx); idx_vars i; rw [cast_10, b_6, v_29]
  have e1 : k0_pay11 (iblk m c 7 t) = fun i => spreadOut (arg7 m c) (ix3 (blkOf t) (i 0) (i 1)) := by
    funext (i : S512x128.Idx); idx_vars i; rw [cast_11, b_7, v_35]
  rw [cast_12, b_8, v_36, direct_at, cast_13, b_0, paddedIn_at, e0, e1]
  have h0 := out_sum (blkOf t) j (fun k => t_re (iblk m c 0 t) (iblk m c 1 t) (iblk m c 2 t) (iblk m c 3 t) (iblk m c 4 t) (iblk m c 5 t) s0 s1 (ix2 r k))
    (fun p => ((past (factor ar ai ld (groupOf (chanAt t j)) p) (feed U ar ai ld br bi (groupOf (chanAt t j)) p) (t.val % 11 * 192 + r + 1 - 48)).re : EReal)) (arg6 m c) (chanAt t j) rfl fun p => (hr.re r _).trans (congrArg (fun z : ℂ => ((z.re : ℝ) : EReal)) (hz p))
  have h1 := out_sum (blkOf t) j (fun k => t_im (iblk m c 0 t) (iblk m c 1 t) (iblk m c 2 t) (iblk m c 3 t) (iblk m c 4 t) (iblk m c 5 t) s0 s1 (ix2 r k))
    (fun p => ((past (factor ar ai ld (groupOf (chanAt t j)) p) (feed U ar ai ld br bi (groupOf (chanAt t j)) p) (t.val % 11 * 192 + r + 1 - 48)).im : EReal)) (arg7 m c) (chanAt t j) rfl fun p => (hr.im r _).trans (congrArg (fun z : ℂ => ((z.im : ℝ) : EReal)) (hz p))
  refine (congrArg₂ (· + ·) (congrArg₂ (· - ·) h0 h1) rfl).trans ?_
  unfold result
  by_cases hi : t.val % 11 * 192 + r.val < 48
  · rw [dif_pos hi, dif_pos hi, show t.val % 11 * 192 + r.val + 1 - 48 = 0 by omega]
    simp [past]
  · rw [dif_neg hi, dif_neg hi, show t.val % 11 * 192 + r.val + 1 - 48 = t.val % 11 * 192 + r.val - 48 + 1 by omega]

theorem emb_9 (t : Fin cfg0.N) (j : S192x128.Idx) : ((cfg0.win 9).blk t).view.emb j = (ix2 (rowAt t (j 0)) (chanAt t (j 1)) : S2112x512.Idx) := by
  obtain ⟨-, ⟨h0, h1⟩⟩ := idx_in t
  funext a
  apply Fin.ext
  match a with
  | ⟨0, _⟩ => show win0_9.index t 0 * 192 + 1 * (j 0).val = t.val % 11 * 192 + (j 0).val; rw [h0]; omega
  | ⟨1, _⟩ => show win0_9.index t 1 * 128 + 1 * (j 1).val = t.val / 11 * 128 + (j 1).val; rw [h1]; omega

theorem emb_10 (t : Fin cfg0.N) (j : S1x1x1x512.Idx) : ((cfg0.win 10).blk t).view.emb j = (ix4 (blkOf t) (tileOf t) 0 (j 3) : S4x11x1x512.Idx) := by
  obtain ⟨⟨h0, h1, h2, h3⟩, -⟩ := idx_saved t
  have k0 := (j 0).isLt
  have k1 := (j 1).isLt
  have k2 := (j 2).isLt
  funext a
  apply Fin.ext
  match a with
  | ⟨0, _⟩ => show win0_10.index t 0 * 1 + 1 * (j 0).val = t.val / 11; rw [h0]; have : (j 0).val < 1 := k0; omega
  | ⟨1, _⟩ => show win0_10.index t 1 * 1 + 1 * (j 1).val = t.val % 11; rw [h1]; have : (j 1).val < 1 := k1; omega
  | ⟨2, _⟩ => show win0_10.index t 2 * 1 + 1 * (j 2).val = 0; rw [h2]; have : (j 2).val < 1 := k2; omega
  | ⟨3, _⟩ => show win0_10.index t 3 * 512 + 1 * (j 3).val = (j 3).val; rw [h3]; omega

theorem emb_11 (t : Fin cfg0.N) (j : S1x1x1x512.Idx) : ((cfg0.win 11).blk t).view.emb j = (ix4 (blkOf t) (tileOf t) 0 (j 3) : S4x11x1x512.Idx) := by
  obtain ⟨-, ⟨h0, h1, h2, h3⟩⟩ := idx_saved t
  have k0 := (j 0).isLt
  have k1 := (j 1).isLt
  have k2 := (j 2).isLt
  funext a
  apply Fin.ext
  match a with
  | ⟨0, _⟩ => show win0_11.index t 0 * 1 + 1 * (j 0).val = t.val / 11; rw [h0]; have : (j 0).val < 1 := k0; omega
  | ⟨1, _⟩ => show win0_11.index t 1 * 1 + 1 * (j 1).val = t.val % 11; rw [h1]; have : (j 1).val < 1 := k1; omega
  | ⟨2, _⟩ => show win0_11.index t 2 * 1 + 1 * (j 2).val = 0; rw [h2]; have : (j 2).val < 1 := k2; omega
  | ⟨3, _⟩ => show win0_11.index t 3 * 512 + 1 * (j 3).val = (j 3).val; rw [h3]; omega

theorem final_9 (G : Given m c U ar ai ld br bi) : (dats m 0 c).arrAt 9 cfg0.N = fun i : S2112x512.Idx =>
    result (factor ar ai ld) (feed U ar ai ld br bi) (fun g l p => arg6 m c (ix3 g l p)) (fun g l p => arg7 m c (ix3 g l p)) (fun j => arg8 m c (ix1 j)) (fun t j => arg0 m c (ix2 t j)) (i 0) (i 1) := by
  refine (dats m 0 c).arrAt_eq_of_cover 9 _ (fun t hf => ?_) fun (i : S2112x512.Idx) => (covered_iff9 i).mpr ⟨Nat.zero_le _, (i 0).isLt, Nat.zero_le _, (i 1).isLt⟩
  rw [flushed9]
  refine funext fun (j : S192x128.Idx) => ?_
  rw [View.read_apply, emb_9]
  idx_vars j
  exact left_9 G t j0 j1

theorem final_10 (G : Given m c U ar ai ld br bi) : (dats m 0 c).arrAt 10 cfg0.N = fun i : S4x11x1x512.Idx =>
    ((entering (factor ar ai ld) (feed U ar ai ld br bi) (i 0) (i 1) (i 3)).re : EReal) := by
  refine (dats m 0 c).arrAt_eq_of_cover 10 _ (fun t hf => ?_) fun (i : S4x11x1x512.Idx) =>
    (covered_iff10 i).mpr ⟨Nat.zero_le _, (i 0).isLt, Nat.zero_le _, (i 1).isLt, Nat.zero_le _, (i 2).isLt, Nat.zero_le _, (i 3).isLt⟩
  rw [flushed10]
  refine funext fun (j : S1x1x1x512.Idx) => ?_
  rw [View.read_apply, emb_10]
  idx_vars j
  obtain rfl : j0 = 0 := Subsingleton.elim _ _
  obtain rfl : j1 = 0 := Subsingleton.elim _ _
  obtain rfl : j2 = 0 := Subsingleton.elim _ _
  exact left_10 G t j3

theorem final_11 (G : Given m c U ar ai ld br bi) : (dats m 0 c).arrAt 11 cfg0.N = fun i : S4x11x1x512.Idx =>
    ((entering (factor ar ai ld) (feed U ar ai ld br bi) (i 0) (i 1) (i 3)).im : EReal) := by
  refine (dats m 0 c).arrAt_eq_of_cover 11 _ (fun t hf => ?_) fun (i : S4x11x1x512.Idx) =>
    (covered_iff11 i).mpr ⟨Nat.zero_le _, (i 0).isLt, Nat.zero_le _, (i 1).isLt, Nat.zero_le _, (i 2).isLt, Nat.zero_le _, (i 3).isLt⟩
  rw [flushed11]
  refine funext fun (j : S1x1x1x512.Idx) => ?_
  rw [View.read_apply, emb_11]
  idx_vars j
  obtain rfl : j0 = 0 := Subsingleton.elim _ _
  obtain rfl : j1 = 0 := Subsingleton.elim _ _
  obtain rfl : j2 = 0 := Subsingleton.elim _ _
  exact left_11 G t j3

end Carry

end Cert.S5FwdIdeal.Value

end
-- ==== Proof.S5FwdRef.lean ====
/-
  The values of the reference of the forward call of the diagonal state-space layer: its loop over the positions is the
  recurrence.
-/
module

public import proofs.«01_k».proof.Proof.Gen.S5FwdRefIdeal.Run
public import proofs.«01_k».proof.Proof.S5FwdSpec
public import Idealize.ShloMosaic.Lib.DynamicIndex
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.StableHlo

namespace Cert.S5FwdRefIdeal.Value

open Cert.S5FwdRefIdeal Cert.S5FwdRefIdeal.Gen Cert.Scan Cert.S5

section Host
variable (x0 : FVec Ideal S2064x512 .f32) (x1 x2 : FVec Ideal S32x64 .f32) (x3 : FVec Ideal S32 .f32) (x4 x5 : FVec Ideal S32x64x16 .f32)

abbrev h_width : FVec Ideal S32x64 .f32 := broadcastInDim S32x64 ![0, 1] bcast_S32x1_S32x64_0_1 (broadcastInDim S32x1 ![0] bcast_S32_S32x1_0 (Host.exp x3))
abbrev h_pole : FVec Ideal S32x64 .f32 := minimumf x1 (broadcastInDim S32x64 ![] bcast_S_S32x64 (constant S_ .f32 0xB8D1B717#32))
abbrev h_one : FVec Ideal S32x64 .f32 := broadcastInDim S32x64 ![] bcast_S_S32x64 (constant S_ .f32 0x3F800000#32)
def h_are : FVec Ideal S32x64 .f32 := mulf (Host.exp (mulf (h_width x3) (h_pole x1))) (Host.cos (mulf (h_width x3) x2))
def h_aim : FVec Ideal S32x64 .f32 := mulf (Host.exp (mulf (h_width x3) (h_pole x1))) (Host.sin (mulf (h_width x3) x2))
def h_den : FVec Ideal S32x64 .f32 := addf (mulf (h_pole x1) (h_pole x1)) (mulf x2 x2)
def h_fre : FVec Ideal S32x64 .f32 := Host.divf (addf (mulf (subf (h_are x1 x2 x3) h_one) (h_pole x1)) (mulf (h_aim x1 x2 x3) x2)) (h_den x1 x2)
def h_fim : FVec Ideal S32x64 .f32 := Host.divf (subf (mulf (h_aim x1 x2 x3) (h_pole x1)) (mulf (subf (h_are x1 x2 x3) h_one) x2)) (h_den x1 x2)
abbrev h_wide (f : FVec Ideal S32x64 .f32) : FVec Ideal S32x64x16 .f32 :=
  broadcastInDim S32x64x16 ![0, 1, 2] bcast_S32x64x1_S32x64x16_0_1_2 (broadcastInDim S32x64x1 ![0, 1] bcast_S32x64_S32x64x1_0_1 f)
def h_in (b : FVec Ideal S32x64x16 .f32) : FVec Ideal S2064x32x64 .f32 :=
  transpose S2064x32x64 [2, 0, 1] (Host.dotGeneral dot_S32x64x16_S2064x32x16_S32x64x2064_2_2_1_0_0_1 none b (shapeCast S2064x32x16 x0 shapeCasts_S2064x512_S2064x32x16))
    transposes_S32x64x2064_S2064x32x64_2_0_1
def h_bre : FVec Ideal S2064x32x64 .f32 := h_in x0 (subf (mulf (h_wide (h_fre x1 x2 x3)) x4) (mulf (h_wide (h_fim x1 x2 x3)) x5))
def h_bim : FVec Ideal S2064x32x64 .f32 := h_in x0 (addf (mulf (h_wide (h_fre x1 x2 x3)) x5) (mulf (h_wide (h_fim x1 x2 x3)) x4))

variable {x0 x1 x2 x3 x4 x5} {U : Fin 2064 → Fin 512 → ℝ} {ar ai : Fin 32 → Fin 64 → ℝ} {ld : Fin 32 → ℝ} {br bi : Fin 32 → Fin 64 → Fin 16 → ℝ}

theorem decay_at (h1 : ∀ (g : Fin 32) (p : Fin 64), x1 (ix2 g p) = (ar g p : EReal)) (h2 : ∀ (g : Fin 32) (p : Fin 64), x2 (ix2 g p) = (ai g p : EReal))
    (h3 : ∀ g : Fin 32, x3 (ix1 g) = (ld g : EReal)) (g : Fin 32) (p : Fin 64) :
    h_are x1 x2 x3 (ix2 g p) = ((decay (ar g p) (ai g p) (ld g)).re : EReal) ∧ h_aim x1 x2 x3 (ix2 g p) = ((decay (ar g p) (ai g p) (ld g)).im : EReal) := by
  constructor <;> pointwise [h_are, h_aim] <;>
    simp only [h1, h2, h3, ofBits_cut, min_coe, ← EReal.coe_mul, exp_coe, cos_coe, sin_coe] <;> rfl

theorem gain_at (h1 : ∀ (g : Fin 32) (p : Fin 64), x1 (ix2 g p) = (ar g p : EReal)) (h2 : ∀ (g : Fin 32) (p : Fin 64), x2 (ix2 g p) = (ai g p : EReal))
    (h3 : ∀ g : Fin 32, x3 (ix1 g) = (ld g : EReal)) (g : Fin 32) (p : Fin 64) :
    h_fre x1 x2 x3 (ix2 g p) = ((gain (ar g p) (ai g p) (ld g)).re : EReal) ∧ h_fim x1 x2 x3 (ix2 g p) = ((gain (ar g p) (ai g p) (ld g)).im : EReal) := by
  obtain ⟨e1, e2⟩ := decay_at h1 h2 h3 g p
  have e3 : h_den x1 x2 (ix2 g p) = ((min (ar g p) cut * min (ar g p) cut + ai g p * ai g p : ℝ) : EReal) := by
    pointwise [h_den]; simp only [h1, h2, ofBits_cut, min_coe]; rfl
  constructor
  · pointwise [h_fre]
    simp only [e1, e2, e3, h1, h2, ofBits_cut, min_coe, ← EReal.coe_one, ← EReal.coe_sub, ← EReal.coe_mul, ← EReal.coe_add]
    rw [div_coe _ _ (den_ne _ _)]; rfl
  · pointwise [h_fim]
    simp only [e1, e2, e3, h1, h2, ofBits_cut, min_coe, ← EReal.coe_one, ← EReal.coe_sub, ← EReal.coe_mul, ← EReal.coe_add]
    rw [div_coe _ _ (den_ne _ _)]; rfl

theorem in_at (b : FVec Ideal S32x64x16 .f32) (t : Fin 2064) (g : Fin 32) (p : Fin 64) :
    h_in x0 b (ix3 t g p) = ∑ i : Fin 16, b (ix3 g p i) * x0 (ix2 t (chan g i)) := by
  pointwise [h_in]
  rfl

theorem feed_at (h0 : ∀ (t : Fin 2064) (j : Fin 512), x0 (ix2 t j) = (U t j : EReal))
    (h1 : ∀ (g : Fin 32) (p : Fin 64), x1 (ix2 g p) = (ar g p : EReal)) (h2 : ∀ (g : Fin 32) (p : Fin 64), x2 (ix2 g p) = (ai g p : EReal))
    (h3 : ∀ g : Fin 32, x3 (ix1 g) = (ld g : EReal)) (h4 : ∀ (g : Fin 32) (p : Fin 64) (i : Fin 16), x4 (ix3 g p i) = (br g p i : EReal))
    (h5 : ∀ (g : Fin 32) (p : Fin 64) (i : Fin 16), x5 (ix3 g p i) = (bi g p i : EReal)) (t : Fin 2064) (g : Fin 32) (p : Fin 64) :
    h_bre x0 x1 x2 x3 x4 x5 (ix3 t g p) = ((feed U ar ai ld br bi g p t).re : EReal) ∧ h_bim x0 x1 x2 x3 x4 x5 (ix3 t g p) = ((feed U ar ai ld br bi g p t).im : EReal) := by
  obtain ⟨e1, e2⟩ := gain_at h1 h2 h3 g p
  have hf : feed U ar ai ld br bi g p t = ∑ i : Fin 16, (U t (chan g i) : ℂ) * (gain (ar g p) (ai g p) (ld g) * ⟨br g p i, bi g p i⟩) := by
    rw [feed, dif_pos t.isLt]
  rw [hf]
  constructor
  · rw [h_bre, in_at, Complex.re_sum, ← coe_sum]
    refine Finset.sum_congr rfl fun i _ => ?_
    pointwise
    rw [e1, e2, h0, h4, h5]
    norm_cast
    simp only [Complex.mul_re, Complex.mul_im, Complex.ofReal_re, Complex.ofReal_im, zero_mul, sub_zero]
    ring
  · rw [h_bim, in_at, Complex.im_sum, ← coe_sum]
    refine Finset.sum_congr rfl fun i _ => ?_
    pointwise
    rw [e1, e2, h0, h4, h5]
    norm_cast
    simp only [Complex.mul_re, Complex.mul_im, Complex.ofReal_re, Complex.ofReal_im, zero_mul, add_zero]
    ring

end Host

section Rows

theorem row_slice (x : FVec Ideal S2064x32x64 .f32) (st : Fin 3 → Int) (k : ℕ) (hk : k < 2064) (hs : ∀ a, st a = ((![k, 0, 0] : Fin 3 → ℕ) a : Int)) (g : Fin 32) (p : Fin 64) :
    shapeCast S32x64 (Host.dynamicSlice S1x32x64 x st sliceFits_S2064x32x64_S1x32x64) shapeCasts_S1x32x64_S32x64 (ix2 g p) = x (ix3 ⟨k, hk⟩ g p) := by
  have hoff : S2064x32x64.Slices (![k, 0, 0] : Fin 3 → ℕ) S1x32x64 := ⟨rfl, fun a => by
    fin_cases a
    · show k + 1 ≤ 2064; omega
    · show 0 + 32 ≤ 32; omega
    · show 0 + 64 ≤ 64; omega⟩
  rw [Host.dynamicSlice_eq_extractStridedSlice S1x32x64 x st ![k, 0, 0] _ hoff hs]
  pointwise

theorem row_update (x : FVec Ideal S2064x32x64 .f32) (v : FVec Ideal S32x64 .f32) (st : Fin 3 → Int) (k : ℕ) (hk : k < 2064) (hs : ∀ a, st a = ((![k, 0, 0] : Fin 3 → ℕ) a : Int))
    (t : Fin 2064) (g : Fin 32) (p : Fin 64) :
    Host.dynamicUpdateSlice x (broadcastInDim S1x32x64 ![1, 2] bcast_S32x64_S1x32x64_1_2 v) st updateFits_S2064x32x64_S1x32x64 (ix3 t g p) =
      if t.val = k then v (ix2 g p) else x (ix3 t g p) := by
  have hoff : S2064x32x64.Slices (![k, 0, 0] : Fin 3 → ℕ) S1x32x64 := ⟨rfl, fun a => by
    fin_cases a
    · show k + 1 ≤ 2064; omega
    · show 0 + 32 ≤ 32; omega
    · show 0 + 64 ≤ 64; omega⟩
  rw [Host.dynamicUpdateSlice_eq_updateSlice x _ st _ ![k, 0, 0] (fun a => by
    have := hoff.2 a
    rw [hs a]
    omega) hoff]
  pointwise
  by_cases h : t.val = k
  · rw [dif_pos (by omega), if_pos h]
  · rw [dif_neg (by omega), if_neg h]

end Rows

section Loop
variable (m : (ℓ : Loc nD τ sig) → Buf (Elt Ideal) ℓ) (c : Dev nD)

/-- What the loop carries after `k` trips: the factors and inputs as at its entry, the counter at `k`, the state after `k`
    inputs, and the states so far stacked. -/
structure At (A : Fin 32 → Fin 64 → ℂ) (B : Fin 32 → Fin 64 → ℕ → ℂ) (k : ℕ) (V : Valuation τ sig (Elt Ideal)) : Prop where
  bre : ∀ (t : Fin 2064) (g : Fin 32) (p : Fin 64), (V (Proc.devRef .tc main_v52_0) : FVec Ideal S2064x32x64 .f32) (ix3 t g p) = ((B g p t).re : EReal)
  bim : ∀ (t : Fin 2064) (g : Fin 32) (p : Fin 64), (V (Proc.devRef .tc main_v52_1) : FVec Ideal S2064x32x64 .f32) (ix3 t g p) = ((B g p t).im : EReal)
  are : ∀ (g : Fin 32) (p : Fin 64), (V (Proc.devRef .tc main_v52_2) : FVec Ideal S32x64 .f32) (ix2 g p) = ((A g p).re : EReal)
  aim : ∀ (g : Fin 32) (p : Fin 64), (V (Proc.devRef .tc main_v52_3) : FVec Ideal S32x64 .f32) (ix2 g p) = ((A g p).im : EReal)
  ctr : V (Proc.devRef .tc main_v52_4) = fun _ => Scf.iv 0#32 1#32 k
  sre : ∀ (g : Fin 32) (p : Fin 64), (V (Proc.devRef .tc main_v52_5) : FVec Ideal S32x64 .f32) (ix2 g p) = ((past (A g p) (B g p) k).re : EReal)
  sim : ∀ (g : Fin 32) (p : Fin 64), (V (Proc.devRef .tc main_v52_6) : FVec Ideal S32x64 .f32) (ix2 g p) = ((past (A g p) (B g p) k).im : EReal)
  yre : ∀ (t : Fin 2064) (g : Fin 32) (p : Fin 64), t.val < k → (V (Proc.devRef .tc main_v52_7) : FVec Ideal S2064x32x64 .f32) (ix3 t g p) = ((past (A g p) (B g p) (t + 1)).re : EReal)
  yim : ∀ (t : Fin 2064) (g : Fin 32) (p : Fin 64), t.val < k → (V (Proc.devRef .tc main_v52_8) : FVec Ideal S2064x32x64 .f32) (ix3 t g p) = ((past (A g p) (B g p) (t + 1)).im : EReal)

theorem start_at {V : Valuation τ sig (Elt Ideal)} {k : ℕ} (hk : k < 2064) (h : V (Proc.devRef .tc main_v52_4) = fun _ => Scf.iv 0#32 1#32 k) (a : Fin 3) :
    (((![V (Proc.devRef .tc main_v52_4), constantI S_ 32 0#32, constantI S_ 32 0#32] : Fin 3 → (⟨S_, .i32⟩ : BufTy).Contents (Elt Ideal)) a (Shape.Idx.first h_S_) : BitVec 32)).toInt
      = ((![k, 0, 0] : Fin 3 → ℕ) a : Int) := by
  fin_cases a
  · show ((V (Proc.devRef .tc main_v52_4) : IVec S_ 32) (Shape.Idx.first h_S_)).toInt = (k : Int)
    rw [h]
    show (Scf.iv 0#32 1#32 k).toInt = k
    have e : (Scf.iv 0#32 1#32 k).toNat = k := by
      simp only [Scf.iv, zero_add, mul_one, BitVec.zero_add, BitVec.mul_one, BitVec.toNat_ofNat]
      omega
    rw [BitVec.toInt_eq_toNat_of_lt (by omega), e]
  · rfl
  · rfl

variable {A : Fin 32 → Fin 64 → ℂ} {B : Fin 32 → Fin 64 → ℕ → ℂ}

theorem At.next_re {k : ℕ} {V : Valuation τ sig (Elt Ideal)} (hk : k < 2064) (h : At A B k V) (g : Fin 32) (p : Fin 64) :
    (res_main_while0b_v88 V : FVec Ideal S32x64 .f32) (ix2 g p) = ((past (A g p) (B g p) (k + 1)).re : EReal) := by
  have e := row_slice (V (Proc.devRef .tc main_v52_0)) _ k hk (start_at hk h.ctr) g p
  have hb := h.bre ⟨k, hk⟩ g p
  refine (congrArg₂ (fun x y : EReal => x + y) (congrArg₂ (fun x y : EReal => x - y) (congrArg₂ (fun x y : EReal => x * y) (h.are g p) (h.sre g p))
    (congrArg₂ (fun x y : EReal => x * y) (h.aim g p) (h.sim g p))) (e.trans hb)).trans ?_
  simp only [← EReal.coe_mul, ← EReal.coe_sub, ← EReal.coe_add]
  rw [past, Complex.add_re, Complex.mul_re]

theorem At.next_im {k : ℕ} {V : Valuation τ sig (Elt Ideal)} (hk : k < 2064) (h : At A B k V) (g : Fin 32) (p : Fin 64) :
    (res_main_while0b_v92 V : FVec Ideal S32x64 .f32) (ix2 g p) = ((past (A g p) (B g p) (k + 1)).im : EReal) := by
  have e := row_slice (V (Proc.devRef .tc main_v52_1)) _ k hk (start_at hk h.ctr) g p
  have hb := h.bim ⟨k, hk⟩ g p
  refine (congrArg₂ (fun x y : EReal => x + y) (congrArg₂ (fun x y : EReal => x + y) (congrArg₂ (fun x y : EReal => x * y) (h.are g p) (h.sim g p))
    (congrArg₂ (fun x y : EReal => x * y) (h.aim g p) (h.sre g p))) (e.trans hb)).trans ?_
  simp only [← EReal.coe_mul, ← EReal.coe_sub, ← EReal.coe_add]
  rw [past, Complex.add_im, Complex.mul_im]

theorem At.step {k : ℕ} {V : Valuation τ sig (Elt Ideal)} (hk : k < 2064) (h : At A B k V) : At A B (k + 1) (STEP V) where
  bre := by rw [STEP_main_v52_0]; exact h.bre
  bim := by rw [STEP_main_v52_1]; exact h.bim
  are := by rw [STEP_main_v52_2]; exact h.are
  aim := by rw [STEP_main_v52_3]; exact h.aim
  ctr := by
    rw [STEP_main_v52_4, Scf.iv_succ]
    show addi (V (Proc.devRef .tc main_v52_4)) (constantI S_ 32 1#32) = _
    rw [h.ctr]; rfl
  sre := by rw [STEP_main_v52_5]; exact h.next_re hk
  sim := by rw [STEP_main_v52_6]; exact h.next_im hk
  yre := by
    intro t g p ht
    rw [STEP_main_v52_7]
    refine (row_update _ _ _ k hk (start_at hk h.ctr) t g p).trans ?_
    by_cases e : t.val = k
    · rw [if_pos e, h.next_re hk, e]
    · rw [if_neg e, h.yre t g p (by omega)]
  yim := by
    intro t g p ht
    rw [STEP_main_v52_8]
    refine (row_update _ _ _ k hk (start_at hk h.ctr) t g p).trans ?_
    by_cases e : t.val = k
    · rw [if_pos e, h.next_im hk, e]
    · rw [if_neg e, h.yim t g p (by omega)]

theorem At.iterate {V : Valuation τ sig (Elt Ideal)} (h : At A B 0 V) : ∀ k, k ≤ 2064 → At A B k (STEP^[k] V)
  | 0, _ => h
  | k + 1, hk => by
    rw [Function.iterate_succ_apply']
    exact (h.iterate k (by omega)).step (by omega)

abbrev arg0 : FVec Ideal S2064x512 .f32 := m ((c.tc : Thread nD τ).loc main_arg0)
abbrev arg1 : FVec Ideal S32x64 .f32 := m ((c.tc : Thread nD τ).loc main_arg1)
abbrev arg2 : FVec Ideal S32x64 .f32 := m ((c.tc : Thread nD τ).loc main_arg2)
abbrev arg3 : FVec Ideal S32 .f32 := m ((c.tc : Thread nD τ).loc main_arg3)
abbrev arg4 : FVec Ideal S32x64x16 .f32 := m ((c.tc : Thread nD τ).loc main_arg4)
abbrev arg5 : FVec Ideal S32x64x16 .f32 := m ((c.tc : Thread nD τ).loc main_arg5)

theorem entry_0 : entryContents preI m c (Proc.devRef .tc main_v52_0) = h_bre (arg0 m c) (arg1 m c) (arg2 m c) (arg3 m c) (arg4 m c) (arg5 m c) := by
  simp only [entryContents, afterL_cons, afterL_nil]
  after_results
  rfl
theorem entry_1 : entryContents preI m c (Proc.devRef .tc main_v52_1) = h_bim (arg0 m c) (arg1 m c) (arg2 m c) (arg3 m c) (arg4 m c) (arg5 m c) := by
  simp only [entryContents, afterL_cons, afterL_nil]
  after_results
  rfl
theorem entry_2 : entryContents preI m c (Proc.devRef .tc main_v52_2) = h_are (arg1 m c) (arg2 m c) (arg3 m c) := by
  simp only [entryContents, afterL_cons, afterL_nil]
  after_results
  rfl
theorem entry_3 : entryContents preI m c (Proc.devRef .tc main_v52_3) = h_aim (arg1 m c) (arg2 m c) (arg3 m c) := by
  simp only [entryContents, afterL_cons, afterL_nil]
  after_results
  rfl
theorem entry_5 : entryContents preI m c (Proc.devRef .tc main_v52_5) = (broadcastInDim S32x64 ![] bcast_S_S32x64 (constant (F := Ideal) S_ .f32 0x00000000#32)) := by
  simp only [entryContents, afterL_cons, afterL_nil]
  after_results
  rfl
theorem entry_6 : entryContents preI m c (Proc.devRef .tc main_v52_6) = (broadcastInDim S32x64 ![] bcast_S_S32x64 (constant (F := Ideal) S_ .f32 0x00000000#32)) := by
  simp only [entryContents, afterL_cons, afterL_nil]
  after_results
  rfl

theorem At.start {A : Fin 32 → Fin 64 → ℂ} {B : Fin 32 → Fin 64 → ℕ → ℂ}
    (ha : ∀ (g : Fin 32) (p : Fin 64), h_are (arg1 m c) (arg2 m c) (arg3 m c) (ix2 g p) = ((A g p).re : EReal) ∧ h_aim (arg1 m c) (arg2 m c) (arg3 m c) (ix2 g p) = ((A g p).im : EReal))
    (hb : ∀ (t : Fin 2064) (g : Fin 32) (p : Fin 64), h_bre (arg0 m c) (arg1 m c) (arg2 m c) (arg3 m c) (arg4 m c) (arg5 m c) (ix3 t g p) = ((B g p t).re : EReal)
      ∧ h_bim (arg0 m c) (arg1 m c) (arg2 m c) (arg3 m c) (arg4 m c) (arg5 m c) (ix3 t g p) = ((B g p t).im : EReal)) :
    At A B 0 (entryContents preI m c) where
  bre := by rw [entry_0]; exact fun t g p => (hb t g p).1
  bim := by rw [entry_1]; exact fun t g p => (hb t g p).2
  are := by rw [entry_2]; exact fun g p => (ha g p).1
  aim := by rw [entry_3]; exact fun g p => (ha g p).2
  ctr := by rw [ctr_entry]; rfl
  sre := by rw [entry_5]; intro g p; pointwise; simp [past]
  sim := by rw [entry_6]; intro g p; pointwise; simp [past]
  yre := fun _ _ _ h => absurd h (by omega)
  yim := fun _ _ _ h => absurd h (by omega)

end Loop

end Cert.S5FwdRefIdeal.Value

end
-- ==== Proof.S5FwdOut.lean ====
/-
  The results of the reference of the forward call of the diagonal state-space layer, read from the state its loop leaves.
-/
module

public import proofs.«01_k».proof.Proof.S5FwdRef

@[expose] public section

set_option maxRecDepth 16384

noncomputable section

open Idealize.ShloMosaic Idealize.ShloMosaic.TcCoe Idealize.ShloMosaic.StableHlo

namespace Cert.S5FwdRefIdeal.Value

open Cert.S5FwdRefIdeal Cert.S5FwdRefIdeal.Gen Cert.Scan Cert.S5

section Out
variable {A : Fin 32 → Fin 64 → ℂ} {B : Fin 32 → Fin 64 → ℕ → ℂ} {V : Valuation τ sig (Elt Ideal)}

theorem out_y_at (h : At A B 2064 V) (i : Fin 2112) (j : Fin 512) : (out_main_v64 V : FVec Ideal S2112x512 .f32) (ix2 i j)
    = result A B (fun g l p => (V (Proc.devRef .tc main_arg6) : FVec Ideal S32x16x64 .f32) (ix3 g l p)) (fun g l p => (V (Proc.devRef .tc main_arg7) : FVec Ideal S32x16x64 .f32) (ix3 g l p))
        (fun j => (V (Proc.devRef .tc main_arg8) : FVec Ideal S512 .f32) (ix1 j)) (fun t j => (V (Proc.devRef .tc main_arg0) : FVec Ideal S2064x512 .f32) (ix2 t j)) i j := by
  pointwise [out_main_v64]
  unfold result
  by_cases hi : i.val < 48
  · rw [dif_pos hi, dif_pos hi]
  · rw [dif_neg hi, dif_neg hi]
    refine congrArg₂ (· + ·) (congrArg₂ (· - ·) (Finset.sum_congr rfl fun p _ => congrArg₂ (· * ·) rfl ?_) (Finset.sum_congr rfl fun p _ => congrArg₂ (· * ·) rfl ?_)) rfl
    · exact h.yre ⟨i - 48, by omega⟩ (groupOf j) p (by dsimp only; omega)
    · exact h.yim ⟨i - 48, by omega⟩ (groupOf j) p (by dsimp only; omega)

theorem out_re_at (h : At A B 2064 V) (q : Fin 4) (i : Fin 11) (j : Fin 512) :
    (out_main_v73 V : FVec Ideal S4x11x1x512 .f32) (ix4 q i 0 j) = ((entering A B q i j).re : EReal) := by
  pointwise [out_main_v73]
  unfold entering
  by_cases hi : i.val * 192 < 49
  · rw [dif_pos hi, show 192 * i.val - 48 = 0 by omega, past]
    rfl
  · rw [dif_neg hi]
    have e := h.yre ⟨i * 192 - 49, by omega⟩ ⟨(q * 512 + j) / 64, by omega⟩ ⟨(q * 512 + j) % 64, by omega⟩ (by dsimp only; omega)
    rw [show 192 * i.val - 48 = i.val * 192 - 49 + 1 by omega]
    exact e

theorem out_im_at (h : At A B 2064 V) (q : Fin 4) (i : Fin 11) (j : Fin 512) :
    (out_main_v82 V : FVec Ideal S4x11x1x512 .f32) (ix4 q i 0 j) = ((entering A B q i j).im : EReal) := by
  pointwise [out_main_v82]
  unfold entering
  by_cases hi : i.val * 192 < 49
  · rw [dif_pos hi, show 192 * i.val - 48 = 0 by omega, past]
    rfl
  · rw [dif_neg hi]
    have e := h.yim ⟨i * 192 - 49, by omega⟩ ⟨(q * 512 + j) / 64, by omega⟩ ⟨(q * 512 + j) % 64, by omega⟩ (by dsimp only; omega)
    rw [show 192 * i.val - 48 = i.val * 192 - 49 + 1 by omega]
    exact e

end Out

end Cert.S5FwdRefIdeal.Value

end
-- ==== Proof.S5FwdClaims.lean ====
/-
  The claims about the forward call of the diagonal state-space layer.
-/
module

public import proofs.«01_k».proof.Defs
public import proofs.«01_k».proof.Proof.S5FwdValue
public import proofs.«01_k».proof.Proof.S5FwdOut
public import proofs.«01_k».proof.Proof.Finite
public import proofs.«01_k».proof.Proof.Gen.S5Fwd.Frame
public import proofs.«01_k».proof.Proof.Gen.S5FwdIdeal.Value
public import proofs.«01_k».proof.Proof.Gen.S5FwdRefIdeal.Run
public import proofs.«01_k».proof.Proof.Gen.Pre_s5_finite
public import Idealize.ShloMosaic.Lib.Quiescent
public import Idealize.ShloMosaic.Lib.ReduceAll

@[expose] public section

set_option maxRecDepth 16384

noncomputable section

open Idealize.ShloMosaic Idealize.ShloMosaic.TcCoe Idealize.SL.Sem Idealize.ShloMosaic.StableHlo

namespace Cert.S5FwdRefIdeal.Value

open Cert.S5FwdRefIdeal Cert.S5FwdRefIdeal.Gen Cert.Scan Cert.S5
open Cert.S5FwdIdeal.Value (factor)

variable {m : (ℓ : Loc nD τ sig) → Buf (Elt Ideal) ℓ} {c : Dev nD}
variable {U : Fin 2064 → Fin 512 → ℝ} {ar ai : Fin 32 → Fin 64 → ℝ} {ld : Fin 32 → ℝ} {br bi : Fin 32 → Fin 64 → Fin 16 → ℝ}

/-- After its last step the reference's loop holds every state of the recurrence. -/
theorem ended (h0 : ∀ (t : Fin 2064) (j : Fin 512), arg0 m c (ix2 t j) = (U t j : EReal))
    (h1 : ∀ (g : Fin 32) (p : Fin 64), arg1 m c (ix2 g p) = (ar g p : EReal)) (h2 : ∀ (g : Fin 32) (p : Fin 64), arg2 m c (ix2 g p) = (ai g p : EReal))
    (h3 : ∀ g : Fin 32, arg3 m c (ix1 g) = (ld g : EReal)) (h4 : ∀ (g : Fin 32) (p : Fin 64) (i : Fin 16), arg4 m c (ix3 g p i) = (br g p i : EReal))
    (h5 : ∀ (g : Fin 32) (p : Fin 64) (i : Fin 16), arg5 m c (ix3 g p i) = (bi g p i : EReal)) :
    At (factor ar ai ld) (feed U ar ai ld br bi) 2064 (STEP^[2064] (entryContents preI m c)) :=
  (At.start m c (fun g p => decay_at h1 h2 h3 g p) (fun t g p => feed_at h0 h1 h2 h3 h4 h5 t g p)).iterate 2064 le_rfl

end Cert.S5FwdRefIdeal.Value

namespace Cert.Proof

open Cert.S5 Cert.Scan
open Cert.S5FwdIdeal.Value (factor Given final_9 final_10 final_11)

theorem s5fwd_frame : Cert.quiescent_S5Fwd (hS5Fwd := Cert.S5Fwd.Gen.facts) := fun m ρ _ => Cert.S5Fwd.Gen.frame m ρ

theorem s5fwd_ideal_frame : Cert.quiescent_S5FwdIdeal (hS5FwdIdeal := Cert.S5FwdIdeal.Gen.facts) := fun m ρ _ => Cert.S5FwdIdeal.Gen.frame m ρ

theorem s5fwd_ideal_frame_pre : Cert.quiescent_S5FwdIdeal_pre_s5_finite (hS5FwdIdeal := Cert.S5FwdIdeal.Gen.facts)
    (hPre_s5_finite := Cert.Pre_s5_finite.Gen.facts) := fun m ρ _ => Cert.S5FwdIdeal.Gen.frame m ρ

theorem s5fwd_ref_frame : Cert.quiescent_S5FwdRefIdeal (hS5FwdRefIdeal := Cert.S5FwdRefIdeal.Gen.facts) := fun m ρ _ =>
  (θ_run Cert.S5FwdRefIdeal.defs _ _).mono (fun r h => ⟨fun c => (h c).2.2.2, sem_eq_zero_of_no_sems (by decide) r.2⟩)
    (Cert.S5FwdRefIdeal.Value.run (F := Ideal) m ρ)

theorem s5fwd_ref_frame_pre : Cert.quiescent_S5FwdRefIdeal_pre_s5_finite (hS5FwdRefIdeal := Cert.S5FwdRefIdeal.Gen.facts)
    (hPre_s5_finite := Cert.Pre_s5_finite.Gen.facts) := fun m ρ _ => s5fwd_ref_frame m ρ trivial

instance s5_one_index : Subsingleton Cert.Pre_s5_finite.S_.Idx := ⟨fun a b => funext fun i => i.elim0⟩

/-- What the precondition states of the arguments: those that the recurrence reads are real. -/
theorem s5_finite_args (x0 : Vec Ideal Cert.S5FwdIdeal.S2064x512 .f32) (x1 x2 : Vec Ideal Cert.S5FwdIdeal.S32x64 .f32) (x3 : Vec Ideal Cert.S5FwdIdeal.S32 .f32) (x4 x5 : Vec Ideal Cert.S5FwdIdeal.S32x64x16 .f32)
    (x6 x7 : Vec Ideal Cert.S5FwdIdeal.S32x16x64 .f32) (x8 : Vec Ideal Cert.S5FwdIdeal.S512 .f32) (h : @Cert.Pre_s5_finite.fn Cert.Pre_s5_finite.Gen.facts Ideal _ x0 x1 x2 x3 x4 x5 x6 x7 x8 = fun _ => 1#1) :
    (∀ i, ∃ a : ℝ, x0 i = a) ∧ (∀ i, ∃ a : ℝ, x1 i = a) ∧ (∀ i, ∃ a : ℝ, x2 i = a) ∧ (∀ i, ∃ a : ℝ, x3 i = a) ∧ (∀ i, ∃ a : ℝ, x4 i = a) ∧ (∀ i, ∃ a : ℝ, x5 i = a) := by
  have h' := congrFun h ix0
  unfold Cert.Pre_s5_finite.fn Cert.Pre_s5_finite.fn_part1 at h'
  obtain ⟨h', h5⟩ := IntOp.andi_eq_one.mp h'
  obtain ⟨h', h4⟩ := IntOp.andi_eq_one.mp h'
  obtain ⟨h', h3⟩ := IntOp.andi_eq_one.mp h'
  obtain ⟨h', h2⟩ := IntOp.andi_eq_one.mp h'
  obtain ⟨h0, h1⟩ := IntOp.andi_eq_one.mp h'
  exact ⟨fun i => real_of_below _ (Host.reduce_andi_all _ _ _ _ _ h0 i), fun i => real_of_below _ (Host.reduce_andi_all _ _ _ _ _ h1 i),
    fun i => real_of_below _ (Host.reduce_andi_all _ _ _ _ _ h2 i), fun i => real_of_below _ (Host.reduce_andi_all _ _ _ _ _ h3 i),
    fun i => real_of_below _ (Host.reduce_andi_all _ _ _ _ _ h4 i), fun i => real_of_below _ (Host.reduce_andi_all _ _ _ _ _ h5 i)⟩

theorem s5fwd_algebraic : Cert.algebraic_S5FwdIdeal_S5FwdRefIdeal_pre_s5_finite (hS5FwdIdeal := Cert.S5FwdIdeal.Gen.facts)
    (hS5FwdRefIdeal := Cert.S5FwdRefIdeal.Gen.facts) (hPre_s5_finite := Cert.Pre_s5_finite.Gen.facts) := fun m ρ m' ρ' hpre hagree =>
  ⟨_, _, _, Cert.S5FwdIdeal.Value.run_blocks m ρ,
    (θ_run Cert.S5FwdRefIdeal.defs _ _).mono (fun r h c => by
    obtain ⟨e0, e1, e2, e3, e4, e5, e6, e7, e8⟩ := hagree c
    obtain ⟨h0, h1, h2, hargs⟩ := h c
    obtain ⟨f0, f1, f2, f3, f4, f5⟩ := s5_finite_args _ _ _ _ _ _ _ _ _ (hpre c)
    choose u0 k0 using f0
    choose u1 k1 using f1
    choose u2 k2 using f2
    choose u3 k3 using f3
    choose u4 k4 using f4
    choose u5 k5 using f5
    have G : Given m c (fun t j => u0 (ix2 t j)) (fun g p => u1 (ix2 g p)) (fun g p => u2 (ix2 g p)) (fun g => u3 (ix1 g)) (fun g p i => u4 (ix3 g p i)) (fun g p i => u5 (ix3 g p i)) :=
      ⟨fun _ _ => k0 _, fun _ _ => k1 _, fun _ _ => k2 _, fun _ => k3 _, fun _ _ _ => k4 _, fun _ _ _ => k5 _⟩
    have E := Cert.S5FwdRefIdeal.Value.ended (m := m') (c := c) (U := fun t j => u0 (ix2 t j)) (ar := fun g p => u1 (ix2 g p)) (ai := fun g p => u2 (ix2 g p)) (ld := fun g => u3 (ix1 g))
      (br := fun g p i => u4 (ix3 g p i)) (bi := fun g p i => u5 (ix3 g p i))
      (fun _ _ => (congrFun e0 _).trans (k0 _)) (fun _ _ => (congrFun e1 _).trans (k1 _)) (fun _ _ => (congrFun e2 _).trans (k2 _)) (fun _ => (congrFun e3 _).trans (k3 _))
      (fun _ _ _ => (congrFun e4 _).trans (k4 _)) (fun _ _ _ => (congrFun e5 _).trans (k5 _))
    refine ⟨h0.trans ?_, h1.trans ?_, h2.trans ?_, hargs⟩
    · rw [final_9 G]
      funext (i : Cert.S5FwdIdeal.S2112x512.Idx)
      idx_vars i
      refine (Cert.S5FwdRefIdeal.Value.out_y_at E i0 i1).trans ?_
      rw [Cert.S5FwdRefIdeal.Value.iter_main_arg6, Cert.S5FwdRefIdeal.Value.iter_main_arg7, Cert.S5FwdRefIdeal.Value.iter_main_arg8, Cert.S5FwdRefIdeal.Value.iter_main_arg0]
      rw [e0, e6, e7, e8]
    · rw [final_10 G]
      funext (i : Cert.S5FwdIdeal.S4x11x1x512.Idx)
      idx_vars i
      obtain rfl : i2 = 0 := Subsingleton.elim _ _
      exact Cert.S5FwdRefIdeal.Value.out_re_at E i0 i1 i3
    · rw [final_11 G]
      funext (i : Cert.S5FwdIdeal.S4x11x1x512.Idx)
      idx_vars i
      obtain rfl : i2 = 0 := Subsingleton.elim _ _
      exact Cert.S5FwdRefIdeal.Value.out_im_at E i0 i1 i3) (Cert.S5FwdRefIdeal.Value.run (F := Ideal) m' ρ')⟩

end Cert.Proof

end
-- ==== Proof.Affine.lean ====
/-
  A linear recurrence whose factor changes from step to step, over the extended reals, and the doubling scan that computes
  it. The factors are not negative and not infinite, so that a product with one of them distributes over a sum.
-/
module

public import Mathlib.Data.EReal.Inv
public import Mathlib.Tactic.Ring

@[expose] public section

namespace Cert.Affine

/-- A factor that distributes over every sum. -/
structure Factor (a : EReal) : Prop where
  nonneg : 0 ≤ a
  finite : a ≠ ⊤

theorem Factor.mul_add {a : EReal} (h : Factor a) (x y : EReal) : a * (x + y) = a * x + a * y :=
  EReal.left_distrib_of_nonneg_of_ne_top h.nonneg h.finite x y

/-- The recurrence `s ↦ a s + b` over `n` steps from step `i`, started at nothing. -/
noncomputable def run (a b : ℕ → EReal) (i : ℕ) : ℕ → EReal
  | 0 => 0
  | n + 1 => a (i + n) * run a b i n + b (i + n)

/-- The product of the factors of `n` steps from step `i`. -/
noncomputable def fac (a : ℕ → EReal) (i : ℕ) : ℕ → EReal
  | 0 => 1
  | n + 1 => a (i + n) * fac a i n

variable {a b : ℕ → EReal}

theorem fac_add (i n : ℕ) : ∀ k, fac a i (n + k) = fac a (i + n) k * fac a i n
  | 0 => by rw [Nat.add_zero, fac, one_mul]
  | k + 1 => by rw [← Nat.add_assoc, fac, fac_add i n k, fac, Nat.add_assoc, mul_assoc]

theorem run_add (h : ∀ t, Factor (a t)) (i n : ℕ) : ∀ k, run a b i (n + k) = fac a (i + n) k * run a b i n + run a b (i + n) k
  | 0 => by rw [Nat.add_zero, fac, one_mul, run, add_zero]
  | k + 1 => by rw [← Nat.add_assoc, run, run_add h i n k, (h _).mul_add, fac, run, Nat.add_assoc, mul_assoc, add_assoc]

/-- The recurrence, and the product of its factors, over the last `w` steps up to step `r`. -/
noncomputable def last (a b : ℕ → EReal) (w r : ℕ) : EReal := run a b (r + 1 - w) (min w (r + 1))
noncomputable def lastFac (a : ℕ → EReal) (w r : ℕ) : EReal := fac a (r + 1 - w) (min w (r + 1))

theorem last_one (r : ℕ) : last a b 1 r = b r := by
  rw [last, Nat.min_eq_left (by omega), run, run, mul_zero, zero_add]; rfl

theorem lastFac_one (r : ℕ) : lastFac a 1 r = a r := by
  rw [lastFac, Nat.min_eq_left (by omega), fac, fac, mul_one]; rfl

theorem last_twice (h : ∀ t, Factor (a t)) (w r : ℕ) :
    last a b (w + w) r = lastFac a w r * (if r < w then 0 else last a b w (r - w)) + last a b w r := by
  by_cases hr : r < w
  · rw [if_pos hr, mul_zero, zero_add, last, last, Nat.min_eq_right (by omega), Nat.min_eq_right (by omega), Nat.sub_eq_zero_of_le (by omega), Nat.sub_eq_zero_of_le (by omega)]
  · rw [if_neg hr, last, last, last, lastFac]
    have e := run_add (b := b) h (r + 1 - (w + w)) (min w (r - w + 1)) w
    rw [show r + 1 - (w + w) + min w (r - w + 1) = r + 1 - w by omega, show min w (r - w + 1) + w = min (w + w) (r + 1) by omega] at e
    rw [e, show r - w + 1 - w = r + 1 - (w + w) by omega, Nat.min_eq_left (by omega : w ≤ r + 1)]

theorem lastFac_twice (w r : ℕ) : lastFac a (w + w) r = lastFac a w r * if r < w then 1 else lastFac a w (r - w) := by
  by_cases hr : r < w
  · rw [if_pos hr, mul_one, lastFac, lastFac, Nat.min_eq_right (by omega), Nat.min_eq_right (by omega), Nat.sub_eq_zero_of_le (by omega), Nat.sub_eq_zero_of_le (by omega)]
  · rw [if_neg hr, lastFac, lastFac, lastFac]
    have e := fac_add (a := a) (r + 1 - (w + w)) (min w (r - w + 1)) w
    rw [show r + 1 - (w + w) + min w (r - w + 1) = r + 1 - w by omega, show min w (r - w + 1) + w = min (w + w) (r + 1) by omega] at e
    rw [e, show r - w + 1 - w = r + 1 - (w + w) by omega, Nat.min_eq_left (by omega : w ≤ r + 1)]

/-- A window wider than the steps so far holds every step. -/
theorem last_wide (w r : ℕ) (h : r < w) : last a b w r = run a b 0 (r + 1) := by
  rw [last, Nat.min_eq_right (by omega), Nat.sub_eq_zero_of_le (by omega)]

/-- The recurrence continued from step `n`: the state carried there is folded into the first input. -/
theorem run_from (n : ℕ) {a' b' : ℕ → EReal} (ha : ∀ r, a' r = a (n + r)) (hb0 : b' 0 = b n + a n * run a b 0 n) (hb : ∀ r, b' (r + 1) = b (n + (r + 1))) :
    ∀ r, run a' b' 0 (r + 1) = run a b 0 (n + r + 1)
  | 0 => by rw [run, run, mul_zero, zero_add, Nat.zero_add, hb0, run, Nat.zero_add, add_comm]
  | r + 1 => by
    show a' (0 + (r + 1)) * run a' b' 0 (r + 1) + b' (0 + (r + 1)) = a (0 + (n + (r + 1))) * run a b 0 (n + (r + 1)) + b (0 + (n + (r + 1)))
    rw [run_from n ha hb0 hb r, Nat.zero_add, Nat.zero_add, ha, hb]
    rfl

/-- Steps in front whose inputs are nothing leave the state at nothing. -/
theorem run_padded (d : ℕ) {a' b' : ℕ → EReal} (h0 : ∀ t, t < d → b' t = 0) (ha : ∀ t, d ≤ t → a' t = a (t - d)) (hb : ∀ t, d ≤ t → b' t = b (t - d)) :
    ∀ t, run a' b' 0 t = run a b 0 (t - d)
  | 0 => by rw [Nat.zero_sub]; rfl
  | t + 1 => by
    rw [run, run_padded d h0 ha hb t, Nat.zero_add]
    by_cases h : t < d
    · rw [h0 t h, Nat.sub_eq_zero_of_le (by omega), Nat.sub_eq_zero_of_le (by omega), run, mul_zero, add_zero]
    · rw [ha t (by omega), hb t (by omega), Nat.succ_sub (by omega), run, Nat.zero_add]

end Cert.Affine

end
-- ==== Proof.LruMath.lean ====
/-
  The gates of the gated linear recurrence among the extended reals: the logarithm of its factor is never positive, so the
  factor distributes over every sum, and one minus the factor's square is the same by either formula.
-/
module

public import proofs.«01_k».proof.Proof.Affine
public import proofs.«01_k».proof.Proof.S5Math
public import proofs.«01_k».proof.Proof.Consts

@[expose] public section

noncomputable section

open Idealize.ShloMosaic

namespace Cert.Lru

open Cert.Affine Cert.S5

theorem logistic_nonneg : ∀ x : EReal, 0 ≤ Ideal.logistic x := by
  refine EReal.rec ?_ (fun r => ?_) ?_
  · rw [Ideal.logistic_bot]
  · rw [Ideal.logistic_coe]
    exact_mod_cast (inv_pos.mpr (by positivity)).le
  · rw [Ideal.logistic_top]
    exact zero_le_one

theorem exp_nonneg : ∀ x : EReal, 0 ≤ Ideal.exp x := by
  refine EReal.rec ?_ (fun r => ?_) ?_
  · exact le_rfl
  · exact EReal.coe_nonneg.mpr (Real.exp_pos r).le
  · exact le_top

theorem log1p_nonneg : ∀ x : EReal, 0 ≤ x → 0 ≤ Ideal.log1p x := by
  refine EReal.rec ?_ (fun r => ?_) ?_
  · exact fun h => absurd h (by simp)
  · intro h
    have hr : (0 : ℝ) ≤ r := by exact_mod_cast h
    have e : (1 : EReal) + (r : EReal) = ((1 + r : ℝ) : EReal) := by push_cast; rfl
    show 0 ≤ Ideal.log (1 + (r : EReal))
    rw [e]
    show 0 ≤ if 1 + r ≤ 0 then (⊥ : EReal) else (Real.log (1 + r) : EReal)
    rw [if_neg (by linarith)]
    exact_mod_cast Real.log_nonneg (by linarith)
  · intro _
    show 0 ≤ Ideal.log (1 + ⊤)
    rw [EReal.add_top_of_ne_bot (show (1 : EReal) ≠ ⊥ from EReal.coe_ne_bot 1)]
    exact le_top

/-- The smooth positive part. -/
def soft (s : EReal) : EReal := max s 0 + Ideal.log1p (Ideal.exp (-max s (-s)))

theorem soft_nonneg (s : EReal) : 0 ≤ soft s := add_nonneg (le_max_right _ _) (log1p_nonneg _ (exp_nonneg _))

/-- The logarithm of the factor, from the gate's argument and the rate's. -/
def logFactor (x l : EReal) : EReal := Ideal.ofBits .f32 0xC1000000#32 * Ideal.logistic x * soft (-l)

theorem ofBits_minus_eight : Ideal.ofBits .f32 0xC1000000#32 = ((-8 : ℝ) : EReal) := by
  simp [Ideal.ofBits, Ideal.ieee, -EReal.coe_mul]; norm_num
theorem ofBits_minus_two : Ideal.ofBits .f32 0xC0000000#32 = ((-2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = 1 := by
  have e : Ideal.ofBits .f32 0x3F800000#32 = ((1 : ℝ) : EReal) := by simp [Ideal.ofBits, Ideal.ieee, -EReal.coe_mul]; norm_num
  rw [e, EReal.coe_one]
theorem ofBits_zero : Ideal.ofBits .f32 0x00000000#32 = 0 := by simp [Ideal.ofBits, Ideal.ieee]

theorem logFactor_nonpos (x l : EReal) : logFactor x l ≤ 0 := by
  have h : logFactor x l = -(((8 : ℝ) : EReal) * Ideal.logistic x * soft (-l)) := by
    rw [logFactor, ofBits_minus_eight, show (-8 : ℝ) = -(8 : ℝ) from rfl, EReal.coe_neg, EReal.neg_mul, EReal.neg_mul]
  rw [h, ← EReal.neg_le_neg_iff, neg_neg, neg_zero]
  exact mul_nonneg (mul_nonneg (by exact_mod_cast (by norm_num : (0 : ℝ) ≤ 8)) (logistic_nonneg _)) (soft_nonneg _)

/-- The factor of a step. -/
def factor (x l : EReal) : EReal := Ideal.exp (logFactor x l)

theorem exp_factor : ∀ z : EReal, z ≤ 0 → Factor (Ideal.exp z) := by
  refine EReal.rec ?_ (fun r => ?_) ?_
  · exact fun _ => ⟨le_rfl, EReal.zero_ne_top⟩
  · exact fun _ => ⟨exp_nonneg _, EReal.coe_ne_top _⟩
  · exact fun h => absurd h (by simp)

theorem factor_factor (x l : EReal) : Factor (factor x l) := exp_factor _ (logFactor_nonpos x l)

/-- One less an exponential, from the hyperbolic tangent. -/
theorem less_exp : ∀ z : EReal, z ≤ 0 →
    Ideal.div (Ideal.ofBits .f32 0xC0000000#32 * Ideal.tanh (Ideal.ofBits .f32 0x3F000000#32 * z)) (1 - Ideal.tanh (Ideal.ofBits .f32 0x3F000000#32 * z)) = -(Ideal.exp z - 1) := by
  rw [Cert.Consts.ofBits_half, ofBits_minus_two]
  refine EReal.rec ?_ (fun r => ?_) ?_
  · intro _
    rw [EReal.coe_mul_bot_of_pos (by norm_num)]
    show Ideal.div (((-2 : ℝ) : EReal) * (-1)) (1 - (-1)) = -(0 - 1)
    have e : Ideal.div ((2 : ℝ) : EReal) ((2 : ℝ) : EReal) = ((1 : ℝ) : EReal) := by rw [div_coe _ _ (by norm_num)]; norm_num
    have e1 : ((-2 : ℝ) : EReal) * (-1) = ((2 : ℝ) : EReal) := by
      rw [show (-1 : EReal) = ((-1 : ℝ) : EReal) by push_cast; rfl, ← EReal.coe_mul]; norm_num
    have e2 : (1 : EReal) - (-1) = ((2 : ℝ) : EReal) := by
      rw [show (-1 : EReal) = ((-1 : ℝ) : EReal) by push_cast; rfl, ← EReal.coe_one, ← EReal.coe_sub]; norm_num
    have e3 : -((0 : EReal) - 1) = ((1 : ℝ) : EReal) := by
      rw [← EReal.coe_zero, ← EReal.coe_one, ← EReal.coe_sub, ← EReal.coe_neg]; norm_num
    rw [e1, e2, e, e3]
  · intro _
    rw [← EReal.coe_mul]
    show Ideal.div (((-2 : ℝ) : EReal) * ((Real.tanh (1 / 2 * r) : ℝ) : EReal)) (1 - ((Real.tanh (1 / 2 * r) : ℝ) : EReal)) = -((Real.exp r : ℝ) - 1)
    have hp := Real.exp_pos (1 / 2 * r)
    have hn := Real.exp_pos (-(1 / 2 * r))
    have hm : Real.exp (1 / 2 * r) * Real.exp (-(1 / 2 * r)) = 1 := by rw [← Real.exp_add, add_neg_cancel, Real.exp_zero]
    have hs : Real.exp r = Real.exp (1 / 2 * r) * Real.exp (1 / 2 * r) := by rw [← Real.exp_add]; ring_nf
    have ht : Real.tanh (1 / 2 * r) = (Real.exp (1 / 2 * r) - Real.exp (-(1 / 2 * r))) / (Real.exp (1 / 2 * r) + Real.exp (-(1 / 2 * r))) := by
      rw [Real.tanh_eq_sinh_div_cosh, Real.sinh_eq, Real.cosh_eq]; field_simp
    have hd : 1 - Real.tanh (1 / 2 * r) = 2 * Real.exp (-(1 / 2 * r)) / (Real.exp (1 / 2 * r) + Real.exp (-(1 / 2 * r))) := by
      rw [ht]; field_simp; ring
    rw [← EReal.coe_one, ← EReal.coe_sub, ← EReal.coe_sub, ← EReal.coe_neg, ← EReal.coe_mul, div_coe _ _ (by rw [hd]; positivity)]
    refine congrArg _ ?_
    rw [hd, ht, hs]
    generalize Real.exp (1 / 2 * r) = p at hp hm ⊢
    generalize Real.exp (-(1 / 2 * r)) = n at hn hm ⊢
    obtain rfl : n = p⁻¹ := (inv_eq_of_mul_eq_one_right hm).symm
    field_simp
  · exact fun h => absurd h (by simp)

end Cert.Lru

end
-- ==== Proof.LruTile.lean ====
/-
  One tile of the forward call of the gated linear recurrence: its doubling scan over the 192 rows is the recurrence.
-/
module

public import proofs.«01_k».proof.Proof.Gen.LruFwdIdeal.Skeleton
public import proofs.«01_k».proof.Proof.LruMath
public import proofs.«01_k».proof.Proof.Consts
public import Idealize.ShloMosaic.Lib.Pointwise

@[expose] public section

set_option maxRecDepth 16384

noncomputable section

open Idealize.ShloMosaic Idealize.ShloMosaic.TcCoe

namespace Cert.LruFwdIdeal.Value

open Cert.LruFwdIdeal Cert.LruFwdIdeal.Gen Cert.Affine Cert.Lru

/-- An array of rows holds a sequence of numbers in each lane. -/
def Rows (x : FVec Ideal S192x512 .f32) (Z : Fin 512 → ℕ → EReal) : Prop := ∀ (r : Fin 192) (n : Fin 512), x (ix2 r n) = Z n r

/-- An array shifted down by `s` rows, with `f` in front. -/
def Shifted (f : EReal) (s : ℕ) (d x : FVec Ideal S192x512 .f32) : Prop :=
  ∀ (r : Fin 192) (n : Fin 512), d (ix2 r n) = if h : r.val < s then f else x (ix2 ⟨r.val - s, by omega⟩ n)

theorem shift_1 (w : BitVec 32) (x : FVec Ideal S192x512 .f32) : Shifted (Ideal.ofBits .f32 w) 1 (concatenate S192x512 0 [⟨S1x512, broadcast S1x512 (Scalar.ofBits (F := Ideal) .f32 w)⟩,
    ⟨S191x512, extractStridedSlice S191x512 ![0, 0] x slices_S192x512_o0_0_S191x512⟩] concatenates_S1x512_S191x512_S192x512_d0) x := by
  intro r n; pointwise; try rfl

theorem shift_2 (w : BitVec 32) (x : FVec Ideal S192x512 .f32) : Shifted (Ideal.ofBits .f32 w) 2 (concatenate S192x512 0 [⟨S2x512, broadcast S2x512 (Scalar.ofBits (F := Ideal) .f32 w)⟩,
    ⟨S190x512, extractStridedSlice S190x512 ![0, 0] x slices_S192x512_o0_0_S190x512⟩] concatenates_S2x512_S190x512_S192x512_d0) x := by
  intro r n; pointwise; try rfl

theorem shift_4 (w : BitVec 32) (x : FVec Ideal S192x512 .f32) : Shifted (Ideal.ofBits .f32 w) 4 (concatenate S192x512 0 [⟨S4x512, broadcast S4x512 (Scalar.ofBits (F := Ideal) .f32 w)⟩,
    ⟨S188x512, extractStridedSlice S188x512 ![0, 0] x slices_S192x512_o0_0_S188x512⟩] concatenates_S4x512_S188x512_S192x512_d0) x := by
  intro r n; pointwise; try rfl

theorem shift_8 (w : BitVec 32) (x : FVec Ideal S192x512 .f32) : Shifted (Ideal.ofBits .f32 w) 8 (concatenate S192x512 0 [⟨S8x512, broadcast S8x512 (Scalar.ofBits (F := Ideal) .f32 w)⟩,
    ⟨S184x512, extractStridedSlice S184x512 ![0, 0] x slices_S192x512_o0_0_S184x512⟩] concatenates_S8x512_S184x512_S192x512_d0) x := by
  intro r n; pointwise; try rfl

theorem shift_16 (w : BitVec 32) (x : FVec Ideal S192x512 .f32) : Shifted (Ideal.ofBits .f32 w) 16 (concatenate S192x512 0 [⟨S16x512, broadcast S16x512 (Scalar.ofBits (F := Ideal) .f32 w)⟩,
    ⟨S176x512, extractStridedSlice S176x512 ![0, 0] x slices_S192x512_o0_0_S176x512⟩] concatenates_S16x512_S176x512_S192x512_d0) x := by
  intro r n; pointwise; try rfl

theorem shift_32 (w : BitVec 32) (x : FVec Ideal S192x512 .f32) : Shifted (Ideal.ofBits .f32 w) 32 (concatenate S192x512 0 [⟨S32x512, broadcast S32x512 (Scalar.ofBits (F := Ideal) .f32 w)⟩,
    ⟨S160x512, extractStridedSlice S160x512 ![0, 0] x slices_S192x512_o0_0_S160x512⟩] concatenates_S32x512_S160x512_S192x512_d0) x := by
  intro r n; pointwise; try rfl

theorem shift_64 (w : BitVec 32) (x : FVec Ideal S192x512 .f32) : Shifted (Ideal.ofBits .f32 w) 64 (concatenate S192x512 0 [⟨S64x512, broadcast S64x512 (Scalar.ofBits (F := Ideal) .f32 w)⟩,
    ⟨S128x512, extractStridedSlice S128x512 ![0, 0] x slices_S192x512_o0_0_S128x512⟩] concatenates_S64x512_S128x512_S192x512_d0) x := by
  intro r n; pointwise; try rfl

theorem shift_128 (w : BitVec 32) (x : FVec Ideal S192x512 .f32) : Shifted (Ideal.ofBits .f32 w) 128 (concatenate S192x512 0 [⟨S128x512, broadcast S128x512 (Scalar.ofBits (F := Ideal) .f32 w)⟩,
    ⟨S64x512, extractStridedSlice S64x512 ![0, 0] x slices_S192x512_o0_0_S64x512⟩] concatenates_S128x512_S64x512_S192x512_d0) x := by
  intro r n; pointwise; try rfl

variable {A B : Fin 512 → ℕ → EReal}

/-- One level of the scan doubles the width of the window. -/
theorem Rows.twice {a b db : FVec Ideal S192x512 .f32} (h : ∀ n t, Factor (A n t)) (w : ℕ) (ha : Rows a fun n => lastFac (A n) w)
    (hb : Rows b fun n => last (A n) (B n) w) (hd : Shifted (Ideal.ofBits .f32 0x00000000#32) w db b) :
    Rows (addf (mulf a db) b) fun n => last (A n) (B n) (w + w) := by
  intro r n
  refine Eq.trans ?_ (last_twice (h n) w r).symm
  pointwise
  rw [ha r n, hb r n, hd r n]
  by_cases hr : r.val < w
  · rw [dif_pos hr, if_pos hr, ofBits_zero]
  · rw [dif_neg hr, if_neg hr, hb]

theorem Rows.factors {a da : FVec Ideal S192x512 .f32} (w : ℕ) (ha : Rows a fun n => lastFac (A n) w)
    (hd : Shifted (Ideal.ofBits .f32 0x3F800000#32) w da a) : Rows (mulf a da) fun n => lastFac (A n) (w + w) := by
  intro r n
  refine Eq.trans ?_ (lastFac_twice w r).symm
  pointwise
  rw [ha r n, hd r n]
  by_cases hr : r.val < w
  · rw [dif_pos hr, if_pos hr, ofBits_one]
  · rw [dif_neg hr, if_neg hr, ha]

/-! ## What a tile scans -/

section Scan
variable (v24 : FVec Ideal S1x512 .f32) (v31 : FVec Ideal S192x1 .f32) (v53 v65 v67 : FVec Ideal S192x512 .f32) (v74 : IVec S1x512 1) (v76 v82 : FVec Ideal S1x512 .f32)

/-- Marks the first row of a tile. -/
abbrev firstRow : FVec Ideal S192x1 .f32 :=
  sitofp .f32 (extui 32 (cmpi .eq (iota .tc S192x1 32 [0] iota_S192x1_d0_w32) (broadcast S192x1 0#32)) natLt_1_32)

/-- The inputs of the recurrence, the state that enters the tile folded into the first. -/
def fed : FVec Ideal S192x512 .f32 :=
  let t := tanh (mulf (broadcast S192x512 (Scalar.ofBits (F := Ideal) .f32 0x3F000000#32)) (mulf (broadcast S192x512 (Scalar.ofBits (F := Ideal) .f32 0x40000000#32)) (k0_pay24 v67 v74 v76 v82)))
  addf (mulf (mulf (sqrt (divf (mulf (broadcast S192x512 (Scalar.ofBits (F := Ideal) .f32 0xC0000000#32)) t) (subf (broadcast S192x512 (Scalar.ofBits (F := Ideal) .f32 0x3F800000#32)) t)))
      (mulf v65 v53)) (broadcastTo S192x512 v31 broadcasts_S192x1_S192x512))
    (mulf (broadcastTo S192x512 firstRow broadcasts_S192x1_S192x512) (mulf (k0_pay25 v67 v74 v76 v82) (broadcastTo S192x512 v24 broadcasts_S1x512_S192x512)))

/-- The states of the tile. -/
abbrev scanned := k0_pay30 (k0_pay27 v24 v31 v53 v65 v67 v74 v76 v82) (k0_pay28 v67 v74 v76 v82) (k0_pay29 v24 v31 v53 v65 v67 v74 v76 v82)

variable {v24 v31 v53 v65 v67 v74 v76 v82}

theorem scanned_rows (h : ∀ n t, Factor (A n t)) (ha : Rows (k0_pay25 v67 v74 v76 v82) A) (hb : Rows (fed v24 v31 v53 v65 v67 v74 v76 v82) B) :
    Rows (scanned v24 v31 v53 v65 v67 v74 v76 v82) fun n r => run (A n) (B n) 0 (r + 1) := by
  have a1 : Rows (k0_pay25 v67 v74 v76 v82) fun n => lastFac (A n) 1 := fun r n => (ha r n).trans (lastFac_one _).symm
  have b1 : Rows (fed v24 v31 v53 v65 v67 v74 v76 v82) fun n => last (A n) (B n) 1 := fun r n => (hb r n).trans (last_one _).symm
  have b2 := Rows.twice h 1 a1 b1 (shift_1 _ _)
  have a2 := Rows.factors 1 a1 (shift_1 _ _)
  have b4 := Rows.twice h 2 a2 b2 (shift_2 _ _)
  have a4 := Rows.factors 2 a2 (shift_2 _ _)
  have b8 := Rows.twice h 4 a4 b4 (shift_4 _ _)
  have a8 := Rows.factors 4 a4 (shift_4 _ _)
  have b16 := Rows.twice h 8 a8 b8 (shift_8 _ _)
  have a16 := Rows.factors 8 a8 (shift_8 _ _)
  have b32 := Rows.twice h 16 a16 b16 (shift_16 _ _)
  have a32 := Rows.factors 16 a16 (shift_16 _ _)
  have b64 := Rows.twice h 32 a32 b32 (shift_32 _ _)
  have a64 := Rows.factors 32 a32 (shift_32 _ _)
  have b128 := Rows.twice h 64 a64 b64 (shift_64 _ _)
  have a128 := Rows.factors 64 a64 (shift_64 _ _)
  have b256 := Rows.twice h 128 a128 b128 (shift_128 _ _)
  exact fun r n => (b256 r n).trans (last_wide _ _ (by have := r.isLt; omega))

end Scan

end Cert.LruFwdIdeal.Value

end
-- ==== Proof.LruSpec.lean ====
/-
  What the forward call of the gated linear recurrence computes, over the extended reals.
-/
module

public import proofs.«01_k».proof.Proof.LruMath

@[expose] public section

noncomputable section

open Idealize.ShloMosaic

namespace Cert.Lru

open Cert.Affine

/-- The head of a channel, its place there, and the channel at a place of a head. -/
abbrev headOf (j : Fin 512) : Fin 8 := ⟨j / 64, by omega⟩
abbrev placeIn (j : Fin 512) : Fin 64 := ⟨j % 64, by omega⟩
abbrev inHead (s : Fin 8) (i : Fin 64) : Fin 512 := ⟨s * 64 + i, by omega⟩

/-- The arguments of the call. -/
structure Args where
  U : Fin 2064 → Fin 512 → EReal
  G : Fin 2064 → Fin 512 → EReal
  cw : Fin 4 → Fin 512 → EReal
  cb : Fin 512 → EReal
  wa : Fin 8 → Fin 64 → Fin 64 → EReal
  ba : Fin 512 → EReal
  wi : Fin 8 → Fin 64 → Fin 64 → EReal
  bi : Fin 512 → EReal
  lam : Fin 512 → EReal
  ng : Fin 512 → EReal

variable (P : Args)

/-- A row of the input, counted from the first of `d` rows of nothing in front of it. -/
def rowAfter (d t : ℕ) (j : Fin 512) : EReal := if h : d ≤ t ∧ t - d < 2064 then P.U ⟨t - d, h.2⟩ j else 0

theorem rowAfter_add (d e t : ℕ) (j : Fin 512) : rowAfter P (d + e) (t + e) j = rowAfter P d t j := by
  unfold rowAfter
  by_cases h : d ≤ t ∧ t - d < 2064
  · rw [dif_pos h, dif_pos ⟨by omega, by omega⟩]
    exact congrArg (fun i => P.U i j) (Fin.ext (show t + e - (d + e) = t - d by omega))
  · rw [dif_neg h, dif_neg (by omega)]

/-- The convolution over four rows, of which the last is the row itself when `d` is three. -/
def conv (d t : ℕ) (j : Fin 512) : EReal :=
  P.cw 0 j * rowAfter P d t j + P.cw 1 j * rowAfter P d (t + 1) j + P.cw 2 j * rowAfter P d (t + 2) j + P.cw 3 j * rowAfter P d (t + 3) j + P.cb j

theorem conv_add (d e t : ℕ) : conv P (d + e) (t + e) = conv P d t := by
  funext j
  unfold conv
  rw [show t + e + 1 = t + 1 + e by omega, show t + e + 2 = t + 2 + e by omega, show t + e + 3 = t + 3 + e by omega]
  simp only [rowAfter_add]

/-- The argument of a gate: the product of a head with its own matrix. -/
def gate (w : Fin 8 → Fin 64 → Fin 64 → EReal) (b x : Fin 512 → EReal) (j : Fin 512) : EReal :=
  ∑ i : Fin 64, w (headOf j) i (placeIn j) * x (inHead (headOf j) i) + b j

/-- The recurrence's factor at a step, and its input there. -/
def logRate (d : ℕ) (j : Fin 512) (t : ℕ) : EReal := logFactor (gate P.wa P.ba (conv P d t) j) (P.lam j)
def rate (d : ℕ) (j : Fin 512) (t : ℕ) : EReal := Ideal.exp (logRate P d j t)
def input (d : ℕ) (j : Fin 512) (t : ℕ) : EReal :=
  Ideal.sqrt (-(Ideal.exp (Ideal.ofBits .f32 0x40000000#32 * logRate P d j t) - 1)) * (Ideal.logistic (gate P.wi P.bi (conv P d t) j) * conv P d t j)

theorem rate_factor (d : ℕ) (j : Fin 512) (t : ℕ) : Factor (rate P d j t) := factor_factor _ _

/-- The input with nothing in the 48 rows of padding. -/
def masked (j : Fin 512) (t : ℕ) : EReal := if t < 48 then 0 else input P 51 j t

/-- The state after `k` steps. -/
def state (j : Fin 512) (k : ℕ) : EReal := run (rate P 3 j) (input P 3 j) 0 k

theorem run_masked (j : Fin 512) (k : ℕ) : run (rate P 51 j) (masked P j) 0 k = state P j (k - 48) := by
  have e : ∀ t, 48 ≤ t → conv P 51 t = conv P 3 (t - 48) := fun t h => by
    have := conv_add P 3 48 (t - 48)
    rwa [Nat.sub_add_cancel h] at this
  refine run_padded 48 (fun t h => if_pos h) (fun t h => ?_) (fun t h => ?_) k
  · unfold rate logRate; rw [e t h]
  · refine (if_neg (by omega) : masked P j t = input P 51 j t).trans ?_
    unfold input logRate; rw [e t h]

/-- The smooth rectifier that gates the state. -/
def gelu (u : EReal) : EReal :=
  u * (Ideal.ofBits .f32 0x3F000000#32 * (1 + Ideal.tanh (Ideal.ofBits .f32 0x3F4C422A#32 * (u + Ideal.ofBits .f32 0x3D372713#32 * (u * (u * u))))))

/-- The gated state of a step, and the result: nothing in the rows of padding, after them the gated states with their
    root mean square divided out. -/
def gated (t : Fin 2064) (j : Fin 512) : EReal := gelu (P.G t j) * state P j (t + 1)
def normed (t : Fin 2064) (j : Fin 512) : EReal :=
  gated P t j * Ideal.rsqrt (Ideal.div (∑ k, gated P t k * gated P t k) (Ideal.ofBits .f32 0x44000000#32) + Ideal.ofBits .f32 0x358637BD#32) * P.ng j
def result (i : Fin 2112) (j : Fin 512) : EReal := if h : i.val < 48 then 0 else normed P ⟨i - 48, by omega⟩ j

/-- What enters a tile: the last eight rows before it, and the state. -/
def rowsIn (i : Fin 11) (e : Fin 8) (j : Fin 512) : EReal := rowAfter P 56 (192 * i + e) j
def stateIn (i : Fin 11) (j : Fin 512) : EReal := state P j (192 * i - 48)

end Cert.Lru

end
-- ==== Proof.LruParam.lean ====
/-
  What a tile of the forward call of the gated linear recurrence computes from its blocks, entry by entry.
-/
module

public import proofs.«01_k».proof.Proof.LruTile
public import proofs.«01_k».proof.Proof.LruSpec
public import proofs.«01_k».proof.Proof.Groups

@[expose] public section

set_option maxRecDepth 16384

noncomputable section

open Idealize.ShloMosaic Idealize.ShloMosaic.TcCoe

namespace Cert.LruFwdIdeal.Value

open Cert.LruFwdIdeal Cert.LruFwdIdeal.Gen Cert.Affine Cert.Lru Cert.Groups

theorem mark (p : Prop) [Decidable p] : (FloatOps.sitofp FTy.f32 (BitVec.setWidth 32 (if p then 1#1 else 0#1)) : Ideal .f32) = (if p then 1 else 0 : EReal) := by
  split_ifs
  · show (((BitVec.setWidth 32 1#1).toInt : ℝ) : EReal) = _
    norm_num
  · show (((BitVec.setWidth 32 0#1).toInt : ℝ) : EReal) = _
    norm_num

theorem past_padding : ∀ (a : Fin 11) (r : Fin 192), IntOp.cmpi CmpIPredicate.sge (IntOp.addi (Scalar.muli (BitVec.ofNat 32 a) 192#32) (BitVec.ofNat 32 r)) 48#32
    = if 48 ≤ 192 * a.val + r.val then 1#1 else 0#1 := by decide +kernel

theorem first_bit : ∀ r : Fin 192, IntOp.cmpi CmpIPredicate.eq (BitVec.ofNat 32 r) 0#32 = if r.val = 0 then 1#1 else 0#1 := by decide +kernel

theorem mask_at (i : grid0.Coords) (a : Fin 11) (ha : (i 1).val = a.val) (r : Fin 192) :
    k0_pay15 (F := Ideal) (k0_pay13 i) k0_pay14 (ix2 r 0) = if 48 ≤ 192 * a.val + r.val then 1 else 0 := by
  pointwise [k0_pay15, k0_pay13, k0_pay14]
  rw [ha, past_padding, mark]

section Gates
variable {P : Args} {v4 : Vec Ideal S4x512 .f32} {v6 v10 v14 v16 : FVec Ideal S1x512 .f32} {v8 v12 : FVec Ideal S512x512 .f32} {v20 : FVec Ideal S192x512 .f32} {v23 : Vec Ideal S8x512 .f32}
  {a : Fin 11}

theorem conv_at (h4 : ∀ (k : Fin 4) (n : Fin 512), v4 (ix2 k n) = P.cw k n) (h6 : ∀ n : Fin 512, v6 (ix2 0 n) = P.cb n)
    (h20 : ∀ (r : Fin 192) (n : Fin 512), v20 (ix2 r n) = rowAfter P 56 (192 * a + (r + 8)) n) (h23 : ∀ (e : Fin 8) (n : Fin 512), v23 (ix2 e n) = rowAfter P 56 (192 * a + e) n)
    (r : Fin 192) (n : Fin 512) : k0_pay16 v4 v6 v20 v23 (ix2 r n) = conv P 51 (192 * a + r) n := by
  have hz : ∀ (s : ℕ) (hs : s < 8), (if h : s + r.val < 8 then v23 (ix2 ⟨s + r, h⟩ n) else v20 (ix2 ⟨s + r - 8, by omega⟩ n)) = rowAfter P 56 (192 * a + r + s) n := by
    intro s hs
    by_cases h : s + r.val < 8
    · rw [dif_pos h, h23]
      exact congrArg (fun t => rowAfter P 56 t n) (show 192 * a.val + (s + r.val) = 192 * a.val + r.val + s by omega)
    · rw [dif_neg h, h20]
      exact congrArg (fun t => rowAfter P 56 t n) (show 192 * a.val + (s + r.val - 8 + 8) = 192 * a.val + r.val + s by omega)
  have h8 : v20 (ix2 r n) = rowAfter P 56 (192 * a + r + 8) n := h20 r n
  pointwise [k0_pay16]
  rw [hz 5 (by omega), hz 6 (by omega), hz 7 (by omega), h8, h4, h4, h4, h4, h6]
  unfold conv
  rw [← rowAfter_add P 51 5, ← rowAfter_add P 51 5, ← rowAfter_add P 51 5, ← rowAfter_add P 51 5]

/-- A row times the matrices of the heads laid along the diagonal is the product in each head. -/
theorem head_sum (w : Fin 8 → Fin 64 → Fin 64 → EReal) (x : Fin 512 → EReal) (m : FVec Ideal S512x512 .f32)
    (hm : ∀ k n : Fin 512, m (ix2 k n) = if k.val / 64 = n.val / 64 then w (headOf n) (placeIn k) (placeIn n) else 0) (n : Fin 512) :
    ∑ k : Fin 512, x k * m (ix2 k n) = ∑ i : Fin 64, w (headOf n) i (placeIn n) * x (inHead (headOf n) i) := by
  refine (sum_group 8 64 (headOf n) (fun k : Fin (8 * 64) => x k * m (ix2 k n)) fun k hk => ?_).trans ?_
  · have hk' : ¬ k.val / 64 = n.val / 64 := hk
    rw [hm, if_neg hk', mul_zero]
  · refine Finset.sum_congr rfl fun p _ => ?_
    dsimp only
    rw [hm, if_pos (by dsimp only; omega), mul_comm]
    refine congrArg₂ (· * ·) (congrArg (fun i => w (headOf n) i (placeIn n)) (Fin.ext ?_)) (congrArg x (Fin.ext ?_))
    · show (p.val + 64 * (n.val / 64)) % 64 = p.val; omega
    · show p.val + 64 * (n.val / 64) = n.val / 64 * 64 + p.val; omega

theorem input_gate_at (hx : ∀ (r : Fin 192) (n : Fin 512), k0_pay16 v4 v6 v20 v23 (ix2 r n) = conv P 51 (192 * a + r) n)
    (h12 : ∀ k n : Fin 512, v12 (ix2 k n) = if k.val / 64 = n.val / 64 then P.wi (headOf n) (placeIn k) (placeIn n) else 0) (h14 : ∀ n : Fin 512, v14 (ix2 0 n) = P.bi n)
    (r : Fin 192) (n : Fin 512) : k0_pay17 v4 v6 v12 v14 v20 v23 (ix2 r n) = Ideal.logistic (gate P.wi P.bi (conv P 51 (192 * a + r)) n) := by
  unfold k0_pay17
  generalize k0_pay16 v4 v6 v20 v23 = x at hx
  pointwise
  rw [gate, ← head_sum P.wi _ v12 h12 n, h14]
  simp only [hx]

theorem rate_gate_at (hx : ∀ (r : Fin 192) (n : Fin 512), k0_pay16 v4 v6 v20 v23 (ix2 r n) = conv P 51 (192 * a + r) n)
    (h8 : ∀ k n : Fin 512, v8 (ix2 k n) = if k.val / 64 = n.val / 64 then P.wa (headOf n) (placeIn k) (placeIn n) else 0) (h10 : ∀ n : Fin 512, v10 (ix2 0 n) = P.ba n)
    (r : Fin 192) (n : Fin 512) : k0_pay18 v4 v6 v8 v10 v20 v23 (ix2 r n) = Ideal.ofBits .f32 0xC1000000#32 * Ideal.logistic (gate P.wa P.ba (conv P 51 (192 * a + r)) n) := by
  unfold k0_pay18
  generalize k0_pay16 v4 v6 v20 v23 = x at hx
  pointwise
  rw [gate, ← head_sum P.wa _ v8 h8 n, h10]
  simp only [hx]

theorem log_rate_at {v67 : FVec Ideal S192x512 .f32} (h67 : ∀ (r : Fin 192) (n : Fin 512), v67 (ix2 r n) = Ideal.ofBits .f32 0xC1000000#32 * Ideal.logistic (gate P.wa P.ba (conv P 51 (192 * a + r)) n))
    (h16 : ∀ n : Fin 512, v16 (ix2 0 n) = P.lam n) (r : Fin 192) (n : Fin 512) :
    k0_pay24 v67 (k0_pay21 v16) (k0_pay22 v16) (k0_pay23 v16) (ix2 r n) = logRate P 51 n (192 * a + r) := by
  pointwise [k0_pay24, k0_pay21, k0_pay22, k0_pay23, k0_pay20, k0_pay19]
  rw [if_neg (fun h => h rfl), h67, h16, zero_sub, zero_sub]
  rfl

end Gates

section Feed
variable {P : Args} {a : Fin 11} {v24 : FVec Ideal S1x512 .f32} {v31 : FVec Ideal S192x1 .f32} {v53 v65 v67 : FVec Ideal S192x512 .f32} {v74 : IVec S1x512 1} {v76 v82 : FVec Ideal S1x512 .f32}

/-- The states of a tile, from what enters it. -/
theorem states_at (hx : ∀ (r : Fin 192) (n : Fin 512), v53 (ix2 r n) = conv P 51 (192 * a + r) n)
    (hg : ∀ (r : Fin 192) (n : Fin 512), v65 (ix2 r n) = Ideal.logistic (gate P.wi P.bi (conv P 51 (192 * a + r)) n))
    (hl : ∀ (r : Fin 192) (n : Fin 512), k0_pay24 v67 v74 v76 v82 (ix2 r n) = logRate P 51 n (192 * a + r))
    (hm : ∀ r : Fin 192, v31 (ix2 r 0) = if 48 ≤ 192 * a.val + r.val then 1 else 0)
    (hs : ∀ n : Fin 512, v24 (ix2 0 n) = run (rate P 51 n) (masked P n) 0 (192 * a)) :
    Rows (scanned v24 v31 v53 v65 v67 v74 v76 v82) fun n r => run (rate P 51 n) (masked P n) 0 (192 * a + r + 1) := by
  have ha : Rows (k0_pay25 v67 v74 v76 v82) fun n r => rate P 51 n (192 * a + r) := fun r n => congrArg Ideal.exp (hl r n)
  have hb : Rows (fed v24 v31 v53 v65 v67 v74 v76 v82) fun n r =>
      if r = 0 then masked P n (192 * a) + rate P 51 n (192 * a) * run (rate P 51 n) (masked P n) 0 (192 * a) else masked P n (192 * a + r) := by
    intro r n
    have e : ∀ z : EReal, z ≤ 0 → Ideal.ofBits .f32 0x40000000#32 * z ≤ 0 := fun z hz => by
      rw [ofBits_two, ← EReal.neg_nonneg, mul_comm, ← EReal.neg_mul, mul_comm]
      exact mul_nonneg (by exact_mod_cast (by norm_num : (0 : ℝ) ≤ 2)) (EReal.neg_nonneg.mpr hz)
    have hlx := hl r n
    unfold fed k0_pay25
    generalize k0_pay24 v67 v74 v76 v82 = x at hlx
    pointwise
    rw [hlx, less_exp (Ideal.ofBits .f32 0x40000000#32 * logRate P 51 n (192 * a + r)) (e _ (logFactor_nonpos _ _)), hx, hg, hm, hs, first_bit, mark]
    have hi : Ideal.sqrt (-(Ideal.exp (Ideal.ofBits .f32 0x40000000#32 * logRate P 51 n (192 * a + r)) - 1))
        * (Ideal.logistic (gate P.wi P.bi (conv P 51 (192 * a + r)) n) * conv P 51 (192 * a + r) n) * (if 48 ≤ 192 * a.val + r.val then 1 else 0) = masked P n (192 * a + r) := by
      by_cases h : 48 ≤ 192 * a.val + r.val
      · rw [if_pos h, mul_one]
        exact (if_neg (by omega) : masked P n (192 * a + r) = input P 51 n (192 * a + r)).symm
      · rw [if_neg h, mul_zero]
        exact (if_pos (by omega) : masked P n (192 * a + r) = 0).symm
    refine (congrArg₂ (· + ·) hi rfl).trans ?_
    by_cases h : r.val = 0
    · rw [if_pos h, one_mul, h]
      exact (if_pos rfl).symm
    · rw [if_neg h, zero_mul, add_zero]
      exact (if_neg h).symm
  intro r n
  refine (scanned_rows (fun n t => rate_factor P 51 n _) ha hb r n).trans ?_
  exact run_from (192 * a) (fun _ => rfl) (if_pos rfl) (fun r => if_neg (Nat.succ_ne_zero r)) r

end Feed

/-- A row of the tile's result. -/
theorem out_at (v18 : FVec Ideal S1x512 .f32) (v22 v179 : FVec Ideal S192x512 .f32) (v31 : FVec Ideal S192x1 .f32) (r : Fin 192) (n : Fin 512) :
    k0_pay32 v18 v22 v31 v179 (k0_pay31 v22) (Scalar.ofBits .f32 0x3D372713#32) (ix2 r n)
      = gelu (v22 (ix2 r n)) * v179 (ix2 r n)
        * Ideal.rsqrt (Ideal.div (∑ k, gelu (v22 (ix2 r k)) * v179 (ix2 r k) * (gelu (v22 (ix2 r k)) * v179 (ix2 r k))) (Ideal.ofBits .f32 0x44000000#32) + Ideal.ofBits .f32 0x358637BD#32)
        * v18 (ix2 0 n) * v31 (ix2 r 0) := by
  pointwise [k0_pay32, k0_pay31]
  rfl

end Cert.LruFwdIdeal.Value

end
-- ==== Proof.LruBlocks.lean ====
/-
  The values of the forward call of the gated linear recurrence: what each tile leaves in its blocks and carries on.
-/
module

public import proofs.«01_k».proof.Proof.Gen.LruFwdIdeal.Value
public import proofs.«01_k».proof.Proof.LruParam
public import proofs.«01_k».proof.Proof.RmsValue

@[expose] public section

set_option maxRecDepth 16384

noncomputable section

open Idealize.ShloMosaic Idealize.ShloMosaic.TcCoe Idealize.ShloMosaic.Tactic

namespace Cert.LruFwdIdeal.Value

open Cert.LruFwdIdeal Cert.LruFwdIdeal.Gen Cert.Affine Cert.Lru
open Cert.RmsIdeal.Value (hz2)

theorem hz4 : (![0, 0, 0, 0] : Fin 4 → Nat) = fun _ => 0 := by decide

section Blocks
variable (c : Dev nD) (i : grid0.Coords) (a2 : Memref sig .tc .vmem S192x512 .f32) (h2 : a2.IsWhole) (a3 : Memref sig .tc .vmem S192x512 .f32) (h3 : a3.IsWhole) (a4 : Memref sig .tc .vmem S4x512 .f32) (h4 : a4.IsWhole) (a5 : Memref sig .tc .vmem S1x512 .f32) (h5 : a5.IsWhole) (a6 : Memref sig .tc .vmem S512x512 .f32) (h6 : a6.IsWhole) (a7 : Memref sig .tc .vmem S1x512 .f32) (h7 : a7.IsWhole) (a8 : Memref sig .tc .vmem S512x512 .f32) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole) (a12 : Memref sig .tc .vmem S192x512 .f32) (h12 : a12.IsWhole) (a13 : Memref sig .tc .vmem S1x1x8x512 .f32) (h13 : a13.IsWhole) (a14 : Memref sig .tc .vmem S1x1x1x512 .f32) (h14 : a14.IsWhole) (a15 : Memref sig .tc .vmem S8x512 .f32) (h15 : a15.IsWhole) (a16 : Memref sig .tc .vmem S1x512 .f32) (h16 : a16.IsWhole)
  (x0 x1 : Vec Ideal S192x512 .f32) (x2 : Vec Ideal S4x512 .f32) (x3 : Vec Ideal S1x512 .f32) (x4 : Vec Ideal S512x512 .f32) (x5 : Vec Ideal S1x512 .f32) (x6 : Vec Ideal S512x512 .f32) (x7 x8 x9 : Vec Ideal S1x512 .f32)
  (s0 : Vec Ideal S8x512 .f32) (s1 : Vec Ideal S1x512 .f32)

/-- The rows of a tile that are not padding. -/
abbrev t_mask : FVec Ideal S192x1 .f32 := k0_pay15 (k0_pay13 i) k0_pay14
/-- The states of a tile from its blocks and what enters it. -/
abbrev t_state : FVec Ideal S192x512 .f32 :=
  scanned s1 (t_mask i) (k0_pay16 x2 (k0_pay4 x3) (k0_pay11 x0) s0) (k0_pay17 x2 (k0_pay4 x3) (k0_pay7 x6) (k0_pay8 x7) (k0_pay11 x0) s0) (k0_pay18 x2 (k0_pay4 x3) (k0_pay5 x4) (k0_pay6 x5) (k0_pay11 x0) s0)
    (k0_pay21 (k0_pay9 x8)) (k0_pay22 (k0_pay9 x8)) (k0_pay23 (k0_pay9 x8))
/-- What is carried on: the last rows and the last state. -/
def c_rows : FVec Ideal S8x512 .f32 := k0_pay36 (k0_pay11 x0)
def c_state : FVec Ideal S1x512 .f32 := k0_pay1 (k0_pay33 (t_state i x0 x2 x3 x4 x5 x6 x7 x8 s0 s1))
/-- The tile's result. -/
def t_y : FVec Ideal S192x512 .f32 :=
  k0_pay32 (k0_pay10 x9) (k0_pay12 x1) (t_mask i) (t_state i x0 x2 x3 x4 x5 x6 x7 x8 s0 s1) (k0_pay31 (k0_pay12 x1)) (Scalar.ofBits .f32 0x3D372713#32)

theorem sout_B_0 (hc : ¬cond0_0 i) : sout0_B_0 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 s0 s1 = c_rows x0 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 s0 s1)]
  unfold kernelRun0_B
  dsimp only
  sl_unfold_words
  rw [View.canon_unit_zero (S := S8x512) hz2]
  simp only [View.readAt_eq_ld, h2.read_unread, h3.read_unread, h4.read_unread, h5.read_unread, h6.read_unread, h7.read_unread, h8.read_unread, h9.read_unread, h10.read_unread, h11.read_unread, h15.read_unread, h16.read_unread, View.ld_unit_zero (S := S192x512) hz2, View.ld_unit_zero (S := S4x512) hz2, View.ld_unit_zero (S := S1x512) hz2, View.ld_unit_zero (S := S512x512) hz2, View.ld_unit_zero (S := S8x512) hz2]
  rfl

theorem sout_B_1 (hc : ¬cond0_0 i) : sout0_B_1 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 s0 s1 = c_state i x0 x2 x3 x4 x5 x6 x7 x8 s0 s1 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 s0 s1)]
  unfold kernelRun0_B
  dsimp only
  sl_unfold_words
  rw [View.canon_unit_zero (S := S1x512) hz2]
  simp only [View.readAt_eq_ld, h2.read_unread, h3.read_unread, h4.read_unread, h5.read_unread, h6.read_unread, h7.read_unread, h8.read_unread, h9.read_unread, h10.read_unread, h11.read_unread, h15.read_unread, h16.read_unread, View.ld_unit_zero (S := S192x512) hz2, View.ld_unit_zero (S := S4x512) hz2, View.ld_unit_zero (S := S1x512) hz2, View.ld_unit_zero (S := S512x512) hz2, View.ld_unit_zero (S := S8x512) hz2]
  rfl

theorem out_B_10 (hc : ¬cond0_0 i) : out0_B_10 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 s0 s1 = t_y i x0 x1 x2 x3 x4 x5 x6 x7 x8 x9 s0 s1 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 s0 s1)]
  unfold kernelRun0_B
  dsimp only
  sl_unfold_words
  rw [View.canon_unit_zero (S := S192x512) hz2]
  simp only [View.readAt_eq_ld, h2.read_unread, h3.read_unread, h4.read_unread, h5.read_unread, h6.read_unread, h7.read_unread, h8.read_unread, h9.read_unread, h10.read_unread, h11.read_unread, h15.read_unread, h16.read_unread, View.ld_unit_zero (S := S192x512) hz2, View.ld_unit_zero (S := S4x512) hz2, View.ld_unit_zero (S := S1x512) hz2, View.ld_unit_zero (S := S512x512) hz2, View.ld_unit_zero (S := S8x512) hz2]
  rfl

theorem out_B_11 (hc : ¬cond0_0 i) : out0_B_11 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 s0 s1 = k0_pay34 (F := Ideal) s0 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 s0 s1)]
  unfold kernelRun0_B
  dsimp only
  sl_unfold_words
  rw [View.canon_unit_zero (S := S1x1x8x512) hz4]
  simp only [View.readAt_eq_ld, h2.read_unread, h3.read_unread, h4.read_unread, h5.read_unread, h6.read_unread, h7.read_unread, h8.read_unread, h9.read_unread, h10.read_unread, h11.read_unread, h15.read_unread, h16.read_unread, View.ld_unit_zero (S := S192x512) hz2, View.ld_unit_zero (S := S4x512) hz2, View.ld_unit_zero (S := S1x512) hz2, View.ld_unit_zero (S := S512x512) hz2, View.ld_unit_zero (S := S8x512) hz2]

theorem out_B_12 (hc : ¬cond0_0 i) : out0_B_12 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 s0 s1 = k0_pay35 (F := Ideal) s1 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 s0 s1)]
  unfold kernelRun0_B
  dsimp only
  sl_unfold_words
  rw [View.canon_unit_zero (S := S1x1x1x512) hz4]
  simp only [View.readAt_eq_ld, h2.read_unread, h3.read_unread, h4.read_unread, h5.read_unread, h6.read_unread, h7.read_unread, h8.read_unread, h9.read_unread, h10.read_unread, h11.read_unread, h15.read_unread, h16.read_unread, View.ld_unit_zero (S := S192x512) hz2, View.ld_unit_zero (S := S4x512) hz2, View.ld_unit_zero (S := S1x512) hz2, View.ld_unit_zero (S := S512x512) hz2, View.ld_unit_zero (S := S8x512) hz2]

theorem sout_A_0 (hc : cond0_0 i) : sout0_A_0 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 = c_rows x0 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 hc x0 x1 x2 x3 x4 x5 x6 x7 x8 x9)]
  unfold kernelRun0_A
  dsimp only
  sl_unfold_words
  rw [View.canon_cons_unit_zero (S := S8x512) hz2]
  simp only [View.readAt_eq_ld, h2.read_unread, h3.read_unread, h4.read_unread, h5.read_unread, h6.read_unread, h7.read_unread, h8.read_unread, h9.read_unread, h10.read_unread, h11.read_unread, h15.read_unread, h16.read_unread, View.ld_unit_zero (S := S192x512) hz2, View.ld_unit_zero (S := S4x512) hz2, View.ld_unit_zero (S := S1x512) hz2, View.ld_unit_zero (S := S512x512) hz2, View.ld_unit_zero (S := S8x512) hz2]
  rfl

theorem sout_A_1 (hc : cond0_0 i) : sout0_A_1 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 = c_state i x0 x2 x3 x4 x5 x6 x7 x8 (k0_pay2 (F := Ideal)) (k0_pay3 (F := Ideal)) := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 a16 h16 hc x0 x1 x2 x3 x4 x5 x6 x7 x8 x9)]
  unfold kernelRun0_A
  dsimp only
  sl_unfold_words
  rw [View.canon_cons_unit_zero (S := S1x512) hz2]
  simp only [View.readCov_unit_zero (S := S8x512) _ hz2, View.readCov_unit_zero (S := S1x512) _ hz2]
  simp only [View.readAt_eq_ld, h2.read_unread, h3.read_unread, h4.read_unread, h5.read_unread, h6.read_unread, h7.read_unread, h8.read_unread, h9.read_unread, h10.read_unread, h11.read_unread, h15.read_unread, h16.read_unread, View.ld_unit_zero (S := S192x512) hz2, View.ld_unit_zero (S := S4x512) hz2, View.ld_unit_zero (S := S1x512) hz2, View.ld_unit_zero (S := S512x512) hz2, View.ld_unit_zero (S := S8x512) hz2]
  rfl

theorem out_A_10 (hc : cond0_0 i) : out0_A_10 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 = t_y i x0 x1 x2 x3 x4 x5 x6 x7 x8 x9 (k0_pay2 (F := Ideal)) (k0_pay3 (F := Ideal)) := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 a16 h16 hc x0 x1 x2 x3 x4 x5 x6 x7 x8 x9)]
  unfold kernelRun0_A
  dsimp only
  sl_unfold_words
  rw [View.canon_unit_zero (S := S192x512) hz2]
  simp only [View.readCov_unit_zero (S := S8x512) _ hz2, View.readCov_unit_zero (S := S1x512) _ hz2]
  simp only [View.readAt_eq_ld, h2.read_unread, h3.read_unread, h4.read_unread, h5.read_unread, h6.read_unread, h7.read_unread, h8.read_unread, h9.read_unread, h10.read_unread, h11.read_unread, h15.read_unread, h16.read_unread, View.ld_unit_zero (S := S192x512) hz2, View.ld_unit_zero (S := S4x512) hz2, View.ld_unit_zero (S := S1x512) hz2, View.ld_unit_zero (S := S512x512) hz2, View.ld_unit_zero (S := S8x512) hz2]
  rfl

theorem out_A_11 (hc : cond0_0 i) : out0_A_11 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 = k0_pay34 (F := Ideal) (k0_pay2 (F := Ideal)) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 a16 h16 hc x0 x1 x2 x3 x4 x5 x6 x7 x8 x9)]
  unfold kernelRun0_A
  dsimp only
  sl_unfold_words
  rw [View.canon_unit_zero (S := S1x1x8x512) hz4]
  simp only [View.readCov_unit_zero (S := S8x512) _ hz2, View.readCov_unit_zero (S := S1x512) _ hz2]

theorem out_A_12 (hc : cond0_0 i) : out0_A_12 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 = k0_pay35 (F := Ideal) (k0_pay3 (F := Ideal)) := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 hc x0 x1 x2 x3 x4 x5 x6 x7 x8 x9)]
  unfold kernelRun0_A
  dsimp only
  sl_unfold_words
  rw [View.canon_unit_zero (S := S1x1x1x512) hz4]
  simp only [View.readCov_unit_zero (S := S8x512) _ hz2, View.readCov_unit_zero (S := S1x512) _ hz2]

end Blocks

end Cert.LruFwdIdeal.Value

end
-- ==== Proof.LruHost.lean ====
/-
  The blocks that the forward call of the gated linear recurrence reads: the input and its gate side by side under rows of
  padding, and the matrices of the eight heads laid along the diagonal.
-/
module

public import proofs.«01_k».proof.Proof.Gen.LruFwdIdeal.Frame
public import proofs.«01_k».proof.Proof.LruSpec
public import Idealize.ShloMosaic.Lib.Pointwise

@[expose] public section

set_option maxRecDepth 16384

noncomputable section

open Idealize.ShloMosaic Idealize.ShloMosaic.TcCoe Idealize.ShloMosaic.Tactic

namespace Cert.LruFwdIdeal.Value

open Cert.LruFwdIdeal Cert.LruFwdIdeal.Gen Cert.Lru

/-- The input and its gate side by side, below 48 rows of nothing. -/
def beside (u g : FVec Ideal S2064x512 .f32) : FVec Ideal S2112x1024 .f32 :=
  concatenate S2112x1024 0 [⟨S48x1024, broadcastInDim S48x1024 ![] bcast_S_S48x1024 (constant S_ .f32 0x00000000#32)⟩,
    ⟨S2064x1024, concatenate S2064x1024 1 [⟨S2064x512, u⟩, ⟨S2064x512, g⟩] concatenates_S2064x512_S2064x512_S2064x1024_d1⟩] concatenates_S48x1024_S2064x1024_S2112x1024_d0

/-- The matrices of the heads along the diagonal. -/
def spread (b : FVec Ideal S8x64x64 .f32) : FVec Ideal S512x512 .f32 :=
  shapeCast S512x512 (mulf (broadcastInDim S8x64x8x64 ![0, 1, 2, 3] bcast_S8x64x1x64_S8x64x8x64_0_1_2_3 (broadcastInDim S8x64x1x64 ![0, 1, 3] bcast_S8x64x64_S8x64x1x64_0_1_3 b))
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)))))) shapeCasts_S8x64x8x64_S512x512

theorem same_bit : ∀ a b : Fin 8, IntOp.cmpi CmpIPredicate.eq (IntOp.addi (BitVec.ofNat 32 a) 0#32) (BitVec.ofNat 32 b) = if a = b then 1#1 else 0#1 := by decide +kernel

theorem one_bit (p : Prop) [Decidable p] : (FloatOps.uitofp FTy.f32 (if p then 1#1 else 0#1) : Ideal .f32) = (if p then 1 else 0 : EReal) := by
  split_ifs
  · show (((1#1 : BitVec 1).toNat : ℝ) : EReal) = _
    norm_num
  · show (((0#1 : BitVec 1).toNat : ℝ) : EReal) = _
    norm_num

theorem spread_at (b : FVec Ideal S8x64x64 .f32) (k n : Fin 512) :
    spread b (ix2 k n) = if k.val / 64 = n.val / 64 then b (ix3 (headOf n) (placeIn k) (placeIn n)) else 0 := by
  pointwise [spread]
  have e := same_bit ⟨k / 64, by omega⟩ ⟨n / 64, by omega⟩
  dsimp only at e
  rw [e, one_bit]
  by_cases h : k.val / 64 = n.val / 64
  · rw [if_pos (Fin.ext h), if_pos h, mul_one]
    simp only [h]
  · rw [if_neg (fun h' => h (congrArg Fin.val h')), if_neg h, mul_zero]

theorem beside_left (u g : FVec Ideal S2064x512 .f32) (i : Fin 2112) (j : Fin 512) :
    beside u g (ix2 i ⟨j, by omega⟩) = if h : i.val < 48 then 0 else u (ix2 ⟨i - 48, by omega⟩ j) := by
  have hj := j.isLt
  pointwise [beside]

theorem beside_right (u g : FVec Ideal S2064x512 .f32) (i : Fin 2112) (j : Fin 512) :
    beside u g (ix2 i ⟨512 + j, by omega⟩) = if h : i.val < 48 then 0 else g (ix2 ⟨i - 48, by omega⟩ j) := by
  have hj := j.isLt
  pointwise [beside]

theorem row_at (x : FVec Ideal S512 .f32) (n : Fin 512) : shapeCast S1x512 x shapeCasts_S512_S1x512 (ix2 0 n) = x (ix1 n) := by
  pointwise

variable (m : (ℓ : Loc nD τ sig) → Buf (Elt Ideal) ℓ)

abbrev arg0 (c : Dev nD) : S2064x512.Idx → EReal := m ((c : Thread nD τ).loc main_arg0)
abbrev arg1 (c : Dev nD) : S2064x512.Idx → EReal := m ((c : Thread nD τ).loc main_arg1)
abbrev arg2 (c : Dev nD) : S4x512.Idx → EReal := m ((c : Thread nD τ).loc main_arg2)
abbrev arg3 (c : Dev nD) : S512.Idx → EReal := m ((c : Thread nD τ).loc main_arg3)
abbrev arg4 (c : Dev nD) : S8x64x64.Idx → EReal := m ((c : Thread nD τ).loc main_arg4)
abbrev arg5 (c : Dev nD) : S512.Idx → EReal := m ((c : Thread nD τ).loc main_arg5)
abbrev arg6 (c : Dev nD) : S8x64x64.Idx → EReal := m ((c : Thread nD τ).loc main_arg6)
abbrev arg7 (c : Dev nD) : S512.Idx → EReal := m ((c : Thread nD τ).loc main_arg7)
abbrev arg8 (c : Dev nD) : S512.Idx → EReal := m ((c : Thread nD τ).loc main_arg8)
abbrev arg9 (c : Dev nD) : S512.Idx → EReal := m ((c : Thread nD τ).loc main_arg9)

/-- The call's arguments. -/
abbrev args (c : Dev nD) : Args where
  U := fun t j => arg0 m c (ix2 t j)
  G := fun t j => arg1 m c (ix2 t j)
  cw := fun k j => arg2 m c (ix2 k j)
  cb := fun j => arg3 m c (ix1 j)
  wa := fun s i p => arg4 m c (ix3 s i p)
  ba := fun j => arg5 m c (ix1 j)
  wi := fun s i p => arg6 m c (ix3 s i p)
  bi := fun j => arg7 m c (ix1 j)
  lam := fun j => arg8 m c (ix1 j)
  ng := fun j => arg9 m c (ix1 j)

theorem v_2 (c : Dev nD) : (V m c main_v2 : S2112x1024.Idx → EReal) = beside (arg0 m c) (arg1 m c) := by
  dsimp only [V, hostOps0]
  after_results
  rfl
theorem v_3 (c : Dev nD) : (V m c main_v3 : S1x512.Idx → EReal) = shapeCast S1x512 (arg3 m c : FVec Ideal S512 .f32) shapeCasts_S512_S1x512 := by
  dsimp only [V, hostOps0]
  after_results
  rfl
theorem v_15 (c : Dev nD) : (V m c main_v15 : S512x512.Idx → EReal) = spread (arg4 m c) := by
  dsimp only [V, hostOps0]
  after_results
  rfl
theorem v_16 (c : Dev nD) : (V m c main_v16 : S1x512.Idx → EReal) = shapeCast S1x512 (arg5 m c : FVec Ideal S512 .f32) shapeCasts_S512_S1x512 := by
  dsimp only [V, hostOps0]
  after_results
  rfl
theorem v_28 (c : Dev nD) : (V m c main_v28 : S512x512.Idx → EReal) = spread (arg6 m c) := by
  dsimp only [V, hostOps0]
  after_results
  rfl
theorem v_29 (c : Dev nD) : (V m c main_v29 : S1x512.Idx → EReal) = shapeCast S1x512 (arg7 m c : FVec Ideal S512 .f32) shapeCasts_S512_S1x512 := by
  dsimp only [V, hostOps0]
  after_results
  rfl
theorem v_30 (c : Dev nD) : (V m c main_v30 : S1x512.Idx → EReal) = shapeCast S1x512 (arg8 m c : FVec Ideal S512 .f32) shapeCasts_S512_S1x512 := by
  dsimp only [V, hostOps0]
  after_results
  rfl
theorem v_31 (c : Dev nD) : (V m c main_v31 : S1x512.Idx → EReal) = shapeCast S1x512 (arg9 m c : FVec Ideal S512 .f32) shapeCasts_S512_S1x512 := by
  dsimp only [V, hostOps0]
  after_results
  rfl
theorem v_arg2 (c : Dev nD) : (V m c main_arg2 : S4x512.Idx → EReal) = arg2 m c := by
  dsimp only [V, hostOps0]
  after_results

theorem point_lt (t : Fin cfg0.N) : t.val < 11 := t.isLt

theorem coord_1 : ∀ t : Fin grid0.N, (grid0.coords t 1).val = t.val := by decide +kernel

theorem idx_in : ∀ t : Fin grid0.N, (win0_0.index t (0 : Fin 2) = t.val ∧ win0_0.index t (1 : Fin 2) = 0)
    ∧ (win0_1.index t (0 : Fin 2) = t.val ∧ win0_1.index t (1 : Fin 2) = 1)
    ∧ (win0_10.index t (0 : Fin 2) = t.val ∧ win0_10.index t (1 : Fin 2) = 0) := by decide +kernel

theorem idx_par : ∀ t : Fin grid0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) := by decide +kernel

theorem idx_saved : ∀ t : Fin grid0.N,
    (win0_11.index t (0 : Fin 4) = 0 ∧ win0_11.index t (1 : Fin 4) = t.val ∧ win0_11.index t (2 : Fin 4) = 0 ∧ win0_11.index t (3 : Fin 4) = 0)
    ∧ (win0_12.index t (0 : Fin 4) = 0 ∧ win0_12.index t (1 : Fin 4) = t.val ∧ win0_12.index t (2 : Fin 4) = 0 ∧ win0_12.index t (3 : Fin 4) = 0) := by decide +kernel

/-- The tile of a point, and a row of it. -/
abbrev tileOf (t : Fin cfg0.N) : Fin 11 := ⟨t, point_lt t⟩
abbrev rowAt (t : Fin cfg0.N) (r : Fin 192) : Fin 2112 := ⟨tileOf t * 192 + r, by have := (tileOf t).isLt; omega⟩

theorem b_0 (c : Dev nD) (t : Fin cfg0.N) (r : Fin 192) (k : Fin 512) : (iblk m c 0 t : Vec Ideal S192x512 .f32) (ix2 r k)
    = if h : t.val * 192 + r.val < 48 then 0 else arg0 m c (ix2 ⟨t * 192 + r - 48, by have := point_lt t; omega⟩ k) := by
  obtain ⟨⟨h0, h1⟩, -⟩ := idx_in t
  refine Eq.trans ?_ (beside_left (arg0 m c) (arg1 m c) (rowAt t r) k)
  rw [← v_2]
  unfold iblk
  rw [View.read_apply]
  show V m c main_v2 _ = _
  congr 1
  funext a
  apply Fin.ext
  match a with
  | ⟨0, _⟩ => show win0_0.index t 0 * 192 + 1 * r.val = t.val * 192 + r.val; rw [h0]; omega
  | ⟨1, _⟩ => show win0_0.index t 1 * 512 + 1 * k.val = k.val; rw [h1]; omega

theorem b_1 (c : Dev nD) (t : Fin cfg0.N) (r : Fin 192) (k : Fin 512) : (iblk m c 1 t : Vec Ideal S192x512 .f32) (ix2 r k)
    = if h : t.val * 192 + r.val < 48 then 0 else arg1 m c (ix2 ⟨t * 192 + r - 48, by have := point_lt t; omega⟩ k) := by
  obtain ⟨-, ⟨h0, h1⟩, -⟩ := idx_in t
  refine Eq.trans ?_ (beside_right (arg0 m c) (arg1 m c) (rowAt t r) k)
  rw [← v_2]
  unfold iblk
  rw [View.read_apply]
  show V m c main_v2 _ = _
  congr 1
  funext a
  apply Fin.ext
  match a with
  | ⟨0, _⟩ => show win0_1.index t 0 * 192 + 1 * r.val = t.val * 192 + r.val; rw [h0]; omega
  | ⟨1, _⟩ => show win0_1.index t 1 * 512 + 1 * k.val = 512 + k.val; rw [h1]; omega

theorem b_2 (c : Dev nD) (t : Fin cfg0.N) (r : Fin 4) (n : Fin 512) : (iblk m c 2 t : Vec Ideal S4x512 .f32) (ix2 r n) = arg2 m c (ix2 r n) := by
  obtain ⟨⟨h0, h1⟩, -⟩ := idx_par t
  rw [← v_arg2]
  unfold iblk
  rw [View.read_apply]
  show V m c main_arg2 _ = _
  congr 1
  funext a
  apply Fin.ext
  match a with
  | ⟨0, _⟩ => show win0_2.index t 0 * 4 + 1 * r.val = r.val; rw [h0]; omega
  | ⟨1, _⟩ => show win0_2.index t 1 * 512 + 1 * n.val = n.val; rw [h1]; omega

theorem b_3 (c : Dev nD) (t : Fin cfg0.N) (n : Fin 512) : (iblk m c 3 t : Vec Ideal S1x512 .f32) (ix2 0 n) = arg3 m c (ix1 n) := by
  obtain ⟨-, ⟨h0, h1⟩, -⟩ := idx_par t
  refine Eq.trans ?_ (row_at (arg3 m c) n)
  rw [← v_3]
  unfold iblk
  rw [View.read_apply]
  show V m c main_v3 _ = _
  congr 1
  funext a
  apply Fin.ext
  match a with
  | ⟨0, _⟩ => show win0_3.index t 0 * 1 + 1 * 0 = 0; rw [h0]
  | ⟨1, _⟩ => show win0_3.index t 1 * 512 + 1 * n.val = n.val; rw [h1]; omega

theorem b_4 (c : Dev nD) (t : Fin cfg0.N) (r n : Fin 512) : (iblk m c 4 t : Vec Ideal S512x512 .f32) (ix2 r n) = if r.val / 64 = n.val / 64 then arg4 m c (ix3 (headOf n) (placeIn r) (placeIn n)) else 0 := by
  obtain ⟨-, -, ⟨h0, h1⟩, -⟩ := idx_par t
  refine Eq.trans ?_ (spread_at (arg4 m c) r n)
  rw [← v_15]
  unfold iblk
  rw [View.read_apply]
  show V m c main_v15 _ = _
  congr 1
  funext a
  apply Fin.ext
  match a with
  | ⟨0, _⟩ => show win0_4.index t 0 * 512 + 1 * r.val = r.val; rw [h0]; omega
  | ⟨1, _⟩ => show win0_4.index t 1 * 512 + 1 * n.val = n.val; rw [h1]; omega

theorem b_5 (c : Dev nD) (t : Fin cfg0.N) (n : Fin 512) : (iblk m c 5 t : Vec Ideal S1x512 .f32) (ix2 0 n) = arg5 m c (ix1 n) := by
  obtain ⟨-, -, -, ⟨h0, h1⟩, -⟩ := idx_par t
  refine Eq.trans ?_ (row_at (arg5 m c) n)
  rw [← v_16]
  unfold iblk
  rw [View.read_apply]
  show V m c main_v16 _ = _
  congr 1
  funext a
  apply Fin.ext
  match a with
  | ⟨0, _⟩ => show win0_5.index t 0 * 1 + 1 * 0 = 0; rw [h0]
  | ⟨1, _⟩ => show win0_5.index t 1 * 512 + 1 * n.val = n.val; rw [h1]; omega

theorem b_6 (c : Dev nD) (t : Fin cfg0.N) (r n : Fin 512) : (iblk m c 6 t : Vec Ideal S512x512 .f32) (ix2 r n) = if r.val / 64 = n.val / 64 then arg6 m c (ix3 (headOf n) (placeIn r) (placeIn n)) else 0 := by
  obtain ⟨-, -, -, -, ⟨h0, h1⟩, -⟩ := idx_par t
  refine Eq.trans ?_ (spread_at (arg6 m c) r n)
  rw [← v_28]
  unfold iblk
  rw [View.read_apply]
  show V m c main_v28 _ = _
  congr 1
  funext a
  apply Fin.ext
  match a with
  | ⟨0, _⟩ => show win0_6.index t 0 * 512 + 1 * r.val = r.val; rw [h0]; omega
  | ⟨1, _⟩ => show win0_6.index t 1 * 512 + 1 * n.val = n.val; rw [h1]; omega

theorem b_7 (c : Dev nD) (t : Fin cfg0.N) (n : Fin 512) : (iblk m c 7 t : Vec Ideal S1x512 .f32) (ix2 0 n) = arg7 m c (ix1 n) := by
  obtain ⟨-, -, -, -, -, ⟨h0, h1⟩, -⟩ := idx_par t
  refine Eq.trans ?_ (row_at (arg7 m c) n)
  rw [← v_29]
  unfold iblk
  rw [View.read_apply]
  show V m c main_v29 _ = _
  congr 1
  funext a
  apply Fin.ext
  match a with
  | ⟨0, _⟩ => show win0_7.index t 0 * 1 + 1 * 0 = 0; rw [h0]
  | ⟨1, _⟩ => show win0_7.index t 1 * 512 + 1 * n.val = n.val; rw [h1]; omega

theorem b_8 (c : Dev nD) (t : Fin cfg0.N) (n : Fin 512) : (iblk m c 8 t : Vec Ideal S1x512 .f32) (ix2 0 n) = arg8 m c (ix1 n) := by
  obtain ⟨-, -, -, -, -, -, ⟨h0, h1⟩, -⟩ := idx_par t
  refine Eq.trans ?_ (row_at (arg8 m c) n)
  rw [← v_30]
  unfold iblk
  rw [View.read_apply]
  show V m c main_v30 _ = _
  congr 1
  funext a
  apply Fin.ext
  match a with
  | ⟨0, _⟩ => show win0_8.index t 0 * 1 + 1 * 0 = 0; rw [h0]
  | ⟨1, _⟩ => show win0_8.index t 1 * 512 + 1 * n.val = n.val; rw [h1]; omega

theorem b_9 (c : Dev nD) (t : Fin cfg0.N) (n : Fin 512) : (iblk m c 9 t : Vec Ideal S1x512 .f32) (ix2 0 n) = arg9 m c (ix1 n) := by
  obtain ⟨-, -, -, -, -, -, -, ⟨h0, h1⟩⟩ := idx_par t
  refine Eq.trans ?_ (row_at (arg9 m c) n)
  rw [← v_31]
  unfold iblk
  rw [View.read_apply]
  show V m c main_v31 _ = _
  congr 1
  funext a
  apply Fin.ext
  match a with
  | ⟨0, _⟩ => show win0_9.index t 0 * 1 + 1 * 0 = 0; rw [h0]
  | ⟨1, _⟩ => show win0_9.index t 1 * 512 + 1 * n.val = n.val; rw [h1]; omega

end Cert.LruFwdIdeal.Value

end
-- ==== Proof.LruFwdValue.lean ====
/-
  The values of the forward call of the gated linear recurrence: by induction over the tiles the rows and the state carried
  are the recurrence's, so each tile's result is the layer's.
-/
module

public import proofs.«01_k».proof.Proof.LruBlocks
public import proofs.«01_k».proof.Proof.LruHost

@[expose] public section

set_option maxRecDepth 16384

noncomputable section

open Idealize.ShloMosaic Idealize.ShloMosaic.TcCoe Idealize.ShloMosaic.Tactic

namespace Cert.LruFwdIdeal.Value

open Cert.LruFwdIdeal Cert.LruFwdIdeal.Gen Cert.Affine Cert.Lru

theorem cast_4 (x : Vec Ideal S1x512 .f32) : k0_pay4 x = x := by
  funext (i : S1x512.Idx); idx_vars i; pointwise [k0_pay4]
theorem cast_5 (x : Vec Ideal S512x512 .f32) : k0_pay5 x = x := by
  funext (i : S512x512.Idx); idx_vars i; pointwise [k0_pay5]
theorem cast_6 (x : Vec Ideal S1x512 .f32) : k0_pay6 x = x := by
  funext (i : S1x512.Idx); idx_vars i; pointwise [k0_pay6]
theorem cast_7 (x : Vec Ideal S512x512 .f32) : k0_pay7 x = x := by
  funext (i : S512x512.Idx); idx_vars i; pointwise [k0_pay7]
theorem cast_8 (x : Vec Ideal S1x512 .f32) : k0_pay8 x = x := by
  funext (i : S1x512.Idx); idx_vars i; pointwise [k0_pay8]
theorem cast_9 (x : Vec Ideal S1x512 .f32) : k0_pay9 x = x := by
  funext (i : S1x512.Idx); idx_vars i; pointwise [k0_pay9]
theorem cast_10 (x : Vec Ideal S1x512 .f32) : k0_pay10 x = x := by
  funext (i : S1x512.Idx); idx_vars i; pointwise [k0_pay10]
theorem cast_11 (x : Vec Ideal S192x512 .f32) : k0_pay11 x = x := by
  funext (i : S192x512.Idx); idx_vars i; pointwise [k0_pay11]
theorem cast_12 (x : Vec Ideal S192x512 .f32) : k0_pay12 x = x := by
  funext (i : S192x512.Idx); idx_vars i; pointwise [k0_pay12]
theorem last_row (v : FVec Ideal S192x512 .f32) (n : Fin 512) : k0_pay1 (k0_pay33 v) (ix2 0 n) = v (ix2 ⟨191, by omega⟩ n) := by
  pointwise [k0_pay1, k0_pay33]
theorem last_rows (x : Vec Ideal S192x512 .f32) (e : Fin 8) (n : Fin 512) : c_rows x (ix2 e n) = x (ix2 ⟨184 + e, by omega⟩ n) := by
  rw [c_rows, cast_11]
  pointwise [k0_pay36]
theorem saved_rows (s : Vec Ideal S8x512 .f32) (e : Fin 8) (n : Fin 512) : k0_pay34 s (ix4 0 0 e n) = s (ix2 e n) := by
  pointwise [k0_pay34]
theorem saved_state (s : Vec Ideal S1x512 .f32) (n : Fin 512) : k0_pay35 s (ix4 0 0 0 n) = s (ix2 0 n) := by
  pointwise [k0_pay35]
theorem zero_rows (e : Fin 8) (n : Fin 512) : k0_pay2 (F := Ideal) (ix2 e n) = 0 := by
  pointwise [k0_pay2]
theorem zero_state (n : Fin 512) : k0_pay3 (F := Ideal) (ix2 0 n) = 0 := by
  pointwise [k0_pay3]

variable (m : (ℓ : Loc nD τ sig) → Buf (Elt Ideal) ℓ) (c : Dev nD)

/-- What enters tile `n`: the eight rows before it, and the recurrence's state. -/
structure Entering (n : ℕ) (s0 : Vec Ideal S8x512 .f32) (s1 : Vec Ideal S1x512 .f32) : Prop where
  rows : ∀ (e : Fin 8) (j : Fin 512), s0 (ix2 e j) = rowAfter (args m c) 56 (192 * n + e) j
  state : ∀ j : Fin 512, s1 (ix2 0 j) = Cert.Affine.run (rate (args m c) 51 j) (masked (args m c) j) 0 (192 * n)

theorem row_in (t : Fin cfg0.N) (r : Fin 192) (j : Fin 512) : (iblk m c 0 t : Vec Ideal S192x512 .f32) (ix2 r j) = rowAfter (args m c) 56 (192 * t + (r + 8)) j := by
  have ht := point_lt t
  rw [b_0]
  unfold rowAfter
  by_cases h : t.val * 192 + r.val < 48
  · rw [dif_pos h, dif_neg (by omega)]
  · rw [dif_neg h, dif_pos ⟨by omega, by omega⟩]
    exact congrArg (fun i => arg0 m c (ix2 i j)) (Fin.ext (show t.val * 192 + r.val - 48 = 192 * t.val + (r.val + 8) - 56 by omega))

section Carry
variable {m} {c}

theorem tile_states (t : Fin cfg0.N) {s0 : Vec Ideal S8x512 .f32} {s1 : Vec Ideal S1x512 .f32} (h : Entering m c t.val s0 s1) :
    Rows (t_state (grid0.coords t) (iblk m c 0 t) (iblk m c 2 t) (iblk m c 3 t) (iblk m c 4 t) (iblk m c 5 t) (iblk m c 6 t) (iblk m c 7 t) (iblk m c 8 t) s0 s1)
      fun n r => Cert.Affine.run (rate (args m c) 51 n) (masked (args m c) n) 0 (192 * t + r + 1) := by
  have hx := conv_at (P := args m c) (v4 := iblk m c 2 t) (v6 := k0_pay4 (iblk m c 3 t)) (v20 := k0_pay11 (iblk m c 0 t)) (v23 := s0) (a := tileOf t)
    (fun k n => b_2 m c t k n) (fun n => by rw [cast_4]; exact b_3 m c t n) (fun r n => by rw [cast_11]; exact row_in m c t r n) h.rows
  have hg := input_gate_at (P := args m c) (v12 := k0_pay7 (iblk m c 6 t)) (v14 := k0_pay8 (iblk m c 7 t)) hx (fun k n => by rw [cast_7]; exact b_6 m c t k n) (fun n => by rw [cast_8]; exact b_7 m c t n)
  have hr := rate_gate_at (P := args m c) (v8 := k0_pay5 (iblk m c 4 t)) (v10 := k0_pay6 (iblk m c 5 t)) hx (fun k n => by rw [cast_5]; exact b_4 m c t k n) (fun n => by rw [cast_6]; exact b_5 m c t n)
  exact states_at (P := args m c) (a := tileOf t) hx hg (log_rate_at (v16 := k0_pay9 (iblk m c 8 t)) hr fun n => by rw [cast_9]; exact b_8 m c t n) (mask_at (grid0.coords t) (tileOf t) (coord_1 t)) h.state

/-- What a point leaves, in terms of what enters it. -/
def Leaves (n : ℕ) (hn : n < cfg0.N) (s0 : Vec Ideal S8x512 .f32) (s1 : Vec Ideal S1x512 .f32) : Prop :=
  outsAt0 m c n hn = (t_y (grid0.coords ⟨n, hn⟩) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) s0 s1,
        k0_pay34 (F := Ideal) s0, k0_pay35 (F := Ideal) s1, c_rows (iblk m c 0 ⟨n, hn⟩),
        c_state (grid0.coords ⟨n, hn⟩) (iblk m c 0 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) s0 s1)

theorem leaves_zero (hn : 0 < cfg0.N) : Leaves (m := m) (c := c) 0 hn (k0_pay2 (F := Ideal)) (k0_pay3 (F := Ideal)) := by
  have h := outsAt0_A m c ⟨0, hn⟩ rfl
  dsimp only at h
  unfold Leaves
  rw [h, out_A_10, out_A_11, out_A_12, sout_A_0, sout_A_1]

theorem leaves_succ (n : ℕ) (hn : n + 1 < cfg0.N) :
    Leaves (m := m) (c := c) (n + 1) hn (outsAt0 m c n (by omega)).2.2.2.1 (outsAt0 m c n (by omega)).2.2.2.2 := by
  have h := outsAt0_B m c ⟨n + 1, hn⟩ (by have : n + 1 < 11 := hn; dsimp only; omega)
  dsimp only at h
  unfold Leaves
  rw [h, out_B_10, out_B_11, out_B_12, sout_B_0, sout_B_1]
  rfl

theorem enters_succ {n : ℕ} (hn : n < cfg0.N) {s0 : Vec Ideal S8x512 .f32} {s1 : Vec Ideal S1x512 .f32} (hs : Entering m c n s0 s1) (he : Leaves (m := m) (c := c) n hn s0 s1) :
    Entering m c (n + 1) (outsAt0 m c n hn).2.2.2.1 (outsAt0 m c n hn).2.2.2.2 := by
  unfold Leaves at he
  refine ⟨fun e j => ?_, fun j => ?_⟩
  · rw [he]
    dsimp only
    rw [last_rows, row_in]
    refine congrArg (fun k => rowAfter (args m c) 56 k j) ?_
    show 192 * n + (184 + e.val + 8) = 192 * (n + 1) + e.val
    omega
  · rw [he]
    dsimp only
    rw [c_state, last_row]
    exact (tile_states ⟨n, hn⟩ hs ⟨191, by omega⟩ j).trans (congrArg (Cert.Affine.run _ _ 0) (show 192 * n + 191 + 1 = 192 * (n + 1) by omega))

/-- What enters a point is the recurrence's. -/
theorem carried : ∀ (n : ℕ) (hn : n < cfg0.N), ∃ (s0 : Vec Ideal S8x512 .f32) (s1 : Vec Ideal S1x512 .f32), Entering m c n s0 s1 ∧ Leaves (m := m) (c := c) n hn s0 s1 := by
  intro n
  induction n with
  | zero =>
    refine fun hn => ⟨k0_pay2 (F := Ideal), k0_pay3 (F := Ideal), ⟨fun e j => ?_, fun j => ?_⟩, leaves_zero hn⟩
    · rw [zero_rows, rowAfter, dif_neg (by omega)]
    · rw [zero_state]; rfl
  | succ n ih =>
    intro hn
    obtain ⟨s0, s1, hs, he⟩ := ih (by omega)
    exact ⟨_, _, enters_succ (by omega) hs he, leaves_succ n hn⟩

theorem left_11 (t : Fin cfg0.N) (e : Fin 8) (n : Fin 512) : (outsAt0 m c t.val t.isLt).2.1 (ix4 0 0 e n) = rowsIn (args m c) (tileOf t) e n := by
  obtain ⟨s0, s1, hs, he⟩ := carried (m := m) (c := c) t.val t.isLt
  unfold Leaves at he
  rw [he]
  exact (saved_rows s0 e n).trans (hs.rows e n)

theorem left_12 (t : Fin cfg0.N) (n : Fin 512) : (outsAt0 m c t.val t.isLt).2.2.1 (ix4 0 0 0 n) = stateIn (args m c) (tileOf t) n := by
  obtain ⟨s0, s1, hs, he⟩ := carried (m := m) (c := c) t.val t.isLt
  unfold Leaves at he
  rw [he]
  exact (saved_state s1 n).trans ((hs.state n).trans (run_masked _ _ _))

theorem left_10 (t : Fin cfg0.N) (r : Fin 192) (j : Fin 512) : (outsAt0 m c t.val t.isLt).1 (ix2 r j) = result (args m c) (rowAt t r) j := by
  obtain ⟨s0, s1, hs, he⟩ := carried (m := m) (c := c) t.val t.isLt
  have hr := tile_states t hs
  have hm : t_mask (grid0.coords t) (ix2 r 0) = _ := mask_at (grid0.coords t) (tileOf t) (coord_1 t) r
  have ht := point_lt t
  unfold Leaves at he
  rw [he]
  refine (out_at _ _ _ _ r j).trans ?_
  rw [hm, cast_10, cast_12, b_9]
  unfold result
  by_cases h : t.val * 192 + r.val < 48
  · rw [dif_pos h, if_neg (by dsimp only; omega), mul_zero]
  · rw [dif_neg h, if_pos (by dsimp only; omega), mul_one]
    have e : ∀ k : Fin 512, gelu ((iblk m c 1 t : Vec Ideal S192x512 .f32) (ix2 r k)) * t_state (grid0.coords t) (iblk m c 0 t) (iblk m c 2 t) (iblk m c 3 t) (iblk m c 4 t) (iblk m c 5 t) (iblk m c 6 t) (iblk m c 7 t) (iblk m c 8 t) s0 s1 (ix2 r k)
        = gated (args m c) ⟨t * 192 + r - 48, by omega⟩ k := fun k => by
      rw [hr r k]
      dsimp only
      rw [run_masked, b_1, dif_neg h]
      exact congrArg₂ (fun x y : EReal => x * y) rfl (congrArg (state (args m c) k) (show 192 * t.val + r.val + 1 - 48 = t.val * 192 + r.val - 48 + 1 by omega))
    simp only [e]
    rfl

theorem emb_10 (t : Fin cfg0.N) (j : S192x512.Idx) : ((cfg0.win 10).blk t).view.emb j = (ix2 (rowAt t (j 0)) (j 1) : S2112x512.Idx) := by
  obtain ⟨-, -, ⟨h0, h1⟩⟩ := idx_in t
  funext a
  apply Fin.ext
  match a with
  | ⟨0, _⟩ => show win0_10.index t 0 * 192 + 1 * (j 0).val = t.val * 192 + (j 0).val; rw [h0]; omega
  | ⟨1, _⟩ => show win0_10.index t 1 * 512 + 1 * (j 1).val = (j 1).val; rw [h1]; omega

theorem emb_11 (t : Fin cfg0.N) (j : S1x1x8x512.Idx) : ((cfg0.win 11).blk t).view.emb j = (ix4 0 (tileOf t) (j 2) (j 3) : S1x11x8x512.Idx) := by
  obtain ⟨⟨h0, h1, h2, h3⟩, -⟩ := idx_saved t
  have k0 := (j 0).isLt
  have k1 := (j 1).isLt
  funext a
  apply Fin.ext
  match a with
  | ⟨0, _⟩ => show win0_11.index t 0 * 1 + 1 * (j 0).val = 0; rw [h0]; have : (j 0).val < 1 := k0; omega
  | ⟨1, _⟩ => show win0_11.index t 1 * 1 + 1 * (j 1).val = t.val; rw [h1]; have : (j 1).val < 1 := k1; omega
  | ⟨2, _⟩ => show win0_11.index t 2 * 8 + 1 * (j 2).val = (j 2).val; rw [h2]; omega
  | ⟨3, _⟩ => show win0_11.index t 3 * 512 + 1 * (j 3).val = (j 3).val; rw [h3]; omega

theorem emb_12 (t : Fin cfg0.N) (j : S1x1x1x512.Idx) : ((cfg0.win 12).blk t).view.emb j = (ix4 0 (tileOf t) 0 (j 3) : S1x11x1x512.Idx) := by
  obtain ⟨-, ⟨h0, h1, h2, h3⟩⟩ := idx_saved t
  have k0 := (j 0).isLt
  have k1 := (j 1).isLt
  have k2 := (j 2).isLt
  funext a
  apply Fin.ext
  match a with
  | ⟨0, _⟩ => show win0_12.index t 0 * 1 + 1 * (j 0).val = 0; rw [h0]; have : (j 0).val < 1 := k0; omega
  | ⟨1, _⟩ => show win0_12.index t 1 * 1 + 1 * (j 1).val = t.val; rw [h1]; have : (j 1).val < 1 := k1; omega
  | ⟨2, _⟩ => show win0_12.index t 2 * 1 + 1 * (j 2).val = 0; rw [h2]; have : (j 2).val < 1 := k2; omega
  | ⟨3, _⟩ => show win0_12.index t 3 * 512 + 1 * (j 3).val = (j 3).val; rw [h3]; omega

theorem final_10 : (dats m 0 c).arrAt 10 cfg0.N = fun i : S2112x512.Idx => result (args m c) (i 0) (i 1) := by
  refine (dats m 0 c).arrAt_eq_of_cover 10 _ (fun t hf => ?_) fun (i : S2112x512.Idx) => (covered_iff10 i).mpr ⟨Nat.zero_le _, (i 0).isLt, Nat.zero_le _, (i 1).isLt⟩
  rw [flushed10]
  refine funext fun (j : S192x512.Idx) => ?_
  rw [View.read_apply, emb_10]
  idx_vars j
  exact left_10 t j0 j1

theorem final_11 : (dats m 0 c).arrAt 11 cfg0.N = fun i : S1x11x8x512.Idx => rowsIn (args m c) (i 1) (i 2) (i 3) := by
  refine (dats m 0 c).arrAt_eq_of_cover 11 _ (fun t hf => ?_) fun (i : S1x11x8x512.Idx) =>
    (covered_iff11 i).mpr ⟨Nat.zero_le _, (i 0).isLt, Nat.zero_le _, (i 1).isLt, Nat.zero_le _, (i 2).isLt, Nat.zero_le _, (i 3).isLt⟩
  rw [flushed11]
  refine funext fun (j : S1x1x8x512.Idx) => ?_
  rw [View.read_apply, emb_11]
  idx_vars j
  obtain rfl : j0 = 0 := Subsingleton.elim _ _
  obtain rfl : j1 = 0 := Subsingleton.elim _ _
  exact left_11 t j2 j3

theorem final_12 : (dats m 0 c).arrAt 12 cfg0.N = fun i : S1x11x1x512.Idx => stateIn (args m c) (i 1) (i 3) := by
  refine (dats m 0 c).arrAt_eq_of_cover 12 _ (fun t hf => ?_) fun (i : S1x11x1x512.Idx) =>
    (covered_iff12 i).mpr ⟨Nat.zero_le _, (i 0).isLt, Nat.zero_le _, (i 1).isLt, Nat.zero_le _, (i 2).isLt, Nat.zero_le _, (i 3).isLt⟩
  rw [flushed12]
  refine funext fun (j : S1x1x1x512.Idx) => ?_
  rw [View.read_apply, emb_12]
  idx_vars j
  obtain rfl : j0 = 0 := Subsingleton.elim _ _
  obtain rfl : j1 = 0 := Subsingleton.elim _ _
  obtain rfl : j2 = 0 := Subsingleton.elim _ _
  exact left_12 t j3

end Carry

end Cert.LruFwdIdeal.Value

end
-- ==== Proof.LruRef.lean ====
/-
  The values of the reference of the forward call of the gated linear recurrence: its loop over the positions is the
  recurrence.
-/
module

public import proofs.«01_k».proof.Proof.Gen.LruFwdRefIdeal.Run
public import proofs.«01_k».proof.Proof.LruSpec
public import Idealize.ShloMosaic.Lib.DynamicIndex
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.StableHlo

namespace Cert.LruFwdRefIdeal.Value

open Cert.LruFwdRefIdeal Cert.LruFwdRefIdeal.Gen Cert.Affine Cert.Lru

section Host
variable (x0 : FVec Ideal S2064x512 .f32) (x2 : FVec Ideal S4x512 .f32) (x3 : FVec Ideal S512 .f32) (x4 : FVec Ideal S8x64x64 .f32) (x5 : FVec Ideal S512 .f32) (x6 : FVec Ideal S8x64x64 .f32) (x7 x8 : FVec Ideal S512 .f32)

abbrev h_row (v : FVec Ideal S512 .f32) : FVec Ideal S2064x512 .f32 := broadcastInDim S2064x512 ![0, 1] bcast_S1x512_S2064x512_0_1 (broadcastInDim S1x512 ![1] bcast_S512_S1x512_1 v)
abbrev h_const (b : BitVec 32) : FVec Ideal S2064x512 .f32 := broadcastInDim S2064x512 ![] bcast_S_S2064x512 (constant S_ .f32 b)
def h_front : FVec Ideal S2067x512 .f32 :=
  concatenate S2067x512 0 [⟨S3x512, broadcastInDim S3x512 ![] bcast_S_S3x512 (constant S_ .f32 0x00000000#32)⟩, ⟨S2064x512, x0⟩] concatenates_S3x512_S2064x512_S2067x512_d0
def h_conv : FVec Ideal S2064x512 .f32 :=
  addf (addf (addf (addf (addf (h_const 0x00000000#32)
      (mulf (h_row (shapeCast S512 (extractStridedSlice S1x512 ![0, 0] x2 slices_S4x512_S1x512_0_0) shapeCasts_S1x512_S512)) (extractStridedSlice S2064x512 ![0, 0] (h_front x0) slices_S2067x512_S2064x512_0_0)))
      (mulf (h_row (shapeCast S512 (extractStridedSlice S1x512 ![1, 0] x2 slices_S4x512_S1x512_1_0) shapeCasts_S1x512_S512)) (extractStridedSlice S2064x512 ![1, 0] (h_front x0) slices_S2067x512_S2064x512_1_0)))
      (mulf (h_row (shapeCast S512 (extractStridedSlice S1x512 ![2, 0] x2 slices_S4x512_S1x512_2_0) shapeCasts_S1x512_S512)) (extractStridedSlice S2064x512 ![2, 0] (h_front x0) slices_S2067x512_S2064x512_2_0)))
      (mulf (h_row (shapeCast S512 (extractStridedSlice S1x512 ![3, 0] x2 slices_S4x512_S1x512_3_0) shapeCasts_S1x512_S512)) (extractStridedSlice S2064x512 ![3, 0] (h_front x0) slices_S2067x512_S2064x512_3_0)))
    (h_row x3)
def h_gate (w : FVec Ideal S8x64x64 .f32) (b : FVec Ideal S512 .f32) (x : FVec Ideal S2064x512 .f32) : FVec Ideal S2064x512 .f32 :=
  Host.divf (h_const 0x3F800000#32) (addf (h_const 0x3F800000#32) (Host.exp (Host.negf (addf
    (shapeCast S2064x512 (transpose S2064x8x64 [2, 0, 1] (Host.dotGeneral dot_S8x64x64_S2064x8x64_S8x64x2064_1_2_2_0_0_1 none w (shapeCast S2064x8x64 x shapeCasts_S2064x512_S2064x8x64))
      transposes_S8x64x2064_S2064x8x64_2_0_1) shapeCasts_S2064x8x64_S2064x512) (h_row b)))))
abbrev h_none : FVec Ideal S512 .f32 := broadcastInDim S512 ![] bcast_S_S512 (constant S_ .f32 0x00000000#32)
def h_soft (s : FVec Ideal S512 .f32) : FVec Ideal S512 .f32 :=
  select (cmpf .une (subf s h_none) (subf s h_none)) (addf s h_none) (addf (maximumf s h_none) (Host.log1p (Host.exp (Host.negf (Host.absf (subf s h_none))))))
def h_log : FVec Ideal S2064x512 .f32 := mulf (mulf (h_const 0xC1000000#32) (h_gate x4 x5 (h_conv x0 x2 x3))) (h_row (h_soft (Host.negf x8)))
def h_rate : FVec Ideal S2064x512 .f32 := Host.exp (h_log x0 x2 x3 x4 x5 x8)
def h_input : FVec Ideal S2064x512 .f32 :=
  mulf (Host.sqrt (Host.negf (Host.expm1 (mulf (h_const 0x40000000#32) (h_log x0 x2 x3 x4 x5 x8))))) (mulf (h_gate x6 x7 (h_conv x0 x2 x3)) (h_conv x0 x2 x3))

variable {x0 x2 x3 x4 x5 x6 x7 x8} {P : Args}

theorem front_at (h0 : ∀ (t : Fin 2064) (j : Fin 512), x0 (ix2 t j) = P.U t j) (i : Fin 2067) (j : Fin 512) : h_front x0 (ix2 i j) = rowAfter P 3 i j := by
  have hi := i.isLt
  pointwise [h_front]
  unfold rowAfter
  by_cases h : i.val < 3
  · rw [dif_pos h, dif_neg (by omega)]
  · rw [dif_neg h, dif_pos ⟨by omega, by omega⟩]
    exact h0 _ _

theorem conv_at (h0 : ∀ (t : Fin 2064) (j : Fin 512), x0 (ix2 t j) = P.U t j) (h2 : ∀ (k : Fin 4) (j : Fin 512), x2 (ix2 k j) = P.cw k j) (h3 : ∀ j : Fin 512, x3 (ix1 j) = P.cb j)
    (t : Fin 2064) (j : Fin 512) : h_conv x0 x2 x3 (ix2 t j) = conv P 3 t j := by
  have ht := t.isLt
  have e : ∀ (s : ℕ) (hs : s < 4), h_front x0 (ix2 ⟨s + t, by omega⟩ j) = rowAfter P 3 (t + s) j := fun s hs =>
    (front_at h0 _ j).trans (congrArg (fun k => rowAfter P 3 k j) (Nat.add_comm s t.val))
  have e0 : h_front x0 (ix2 ⟨t, by omega⟩ j) = rowAfter P 3 t j := front_at h0 _ j
  pointwise [h_conv]
  rw [e 1 (by omega), e 2 (by omega), e 3 (by omega), e0, h2, h2, h2, h2, h3]
  rfl

theorem gate_at (w : FVec Ideal S8x64x64 .f32) (b : FVec Ideal S512 .f32) {x : FVec Ideal S2064x512 .f32} {X : ℕ → Fin 512 → EReal} (hx : ∀ (t : Fin 2064) (j : Fin 512), x (ix2 t j) = X t j)
    (t : Fin 2064) (j : Fin 512) : h_gate w b x (ix2 t j) = Ideal.logistic (gate (fun s i p => w (ix3 s i p)) (fun j => b (ix1 j)) (X t) j) := by
  pointwise [h_gate]
  simp only [hx]
  rfl

theorem soft_at (s : FVec Ideal S512 .f32) (j : Fin 512) : h_soft s (ix1 j) = soft (s (ix1 j)) := by
  pointwise [h_soft]
  rw [if_neg (fun h => h rfl)]
  rfl

end Host

section Rows

theorem row_slice (x : FVec Ideal S2064x512 .f32) (st : Fin 2 → Int) (k : ℕ) (hk : k < 2064) (hs : ∀ a, st a = ((![k, 0] : Fin 2 → ℕ) a : Int)) (j : Fin 512) :
    shapeCast S512 (Host.dynamicSlice S1x512 x st sliceFits_S2064x512_S1x512) shapeCasts_S1x512_S512 (ix1 j) = x (ix2 ⟨k, hk⟩ j) := by
  have hoff : S2064x512.Slices (![k, 0] : Fin 2 → ℕ) S1x512 := ⟨rfl, fun a => by
    fin_cases a
    · show k + 1 ≤ 2064; omega
    · show 0 + 512 ≤ 512; omega⟩
  rw [Host.dynamicSlice_eq_extractStridedSlice S1x512 x st ![k, 0] _ hoff hs]
  pointwise

theorem row_update (x : FVec Ideal S2064x512 .f32) (v : FVec Ideal S512 .f32) (st : Fin 2 → Int) (k : ℕ) (hk : k < 2064) (hs : ∀ a, st a = ((![k, 0] : Fin 2 → ℕ) a : Int))
    (t : Fin 2064) (j : Fin 512) :
    Host.dynamicUpdateSlice x (broadcastInDim S1x512 ![1] bcast_S512_S1x512_1 v) st updateFits_S2064x512_S1x512 (ix2 t j) = if t.val = k then v (ix1 j) else x (ix2 t j) := by
  have hoff : S2064x512.Slices (![k, 0] : Fin 2 → ℕ) S1x512 := ⟨rfl, fun a => by
    fin_cases a
    · show k + 1 ≤ 2064; omega
    · show 0 + 512 ≤ 512; omega⟩
  rw [Host.dynamicUpdateSlice_eq_updateSlice x _ st _ ![k, 0] (fun a => by
    have := hoff.2 a
    rw [hs a]
    omega) hoff]
  pointwise
  by_cases h : t.val = k
  · rw [dif_pos (by omega), if_pos h]
  · rw [dif_neg (by omega), if_neg h]

end Rows

section Loop
variable (m : (ℓ : Loc nD τ sig) → Buf (Elt Ideal) ℓ) (c : Dev nD)

/-- What the loop carries after `k` trips: the factors and inputs as at its entry, the counter at `k`, the state after `k`
    inputs, and the states so far stacked. -/
structure At (A B : Fin 512 → ℕ → EReal) (k : ℕ) (V : Valuation τ sig (Elt Ideal)) : Prop where
  fac : ∀ (t : Fin 2064) (j : Fin 512), (V (Proc.devRef .tc main_v76_0) : FVec Ideal S2064x512 .f32) (ix2 t j) = A j t
  inp : ∀ (t : Fin 2064) (j : Fin 512), (V (Proc.devRef .tc main_v76_1) : FVec Ideal S2064x512 .f32) (ix2 t j) = B j t
  ctr : V (Proc.devRef .tc main_v76_2) = fun _ => Scf.iv 0#32 1#32 k
  now : ∀ j : Fin 512, (V (Proc.devRef .tc main_v76_3) : FVec Ideal S512 .f32) (ix1 j) = Cert.Affine.run (A j) (B j) 0 k
  all : ∀ (t : Fin 2064) (j : Fin 512), t.val < k → (V (Proc.devRef .tc main_v76_4) : FVec Ideal S2064x512 .f32) (ix2 t j) = Cert.Affine.run (A j) (B j) 0 (t + 1)

theorem start_at {V : Valuation τ sig (Elt Ideal)} {k : ℕ} (hk : k < 2064) (h : V (Proc.devRef .tc main_v76_2) = fun _ => Scf.iv 0#32 1#32 k) (a : Fin 2) :
    (((![V (Proc.devRef .tc main_v76_2), constantI S_ 32 0#32] : Fin 2 → (⟨S_, .i32⟩ : BufTy).Contents (Elt Ideal)) a (Shape.Idx.first h_S_) : BitVec 32)).toInt
      = ((![k, 0] : Fin 2 → ℕ) a : Int) := by
  fin_cases a
  · show ((V (Proc.devRef .tc main_v76_2) : IVec S_ 32) (Shape.Idx.first h_S_)).toInt = (k : Int)
    rw [h]
    show (Scf.iv 0#32 1#32 k).toInt = k
    have e : (Scf.iv 0#32 1#32 k).toNat = k := by
      simp only [Scf.iv, zero_add, mul_one, BitVec.zero_add, BitVec.mul_one, BitVec.toNat_ofNat]
      omega
    rw [BitVec.toInt_eq_toNat_of_lt (by omega), e]
  · rfl

variable {A B : Fin 512 → ℕ → EReal}

theorem At.next {k : ℕ} {V : Valuation τ sig (Elt Ideal)} (hk : k < 2064) (h : At A B k V) (j : Fin 512) :
    (res_main_while0b_v121 V : FVec Ideal S512 .f32) (ix1 j) = Cert.Affine.run (A j) (B j) 0 (k + 1) := by
  have ea := (row_slice (V (Proc.devRef .tc main_v76_0)) _ k hk (start_at hk h.ctr) j).trans (h.fac ⟨k, hk⟩ j)
  have eb := (row_slice (V (Proc.devRef .tc main_v76_1)) _ k hk (start_at hk h.ctr) j).trans (h.inp ⟨k, hk⟩ j)
  refine (congrArg₂ (fun x y : EReal => x + y) (congrArg₂ (fun x y : EReal => x * y) ea (h.now j)) eb).trans ?_
  rw [Cert.Affine.run, Nat.zero_add]

theorem At.step {k : ℕ} {V : Valuation τ sig (Elt Ideal)} (hk : k < 2064) (h : At A B k V) : At A B (k + 1) (STEP V) where
  fac := by rw [STEP_main_v76_0]; exact h.fac
  inp := by rw [STEP_main_v76_1]; exact h.inp
  ctr := by
    rw [STEP_main_v76_2, Scf.iv_succ]
    show addi (V (Proc.devRef .tc main_v76_2)) (constantI S_ 32 1#32) = _
    rw [h.ctr]; rfl
  now := by rw [STEP_main_v76_3]; exact h.next hk
  all := by
    intro t j ht
    rw [STEP_main_v76_4]
    refine (row_update _ _ _ k hk (start_at hk h.ctr) t j).trans ?_
    by_cases e : t.val = k
    · rw [if_pos e, h.next hk, e]
    · rw [if_neg e, h.all t j (by omega)]

theorem At.iterate {V : Valuation τ sig (Elt Ideal)} (h : At A B 0 V) : ∀ k, k ≤ 2064 → At A B k (STEP^[k] V)
  | 0, _ => h
  | k + 1, hk => by
    rw [Function.iterate_succ_apply']
    exact (h.iterate k (by omega)).step (by omega)

abbrev arg0 : FVec Ideal S2064x512 .f32 := m ((c.tc : Thread nD τ).loc main_arg0)
abbrev arg1 : FVec Ideal S2064x512 .f32 := m ((c.tc : Thread nD τ).loc main_arg1)
abbrev arg2 : FVec Ideal S4x512 .f32 := m ((c.tc : Thread nD τ).loc main_arg2)
abbrev arg3 : FVec Ideal S512 .f32 := m ((c.tc : Thread nD τ).loc main_arg3)
abbrev arg4 : FVec Ideal S8x64x64 .f32 := m ((c.tc : Thread nD τ).loc main_arg4)
abbrev arg5 : FVec Ideal S512 .f32 := m ((c.tc : Thread nD τ).loc main_arg5)
abbrev arg6 : FVec Ideal S8x64x64 .f32 := m ((c.tc : Thread nD τ).loc main_arg6)
abbrev arg7 : FVec Ideal S512 .f32 := m ((c.tc : Thread nD τ).loc main_arg7)
abbrev arg8 : FVec Ideal S512 .f32 := m ((c.tc : Thread nD τ).loc main_arg8)
abbrev arg9 : FVec Ideal S512 .f32 := m ((c.tc : Thread nD τ).loc main_arg9)

/-- The reference's arguments. -/
abbrev args : Args where
  U := fun t j => arg0 m c (ix2 t j)
  G := fun t j => arg1 m c (ix2 t j)
  cw := fun k j => arg2 m c (ix2 k j)
  cb := fun j => arg3 m c (ix1 j)
  wa := fun s i p => arg4 m c (ix3 s i p)
  ba := fun j => arg5 m c (ix1 j)
  wi := fun s i p => arg6 m c (ix3 s i p)
  bi := fun j => arg7 m c (ix1 j)
  lam := fun j => arg8 m c (ix1 j)
  ng := fun j => arg9 m c (ix1 j)

theorem entry_0 : entryContents preI m c (Proc.devRef .tc main_v76_0) = h_rate (arg0 m c) (arg2 m c) (arg3 m c) (arg4 m c) (arg5 m c) (arg8 m c) := by
  simp only [entryContents, afterL_cons, afterL_nil]
  after_results
  rfl
theorem entry_1 : entryContents preI m c (Proc.devRef .tc main_v76_1) = h_input (arg0 m c) (arg2 m c) (arg3 m c) (arg4 m c) (arg5 m c) (arg6 m c) (arg7 m c) (arg8 m c) := by
  simp only [entryContents, afterL_cons, afterL_nil]
  after_results
  rfl
theorem entry_3 : entryContents preI m c (Proc.devRef .tc main_v76_3) = (broadcastInDim S512 ![] bcast_S_S512 (constant (F := Ideal) S_ .f32 0x00000000#32)) := by
  simp only [entryContents, afterL_cons, afterL_nil]
  after_results
  rfl

theorem log_at (t : Fin 2064) (j : Fin 512) : h_log (arg0 m c) (arg2 m c) (arg3 m c) (arg4 m c) (arg5 m c) (arg8 m c) (ix2 t j) = logRate (args m c) 3 j t := by
  have hx := conv_at (P := args m c) (x0 := arg0 m c) (x2 := arg2 m c) (x3 := arg3 m c) (fun _ _ => rfl) (fun _ _ => rfl) (fun _ => rfl)
  have hg := gate_at (arg4 m c) (arg5 m c) hx t j
  have hs := soft_at (Host.negf (arg8 m c)) j
  pointwise [h_log]
  rw [hg, hs]
  rfl

theorem At.start : At (rate (args m c) 3) (input (args m c) 3) 0 (entryContents preI m c) where
  fac := by
    rw [entry_0]
    exact fun t j => congrArg Ideal.exp (log_at m c t j)
  inp := by
    rw [entry_1]
    intro t j
    have hx := conv_at (P := args m c) (x0 := arg0 m c) (x2 := arg2 m c) (x3 := arg3 m c) (fun _ _ => rfl) (fun _ _ => rfl) (fun _ => rfl)
    have hg := gate_at (arg6 m c) (arg7 m c) hx t j
    have hl := log_at m c t j
    pointwise [h_input]
    rw [hg, hl, hx]
    rfl
  ctr := by rw [ctr_entry]; rfl
  now := by rw [entry_3]; intro j; pointwise; rfl
  all := fun _ _ h => absurd h (by omega)

/-- After its last step the loop holds every state of the recurrence. -/
theorem ended : At (rate (args m c) 3) (input (args m c) 3) 2064 (STEP^[2064] (entryContents preI m c)) := (At.start m c).iterate 2064 le_rfl

end Loop

end Cert.LruFwdRefIdeal.Value

end
-- ==== Proof.LruOut.lean ====
/-
  The results of the reference of the forward call of the gated linear recurrence, read from the state its loop leaves.
-/
module

public import proofs.«01_k».proof.Proof.LruRef

@[expose] public section

set_option maxRecDepth 16384

noncomputable section

open Idealize.ShloMosaic Idealize.ShloMosaic.TcCoe Idealize.ShloMosaic.StableHlo

namespace Cert.LruFwdRefIdeal.Value

open Cert.LruFwdRefIdeal Cert.LruFwdRefIdeal.Gen Cert.Affine Cert.Lru

section Out
variable {P : Args} {V : Valuation τ sig (Elt Ideal)}

theorem out_y_at (h : At (rate P 3) (input P 3) 2064 V) (h1 : ∀ (t : Fin 2064) (j : Fin 512), (V (Proc.devRef .tc main_arg1) : FVec Ideal S2064x512 .f32) (ix2 t j) = P.G t j)
    (h9 : ∀ j : Fin 512, (V (Proc.devRef .tc main_arg9) : FVec Ideal S512 .f32) (ix1 j) = P.ng j) (i : Fin 2112) (j : Fin 512) :
    (out_main_v105 V : FVec Ideal S2112x512 .f32) (ix2 i j) = result P i j := by
  have e : ∀ (t : Fin 2064) (k : Fin 512), (V (Proc.devRef .tc main_v76_4) : FVec Ideal S2064x512 .f32) (ix2 t k) = state P k (t + 1) := fun t k => h.all t k t.isLt
  pointwise [out_main_v105]
  unfold result
  by_cases hi : i.val < 48
  · rw [dif_pos hi, dif_pos hi]
  · rw [dif_neg hi, dif_neg hi]
    simp only [e, h1, h9, mul_comm (P.G _ _ * P.G _ _) (P.G _ _)]
    rfl

theorem out_rows_at (h0 : ∀ (t : Fin 2064) (j : Fin 512), (V (Proc.devRef .tc main_arg0) : FVec Ideal S2064x512 .f32) (ix2 t j) = P.U t j) (i : Fin 11) (e : Fin 8) (j : Fin 512) :
    (out_main_v111 V : FVec Ideal S1x11x8x512 .f32) (ix4 0 i e j) = rowsIn P i e j := by
  pointwise [out_main_v111]
  unfold rowsIn rowAfter
  by_cases hi : i.val * 192 + e.val < 56
  · rw [dif_pos hi, dif_neg (by omega)]
  · rw [dif_neg hi, dif_pos ⟨by omega, by omega⟩, h0]
    exact congrArg (fun t => P.U t j) (Fin.ext (show i.val * 192 + e.val - 56 = 192 * i.val + e.val - 56 by omega))

theorem out_state_at (h : At (rate P 3) (input P 3) 2064 V) (i : Fin 11) (j : Fin 512) :
    (out_main_v117 V : FVec Ideal S1x11x1x512 .f32) (ix4 0 i 0 j) = stateIn P i j := by
  pointwise [out_main_v117]
  unfold stateIn state
  by_cases hi : i.val * 192 < 49
  · rw [dif_pos hi, show 192 * i.val - 48 = 0 by omega]
    rfl
  · rw [dif_neg hi, show 192 * i.val - 48 = i.val * 192 - 49 + 1 by omega]
    exact h.all ⟨i * 192 - 49, by omega⟩ j (by dsimp only; omega)

end Out

end Cert.LruFwdRefIdeal.Value

end
-- ==== Proof.LruFwdClaims.lean ====
/-
  The five claims about the forward call of the gated linear recurrence.
-/
module

public import proofs.«01_k».proof.Defs
public import proofs.«01_k».proof.Proof.LruFwdValue
public import proofs.«01_k».proof.Proof.LruOut
public import proofs.«01_k».proof.Proof.Gen.LruFwd.Frame
public import proofs.«01_k».proof.Proof.Gen.LruFwdIdeal.Value
public import proofs.«01_k».proof.Proof.Gen.LruFwdRefIdeal.Run
public import Idealize.ShloMosaic.Lib.Quiescent

@[expose] public section

set_option maxRecDepth 16384

noncomputable section

open Idealize.ShloMosaic Idealize.ShloMosaic.TcCoe Idealize.SL.Sem Idealize.ShloMosaic.StableHlo

namespace Cert.Proof

open Cert.LruFwdIdeal.Value (final_10 final_11 final_12)

theorem lrufwd_frame : Cert.quiescent_LruFwd (hLruFwd := Cert.LruFwd.Gen.facts) := fun m ρ _ => Cert.LruFwd.Gen.frame m ρ

theorem lrufwd_ideal_frame : Cert.quiescent_LruFwdIdeal (hLruFwdIdeal := Cert.LruFwdIdeal.Gen.facts) := fun m ρ _ => Cert.LruFwdIdeal.Gen.frame m ρ

theorem lrufwd_ref_frame : Cert.quiescent_LruFwdRefIdeal (hLruFwdRefIdeal := Cert.LruFwdRefIdeal.Gen.facts) := fun m ρ _ =>
  (θ_run Cert.LruFwdRefIdeal.defs _ _).mono (fun r h => ⟨fun c => (h c).2.2.2, sem_eq_zero_of_no_sems (by decide) r.2⟩)
    (Cert.LruFwdRefIdeal.Value.run (F := Ideal) m ρ)

theorem lrufwd_algebraic : Cert.algebraic_LruFwdIdeal_LruFwdRefIdeal (hLruFwdIdeal := Cert.LruFwdIdeal.Gen.facts)
    (hLruFwdRefIdeal := Cert.LruFwdRefIdeal.Gen.facts) := fun m ρ m' ρ' _ hagree =>
  ⟨_, _, _, Cert.LruFwdIdeal.Value.run_blocks m ρ,
    (θ_run Cert.LruFwdRefIdeal.defs _ _).mono (fun r h c => by
    obtain ⟨e0, e1, e2, e3, e4, e5, e6, e7, e8, e9⟩ := hagree c
    obtain ⟨h0, h1, h2, hargs⟩ := h c
    have E := Cert.LruFwdRefIdeal.Value.ended m' c
    have hP : Cert.LruFwdRefIdeal.Value.args m' c = Cert.LruFwdIdeal.Value.args m c := by
      dsimp only [Cert.LruFwdRefIdeal.Value.args, Cert.LruFwdIdeal.Value.args, Cert.LruFwdRefIdeal.Value.arg0, Cert.LruFwdRefIdeal.Value.arg1, Cert.LruFwdRefIdeal.Value.arg2, Cert.LruFwdRefIdeal.Value.arg3, Cert.LruFwdRefIdeal.Value.arg4, Cert.LruFwdRefIdeal.Value.arg5, Cert.LruFwdRefIdeal.Value.arg6, Cert.LruFwdRefIdeal.Value.arg7, Cert.LruFwdRefIdeal.Value.arg8, Cert.LruFwdRefIdeal.Value.arg9]
      rw [e0, e1, e2, e3, e4, e5, e6, e7, e8, e9]
    rw [hP] at E
    refine ⟨h0.trans ?_, h1.trans ?_, h2.trans ?_, hargs⟩
    · rw [final_10]
      funext (i : Cert.LruFwdIdeal.S2112x512.Idx)
      idx_vars i
      refine Cert.LruFwdRefIdeal.Value.out_y_at E (fun t j => ?_) (fun j => ?_) i0 i1
      · rw [Cert.LruFwdRefIdeal.Value.iter_main_arg1, e1]
      · rw [Cert.LruFwdRefIdeal.Value.iter_main_arg9, e9]
    · rw [final_11]
      funext (i : Cert.LruFwdIdeal.S1x11x8x512.Idx)
      idx_vars i
      obtain rfl : i0 = 0 := Subsingleton.elim _ _
      refine Cert.LruFwdRefIdeal.Value.out_rows_at (fun t j => ?_) i1 i2 i3
      rw [Cert.LruFwdRefIdeal.Value.iter_main_arg0, e0]
    · rw [final_12]
      funext (i : Cert.LruFwdIdeal.S1x11x1x512.Idx)
      idx_vars i
      obtain rfl : i0 = 0 := Subsingleton.elim _ _
      obtain rfl : i2 = 0 := Subsingleton.elim _ _
      exact Cert.LruFwdRefIdeal.Value.out_state_at E i1 i3) (Cert.LruFwdRefIdeal.Value.run (F := Ideal) m' ρ')⟩

end Cert.Proof

end
-- ==== Proof.SsdMath.lean ====
/-
  Running sums of numbers that are never positive, among the extended reals: a sum over the rows up to one, computed as the
  product with a triangle of ones that is split into a leading part and a rest, is that sum.
-/
module

public import proofs.«01_k».proof.Proof.LruMath

@[expose] public section

noncomputable section

open Idealize.ShloMosaic

namespace Cert.Ssd

open Cert.Lru

/-- What a number leaves beside itself adds nothing to it when it is not positive. -/
theorem add_rest : ∀ a : EReal, a ≤ 0 → a + (a - a) = a := by
  refine EReal.rec ?_ (fun r => ?_) ?_
  · intro _
    exact EReal.bot_add _
  · intro _
    rw [← EReal.coe_sub, sub_self, EReal.coe_zero, add_zero]
  · intro h
    exact absurd h (by simp)

theorem one_sub_one : (1 : EReal) - 1 = 0 := by
  rw [← EReal.coe_one, ← EReal.coe_sub, sub_self, EReal.coe_zero]

theorem zero_sub_zero : (0 : EReal) - 0 = 0 := by rw [← EReal.coe_zero, ← EReal.coe_sub, sub_self]

/-- One when the condition holds, else nothing. -/
def flag (p : Prop) [Decidable p] : EReal := if p then 1 else 0

theorem flag_rest (p : Prop) [Decidable p] : flag p - flag p = 0 := by
  unfold flag
  split_ifs
  · exact one_sub_one
  · exact zero_sub_zero

/-- The product with a triangle in parts is the sum over the triangle. -/
theorem split_sum {n : ℕ} (p : Fin n → Prop) [DecidablePred p] (a : Fin n → EReal) (h : ∀ s, a s ≤ 0) :
    (∑ s, flag (p s) * a s) + ((∑ s, flag (p s) * (a s - a s)) + ∑ s, (flag (p s) - flag (p s)) * a s) = ∑ s, if p s then a s else 0 := by
  have e : ∑ s, (flag (p s) - flag (p s)) * a s = 0 := Finset.sum_eq_zero fun s _ => by rw [flag_rest, zero_mul]
  rw [e, add_zero, ← Finset.sum_add_distrib]
  refine Finset.sum_congr rfl fun s _ => ?_
  unfold flag
  split_ifs
  · rw [one_mul, one_mul, add_rest _ (h s)]
  · rw [zero_mul, zero_mul, add_zero]

theorem split_sum' {n : ℕ} (p : Fin n → Prop) [DecidablePred p] (a : Fin n → EReal) (h : ∀ s, a s ≤ 0) :
    (∑ s, a s * flag (p s)) + ((∑ s, a s * (flag (p s) - flag (p s))) + ∑ s, (a s - a s) * flag (p s)) = ∑ s, if p s then a s else 0 := by
  rw [← split_sum p a h, add_comm (∑ s, a s * (flag (p s) - flag (p s)))]
  simp only [mul_comm]

/-- A positive part times the negative of an exponential is not positive. -/
theorem rate_nonpos (x y : EReal) : soft x * -Ideal.exp y ≤ 0 := by
  rw [mul_neg, EReal.neg_le, neg_zero]
  exact mul_nonneg (soft_nonneg x) (exp_nonneg y)

end Cert.Ssd

end
-- ==== Proof.SsdSpec.lean ====
/-
  What the forward call of the state space mixer computes, over the extended reals: a short convolution with its rectifier,
  chunks of 64 rows whose states follow each other, and the gated result with its groups' root mean squares divided out.
-/
module

public import proofs.«01_k».proof.Proof.SsdMath

@[expose] public section

noncomputable section

open Idealize.ShloMosaic

namespace Cert.Ssd

open Cert.Lru

/-- The head of a channel, its place there, and the channel at a place of a head. -/
abbrev headOf (j : Fin 512) : Fin 8 := ⟨j / 64, by omega⟩
abbrev placeIn (j : Fin 512) : Fin 64 := ⟨j % 64, by omega⟩
abbrev inHead (h : Fin 8) (p : Fin 64) : Fin 512 := ⟨64 * h + p, by omega⟩
/-- The group of a head. -/
abbrev groupOf (h : Fin 8) : Fin 2 := ⟨h / 4, by omega⟩
/-- The columns of the convolution: first the inputs, then two groups of keys, then two groups of queries. -/
abbrev colX (j : Fin 512) : Fin 1024 := ⟨j, by omega⟩
abbrev colB (g : Fin 2) (n : Fin 128) : Fin 1024 := ⟨512 + 128 * g + n, by omega⟩
abbrev colC (g : Fin 2) (n : Fin 128) : Fin 1024 := ⟨768 + 128 * g + n, by omega⟩

/-- The arguments of the call. -/
structure Args where
  Z : Fin 2064 → Fin 512 → EReal
  X : Fin 2064 → Fin 1024 → EReal
  D : Fin 2064 → Fin 8 → EReal
  cw : Fin 4 → Fin 1024 → EReal
  cb : Fin 1024 → EReal
  al : Fin 8 → EReal
  db : Fin 8 → EReal
  ds : Fin 8 → EReal
  ng : Fin 512 → EReal

variable (P : Args)

/-- A row of the input, counted from the first of `d` rows of nothing in front of it. -/
def rowAfter (d t : ℕ) (j : Fin 1024) : EReal := if h : d ≤ t ∧ t - d < 2064 then P.X ⟨t - d, h.2⟩ j else 0

theorem rowAfter_add (d e t : ℕ) (j : Fin 1024) : rowAfter P (d + e) (t + e) j = rowAfter P d t j := by
  unfold rowAfter
  by_cases h : d ≤ t ∧ t - d < 2064
  · rw [dif_pos h, dif_pos ⟨by omega, by omega⟩]
    exact congrArg (fun i => P.X i j) (Fin.ext (show t + e - (d + e) = t - d by omega))
  · rw [dif_neg h, dif_neg (by omega)]

/-- The convolution over four rows, of which the last is the row itself when `d` is three, and its rectifier. -/
def conv (d t : ℕ) (j : Fin 1024) : EReal :=
  P.cw 0 j * rowAfter P d t j + P.cw 1 j * rowAfter P d (t + 1) j + P.cw 2 j * rowAfter P d (t + 2) j + P.cw 3 j * rowAfter P d (t + 3) j + P.cb j
def silu (x : EReal) : EReal := x * Ideal.logistic x
def act (d t : ℕ) (j : Fin 1024) : EReal := silu (conv P d t j)

theorem act_add (d e t : ℕ) (j : Fin 1024) : act P (d + e) (t + e) j = act P d t j := by
  unfold act conv
  rw [show t + e + 1 = t + 1 + e by omega, show t + e + 2 = t + 2 + e by omega, show t + e + 3 = t + 3 + e by omega]
  simp only [rowAfter_add]

/-- A number that counts only in the rows after the padding. -/
def past (t : ℕ) (x : EReal) : EReal := if t < 48 then 0 else x

/-- The row of the step sizes that a padded row stands for. -/
def dRow (t : ℕ) (h : Fin 8) : EReal := if q : 48 ≤ t ∧ t - 48 < 2064 then P.D ⟨t - 48, q.2⟩ h else 0
/-- The step size, the rate of decay, the input, the key and the query of a padded row. -/
def size (t : ℕ) (h : Fin 8) : EReal := soft (dRow P t h + P.db h)
def rate (t : ℕ) (h : Fin 8) : EReal := past t (size P t h * -Ideal.exp (P.al h))
def input (t : ℕ) (h : Fin 8) (p : Fin 64) : EReal := past t (act P 51 t (colX (inHead h p)) * size P t h)
def key (t : ℕ) (g : Fin 2) (n : Fin 128) : EReal := past t (act P 51 t (colB g n))
def query (t : ℕ) (g : Fin 2) (n : Fin 128) : EReal := past t (act P 51 t (colC g n))

theorem rate_nonpos' (t : ℕ) (h : Fin 8) : rate P t h ≤ 0 := by
  unfold rate past
  split_ifs
  · exact le_rfl
  · exact rate_nonpos _ _

/-- The running sum of the rates from a chunk's first row, and the decay from one of its rows to another. -/
def cum (t : ℕ) (h : Fin 8) (l : Fin 64) : EReal := ∑ s : Fin 64, if s.val ≤ l.val then rate P (t + s) h else 0
def decay (t : ℕ) (h : Fin 8) (l s : Fin 64) : EReal := Ideal.exp (if s.val ≤ l.val then cum P t h l - cum P t h s else ⊥)
/-- What a chunk's rows give to each other. -/
def score (t : ℕ) (g : Fin 2) (l s : Fin 64) : EReal := ∑ n : Fin 128, query P (t + l) g n * key P (t + s) g n
def within (t : ℕ) (h : Fin 8) (l p : Fin 64) : EReal :=
  ∑ s : Fin 64, score P t (groupOf h) l s * decay P t h l s * input P (t + s) h p
/-- What a chunk adds to the state, and the state after `k` chunks. -/
def added (t : ℕ) (h : Fin 8) (p : Fin 64) (n : Fin 128) : EReal :=
  ∑ l : Fin 64, input P (t + l) h p * Ideal.exp (cum P t h 63 - cum P t h l) * key P (t + l) (groupOf h) n
def state (h : Fin 8) (p : Fin 64) (n : Fin 128) : ℕ → EReal
  | 0 => 0
  | k + 1 => state h p n k * Ideal.exp (cum P (64 * k) h 63) + added P (64 * k) h p n
/-- What the state before a chunk gives to one of its rows. -/
def across (k : ℕ) (h : Fin 8) (l p : Fin 64) : EReal :=
  (∑ n : Fin 128, query P (64 * k + l) (groupOf h) n * state P h p n k) * Ideal.exp (cum P (64 * k) h l)
/-- The mixed row `l` of chunk `k`. -/
def mixed (k : ℕ) (h : Fin 8) (l p : Fin 64) : EReal :=
  within P (64 * k) h l p + across P k h l p + P.ds h * act P 51 (64 * k + l) (colX (inHead h p))

/-- The gated row, counted from the first of the padding, and its group's root mean square divided out. -/
def gateRow (t : ℕ) (j : Fin 512) : EReal := if q : 48 ≤ t ∧ t - 48 < 2064 then P.Z ⟨t - 48, q.2⟩ j else 0
def gated (t : ℕ) (j : Fin 512) : EReal := mixed P (t / 64) (headOf j) ⟨t % 64, by omega⟩ (placeIn j) * silu (gateRow P t j)
abbrev sameGroup (j : Fin 512) (k : Fin 256) : Fin 512 := ⟨256 * (j / 256) + k, by omega⟩
def normed (t : ℕ) (j : Fin 512) : EReal :=
  gated P t j * Ideal.rsqrt (Ideal.div (∑ k : Fin 256, gated P t (sameGroup j k) * gated P t (sameGroup j k)) (Ideal.ofBits .f32 0x43800000#32)
    + Ideal.ofBits .f32 0x358637BD#32) * P.ng j
def result (i : Fin 2112) (j : Fin 512) : EReal := past i (normed P i j)

/-- What enters a tile of three chunks: the last eight rows before it, and the state. -/
def rowsIn (i : Fin 11) (e : Fin 8) (j : Fin 1024) : EReal := rowAfter P 56 (192 * i + e) j
def stateIn (i : Fin 11) (j : Fin 512) (n : Fin 128) : EReal := state P (headOf j) (placeIn j) n (3 * i)

end Cert.Ssd

end
-- ==== Proof.SsdTile.lean ====
/-
  One tile of the forward call of the state space mixer: what its three chunks of 64 rows and eight heads hold.
-/
module

public import proofs.«01_k».proof.Proof.Gen.SsdFwdIdeal.Skeleton
public import proofs.«01_k».proof.Proof.SsdSpec
public import Idealize.ShloMosaic.Lib.Pointwise

@[expose] public section

set_option maxRecDepth 16384

noncomputable section

open Idealize.ShloMosaic Idealize.ShloMosaic.TcCoe

namespace Cert.SsdFwdIdeal.Value

open Cert.SsdFwdIdeal Cert.SsdFwdIdeal.Gen Cert.Ssd Cert.Lru

/-- A rectangle of a matrix. -/
theorem slices2 (n0 n1 m0 m1 o0 o1 : ℕ) (h0 : o0 + m0 ≤ n0) (h1 : o1 + m1 ≤ n1) :
    Shape.Slices (⟨2, ![n0, n1]⟩ : Shape) ![o0, o1] (⟨2, ![m0, m1]⟩ : Shape) :=
  ⟨rfl, fun a => by fin_cases a; exacts [h0, h1]⟩
def cut {n0 n1 : ℕ} (m0 m1 o0 o1 : ℕ) (x : FVec Ideal ⟨2, ![n0, n1]⟩ .f32) (h0 : o0 + m0 ≤ n0) (h1 : o1 + m1 ≤ n1) : FVec Ideal ⟨2, ![m0, m1]⟩ .f32 :=
  extractStridedSlice (⟨2, ![m0, m1]⟩ : Shape) ![o0, o1] x (slices2 n0 n1 m0 m1 o0 o1 h0 h1)
theorem cut_at {n0 n1 : ℕ} (m0 m1 o0 o1 : ℕ) (x : FVec Ideal ⟨2, ![n0, n1]⟩ .f32) (h0 : o0 + m0 ≤ n0) (h1 : o1 + m1 ≤ n1) (i : Fin m0) (j : Fin m1) :
    cut m0 m1 o0 o1 x h0 h1 (ix2 i j) = x (ix2 ⟨o0 + i, by omega⟩ ⟨o1 + j, by omega⟩) := by
  unfold cut extractStridedSlice
  congr 1
  funext a
  fin_cases a <;> rfl

/-! ## Products of the blocks -/

theorem dot_score (a b : FVec Ideal S64x128 .f32) (l s : Fin 64) :
    matmul dot_S64x128_S64x128_S64x64_1_1_0_0_n_n none (truncf .bf16 a bitsLt_bf16_f32) (truncf .bf16 b bitsLt_bf16_f32) (constant S64x64 .f32 0x00000000#32) (ix2 l s)
      = ∑ n : Fin 128, a (ix2 l n) * b (ix2 s n) := by
  pointwise

theorem dot_mix (a b : FVec Ideal S64x64 .f32) (l p : Fin 64) :
    matmul dot_S64x64_S64x64_S64x64_1_0_0_1_n_n none (truncf .bf16 a bitsLt_bf16_f32) (truncf .bf16 b bitsLt_bf16_f32) (constant S64x64 .f32 0x00000000#32) (ix2 l p)
      = ∑ s : Fin 64, a (ix2 l s) * b (ix2 s p) := by
  pointwise

theorem dot_put (a : FVec Ideal S64x64 .f32) (b : FVec Ideal S64x128 .f32) (p : Fin 64) (n : Fin 128) :
    matmul dot_S64x64_S64x128_S64x128_0_0_1_1_n_n none (truncf .bf16 a bitsLt_bf16_f32) (truncf .bf16 b bitsLt_bf16_f32) (constant S64x128 .f32 0x00000000#32) (ix2 p n)
      = ∑ l : Fin 64, a (ix2 l p) * b (ix2 l n) := by
  pointwise

theorem dot_cols (a : FVec Ideal S64x64 .f32) (b : FVec Ideal S64x8 .f32) (l : Fin 64) (h : Fin 8) :
    matmul dot_S64x64_S64x8_S64x8_1_0_0_1_n_n none (truncf .bf16 a bitsLt_bf16_f32) (truncf .bf16 b bitsLt_bf16_f32) (constant S64x8 .f32 0x00000000#32) (ix2 l h)
      = ∑ s : Fin 64, a (ix2 l s) * b (ix2 s h) := by
  pointwise

theorem dot_rows (a : FVec Ideal S64x8 .f32) (b : FVec Ideal S64x64 .f32) (h : Fin 8) (l : Fin 64) :
    matmul dot_S64x8_S64x64_S8x64_0_0_1_1_n_n none (truncf .bf16 a bitsLt_bf16_f32) (truncf .bf16 b bitsLt_bf16_f32) (constant S8x64 .f32 0x00000000#32) (ix2 h l)
      = ∑ s : Fin 64, a (ix2 s h) * b (ix2 s l) := by
  pointwise

/-! ## The blocks -/

/-- The rows of a chunk that come no later than a row. -/
abbrev upTo : IVec S64x64 1 := k0_pay14 (iota .tc S64x64 32 [0] iota_S64x64_d0_w32)
abbrev below : FVec Ideal S64x64 .f32 := k0_pay15 (iota .tc S64x64 32 [0] iota_S64x64_d0_w32)
abbrev above : FVec Ideal S64x64 .f32 := k0_pay16

section Sums
variable (a : FVec Ideal S192x8 .f32) (c : ℕ) (hc : c < 3)

/-- The running sums of the rates, as columns and as rows. -/
def kA : FVec Ideal S64x8 .f32 := cut 64 8 (64 * c) 0 a (by omega) (by omega)
def kCols : FVec Ideal S64x8 .f32 :=
  addf (matmul dot_S64x64_S64x8_S64x8_1_0_0_1_n_n none (truncf .bf16 below bitsLt_bf16_f32) (truncf .bf16 (kA a c hc) bitsLt_bf16_f32) (constant S64x8 .f32 0x00000000#32))
    (addf (matmul dot_S64x64_S64x8_S64x8_1_0_0_1_n_n none (truncf .bf16 below bitsLt_bf16_f32) (truncf .bf16 (subf (kA a c hc) (extf .f32 (truncf .bf16 (kA a c hc) bitsLt_bf16_f32) bitsLt_bf16_f32)) bitsLt_bf16_f32) (constant S64x8 .f32 0x00000000#32))
      (matmul dot_S64x64_S64x8_S64x8_1_0_0_1_n_n none (truncf .bf16 (subf below (extf .f32 (truncf .bf16 below bitsLt_bf16_f32) bitsLt_bf16_f32)) bitsLt_bf16_f32) (truncf .bf16 (kA a c hc) bitsLt_bf16_f32) (constant S64x8 .f32 0x00000000#32)))
def kRows : FVec Ideal S8x64 .f32 :=
  addf (matmul dot_S64x8_S64x64_S8x64_0_0_1_1_n_n none (truncf .bf16 (kA a c hc) bitsLt_bf16_f32) (truncf .bf16 above bitsLt_bf16_f32) (constant S8x64 .f32 0x00000000#32))
    (addf (matmul dot_S64x8_S64x64_S8x64_0_0_1_1_n_n none (truncf .bf16 (kA a c hc) bitsLt_bf16_f32) (truncf .bf16 (subf above (extf .f32 (truncf .bf16 above bitsLt_bf16_f32) bitsLt_bf16_f32)) bitsLt_bf16_f32) (constant S8x64 .f32 0x00000000#32))
      (matmul dot_S64x8_S64x64_S8x64_0_0_1_1_n_n none (truncf .bf16 (subf (kA a c hc) (extf .f32 (truncf .bf16 (kA a c hc) bitsLt_bf16_f32) bitsLt_bf16_f32)) bitsLt_bf16_f32) (truncf .bf16 above bitsLt_bf16_f32) (constant S8x64 .f32 0x00000000#32)))

end Sums

section Blocks
variable (m : FVec Ideal S192x1 .f32) (X : FVec Ideal S192x1024 .f32) (dt a : FVec Ideal S192x8 .f32) (d : FVec Ideal S1x8 .f32) (S : FVec Ideal S512x128 .f32)
  (c h : ℕ) (hc : c < 3) (hh : h < 8)

/-- The keys, the queries and the inputs of a chunk, the inputs weighted by their step sizes. -/
def kB : FVec Ideal S64x128 .f32 := cut 64 128 (64 * c) 0 (mulf (cut 192 128 0 (512 + 128 * (h / 4)) X (by omega) (by omega)) (broadcastTo S192x128 m broadcasts_S192x1_S192x128)) (by omega) (by omega)
def kC : FVec Ideal S64x128 .f32 := cut 64 128 (64 * c) 0 (mulf (cut 192 128 0 (768 + 128 * (h / 4)) X (by omega) (by omega)) (broadcastTo S192x128 m broadcasts_S192x1_S192x128)) (by omega) (by omega)
def kX : FVec Ideal S64x64 .f32 := cut 64 64 (64 * c) 0 (cut 192 64 0 (64 * h) (cut 192 512 0 0 X (by omega) (by omega)) (by omega) (by omega)) (by omega) (by omega)
def kXdt : FVec Ideal S64x64 .f32 :=
  mulf (kX X c h hc hh) (broadcastTo S64x64 (cut 64 1 (64 * c) 0 (mulf (cut 192 1 0 h dt (by omega) (by omega)) m) (by omega) (by omega)) broadcasts_S64x1_S64x64)

def kCol : FVec Ideal S64x1 .f32 := cut 64 1 0 h (kCols a c hc) (by omega) (by omega)
def kLast : FVec Ideal S1x1 .f32 := cut 1 1 63 0 (kCol a c h hc hh) (by omega) (by omega)

/-- The decay between the rows of a chunk. -/
def kDecay : FVec Ideal S64x64 .f32 :=
  exp (select upTo (subf (broadcastTo S64x64 (kCol a c h hc hh) broadcasts_S64x1_S64x64) (broadcastTo S64x64 (cut 1 64 h 0 (kRows a c hc) (by omega) (by omega)) broadcasts_S1x64_S64x64))
    (broadcast S64x64 (Named.named (F := Ideal) κ "mask" 0xF149F2CA#32 : Ideal .f32)))

/-- What the rows of a chunk give to each other, and what they add to the state. -/
def kWithin : FVec Ideal S64x64 .f32 :=
  matmul dot_S64x64_S64x64_S64x64_1_0_0_1_n_n none (truncf .bf16 (mulf (matmul dot_S64x128_S64x128_S64x64_1_1_0_0_n_n none (truncf .bf16 (kC m X c h hc hh) bitsLt_bf16_f32) (truncf .bf16 (kB m X c h hc hh) bitsLt_bf16_f32) (constant S64x64 .f32 0x00000000#32))
    (kDecay a c h hc hh)) bitsLt_bf16_f32) (truncf .bf16 (kXdt m X dt c h hc hh) bitsLt_bf16_f32) (constant S64x64 .f32 0x00000000#32)
def kAdded : FVec Ideal S64x128 .f32 :=
  matmul dot_S64x64_S64x128_S64x128_0_0_1_1_n_n none (truncf .bf16 (mulf (kXdt m X dt c h hc hh) (broadcastTo S64x64 (exp (subf (broadcastTo S64x1 (kLast a c h hc hh) broadcasts_S1x1_S64x1) (kCol a c h hc hh))) broadcasts_S64x1_S64x64)) bitsLt_bf16_f32)
    (truncf .bf16 (kB m X c h hc hh) bitsLt_bf16_f32) (constant S64x128 .f32 0x00000000#32)

/-- The state after a chunk from the state `s` before it, and the mixed rows. -/
def kNext (s : FVec Ideal S64x128 .f32) : FVec Ideal S64x128 .f32 :=
  addf (mulf s (broadcastTo S64x128 (exp (kLast a c h hc hh)) broadcasts_S1x1_S64x128)) (kAdded m X dt a c h hc hh)
def kMixed (s : FVec Ideal S64x128 .f32) : FVec Ideal S64x64 .f32 :=
  addf (addf (kWithin m X dt a c h hc hh) (mulf (matmul dot_S64x128_S64x128_S64x64_1_1_0_0_n_n none (truncf .bf16 (kC m X c h hc hh) bitsLt_bf16_f32) (truncf .bf16 s bitsLt_bf16_f32) (constant S64x64 .f32 0x00000000#32))
    (broadcastTo S64x64 (exp (kCol a c h hc hh)) broadcasts_S64x1_S64x64))) (mulf (broadcastTo S64x64 (cut 1 1 0 h d (by omega) (by omega)) broadcasts_S1x1_S64x64) (kX X c h hc hh))

end Blocks

section States
variable (m : FVec Ideal S192x1 .f32) (X : FVec Ideal S192x1024 .f32) (dt a : FVec Ideal S192x8 .f32) (d : FVec Ideal S1x8 .f32) (S : FVec Ideal S512x128 .f32)
  (h : ℕ) (hh : h < 8)

/-- A head's state before the tile and after its chunks. -/
def kS0 : FVec Ideal S64x128 .f32 := cut 64 128 (64 * h) 0 S (by omega) (by omega)
def kS1 : FVec Ideal S64x128 .f32 := kNext m X dt a 0 h (by omega) hh (kS0 S h hh)
def kS2 : FVec Ideal S64x128 .f32 := kNext m X dt a 1 h (by omega) hh (kS1 m X dt a S h hh)
def kS3 : FVec Ideal S64x128 .f32 := kNext m X dt a 2 h (by omega) hh (kS2 m X dt a S h hh)

end States

/-! ## Their entries -/

theorem upTo_at : ∀ l s : Fin 64, IntOp.cmpi CmpIPredicate.sge (BitVec.ofNat 32 l) (BitVec.ofNat 32 s) = if s.val ≤ l.val then 1#1 else 0#1 := by decide +kernel
theorem downTo_at : ∀ s l : Fin 64, IntOp.cmpi CmpIPredicate.sle (BitVec.ofNat 32 s) (BitVec.ofNat 32 l) = if s.val ≤ l.val then 1#1 else 0#1 := by decide +kernel

theorem bit_flag (p : Prop) [Decidable p] : (FloatOps.sitofp FTy.f32 (BitVec.setWidth 32 (if p then 1#1 else 0#1)) : Ideal .f32) = (flag p : EReal) := by
  unfold flag
  split_ifs
  · show (((BitVec.setWidth 32 (1#1 : BitVec 1)).toInt : ℝ) : EReal) = _
    norm_num
  · show (((BitVec.setWidth 32 (0#1 : BitVec 1)).toInt : ℝ) : EReal) = _
    norm_num

theorem below_at (l s : Fin 64) : below (ix2 l s) = flag (s.val ≤ l.val) := by
  pointwise [below, k0_pay15, k0_pay14]
  rw [upTo_at, bit_flag]

theorem above_at (s l : Fin 64) : above (ix2 s l) = flag (s.val ≤ l.val) := by
  pointwise [above, k0_pay16]
  rw [downTo_at, bit_flag]

theorem mask_value : (Named.named (F := Ideal) κ "mask" 0xF149F2CA#32 : Ideal .f32) = (⊥ : EReal) := rfl

end Cert.SsdFwdIdeal.Value

end
-- ==== Proof.SsdEntries.lean ====
/-
  The entries of a tile's blocks in the forward call of the state space mixer, when the tile holds the rows from one on.
-/
module

public import proofs.«01_k».proof.Proof.SsdTile

@[expose] public section

set_option maxRecDepth 16384

noncomputable section

open Idealize.ShloMosaic Idealize.ShloMosaic.TcCoe

namespace Cert.SsdFwdIdeal.Value

open Cert.SsdFwdIdeal Cert.SsdFwdIdeal.Gen Cert.Ssd Cert.Lru

/-- A tile holds the rows from `T` on. -/
structure Holds (P : Args) (T : ℕ) (m : FVec Ideal S192x1 .f32) (X : FVec Ideal S192x1024 .f32) (dt a : FVec Ideal S192x8 .f32) (d : FVec Ideal S1x8 .f32) : Prop where
  mask : ∀ r : Fin 192, m (ix2 r 0) = past (T + r) 1
  acts : ∀ (r : Fin 192) (j : Fin 1024), X (ix2 r j) = act P 51 (T + r) j
  sizes : ∀ (r : Fin 192) (h : Fin 8), dt (ix2 r h) = size P (T + r) h
  rates : ∀ (r : Fin 192) (h : Fin 8), a (ix2 r h) = rate P (T + r) h
  skips : ∀ h : Fin 8, d (ix2 0 h) = P.ds h

theorem mul_past (t : ℕ) (x : EReal) : x * past t 1 = past t x := by
  unfold past
  split_ifs
  · exact mul_zero x
  · exact mul_one x

theorem mul_past' (t : ℕ) (x y : EReal) : x * past t y = past t (x * y) := by
  unfold past
  split_ifs
  · exact mul_zero x
  · rfl

theorem exp_at {s : Shape} (x : FVec Ideal s .f32) (i : s.Idx) : (exp x : FVec Ideal s .f32) i = Ideal.exp (x i) := rfl
theorem addf_at {s : Shape} (x y : FVec Ideal s .f32) (i : s.Idx) : (addf x y : FVec Ideal s .f32) i = x i + y i := rfl
theorem mulf_at {s : Shape} (x y : FVec Ideal s .f32) (i : s.Idx) : (mulf x y : FVec Ideal s .f32) i = x i * y i := rfl
theorem subf_at {s : Shape} (x y : FVec Ideal s .f32) (i : s.Idx) : (subf x y : FVec Ideal s .f32) i = x i - y i := rfl
theorem rest_at {s : Shape} (x : FVec Ideal s .f32) (i : s.Idx) :
    (subf x (extf .f32 (truncf .bf16 x bitsLt_bf16_f32) bitsLt_bf16_f32) : FVec Ideal s .f32) i = x i - x i := rfl
theorem col_128 (x : FVec Ideal S192x1 .f32) (r : Fin 192) (n : Fin 128) : broadcastTo S192x128 x broadcasts_S192x1_S192x128 (ix2 r n) = x (ix2 r 0) := by pointwise
theorem col_64 (x : FVec Ideal S64x1 .f32) (r n : Fin 64) : broadcastTo S64x64 x broadcasts_S64x1_S64x64 (ix2 r n) = x (ix2 r 0) := by pointwise
theorem row_64 (x : FVec Ideal S1x64 .f32) (r n : Fin 64) : broadcastTo S64x64 x broadcasts_S1x64_S64x64 (ix2 r n) = x (ix2 0 n) := by pointwise
theorem one_64 (x : FVec Ideal S1x1 .f32) (r n : Fin 64) : broadcastTo S64x64 x broadcasts_S1x1_S64x64 (ix2 r n) = x (ix2 0 0) := by pointwise
theorem one_128 (x : FVec Ideal S1x1 .f32) (r : Fin 64) (n : Fin 128) : broadcastTo S64x128 x broadcasts_S1x1_S64x128 (ix2 r n) = x (ix2 0 0) := by pointwise
theorem one_1 (x : FVec Ideal S1x1 .f32) (r : Fin 64) (n : Fin 1) : broadcastTo S64x1 x broadcasts_S1x1_S64x1 (ix2 r n) = x (ix2 0 0) := by pointwise

section
variable {P : Args} {T : ℕ} {m : FVec Ideal S192x1 .f32} {X : FVec Ideal S192x1024 .f32} {dt a : FVec Ideal S192x8 .f32} {d : FVec Ideal S1x8 .f32}
  (H : Holds P T m X dt a d) (c h : ℕ) (hc : c < 3) (hh : h < 8)
include H

theorem kB_at (l : Fin 64) (n : Fin 128) : kB m X c h hc hh (ix2 l n) = key P (T + 64 * c + l) (groupOf ⟨h, hh⟩) n := by
  unfold kB key
  rw [cut_at, mulf_at, cut_at, col_128, H.mask, H.acts, mul_past]
  simp only [Nat.zero_add, ← Nat.add_assoc]

theorem kC_at (l : Fin 64) (n : Fin 128) : kC m X c h hc hh (ix2 l n) = query P (T + 64 * c + l) (groupOf ⟨h, hh⟩) n := by
  unfold kC query
  rw [cut_at, mulf_at, cut_at, col_128, H.mask, H.acts, mul_past]
  simp only [Nat.zero_add, ← Nat.add_assoc]

theorem kX_at (l p : Fin 64) : kX X c h hc hh (ix2 l p) = act P 51 (T + 64 * c + l) (colX (inHead ⟨h, hh⟩ p)) := by
  unfold kX
  rw [cut_at, cut_at, cut_at, H.acts]
  simp only [Nat.zero_add, Nat.add_assoc]

theorem kXdt_at (l p : Fin 64) : kXdt m X dt c h hc hh (ix2 l p) = input P (T + 64 * c + l) ⟨h, hh⟩ p := by
  unfold kXdt input
  rw [mulf_at, kX_at H, col_64, cut_at, mulf_at, cut_at]
  refine Eq.trans (congrArg₂ (fun x y => act P 51 (T + 64 * c + l) (colX (inHead ⟨h, hh⟩ p)) * (x * y)) (H.sizes _ _) (H.mask _)) ?_
  rw [mul_past, mul_past']
  simp only [Nat.zero_add, Nat.add_assoc]
  rfl

theorem kA_at (l : Fin 64) (k : Fin 8) : kA a c hc (ix2 l k) = rate P (T + 64 * c + l) k := by
  unfold kA
  rw [cut_at, H.rates]
  simp only [Nat.zero_add, Nat.add_assoc]

theorem kCols_at (l : Fin 64) (k : Fin 8) : kCols a c hc (ix2 l k) = cum P (T + 64 * c) k l := by
  unfold kCols cum
  rw [addf_at, addf_at, dot_cols, dot_cols, dot_cols]
  simp only [rest_at, below_at, kA_at H]
  exact split_sum _ _ fun s => rate_nonpos' P _ _

theorem kRows_at (l : Fin 64) (k : Fin 8) : kRows a c hc (ix2 k l) = cum P (T + 64 * c) k l := by
  unfold kRows cum
  rw [addf_at, addf_at, dot_rows, dot_rows, dot_rows]
  simp only [rest_at, above_at, kA_at H]
  exact split_sum' _ _ fun s => rate_nonpos' P _ _

theorem kCol_at (l : Fin 64) (z : Fin 1) : kCol a c h hc hh (ix2 l z) = cum P (T + 64 * c) ⟨h, hh⟩ l := by
  unfold kCol
  rw [cut_at, kCols_at H]
  simp only [Nat.zero_add]
  obtain rfl := Subsingleton.elim z 0
  rfl

theorem kLast_at : kLast a c h hc hh (ix2 0 0) = cum P (T + 64 * c) ⟨h, hh⟩ 63 := by
  unfold kLast
  rw [cut_at, kCol_at H]
  rfl

theorem kDecay_at (l s : Fin 64) : kDecay a c h hc hh (ix2 l s) = decay P (T + 64 * c) ⟨h, hh⟩ l s := by
  unfold kDecay decay
  rw [exp_at]
  refine congrArg Ideal.exp ?_
  have e : upTo (ix2 l s) = if s.val ≤ l.val then 1#1 else 0#1 := by
    refine Eq.trans ?_ (upTo_at l s)
    pointwise [upTo, k0_pay14]
  refine (show _ = if upTo (ix2 l s) = 1#1 then _ else _ from rfl).trans ?_
  rw [e, subf_at, col_64, row_64, kCol_at H, cut_at, kRows_at H]
  by_cases q : s.val ≤ l.val
  · simp only [if_pos q, Nat.zero_add, if_true]
    rfl
  · simp only [if_neg q]
    rfl

theorem kWithin_at (l p : Fin 64) : kWithin m X dt a c h hc hh (ix2 l p) = within P (T + 64 * c) ⟨h, hh⟩ l p := by
  unfold kWithin within score
  rw [dot_mix]
  simp only [mulf_at, dot_score, kC_at H, kB_at H, kDecay_at H, kXdt_at H]

theorem kAdded_at (p : Fin 64) (n : Fin 128) : kAdded m X dt a c h hc hh (ix2 p n) = added P (T + 64 * c) ⟨h, hh⟩ p n := by
  unfold kAdded added
  rw [dot_put]
  simp only [mulf_at, col_64, exp_at, subf_at, one_1, kLast_at H, kCol_at H, kXdt_at H, kB_at H]

theorem kNext_at (k : ℕ) (hk : T + 64 * c = 64 * k) (s : FVec Ideal S64x128 .f32) (hs : ∀ (p : Fin 64) (n : Fin 128), s (ix2 p n) = state P ⟨h, hh⟩ p n k)
    (p : Fin 64) (n : Fin 128) : kNext m X dt a c h hc hh s (ix2 p n) = state P ⟨h, hh⟩ p n (k + 1) := by
  unfold kNext
  rw [addf_at, mulf_at, one_128, exp_at, kLast_at H, kAdded_at H, hs, hk]
  rfl

theorem kMixed_at (k : ℕ) (hk : T + 64 * c = 64 * k) (s : FVec Ideal S64x128 .f32) (hs : ∀ (p : Fin 64) (n : Fin 128), s (ix2 p n) = state P ⟨h, hh⟩ p n k)
    (l p : Fin 64) : kMixed m X dt a d c h hc hh s (ix2 l p) = mixed P k ⟨h, hh⟩ l p := by
  unfold kMixed mixed across
  rw [addf_at, addf_at, mulf_at, mulf_at, one_64, cut_at, dot_score, col_64, exp_at, kWithin_at H, kCol_at H, kX_at H]
  simp only [kC_at H, hs, hk]
  have e : d (ix2 ⟨0 + (0 : Fin 1).val, by decide⟩ ⟨h + (0 : Fin 1).val, hh⟩) = P.ds ⟨h, hh⟩ := H.skips ⟨h, hh⟩
  rw [e]

end

/-- The tile's states before it are those after `k` chunks. -/
def Enters (P : Args) (k : ℕ) (S : FVec Ideal S512x128 .f32) : Prop :=
  ∀ (j : Fin 512) (n : Fin 128), S (ix2 j n) = state P (headOf j) (placeIn j) n k

section
variable {P : Args} {i : ℕ} {m : FVec Ideal S192x1 .f32} {X : FVec Ideal S192x1024 .f32} {dt a : FVec Ideal S192x8 .f32} {d : FVec Ideal S1x8 .f32} {S : FVec Ideal S512x128 .f32}
  (H : Holds P (192 * i) m X dt a d) (hS : Enters P (3 * i) S) (h : ℕ) (hh : h < 8)
include H hS

omit H in
theorem kS0_at (p : Fin 64) (n : Fin 128) : kS0 S h hh (ix2 p n) = state P ⟨h, hh⟩ p n (3 * i) := by
  unfold kS0
  rw [cut_at, hS]
  have e1 : (64 * h + p.val) / 64 = h := by have := p.isLt; omega
  have e2 : (64 * h + p.val) % 64 = p.val := by have := p.isLt; omega
  simp only [headOf, placeIn, e1, e2, Nat.zero_add]

theorem kS1_at (p : Fin 64) (n : Fin 128) : kS1 m X dt a S h hh (ix2 p n) = state P ⟨h, hh⟩ p n (3 * i + 1) :=
  kNext_at H 0 h _ hh (3 * i) (by omega) _ (kS0_at hS h hh) p n

theorem kS2_at (p : Fin 64) (n : Fin 128) : kS2 m X dt a S h hh (ix2 p n) = state P ⟨h, hh⟩ p n (3 * i + 2) :=
  kNext_at H 1 h _ hh (3 * i + 1) (by omega) _ (kS1_at H hS h hh) p n

theorem kS3_at (p : Fin 64) (n : Fin 128) : kS3 m X dt a S h hh (ix2 p n) = state P ⟨h, hh⟩ p n (3 * (i + 1)) :=
  kNext_at H 2 h _ hh (3 * i + 2) (by omega) _ (kS2_at H hS h hh) p n

end

end Cert.SsdFwdIdeal.Value

end
-- ==== Proof.SsdBlocks.lean ====
/-
  The values of the forward call of the state space mixer: what each tile leaves in its blocks and carries on.
-/
module

public import proofs.«01_k».proof.Proof.Gen.SsdFwdIdeal.Value
public import proofs.«01_k».proof.Proof.SsdTile

@[expose] public section

set_option maxRecDepth 16384

noncomputable section

open Idealize.ShloMosaic Idealize.ShloMosaic.TcCoe Idealize.ShloMosaic.Tactic

namespace Cert.SsdFwdIdeal.Value

open Cert.SsdFwdIdeal Cert.SsdFwdIdeal.Gen Cert.Ssd

theorem hz2 : (![0, 0] : Fin 2 → Nat) = fun _ => 0 := by decide
theorem hz4 : (![0, 0, 0, 0] : Fin 4 → Nat) = fun _ => 0 := by decide

/-- Eight heads side by side, three chunks under each other, and the states of eight heads under each other. -/
abbrev sideBySide (y : (h : ℕ) → h < 8 → FVec Ideal S64x64 .f32) : FVec Ideal S64x512 .f32 :=
  concatenate S64x512 1 [⟨S64x64, y 0 (by decide)⟩, ⟨S64x64, y 1 (by decide)⟩, ⟨S64x64, y 2 (by decide)⟩, ⟨S64x64, y 3 (by decide)⟩, ⟨S64x64, y 4 (by decide)⟩, ⟨S64x64, y 5 (by decide)⟩, ⟨S64x64, y 6 (by decide)⟩, ⟨S64x64, y 7 (by decide)⟩]
    concatenates_S64x64_S64x64_S64x64_S64x64_S64x64_S64x64_S64x64_S64x64_S64x512_d1
abbrev stacked (y : (h : ℕ) → h < 8 → FVec Ideal S64x128 .f32) : FVec Ideal S512x128 .f32 :=
  concatenate S512x128 0 [⟨S64x128, y 0 (by decide)⟩, ⟨S64x128, y 1 (by decide)⟩, ⟨S64x128, y 2 (by decide)⟩, ⟨S64x128, y 3 (by decide)⟩, ⟨S64x128, y 4 (by decide)⟩, ⟨S64x128, y 5 (by decide)⟩, ⟨S64x128, y 6 (by decide)⟩, ⟨S64x128, y 7 (by decide)⟩]
    concatenates_S64x128_S64x128_S64x128_S64x128_S64x128_S64x128_S64x128_S64x128_S512x128_d0
abbrev chunks (y0 y1 y2 : FVec Ideal S64x512 .f32) : FVec Ideal S192x512 .f32 :=
  concatenate S192x512 0 [⟨S64x512, y0⟩, ⟨S64x512, y1⟩, ⟨S64x512, y2⟩] concatenates_S64x512_S64x512_S64x512_S192x512_d0

section Tile
variable (m : FVec Ideal S192x1 .f32) (X : FVec Ideal S192x1024 .f32) (dt a : FVec Ideal S192x8 .f32) (d : FVec Ideal S1x8 .f32) (S : FVec Ideal S512x128 .f32)

/-- A tile's mixed rows, and the states it carries on. -/
def tMixed : FVec Ideal S192x512 .f32 :=
  chunks (sideBySide fun h hh => kMixed m X dt a d 0 h (by decide) hh (kS0 S h hh))
    (sideBySide fun h hh => kMixed m X dt a d 1 h (by decide) hh (kS1 m X dt a S h hh))
    (sideBySide fun h hh => kMixed m X dt a d 2 h (by decide) hh (kS2 m X dt a S h hh))
def tStates : FVec Ideal S512x128 .f32 := stacked fun h hh => kS3 m X dt a S h hh
end Tile

section Blocks
variable (c : Dev nD) (i : grid0.Coords) (a2 : Memref sig .tc .vmem S192x512 .f32) (h2 : a2.IsWhole) (a3 : Memref sig .tc .vmem S192x1024 .f32) (h3 : a3.IsWhole) (a4 : Memref sig .tc .vmem S192x128 .f32) (h4 : a4.IsWhole) (a5 : Memref sig .tc .vmem S4x1024 .f32) (h5 : a5.IsWhole) (a6 : Memref sig .tc .vmem S1x1024 .f32) (h6 : a6.IsWhole) (a7 : Memref sig .tc .vmem S1x8 .f32) (h7 : a7.IsWhole) (a8 : Memref sig .tc .vmem S1x8 .f32) (h8 : a8.IsWhole) (a9 : Memref sig .tc .vmem S1x8 .f32) (h9 : a9.IsWhole) (a10 : Memref sig .tc .vmem S1x512 .f32) (h10 : a10.IsWhole) (a11 : Memref sig .tc .vmem S192x512 .f32) (h11 : a11.IsWhole) (a12 : Memref sig .tc .vmem S1x1x8x1024 .f32) (h12 : a12.IsWhole) (a13 : Memref sig .tc .vmem S1x1x512x128 .f32) (h13 : a13.IsWhole) (a14 : Memref sig .tc .vmem S8x1024 .f32) (h14 : a14.IsWhole) (a15 : Memref sig .tc .vmem S512x128 .f32) (h15 : a15.IsWhole)
  (x0 : Vec Ideal S192x512 .f32) (x1 : Vec Ideal S192x1024 .f32) (x2 : Vec Ideal S192x128 .f32) (x3 : Vec Ideal S4x1024 .f32) (x4 : Vec Ideal S1x1024 .f32) (x5 x6 x7 : Vec Ideal S1x8 .f32) (x8 : Vec Ideal S1x512 .f32)
  (s0 : Vec Ideal S8x1024 .f32) (s1 : Vec Ideal S512x128 .f32)

/-- The rows of a tile that are not padding, its convolved rows, its step sizes, its rates and the weights of the inputs. -/
abbrev t_mask : FVec Ideal S192x1 .f32 := k0_pay13 i
abbrev t_acts : FVec Ideal S192x1024 .f32 := k0_pay17 x3 (k0_pay5 x4) (k0_pay11 x1) s0
abbrev t_sizes : FVec Ideal S192x8 .f32 := k0_pay19 (k0_pay7 x6) (k0_pay12 x2)
abbrev t_rates : FVec Ideal S192x8 .f32 := k0_pay22 (k0_pay20 (k0_pay6 x5) (k0_pay7 x6) (k0_pay12 x2)) (k0_pay21 (t_mask i))
abbrev t_skips : FVec Ideal S1x8 .f32 := k0_pay8 x7
/-- The gated rows, and the tile's result. -/
def t_gated : FVec Ideal S192x512 .f32 :=
  mulf (tMixed (t_mask i) (t_acts x1 x3 x4 s0) (t_sizes x2 x6) (t_rates i x2 x5 x6) (t_skips x7) s1) (mulf (k0_pay10 x0) (logistic (k0_pay10 x0)))
def t_y : FVec Ideal S192x512 .f32 :=
  k0_pay362 (k0_pay9 x8) (t_mask i) (t_gated i x0 x1 x2 x3 x4 x5 x6 x7 s0 s1)
    (extractStridedSlice S192x256 ![0, 0] (t_gated i x0 x1 x2 x3 x4 x5 x6 x7 s0 s1) slices_S192x512_o0_0_S192x256) (k0_pay361 (k0_pay9 x8))
/-- What is carried on: the last rows and the states. -/
def c_rows : FVec Ideal S8x1024 .f32 := k0_pay1 (k0_pay363 (k0_pay11 x1))
def c_states : FVec Ideal S512x128 .f32 :=
  k0_pay2 (tStates (t_mask i) (t_acts x1 x3 x4 s0) (t_sizes x2 x6) (t_rates i x2 x5 x6) s1)

theorem sout_B_0 (hc : ¬cond0_0 i) : sout0_B_0 c i a2 h2 a3 h3 a4 h4 a5 h5 a6 h6 a7 h7 a8 h8 a9 h9 a10 h10 a11 h11 a12 h12 a13 h13 a14 h14 a15 h15 hc x0 x1 x2 x3 x4 x5 x6 x7 x8 s0 s1 = c_rows x1 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 hc x0 x1 x2 x3 x4 x5 x6 x7 x8 s0 s1)]
  unfold kernelRun0_B
  dsimp only
  sl_unfold_words
  rw [View.canon_unit_zero (S := S8x1024) hz2]
  simp only [View.readAt_eq_ld, h2.read_unread, h3.read_unread, h4.read_unread, h5.read_unread, h6.read_unread, h7.read_unread, h8.read_unread, h9.read_unread, h10.read_unread, h14.read_unread, h15.read_unread, View.ld_unit_zero (S := S192x512) hz2, View.ld_unit_zero (S := S192x1024) hz2, View.ld_unit_zero (S := S192x128) hz2, View.ld_unit_zero (S := S4x1024) hz2, View.ld_unit_zero (S := S1x1024) hz2, View.ld_unit_zero (S := S1x8) hz2, View.ld_unit_zero (S := S1x512) hz2, View.ld_unit_zero (S := S8x1024) hz2, View.ld_unit_zero (S := S512x128) hz2]
  rfl

theorem sout_B_1 (hc : ¬cond0_0 i) : sout0_B_1 c i a2 h2 a3 h3 a4 h4 a5 h5 a6 h6 a7 h7 a8 h8 a9 h9 a10 h10 a11 h11 a12 h12 a13 h13 a14 h14 a15 h15 hc x0 x1 x2 x3 x4 x5 x6 x7 x8 s0 s1 = c_states i x1 x2 x3 x4 x5 x6 s0 s1 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 a15 h15 hc x0 x1 x2 x3 x4 x5 x6 x7 x8 s0 s1)]
  unfold kernelRun0_B
  dsimp only
  sl_unfold_words
  rw [View.canon_unit_zero (S := S512x128) hz2]
  simp only [View.readAt_eq_ld, h2.read_unread, h3.read_unread, h4.read_unread, h5.read_unread, h6.read_unread, h7.read_unread, h8.read_unread, h9.read_unread, h10.read_unread, h14.read_unread, h15.read_unread, View.ld_unit_zero (S := S192x512) hz2, View.ld_unit_zero (S := S192x1024) hz2, View.ld_unit_zero (S := S192x128) hz2, View.ld_unit_zero (S := S4x1024) hz2, View.ld_unit_zero (S := S1x1024) hz2, View.ld_unit_zero (S := S1x8) hz2, View.ld_unit_zero (S := S1x512) hz2, View.ld_unit_zero (S := S8x1024) hz2, View.ld_unit_zero (S := S512x128) hz2]
  sl_kernel_rfl

theorem out_B_9 (hc : ¬cond0_0 i) : out0_B_9 c i a2 h2 a3 h3 a4 h4 a5 h5 a6 h6 a7 h7 a8 h8 a9 h9 a10 h10 a11 h11 a12 h12 a13 h13 a14 h14 a15 h15 hc x0 x1 x2 x3 x4 x5 x6 x7 x8 s0 s1 = t_y i x0 x1 x2 x3 x4 x5 x6 x7 x8 s0 s1 := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 a15 h15 hc x0 x1 x2 x3 x4 x5 x6 x7 x8 s0 s1)]
  unfold kernelRun0_B
  dsimp only
  sl_unfold_words
  rw [View.canon_unit_zero (S := S192x512) hz2]
  simp only [View.readAt_eq_ld, h2.read_unread, h3.read_unread, h4.read_unread, h5.read_unread, h6.read_unread, h7.read_unread, h8.read_unread, h9.read_unread, h10.read_unread, h14.read_unread, h15.read_unread, View.ld_unit_zero (S := S192x512) hz2, View.ld_unit_zero (S := S192x1024) hz2, View.ld_unit_zero (S := S192x128) hz2, View.ld_unit_zero (S := S4x1024) hz2, View.ld_unit_zero (S := S1x1024) hz2, View.ld_unit_zero (S := S1x8) hz2, View.ld_unit_zero (S := S1x512) hz2, View.ld_unit_zero (S := S8x1024) hz2, View.ld_unit_zero (S := S512x128) hz2]
  sl_kernel_rfl

theorem out_B_10 (hc : ¬cond0_0 i) : out0_B_10 c i a2 h2 a3 h3 a4 h4 a5 h5 a6 h6 a7 h7 a8 h8 a9 h9 a10 h10 a11 h11 a12 h12 a13 h13 a14 h14 a15 h15 hc x0 x1 x2 x3 x4 x5 x6 x7 x8 s0 s1 = k0_pay365 (F := Ideal) s0 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 a15 h15 hc x0 x1 x2 x3 x4 x5 x6 x7 x8 s0 s1)]
  unfold kernelRun0_B
  dsimp only
  sl_unfold_words
  rw [View.canon_unit_zero (S := S1x1x8x1024) hz4]
  simp only [View.readAt_eq_ld, h2.read_unread, h3.read_unread, h4.read_unread, h5.read_unread, h6.read_unread, h7.read_unread, h8.read_unread, h9.read_unread, h10.read_unread, h14.read_unread, h15.read_unread, View.ld_unit_zero (S := S192x512) hz2, View.ld_unit_zero (S := S192x1024) hz2, View.ld_unit_zero (S := S192x128) hz2, View.ld_unit_zero (S := S4x1024) hz2, View.ld_unit_zero (S := S1x1024) hz2, View.ld_unit_zero (S := S1x8) hz2, View.ld_unit_zero (S := S1x512) hz2, View.ld_unit_zero (S := S8x1024) hz2, View.ld_unit_zero (S := S512x128) hz2]

theorem out_B_11 (hc : ¬cond0_0 i) : out0_B_11 c i a2 h2 a3 h3 a4 h4 a5 h5 a6 h6 a7 h7 a8 h8 a9 h9 a10 h10 a11 h11 a12 h12 a13 h13 a14 h14 a15 h15 hc x0 x1 x2 x3 x4 x5 x6 x7 x8 s0 s1 = k0_pay366 (F := Ideal) s1 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 hc x0 x1 x2 x3 x4 x5 x6 x7 x8 s0 s1)]
  unfold kernelRun0_B
  dsimp only
  sl_unfold_words
  rw [View.canon_unit_zero (S := S1x1x512x128) hz4]
  simp only [View.readAt_eq_ld, h2.read_unread, h3.read_unread, h4.read_unread, h5.read_unread, h6.read_unread, h7.read_unread, h8.read_unread, h9.read_unread, h10.read_unread, h14.read_unread, h15.read_unread, View.ld_unit_zero (S := S192x512) hz2, View.ld_unit_zero (S := S192x1024) hz2, View.ld_unit_zero (S := S192x128) hz2, View.ld_unit_zero (S := S4x1024) hz2, View.ld_unit_zero (S := S1x1024) hz2, View.ld_unit_zero (S := S1x8) hz2, View.ld_unit_zero (S := S1x512) hz2, View.ld_unit_zero (S := S8x1024) hz2, View.ld_unit_zero (S := S512x128) hz2]

theorem sout_A_0 (hc : cond0_0 i) : sout0_A_0 c i a2 h2 a3 h3 a4 h4 a5 h5 a6 h6 a7 h7 a8 h8 a9 h9 a10 h10 a11 h11 a12 h12 a13 h13 a14 h14 a15 h15 hc x0 x1 x2 x3 x4 x5 x6 x7 x8 = c_rows x1 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_cons_unit_zero (S := S8x1024) hz2]
  simp only [View.readAt_eq_ld, h2.read_unread, h3.read_unread, h4.read_unread, h5.read_unread, h6.read_unread, h7.read_unread, h8.read_unread, h9.read_unread, h10.read_unread, h14.read_unread, h15.read_unread, View.ld_unit_zero (S := S192x512) hz2, View.ld_unit_zero (S := S192x1024) hz2, View.ld_unit_zero (S := S192x128) hz2, View.ld_unit_zero (S := S4x1024) hz2, View.ld_unit_zero (S := S1x1024) hz2, View.ld_unit_zero (S := S1x8) hz2, View.ld_unit_zero (S := S1x512) hz2, View.ld_unit_zero (S := S8x1024) hz2, View.ld_unit_zero (S := S512x128) hz2]
  rfl

theorem sout_A_1 (hc : cond0_0 i) : sout0_A_1 c i a2 h2 a3 h3 a4 h4 a5 h5 a6 h6 a7 h7 a8 h8 a9 h9 a10 h10 a11 h11 a12 h12 a13 h13 a14 h14 a15 h15 hc x0 x1 x2 x3 x4 x5 x6 x7 x8 = c_states i x1 x2 x3 x4 x5 x6 (k0_pay3 (F := Ideal)) (k0_pay4 (F := Ideal)) := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_cons_unit_zero (S := S512x128) hz2]
  simp only [View.readCov_unit_zero (S := S8x1024) _ hz2, View.readCov_unit_zero (S := S512x128) _ hz2]
  simp only [View.readAt_eq_ld, h2.read_unread, h3.read_unread, h4.read_unread, h5.read_unread, h6.read_unread, h7.read_unread, h8.read_unread, h9.read_unread, h10.read_unread, h14.read_unread, h15.read_unread, View.ld_unit_zero (S := S192x512) hz2, View.ld_unit_zero (S := S192x1024) hz2, View.ld_unit_zero (S := S192x128) hz2, View.ld_unit_zero (S := S4x1024) hz2, View.ld_unit_zero (S := S1x1024) hz2, View.ld_unit_zero (S := S1x8) hz2, View.ld_unit_zero (S := S1x512) hz2, View.ld_unit_zero (S := S8x1024) hz2, View.ld_unit_zero (S := S512x128) hz2]
  sl_kernel_rfl

theorem out_A_9 (hc : cond0_0 i) : out0_A_9 c i a2 h2 a3 h3 a4 h4 a5 h5 a6 h6 a7 h7 a8 h8 a9 h9 a10 h10 a11 h11 a12 h12 a13 h13 a14 h14 a15 h15 hc x0 x1 x2 x3 x4 x5 x6 x7 x8 = t_y i x0 x1 x2 x3 x4 x5 x6 x7 x8 (k0_pay3 (F := Ideal)) (k0_pay4 (F := Ideal)) := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_unit_zero (S := S192x512) hz2]
  simp only [View.readCov_unit_zero (S := S8x1024) _ hz2, View.readCov_unit_zero (S := S512x128) _ hz2]
  simp only [View.readAt_eq_ld, h2.read_unread, h3.read_unread, h4.read_unread, h5.read_unread, h6.read_unread, h7.read_unread, h8.read_unread, h9.read_unread, h10.read_unread, h14.read_unread, h15.read_unread, View.ld_unit_zero (S := S192x512) hz2, View.ld_unit_zero (S := S192x1024) hz2, View.ld_unit_zero (S := S192x128) hz2, View.ld_unit_zero (S := S4x1024) hz2, View.ld_unit_zero (S := S1x1024) hz2, View.ld_unit_zero (S := S1x8) hz2, View.ld_unit_zero (S := S1x512) hz2, View.ld_unit_zero (S := S8x1024) hz2, View.ld_unit_zero (S := S512x128) hz2]
  sl_kernel_rfl

theorem out_A_10 (hc : cond0_0 i) : out0_A_10 c i a2 h2 a3 h3 a4 h4 a5 h5 a6 h6 a7 h7 a8 h8 a9 h9 a10 h10 a11 h11 a12 h12 a13 h13 a14 h14 a15 h15 hc x0 x1 x2 x3 x4 x5 x6 x7 x8 = k0_pay365 (F := Ideal) (k0_pay3 (F := Ideal)) := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_unit_zero (S := S1x1x8x1024) hz4]
  simp only [View.readCov_unit_zero (S := S8x1024) _ hz2, View.readCov_unit_zero (S := S512x128) _ hz2]

theorem out_A_11 (hc : cond0_0 i) : out0_A_11 c i a2 h2 a3 h3 a4 h4 a5 h5 a6 h6 a7 h7 a8 h8 a9 h9 a10 h10 a11 h11 a12 h12 a13 h13 a14 h14 a15 h15 hc x0 x1 x2 x3 x4 x5 x6 x7 x8 = k0_pay366 (F := Ideal) (k0_pay4 (F := Ideal)) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_unit_zero (S := S1x1x512x128) hz4]
  simp only [View.readCov_unit_zero (S := S8x1024) _ hz2, View.readCov_unit_zero (S := S512x128) _ hz2]

end Blocks

end Cert.SsdFwdIdeal.Value

end
-- ==== Proof.SsdParam.lean ====
/-
  What a tile of the forward call of the state space mixer holds, from its blocks, and how it puts its heads and its chunks
  together.
-/
module

public import proofs.«01_k».proof.Proof.SsdEntries
public import proofs.«01_k».proof.Proof.SsdBlocks

@[expose] public section

set_option maxRecDepth 16384

noncomputable section

open Idealize.ShloMosaic Idealize.ShloMosaic.TcCoe

namespace Cert.SsdFwdIdeal.Value

open Cert.SsdFwdIdeal Cert.SsdFwdIdeal.Gen Cert.Ssd Cert.Lru

theorem past_bit : ∀ (a : Fin 11) (r : Fin 192), IntOp.cmpi CmpIPredicate.sge (IntOp.addi (Scalar.muli (BitVec.ofNat 32 a) 192#32) (BitVec.ofNat 32 r)) 48#32
    = if ¬ 192 * a.val + r.val < 48 then 1#1 else 0#1 := by decide +kernel

theorem flag_past (t : ℕ) : flag (¬ t < 48) = past t 1 := by
  unfold flag past
  split_ifs <;> first | rfl | contradiction

theorem mask_at (i : grid0.Coords) (a : Fin 11) (ha : (i 1).val = a.val) (r : Fin 192) : t_mask i (ix2 r 0) = past (192 * a.val + r.val) 1 := by
  pointwise [t_mask, k0_pay13]
  rw [ha, past_bit, bit_flag, flag_past]

section Rows
variable {P : Args} {a : Fin 11} {v4 : Vec Ideal S4x1024 .f32} {v6 : FVec Ideal S1x1024 .f32} {v18 : FVec Ideal S192x1024 .f32} {v21 : Vec Ideal S8x1024 .f32}
  {v8 v10 : FVec Ideal S1x8 .f32} {v20 : FVec Ideal S192x128 .f32}

theorem acts_at (h4 : ∀ (k : Fin 4) (n : Fin 1024), v4 (ix2 k n) = P.cw k n) (h6 : ∀ n : Fin 1024, v6 (ix2 0 n) = P.cb n)
    (h18 : ∀ (r : Fin 192) (n : Fin 1024), v18 (ix2 r n) = rowAfter P 56 (192 * a + (r + 8)) n) (h21 : ∀ (e : Fin 8) (n : Fin 1024), v21 (ix2 e n) = rowAfter P 56 (192 * a + e) n)
    (r : Fin 192) (n : Fin 1024) : k0_pay17 v4 v6 v18 v21 (ix2 r n) = act P 51 (192 * a + r) n := by
  have hz : ∀ (s : ℕ) (hs : s < 8), (if h : s + r.val < 8 then v21 (ix2 ⟨s + r, h⟩ n) else v18 (ix2 ⟨s + r - 8, by omega⟩ n)) = rowAfter P 56 (192 * a + r + s) n := by
    intro s hs
    by_cases h : s + r.val < 8
    · rw [dif_pos h, h21]
      exact congrArg (fun t => rowAfter P 56 t n) (show 192 * a.val + (s + r.val) = 192 * a.val + r.val + s by omega)
    · rw [dif_neg h, h18]
      exact congrArg (fun t => rowAfter P 56 t n) (show 192 * a.val + (s + r.val - 8 + 8) = 192 * a.val + r.val + s by omega)
  have h8 : v18 (ix2 r n) = rowAfter P 56 (192 * a + r + 8) n := h18 r n
  pointwise [k0_pay17]
  rw [hz 5 (by omega), hz 6 (by omega), hz 7 (by omega), h8, h4, h4, h4, h4, h6]
  unfold act silu conv
  rw [← rowAfter_add P 51 5, ← rowAfter_add P 51 5, ← rowAfter_add P 51 5, ← rowAfter_add P 51 5]

theorem sizes_at (h10 : ∀ h : Fin 8, v10 (ix2 0 h) = P.db h) (h20 : ∀ (r : Fin 192) (h : Fin 8), v20 (ix2 r ⟨h, by omega⟩) = dRow P (192 * a + r) h)
    (r : Fin 192) (h : Fin 8) : k0_pay19 v10 v20 (ix2 r h) = size P (192 * a + r) h := by
  pointwise [k0_pay19]
  rw [if_neg (fun h => h rfl), h10, h20, zero_sub]
  rfl

theorem rates_at {m : FVec Ideal S192x1 .f32} (hm : ∀ r : Fin 192, m (ix2 r 0) = past (192 * a + r) 1) (h8 : ∀ h : Fin 8, v8 (ix2 0 h) = P.al h)
    (h10 : ∀ h : Fin 8, v10 (ix2 0 h) = P.db h) (h20 : ∀ (r : Fin 192) (h : Fin 8), v20 (ix2 r ⟨h, by omega⟩) = dRow P (192 * a + r) h)
    (r : Fin 192) (h : Fin 8) : k0_pay22 (k0_pay20 v8 v10 v20) (k0_pay21 m) (ix2 r h) = rate P (192 * a + r) h := by
  have hs := sizes_at (a := a) h10 h20 r h
  unfold k0_pay20
  generalize k0_pay19 v10 v20 = x at hs
  pointwise [k0_pay22, k0_pay21]
  rw [hs, h8, hm, mul_past, zero_sub]
  rfl

end Rows

/-! ## Heads and chunks put together -/

theorem pick_col (y : (h : ℕ) → h < 8 → FVec Ideal S64x64 .f32) (l : Fin 64) (j : Fin 512) (h : ℕ) (hh : h < 8) (q : Fin 64) (e : h = j.val / 64) (e' : q.val = j.val % 64) :
    y h hh (ix2 l q) = y (j / 64) (by omega) (ix2 l (placeIn j)) := by
  subst e
  exact congrArg (fun q => y _ _ (ix2 l q)) (Fin.ext e')

theorem side_at (y : (h : ℕ) → h < 8 → FVec Ideal S64x64 .f32) (l : Fin 64) (j : Fin 512) :
    sideBySide y (ix2 l j) = y (j / 64) (by omega) (ix2 l (placeIn j)) := by
  have hj := j.isLt
  pointwise [sideBySide]
  split_ifs <;> exact pick_col y l j _ _ _ (by omega) (by dsimp only; omega)

theorem pick_row (y : (h : ℕ) → h < 8 → FVec Ideal S64x128 .f32) (j : Fin 512) (n : Fin 128) (h : ℕ) (hh : h < 8) (q : Fin 64) (e : h = j.val / 64) (e' : q.val = j.val % 64) :
    y h hh (ix2 q n) = y (j / 64) (by omega) (ix2 (placeIn j) n) := by
  subst e
  exact congrArg (fun q => y _ _ (ix2 q n)) (Fin.ext e')

theorem stack_at (y : (h : ℕ) → h < 8 → FVec Ideal S64x128 .f32) (j : Fin 512) (n : Fin 128) :
    stacked y (ix2 j n) = y (j / 64) (by omega) (ix2 (placeIn j) n) := by
  have hj := j.isLt
  pointwise [stacked]
  split_ifs <;> exact pick_row y j n _ _ _ (by omega) (by dsimp only; omega)

theorem chunks_at (y0 y1 y2 : FVec Ideal S64x512 .f32) (r : Fin 192) (j : Fin 512) :
    chunks y0 y1 y2 (ix2 r j) = if h : r.val < 64 then y0 (ix2 ⟨r, h⟩ j) else if h' : r.val - 64 < 64 then y1 (ix2 ⟨r - 64, h'⟩ j) else y2 (ix2 ⟨r - 64 - 64, by omega⟩ j) := by
  pointwise [chunks]

section Tile
variable {P : Args} {i : ℕ} {m : FVec Ideal S192x1 .f32} {X : FVec Ideal S192x1024 .f32} {dt a : FVec Ideal S192x8 .f32} {d : FVec Ideal S1x8 .f32} {S : FVec Ideal S512x128 .f32}
  (H : Holds P (192 * i) m X dt a d) (hS : Enters P (3 * i) S)
include H hS

theorem tStates_at : Enters P (3 * (i + 1)) (tStates m X dt a S) := by
  intro j n
  unfold tStates
  rw [stack_at, kS3_at H hS]

/-- A mixed row of a tile, its chunk and its place there found from its number. -/
theorem tMixed_at (r : Fin 192) (j : Fin 512) :
    tMixed m X dt a d S (ix2 r j) = mixed P ((192 * i + r) / 64) (headOf j) ⟨(192 * i + r) % 64, by omega⟩ (placeIn j) := by
  have hr := r.isLt
  have hj : j.val / 64 < 8 := by have := j.isLt; omega
  have at_row : ∀ (k : ℕ) (l : Fin 64), 192 * i + r.val = 64 * k + l.val → mixed P k (headOf j) l (placeIn j) = mixed P ((192 * i + r) / 64) (headOf j) ⟨(192 * i + r) % 64, by omega⟩ (placeIn j) := by
    intro k l e
    have hl := l.isLt
    obtain rfl : k = (192 * i + r.val) / 64 := by omega
    exact congrArg (fun l => mixed P _ (headOf j) l (placeIn j)) (Fin.ext (by dsimp only; omega))
  unfold tMixed
  refine (chunks_at _ _ _ r j).trans ?_
  split_ifs
  · rw [side_at, kMixed_at H 0 _ (by decide) hj (3 * i) (by omega) _ (kS0_at hS _ hj)]
    exact at_row _ _ (by dsimp only; omega)
  · rw [side_at, kMixed_at H 1 _ (by decide) hj (3 * i + 1) (by omega) _ (kS1_at H hS _ hj)]
    exact at_row _ _ (by dsimp only; omega)
  · rw [side_at, kMixed_at H 2 _ (by decide) hj (3 * i + 2) (by omega) _ (kS2_at H hS _ hj)]
    exact at_row _ _ (by dsimp only; omega)

end Tile

/-- The two groups of a row, each over its own root mean square. -/
theorem groups_at (v14 : FVec Ideal S1x512 .f32) (v29 : FVec Ideal S192x1 .f32) (v : FVec Ideal S192x512 .f32) (r : Fin 192) (j : Fin 512) :
    k0_pay362 v14 v29 v (extractStridedSlice S192x256 ![0, 0] v slices_S192x512_o0_0_S192x256) (k0_pay361 v14) (ix2 r j)
      = v (ix2 r j) * Ideal.rsqrt (Ideal.div (∑ k : Fin 256, v (ix2 r (sameGroup j k)) * v (ix2 r (sameGroup j k))) (Ideal.ofBits .f32 0x43800000#32)
        + Ideal.ofBits .f32 0x358637BD#32) * v14 (ix2 0 j) * v29 (ix2 r 0) := by
  have hj := j.isLt
  have low : j.val < 256 → ∀ k : Fin 256, sameGroup j k = ⟨k, by omega⟩ := fun q k => Fin.ext (by dsimp only; omega)
  have high : ¬ j.val < 256 → ∀ k : Fin 256, sameGroup j k = ⟨256 + k, by omega⟩ := fun q k => Fin.ext (by dsimp only; omega)
  pointwise [k0_pay362, k0_pay361]
  by_cases q : j.val < 256
  · simp only [low q, dif_pos q, if_pos q]
  · have e : (⟨256 + (j.val - 256), by omega⟩ : Fin 512) = j := Fin.ext (by dsimp only; omega)
    simp only [high q, dif_neg q, if_neg q, e]

end Cert.SsdFwdIdeal.Value

end
-- ==== Proof.SsdHost.lean ====
/-
  The blocks that the forward call of the state space mixer reads: the convolution's input, the gate and the step sizes side
  by side under rows of padding.
-/
module

public import proofs.«01_k».proof.Proof.Gen.SsdFwdIdeal.Frame
public import proofs.«01_k».proof.Proof.SsdSpec
public import Idealize.ShloMosaic.Lib.Pointwise

@[expose] public section

set_option maxRecDepth 16384

noncomputable section

open Idealize.ShloMosaic Idealize.ShloMosaic.TcCoe Idealize.ShloMosaic.Tactic

namespace Cert.SsdFwdIdeal.Value

open Cert.SsdFwdIdeal Cert.SsdFwdIdeal.Gen Cert.Ssd

/-- The three inputs side by side, below 48 rows of nothing. -/
def beside (x : FVec Ideal S2064x1024 .f32) (z : FVec Ideal S2064x512 .f32) (d : FVec Ideal S2064x8 .f32) : FVec Ideal S2112x1664 .f32 :=
  concatenate S2112x1664 0 [⟨S48x1664, broadcastInDim S48x1664 ![] bcast_S_S48x1664 (constant S_ .f32 0x00000000#32)⟩,
    ⟨S2064x1664, concatenate S2064x1664 1 [⟨S2064x1024, x⟩, ⟨S2064x512, z⟩, ⟨S2064x128, concatenate S2064x128 1 [⟨S2064x8, d⟩, ⟨S2064x120, broadcastInDim S2064x120 ![] bcast_S_S2064x120 (constant S_ .f32 0x00000000#32)⟩] concatenates_S2064x8_S2064x120_S2064x128_d1⟩]
      concatenates_S2064x1024_S2064x512_S2064x128_S2064x1664_d1⟩] concatenates_S48x1664_S2064x1664_S2112x1664_d0

section
variable (x : FVec Ideal S2064x1024 .f32) (z : FVec Ideal S2064x512 .f32) (d : FVec Ideal S2064x8 .f32) (i : Fin 2112)

theorem beside_x (j : Fin 1024) : beside x z d (ix2 i ⟨j, by omega⟩) = if h : i.val < 48 then 0 else x (ix2 ⟨i - 48, by omega⟩ j) := by
  have hj := j.isLt
  pointwise [beside]

theorem beside_z (j : Fin 512) : beside x z d (ix2 i ⟨1024 + j, by omega⟩) = if h : i.val < 48 then 0 else z (ix2 ⟨i - 48, by omega⟩ j) := by
  have hj := j.isLt
  pointwise [beside]

theorem beside_d (j : Fin 8) : beside x z d (ix2 i ⟨1536 + j, by omega⟩) = if h : i.val < 48 then 0 else d (ix2 ⟨i - 48, by omega⟩ j) := by
  have hj := j.isLt
  have e : ∀ h, (⟨1536 + j.val - 1024 - 512, h⟩ : Fin 8) = j := fun h => Fin.ext (by dsimp only; omega)
  pointwise [beside]
  simp only [dif_neg (show ¬ 1536 + j.val < 1024 by omega), dif_neg (show ¬ 1536 + j.val - 1024 < 512 by omega), dif_pos (show 1536 + j.val - 1024 - 512 < 8 by omega), e]

end

theorem row_1024 (x : FVec Ideal S1024 .f32) (n : Fin 1024) : shapeCast S1x1024 x shapeCasts_S1024_S1x1024 (ix2 0 n) = x (ix1 n) := by pointwise
theorem row_8 (x : FVec Ideal S8 .f32) (n : Fin 8) : shapeCast S1x8 x shapeCasts_S8_S1x8 (ix2 0 n) = x (ix1 n) := by pointwise
theorem row_512 (x : FVec Ideal S512 .f32) (n : Fin 512) : shapeCast S1x512 x shapeCasts_S512_S1x512 (ix2 0 n) = x (ix1 n) := by pointwise

variable (m : (ℓ : Loc nD τ sig) → Buf (Elt Ideal) ℓ)

abbrev arg0 (c : Dev nD) : S2064x512.Idx → EReal := m ((c : Thread nD τ).loc main_arg0)
abbrev arg1 (c : Dev nD) : S2064x1024.Idx → EReal := m ((c : Thread nD τ).loc main_arg1)
abbrev arg2 (c : Dev nD) : S2064x8.Idx → EReal := m ((c : Thread nD τ).loc main_arg2)
abbrev arg3 (c : Dev nD) : S4x1024.Idx → EReal := m ((c : Thread nD τ).loc main_arg3)
abbrev arg4 (c : Dev nD) : S1024.Idx → EReal := m ((c : Thread nD τ).loc main_arg4)
abbrev arg5 (c : Dev nD) : S8.Idx → EReal := m ((c : Thread nD τ).loc main_arg5)
abbrev arg6 (c : Dev nD) : S8.Idx → EReal := m ((c : Thread nD τ).loc main_arg6)
abbrev arg7 (c : Dev nD) : S8.Idx → EReal := m ((c : Thread nD τ).loc main_arg7)
abbrev arg8 (c : Dev nD) : S512.Idx → EReal := m ((c : Thread nD τ).loc main_arg8)

/-- The call's arguments. -/
abbrev args (c : Dev nD) : Args where
  Z := fun t j => arg0 m c (ix2 t j)
  X := fun t j => arg1 m c (ix2 t j)
  D := fun t h => arg2 m c (ix2 t h)
  cw := fun k j => arg3 m c (ix2 k j)
  cb := fun j => arg4 m c (ix1 j)
  al := fun h => arg5 m c (ix1 h)
  db := fun h => arg6 m c (ix1 h)
  ds := fun h => arg7 m c (ix1 h)
  ng := fun j => arg8 m c (ix1 j)

theorem v_4 (c : Dev nD) : (V m c main_v4 : S2112x1664.Idx → EReal) = beside (arg1 m c) (arg0 m c) (arg2 m c) := by
  dsimp only [V, hostOps0]
  after_results
  rfl
theorem v_5 (c : Dev nD) : (V m c main_v5 : S1x1024.Idx → EReal) = shapeCast S1x1024 (arg4 m c : FVec Ideal S1024 .f32) shapeCasts_S1024_S1x1024 := by
  dsimp only [V, hostOps0]
  after_results
  rfl
theorem v_6 (c : Dev nD) : (V m c main_v6 : S1x8.Idx → EReal) = shapeCast S1x8 (arg5 m c : FVec Ideal S8 .f32) shapeCasts_S8_S1x8 := by
  dsimp only [V, hostOps0]
  after_results
  rfl
theorem v_7 (c : Dev nD) : (V m c main_v7 : S1x8.Idx → EReal) = shapeCast S1x8 (arg6 m c : FVec Ideal S8 .f32) shapeCasts_S8_S1x8 := by
  dsimp only [V, hostOps0]
  after_results
  rfl
theorem v_8 (c : Dev nD) : (V m c main_v8 : S1x8.Idx → EReal) = shapeCast S1x8 (arg7 m c : FVec Ideal S8 .f32) shapeCasts_S8_S1x8 := by
  dsimp only [V, hostOps0]
  after_results
  rfl
theorem v_9 (c : Dev nD) : (V m c main_v9 : S1x512.Idx → EReal) = shapeCast S1x512 (arg8 m c : FVec Ideal S512 .f32) shapeCasts_S512_S1x512 := by
  dsimp only [V, hostOps0]
  after_results
  rfl
theorem v_arg3 (c : Dev nD) : (V m c main_arg3 : S4x1024.Idx → EReal) = arg3 m c := by
  dsimp only [V, hostOps0]
  after_results

theorem point_lt (t : Fin cfg0.N) : t.val < 11 := t.isLt

theorem coord_1 : ∀ t : Fin grid0.N, (grid0.coords t 1).val = t.val := by decide +kernel

theorem idx_in : ∀ t : Fin grid0.N, (win0_0.index t (0 : Fin 2) = t.val ∧ win0_0.index t (1 : Fin 2) = 2)
    ∧ (win0_1.index t (0 : Fin 2) = t.val ∧ win0_1.index t (1 : Fin 2) = 0)
    ∧ (win0_2.index t (0 : Fin 2) = t.val ∧ win0_2.index t (1 : Fin 2) = 12)
    ∧ (win0_9.index t (0 : Fin 2) = t.val ∧ win0_9.index t (1 : Fin 2) = 0) := by decide +kernel

theorem idx_par : ∀ t : Fin grid0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) := by decide +kernel

theorem idx_saved : ∀ t : Fin grid0.N,
    (win0_10.index t (0 : Fin 4) = 0 ∧ win0_10.index t (1 : Fin 4) = t.val ∧ win0_10.index t (2 : Fin 4) = 0 ∧ win0_10.index t (3 : Fin 4) = 0)
    ∧ (win0_11.index t (0 : Fin 4) = 0 ∧ win0_11.index t (1 : Fin 4) = t.val ∧ win0_11.index t (2 : Fin 4) = 0 ∧ win0_11.index t (3 : Fin 4) = 0) := by decide +kernel

/-- The tile of a point, and a row of it. -/
abbrev tileOf (t : Fin cfg0.N) : Fin 11 := ⟨t, point_lt t⟩
abbrev rowAt (t : Fin cfg0.N) (r : Fin 192) : Fin 2112 := ⟨192 * tileOf t + r, by have := (tileOf t).isLt; omega⟩

theorem gate_padded (c : Dev nD) (i : Fin 2112) (j : Fin 512) : beside (arg1 m c) (arg0 m c) (arg2 m c) (ix2 i ⟨1024 + j, by omega⟩) = gateRow (args m c) i j := by
  rw [beside_z]
  unfold gateRow
  by_cases h : i.val < 48
  · rw [dif_pos h, dif_neg (by omega)]
  · rw [dif_neg h, dif_pos ⟨by omega, by omega⟩]

theorem row_padded (c : Dev nD) (i : Fin 2112) (j : Fin 1024) : beside (arg1 m c) (arg0 m c) (arg2 m c) (ix2 i ⟨j, by omega⟩) = rowAfter (args m c) 48 i j := by
  rw [beside_x]
  unfold rowAfter
  by_cases h : i.val < 48
  · rw [dif_pos h, dif_neg (by omega)]
  · rw [dif_neg h, dif_pos ⟨by omega, by omega⟩]

theorem size_padded (c : Dev nD) (i : Fin 2112) (j : Fin 8) : beside (arg1 m c) (arg0 m c) (arg2 m c) (ix2 i ⟨1536 + j, by omega⟩) = dRow (args m c) i j := by
  rw [beside_d]
  unfold dRow
  by_cases h : i.val < 48
  · rw [dif_pos h, dif_neg (by omega)]
  · rw [dif_neg h, dif_pos ⟨by omega, by omega⟩]

theorem b_0 (c : Dev nD) (t : Fin cfg0.N) (r : Fin 192) (k : Fin 512) : (X0_0 m c t : Vec Ideal S192x512 .f32) (ix2 r k) = gateRow (args m c) (192 * t + r) k := by
  obtain ⟨⟨h0, h1⟩, -⟩ := idx_in t
  refine Eq.trans ?_ (gate_padded m c (rowAt t r) k)
  rw [← v_4]
  unfold X0_0 Pipeline.Window.fill
  rw [dif_pos (moved0_0 t _)]
  unfold iblk
  rw [View.read_apply]
  show V m c main_v4 _ = _
  congr 1
  funext a
  apply Fin.ext
  match a with
  | ⟨0, _⟩ => show win0_0.index t 0 * 192 + 1 * r.val = 192 * t.val + r.val; rw [h0]; omega
  | ⟨1, _⟩ => show win0_0.index t 1 * 512 + 1 * k.val = 1024 + k.val; rw [h1]; omega

theorem b_1 (c : Dev nD) (t : Fin cfg0.N) (r : Fin 192) (k : Fin 1024) : (X0_1 m c t : Vec Ideal S192x1024 .f32) (ix2 r k) = rowAfter (args m c) 48 (192 * t + r) k := by
  obtain ⟨-, ⟨h0, h1⟩, -⟩ := idx_in t
  refine Eq.trans ?_ (row_padded m c (rowAt t r) k)
  rw [← v_4]
  unfold X0_1 Pipeline.Window.fill
  rw [dif_pos (moved0_1 t _)]
  unfold iblk
  rw [View.read_apply]
  show V m c main_v4 _ = _
  congr 1
  funext a
  apply Fin.ext
  match a with
  | ⟨0, _⟩ => show win0_1.index t 0 * 192 + 1 * r.val = 192 * t.val + r.val; rw [h0]; omega
  | ⟨1, _⟩ => show win0_1.index t 1 * 1024 + 1 * k.val = k.val; rw [h1]; omega

theorem b_2 (c : Dev nD) (t : Fin cfg0.N) (r : Fin 192) (k : Fin 8) : (iblk m c 2 t : Vec Ideal S192x128 .f32) (ix2 r ⟨k, by omega⟩) = dRow (args m c) (192 * t + r) k := by
  obtain ⟨-, -, ⟨h0, h1⟩, -⟩ := idx_in t
  refine Eq.trans ?_ (size_padded m c (rowAt t r) k)
  rw [← v_4]
  unfold iblk
  rw [View.read_apply]
  show V m c main_v4 _ = _
  congr 1
  funext a
  apply Fin.ext
  match a with
  | ⟨0, _⟩ => show win0_2.index t 0 * 192 + 1 * r.val = 192 * t.val + r.val; rw [h0]; omega
  | ⟨1, _⟩ => show win0_2.index t 1 * 128 + 1 * k.val = 1536 + k.val; rw [h1]; omega

theorem b_3 (c : Dev nD) (t : Fin cfg0.N) (r : Fin 4) (n : Fin 1024) : (iblk m c 3 t : Vec Ideal S4x1024 .f32) (ix2 r n) = arg3 m c (ix2 r n) := by
  obtain ⟨⟨h0, h1⟩, -⟩ := idx_par t
  rw [← v_arg3]
  unfold iblk
  rw [View.read_apply]
  show V m c main_arg3 _ = _
  congr 1
  funext a
  apply Fin.ext
  match a with
  | ⟨0, _⟩ => show win0_3.index t 0 * 4 + 1 * r.val = r.val; rw [h0]; omega
  | ⟨1, _⟩ => show win0_3.index t 1 * 1024 + 1 * n.val = n.val; rw [h1]; omega

theorem b_4 (c : Dev nD) (t : Fin cfg0.N) (n : Fin 1024) : (iblk m c 4 t : Vec Ideal S1x1024 .f32) (ix2 0 n) = arg4 m c (ix1 n) := by
  obtain ⟨-, ⟨h0, h1⟩, -⟩ := idx_par t
  refine Eq.trans ?_ (row_1024 (arg4 m c) n)
  rw [← v_5]
  unfold iblk
  rw [View.read_apply]
  show V m c main_v5 _ = _
  congr 1
  funext a
  apply Fin.ext
  match a with
  | ⟨0, _⟩ => show win0_4.index t 0 * 1 + 1 * 0 = 0; rw [h0]
  | ⟨1, _⟩ => show win0_4.index t 1 * 1024 + 1 * n.val = n.val; rw [h1]; omega

theorem b_5 (c : Dev nD) (t : Fin cfg0.N) (n : Fin 8) : (iblk m c 5 t : Vec Ideal S1x8 .f32) (ix2 0 n) = arg5 m c (ix1 n) := by
  obtain ⟨-, -, ⟨h0, h1⟩, -⟩ := idx_par t
  refine Eq.trans ?_ (row_8 (arg5 m c) n)
  rw [← v_6]
  unfold iblk
  rw [View.read_apply]
  show V m c main_v6 _ = _
  congr 1
  funext a
  apply Fin.ext
  match a with
  | ⟨0, _⟩ => show win0_5.index t 0 * 1 + 1 * 0 = 0; rw [h0]
  | ⟨1, _⟩ => show win0_5.index t 1 * 8 + 1 * n.val = n.val; rw [h1]; omega

theorem b_6 (c : Dev nD) (t : Fin cfg0.N) (n : Fin 8) : (iblk m c 6 t : Vec Ideal S1x8 .f32) (ix2 0 n) = arg6 m c (ix1 n) := by
  obtain ⟨-, -, -, ⟨h0, h1⟩, -⟩ := idx_par t
  refine Eq.trans ?_ (row_8 (arg6 m c) n)
  rw [← v_7]
  unfold iblk
  rw [View.read_apply]
  show V m c main_v7 _ = _
  congr 1
  funext a
  apply Fin.ext
  match a with
  | ⟨0, _⟩ => show win0_6.index t 0 * 1 + 1 * 0 = 0; rw [h0]
  | ⟨1, _⟩ => show win0_6.index t 1 * 8 + 1 * n.val = n.val; rw [h1]; omega

theorem b_7 (c : Dev nD) (t : Fin cfg0.N) (n : Fin 8) : (iblk m c 7 t : Vec Ideal S1x8 .f32) (ix2 0 n) = arg7 m c (ix1 n) := by
  obtain ⟨-, -, -, -, ⟨h0, h1⟩, -⟩ := idx_par t
  refine Eq.trans ?_ (row_8 (arg7 m c) n)
  rw [← v_8]
  unfold iblk
  rw [View.read_apply]
  show V m c main_v8 _ = _
  congr 1
  funext a
  apply Fin.ext
  match a with
  | ⟨0, _⟩ => show win0_7.index t 0 * 1 + 1 * 0 = 0; rw [h0]
  | ⟨1, _⟩ => show win0_7.index t 1 * 8 + 1 * n.val = n.val; rw [h1]; omega

theorem b_8 (c : Dev nD) (t : Fin cfg0.N) (n : Fin 512) : (iblk m c 8 t : Vec Ideal S1x512 .f32) (ix2 0 n) = arg8 m c (ix1 n) := by
  obtain ⟨-, -, -, -, -, ⟨h0, h1⟩⟩ := idx_par t
  refine Eq.trans ?_ (row_512 (arg8 m c) n)
  rw [← v_9]
  unfold iblk
  rw [View.read_apply]
  show V m c main_v9 _ = _
  congr 1
  funext a
  apply Fin.ext
  match a with
  | ⟨0, _⟩ => show win0_8.index t 0 * 1 + 1 * 0 = 0; rw [h0]
  | ⟨1, _⟩ => show win0_8.index t 1 * 512 + 1 * n.val = n.val; rw [h1]; omega

end Cert.SsdFwdIdeal.Value

end
-- ==== Proof.SsdFwdValue.lean ====
/-
  The values of the forward call of the state space mixer: by induction over the tiles the rows and the states carried are
  the layer's, so each tile's result is the layer's.
-/
module

public import proofs.«01_k».proof.Proof.SsdParam
public import proofs.«01_k».proof.Proof.SsdHost

@[expose] public section

set_option maxRecDepth 16384

noncomputable section

open Idealize.ShloMosaic Idealize.ShloMosaic.TcCoe Idealize.ShloMosaic.Tactic

namespace Cert.SsdFwdIdeal.Value

open Cert.SsdFwdIdeal Cert.SsdFwdIdeal.Gen Cert.Ssd

theorem cast_5 (x : Vec Ideal S1x1024 .f32) : k0_pay5 x = x := by
  funext (i : S1x1024.Idx); idx_vars i; pointwise [k0_pay5]
theorem cast_6 (x : Vec Ideal S1x8 .f32) : k0_pay6 x = x := by
  funext (i : S1x8.Idx); idx_vars i; pointwise [k0_pay6]
theorem cast_7 (x : Vec Ideal S1x8 .f32) : k0_pay7 x = x := by
  funext (i : S1x8.Idx); idx_vars i; pointwise [k0_pay7]
theorem cast_8 (x : Vec Ideal S1x8 .f32) : k0_pay8 x = x := by
  funext (i : S1x8.Idx); idx_vars i; pointwise [k0_pay8]
theorem cast_9 (x : Vec Ideal S1x512 .f32) : k0_pay9 x = x := by
  funext (i : S1x512.Idx); idx_vars i; pointwise [k0_pay9]
theorem cast_10 (x : Vec Ideal S192x512 .f32) : k0_pay10 x = x := by
  funext (i : S192x512.Idx); idx_vars i; pointwise [k0_pay10]
theorem cast_11 (x : Vec Ideal S192x1024 .f32) : k0_pay11 x = x := by
  funext (i : S192x1024.Idx); idx_vars i; pointwise [k0_pay11]
theorem cast_12 (x : Vec Ideal S192x128 .f32) : k0_pay12 x = x := by
  funext (i : S192x128.Idx); idx_vars i; pointwise [k0_pay12]
theorem cast_2 (x : FVec Ideal S512x128 .f32) : k0_pay2 x = x := by
  funext (i : S512x128.Idx); idx_vars i; pointwise [k0_pay2]
theorem last_rows (x : Vec Ideal S192x1024 .f32) (e : Fin 8) (n : Fin 1024) : c_rows x (ix2 e n) = x (ix2 ⟨184 + e, by omega⟩ n) := by
  rw [c_rows, cast_11]
  pointwise [k0_pay1, k0_pay363]
theorem saved_rows (s : Vec Ideal S8x1024 .f32) (e : Fin 8) (n : Fin 1024) : k0_pay365 s (ix4 0 0 e n) = s (ix2 e n) := by
  pointwise [k0_pay365]
theorem saved_states (s : Vec Ideal S512x128 .f32) (j : Fin 512) (n : Fin 128) : k0_pay366 s (ix4 0 0 j n) = s (ix2 j n) := by
  pointwise [k0_pay366]
theorem zero_rows (e : Fin 8) (n : Fin 1024) : k0_pay3 (F := Ideal) (ix2 e n) = 0 := by
  pointwise [k0_pay3]
theorem zero_states (j : Fin 512) (n : Fin 128) : k0_pay4 (F := Ideal) (ix2 j n) = 0 := by
  pointwise [k0_pay4]

variable (m : (ℓ : Loc nD τ sig) → Buf (Elt Ideal) ℓ) (c : Dev nD)

/-- What enters tile `n`: the eight rows before it, and the states. -/
structure Entering (n : ℕ) (s0 : Vec Ideal S8x1024 .f32) (s1 : Vec Ideal S512x128 .f32) : Prop where
  rows : ∀ (e : Fin 8) (j : Fin 1024), s0 (ix2 e j) = rowAfter (args m c) 56 (192 * n + e) j
  states : Enters (args m c) (3 * n) s1

theorem row_in (t : Fin cfg0.N) (r : Fin 192) (j : Fin 1024) : (X0_1 m c t : Vec Ideal S192x1024 .f32) (ix2 r j) = rowAfter (args m c) 56 (192 * t + (r + 8)) j := by
  rw [b_1, ← rowAfter_add (args m c) 48 8]
  exact congrArg (fun k => rowAfter (args m c) 56 k j) (show 192 * t.val + r.val + 8 = 192 * t.val + (r.val + 8) by omega)

section Carry
variable {m} {c}

theorem tile_holds (t : Fin cfg0.N) {s0 : Vec Ideal S8x1024 .f32} {s1 : Vec Ideal S512x128 .f32} (h : Entering m c t.val s0 s1) :
    Holds (args m c) (192 * t) (t_mask (grid0.coords t)) (t_acts (X0_1 m c t) (iblk m c 3 t) (iblk m c 4 t) s0) (t_sizes (iblk m c 2 t) (iblk m c 6 t))
      (t_rates (grid0.coords t) (iblk m c 2 t) (iblk m c 5 t) (iblk m c 6 t)) (t_skips (iblk m c 7 t)) := by
  have hm := mask_at (grid0.coords t) (tileOf t) (coord_1 t)
  have h7 : ∀ h : Fin 8, k0_pay7 (iblk m c 6 t) (ix2 0 h) = (args m c).db h := fun h => by rw [cast_7]; exact b_6 m c t h
  have h12 : ∀ (r : Fin 192) (h : Fin 8), k0_pay12 (iblk m c 2 t) (ix2 r ⟨h, by omega⟩) = dRow (args m c) (192 * tileOf t + r) h := fun r h => by rw [cast_12]; exact b_2 m c t r h
  exact ⟨hm,
    acts_at (P := args m c) (a := tileOf t) (v4 := iblk m c 3 t) (v6 := k0_pay5 (iblk m c 4 t)) (v18 := k0_pay11 (X0_1 m c t)) (v21 := s0) (fun k n => b_3 m c t k n) (fun n => by rw [cast_5]; exact b_4 m c t n) (fun r n => by rw [cast_11]; exact row_in m c t r n) h.rows,
    sizes_at (P := args m c) (a := tileOf t) h7 h12,
    rates_at (P := args m c) (a := tileOf t) hm (fun h => by rw [cast_6]; exact b_5 m c t h) h7 h12,
    fun h => by rw [t_skips, cast_8]; exact b_7 m c t h⟩

/-- What a point leaves, in terms of what enters it. -/
def Leaves (n : ℕ) (hn : n < cfg0.N) (s0 : Vec Ideal S8x1024 .f32) (s1 : Vec Ideal S512x128 .f32) : Prop :=
  outsAt0 m c n hn = (t_y (grid0.coords ⟨n, hn⟩) (X0_0 m c ⟨n, hn⟩) (X0_1 m c ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) s0 s1,
        k0_pay365 (F := Ideal) s0, k0_pay366 (F := Ideal) s1, c_rows (X0_1 m c ⟨n, hn⟩),
        c_states (grid0.coords ⟨n, hn⟩) (X0_1 m c ⟨n, hn⟩) (iblk m c 2 ⟨n, hn⟩) (iblk m c 3 ⟨n, hn⟩) (iblk m c 4 ⟨n, hn⟩) (iblk m c 5 ⟨n, hn⟩) (iblk m c 6 ⟨n, hn⟩) s0 s1)

theorem leaves_zero (hn : 0 < cfg0.N) : Leaves (m := m) (c := c) 0 hn (k0_pay3 (F := Ideal)) (k0_pay4 (F := Ideal)) := by
  have h := outsAt0_A m c ⟨0, hn⟩ rfl
  dsimp only at h
  unfold Leaves
  rw [h, out_A_9, out_A_10, out_A_11, sout_A_0, sout_A_1]

theorem leaves_succ (n : ℕ) (hn : n + 1 < cfg0.N) :
    Leaves (m := m) (c := c) (n + 1) hn (outsAt0 m c n (by omega)).2.2.2.1 (outsAt0 m c n (by omega)).2.2.2.2 := by
  have h := outsAt0_B m c ⟨n + 1, hn⟩ (by have : n + 1 < 11 := hn; dsimp only; omega)
  dsimp only at h
  unfold Leaves
  rw [h, out_B_9, out_B_10, out_B_11, sout_B_0, sout_B_1]
  rfl

theorem enters_succ {n : ℕ} (hn : n < cfg0.N) {s0 : Vec Ideal S8x1024 .f32} {s1 : Vec Ideal S512x128 .f32} (hs : Entering m c n s0 s1) (he : Leaves (m := m) (c := c) n hn s0 s1) :
    Entering m c (n + 1) (outsAt0 m c n hn).2.2.2.1 (outsAt0 m c n hn).2.2.2.2 := by
  have hh := tile_holds ⟨n, hn⟩ hs
  unfold Leaves at he
  refine ⟨fun e j => ?_, ?_⟩
  · rw [he]
    dsimp only
    rw [last_rows, row_in]
    refine congrArg (fun k => rowAfter (args m c) 56 k j) ?_
    show 192 * n + (184 + e.val + 8) = 192 * (n + 1) + e.val
    omega
  · rw [he]
    dsimp only
    rw [c_states, cast_2]
    exact tStates_at hh hs.states

/-- What enters a point is the layer's. -/
theorem carried : ∀ (n : ℕ) (hn : n < cfg0.N), ∃ (s0 : Vec Ideal S8x1024 .f32) (s1 : Vec Ideal S512x128 .f32), Entering m c n s0 s1 ∧ Leaves (m := m) (c := c) n hn s0 s1 := by
  intro n
  induction n with
  | zero =>
    refine fun hn => ⟨k0_pay3 (F := Ideal), k0_pay4 (F := Ideal), ⟨fun e j => ?_, fun j n => ?_⟩, leaves_zero hn⟩
    · rw [zero_rows, rowAfter, dif_neg (by omega)]
    · rw [zero_states]; rfl
  | succ n ih =>
    intro hn
    obtain ⟨s0, s1, hs, he⟩ := ih (by omega)
    exact ⟨_, _, enters_succ (by omega) hs he, leaves_succ n hn⟩

theorem left_10 (t : Fin cfg0.N) (e : Fin 8) (n : Fin 1024) : (outsAt0 m c t.val t.isLt).2.1 (ix4 0 0 e n) = rowsIn (args m c) (tileOf t) e n := by
  obtain ⟨s0, s1, hs, he⟩ := carried (m := m) (c := c) t.val t.isLt
  unfold Leaves at he
  rw [he]
  exact (saved_rows s0 e n).trans (hs.rows e n)

theorem left_11 (t : Fin cfg0.N) (j : Fin 512) (n : Fin 128) : (outsAt0 m c t.val t.isLt).2.2.1 (ix4 0 0 j n) = stateIn (args m c) (tileOf t) j n := by
  obtain ⟨s0, s1, hs, he⟩ := carried (m := m) (c := c) t.val t.isLt
  unfold Leaves at he
  rw [he]
  exact (saved_states s1 j n).trans (hs.states j n)

theorem gated_at (t : Fin cfg0.N) {s0 : Vec Ideal S8x1024 .f32} {s1 : Vec Ideal S512x128 .f32} (hs : Entering m c t.val s0 s1) (r : Fin 192) (j : Fin 512) :
    t_gated (grid0.coords t) (X0_0 m c t) (X0_1 m c t) (iblk m c 2 t) (iblk m c 3 t) (iblk m c 4 t) (iblk m c 5 t) (iblk m c 6 t) (iblk m c 7 t) s0 s1 (ix2 r j) = gated (args m c) (192 * t + r) j := by
  have hh := tile_holds t hs
  rw [t_gated, mulf_at, tMixed_at hh hs.states, cast_10, mulf_at]
  refine congrArg₂ (fun x y : EReal => x * y) rfl ?_
  show silu ((X0_0 m c t : Vec Ideal S192x512 .f32) (ix2 r j)) = _
  rw [b_0]

theorem left_9 (t : Fin cfg0.N) (r : Fin 192) (j : Fin 512) : (outsAt0 m c t.val t.isLt).1 (ix2 r j) = result (args m c) (rowAt t r) j := by
  obtain ⟨s0, s1, hs, he⟩ := carried (m := m) (c := c) t.val t.isLt
  have hm : t_mask (grid0.coords t) (ix2 r 0) = _ := mask_at (grid0.coords t) (tileOf t) (coord_1 t) r
  unfold Leaves at he
  rw [he]
  dsimp only
  rw [t_y, groups_at, hm, mul_past]
  simp only [gated_at t hs]
  rw [cast_9]
  refine congrArg (past _) ?_
  exact congrArg₂ (fun x y : EReal => x * y) rfl (b_8 m c t j)

theorem emb_9 (t : Fin cfg0.N) (j : S192x512.Idx) : ((cfg0.win 9).blk t).view.emb j = (ix2 (rowAt t (j 0)) (j 1) : S2112x512.Idx) := by
  obtain ⟨-, -, -, ⟨h0, h1⟩⟩ := idx_in t
  funext a
  apply Fin.ext
  match a with
  | ⟨0, _⟩ => show win0_9.index t 0 * 192 + 1 * (j 0).val = 192 * t.val + (j 0).val; rw [h0]; omega
  | ⟨1, _⟩ => show win0_9.index t 1 * 512 + 1 * (j 1).val = (j 1).val; rw [h1]; omega

theorem emb_10 (t : Fin cfg0.N) (j : S1x1x8x1024.Idx) : ((cfg0.win 10).blk t).view.emb j = (ix4 0 (tileOf t) (j 2) (j 3) : S1x11x8x1024.Idx) := by
  obtain ⟨⟨h0, h1, h2, h3⟩, -⟩ := idx_saved t
  have k0 := (j 0).isLt
  have k1 := (j 1).isLt
  funext a
  apply Fin.ext
  match a with
  | ⟨0, _⟩ => show win0_10.index t 0 * 1 + 1 * (j 0).val = 0; rw [h0]; have : (j 0).val < 1 := k0; omega
  | ⟨1, _⟩ => show win0_10.index t 1 * 1 + 1 * (j 1).val = t.val; rw [h1]; have : (j 1).val < 1 := k1; omega
  | ⟨2, _⟩ => show win0_10.index t 2 * 8 + 1 * (j 2).val = (j 2).val; rw [h2]; omega
  | ⟨3, _⟩ => show win0_10.index t 3 * 1024 + 1 * (j 3).val = (j 3).val; rw [h3]; omega

theorem emb_11 (t : Fin cfg0.N) (j : S1x1x512x128.Idx) : ((cfg0.win 11).blk t).view.emb j = (ix4 0 (tileOf t) (j 2) (j 3) : S1x11x512x128.Idx) := by
  obtain ⟨-, ⟨h0, h1, h2, h3⟩⟩ := idx_saved t
  have k0 := (j 0).isLt
  have k1 := (j 1).isLt
  funext a
  apply Fin.ext
  match a with
  | ⟨0, _⟩ => show win0_11.index t 0 * 1 + 1 * (j 0).val = 0; rw [h0]; have : (j 0).val < 1 := k0; omega
  | ⟨1, _⟩ => show win0_11.index t 1 * 1 + 1 * (j 1).val = t.val; rw [h1]; have : (j 1).val < 1 := k1; omega
  | ⟨2, _⟩ => show win0_11.index t 2 * 512 + 1 * (j 2).val = (j 2).val; rw [h2]; omega
  | ⟨3, _⟩ => show win0_11.index t 3 * 128 + 1 * (j 3).val = (j 3).val; rw [h3]; omega

theorem final_9 : (dats m 0 c).arrAt 9 cfg0.N = fun i : S2112x512.Idx => result (args m c) (i 0) (i 1) := by
  refine (dats m 0 c).arrAt_eq_of_cover 9 _ (fun t hf => ?_) fun (i : S2112x512.Idx) => (covered_iff9 i).mpr ⟨Nat.zero_le _, (i 0).isLt, Nat.zero_le _, (i 1).isLt⟩
  rw [flushed9]
  refine funext fun (j : S192x512.Idx) => ?_
  rw [View.read_apply, emb_9]
  idx_vars j
  exact left_9 t j0 j1

theorem final_10 : (dats m 0 c).arrAt 10 cfg0.N = fun i : S1x11x8x1024.Idx => rowsIn (args m c) (i 1) (i 2) (i 3) := by
  refine (dats m 0 c).arrAt_eq_of_cover 10 _ (fun t hf => ?_) fun (i : S1x11x8x1024.Idx) =>
    (covered_iff10 i).mpr ⟨Nat.zero_le _, (i 0).isLt, Nat.zero_le _, (i 1).isLt, Nat.zero_le _, (i 2).isLt, Nat.zero_le _, (i 3).isLt⟩
  rw [flushed10]
  refine funext fun (j : S1x1x8x1024.Idx) => ?_
  rw [View.read_apply, emb_10]
  idx_vars j
  obtain rfl : j0 = 0 := Subsingleton.elim _ _
  obtain rfl : j1 = 0 := Subsingleton.elim _ _
  exact left_10 t j2 j3

theorem final_11 : (dats m 0 c).arrAt 11 cfg0.N = fun i : S1x11x512x128.Idx => stateIn (args m c) (i 1) (i 2) (i 3) := by
  refine (dats m 0 c).arrAt_eq_of_cover 11 _ (fun t hf => ?_) fun (i : S1x11x512x128.Idx) =>
    (covered_iff11 i).mpr ⟨Nat.zero_le _, (i 0).isLt, Nat.zero_le _, (i 1).isLt, Nat.zero_le _, (i 2).isLt, Nat.zero_le _, (i 3).isLt⟩
  rw [flushed11]
  refine funext fun (j : S1x1x512x128.Idx) => ?_
  rw [View.read_apply, emb_11]
  idx_vars j
  obtain rfl : j0 = 0 := Subsingleton.elim _ _
  obtain rfl : j1 = 0 := Subsingleton.elim _ _
  exact left_11 t j2 j3

end Carry

end Cert.SsdFwdIdeal.Value

end
-- ==== Proof.SsdHead.lean ====
/-
  The reference of the forward call of the state space mixer before its loop: the convolution, the step sizes, and the rows
  laid out in chunks.
-/
module

public import proofs.«01_k».proof.Proof.Gen.SsdFwdRefIdeal.Run
public import proofs.«01_k».proof.Proof.SsdSpec
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.StableHlo

namespace Cert.SsdFwdRefIdeal.Value

open Cert.SsdFwdRefIdeal Cert.SsdFwdRefIdeal.Gen Cert.Lru Cert.Ssd

/-- Head `e` of group `g`, and row `l` of chunk `k`. -/
abbrev headAt (g : Fin 2) (e : Fin 4) : Fin 8 := ⟨4 * g + e, by omega⟩

section Host
variable (x1 : FVec Ideal S2064x1024 .f32) (x2 : FVec Ideal S2064x8 .f32) (x3 : FVec Ideal S4x1024 .f32) (x4 : FVec Ideal S1024 .f32) (x5 x6 : FVec Ideal S8 .f32)

abbrev h_row (v : FVec Ideal S1024 .f32) : FVec Ideal S2064x1024 .f32 := broadcastInDim S2064x1024 ![0, 1] bcast_S1x1024_S2064x1024_0_1 (broadcastInDim S1x1024 ![1] bcast_S1024_S1x1024_1 v)
abbrev h_const (b : BitVec 32) : FVec Ideal S2064x1024 .f32 := broadcastInDim S2064x1024 ![] bcast_S_S2064x1024 (constant S_ .f32 b)
def h_front : FVec Ideal S2067x1024 .f32 :=
  concatenate S2067x1024 0 [⟨S3x1024, broadcastInDim S3x1024 ![] bcast_S_S3x1024 (constant S_ .f32 0x00000000#32)⟩, ⟨S2064x1024, x1⟩] concatenates_S3x1024_S2064x1024_S2067x1024_d0
def h_conv : FVec Ideal S2064x1024 .f32 :=
  addf (addf (addf (addf (addf (h_const 0x00000000#32)
      (mulf (extractStridedSlice S2064x1024 ![0, 0] (h_front x1) slices_S2067x1024_S2064x1024_0_0) (h_row (shapeCast S1024 (extractStridedSlice S1x1024 ![0, 0] x3 slices_S4x1024_S1x1024_0_0) shapeCasts_S1x1024_S1024))))
      (mulf (extractStridedSlice S2064x1024 ![1, 0] (h_front x1) slices_S2067x1024_S2064x1024_1_0) (h_row (shapeCast S1024 (extractStridedSlice S1x1024 ![1, 0] x3 slices_S4x1024_S1x1024_1_0) shapeCasts_S1x1024_S1024))))
      (mulf (extractStridedSlice S2064x1024 ![2, 0] (h_front x1) slices_S2067x1024_S2064x1024_2_0) (h_row (shapeCast S1024 (extractStridedSlice S1x1024 ![2, 0] x3 slices_S4x1024_S1x1024_2_0) shapeCasts_S1x1024_S1024))))
      (mulf (extractStridedSlice S2064x1024 ![3, 0] (h_front x1) slices_S2067x1024_S2064x1024_3_0) (h_row (shapeCast S1024 (extractStridedSlice S1x1024 ![3, 0] x3 slices_S4x1024_S1x1024_3_0) shapeCasts_S1x1024_S1024))))
    (h_row x4)
def h_act : FVec Ideal S2064x1024 .f32 := mulf (h_conv x1 x3 x4) (Host.divf (h_const 0x3F800000#32) (addf (h_const 0x3F800000#32) (Host.exp (Host.negf (h_conv x1 x3 x4)))))
def h_xs : FVec Ideal S2064x8x64 .f32 := shapeCast S2064x8x64 (extractStridedSlice S2064x512 ![0, 0] (h_act x1 x3 x4) slices_S2064x1024_S2064x512_0_0) shapeCasts_S2064x512_S2064x8x64
def h_keys : FVec Ideal S2064x2x128 .f32 := shapeCast S2064x2x128 (extractStridedSlice S2064x256 ![0, 512] (h_act x1 x3 x4) slices_S2064x1024_S2064x256_0_512) shapeCasts_S2064x256_S2064x2x128
def h_queries : FVec Ideal S2064x2x128 .f32 := shapeCast S2064x2x128 (extractStridedSlice S2064x256 ![0, 768] (h_act x1 x3 x4) slices_S2064x1024_S2064x256_0_768) shapeCasts_S2064x256_S2064x2x128
abbrev h_row8 (v : FVec Ideal S8 .f32) : FVec Ideal S2064x8 .f32 := broadcastInDim S2064x8 ![0, 1] bcast_S1x8_S2064x8_0_1 (broadcastInDim S1x8 ![1] bcast_S8_S1x8_1 v)
abbrev h_none : FVec Ideal S2064x8 .f32 := broadcastInDim S2064x8 ![] bcast_S_S2064x8 (constant S_ .f32 0x00000000#32)
def h_soft (s : FVec Ideal S2064x8 .f32) : FVec Ideal S2064x8 .f32 :=
  select (cmpf .une (subf s h_none) (subf s h_none)) (addf s h_none) (addf (maximumf s h_none) (Host.log1p (Host.exp (Host.negf (Host.absf (subf s h_none))))))
def h_size : FVec Ideal S2064x8 .f32 := h_soft (addf x2 (h_row8 x6))

/-- Rows in chunks of 64, below 48 rows of nothing. -/
def h_chunks (y : FVec Ideal S2064x8x64 .f32) : FVec Ideal S33x64x2x4x64 .f32 :=
  shapeCast S33x64x2x4x64 (concatenate S2112x8x64 0 [⟨S48x8x64, broadcastInDim S48x8x64 ![] bcast_S_S48x8x64 (constant S_ .f32 0x00000000#32)⟩, ⟨S2064x8x64, y⟩] concatenates_S48x8x64_S2064x8x64_S2112x8x64_d0) shapeCasts_S2112x8x64_S33x64x2x4x64
def h_groups (y : FVec Ideal S2064x2x128 .f32) : FVec Ideal S33x64x2x128 .f32 :=
  shapeCast S33x64x2x128 (concatenate S2112x2x128 0 [⟨S48x2x128, broadcastInDim S48x2x128 ![] bcast_S_S48x2x128 (constant S_ .f32 0x00000000#32)⟩, ⟨S2064x2x128, y⟩] concatenates_S48x2x128_S2064x2x128_S2112x2x128_d0) shapeCasts_S2112x2x128_S33x64x2x128
def h_heads (y : FVec Ideal S2064x8 .f32) : FVec Ideal S33x2x4x64 .f32 :=
  transpose S33x2x4x64 [0, 2, 3, 1] (shapeCast S33x64x2x4 (concatenate S2112x8 0 [⟨S48x8, broadcastInDim S48x8 ![] bcast_S_S48x8 (constant S_ .f32 0x00000000#32)⟩, ⟨S2064x8, y⟩] concatenates_S48x8_S2064x8_S2112x8_d0) shapeCasts_S2112x8_S33x64x2x4)
    transposes_S33x64x2x4_S33x2x4x64_0_2_3_1

def h_x : FVec Ideal S33x64x2x4x64 .f32 := h_chunks (mulf (h_xs x1 x3 x4) (broadcastInDim S2064x8x64 ![0, 1, 2] bcast_S2064x8x1_S2064x8x64_0_1_2 (broadcastInDim S2064x8x1 ![0, 1] bcast_S2064x8_S2064x8x1_0_1 (h_size x2 x6))))
def h_b : FVec Ideal S33x64x2x128 .f32 := h_groups (h_keys x1 x3 x4)
def h_c : FVec Ideal S33x64x2x128 .f32 := h_groups (h_queries x1 x3 x4)
def h_a : FVec Ideal S33x2x4x64 .f32 := h_heads (mulf (h_size x2 x6) (h_row8 (Host.negf (Host.exp x5))))

variable {x1 x2 x3 x4 x5 x6} {P : Args}

theorem front_at (h1 : ∀ (t : Fin 2064) (j : Fin 1024), x1 (ix2 t j) = P.X t j) (i : Fin 2067) (j : Fin 1024) : h_front x1 (ix2 i j) = rowAfter P 3 i j := by
  have hi := i.isLt
  pointwise [h_front]
  unfold rowAfter
  by_cases h : i.val < 3
  · rw [dif_pos h, dif_neg (by omega)]
  · rw [dif_neg h, dif_pos ⟨by omega, by omega⟩]
    exact h1 _ _

theorem conv_at (h1 : ∀ (t : Fin 2064) (j : Fin 1024), x1 (ix2 t j) = P.X t j) (h3 : ∀ (k : Fin 4) (j : Fin 1024), x3 (ix2 k j) = P.cw k j) (h4 : ∀ j : Fin 1024, x4 (ix1 j) = P.cb j)
    (t : Fin 2064) (j : Fin 1024) : h_conv x1 x3 x4 (ix2 t j) = conv P 3 t j := by
  have ht := t.isLt
  have e : ∀ (s : ℕ) (hs : s < 4), h_front x1 (ix2 ⟨s + t, by omega⟩ j) = rowAfter P 3 (t + s) j := fun s hs =>
    (front_at h1 _ j).trans (congrArg (fun k => rowAfter P 3 k j) (Nat.add_comm s t.val))
  have e0 : h_front x1 (ix2 ⟨t, by omega⟩ j) = rowAfter P 3 t j := front_at h1 _ j
  pointwise [h_conv]
  rw [e 1 (by omega), e 2 (by omega), e 3 (by omega), e0, h3, h3, h3, h3, h4]
  unfold conv
  rw [mul_comm (P.cw 0 j), mul_comm (P.cw 1 j), mul_comm (P.cw 2 j), mul_comm (P.cw 3 j)]

theorem act_at (h1 : ∀ (t : Fin 2064) (j : Fin 1024), x1 (ix2 t j) = P.X t j) (h3 : ∀ (k : Fin 4) (j : Fin 1024), x3 (ix2 k j) = P.cw k j) (h4 : ∀ j : Fin 1024, x4 (ix1 j) = P.cb j)
    (t : Fin 2064) (j : Fin 1024) : h_act x1 x3 x4 (ix2 t j) = act P 3 t j := by
  have h := conv_at h1 h3 h4 t j
  pointwise [h_act]
  rw [h]
  rfl

theorem xs_at {A : ℕ → Fin 1024 → EReal} (hA : ∀ (t : Fin 2064) (j : Fin 1024), h_act x1 x3 x4 (ix2 t j) = A t j) (t : Fin 2064) (h : Fin 8) (p : Fin 64) :
    h_xs x1 x3 x4 (ix3 t h p) = A t (colX (inHead h p)) := by
  pointwise [h_xs]
  rw [hA]
  exact congrArg (A t) (Fin.ext (by dsimp only; omega))

theorem keys_at {A : ℕ → Fin 1024 → EReal} (hA : ∀ (t : Fin 2064) (j : Fin 1024), h_act x1 x3 x4 (ix2 t j) = A t j) (t : Fin 2064) (g : Fin 2) (n : Fin 128) :
    h_keys x1 x3 x4 (ix3 t g n) = A t (colB g n) := by
  pointwise [h_keys]
  rw [hA]
  exact congrArg (A t) (Fin.ext (by dsimp only; omega))

theorem queries_at {A : ℕ → Fin 1024 → EReal} (hA : ∀ (t : Fin 2064) (j : Fin 1024), h_act x1 x3 x4 (ix2 t j) = A t j) (t : Fin 2064) (g : Fin 2) (n : Fin 128) :
    h_queries x1 x3 x4 (ix3 t g n) = A t (colC g n) := by
  pointwise [h_queries]
  rw [hA]
  exact congrArg (A t) (Fin.ext (by dsimp only; omega))

theorem size_at (t : Fin 2064) (h : Fin 8) : h_size x2 x6 (ix2 t h) = soft (x2 (ix2 t h) + x6 (ix1 h)) := by
  pointwise [h_size, h_soft]
  rw [if_neg (fun h => h rfl)]
  rfl

theorem chunks_at (y : FVec Ideal S2064x8x64 .f32) (k : Fin 33) (l : Fin 64) (g : Fin 2) (e : Fin 4) (p : Fin 64) :
    h_chunks y (ix5 k l g e p) = if h : 64 * k.val + l.val < 48 then 0 else y (ix3 ⟨64 * k + l - 48, by omega⟩ (headAt g e) p) := by
  have hk := k.isLt
  have hl := l.isLt
  pointwise [h_chunks]
  simp only [headAt, Nat.mul_comm k.val 64, Nat.mul_comm g.val 4]

theorem groups_at (y : FVec Ideal S2064x2x128 .f32) (k : Fin 33) (l : Fin 64) (g : Fin 2) (n : Fin 128) :
    h_groups y (ix4 k l g n) = if h : 64 * k.val + l.val < 48 then 0 else y (ix3 ⟨64 * k + l - 48, by omega⟩ g n) := by
  have hk := k.isLt
  have hl := l.isLt
  pointwise [h_groups]
  simp only [Nat.mul_comm k.val 64]

theorem heads_at (y : FVec Ideal S2064x8 .f32) (k : Fin 33) (g : Fin 2) (e : Fin 4) (l : Fin 64) :
    h_heads y (ix4 k g e l) = if h : 64 * k.val + l.val < 48 then 0 else y (ix2 ⟨64 * k + l - 48, by omega⟩ (headAt g e)) := by
  have hk := k.isLt
  have hl := l.isLt
  pointwise [h_heads]
  simp only [headAt, Nat.mul_comm k.val 64, Nat.mul_comm g.val 4]

end Host

section Spec
variable {x1 : FVec Ideal S2064x1024 .f32} {x2 : FVec Ideal S2064x8 .f32} {x3 : FVec Ideal S4x1024 .f32} {x4 : FVec Ideal S1024 .f32} {x5 x6 : FVec Ideal S8 .f32} {P : Args}

theorem act_51 {t : ℕ} (ht : ¬ t < 48) (j : Fin 1024) : act P 51 t j = act P 3 (t - 48) j := by
  rw [← act_add P 3 48 (t - 48) j, Nat.sub_add_cancel (by omega)]

theorem size_51 {t : ℕ} (ht : ¬ t < 48) (q : t - 48 < 2064) (h : Fin 8) : size P t h = soft (P.D ⟨t - 48, q⟩ h + P.db h) := by
  rw [size, dRow, dif_pos ⟨by omega, q⟩]

theorem x_at (hA : ∀ (t : Fin 2064) (j : Fin 1024), h_act x1 x3 x4 (ix2 t j) = act P 3 t j) (h2 : ∀ (t : Fin 2064) (h : Fin 8), x2 (ix2 t h) = P.D t h) (h6 : ∀ h : Fin 8, x6 (ix1 h) = P.db h)
    (k : Fin 33) (l : Fin 64) (g : Fin 2) (e : Fin 4) (p : Fin 64) : h_x x1 x2 x3 x4 x6 (ix5 k l g e p) = input P (64 * k + l) (headAt g e) p := by
  rw [h_x, chunks_at, input, past]
  by_cases h : 64 * k.val + l.val < 48
  · rw [dif_pos h, if_pos h]
  · rw [dif_neg h, if_neg h, act_51 h, size_51 h (by omega)]
    have hx := xs_at hA ⟨64 * k + l - 48, by omega⟩ (headAt g e) p
    have hs := size_at (x2 := x2) (x6 := x6) ⟨64 * k + l - 48, by omega⟩ (headAt g e)
    rw [h2, h6] at hs
    pointwise
    exact congrArg₂ (fun a b : EReal => a * b) hx hs

theorem b_at (hA : ∀ (t : Fin 2064) (j : Fin 1024), h_act x1 x3 x4 (ix2 t j) = act P 3 t j) (k : Fin 33) (l : Fin 64) (g : Fin 2) (n : Fin 128) :
    h_b x1 x3 x4 (ix4 k l g n) = key P (64 * k + l) g n := by
  rw [h_b, groups_at, key, past]
  by_cases h : 64 * k.val + l.val < 48
  · rw [dif_pos h, if_pos h]
  · rw [dif_neg h, if_neg h, act_51 h, keys_at hA]

theorem c_at (hA : ∀ (t : Fin 2064) (j : Fin 1024), h_act x1 x3 x4 (ix2 t j) = act P 3 t j) (k : Fin 33) (l : Fin 64) (g : Fin 2) (n : Fin 128) :
    h_c x1 x3 x4 (ix4 k l g n) = query P (64 * k + l) g n := by
  rw [h_c, groups_at, query, past]
  by_cases h : 64 * k.val + l.val < 48
  · rw [dif_pos h, if_pos h]
  · rw [dif_neg h, if_neg h, act_51 h, queries_at hA]

theorem a_at (h2 : ∀ (t : Fin 2064) (h : Fin 8), x2 (ix2 t h) = P.D t h) (h5 : ∀ h : Fin 8, x5 (ix1 h) = P.al h) (h6 : ∀ h : Fin 8, x6 (ix1 h) = P.db h)
    (k : Fin 33) (g : Fin 2) (e : Fin 4) (l : Fin 64) : h_a x2 x5 x6 (ix4 k g e l) = rate P (64 * k + l) (headAt g e) := by
  rw [h_a, heads_at, rate, past]
  by_cases h : 64 * k.val + l.val < 48
  · rw [dif_pos h, if_pos h]
  · rw [dif_neg h, if_neg h, size_51 h (by omega)]
    have hs := size_at (x2 := x2) (x6 := x6) ⟨64 * k + l - 48, by omega⟩ (headAt g e)
    rw [h2, h6] at hs
    pointwise
    rw [hs, h5]

end Spec

end Cert.SsdFwdRefIdeal.Value

end
-- ==== Proof.SsdChunks.lean ====
/-
  What the reference of the forward call of the state space mixer makes of its chunks: running sums of the rates, what the
  rows of a chunk give to each other, and what they add to the state.
-/
module

public import proofs.«01_k».proof.Proof.SsdHead

@[expose] public section

set_option maxRecDepth 16384

noncomputable section

open Idealize.ShloMosaic Idealize.ShloMosaic.TcCoe Idealize.ShloMosaic.StableHlo

namespace Cert.SsdFwdRefIdeal.Value

open Cert.SsdFwdRefIdeal Cert.SsdFwdRefIdeal.Gen Cert.Lru Cert.Ssd

section Running

/-- The running sums along the last axis. -/
def h_cum (a : FVec Ideal S33x2x4x64 .f32) : FVec Ideal S33x2x4x64 .f32 :=
  Host.reduceWindowAdd ![1, 1, 1, 64] ![1, 1, 1, 1] ![0, 0, 0, 63] ![0, 0, 0, 0] a (broadcastInDim S_ ![] bcast_S_S_ (constant (F := Ideal) S_ .f32 0x00000000#32)) reduceWindows_S33x2x4x64_S33x2x4x64_w1s1p0_0_w1s1p0_0_w1s1p0_0_w64s1p63_0 h_S_

theorem foldl_sum {α : Type} (f : α → EReal) (l : List α) (v : EReal) : l.foldl (fun r x => r + f x) v = v + (l.map f).sum := by
  induction l generalizing v with
  | nil => simp
  | cons x l ih => rw [List.foldl_cons, ih, List.map_cons, List.sum_cons, add_assoc]

/-- A window is one row of 64 places. -/
abbrev Window : Shape := ⟨4, ![1, 1, 1, 64]⟩
def places : Fin 64 ≃ Window.Idx where
  toFun w := ix4 (0 : Fin 1) (0 : Fin 1) (0 : Fin 1) w
  invFun i := i 3
  left_inv _ := rfl
  right_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem turn (f : Fin 64 → EReal) (l : Fin 64) :
    (∑ w : Fin 64, if h : 63 ≤ l.val + w.val then f ⟨l + w - 63, by omega⟩ else 0) = ∑ s : Fin 64, if s.val ≤ l.val then f s else 0 := by
  refine Fintype.sum_equiv (Equiv.addRight (l + 1)) _ _ fun w => ?_
  have e : ((Equiv.addRight (l + 1) w : Fin 64)).val = (w.val + l.val + 1) % 64 := by
    show (w + (l + 1)).val = _
    rw [Fin.val_add, Fin.val_add]
    show (w.val + (l.val + 1) % 64) % 64 = _
    omega
  by_cases h : 63 ≤ l.val + w.val
  · rw [dif_pos h, if_pos (by omega)]
    exact congrArg f (Fin.ext (by rw [e]; dsimp only; omega))
  · rw [dif_neg h, if_neg (by omega)]

theorem cum_at (a : FVec Ideal S33x2x4x64 .f32) (k : Fin 33) (g : Fin 2) (e : Fin 4) (l : Fin 64) :
    h_cum a (ix4 k g e l) = ∑ s : Fin 64, if s.val ≤ l.val then a (ix4 k g e s) else 0 := by
  unfold h_cum Host.reduceWindowAdd
  rw [Ideal.hostReduceWindowAdd_def]
  unfold Ideal.hostReduceWindowAdd Host.reduceWindow
  dsimp only
  have hv : (broadcastInDim S_ ![] bcast_S_S_ (constant (F := Ideal) S_ .f32 0x00000000#32) : FVec Ideal S_ .f32) (Shape.Idx.first h_S_) = 0 := Ideal.ofBits_zero_f32
  rw [foldl_sum, ← Fin.sum_univ_def, hv, zero_add]
  refine (Fintype.sum_equiv (places.trans Window.rowMajor) (fun w => if h : 63 ≤ l.val + w.val then a (ix4 k g e ⟨l + w - 63, by omega⟩) else 0) _ fun w => ?_).symm.trans
    (turn (fun s => a (ix4 k g e s)) l)
  simp only [Equiv.trans_apply, Equiv.symm_apply_apply]
  have hw := w.isLt
  by_cases h : 63 ≤ l.val + w.val
  · rw [dif_pos h, dif_pos fun a => ?_]
    · refine congrArg a (funext fun b => Fin.ext ?_)
      match b with
      | ⟨0, _⟩ => show k.val = k.val * 1 + 0 - 0; omega
      | ⟨1, _⟩ => show g.val = g.val * 1 + 0 - 0; omega
      | ⟨2, _⟩ => show e.val = e.val * 1 + 0 - 0; omega
      | ⟨3, _⟩ => show l.val + w.val - 63 = l.val * 1 + w.val - 63; omega
    · match a with
      | ⟨0, _⟩ => show 0 ≤ k.val * 1 + 0 ∧ k.val * 1 + 0 - 0 < 33; omega
      | ⟨1, _⟩ => show 0 ≤ g.val * 1 + 0 ∧ g.val * 1 + 0 - 0 < 2; omega
      | ⟨2, _⟩ => show 0 ≤ e.val * 1 + 0 ∧ e.val * 1 + 0 - 0 < 4; omega
      | ⟨3, _⟩ => show 63 ≤ l.val * 1 + w.val ∧ l.val * 1 + w.val - 63 < 64; omega
  · rw [dif_neg h, dif_neg fun hin => h ?_]
    have h3 : 63 ≤ l.val * 1 + w.val := (hin 3).1
    omega

end Running

section Chunk
variable (X : FVec Ideal S33x64x2x4x64 .f32) (B C : FVec Ideal S33x64x2x128 .f32) (A : FVec Ideal S33x2x4x64 .f32)

def h_upTo : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))
/-- The decay from row `s` to row `l` of a chunk. -/
def h_decay : FVec Ideal S33x2x4x64x64 .f32 :=
  Host.exp (select (broadcastInDim S33x2x4x64x64 ![3, 4] bcast_S64x64_S33x2x4x64x64_3_4 h_upTo)
    (subf (broadcastInDim S33x2x4x64x64 ![0, 1, 2, 3, 4] bcast_S33x2x4x64x1_S33x2x4x64x64_0_1_2_3_4 (broadcastInDim S33x2x4x64x1 ![0, 1, 2, 3] bcast_S33x2x4x64_S33x2x4x64x1_0_1_2_3 A))
      (broadcastInDim S33x2x4x64x64 ![0, 1, 2, 3, 4] bcast_S33x2x4x1x64_S33x2x4x64x64_0_1_2_3_4 (broadcastInDim S33x2x4x1x64 ![0, 1, 2, 4] bcast_S33x2x4x64_S33x2x4x1x64_0_1_2_4 A)))
    (broadcastInDim S33x2x4x64x64 ![] bcast_S_S33x2x4x64x64 (constant (F := Ideal) S_ .f32 0xFF800000#32)))
def h_score : FVec Ideal S33x2x64x64 .f32 := Host.dotGeneral dot_S33x64x2x128_S33x64x2x128_S33x2x64x64_3_3_1_1_02_02 none C B
def h_within : FVec Ideal S33x64x2x4x64 .f32 :=
  transpose S33x64x2x4x64 [0, 4, 1, 2, 3] (Host.dotGeneral dot_S33x64x2x4x64_S33x2x4x64x64_S33x2x4x64x64_1_4_4_3_023_012 none X
    (mulf (broadcastInDim S33x2x4x64x64 ![0, 1, 2, 3, 4] bcast_S33x2x1x64x64_S33x2x4x64x64_0_1_2_3_4 (broadcastInDim S33x2x1x64x64 ![0, 1, 3, 4] bcast_S33x2x64x64_S33x2x1x64x64_0_1_3_4 (h_score B C))) (h_decay A)))
    transposes_S33x2x4x64x64_S33x64x2x4x64_0_4_1_2_3
/-- The decay from row `l` of a chunk to its last. -/
def h_toLast : FVec Ideal S33x64x2x4 .f32 :=
  transpose S33x64x2x4 [0, 3, 1, 2] (Host.exp (subf (broadcastInDim S33x2x4x64 ![0, 1, 2, 3] bcast_S33x2x4x1_S33x2x4x64_0_1_2_3 (extractStridedSlice S33x2x4x1 ![0, 0, 0, 63] A slices_S33x2x4x64_S33x2x4x1_0_0_0_63)) A))
    transposes_S33x2x4x64_S33x64x2x4_0_3_1_2
def h_added : FVec Ideal S33x2x4x64x128 .f32 :=
  Host.dotGeneral dot_S33x64x2x4x64_S33x64x2x128_S33x2x4x64x128_1_1_34_3_02_02 none
    (mulf (broadcastInDim S33x64x2x4x64 ![0, 1, 2, 3, 4] bcast_S33x64x2x4x1_S33x64x2x4x64_0_1_2_3_4 (broadcastInDim S33x64x2x4x1 ![0, 1, 2, 3] bcast_S33x64x2x4_S33x64x2x4x1_0_1_2_3 (h_toLast A))) X) B
def h_whole : FVec Ideal S33x2x4 .f32 := Host.exp (shapeCast S33x2x4 (extractStridedSlice S33x2x4x1 ![0, 0, 0, 63] A slices_S33x2x4x64_S33x2x4x1_0_0_0_63) shapeCasts_S33x2x4x1_S33x2x4)

theorem upTo_word : ∀ l s : Fin 64, IntOp.cmpi CmpIPredicate.sge (IntOp.addi (BitVec.ofNat 32 l) 0#32) (BitVec.ofNat 32 s) = if s.val ≤ l.val then 1#1 else 0#1 := by decide +kernel

theorem upTo_at (l s : Fin 64) : h_upTo (ix2 l s) = if s.val ≤ l.val then 1#1 else 0#1 := by
  have h := upTo_word l s
  pointwise [h_upTo]
  rw [h]
  by_cases q : s.val ≤ l.val
  · rw [if_pos q]; rfl
  · rw [if_neg q]; rfl

theorem word_bot : Ideal.ofBits .f32 0xFF800000#32 = ⊥ := by simp [Ideal.ofBits, Ideal.ieee]

theorem decay_read (k : Fin 33) (g : Fin 2) (e : Fin 4) (l s : Fin 64) :
    h_decay A (ix5 k g e l s) = Ideal.exp (if s.val ≤ l.val then A (ix4 k g e l) - A (ix4 k g e s) else ⊥) := by
  have h := upTo_at l s
  pointwise [h_decay]
  rw [h, word_bot]
  by_cases q : s.val ≤ l.val
  · rw [if_pos q, if_pos q]; rfl
  · rw [if_neg q, if_neg q]; rfl

theorem score_read (k : Fin 33) (g : Fin 2) (l s : Fin 64) : h_score B C (ix4 k g l s) = ∑ n : Fin 128, C (ix4 k l g n) * B (ix4 k s g n) := by
  pointwise [h_score]

theorem within_read (k : Fin 33) (l : Fin 64) (g : Fin 2) (e : Fin 4) (p : Fin 64) :
    h_within X B C A (ix5 k l g e p) = ∑ s : Fin 64, X (ix5 k s g e p) * (h_score B C (ix4 k g l s) * h_decay A (ix5 k g e l s)) := by
  pointwise [h_within]

theorem toLast_read (k : Fin 33) (l : Fin 64) (g : Fin 2) (e : Fin 4) : h_toLast A (ix4 k l g e) = Ideal.exp (A (ix4 k g e 63) - A (ix4 k g e l)) := by
  pointwise [h_toLast]
  try rfl

theorem added_read (k : Fin 33) (g : Fin 2) (e : Fin 4) (p : Fin 64) (n : Fin 128) :
    h_added X B A (ix5 k g e p n) = ∑ l : Fin 64, h_toLast A (ix4 k l g e) * X (ix5 k l g e p) * B (ix4 k l g n) := by
  pointwise [h_added]

theorem whole_read (k : Fin 33) (g : Fin 2) (e : Fin 4) : h_whole A (ix3 k g e) = Ideal.exp (A (ix4 k g e 63)) := by
  pointwise [h_whole]
  try rfl

end Chunk

section Spec
variable {P : Args} {X : FVec Ideal S33x64x2x4x64 .f32} {B C : FVec Ideal S33x64x2x128 .f32} {A : FVec Ideal S33x2x4x64 .f32}

theorem group_head (g : Fin 2) (e : Fin 4) : groupOf (headAt g e) = g := Fin.ext (by dsimp only; omega)

theorem cum_is {a : FVec Ideal S33x2x4x64 .f32} (ha : ∀ k g e l, a (ix4 k g e l) = rate P (64 * k.val + l.val) (headAt g e)) (k : Fin 33) (g : Fin 2) (e : Fin 4) (l : Fin 64) :
    h_cum a (ix4 k g e l) = cum P (64 * k) (headAt g e) l := by
  rw [cum_at]
  simp only [ha]
  rfl

theorem within_is (hX : ∀ k l g e p, X (ix5 k l g e p) = input P (64 * k.val + l.val) (headAt g e) p) (hB : ∀ k l g n, B (ix4 k l g n) = key P (64 * k.val + l.val) g n)
    (hC : ∀ k l g n, C (ix4 k l g n) = query P (64 * k.val + l.val) g n) (hA : ∀ k g e l, A (ix4 k g e l) = cum P (64 * k.val) (headAt g e) l)
    (k : Fin 33) (l : Fin 64) (g : Fin 2) (e : Fin 4) (p : Fin 64) : h_within X B C A (ix5 k l g e p) = within P (64 * k) (headAt g e) l p := by
  rw [within_read, within]
  refine Finset.sum_congr rfl fun s _ => ?_
  rw [hX, mul_comm, decay_read, hA, hA, score_read, group_head]
  simp only [hB, hC]
  rfl

theorem added_is (hX : ∀ k l g e p, X (ix5 k l g e p) = input P (64 * k.val + l.val) (headAt g e) p) (hB : ∀ k l g n, B (ix4 k l g n) = key P (64 * k.val + l.val) g n)
    (hA : ∀ k g e l, A (ix4 k g e l) = cum P (64 * k.val) (headAt g e) l)
    (k : Fin 33) (g : Fin 2) (e : Fin 4) (p : Fin 64) (n : Fin 128) : h_added X B A (ix5 k g e p n) = added P (64 * k) (headAt g e) p n := by
  rw [added_read, added]
  refine Finset.sum_congr rfl fun l _ => ?_
  rw [hX, hB, toLast_read, hA, hA, group_head, mul_comm (input P _ _ _)]

theorem whole_is (hA : ∀ k g e l, A (ix4 k g e l) = cum P (64 * k.val) (headAt g e) l) (k : Fin 33) (g : Fin 2) (e : Fin 4) :
    h_whole A (ix3 k g e) = Ideal.exp (cum P (64 * k) (headAt g e) 63) := by
  rw [whole_read, hA]

end Spec

end Cert.SsdFwdRefIdeal.Value

end
-- ==== Proof.SsdLoop.lean ====
/-
  The loop of the reference of the forward call of the state space mixer: it makes the state after every chunk and stacks
  the states before them.
-/
module

public import proofs.«01_k».proof.Proof.SsdChunks
public import Idealize.ShloMosaic.Lib.DynamicIndex

@[expose] public section

set_option maxRecDepth 16384

noncomputable section

open Idealize.ShloMosaic Idealize.ShloMosaic.TcCoe Idealize.ShloMosaic.StableHlo

namespace Cert.SsdFwdRefIdeal.Value

open Cert.SsdFwdRefIdeal Cert.SsdFwdRefIdeal.Gen Cert.Lru Cert.Ssd

section Rows

theorem chunk_slice (x : FVec Ideal S33x2x4x64x128 .f32) (st : Fin 5 → Int) (k : ℕ) (hk : k < 33) (hs : ∀ a, st a = ((![k, 0, 0, 0, 0] : Fin 5 → ℕ) a : Int))
    (g : Fin 2) (e : Fin 4) (p : Fin 64) (n : Fin 128) :
    shapeCast S2x4x64x128 (Host.dynamicSlice S1x2x4x64x128 x st sliceFits_S33x2x4x64x128_S1x2x4x64x128) shapeCasts_S1x2x4x64x128_S2x4x64x128 (ix4 g e p n) = x (ix5 ⟨k, hk⟩ g e p n) := by
  have hoff : S33x2x4x64x128.Slices (![k, 0, 0, 0, 0] : Fin 5 → ℕ) S1x2x4x64x128 := ⟨rfl, fun a => by
    fin_cases a
    · show k + 1 ≤ 33; omega
    · show 0 + 2 ≤ 2; omega
    · show 0 + 4 ≤ 4; omega
    · show 0 + 64 ≤ 64; omega
    · show 0 + 128 ≤ 128; omega⟩
  rw [Host.dynamicSlice_eq_extractStridedSlice S1x2x4x64x128 x st ![k, 0, 0, 0, 0] _ hoff hs]
  pointwise

theorem whole_slice (x : FVec Ideal S33x2x4 .f32) (st : Fin 3 → Int) (k : ℕ) (hk : k < 33) (hs : ∀ a, st a = ((![k, 0, 0] : Fin 3 → ℕ) a : Int)) (g : Fin 2) (e : Fin 4) :
    shapeCast S2x4 (Host.dynamicSlice S1x2x4 x st sliceFits_S33x2x4_S1x2x4) shapeCasts_S1x2x4_S2x4 (ix2 g e) = x (ix3 ⟨k, hk⟩ g e) := by
  have hoff : S33x2x4.Slices (![k, 0, 0] : Fin 3 → ℕ) S1x2x4 := ⟨rfl, fun a => by
    fin_cases a
    · show k + 1 ≤ 33; omega
    · show 0 + 2 ≤ 2; omega
    · show 0 + 4 ≤ 4; omega⟩
  rw [Host.dynamicSlice_eq_extractStridedSlice S1x2x4 x st ![k, 0, 0] _ hoff hs]
  pointwise

theorem chunk_update (x : FVec Ideal S33x2x4x64x128 .f32) (v : FVec Ideal S2x4x64x128 .f32) (st : Fin 5 → Int) (k : ℕ) (hk : k < 33) (hs : ∀ a, st a = ((![k, 0, 0, 0, 0] : Fin 5 → ℕ) a : Int))
    (t : Fin 33) (g : Fin 2) (e : Fin 4) (p : Fin 64) (n : Fin 128) :
    Host.dynamicUpdateSlice x (broadcastInDim S1x2x4x64x128 ![1, 2, 3, 4] bcast_S2x4x64x128_S1x2x4x64x128_1_2_3_4 v) st updateFits_S33x2x4x64x128_S1x2x4x64x128 (ix5 t g e p n)
      = if t.val = k then v (ix4 g e p n) else x (ix5 t g e p n) := by
  have hoff : S33x2x4x64x128.Slices (![k, 0, 0, 0, 0] : Fin 5 → ℕ) S1x2x4x64x128 := ⟨rfl, fun a => by
    fin_cases a
    · show k + 1 ≤ 33; omega
    · show 0 + 2 ≤ 2; omega
    · show 0 + 4 ≤ 4; omega
    · show 0 + 64 ≤ 64; omega
    · show 0 + 128 ≤ 128; omega⟩
  rw [Host.dynamicUpdateSlice_eq_updateSlice x _ st _ ![k, 0, 0, 0, 0] (fun a => by
    have := hoff.2 a
    rw [hs a]
    omega) hoff]
  pointwise
  by_cases h : t.val = k
  · rw [dif_pos (by omega), if_pos h]
  · rw [dif_neg (by omega), if_neg h]

end Rows

section Loop

/-- What the loop carries after `k` trips: what each chunk adds and its whole decay as at the entry, the counter at `k`, the
    state after `k` chunks, and the states so far stacked. -/
structure At (P : Args) (k : ℕ) (V : Valuation τ sig (Elt Ideal)) : Prop where
  add : ∀ (t : Fin 33) (g : Fin 2) (e : Fin 4) (p : Fin 64) (n : Fin 128), (V (Proc.devRef .tc main_v98_0) : FVec Ideal S33x2x4x64x128 .f32) (ix5 t g e p n) = added P (64 * t) (headAt g e) p n
  dec : ∀ (t : Fin 33) (g : Fin 2) (e : Fin 4), (V (Proc.devRef .tc main_v98_1) : FVec Ideal S33x2x4 .f32) (ix3 t g e) = Ideal.exp (cum P (64 * t) (headAt g e) 63)
  ctr : V (Proc.devRef .tc main_v98_2) = fun _ => Scf.iv 0#32 1#32 k
  now : ∀ (g : Fin 2) (e : Fin 4) (p : Fin 64) (n : Fin 128), (V (Proc.devRef .tc main_v98_3) : FVec Ideal S2x4x64x128 .f32) (ix4 g e p n) = state P (headAt g e) p n k
  all : ∀ (t : Fin 33) (g : Fin 2) (e : Fin 4) (p : Fin 64) (n : Fin 128), t.val < k →
    (V (Proc.devRef .tc main_v98_4) : FVec Ideal S33x2x4x64x128 .f32) (ix5 t g e p n) = state P (headAt g e) p n t

theorem ctr_word {V : Valuation τ sig (Elt Ideal)} {k : ℕ} (hk : k < 33) (h : V (Proc.devRef .tc main_v98_2) = fun _ => Scf.iv 0#32 1#32 k) :
    ((V (Proc.devRef .tc main_v98_2) : IVec S_ 32) (Shape.Idx.first h_S_)).toInt = (k : Int) := by
  rw [h]
  show (Scf.iv 0#32 1#32 k).toInt = k
  have e : (Scf.iv 0#32 1#32 k).toNat = k := by
    simp only [Scf.iv, zero_add, mul_one, BitVec.zero_add, BitVec.mul_one, BitVec.toNat_ofNat]
    omega
  rw [BitVec.toInt_eq_toNat_of_lt (by omega), e]

theorem start5 {V : Valuation τ sig (Elt Ideal)} {k : ℕ} (hk : k < 33) (h : V (Proc.devRef .tc main_v98_2) = fun _ => Scf.iv 0#32 1#32 k) (a : Fin 5) :
    (((![V (Proc.devRef .tc main_v98_2), constantI S_ 32 0#32, constantI S_ 32 0#32, constantI S_ 32 0#32, constantI S_ 32 0#32] : Fin 5 → (⟨S_, .i32⟩ : BufTy).Contents (Elt Ideal)) a (Shape.Idx.first h_S_) : BitVec 32)).toInt
      = ((![k, 0, 0, 0, 0] : Fin 5 → ℕ) a : Int) := by
  fin_cases a
  · exact ctr_word hk h
  all_goals rfl

theorem start3 {V : Valuation τ sig (Elt Ideal)} {k : ℕ} (hk : k < 33) (h : V (Proc.devRef .tc main_v98_2) = fun _ => Scf.iv 0#32 1#32 k) (a : Fin 3) :
    (((![V (Proc.devRef .tc main_v98_2), constantI S_ 32 0#32, constantI S_ 32 0#32] : Fin 3 → (⟨S_, .i32⟩ : BufTy).Contents (Elt Ideal)) a (Shape.Idx.first h_S_) : BitVec 32)).toInt
      = ((![k, 0, 0] : Fin 3 → ℕ) a : Int) := by
  fin_cases a
  · exact ctr_word hk h
  all_goals rfl

/-- One step of the loop: the state shrinks by a chunk's decay and takes what the chunk adds. -/
theorem step_entry (s d : FVec Ideal S2x4x64x128 .f32) (w : FVec Ideal S2x4 .f32) (g : Fin 2) (e : Fin 4) (p : Fin 64) (n : Fin 128) :
    addf (mulf s (broadcastInDim S2x4x64x128 ![0, 1, 2, 3] bcast_S2x4x1x1_S2x4x64x128_0_1_2_3 (broadcastInDim S2x4x1x1 ![0, 1] bcast_S2x4_S2x4x1x1_0_1 w))) d (ix4 g e p n)
      = s (ix4 g e p n) * w (ix2 g e) + d (ix4 g e p n) := by
  pointwise

variable {P : Args}

theorem At.next {k : ℕ} {V : Valuation τ sig (Elt Ideal)} (hk : k < 33) (h : At P k V) (g : Fin 2) (e : Fin 4) (p : Fin 64) (n : Fin 128) :
    (step_main_v98_3 V : FVec Ideal S2x4x64x128 .f32) (ix4 g e p n) = state P (headAt g e) p n (k + 1) := by
  have ea := (chunk_slice (V (Proc.devRef .tc main_v98_0)) _ k hk (start5 hk h.ctr) g e p n).trans (h.add ⟨k, hk⟩ g e p n)
  have ed := (whole_slice (V (Proc.devRef .tc main_v98_1)) _ k hk (start3 hk h.ctr) g e).trans (h.dec ⟨k, hk⟩ g e)
  refine (step_entry _ _ _ g e p n).trans ?_
  exact congrArg₂ (fun x y : EReal => x + y) (congrArg₂ (fun x y : EReal => x * y) (h.now g e p n) ed) ea

theorem At.step {k : ℕ} {V : Valuation τ sig (Elt Ideal)} (hk : k < 33) (h : At P k V) : At P (k + 1) (STEP V) where
  add := by rw [STEP_main_v98_0]; exact h.add
  dec := by rw [STEP_main_v98_1]; exact h.dec
  ctr := by
    rw [STEP_main_v98_2, Scf.iv_succ]
    show addi (V (Proc.devRef .tc main_v98_2)) (constantI S_ 32 1#32) = _
    rw [h.ctr]; rfl
  now := by rw [STEP_main_v98_3]; exact h.next hk
  all := by
    intro t g e p n ht
    rw [STEP_main_v98_4]
    refine (chunk_update _ _ _ k hk (start5 hk h.ctr) t g e p n).trans ?_
    by_cases q : t.val = k
    · rw [if_pos q, h.now, q]
    · rw [if_neg q, h.all t g e p n (by omega)]

theorem At.iterate {V : Valuation τ sig (Elt Ideal)} (h : At P 0 V) : ∀ k, k ≤ 33 → At P k (STEP^[k] V)
  | 0, _ => h
  | k + 1, hk => by
    rw [Function.iterate_succ_apply']
    exact (h.iterate k (by omega)).step (by omega)

end Loop

end Cert.SsdFwdRefIdeal.Value

end
-- ==== Proof.SsdOut.lean ====
/-
  What the reference of the forward call of the state space mixer makes after its loop: the mixed rows, their gate and their
  norm, and what is saved for the backward call.
-/
module

public import proofs.«01_k».proof.Proof.SsdChunks

@[expose] public section

set_option maxRecDepth 16384

noncomputable section

open Idealize.ShloMosaic Idealize.ShloMosaic.TcCoe Idealize.ShloMosaic.StableHlo

namespace Cert.SsdFwdRefIdeal.Value

open Cert.SsdFwdRefIdeal Cert.SsdFwdRefIdeal.Gen Cert.Lru Cert.Ssd

section Out
variable (S : FVec Ideal S33x2x4x64x128 .f32) (C : FVec Ideal S33x64x2x128 .f32) (A : FVec Ideal S33x2x4x64 .f32) (Y : FVec Ideal S33x64x2x4x64 .f32) (xs : FVec Ideal S2064x8x64 .f32)
  (x0 : FVec Ideal S2064x512 .f32) (x1 : FVec Ideal S2064x1024 .f32) (x7 : FVec Ideal S8 .f32) (x8 : FVec Ideal S512 .f32)

def h_across : FVec Ideal S33x64x2x4x64 .f32 :=
  mulf (transpose S33x64x2x4x64 [0, 4, 1, 2, 3] (Host.dotGeneral dot_S33x2x4x64x128_S33x64x2x128_S33x2x4x64x64_4_3_23_1_01_02 none S C) transposes_S33x2x4x64x64_S33x64x2x4x64_0_4_1_2_3)
    (broadcastInDim S33x64x2x4x64 ![0, 1, 2, 3, 4] bcast_S33x64x2x4x1_S33x64x2x4x64_0_1_2_3_4 (broadcastInDim S33x64x2x4x1 ![0, 1, 2, 3] bcast_S33x64x2x4_S33x64x2x4x1_0_1_2_3
      (transpose S33x64x2x4 [0, 3, 1, 2] (Host.exp A) transposes_S33x2x4x64_S33x64x2x4_0_3_1_2)))
def h_mixed : FVec Ideal S2064x8x64 .f32 :=
  addf (extractStridedSlice S2064x8x64 ![48, 0, 0] (shapeCast S2112x8x64 (addf Y (h_across S C A)) shapeCasts_S33x64x2x4x64_S2112x8x64) slices_S2112x8x64_S2064x8x64_48_0_0)
    (mulf (broadcastInDim S2064x8x64 ![0, 1, 2] bcast_S1x8x1_S2064x8x64_0_1_2 (broadcastInDim S1x8x1 ![1, 2] bcast_S8x1_S1x8x1_1_2 (broadcastInDim S8x1 ![0] bcast_S8_S8x1_0 x7))) xs)
abbrev h_ones : FVec Ideal S2064x2x256 .f32 := broadcastInDim S2064x2x256 ![] bcast_S_S2064x2x256 (constant S_ .f32 0x3F800000#32)
abbrev h_z : FVec Ideal S2064x2x256 .f32 := shapeCast S2064x2x256 x0 shapeCasts_S2064x512_S2064x2x256
def h_gated (mx : FVec Ideal S2064x8x64 .f32) : FVec Ideal S2064x2x256 .f32 :=
  mulf (shapeCast S2064x2x256 mx shapeCasts_S2064x8x64_S2064x2x256) (mulf (h_z x0) (Host.divf h_ones (addf h_ones (Host.exp (Host.negf (h_z x0))))))
abbrev h_col (b : BitVec 32) : FVec Ideal S2064x2x1 .f32 := broadcastInDim S2064x2x1 ![] bcast_S_S2064x2x1 (constant S_ .f32 b)
def h_normed (gt : FVec Ideal S2064x2x256 .f32) : FVec Ideal S2064x2x256 .f32 :=
  mulf (mulf gt (broadcastInDim S2064x2x256 ![0, 1, 2] bcast_S2064x2x1_S2064x2x256_0_1_2 (Host.rsqrt (addf (Host.divf
      (broadcastInDim S2064x2x1 ![0, 1] bcast_S2064x2_S2064x2x1_0_1 (Host.reduceAdd (mulf gt gt) (constant (F := Ideal) S_ .f32 0x00000000#32) reducesTo_S2064x2x256_S2064x2_d2 h_S_)) (h_col 0x43800000#32)) (h_col 0x358637BD#32)))))
    (broadcastInDim S2064x2x256 ![0, 1, 2] bcast_S1x2x256_S2064x2x256_0_1_2 (broadcastInDim S1x2x256 ![1, 2] bcast_S2x256_S1x2x256_1_2 (shapeCast S2x256 x8 shapeCasts_S512_S2x256)))
def h_y (nm : FVec Ideal S2064x2x256 .f32) : FVec Ideal S2112x512 .f32 :=
  concatenate S2112x512 0 [⟨S48x512, broadcastInDim S48x512 ![] bcast_S_S48x512 (constant S_ .f32 0x00000000#32)⟩, ⟨S2064x512, shapeCast S2064x512 nm shapeCasts_S2064x2x256_S2064x512⟩] concatenates_S48x512_S2064x512_S2112x512_d0
def h_rows : FVec Ideal S1x11x8x1024 .f32 :=
  broadcastInDim S1x11x8x1024 ![1, 2, 3] bcast_S11x8x1024_S1x11x8x1024_1_2_3 (extractStridedSlice S11x8x1024 ![0, 0, 0] (shapeCast S11x192x1024
    (concatenate S2112x1024 0 [⟨S56x1024, broadcastInDim S56x1024 ![] bcast_S_S56x1024 (constant S_ .f32 0x00000000#32)⟩, ⟨S2056x1024, extractStridedSlice S2056x1024 ![0, 0] x1 slices_S2064x1024_S2056x1024_0_0⟩] concatenates_S56x1024_S2056x1024_S2112x1024_d0)
    shapeCasts_S2112x1024_S11x192x1024) slices_S11x192x1024_S11x8x1024_0_0_0)
def h_states : FVec Ideal S1x11x512x128 .f32 :=
  broadcastInDim S1x11x512x128 ![1, 2, 3] bcast_S11x512x128_S1x11x512x128_1_2_3 (shapeCast S11x512x128 (extractStridedSlice S11x1x512x128 ![0, 0, 0, 0] (shapeCast S11x3x512x128 S shapeCasts_S33x2x4x64x128_S11x3x512x128)
    slices_S11x3x512x128_S11x1x512x128_0_0_0_0) shapeCasts_S11x1x512x128_S11x512x128)

theorem across_read (k : Fin 33) (l : Fin 64) (g : Fin 2) (e : Fin 4) (p : Fin 64) :
    h_across S C A (ix5 k l g e p) = (∑ n : Fin 128, S (ix5 k g e p n) * C (ix4 k l g n)) * Ideal.exp (A (ix4 k g e l)) := by
  pointwise [h_across]

theorem mixed_read (t : Fin 2064) (h : Fin 8) (p : Fin 64) :
    h_mixed S C A Y xs x7 (ix3 t h p)
      = Y (ix5 ⟨(48 + t) / 64, by omega⟩ ⟨(48 + t) % 64, by omega⟩ (groupOf h) ⟨h % 4, by omega⟩ p) + h_across S C A (ix5 ⟨(48 + t) / 64, by omega⟩ ⟨(48 + t) % 64, by omega⟩ (groupOf h) ⟨h % 4, by omega⟩ p)
        + x7 (ix1 h) * xs (ix3 t h p) := by
  have ht := t.isLt
  pointwise [h_mixed]

theorem gated_read (mx : FVec Ideal S2064x8x64 .f32) (t : Fin 2064) (g : Fin 2) (q : Fin 256) :
    h_gated x0 mx (ix3 t g q) = mx (ix3 t ⟨(256 * g + q) / 64, by omega⟩ ⟨(256 * g + q) % 64, by omega⟩) * silu (x0 (ix2 t ⟨256 * g + q, by omega⟩)) := by
  pointwise [h_gated]
  simp only [Nat.mul_comm g.val 256]
  exact congrArg₂ (fun a b : EReal => a * b) (congrArg₂ (fun a b => mx (ix3 t a b)) (Fin.ext (by dsimp only; omega)) (Fin.ext (by dsimp only; omega))) rfl

theorem normed_read (gt : FVec Ideal S2064x2x256 .f32) (t : Fin 2064) (g : Fin 2) (q : Fin 256) :
    h_normed x8 gt (ix3 t g q) = gt (ix3 t g q) * Ideal.rsqrt (Ideal.div (∑ k : Fin 256, gt (ix3 t g k) * gt (ix3 t g k)) (Ideal.ofBits .f32 0x43800000#32) + Ideal.ofBits .f32 0x358637BD#32)
      * x8 (ix1 ⟨256 * g + q, by omega⟩) := by
  pointwise [h_normed]
  simp only [Nat.mul_comm g.val 256]

theorem y_read (nm : FVec Ideal S2064x2x256 .f32) (i : Fin 2112) (j : Fin 512) :
    h_y nm (ix2 i j) = if h : i.val < 48 then 0 else nm (ix3 ⟨i - 48, by omega⟩ ⟨j / 256, by omega⟩ ⟨j % 256, by omega⟩) := by
  have hi := i.isLt
  pointwise [h_y]

theorem states_read (i : Fin 11) (j : Fin 512) (n : Fin 128) :
    h_states S (ix4 0 i j n) = S (ix5 ⟨3 * i, by omega⟩ (groupOf (headOf j)) ⟨headOf j % 4, by omega⟩ (placeIn j) n) := by
  pointwise [h_states]
  simp only [Nat.mul_comm i.val 3]
  exact congrArg (fun g => S (ix5 ⟨3 * i, by omega⟩ g ⟨j / 64 % 4, by omega⟩ (placeIn j) n)) (Fin.ext (by dsimp only; omega))

end Out

section Spec
variable {P : Args} {x1 : FVec Ideal S2064x1024 .f32}

theorem rows_at (h1 : ∀ (t : Fin 2064) (j : Fin 1024), x1 (ix2 t j) = P.X t j) (i : Fin 11) (e : Fin 8) (j : Fin 1024) : h_rows x1 (ix4 0 i e j) = rowsIn P i e j := by
  pointwise [h_rows]
  unfold rowsIn rowAfter
  by_cases hi : i.val * 192 + e.val < 56
  · rw [dif_pos hi, dif_neg (by omega)]
  · rw [dif_neg hi, dif_pos ⟨by omega, by omega⟩, h1]
    exact congrArg (fun t => P.X t j) (Fin.ext (show i.val * 192 + e.val - 56 = 192 * i.val + e.val - 56 by omega))

variable {S : FVec Ideal S33x2x4x64x128 .f32} {C : FVec Ideal S33x64x2x128 .f32} {A : FVec Ideal S33x2x4x64 .f32} {Y : FVec Ideal S33x64x2x4x64 .f32} {xs : FVec Ideal S2064x8x64 .f32}
  {x0 : FVec Ideal S2064x512 .f32} {x7 : FVec Ideal S8 .f32} {x8 : FVec Ideal S512 .f32}

theorem head_group (h : Fin 8) : headAt (groupOf h) ⟨h % 4, by omega⟩ = h := Fin.ext (by dsimp only; omega)

theorem states_at (hS : ∀ t g e p n, S (ix5 t g e p n) = state P (headAt g e) p n t.val) (i : Fin 11) (j : Fin 512) (n : Fin 128) : h_states S (ix4 0 i j n) = stateIn P i j n := by
  rw [states_read, hS, head_group]
  rfl

theorem mixed_at (hS : ∀ t g e p n, S (ix5 t g e p n) = state P (headAt g e) p n t.val) (hC : ∀ k l g n, C (ix4 k l g n) = query P (64 * k.val + l.val) g n)
    (hA : ∀ k g e l, A (ix4 k g e l) = cum P (64 * k.val) (headAt g e) l) (hY : ∀ k l g e p, Y (ix5 k l g e p) = within P (64 * k.val) (headAt g e) l p)
    (hx : ∀ t h p, xs (ix3 t h p) = act P 3 t.val (colX (inHead h p))) (h7 : ∀ h : Fin 8, x7 (ix1 h) = P.ds h) (t : Fin 2064) (h : Fin 8) (p : Fin 64) :
    h_mixed S C A Y xs x7 (ix3 t h p) = mixed P ((48 + t) / 64) h ⟨(48 + t) % 64, by omega⟩ p := by
  have ea : act P 51 (64 * ((48 + t) / 64) + (48 + t) % 64) (colX (inHead h p)) = act P 3 t (colX (inHead h p)) := by
    rw [Nat.div_add_mod, act_51 (by omega), Nat.add_sub_cancel_left]
  rw [mixed_read, hY, across_read, hA, hx, h7, head_group, mixed, across]
  simp only [hS, hC, head_group, ea, mul_comm (query P _ _ _)]

/-- Channel `q` of group `g`. -/
abbrev chan (g : Fin 2) (q : Fin 256) : Fin 512 := ⟨256 * g + q, by omega⟩

theorem gated_at {mx : FVec Ideal S2064x8x64 .f32} (hm : ∀ (t : Fin 2064) (h : Fin 8) (p : Fin 64), mx (ix3 t h p) = mixed P ((48 + t) / 64) h ⟨(48 + t) % 64, by omega⟩ p)
    (h0 : ∀ (t : Fin 2064) (j : Fin 512), x0 (ix2 t j) = P.Z t j) (t : Fin 2064) (g : Fin 2) (q : Fin 256) : h_gated x0 mx (ix3 t g q) = gated P (48 + t) (chan g q) := by
  have ez : gateRow P (48 + t) (chan g q) = P.Z t (chan g q) := by
    rw [gateRow, dif_pos ⟨by omega, by omega⟩]
    exact congrArg (fun i => P.Z i (chan g q)) (Fin.ext (Nat.add_sub_cancel_left 48 t.val))
  rw [gated_read, hm, h0, gated, ez]

theorem normed_at {gt : FVec Ideal S2064x2x256 .f32} (hg : ∀ (t : Fin 2064) (g : Fin 2) (q : Fin 256), gt (ix3 t g q) = gated P (48 + t) (chan g q)) (h8 : ∀ j : Fin 512, x8 (ix1 j) = P.ng j)
    (t : Fin 2064) (g : Fin 2) (q : Fin 256) : h_normed x8 gt (ix3 t g q) = normed P (48 + t) (chan g q) := by
  have eg : ∀ k, sameGroup (chan g q) k = chan g k := fun k => Fin.ext (by dsimp only; omega)
  rw [normed_read, h8, normed]
  simp only [hg, eg]

theorem y_at {nm : FVec Ideal S2064x2x256 .f32} (hn : ∀ (t : Fin 2064) (g : Fin 2) (q : Fin 256), nm (ix3 t g q) = normed P (48 + t) (chan g q)) (i : Fin 2112) (j : Fin 512) :
    h_y nm (ix2 i j) = result P i j := by
  rw [y_read, result, past]
  by_cases h : i.val < 48
  · rw [dif_pos h, if_pos h]
  · rw [dif_neg h, if_neg h, hn]
    exact congrArg₂ (normed P) (by dsimp only; omega) (Fin.ext (by dsimp only; omega))

end Spec

end Cert.SsdFwdRefIdeal.Value

end
-- ==== Proof.SsdRef.lean ====
/-
  The values of the reference of the forward call of the state space mixer: what its loop starts from, what the loop and the
  operations around it leave as it was, and its results.
-/
module

public import proofs.«01_k».proof.Proof.SsdLoop
public import proofs.«01_k».proof.Proof.SsdOut

@[expose] public section

set_option maxRecDepth 16384

noncomputable section

open Idealize.ShloMosaic Idealize.ShloMosaic.TcCoe Idealize.ShloMosaic.StableHlo

namespace Cert.SsdFwdRefIdeal.Value

open Cert.SsdFwdRefIdeal Cert.SsdFwdRefIdeal.Gen Cert.Lru Cert.Ssd

section Kept

/-- What the loop writes. -/
abbrev loopW : List (Ref sig .tc) := condOps_W ++ (while0Ops0_W ++ (while0Ops0_1_W ++ (while0Ops0_2_W ++ (while0Ops0_3_W ++ while0Ops0_4_W))))

theorem trip_keeps (V : Valuation τ sig (Elt Ideal)) {r : Ref sig .tc} (h : r ∉ loopW) : afterL bodyI (after condOps V) (Proc.devRef .tc r) = V (Proc.devRef .tc r) := by
  simp only [loopW, List.mem_append, not_or] at h
  obtain ⟨hc, h0, h1, h2, h3, h4⟩ := h
  simp only [bodyI, afterL_cons, afterL_nil]
  rw [after_of_writes_sub _ _ while0Ops0_4_writes h4, after_of_writes_sub _ _ while0Ops0_3_writes h3, after_of_writes_sub _ _ while0Ops0_2_writes h2,
    after_of_writes_sub _ _ while0Ops0_1_writes h1, after_of_writes_sub _ _ while0Ops0_writes h0, after_of_writes_sub _ _ condOps_writes hc]

variable (m : (ℓ : Loc nD τ sig) → Buf (Elt Ideal) ℓ) (c : Dev nD)

theorem loop_keeps {r : Ref sig .tc} (h : r ∉ loopW) : ∀ k, atK m k c (Proc.devRef .tc r) = entryContents preI m c (Proc.devRef .tc r)
  | 0 => rfl
  | k + 1 => (trip_keeps (atK m k c) h).trans (loop_keeps h k)

/-- The contents after the loop. -/
def ending : Valuation τ sig (Elt Ideal) := after condOps (atK m 33 c)

theorem ending_kept {r : Ref sig .tc} (h : r ∉ loopW) : ending m c (Proc.devRef .tc r) = entryContents preI m c (Proc.devRef .tc r) :=
  (after_of_writes_sub _ _ condOps_writes (fun q => h (List.mem_append_left _ q))).trans (loop_keeps m c h 33)

/-- What the operations before the loop write. -/
abbrev entryW : List (Ref sig .tc) := hostOps0_W ++ (hostOps0_1_W ++ (hostOps0_2_W ++ (hostOps0_3_W ++ (hostOps0_4_W ++ (hostOps0_5_W ++ (hostOps0_6_W ++ (hostOps0_7_W ++ (hostOps0_8_W ++ (hostOps0_9_W ++ hostOps0_10_W)))))))))

theorem entry_kept {r : Ref sig .tc} (h : r ∉ entryW) : entryContents preI m c (Proc.devRef .tc r) = m ((c.tc : Thread nD τ).loc r) := by
  simp only [entryW, List.mem_append, not_or] at h
  obtain ⟨h0, h1, h2, h3, h4, h5, h6, h7, h8, h9, h10⟩ := h
  simp only [entryContents, preI, afterL_cons, afterL_nil]
  rw [after_of_writes_sub _ _ hostOps0_10_writes h10, after_of_writes_sub _ _ hostOps0_9_writes h9, after_of_writes_sub _ _ hostOps0_8_writes h8,
    after_of_writes_sub _ _ hostOps0_7_writes h7, after_of_writes_sub _ _ hostOps0_6_writes h6, after_of_writes_sub _ _ hostOps0_5_writes h5,
    after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

abbrev postW0 : List (Ref sig .tc) := [main_v99, main_v100, main_v101, main_v102, main_v103, main_v104, main_v105, main_v106, main_v107, main_v108, main_v109, main_v110, main_v111, main_v112, main_v113, main_v114, main_v115]
abbrev postW1 : List (Ref sig .tc) := [main_call8_v0, main_call8_v1, main_call8_cst, main_call8_v2, main_call8_v3, main_call8_cst_0, main_call8_v4, main_call8_v5, main_v116]
abbrev postW2 : List (Ref sig .tc) := [main_v117, main_v118, main_v119, main_cst_9, main_v120, main_v121, main_cst_10, main_v122, main_v123, main_cst_11, main_v124, main_v125, main_v126, main_v127, main_v128, main_v129, main_v130, main_v131,
  main_v132, main_v133, main_cst_12, main_v134, main_v135, main_v136, main_v137, main_v138, main_cst_13, main_v139, main_v140, main_v141, main_v142, main_v143, main_v144]

theorem post_kept (V : Valuation τ sig (Elt Ideal)) {r : Ref sig .tc} (h : r ∉ postW0 ++ (postW1 ++ postW2)) : afterL postI V (Proc.devRef .tc r) = V (Proc.devRef .tc r) := by
  simp only [List.mem_append, not_or] at h
  obtain ⟨h0, h1, h2⟩ := h
  have w0 : (hostOps0_11 : List (HloOp τ sig (Elt Ideal))).Forall fun op => op.writes ⊆ (postW0.map (Proc.devRef (τ := τ) .tc)).toFinset := StableHlo.forall_writes_sub_of_map rfl
  have w1 : (hostOps0_12 : List (HloOp τ sig (Elt Ideal))).Forall fun op => op.writes ⊆ (postW1.map (Proc.devRef (τ := τ) .tc)).toFinset := StableHlo.forall_writes_sub_of_map rfl
  have w2 : (hostOps0_13 : List (HloOp τ sig (Elt Ideal))).Forall fun op => op.writes ⊆ (postW2.map (Proc.devRef (τ := τ) .tc)).toFinset := StableHlo.forall_writes_sub_of_map rfl
  simp only [postI, afterL_cons, afterL_nil]
  rw [after_of_writes_sub _ _ w2 h2, after_of_writes_sub _ _ w1 h1, after_of_writes_sub _ _ w0 h0]

end Kept

section Entry
variable (m : (ℓ : Loc nD τ sig) → Buf (Elt Ideal) ℓ) (c : Dev nD)

abbrev arg0 : FVec Ideal S2064x512 .f32 := m ((c.tc : Thread nD τ).loc main_arg0)
abbrev arg1 : FVec Ideal S2064x1024 .f32 := m ((c.tc : Thread nD τ).loc main_arg1)
abbrev arg2 : FVec Ideal S2064x8 .f32 := m ((c.tc : Thread nD τ).loc main_arg2)
abbrev arg3 : FVec Ideal S4x1024 .f32 := m ((c.tc : Thread nD τ).loc main_arg3)
abbrev arg4 : FVec Ideal S1024 .f32 := m ((c.tc : Thread nD τ).loc main_arg4)
abbrev arg5 : FVec Ideal S8 .f32 := m ((c.tc : Thread nD τ).loc main_arg5)
abbrev arg6 : FVec Ideal S8 .f32 := m ((c.tc : Thread nD τ).loc main_arg6)
abbrev arg7 : FVec Ideal S8 .f32 := m ((c.tc : Thread nD τ).loc main_arg7)
abbrev arg8 : FVec Ideal S512 .f32 := m ((c.tc : Thread nD τ).loc main_arg8)

/-- The reference's arguments. -/
abbrev args : Args where
  Z := fun t j => arg0 m c (ix2 t j)
  X := fun t j => arg1 m c (ix2 t j)
  D := fun t h => arg2 m c (ix2 t h)
  cw := fun k j => arg3 m c (ix2 k j)
  cb := fun j => arg4 m c (ix1 j)
  al := fun h => arg5 m c (ix1 h)
  db := fun h => arg6 m c (ix1 h)
  ds := fun h => arg7 m c (ix1 h)
  ng := fun j => arg8 m c (ix1 j)

abbrev xOf : FVec Ideal S33x64x2x4x64 .f32 := h_x (arg1 m c) (arg2 m c) (arg3 m c) (arg4 m c) (arg6 m c)
abbrev bOf : FVec Ideal S33x64x2x128 .f32 := h_b (arg1 m c) (arg3 m c) (arg4 m c)
abbrev cOf : FVec Ideal S33x64x2x128 .f32 := h_c (arg1 m c) (arg3 m c) (arg4 m c)
abbrev cumOf : FVec Ideal S33x2x4x64 .f32 := h_cum (h_a (arg2 m c) (arg5 m c) (arg6 m c))

theorem entry_x : entryContents preI m c (Proc.devRef .tc main_v38) = h_xs (arg1 m c) (arg3 m c) (arg4 m c) := by
  simp only [entryContents, afterL_cons, afterL_nil]
  after_results
  rfl
theorem entry_c : entryContents preI m c (Proc.devRef .tc main_v65) = cOf m c := by
  simp only [entryContents, afterL_cons, afterL_nil]
  after_results
  rfl
theorem entry_cum : entryContents preI m c (Proc.devRef .tc main_v66) = cumOf m c := by
  simp only [entryContents, afterL_cons, afterL_nil]
  after_results
  rfl
theorem entry_within : entryContents preI m c (Proc.devRef .tc main_v81) = h_within (xOf m c) (bOf m c) (cOf m c) (cumOf m c) := by
  simp only [entryContents, afterL_cons, afterL_nil]
  after_results
  rfl
theorem entry_0 : entryContents preI m c (Proc.devRef .tc main_v98_0) = h_added (xOf m c) (bOf m c) (cumOf m c) := by
  simp only [entryContents, afterL_cons, afterL_nil]
  after_results
  rfl
theorem entry_1 : entryContents preI m c (Proc.devRef .tc main_v98_1) = h_whole (cumOf m c) := by
  simp only [entryContents, afterL_cons, afterL_nil]
  after_results
  rfl
theorem entry_3 : entryContents preI m c (Proc.devRef .tc main_v98_3) = (broadcastInDim S2x4x64x128 ![] bcast_S_S2x4x64x128 (constant (F := Ideal) S_ .f32 0x00000000#32)) := by
  simp only [entryContents, afterL_cons, afterL_nil]
  after_results
  rfl

end Entry

section Post
variable (V : Valuation τ sig (Elt Ideal))

theorem post_y : afterL postI V (Proc.devRef .tc main_v140) = h_y (h_normed (V (Proc.devRef .tc main_arg8)) (h_gated (V (Proc.devRef .tc main_arg0))
    (h_mixed (V (Proc.devRef .tc main_v98_4)) (V (Proc.devRef .tc main_v65)) (V (Proc.devRef .tc main_v66)) (V (Proc.devRef .tc main_v81)) (V (Proc.devRef .tc main_v38)) (V (Proc.devRef .tc main_arg7))))) := by
  simp only [postI, afterL_cons, afterL_nil]
  after_results
  rfl
theorem post_rows : afterL postI V (Proc.devRef .tc main_v138) = h_rows (V (Proc.devRef .tc main_arg1)) := by
  simp only [postI, afterL_cons, afterL_nil]
  after_results
  rfl
theorem post_states : afterL postI V (Proc.devRef .tc main_v144) = h_states (V (Proc.devRef .tc main_v98_4)) := by
  simp only [postI, afterL_cons, afterL_nil]
  after_results
  rfl

end Post

section Run
variable (m : (ℓ : Loc nD τ sig) → Buf (Elt Ideal) ℓ) (c : Dev nD)

theorem acts (t : Fin 2064) (j : Fin 1024) : h_act (arg1 m c) (arg3 m c) (arg4 m c) (ix2 t j) = act (args m c) 3 t j := act_at (P := args m c) (fun _ _ => rfl) (fun _ _ => rfl) (fun _ => rfl) t j
theorem inputs (k : Fin 33) (l : Fin 64) (g : Fin 2) (e : Fin 4) (p : Fin 64) : xOf m c (ix5 k l g e p) = input (args m c) (64 * k.val + l.val) (headAt g e) p :=
  x_at (P := args m c) (acts m c) (fun _ _ => rfl) (fun _ => rfl) k l g e p
theorem keys (k : Fin 33) (l : Fin 64) (g : Fin 2) (n : Fin 128) : bOf m c (ix4 k l g n) = key (args m c) (64 * k.val + l.val) g n := b_at (P := args m c) (acts m c) k l g n
theorem queries (k : Fin 33) (l : Fin 64) (g : Fin 2) (n : Fin 128) : cOf m c (ix4 k l g n) = query (args m c) (64 * k.val + l.val) g n := c_at (P := args m c) (acts m c) k l g n
theorem cums (k : Fin 33) (g : Fin 2) (e : Fin 4) (l : Fin 64) : cumOf m c (ix4 k g e l) = cum (args m c) (64 * k.val) (headAt g e) l :=
  cum_is (P := args m c) (a_at (P := args m c) (fun _ _ => rfl) (fun _ => rfl) (fun _ => rfl)) k g e l

theorem At.start : At (args m c) 0 (entryContents preI m c) where
  add := by rw [entry_0]; exact added_is (inputs m c) (keys m c) (cums m c)
  dec := by rw [entry_1]; exact whole_is (cums m c)
  ctr := by rw [ctr_entry]; rfl
  now := by rw [entry_3]; intro g e p n; pointwise; rfl
  all := fun _ _ _ _ _ h => absurd h (by omega)

/-- After the loop every state is stacked. -/
theorem stacked (t : Fin 33) (g : Fin 2) (e : Fin 4) (p : Fin 64) (n : Fin 128) :
    (ending m c (Proc.devRef .tc main_v98_4) : FVec Ideal S33x2x4x64x128 .f32) (ix5 t g e p n) = state (args m c) (headAt g e) p n t.val := by
  have e0 : ending m c (Proc.devRef .tc main_v98_4) = STEP^[33] (entryContents preI m c) (Proc.devRef .tc main_v98_4) :=
    (cond_keeps (atK m 33 c) main_v98_4 (by decide)).trans (atK_agree m c 33 main_v98_4 (by decide))
  rw [e0]
  exact ((At.start m c).iterate 33 le_rfl).all t g e p n t.isLt

theorem ending_arg {r : Ref sig .tc} (h : r ∉ loopW) (h' : r ∉ entryW) : ending m c (Proc.devRef .tc r) = m ((c.tc : Thread nD τ).loc r) := (ending_kept m c h).trans (entry_kept m c h')

theorem final_arg {r : Ref sig .tc} (h : r ∉ loopW) (h' : r ∉ entryW) (h'' : r ∉ postW0 ++ (postW1 ++ postW2)) :
    finalContents condOps preI bodyI postI 33 m c (Proc.devRef .tc r) = m ((c.tc : Thread nD τ).loc r) := (post_kept (ending m c) h'').trans (ending_arg m c h h')

theorem final_y (i : Fin 2112) (j : Fin 512) : (finalContents condOps preI bodyI postI 33 m c (Proc.devRef .tc main_v140) : FVec Ideal S2112x512 .f32) (ix2 i j) = result (args m c) i j := by
  show (afterL postI (ending m c) (Proc.devRef .tc main_v140) : FVec Ideal S2112x512 .f32) (ix2 i j) = _
  rw [post_y]
  refine y_at (normed_at (gated_at (mixed_at (stacked m c) (fun k l g n => ?_) (fun k g e l => ?_) (fun k l g e p => ?_) (fun t h p => ?_) (fun h => ?_)) (fun t j => ?_)) (fun j => ?_)) i j
  · rw [ending_kept m c (r := main_v65) (by decide +kernel), entry_c, queries]
  · rw [ending_kept m c (r := main_v66) (by decide +kernel), entry_cum, cums]
  · rw [ending_kept m c (r := main_v81) (by decide +kernel), entry_within]
    exact within_is (inputs m c) (keys m c) (queries m c) (cums m c) k l g e p
  · rw [ending_kept m c (r := main_v38) (by decide +kernel), entry_x]
    exact xs_at (A := act (args m c) 3) (acts m c) t h p
  · rw [ending_arg m c (r := main_arg7) (by decide +kernel) (by decide +kernel)]
  · rw [ending_arg m c (r := main_arg0) (by decide +kernel) (by decide +kernel)]
  · rw [ending_arg m c (r := main_arg8) (by decide +kernel) (by decide +kernel)]

theorem final_rows (i : Fin 11) (e : Fin 8) (j : Fin 1024) :
    (finalContents condOps preI bodyI postI 33 m c (Proc.devRef .tc main_v138) : FVec Ideal S1x11x8x1024 .f32) (ix4 0 i e j) = rowsIn (args m c) i e j := by
  show (afterL postI (ending m c) (Proc.devRef .tc main_v138) : FVec Ideal S1x11x8x1024 .f32) (ix4 0 i e j) = _
  rw [post_rows]
  refine rows_at (P := args m c) (fun t j => ?_) i e j
  rw [ending_arg m c (r := main_arg1) (by decide +kernel) (by decide +kernel)]

theorem final_states (i : Fin 11) (j : Fin 512) (n : Fin 128) :
    (finalContents condOps preI bodyI postI 33 m c (Proc.devRef .tc main_v144) : FVec Ideal S1x11x512x128 .f32) (ix4 0 i j n) = stateIn (args m c) i j n := by
  show (afterL postI (ending m c) (Proc.devRef .tc main_v144) : FVec Ideal S1x11x512x128 .f32) (ix4 0 i j n) = _
  rw [post_states]
  exact states_at (stacked m c) i j n

end Run

end Cert.SsdFwdRefIdeal.Value

end
-- ==== Proof.SsdFwdClaims.lean ====
/-
  The five claims about the forward call of the state space mixer.
-/
module

public import proofs.«01_k».proof.Defs
public import proofs.«01_k».proof.Proof.SsdFwdValue
public import proofs.«01_k».proof.Proof.SsdRef
public import proofs.«01_k».proof.Proof.Gen.SsdFwd.Frame
public import proofs.«01_k».proof.Proof.Gen.SsdFwdIdeal.Value
public import proofs.«01_k».proof.Proof.Gen.SsdFwdRefIdeal.Run
public import Idealize.ShloMosaic.Lib.Quiescent

@[expose] public section

set_option maxRecDepth 16384

noncomputable section

open Idealize.ShloMosaic Idealize.ShloMosaic.TcCoe Idealize.SL.Sem Idealize.ShloMosaic.StableHlo

namespace Cert.Proof

open Cert.SsdFwdIdeal.Value (final_9 final_10 final_11)

theorem ssdfwd_frame : Cert.quiescent_SsdFwd (hSsdFwd := Cert.SsdFwd.Gen.facts) := fun m ρ _ => Cert.SsdFwd.Gen.frame m ρ

theorem ssdfwd_ideal_frame : Cert.quiescent_SsdFwdIdeal (hSsdFwdIdeal := Cert.SsdFwdIdeal.Gen.facts) := fun m ρ _ => Cert.SsdFwdIdeal.Gen.frame m ρ

section Arguments
open Cert.SsdFwdRefIdeal Cert.SsdFwdRefIdeal.Gen Cert.SsdFwdRefIdeal.Value
variable (m : (ℓ : Loc nD τ sig) → Buf (Elt Ideal) ℓ)

/-- The reference leaves its arguments as they were. -/
theorem ssdfwd_ref_args {M : (ℓ : Loc nD τ sig) → Buf (Elt Ideal) ℓ}
    (h : ∀ (c : Dev nD) (b : Ref sig .tc), (Proc.devRef .tc b : DevRef τ sig).isScoped = false → M ((c.tc : Thread nD τ).loc b) = finalContents condOps preI bodyI postI 33 m c (Proc.devRef .tc b))
    (c : Dev nD) :
    M ((c.tc : Thread nD τ).loc main_arg0) = m ((c.tc : Thread nD τ).loc main_arg0) ∧ M ((c.tc : Thread nD τ).loc main_arg1) = m ((c.tc : Thread nD τ).loc main_arg1)
      ∧ M ((c.tc : Thread nD τ).loc main_arg2) = m ((c.tc : Thread nD τ).loc main_arg2) ∧ M ((c.tc : Thread nD τ).loc main_arg3) = m ((c.tc : Thread nD τ).loc main_arg3)
      ∧ M ((c.tc : Thread nD τ).loc main_arg4) = m ((c.tc : Thread nD τ).loc main_arg4) ∧ M ((c.tc : Thread nD τ).loc main_arg5) = m ((c.tc : Thread nD τ).loc main_arg5)
      ∧ M ((c.tc : Thread nD τ).loc main_arg6) = m ((c.tc : Thread nD τ).loc main_arg6) ∧ M ((c.tc : Thread nD τ).loc main_arg7) = m ((c.tc : Thread nD τ).loc main_arg7)
      ∧ M ((c.tc : Thread nD τ).loc main_arg8) = m ((c.tc : Thread nD τ).loc main_arg8) := by
  have k : ∀ b : Ref sig .tc, (Proc.devRef .tc b : DevRef τ sig).isScoped = false → b ∉ loopW → b ∉ entryW → b ∉ postW0 ++ (postW1 ++ postW2) →
      M ((c.tc : Thread nD τ).loc b) = m ((c.tc : Thread nD τ).loc b) := fun b q h0 h1 h2 => (h c b q).trans (final_arg m c h0 h1 h2)
  refine ⟨?_, ?_, ?_, ?_, ?_, ?_, ?_, ?_, ?_⟩ <;> exact k _ rfl (by decide +kernel) (by decide +kernel) (by decide +kernel)

end Arguments

theorem ssdfwd_ref_frame : Cert.quiescent_SsdFwdRefIdeal (hSsdFwdRefIdeal := Cert.SsdFwdRefIdeal.Gen.facts) := fun m ρ _ =>
  (θ_run Cert.SsdFwdRefIdeal.defs _ _).mono (fun r h => ⟨fun c => ssdfwd_ref_args m h c, sem_eq_zero_of_no_sems (by decide) r.2⟩)
    (Cert.SsdFwdRefIdeal.Value.run_fold (F := Ideal) m ρ)

/-- Each masked constant is the number that it stands for. -/
theorem ssdfwd_preserves : Cert.preserves_SsdFwd_SsdFwdIdeal :=
  IdealRules.named_const.statement Cert.SsdFwdIdeal.κ "mask" .f32 0xF149F2CA#32 (⊥ : EReal) rfl

theorem ssdfwd_algebraic : Cert.algebraic_SsdFwdIdeal_SsdFwdRefIdeal (hSsdFwdIdeal := Cert.SsdFwdIdeal.Gen.facts)
    (hSsdFwdRefIdeal := Cert.SsdFwdRefIdeal.Gen.facts) := fun m ρ m' ρ' _ hagree =>
  ⟨_, _, _, Cert.SsdFwdIdeal.Value.run_blocks m ρ,
    (θ_run Cert.SsdFwdRefIdeal.defs _ _).mono (fun r h c => by
    obtain ⟨e0, e1, e2, e3, e4, e5, e6, e7, e8⟩ := hagree c
    have hP : Cert.SsdFwdRefIdeal.Value.args m' c = Cert.SsdFwdIdeal.Value.args m c := by
      dsimp only [Cert.SsdFwdRefIdeal.Value.args, Cert.SsdFwdIdeal.Value.args, Cert.SsdFwdRefIdeal.Value.arg0, Cert.SsdFwdRefIdeal.Value.arg1, Cert.SsdFwdRefIdeal.Value.arg2, Cert.SsdFwdRefIdeal.Value.arg3, Cert.SsdFwdRefIdeal.Value.arg4, Cert.SsdFwdRefIdeal.Value.arg5, Cert.SsdFwdRefIdeal.Value.arg6, Cert.SsdFwdRefIdeal.Value.arg7, Cert.SsdFwdRefIdeal.Value.arg8]
      rw [e0, e1, e2, e3, e4, e5, e6, e7, e8]
    have ey := Cert.SsdFwdRefIdeal.Value.final_y m' c
    have er := Cert.SsdFwdRefIdeal.Value.final_rows m' c
    have es := Cert.SsdFwdRefIdeal.Value.final_states m' c
    rw [hP] at ey er es
    refine ⟨(h c Cert.SsdFwdRefIdeal.main_v140 rfl).trans ?_, (h c Cert.SsdFwdRefIdeal.main_v138 rfl).trans ?_, (h c Cert.SsdFwdRefIdeal.main_v144 rfl).trans ?_, ssdfwd_ref_args m' h c⟩
    · rw [final_9]
      funext (i : Cert.SsdFwdIdeal.S2112x512.Idx)
      idx_vars i
      exact ey i0 i1
    · rw [final_10]
      funext (i : Cert.SsdFwdIdeal.S1x11x8x1024.Idx)
      idx_vars i
      obtain rfl : i0 = 0 := Subsingleton.elim _ _
      exact er i1 i2 i3
    · rw [final_11]
      funext (i : Cert.SsdFwdIdeal.S1x11x512x128.Idx)
      idx_vars i
      obtain rfl : i0 = 0 := Subsingleton.elim _ _
      exact es i1 i2 i3) (Cert.SsdFwdRefIdeal.Value.run_fold (F := Ideal) m' ρ')⟩

end Cert.Proof

end
-- ==== Proof.Cut.lean ====
/-
  A rectangle of a matrix.
-/
module

public import Idealize.ShloMosaic.Lib.Pointwise

@[expose] public section

set_option maxRecDepth 16384

noncomputable section

open Idealize.ShloMosaic Idealize.ShloMosaic.TcCoe

namespace Cert.Cut

theorem slices2 (n0 n1 m0 m1 o0 o1 : ℕ) (h0 : o0 + m0 ≤ n0) (h1 : o1 + m1 ≤ n1) :
    Shape.Slices (⟨2, ![n0, n1]⟩ : Shape) ![o0, o1] (⟨2, ![m0, m1]⟩ : Shape) :=
  ⟨rfl, fun a => by fin_cases a; exacts [h0, h1]⟩
def cut {n0 n1 : ℕ} (m0 m1 o0 o1 : ℕ) (x : FVec Ideal ⟨2, ![n0, n1]⟩ .f32) (h0 : o0 + m0 ≤ n0) (h1 : o1 + m1 ≤ n1) : FVec Ideal ⟨2, ![m0, m1]⟩ .f32 :=
  extractStridedSlice (⟨2, ![m0, m1]⟩ : Shape) ![o0, o1] x (slices2 n0 n1 m0 m1 o0 o1 h0 h1)
theorem cut_at {n0 n1 : ℕ} (m0 m1 o0 o1 : ℕ) (x : FVec Ideal ⟨2, ![n0, n1]⟩ .f32) (h0 : o0 + m0 ≤ n0) (h1 : o1 + m1 ≤ n1) (i : Fin m0) (j : Fin m1) :
    cut m0 m1 o0 o1 x h0 h1 (ix2 i j) = x (ix2 ⟨o0 + i, by omega⟩ ⟨o1 + j, by omega⟩) := by
  unfold cut extractStridedSlice
  congr 1
  funext a
  fin_cases a <;> rfl

end Cert.Cut

end
-- ==== Proof.GdnTile.lean ====
/-
  One tile of the forward call of the gated delta rule: what its three chunks of 64 rows and four heads hold.
-/
module

public import proofs.«01_k».proof.Proof.Gen.GdnFwdIdeal.Skeleton
public import proofs.«01_k».proof.Proof.Cut

@[expose] public section

set_option maxRecDepth 16384

noncomputable section

open Idealize.ShloMosaic Idealize.ShloMosaic.TcCoe

namespace Cert.GdnFwdIdeal.Value

open Cert.GdnFwdIdeal Cert.GdnFwdIdeal.Gen Cert.Cut

/-- A product of matrices given in a short format, and one of matrices given with their rests. -/
def bdot {s1 s2 s3 : Shape} (d : DotDims s1 s2 s3) (a : FVec Ideal s1 .f32) (b : FVec Ideal s2 .f32) : FVec Ideal s3 .f32 :=
  matmul d none (truncf .bf16 a bitsLt_bf16_f32) (truncf .bf16 b bitsLt_bf16_f32) (constant s3 .f32 0x00000000#32)
def rest {s : Shape} (a : FVec Ideal s .f32) : FVec Ideal s .f32 := subf a (extf .f32 (truncf .bf16 a bitsLt_bf16_f32) bitsLt_bf16_f32)
def hdot {s1 s2 s3 : Shape} (d : DotDims s1 s2 s3) (a : FVec Ideal s1 .f32) (b : FVec Ideal s2 .f32) : FVec Ideal s3 .f32 :=
  addf (bdot d a b) (addf (bdot d a (rest b)) (bdot d (rest a) b))

section Rows
variable (m : FVec Ideal S192x1 .f32) (X : FVec Ideal S192x512 .f32) (h : ℕ) (hh : h < 4)

/-- The columns of a head, and the rows of a head over their length. -/
def kHead : FVec Ideal S192x128 .f32 := cut 192 128 0 (128 * h) X (by omega) (by omega)
def kUnit : FVec Ideal S192x128 .f32 :=
  mulf (kHead X h hh) (broadcastTo S192x128 (rsqrt (addf (shapeCast S192x1 (multiReduction .add [1] S192 (mulf (kHead X h hh) (kHead X h hh)) 0x00000000#32 reduces_S192x128_S192 (.inl rfl) rfl) shapeCasts_S192_S192x1)
    (broadcast S192x1 (Scalar.ofBits .f32 0x358637BD#32 : Ideal .f32)))) broadcasts_S192x1_S192x128)
/-- The queries, the keys and the values of a tile. -/
def kQ : FVec Ideal S192x128 .f32 :=
  mulf (mulf (kUnit X h hh) (broadcast S192x128 (Scalar.ofBits .f32 0x3DB504F3#32 : Ideal .f32))) (broadcastTo S192x128 m broadcasts_S192x1_S192x128)
def kK : FVec Ideal S192x128 .f32 := mulf (kUnit X h hh) (broadcastTo S192x128 m broadcasts_S192x1_S192x128)
def kV : FVec Ideal S192x128 .f32 := mulf (kHead X h hh) (broadcastTo S192x128 m broadcasts_S192x1_S192x128)

end Rows

section Chunk
variable (q k v : FVec Ideal S64x128 .f32) (bt gc : FVec Ideal S64x1 .f32) (gr : FVec Ideal S1x64 .f32) (s : FVec Ideal S128x128 .f32)

/-- The decay between the rows of a chunk, what the rows take from each other, and the inverse by doublings. -/
def kDecay : FVec Ideal S64x64 .f32 :=
  exp (select k0_pay23 (subf (broadcastTo S64x64 gc broadcasts_S64x1_S64x64) (broadcastTo S64x64 gr broadcasts_S1x64_S64x64))
    (broadcast S64x64 (Named.named (F := Ideal) κ "mask" 0xF149F2CA#32 : Ideal .f32)))
def kKb : FVec Ideal S64x128 .f32 := mulf k (broadcastTo S64x128 bt broadcasts_S64x1_S64x128)
def kL : FVec Ideal S64x64 .f32 :=
  select k0_pay24 (mulf (bdot dot_S64x128_S64x128_S64x64_1_1_0_0_n_n (kKb k bt) k) (kDecay gc gr)) (broadcast S64x64 (Scalar.ofBits .f32 0x00000000#32 : Ideal .f32))
def sq (a : FVec Ideal S64x64 .f32) : FVec Ideal S64x64 .f32 := hdot dot_S64x64_S64x64_S64x64_1_0_0_1_n_n a a
def grow (p a : FVec Ideal S64x64 .f32) : FVec Ideal S64x64 .f32 := addf p (hdot dot_S64x64_S64x64_S64x64_1_0_0_1_n_n p a)
def inv (l : FVec Ideal S64x64 .f32) : FVec Ideal S64x64 .f32 :=
  grow (grow (grow (grow (grow (subf (k0_pay25 (F := Ideal)) l) (sq l)) (sq (sq l))) (sq (sq (sq l)))) (sq (sq (sq (sq l))))) (sq (sq (sq (sq (sq l)))))
def kInv : FVec Ideal S64x64 .f32 := inv (kL k bt gc gr)
def kU : FVec Ideal S64x128 .f32 := hdot dot_S64x64_S64x128_S64x128_1_0_0_1_n_n (kInv k bt gc gr) (mulf v (broadcastTo S64x128 bt broadcasts_S64x1_S64x128))
def kW : FVec Ideal S64x128 .f32 := hdot dot_S64x64_S64x128_S64x128_1_0_0_1_n_n (kInv k bt gc gr) (mulf (kKb k bt) (broadcastTo S64x128 (exp gc) broadcasts_S64x1_S64x128))
def kAttn : FVec Ideal S64x64 .f32 := mulf (bdot dot_S64x128_S64x128_S64x64_1_1_0_0_n_n q k) (kDecay gc gr)
def kQd : FVec Ideal S64x128 .f32 := mulf q (broadcastTo S64x128 (exp gc) broadcasts_S64x1_S64x128)
def kLast : FVec Ideal S1x1 .f32 := cut 1 1 63 0 gc (by omega) (by omega)
def kKd : FVec Ideal S64x128 .f32 :=
  mulf k (broadcastTo S64x128 (exp (subf (broadcastTo S64x1 (kLast gc) broadcasts_S1x1_S64x1) gc)) broadcasts_S64x1_S64x128)
/-- The new values of a chunk from the state `s` before it, its outputs and the state after it. -/
def kNew : FVec Ideal S64x128 .f32 := subf (kU k v bt gc gr) (bdot dot_S64x128_S128x128_S64x128_1_0_0_1_n_n (kW k bt gc gr) s)
def kOut : FVec Ideal S64x128 .f32 :=
  addf (bdot dot_S64x128_S128x128_S64x128_1_0_0_1_n_n (kQd q gc) s) (bdot dot_S64x64_S64x128_S64x128_1_0_0_1_n_n (kAttn q k gc gr) (kNew k v bt gc gr s))
def kNext : FVec Ideal S128x128 .f32 :=
  addf (mulf s (broadcastTo S128x128 (exp (kLast gc)) broadcasts_S1x1_S128x128)) (bdot dot_S64x128_S64x128_S128x128_0_0_1_1_n_n (kKd k gc) (kNew k v bt gc gr s))

end Chunk

section Tile
variable (m : FVec Ideal S192x1 .f32) (Q K V : FVec Ideal S192x512 .f32) (bt g : FVec Ideal S192x4 .f32) (S : FVec Ideal S512x128 .f32) (ng : FVec Ideal S1x128 .f32)
  (c h : ℕ) (hc : c < 3) (hh : h < 4)

/-- The parts of a tile that belong to a chunk and a head. -/
def tQ : FVec Ideal S64x128 .f32 := cut 64 128 (64 * c) 0 (kQ m Q h hh) (by omega) (by omega)
def tK : FVec Ideal S64x128 .f32 := cut 64 128 (64 * c) 0 (kK m K h hh) (by omega) (by omega)
def tV : FVec Ideal S64x128 .f32 := cut 64 128 (64 * c) 0 (kV m V h hh) (by omega) (by omega)
def tB : FVec Ideal S64x1 .f32 := cut 64 1 0 h (cut 64 4 (64 * c) 0 bt (by omega) (by omega)) (by omega) (by omega)
def tCol : FVec Ideal S64x1 .f32 :=
  cut 64 1 0 h (hdot dot_S64x64_S64x4_S64x4_1_0_0_1_n_n (k0_pay26 (F := Ideal)) (cut 64 4 (64 * c) 0 g (by omega) (by omega))) (by omega) (by omega)
def tRow : FVec Ideal S1x64 .f32 :=
  cut 1 64 h 0 (hdot dot_S64x4_S64x64_S4x64_0_0_1_1_n_n (cut 64 4 (64 * c) 0 g (by omega) (by omega)) (k0_pay27 (F := Ideal))) (by omega) (by omega)

def tNext (s : FVec Ideal S128x128 .f32) : FVec Ideal S128x128 .f32 :=
  kNext (tK m K c h hc hh) (tV m V c h hc hh) (tB bt c h hc hh) (tCol g c h hc hh) (tRow g c h hc hh) s
def tOut (s : FVec Ideal S128x128 .f32) : FVec Ideal S64x128 .f32 :=
  kOut (tQ m Q c h hc hh) (tK m K c h hc hh) (tV m V c h hc hh) (tB bt c h hc hh) (tCol g c h hc hh) (tRow g c h hc hh) s

end Tile

section States
variable (m : FVec Ideal S192x1 .f32) (Q K V : FVec Ideal S192x512 .f32) (bt g : FVec Ideal S192x4 .f32) (S : FVec Ideal S512x128 .f32) (ng : FVec Ideal S1x128 .f32)
  (h : ℕ) (hh : h < 4)

/-- A head's state before the tile and after its chunks. -/
def tS0 : FVec Ideal S128x128 .f32 := cut 128 128 (128 * h) 0 S (by omega) (by omega)
def tS1 : FVec Ideal S128x128 .f32 := tNext m K V bt g 0 h (by omega) hh (tS0 S h hh)
def tS2 : FVec Ideal S128x128 .f32 := tNext m K V bt g 1 h (by omega) hh (tS1 m K V bt g S h hh)
def tS3 : FVec Ideal S128x128 .f32 := tNext m K V bt g 2 h (by omega) hh (tS2 m K V bt g S h hh)

/-- The rows over their root mean square. -/
def kRms (o : FVec Ideal S64x128 .f32) : FVec Ideal S64x128 .f32 :=
  mulf (mulf o (broadcastTo S64x128 (rsqrt (addf (divf (shapeCast S64x1 (multiReduction .add [1] S64 (mulf o o) 0x00000000#32 reduces_S64x128_S64 (.inl rfl) rfl) shapeCasts_S64_S64x1)
    (broadcast S64x1 (Scalar.ofBits .f32 0x43000000#32 : Ideal .f32))) (broadcast S64x1 (Scalar.ofBits .f32 0x358637BD#32 : Ideal .f32)))) broadcasts_S64x1_S64x128))
    (broadcastTo S64x128 ng broadcasts_S1x128_S64x128)

/-- Four heads side by side, three chunks under each other, and the states of four heads under each other. -/
abbrev sideBySide (y : (h : ℕ) → h < 4 → FVec Ideal S64x128 .f32) : FVec Ideal S64x512 .f32 :=
  concatenate S64x512 1 [⟨S64x128, y 0 (by decide)⟩, ⟨S64x128, y 1 (by decide)⟩, ⟨S64x128, y 2 (by decide)⟩, ⟨S64x128, y 3 (by decide)⟩]
    concatenates_S64x128_S64x128_S64x128_S64x128_S64x512_d1
abbrev stacked (y : (h : ℕ) → h < 4 → FVec Ideal S128x128 .f32) : FVec Ideal S512x128 .f32 :=
  concatenate S512x128 0 [⟨S128x128, y 0 (by decide)⟩, ⟨S128x128, y 1 (by decide)⟩, ⟨S128x128, y 2 (by decide)⟩, ⟨S128x128, y 3 (by decide)⟩]
    concatenates_S128x128_S128x128_S128x128_S128x128_S512x128_d0
abbrev chunks (y0 y1 y2 : FVec Ideal S64x512 .f32) : FVec Ideal S192x512 .f32 :=
  concatenate S192x512 0 [⟨S64x512, y0⟩, ⟨S64x512, y1⟩, ⟨S64x512, y2⟩] concatenates_S64x512_S64x512_S64x512_S192x512_d0

/-- A tile's outputs over their root mean squares, and the states it carries on. -/
def tMixed : FVec Ideal S192x512 .f32 :=
  chunks (sideBySide fun h hh => kRms ng (tOut m Q K V bt g 0 h (by decide) hh (tS0 S h hh)))
    (sideBySide fun h hh => kRms ng (tOut m Q K V bt g 1 h (by decide) hh (tS1 m K V bt g S h hh)))
    (sideBySide fun h hh => kRms ng (tOut m Q K V bt g 2 h (by decide) hh (tS2 m K V bt g S h hh)))
def tStates : FVec Ideal S512x128 .f32 := stacked fun h hh => tS3 m K V bt g S h hh

end States

end Cert.GdnFwdIdeal.Value

end
-- ==== Proof.GdnMath.lean ====
/-
  The gated delta rule over real numbers: the inverse of a unit lower triangular matrix by doublings, and a chunk of rows
  solved at once as the recurrence over its rows.
-/
module

public import Mathlib.Data.Matrix.Mul
public import Mathlib.Analysis.SpecialFunctions.Exp
public import Idealize.ShloMosaic.Lib.Pointwise

@[expose] public section

noncomputable section

namespace Cert.Gdn

/-! ## The inverse -/

section Inverse

/-- A matrix whose entries vanish unless the row comes at least `a` after the column. -/
def Low (a : ℕ) (A : Matrix (Fin 64) (Fin 64) ℝ) : Prop := ∀ l s, ¬ s.val + a ≤ l.val → A l s = 0

theorem Low.mul {a b : ℕ} {A B : Matrix (Fin 64) (Fin 64) ℝ} (hA : Low a A) (hB : Low b B) : Low (a + b) (A * B) := by
  intro l s h
  rw [Matrix.mul_apply]
  refine Finset.sum_eq_zero fun j _ => ?_
  by_cases h1 : j.val + a ≤ l.val
  · rw [hB j s (by omega), mul_zero]
  · rw [hA l j h1, zero_mul]

theorem grow_step (L P M : Matrix (Fin 64) (Fin 64) ℝ) (h : (1 + L) * P = 1 - M) : (1 + L) * (P + P * M) = 1 - M * M := by
  rw [mul_add, ← mul_assoc, h]; noncomm_ring

/-- The product of the factors `1 - L`, `1 + L²`, `1 + L⁴`, … -/
def invOf (L : Matrix (Fin 64) (Fin 64) ℝ) : Matrix (Fin 64) (Fin 64) ℝ :=
  let g := fun P M : Matrix (Fin 64) (Fin 64) ℝ => P + P * M
  let q := fun M : Matrix (Fin 64) (Fin 64) ℝ => M * M
  g (g (g (g (g (1 - L) (q L)) (q (q L))) (q (q (q L)))) (q (q (q (q L))))) (q (q (q (q (q L)))))

theorem invOf_spec (L : Matrix (Fin 64) (Fin 64) ℝ) (h : Low 1 L) : (1 + L) * invOf L = 1 := by
  have h0 : (1 + L) * (1 - L) = 1 - L * L := by noncomm_ring
  have h5 := grow_step L _ _ (grow_step L _ _ (grow_step L _ _ (grow_step L _ _ (grow_step L _ _ h0))))
  have z2 := h.mul h
  have z4 := z2.mul z2
  have z8 := z4.mul z4
  have z16 := z8.mul z8
  have z32 := z16.mul z16
  have z64 := z32.mul z32
  refine h5.trans ?_
  rw [show _ * _ = (0 : Matrix (Fin 64) (Fin 64) ℝ) from Matrix.ext fun l s => z64 l s (by omega), sub_zero]

end Inverse

/-! ## The recurrence -/

section Recurrence
variable (k v : ℕ → Fin 128 → ℝ) (b g : ℕ → ℝ)

/-- What a row adds at its key, from the state `s` before it. -/
def delta (s : Fin 128 → Fin 128 → ℝ) (t : ℕ) (e : Fin 128) : ℝ := b t * (v t e - ∑ d, k t d * (Real.exp (g t) * s d e))

/-- The state after `n` rows from the state `s`. -/
def state (s : Fin 128 → Fin 128 → ℝ) : ℕ → Fin 128 → Fin 128 → ℝ
  | 0 => s
  | n + 1 => fun d e => Real.exp (g n) * state s n d e + k n d * delta k v b g (state s n) n e

/-- The new value of a row. -/
def new (s : Fin 128 → Fin 128 → ℝ) (n : ℕ) : Fin 128 → ℝ := delta k v b g (state k v b g s n) n

/-- The sum of the rates up to a row. -/
def upto (n : ℕ) : ℝ := ∑ i ∈ Finset.range (n + 1), g i

theorem state_eq (s : Fin 128 → Fin 128 → ℝ) (n : ℕ) (d e : Fin 128) :
    state k v b g s (n + 1) d e = Real.exp (upto g n) * s d e + ∑ j ∈ Finset.range (n + 1), Real.exp (upto g n - upto g j) * (k j d * new k v b g s j e) := by
  induction n with
  | zero => simp [state, upto, new]
  | succ n ih =>
    have hu : upto g (n + 1) = g (n + 1) + upto g n := by rw [upto, Finset.sum_range_succ, ← upto, add_comm]
    rw [Finset.sum_range_succ, sub_self, Real.exp_zero, one_mul]
    show Real.exp (g (n + 1)) * state k v b g s (n + 1) d e + k (n + 1) d * new k v b g s (n + 1) e = _
    rw [ih, mul_add, hu, Real.exp_add, Finset.mul_sum, ← add_assoc, mul_assoc]
    congr 2
    refine Finset.sum_congr rfl fun j _ => ?_
    rw [← mul_assoc, ← Real.exp_add]
    congr 2
    ring

/-- The recursion of the new values. -/
theorem new_eq (s : Fin 128 → Fin 128 → ℝ) (n : ℕ) (e : Fin 128) :
    new k v b g s n e = b n * v n e - b n * Real.exp (upto g n) * ∑ d, k n d * s d e
      - ∑ j ∈ Finset.range n, b n * (∑ d, k n d * k j d) * Real.exp (upto g n - upto g j) * new k v b g s j e := by
  have key : ∑ d, k n d * (Real.exp (g n) * state k v b g s n d e)
      = Real.exp (upto g n) * ∑ d, k n d * s d e + ∑ j ∈ Finset.range n, (∑ d, k n d * k j d) * Real.exp (upto g n - upto g j) * new k v b g s j e := by
    cases n with
    | zero =>
      simp only [state, upto, Finset.range_one, Finset.sum_singleton, Finset.range_zero, Finset.sum_empty, add_zero, zero_add, Finset.mul_sum]
      exact Finset.sum_congr rfl fun d _ => by ring
    | succ n =>
      have hu : upto g (n + 1) = g (n + 1) + upto g n := by rw [upto, Finset.sum_range_succ, ← upto, add_comm]
      simp only [state_eq, Finset.mul_sum, mul_add, Finset.sum_add_distrib, Finset.sum_mul]
      congr 1
      · refine Finset.sum_congr rfl fun d _ => ?_
        rw [hu, Real.exp_add]; ring
      · rw [Finset.sum_comm]
        refine Finset.sum_congr rfl fun j _ => Finset.sum_congr rfl fun d _ => ?_
        rw [hu, show g (n + 1) + upto g n - upto g j = g (n + 1) + (upto g n - upto g j) by ring, Real.exp_add]; ring
  have hs : ∑ j ∈ Finset.range n, b n * (∑ d, k n d * k j d) * Real.exp (upto g n - upto g j) * new k v b g s j e
      = b n * ∑ j ∈ Finset.range n, (∑ d, k n d * k j d) * Real.exp (upto g n - upto g j) * new k v b g s j e := by
    rw [Finset.mul_sum]
    exact Finset.sum_congr rfl fun j _ => by ring
  rw [new, delta, key, hs]
  ring

/-- What the rows of a chunk take from each other. -/
def mat : Matrix (Fin 64) (Fin 64) ℝ := fun l s =>
  if s.val < l.val then (∑ d, k l d * b l * k s d) * Real.exp (upto g l - upto g s) else 0

/-- The new values of a chunk from the inverse. -/
theorem solve (s : Fin 128 → Fin 128 → ℝ) (l : Fin 64) (e : Fin 128) :
    (∑ j, invOf (mat k b g) l j * (v j e * b j)) - ∑ d, (∑ j, invOf (mat k b g) l j * (k j d * b j * Real.exp (upto g j))) * s d e
      = new k v b g s l e := by
  have hL : Low 1 (mat k b g) := fun l s h => if_neg (by omega)
  have hinv := mul_eq_one_comm.mp (invOf_spec _ hL)
  let x : Fin 64 → ℝ := fun j => new k v b g s j e
  let y : Fin 64 → ℝ := fun j => v j e * b j - ∑ d, k j d * b j * Real.exp (upto g j) * s d e
  have hx : Matrix.mulVec (1 + mat k b g) x = y := by
    funext j
    rw [Matrix.add_mulVec, Matrix.one_mulVec, Pi.add_apply]
    have hsum : Matrix.mulVec (mat k b g) x j = ∑ i ∈ Finset.range j.val, b j * (∑ d, k j d * k i d) * Real.exp (upto g j - upto g i) * new k v b g s i e := by
      show ∑ i : Fin 64, mat k b g j i * x i = _
      have h1 : ∀ i : Fin 64, mat k b g j i * x i
          = (fun i : ℕ => if i < j.val then b j * (∑ d, k j d * k i d) * Real.exp (upto g j - upto g i) * new k v b g s i e else 0) i.val := by
        intro i
        simp only [mat, x]
        split_ifs
        · rw [Finset.mul_sum]
          congr 2
          exact Finset.sum_congr rfl fun d _ => by ring
        · rw [zero_mul]
      rw [Finset.sum_congr rfl fun i _ => h1 i, Fin.sum_univ_eq_sum_range (fun i : ℕ => if i < j.val then b j * (∑ d, k j d * k i d) * Real.exp (upto g j - upto g i) * new k v b g s i e else 0) 64,
        ← Finset.sum_filter]
      refine Finset.sum_congr (Finset.ext fun i => ?_) fun _ _ => rfl
      simp only [Finset.mem_filter, Finset.mem_range]
      omega
    rw [hsum]
    show new k v b g s j e + _ = v j e * b j - ∑ d, k j d * b j * Real.exp (upto g j) * s d e
    rw [new_eq, sub_add_cancel, mul_comm (b j) (v j e), Finset.mul_sum]
    exact congrArg _ (Finset.sum_congr rfl fun d _ => by ring)
  have hxy : Matrix.mulVec (invOf (mat k b g)) y = x := by rw [← hx, Matrix.mulVec_mulVec, hinv, Matrix.one_mulVec]
  refine Eq.trans ?_ (congrFun hxy l)
  show _ = ∑ j, invOf (mat k b g) l j * y j
  simp only [y, mul_sub, Finset.sum_sub_distrib, Finset.mul_sum, Finset.sum_mul]
  congr 1
  rw [Finset.sum_comm]
  exact Finset.sum_congr rfl fun j _ => Finset.sum_congr rfl fun d _ => by ring

/-- A sum over the rows up to a row, as one over a chunk. -/
theorem sum_upto (f : ℕ → ℝ) (l : Fin 64) : ∑ j : Fin 64, (if j.val ≤ l.val then f j else 0) = ∑ j ∈ Finset.range (l.val + 1), f j := by
  rw [Fin.sum_univ_eq_sum_range (fun j : ℕ => if j ≤ l.val then f j else 0) 64, ← Finset.sum_filter]
  refine Finset.sum_congr (Finset.ext fun i => ?_) fun _ _ => rfl
  simp only [Finset.mem_filter, Finset.mem_range]
  omega

/-- The output of a row. -/
theorem out_eq (q : ℕ → Fin 128 → ℝ) (s : Fin 128 → Fin 128 → ℝ) (l : Fin 64) (e : Fin 128) :
    (∑ d, q l d * Real.exp (upto g l) * s d e)
      + ∑ j : Fin 64, ((∑ d, q l d * k j d) * (if j.val ≤ l.val then Real.exp (upto g l - upto g j) else 0)) * new k v b g s j e
      = ∑ d, q l d * state k v b g s (l + 1) d e := by
  have h : ∀ j : Fin 64, ((∑ d, q l d * k j d) * (if j.val ≤ l.val then Real.exp (upto g l - upto g j) else 0)) * new k v b g s j e
      = if j.val ≤ l.val then (fun j : ℕ => (∑ d, q l d * k j d) * Real.exp (upto g l - upto g j) * new k v b g s j e) j else 0 := by
    intro j; split_ifs
    · rfl
    · rw [mul_zero, zero_mul]
  rw [Finset.sum_congr rfl fun j _ => h j, sum_upto (fun j : ℕ => (∑ d, q l d * k j d) * Real.exp (upto g l - upto g j) * new k v b g s j e) l]
  simp only [state_eq, mul_add, Finset.sum_add_distrib, Finset.mul_sum, Finset.sum_mul]
  congr 1
  · exact Finset.sum_congr rfl fun d _ => by ring
  · rw [Finset.sum_comm]
    exact Finset.sum_congr rfl fun d _ => Finset.sum_congr rfl fun j _ => by ring

/-- The state after a chunk. -/
theorem next_eq (s : Fin 128 → Fin 128 → ℝ) (d e : Fin 128) :
    s d e * Real.exp (upto g 63) + ∑ j : Fin 64, k j d * Real.exp (upto g 63 - upto g j) * new k v b g s j e = state k v b g s 64 d e := by
  rw [state_eq, Fin.sum_univ_eq_sum_range (fun j : ℕ => k j d * Real.exp (upto g 63 - upto g j) * new k v b g s j e) 64, mul_comm (s d e)]
  exact congrArg _ (Finset.sum_congr rfl fun j _ => by ring)

/-- The recurrence goes on from where it stands. -/
theorem state_add (s : Fin 128 → Fin 128 → ℝ) (a n : ℕ) :
    state (fun t => k (a + t)) (fun t => v (a + t)) (fun t => b (a + t)) (fun t => g (a + t)) (state k v b g s a) n = state k v b g s (a + n) := by
  induction n with
  | zero => rfl
  | succ n ih => funext d e; simp only [state, ih, delta]; rfl

end Recurrence

end Cert.Gdn

end
-- ==== Proof.GdnSpec.lean ====
/-
  What the forward call of the gated delta rule computes: its convolved rows, keys, queries, values, gates and rates as real
  numbers, the recurrence over them, and the result with its root mean squares divided out.
-/
module

public import proofs.«01_k».proof.Proof.LruMath
public import proofs.«01_k».proof.Proof.GdnMath

@[expose] public section

noncomputable section

open Idealize.ShloMosaic

namespace Cert.Gdn

open Cert.S5 Cert.Lru

/-! ## Real numbers among the extended ones -/

/-- The small number under the roots, and the scale of the queries, as single-precision numbers. -/
def eps : ℝ := 8796093 / 2 ^ 43
def scale : ℝ := 11863283 / 2 ^ 27

theorem eps_coe : Ideal.ofBits .f32 0x358637BD#32 = (eps : EReal) := by
  rw [eps]; simp [Ideal.ofBits, Ideal.ieee, -EReal.coe_mul]; norm_num
theorem scale_coe : Ideal.ofBits .f32 0x3DB504F3#32 = (scale : EReal) := by
  rw [scale]; simp [Ideal.ofBits, Ideal.ieee, -EReal.coe_mul]; norm_num

/-- The rectifier, the smooth positive part, and the inverse of a row's length. -/
def silu (x : ℝ) : ℝ := x * (1 + Real.exp (-x))⁻¹
def softR (s : ℝ) : ℝ := max s 0 + Real.log (1 + Real.exp (-max s (-s)))
def unitOf (f : Fin 128 → ℝ) : ℝ := (Real.sqrt (∑ e, f e * f e + eps))⁻¹

theorem silu_coe (x : ℝ) : (x : EReal) * Ideal.logistic x = (silu x : EReal) := by
  rw [Ideal.logistic_coe, silu, EReal.coe_mul]

theorem soft_coe (s : ℝ) : soft (s : EReal) = (softR s : EReal) := by
  have h : ∀ y : ℝ, Ideal.log1p (Ideal.exp (y : EReal)) = ((Real.log (1 + Real.exp y) : ℝ) : EReal) := by
    intro y
    have e : (1 : EReal) + (Real.exp y : EReal) = ((1 + Real.exp y : ℝ) : EReal) := by push_cast; rfl
    rw [exp_coe]
    show Ideal.log (1 + (Real.exp y : EReal)) = _
    rw [e]
    show (if 1 + Real.exp y ≤ 0 then (⊥ : EReal) else (Real.log (1 + Real.exp y) : EReal)) = _
    rw [if_neg (by have := Real.exp_pos y; linarith)]
  have hm : ∀ a b : ℝ, max (a : EReal) (b : EReal) = ((max a b : ℝ) : EReal) := fun a b => (EReal.coe_strictMono.monotone.map_max).symm
  have e0 : max (s : EReal) 0 = ((max s 0 : ℝ) : EReal) := by rw [← hm, EReal.coe_zero]
  have e1 : -max (s : EReal) (-(s : EReal)) = ((-max s (-s) : ℝ) : EReal) := by rw [EReal.coe_neg, ← hm, EReal.coe_neg]
  rw [soft, e0, e1, h, softR, EReal.coe_add]

theorem unit_coe {y : Fin 128 → EReal} {f : Fin 128 → ℝ} (h : ∀ e, y e = f e) :
    Ideal.rsqrt (∑ e, y e * y e + Ideal.ofBits .f32 0x358637BD#32) = (unitOf f : EReal) := by
  have hp : 0 < ∑ e, f e * f e + eps := add_pos_of_nonneg_of_pos (Finset.sum_nonneg fun e _ => mul_self_nonneg _) (by norm_num [eps])
  simp only [h, ← EReal.coe_mul, coe_sum, eps_coe, ← EReal.coe_add]
  rw [Ideal.rsqrt_coe, if_neg (by linarith), if_neg (by linarith), unitOf]

theorem logistic_coe' : ∀ x : EReal, Ideal.logistic x = ((Ideal.logistic x).toReal : EReal) := by
  refine EReal.rec ?_ (fun r => ?_) ?_
  · rw [Ideal.logistic_bot]; rfl
  · rw [Ideal.logistic_coe]; rfl
  · rw [Ideal.logistic_top]; rfl

/-! ## The rows -/

/-- The column of a place in a head of a third: queries, keys and values. -/
abbrev inThird (o : Fin 3) (j : Fin 512) : Fin 1536 := ⟨512 * o + j, by omega⟩
abbrev inHead (h : Fin 4) (e : Fin 128) : Fin 512 := ⟨128 * h + e, by omega⟩
abbrev headOf (j : Fin 512) : Fin 4 := ⟨j / 128, by omega⟩
abbrev placeIn (j : Fin 512) : Fin 128 := ⟨j % 128, by omega⟩

/-- The arguments of the call. -/
structure Args where
  X : Fin 2064 → Fin 1536 → ℝ
  Z : Fin 2064 → Fin 512 → EReal
  B : Fin 2064 → Fin 4 → EReal
  A : Fin 2064 → Fin 4 → ℝ
  cw : Fin 4 → Fin 1536 → ℝ
  al : Fin 4 → ℝ
  db : Fin 4 → ℝ
  ng : Fin 128 → EReal

variable (P : Args)

/-- A row of the input, counted from the first of `d` rows of nothing in front of it. -/
def rowAfter (d t : ℕ) (j : Fin 1536) : ℝ := if h : d ≤ t ∧ t - d < 2064 then P.X ⟨t - d, h.2⟩ j else 0

theorem rowAfter_add (d e t : ℕ) (j : Fin 1536) : rowAfter P (d + e) (t + e) j = rowAfter P d t j := by
  unfold rowAfter
  by_cases h : d ≤ t ∧ t - d < 2064
  · rw [dif_pos h, dif_pos ⟨by omega, by omega⟩]
    exact congrArg (fun i => P.X i j) (Fin.ext (show t + e - (d + e) = t - d by omega))
  · rw [dif_neg h, dif_neg (by omega)]

/-- The convolution over four rows, of which the last is the row itself when `d` is three, and its rectifier. -/
def conv (d t : ℕ) (j : Fin 1536) : ℝ :=
  P.cw 0 j * rowAfter P d t j + P.cw 1 j * rowAfter P d (t + 1) j + P.cw 2 j * rowAfter P d (t + 2) j + P.cw 3 j * rowAfter P d (t + 3) j
def act (d t : ℕ) (j : Fin 1536) : ℝ := silu (conv P d t j)

theorem act_add (d e t : ℕ) (j : Fin 1536) : act P (d + e) (t + e) j = act P d t j := by
  unfold act conv
  rw [show t + e + 1 = t + 1 + e by omega, show t + e + 2 = t + 2 + e by omega, show t + e + 3 = t + 3 + e by omega]
  simp only [rowAfter_add]

/-- A head of a third of a row, and the same over its length. -/
def part (d : ℕ) (o : Fin 3) (h : Fin 4) (t : ℕ) (e : Fin 128) : ℝ := act P d t (inThird o (inHead h e))
def unitPart (d : ℕ) (o : Fin 3) (h : Fin 4) (t : ℕ) (e : Fin 128) : ℝ := part P d o h t e * unitOf (part P d o h t)

theorem part_add (d k : ℕ) (o : Fin 3) (h : Fin 4) (t : ℕ) : part P (d + k) o h (t + k) = part P d o h t := funext fun e => act_add P d k t _

/-- The query, the key, the value, the gate and the rate of a padded row. -/
def query (h : Fin 4) (t : ℕ) (e : Fin 128) : ℝ := if t < 48 then 0 else unitPart P 51 0 h t e * scale
def key (h : Fin 4) (t : ℕ) (e : Fin 128) : ℝ := if t < 48 then 0 else unitPart P 51 1 h t e
def value (h : Fin 4) (t : ℕ) (e : Fin 128) : ℝ := if t < 48 then 0 else part P 51 2 h t e
def gate (h : Fin 4) (t : ℕ) : ℝ := if q : 48 ≤ t ∧ t - 48 < 2064 then (Ideal.logistic (P.B ⟨t - 48, q.2⟩ h)).toReal else 0
def rate (h : Fin 4) (t : ℕ) : ℝ := if q : 48 ≤ t ∧ t - 48 < 2064 then -Real.exp (P.al h) * softR (P.A ⟨t - 48, q.2⟩ h + P.db h) else 0

/-- The state after `n` padded rows, and the output of a row. -/
def st (h : Fin 4) (n : ℕ) : Fin 128 → Fin 128 → ℝ := state (key P h) (value P h) (gate P h) (rate P h) (fun _ _ => 0) n
def out (h : Fin 4) (t : ℕ) (e : Fin 128) : ℝ := ∑ d, query P h t d * st P h (t + 1) d e

theorem st_succ (h : Fin 4) (n : ℕ) (d e : Fin 128) :
    st P h (n + 1) d e = Real.exp (rate P h n) * st P h n d e + key P h n d * delta (key P h) (value P h) (gate P h) (rate P h) (st P h n) n e := rfl

theorem st_padding (h : Fin 4) : ∀ n : ℕ, n ≤ 48 → st P h n = fun _ _ => 0
  | 0, _ => rfl
  | n + 1, hn => by
    funext d e
    rw [st_succ, st_padding h n (by omega), key, if_pos (by omega), zero_mul, mul_zero, zero_add]

/-- The state goes on over a chunk of rows. -/
theorem st_add (h : Fin 4) (a n : ℕ) :
    state (fun t => key P h (a + t)) (fun t => value P h (a + t)) (fun t => gate P h (a + t)) (fun t => rate P h (a + t)) (st P h a) n = st P h (a + n) :=
  state_add _ _ _ _ _ a n

/-- The result of a padded row: over its root mean square, with the gain and the gate. -/
def gateRow (t : ℕ) (j : Fin 512) : EReal := if q : 48 ≤ t ∧ t - 48 < 2064 then P.Z ⟨t - 48, q.2⟩ j else 0
def rms (o : Fin 128 → EReal) (g : Fin 128 → EReal) (e : Fin 128) : EReal :=
  o e * Ideal.rsqrt (Ideal.div (∑ k, o k * o k) (Ideal.ofBits .f32 0x43000000#32) + Ideal.ofBits .f32 0x358637BD#32) * g e
def normed (h : Fin 4) (t : ℕ) (e : Fin 128) : EReal := rms (fun k => out P h t k) P.ng e
def result (i : Fin 2112) (j : Fin 512) : EReal :=
  if i.val < 48 then 0 else normed P (headOf j) i (placeIn j) * (gateRow P i j * Ideal.logistic (gateRow P i j))

/-- What enters a tile: the last eight rows before it, and the state. -/
def rowsIn (o : Fin 3) (i : Fin 11) (e : Fin 8) (j : Fin 512) : EReal := rowAfter P 56 (192 * i + e) (inThird o j)
def stateIn (i : Fin 11) (j : Fin 512) (n : Fin 128) : EReal := st P (headOf j) (192 * i) (placeIn j) n

end Cert.Gdn

end
-- ==== Proof.GdnEntries.lean ====
/-
  The entries of a chunk's blocks in the forward call of the gated delta rule, when the chunk holds real rows.
-/
module

public import proofs.«01_k».proof.Proof.GdnTile
public import proofs.«01_k».proof.Proof.GdnSpec
public import proofs.«01_k».proof.Proof.SsdMath

@[expose] public section

set_option maxRecDepth 16384

noncomputable section

open Idealize.ShloMosaic Idealize.ShloMosaic.TcCoe

namespace Cert.GdnFwdIdeal.Value

open Cert.GdnFwdIdeal Cert.GdnFwdIdeal.Gen Cert.Cut Cert.Gdn
open Cert.S5 (coe_sum coe_ite)

/-! ## Products of real blocks -/

theorem bdot_coe {s1 s2 s3 : Shape} {n : ℕ} {d : DotDims s1 s2 s3} {i : s3.Idx} {A : Fin n → s1.Idx} {B : Fin n → s2.Idx}
    (hd : ∀ (a : FVec Ideal s1 .f32) (b : FVec Ideal s2 .f32), bdot d a b i = ∑ k, a (A k) * b (B k)) {a : FVec Ideal s1 .f32} {b : FVec Ideal s2 .f32} {f g : Fin n → ℝ}
    (ha : ∀ k, a (A k) = (f k : EReal)) (hb : ∀ k, b (B k) = (g k : EReal)) : bdot d a b i = ((∑ k, f k * g k : ℝ) : EReal) := by
  rw [hd, ← coe_sum]
  exact Finset.sum_congr rfl fun k _ => by rw [ha, hb, EReal.coe_mul]

theorem rest_coe {s : Shape} {a : FVec Ideal s .f32} {i : s.Idx} {x : ℝ} (h : a i = (x : EReal)) : rest a i = ((0 : ℝ) : EReal) := by
  refine (show rest a i = a i - a i from rfl).trans ?_
  rw [h, ← EReal.coe_sub, sub_self]

theorem hdot_coe {s1 s2 s3 : Shape} {n : ℕ} {d : DotDims s1 s2 s3} {i : s3.Idx} {A : Fin n → s1.Idx} {B : Fin n → s2.Idx}
    (hd : ∀ (a : FVec Ideal s1 .f32) (b : FVec Ideal s2 .f32), bdot d a b i = ∑ k, a (A k) * b (B k)) {a : FVec Ideal s1 .f32} {b : FVec Ideal s2 .f32} {f g : Fin n → ℝ}
    (ha : ∀ k, a (A k) = (f k : EReal)) (hb : ∀ k, b (B k) = (g k : EReal)) : hdot d a b i = ((∑ k, f k * g k : ℝ) : EReal) := by
  refine (show hdot d a b i = bdot d a b i + (bdot d a (rest b) i + bdot d (rest a) b i) from rfl).trans ?_
  rw [bdot_coe hd ha hb, bdot_coe hd ha fun k => rest_coe (hb k), bdot_coe hd (fun k => rest_coe (ha k)) hb]
  simp only [mul_zero, zero_mul, Finset.sum_const_zero, EReal.coe_zero, add_zero]

theorem d_score (l s : Fin 64) (a b : FVec Ideal S64x128 .f32) : bdot dot_S64x128_S64x128_S64x64_1_1_0_0_n_n a b (ix2 l s) = ∑ k : Fin 128, a (ix2 l k) * b (ix2 s k) := by
  unfold bdot; pointwise
theorem d_square (l s : Fin 64) (a b : FVec Ideal S64x64 .f32) : bdot dot_S64x64_S64x64_S64x64_1_0_0_1_n_n a b (ix2 l s) = ∑ k : Fin 64, a (ix2 l k) * b (ix2 k s) := by
  unfold bdot; pointwise
theorem d_rows (l : Fin 64) (e : Fin 128) (a : FVec Ideal S64x64 .f32) (b : FVec Ideal S64x128 .f32) :
    bdot dot_S64x64_S64x128_S64x128_1_0_0_1_n_n a b (ix2 l e) = ∑ k : Fin 64, a (ix2 l k) * b (ix2 k e) := by
  unfold bdot; pointwise
theorem d_state (l : Fin 64) (e : Fin 128) (a : FVec Ideal S64x128 .f32) (b : FVec Ideal S128x128 .f32) :
    bdot dot_S64x128_S128x128_S64x128_1_0_0_1_n_n a b (ix2 l e) = ∑ k : Fin 128, a (ix2 l k) * b (ix2 k e) := by
  unfold bdot; pointwise
theorem d_put (d e : Fin 128) (a b : FVec Ideal S64x128 .f32) : bdot dot_S64x128_S64x128_S128x128_0_0_1_1_n_n a b (ix2 d e) = ∑ k : Fin 64, a (ix2 k d) * b (ix2 k e) := by
  unfold bdot; pointwise
theorem d_cols (l : Fin 64) (h : Fin 4) (a : FVec Ideal S64x64 .f32) (b : FVec Ideal S64x4 .f32) : bdot dot_S64x64_S64x4_S64x4_1_0_0_1_n_n a b (ix2 l h) = ∑ k : Fin 64, a (ix2 l k) * b (ix2 k h) := by
  unfold bdot; pointwise
theorem d_lines (l : Fin 64) (h : Fin 4) (a : FVec Ideal S64x4 .f32) (b : FVec Ideal S64x64 .f32) : bdot dot_S64x4_S64x64_S4x64_0_0_1_1_n_n a b (ix2 h l) = ∑ k : Fin 64, a (ix2 k h) * b (ix2 k l) := by
  unfold bdot; pointwise

/-! ## Entries -/

theorem exp_at {s : Shape} (x : FVec Ideal s .f32) (i : s.Idx) : (exp x : FVec Ideal s .f32) i = Ideal.exp (x i) := rfl
theorem addf_at {s : Shape} (x y : FVec Ideal s .f32) (i : s.Idx) : (addf x y : FVec Ideal s .f32) i = x i + y i := rfl
theorem mulf_at {s : Shape} (x y : FVec Ideal s .f32) (i : s.Idx) : (mulf x y : FVec Ideal s .f32) i = x i * y i := rfl
theorem subf_at {s : Shape} (x y : FVec Ideal s .f32) (i : s.Idx) : (subf x y : FVec Ideal s .f32) i = x i - y i := rfl
theorem select_at {s : Shape} (c : IVec s 1) (x y : FVec Ideal s .f32) (i : s.Idx) : (select c x y : FVec Ideal s .f32) i = if c i = 1#1 then x i else y i := rfl
theorem tall_128 (x : FVec Ideal S192x1 .f32) (r : Fin 192) (n : Fin 128) : broadcastTo S192x128 x broadcasts_S192x1_S192x128 (ix2 r n) = x (ix2 r 0) := by pointwise
theorem col_128 (x : FVec Ideal S64x1 .f32) (r : Fin 64) (n : Fin 128) : broadcastTo S64x128 x broadcasts_S64x1_S64x128 (ix2 r n) = x (ix2 r 0) := by pointwise
theorem col_64 (x : FVec Ideal S64x1 .f32) (r n : Fin 64) : broadcastTo S64x64 x broadcasts_S64x1_S64x64 (ix2 r n) = x (ix2 r 0) := by pointwise
theorem row_64 (x : FVec Ideal S1x64 .f32) (r n : Fin 64) : broadcastTo S64x64 x broadcasts_S1x64_S64x64 (ix2 r n) = x (ix2 0 n) := by pointwise
theorem one_1 (x : FVec Ideal S1x1 .f32) (r : Fin 64) : broadcastTo S64x1 x broadcasts_S1x1_S64x1 (ix2 r 0) = x (ix2 0 0) := by pointwise
theorem one_128 (x : FVec Ideal S1x1 .f32) (r n : Fin 128) : broadcastTo S128x128 x broadcasts_S1x1_S128x128 (ix2 r n) = x (ix2 0 0) := by pointwise

theorem upTo_word : ∀ l s : Fin 64, IntOp.cmpi CmpIPredicate.sge (BitVec.ofNat 32 l) (BitVec.ofNat 32 s) = if s.val ≤ l.val then 1#1 else 0#1 := by decide +kernel
theorem before_word : ∀ l s : Fin 64, IntOp.cmpi CmpIPredicate.sgt (BitVec.ofNat 32 l) (BitVec.ofNat 32 s) = if s.val < l.val then 1#1 else 0#1 := by decide +kernel
theorem same_word : ∀ l s : Fin 64, IntOp.cmpi CmpIPredicate.eq (BitVec.ofNat 32 l) (BitVec.ofNat 32 s) = if l = s then 1#1 else 0#1 := by decide +kernel
theorem downTo_word : ∀ s l : Fin 64, IntOp.cmpi CmpIPredicate.sle (BitVec.ofNat 32 s) (BitVec.ofNat 32 l) = if s.val ≤ l.val then 1#1 else 0#1 := by decide +kernel
theorem bit_one (p : Prop) [Decidable p] : (FloatOps.sitofp FTy.f32 (BitVec.setWidth 32 (if p then 1#1 else 0#1)) : Ideal .f32) = (((if p then 1 else 0 : ℝ)) : EReal) := by
  split_ifs
  · show (((BitVec.setWidth 32 1#1).toInt : ℝ) : EReal) = _
    norm_num
  · show (((BitVec.setWidth 32 0#1).toInt : ℝ) : EReal) = _
    norm_num
theorem incl_at (l s : Fin 64) : k0_pay23 (ix2 l s) = if s.val ≤ l.val then 1#1 else 0#1 := by
  refine Eq.trans ?_ (upTo_word l s); pointwise [k0_pay23]
theorem strict_at (l s : Fin 64) : k0_pay24 (ix2 l s) = if s.val < l.val then 1#1 else 0#1 := by
  refine Eq.trans ?_ (before_word l s); pointwise [k0_pay24]
theorem eye_at (l s : Fin 64) : k0_pay25 (F := Ideal) (ix2 l s) = (((if l = s then 1 else 0 : ℝ)) : EReal) := by
  pointwise [k0_pay25]; rw [same_word, bit_one]
theorem below_at (l s : Fin 64) : k0_pay26 (F := Ideal) (ix2 l s) = (((if s.val ≤ l.val then 1 else 0 : ℝ)) : EReal) := by
  pointwise [k0_pay26, k0_pay23]; rw [upTo_word, bit_one]
theorem above_at (s l : Fin 64) : k0_pay27 (F := Ideal) (ix2 s l) = (((if s.val ≤ l.val then 1 else 0 : ℝ)) : EReal) := by
  pointwise [k0_pay27]; rw [downTo_word, bit_one]

/-! ## The inverse -/

/-- A block holds a matrix of real numbers. -/
def Is (x : FVec Ideal S64x64 .f32) (M : Matrix (Fin 64) (Fin 64) ℝ) : Prop := ∀ l s, x (ix2 l s) = (M l s : EReal)

theorem sq_is {x : FVec Ideal S64x64 .f32} {M : Matrix (Fin 64) (Fin 64) ℝ} (h : Is x M) : Is (sq x) (M * M) := fun l s => by
  rw [Matrix.mul_apply]
  exact hdot_coe (d_square l s) (fun k => h l k) fun k => h k s
theorem grow_is {x y : FVec Ideal S64x64 .f32} {P M : Matrix (Fin 64) (Fin 64) ℝ} (hx : Is x P) (hy : Is y M) : Is (grow x y) (P + P * M) := fun l s => by
  unfold grow
  rw [addf_at, hx, hdot_coe (d_square l s) (fun k => hx l k) fun k => hy k s, ← EReal.coe_add, Matrix.add_apply, Matrix.mul_apply]
theorem inv_is {x : FVec Ideal S64x64 .f32} {L : Matrix (Fin 64) (Fin 64) ℝ} (h : Is x L) : Is (inv x) (invOf L) := by
  have h0 : Is (subf (k0_pay25 (F := Ideal)) x) (1 - L) := fun l s => by
    rw [subf_at, eye_at, h, ← EReal.coe_sub, Matrix.sub_apply, Matrix.one_apply]
  have q1 := sq_is h
  have q2 := sq_is q1
  have q3 := sq_is q2
  have q4 := sq_is q3
  exact grow_is (grow_is (grow_is (grow_is (grow_is h0 q1) q2) q3) q4) (sq_is q4)

/-! ## A chunk -/

section Chunk
variable {Q K V : FVec Ideal S64x128 .f32} {bt gc : FVec Ideal S64x1 .f32} {gr : FVec Ideal S1x64 .f32} {S : FVec Ideal S128x128 .f32}
  {q k v : ℕ → Fin 128 → ℝ} {b g : ℕ → ℝ} {s : Fin 128 → Fin 128 → ℝ}
  (hq : ∀ (l : Fin 64) (d : Fin 128), Q (ix2 l d) = (q l d : EReal)) (hk : ∀ (l : Fin 64) (d : Fin 128), K (ix2 l d) = (k l d : EReal))
  (hv : ∀ (l : Fin 64) (d : Fin 128), V (ix2 l d) = (v l d : EReal)) (hb : ∀ l : Fin 64, bt (ix2 l 0) = (b l : EReal))
  (hc : ∀ l : Fin 64, gc (ix2 l 0) = (upto g l : EReal)) (hr : ∀ l : Fin 64, gr (ix2 0 l) = (upto g l : EReal))
  (hs : ∀ d e : Fin 128, S (ix2 d e) = (s d e : EReal))

include hc hr in
theorem kDecay_at (l j : Fin 64) : kDecay gc gr (ix2 l j) = ((if j.val ≤ l.val then Real.exp (upto g l - upto g j) else 0 : ℝ) : EReal) := by
  unfold kDecay
  rw [exp_at, select_at, incl_at, subf_at, col_64, row_64, hc, hr]
  by_cases h : j.val ≤ l.val
  · simp only [if_pos h, if_true]
    rw [← EReal.coe_sub]
    rfl
  · simp only [if_neg h]
    exact EReal.coe_zero.symm

include hk hb in
theorem kKb_at (l : Fin 64) (d : Fin 128) : kKb K bt (ix2 l d) = ((k l d * b l : ℝ) : EReal) := by
  unfold kKb; rw [mulf_at, col_128, hk, hb, ← EReal.coe_mul]

include hk hb hc hr in
theorem kL_is : Is (kL K bt gc gr) (mat k b g) := fun l j => by
  unfold kL mat
  rw [select_at, strict_at]
  by_cases h : j.val < l.val
  · simp only [if_pos h, if_true]
    rw [mulf_at, bdot_coe (d_score l j) (kKb_at hk hb l) (hk j), kDecay_at hc hr, if_pos (by omega), ← EReal.coe_mul]
  · simp only [if_neg h]
    exact Cert.Lru.ofBits_zero.trans EReal.coe_zero.symm

include hk hb hc hr in
theorem kInv_is : Is (kInv K bt gc gr) (invOf (mat k b g)) := inv_is (kL_is hk hb hc hr)

include hk hv hb hc hr hs in
theorem kNew_at (l : Fin 64) (e : Fin 128) : kNew K V bt gc gr S (ix2 l e) = (new k v b g s l e : EReal) := by
  have hu : kU K V bt gc gr (ix2 l e) = ((∑ j : Fin 64, invOf (mat k b g) l j * (v j e * b j) : ℝ) : EReal) :=
    hdot_coe (d_rows l e) (kInv_is hk hb hc hr l) fun j => by rw [mulf_at, col_128, hv, hb, ← EReal.coe_mul]
  have hw : ∀ d : Fin 128, kW K bt gc gr (ix2 l d) = ((∑ j : Fin 64, invOf (mat k b g) l j * (k j d * b j * Real.exp (upto g j)) : ℝ) : EReal) := fun d =>
    hdot_coe (d_rows l d) (kInv_is hk hb hc hr l) fun j => by rw [mulf_at, kKb_at hk hb, col_128, exp_at, hc, Cert.S5.exp_coe, ← EReal.coe_mul]
  unfold kNew
  rw [subf_at, hu, bdot_coe (d_state l e) hw fun d => hs d e, ← EReal.coe_sub, solve]

include hq hk hv hb hc hr hs in
theorem kOut_at (l : Fin 64) (e : Fin 128) : kOut Q K V bt gc gr S (ix2 l e) = ((∑ d, q l d * state k v b g s (l + 1) d e : ℝ) : EReal) := by
  have ha : ∀ j : Fin 64, kAttn Q K gc gr (ix2 l j) = (((∑ d, q l d * k j d) * (if j.val ≤ l.val then Real.exp (upto g l - upto g j) else 0) : ℝ) : EReal) := fun j => by
    unfold kAttn
    rw [mulf_at, bdot_coe (d_score l j) (hq l) (hk j), kDecay_at hc hr, ← EReal.coe_mul]
  have hd : ∀ d : Fin 128, kQd Q gc (ix2 l d) = ((q l d * Real.exp (upto g l) : ℝ) : EReal) := fun d => by
    unfold kQd
    rw [mulf_at, col_128, exp_at, hq, hc, Cert.S5.exp_coe, ← EReal.coe_mul]
  unfold kOut
  rw [addf_at, bdot_coe (d_state l e) hd fun d => hs d e, bdot_coe (d_rows l e) ha fun j => kNew_at hk hv hb hc hr hs j e, ← EReal.coe_add, out_eq]

include hc in
theorem kLast_at : kLast gc (ix2 0 0) = (upto g 63 : EReal) := by
  unfold kLast
  rw [cut_at]
  exact hc 63

include hk hv hb hc hr hs in
theorem kNext_at (d e : Fin 128) : kNext K V bt gc gr S (ix2 d e) = (state k v b g s 64 d e : EReal) := by
  have hd : ∀ j : Fin 64, kKd K gc (ix2 j d) = ((k j d * Real.exp (upto g 63 - upto g j) : ℝ) : EReal) := fun j => by
    unfold kKd
    rw [mulf_at, col_128, exp_at, subf_at, one_1, kLast_at hc, hk, hc, ← EReal.coe_sub, Cert.S5.exp_coe, ← EReal.coe_mul]
  unfold kNext
  rw [addf_at, mulf_at, one_128, exp_at, kLast_at hc, hs, Cert.S5.exp_coe, bdot_coe (d_put d e) hd fun j => kNew_at hk hv hb hc hr hs j e, ← EReal.coe_mul, ← EReal.coe_add, next_eq]

end Chunk

end Cert.GdnFwdIdeal.Value

end
-- ==== Proof.GdnRows.lean ====
/-
  What a tile of the forward call of the gated delta rule holds, and how it puts its heads and its chunks together.
-/
module

public import proofs.«01_k».proof.Proof.GdnEntries

@[expose] public section

set_option maxRecDepth 16384

noncomputable section

open Idealize.ShloMosaic Idealize.ShloMosaic.TcCoe

namespace Cert.GdnFwdIdeal.Value

open Cert.GdnFwdIdeal Cert.GdnFwdIdeal.Gen Cert.Cut Cert.Gdn

/-- A tile holds the rows from `T` on. -/
structure Holds (P : Args) (T : ℕ) (m : FVec Ideal S192x1 .f32) (Q K V : FVec Ideal S192x512 .f32) (bt g : FVec Ideal S192x4 .f32) : Prop where
  mask : ∀ r : Fin 192, m (ix2 r 0) = ((if T + r < 48 then 0 else 1 : ℝ) : EReal)
  queries : ∀ (r : Fin 192) (j : Fin 512), Q (ix2 r j) = (act P 51 (T + r) (inThird 0 j) : EReal)
  keys : ∀ (r : Fin 192) (j : Fin 512), K (ix2 r j) = (act P 51 (T + r) (inThird 1 j) : EReal)
  values : ∀ (r : Fin 192) (j : Fin 512), V (ix2 r j) = (act P 51 (T + r) (inThird 2 j) : EReal)
  gates : ∀ (r : Fin 192) (h : Fin 4), bt (ix2 r h) = (gate P h (T + r) : EReal)
  rates : ∀ (r : Fin 192) (h : Fin 4), g (ix2 r h) = (rate P h (T + r) : EReal)

/-! ## The rows of a head -/

theorem unit_at (y : FVec Ideal S192x128 .f32) (r : Fin 192) (e : Fin 128) :
    mulf y (broadcastTo S192x128 (rsqrt (addf (shapeCast S192x1 (multiReduction .add [1] S192 (mulf y y) 0x00000000#32 reduces_S192x128_S192 (.inl rfl) rfl) shapeCasts_S192_S192x1)
      (broadcast S192x1 (Scalar.ofBits .f32 0x358637BD#32 : Ideal .f32)))) broadcasts_S192x1_S192x128) (ix2 r e)
      = y (ix2 r e) * Ideal.rsqrt (∑ k : Fin 128, y (ix2 r k) * y (ix2 r k) + Ideal.ofBits .f32 0x358637BD#32) := by pointwise
theorem scaled_at (y : FVec Ideal S192x128 .f32) (r : Fin 192) (e : Fin 128) :
    mulf y (broadcast S192x128 (Scalar.ofBits .f32 0x3DB504F3#32 : Ideal .f32)) (ix2 r e) = y (ix2 r e) * Ideal.ofBits .f32 0x3DB504F3#32 := by pointwise
theorem kRms_at (ng : FVec Ideal S1x128 .f32) (o : FVec Ideal S64x128 .f32) (l : Fin 64) (e : Fin 128) :
    kRms ng o (ix2 l e) = rms (fun k => o (ix2 l k)) (fun k => ng (ix2 0 k)) e := by
  unfold rms
  pointwise [kRms]

section Head
variable {P : Args} {T : ℕ} {X : FVec Ideal S192x512 .f32} {o : Fin 3} (hX : ∀ (r : Fin 192) (j : Fin 512), X (ix2 r j) = (act P 51 (T + r) (inThird o j) : EReal))
  (h : ℕ) (hh : h < 4)
include hX

theorem kHead_at (r : Fin 192) (e : Fin 128) : kHead X h hh (ix2 r e) = (part P 51 o ⟨h, hh⟩ (T + r) e : EReal) := by
  unfold kHead part
  rw [cut_at, hX]
  simp only [Nat.zero_add]

theorem kUnit_at (r : Fin 192) (e : Fin 128) : kUnit X h hh (ix2 r e) = (unitPart P 51 o ⟨h, hh⟩ (T + r) e : EReal) := by
  unfold kUnit unitPart
  rw [unit_at, unit_coe fun e => kHead_at hX h hh r e, kHead_at hX, ← EReal.coe_mul]

end Head

theorem masked (t : ℕ) (x : ℝ) : (x : EReal) * ((if t < 48 then 0 else 1 : ℝ) : EReal) = ((if t < 48 then 0 else x : ℝ) : EReal) := by
  rw [← EReal.coe_mul]
  split_ifs
  · rw [mul_zero]
  · rw [mul_one]

theorem rate_at {P : Args} {T : ℕ} {m : FVec Ideal S192x1 .f32} {Q K V : FVec Ideal S192x512 .f32} {bt g : FVec Ideal S192x4 .f32}
    (H : Holds P T m Q K V bt g) (c : ℕ) (hc : c < 3) (l : Fin 64) (n : Fin 4) : cut 64 4 (64 * c) 0 g (by omega) (by omega) (ix2 l n) = (rate P n (T + 64 * c + l) : EReal) := by
  rw [cut_at, H.rates]
  simp only [Nat.zero_add, ← Nat.add_assoc]

section Tile
variable {P : Args} {T : ℕ} {m : FVec Ideal S192x1 .f32} {Q K V : FVec Ideal S192x512 .f32} {bt g : FVec Ideal S192x4 .f32}
  (H : Holds P T m Q K V bt g) (c h : ℕ) (hc : c < 3) (hh : h < 4)
include H

theorem tQ_at (l : Fin 64) (e : Fin 128) : tQ m Q c h hc hh (ix2 l e) = (query P ⟨h, hh⟩ (T + 64 * c + l) e : EReal) := by
  unfold tQ kQ query
  rw [cut_at, mulf_at, scaled_at, kUnit_at H.queries, tall_128, H.mask, scale_coe, ← EReal.coe_mul, masked]
  simp only [Nat.zero_add, ← Nat.add_assoc]

theorem tK_at (l : Fin 64) (e : Fin 128) : tK m K c h hc hh (ix2 l e) = (key P ⟨h, hh⟩ (T + 64 * c + l) e : EReal) := by
  unfold tK kK key
  rw [cut_at, mulf_at, kUnit_at H.keys, tall_128, H.mask, masked]
  simp only [Nat.zero_add, ← Nat.add_assoc]

theorem tV_at (l : Fin 64) (e : Fin 128) : tV m V c h hc hh (ix2 l e) = (value P ⟨h, hh⟩ (T + 64 * c + l) e : EReal) := by
  unfold tV kV value
  rw [cut_at, mulf_at, kHead_at H.values, tall_128, H.mask, masked]
  simp only [Nat.zero_add, ← Nat.add_assoc]

theorem tB_at (l : Fin 64) : tB bt c h hc hh (ix2 l 0) = (gate P ⟨h, hh⟩ (T + 64 * c + l) : EReal) := by
  unfold tB
  rw [cut_at, cut_at, H.gates]
  simp only [Nat.zero_add, ← Nat.add_assoc]
  rfl

theorem tCol_at (l : Fin 64) : tCol g c h hc hh (ix2 l 0) = (upto (fun t => rate P ⟨h, hh⟩ (T + 64 * c + t)) l : EReal) := by
  unfold tCol
  rw [cut_at]
  refine (hdot_coe (d_cols _ _) (fun k => below_at _ k) fun k => rate_at H c hc k _).trans (congrArg _ ?_)
  rw [upto, ← sum_upto]
  refine Finset.sum_congr rfl fun k _ => ?_
  simp only [Nat.zero_add, ite_mul, one_mul, zero_mul]
  rfl

theorem tRow_at (l : Fin 64) : tRow g c h hc hh (ix2 0 l) = (upto (fun t => rate P ⟨h, hh⟩ (T + 64 * c + t)) l : EReal) := by
  unfold tRow
  rw [cut_at]
  refine (hdot_coe (d_lines _ _) (fun k => rate_at H c hc k _) fun k => above_at k _).trans (congrArg _ ?_)
  rw [upto, ← sum_upto]
  refine Finset.sum_congr rfl fun k _ => ?_
  simp only [Nat.zero_add, mul_ite, mul_one, mul_zero]
  rfl

section
variable {a : ℕ} (ha : T + 64 * c = a) {s : FVec Ideal S128x128 .f32} (hs : ∀ d e : Fin 128, s (ix2 d e) = (st P ⟨h, hh⟩ a d e : EReal))
include ha hs

theorem tNext_at (d e : Fin 128) : tNext m K V bt g c h hc hh s (ix2 d e) = (st P ⟨h, hh⟩ (a + 64) d e : EReal) := by
  subst ha
  unfold tNext
  rw [kNext_at (k := fun t => key P ⟨h, hh⟩ (T + 64 * c + t)) (v := fun t => value P ⟨h, hh⟩ (T + 64 * c + t)) (b := fun t => gate P ⟨h, hh⟩ (T + 64 * c + t)) (g := fun t => rate P ⟨h, hh⟩ (T + 64 * c + t))
    (tK_at H c h hc hh) (tV_at H c h hc hh) (tB_at H c h hc hh) (tCol_at H c h hc hh) (tRow_at H c h hc hh) hs, ← st_add P ⟨h, hh⟩ (T + 64 * c)]

theorem tOut_at (l : Fin 64) (e : Fin 128) : tOut m Q K V bt g c h hc hh s (ix2 l e) = (out P ⟨h, hh⟩ (a + l) e : EReal) := by
  subst ha
  unfold tOut out
  rw [kOut_at (q := fun t => query P ⟨h, hh⟩ (T + 64 * c + t)) (k := fun t => key P ⟨h, hh⟩ (T + 64 * c + t)) (v := fun t => value P ⟨h, hh⟩ (T + 64 * c + t)) (b := fun t => gate P ⟨h, hh⟩ (T + 64 * c + t)) (g := fun t => rate P ⟨h, hh⟩ (T + 64 * c + t))
    (tQ_at H c h hc hh) (tK_at H c h hc hh) (tV_at H c h hc hh) (tB_at H c h hc hh) (tCol_at H c h hc hh) (tRow_at H c h hc hh) hs, Nat.add_assoc _ l.val 1, ← st_add P ⟨h, hh⟩ (T + 64 * c)]

end

end Tile

/-- The tile's states before it are those after `n` rows. -/
def Enters (P : Args) (n : ℕ) (S : FVec Ideal S512x128 .f32) : Prop :=
  ∀ (j : Fin 512) (e : Fin 128), S (ix2 j e) = (st P (headOf j) n (placeIn j) e : EReal)

/-! ## Heads and chunks put together -/

theorem pick_col (y : (h : ℕ) → h < 4 → FVec Ideal S64x128 .f32) (l : Fin 64) (j : Fin 512) (h : ℕ) (hh : h < 4) (q : Fin 128) (e : h = j.val / 128) (e' : q.val = j.val % 128) :
    y h hh (ix2 l q) = y (j / 128) (by omega) (ix2 l (placeIn j)) := by
  subst e
  exact congrArg (fun q => y _ _ (ix2 l q)) (Fin.ext e')

theorem side_at (y : (h : ℕ) → h < 4 → FVec Ideal S64x128 .f32) (l : Fin 64) (j : Fin 512) :
    sideBySide y (ix2 l j) = y (j / 128) (by omega) (ix2 l (placeIn j)) := by
  have hj := j.isLt
  pointwise [sideBySide]
  split_ifs <;> exact pick_col y l j _ _ _ (by omega) (by dsimp only; omega)

theorem pick_row (y : (h : ℕ) → h < 4 → FVec Ideal S128x128 .f32) (j : Fin 512) (n : Fin 128) (h : ℕ) (hh : h < 4) (q : Fin 128) (e : h = j.val / 128) (e' : q.val = j.val % 128) :
    y h hh (ix2 q n) = y (j / 128) (by omega) (ix2 (placeIn j) n) := by
  subst e
  exact congrArg (fun q => y _ _ (ix2 q n)) (Fin.ext e')

theorem stack_at (y : (h : ℕ) → h < 4 → FVec Ideal S128x128 .f32) (j : Fin 512) (n : Fin 128) :
    stacked y (ix2 j n) = y (j / 128) (by omega) (ix2 (placeIn j) n) := by
  have hj := j.isLt
  pointwise [stacked]
  split_ifs <;> exact pick_row y j n _ _ _ (by omega) (by dsimp only; omega)

theorem chunks_at (y0 y1 y2 : FVec Ideal S64x512 .f32) (r : Fin 192) (j : Fin 512) :
    chunks y0 y1 y2 (ix2 r j) = if h : r.val < 64 then y0 (ix2 ⟨r, h⟩ j) else if h' : r.val - 64 < 64 then y1 (ix2 ⟨r - 64, h'⟩ j) else y2 (ix2 ⟨r - 64 - 64, by omega⟩ j) := by
  pointwise [chunks]

section Tile
variable {P : Args} {T : ℕ} {m : FVec Ideal S192x1 .f32} {Q K V : FVec Ideal S192x512 .f32} {bt g : FVec Ideal S192x4 .f32} {S : FVec Ideal S512x128 .f32} {ng : FVec Ideal S1x128 .f32}
  (H : Holds P T m Q K V bt g) (hS : Enters P T S)
include H hS

omit H in
theorem tS0_at (h : ℕ) (hh : h < 4) (d e : Fin 128) : tS0 S h hh (ix2 d e) = (st P ⟨h, hh⟩ T d e : EReal) := by
  unfold tS0
  rw [cut_at, hS]
  have e1 : (128 * h + d.val) / 128 = h := by have := d.isLt; omega
  have e2 : (128 * h + d.val) % 128 = d.val := by have := d.isLt; omega
  simp only [headOf, placeIn, e1, e2, Nat.zero_add]

theorem tS1_at (h : ℕ) (hh : h < 4) (d e : Fin 128) : tS1 m K V bt g S h hh (ix2 d e) = (st P ⟨h, hh⟩ (T + 64) d e : EReal) :=
  tNext_at H 0 h _ hh rfl (tS0_at hS h hh) d e
theorem tS2_at (h : ℕ) (hh : h < 4) (d e : Fin 128) : tS2 m K V bt g S h hh (ix2 d e) = (st P ⟨h, hh⟩ (T + 128) d e : EReal) :=
  tNext_at H 1 h _ hh (a := T + 64) (by omega) (tS1_at H hS h hh) d e
theorem tS3_at (h : ℕ) (hh : h < 4) (d e : Fin 128) : tS3 m K V bt g S h hh (ix2 d e) = (st P ⟨h, hh⟩ (T + 192) d e : EReal) :=
  tNext_at H 2 h _ hh (a := T + 128) (by omega) (tS2_at H hS h hh) d e

theorem tStates_at : Enters P (T + 192) (tStates m K V bt g S) := by
  intro j n
  unfold tStates
  rw [stack_at, tS3_at H hS]

theorem tMixed_at (hg : ∀ e : Fin 128, ng (ix2 0 e) = P.ng e) (r : Fin 192) (j : Fin 512) :
    tMixed m Q K V bt g S ng (ix2 r j) = normed P (headOf j) (T + r) (placeIn j) := by
  have hj : j.val / 128 < 4 := by have := j.isLt; omega
  have at_row : ∀ (o : FVec Ideal S64x128 .f32) (l : Fin 64) (t : ℕ), (∀ e : Fin 128, o (ix2 l e) = (out P (headOf j) t e : EReal)) → T + r.val = t →
      kRms ng o (ix2 l (placeIn j)) = normed P (headOf j) (T + r) (placeIn j) := by
    intro o l t ho e
    subst e
    rw [kRms_at, normed]
    simp only [ho, hg]
  unfold tMixed
  refine (chunks_at _ _ _ r j).trans ?_
  split_ifs
  · rw [side_at]
    exact at_row _ _ _ (tOut_at H 0 _ (by decide) hj rfl (tS0_at hS _ hj) _) (by dsimp only; omega)
  · rw [side_at]
    exact at_row _ _ _ (tOut_at H 1 _ (by decide) hj (a := T + 64) (by omega) (tS1_at H hS _ hj) _) (by dsimp only; omega)
  · rw [side_at]
    exact at_row _ _ _ (tOut_at H 2 _ (by decide) hj (a := T + 128) (by omega) (tS2_at H hS _ hj) _) (by dsimp only; omega)

end Tile

end Cert.GdnFwdIdeal.Value

end
-- ==== Proof.GdnParts.lean ====
/-
  What a tile of the forward call of the gated delta rule makes out of its blocks and the memory carried on, and its entries:
  the rows that are not padding, the convolved rows, the gates and the rates.
-/
module

public import proofs.«01_k».proof.Proof.GdnRows

@[expose] public section

set_option maxRecDepth 16384

noncomputable section

open Idealize.ShloMosaic Idealize.ShloMosaic.TcCoe

namespace Cert.GdnFwdIdeal.Value

open Cert.GdnFwdIdeal Cert.GdnFwdIdeal.Gen Cert.Gdn Cert.S5 Cert.Lru

section
variable (i : grid0.Coords) (x0 x1 x2 x3 : Vec Ideal S192x512 .f32) (x4 : Vec Ideal S192x128 .f32) (x5 x6 x7 : Vec Ideal S4x512 .f32) (x8 x9 : Vec Ideal S1x4 .f32) (x10 : Vec Ideal S1x128 .f32)
  (s0 s1 s2 : Vec Ideal S8x512 .f32) (s3 : Vec Ideal S512x128 .f32)

/-- The rows of a tile that are not padding, its convolved rows, its gates and its rates. -/
abbrev t_mask : FVec Ideal S192x1 .f32 := k0_pay22 (Scalar.muli (BitVec.ofNat 32 (i 1).val) 192#32)
abbrev t_conv (w : Vec Ideal S4x512 .f32) (x : Vec Ideal S192x512 .f32) (s : Vec Ideal S8x512 .f32) : FVec Ideal S192x512 .f32 := k0_pay28 (k0_pay11 w) (k0_pay17 x) s
abbrev t_beta : FVec Ideal S192x4 .f32 := k0_pay33 (k0_pay21 x4) (t_mask i)
abbrev t_rate : FVec Ideal S192x4 .f32 :=
  k0_pay40 (t_mask i) (k0_pay34 (k0_pay14 x8)) (k0_pay37 (k0_pay15 x9) (k0_pay21 x4)) (k0_pay38 (k0_pay15 x9) (k0_pay21 x4)) (k0_pay39 (k0_pay15 x9) (k0_pay21 x4))
/-- The tile's result, and what is carried on: the last rows and the states. -/
def t_y : FVec Ideal S192x512 .f32 :=
  mulf (mulf (tMixed (t_mask i) (t_conv x5 x0 s0) (t_conv x6 x1 s1) (t_conv x7 x2 s2) (t_beta i x4) (t_rate i x4 x8 x9) s3 (k0_pay16 x10)) (k0_pay41 (k0_pay20 x3)))
    (broadcastTo S192x512 (t_mask i) broadcasts_S192x1_S192x512)
def c_rows (x : Vec Ideal S192x512 .f32) : FVec Ideal S8x512 .f32 := k0_pay3 (k0_pay643 (k0_pay17 x))
def c_states : FVec Ideal S512x128 .f32 :=
  k0_pay6 (tStates (t_mask i) (t_conv x6 x1 s1) (t_conv x7 x2 s2) (t_beta i x4) (t_rate i x4 x8 x9) s3)

end

/-! ## The entries -/

theorem past_bit : ∀ (a : Fin 11) (r : Fin 192), IntOp.cmpi CmpIPredicate.sge (IntOp.addi (Scalar.muli (BitVec.ofNat 32 a) 192#32) (BitVec.ofNat 32 r)) 48#32
    = if ¬ 192 * a.val + r.val < 48 then 1#1 else 0#1 := by decide +kernel

theorem mask_at (i : grid0.Coords) (a : Fin 11) (ha : (i 1).val = a.val) (r : Fin 192) : t_mask i (ix2 r 0) = ((if 192 * a.val + r.val < 48 then 0 else 1 : ℝ) : EReal) := by
  pointwise [t_mask, k0_pay22]
  rw [ha, past_bit, bit_one, ite_not]

/-- A padded row of what makes the gates and the rates. -/
def gateIn (P : Args) (t : ℕ) (h : Fin 4) : EReal := if q : 48 ≤ t ∧ t - 48 < 2064 then P.B ⟨t - 48, q.2⟩ h else 0
def rateIn (P : Args) (t : ℕ) (h : Fin 4) : ℝ := if q : 48 ≤ t ∧ t - 48 < 2064 then P.A ⟨t - 48, q.2⟩ h else 0

section Rows
variable {P : Args} {a : Fin 11}

theorem conv_at (o : Fin 3) {w : FVec Ideal S4x512 .f32} {x : FVec Ideal S192x512 .f32} {s : Vec Ideal S8x512 .f32}
    (hw : ∀ (k : Fin 4) (n : Fin 512), w (ix2 k n) = (P.cw k (inThird o n) : EReal)) (hx : ∀ (r : Fin 192) (n : Fin 512), x (ix2 r n) = (rowAfter P 56 (192 * a + (r + 8)) (inThird o n) : EReal))
    (hs : ∀ (e : Fin 8) (n : Fin 512), s (ix2 e n) = (rowAfter P 56 (192 * a + e) (inThird o n) : EReal)) (r : Fin 192) (n : Fin 512) :
    k0_pay28 w x s (ix2 r n) = (act P 51 (192 * a + r) (inThird o n) : EReal) := by
  have hz : ∀ (d : ℕ) (hd : d < 8), (if h : d + r.val < 8 then s (ix2 ⟨d + r, h⟩ n) else x (ix2 ⟨d + r - 8, by omega⟩ n)) = (rowAfter P 56 (192 * a + r + d) (inThird o n) : EReal) := by
    intro d hd
    by_cases h : d + r.val < 8
    · rw [dif_pos h, hs]
      exact congrArg (fun t => ((rowAfter P 56 t (inThird o n) : ℝ) : EReal)) (show 192 * a.val + (d + r.val) = 192 * a.val + r.val + d by omega)
    · rw [dif_neg h, hx]
      exact congrArg (fun t => ((rowAfter P 56 t (inThird o n) : ℝ) : EReal)) (show 192 * a.val + (d + r.val - 8 + 8) = 192 * a.val + r.val + d by omega)
  have h8 : x (ix2 r n) = (rowAfter P 56 (192 * a + r + 8) (inThird o n) : EReal) := hx r n
  pointwise [k0_pay28]
  rw [hz 5 (by omega), hz 6 (by omega), hz 7 (by omega), h8, hw, hw, hw, hw]
  simp only [← EReal.coe_mul, ← EReal.coe_add]
  rw [silu_coe]
  unfold act conv
  rw [← rowAfter_add P 51 5, ← rowAfter_add P 51 5, ← rowAfter_add P 51 5, ← rowAfter_add P 51 5]

variable {m : FVec Ideal S192x1 .f32} (hm : ∀ r : Fin 192, m (ix2 r 0) = ((if 192 * a.val + r.val < 48 then 0 else 1 : ℝ) : EReal)) {s : FVec Ideal S192x128 .f32}
include hm

theorem gates_at (hb : ∀ (r : Fin 192) (h : Fin 4), s (ix2 r ⟨h, by omega⟩) = gateIn P (192 * a + r) h) (r : Fin 192) (h : Fin 4) :
    k0_pay33 s m (ix2 r h) = (gate P h (192 * a + r) : EReal) := by
  have hr := r.isLt
  have hA := a.isLt
  pointwise [k0_pay33]
  rw [hb, hm, logistic_coe', masked]
  unfold gate gateIn
  by_cases q : 192 * a.val + r.val < 48
  · rw [if_pos q, dif_neg (by omega)]
  · rw [if_neg q, dif_pos ⟨by omega, by omega⟩, dif_pos ⟨by omega, by omega⟩]

theorem rates_at (ha : ∀ (r : Fin 192) (h : Fin 4), s (ix2 r ⟨4 + h, by omega⟩) = (rateIn P (192 * a + r) h : EReal)) {al db : FVec Ideal S1x4 .f32}
    (hal : ∀ h : Fin 4, al (ix2 0 h) = (P.al h : EReal)) (hdb : ∀ h : Fin 4, db (ix2 0 h) = (P.db h : EReal)) (r : Fin 192) (h : Fin 4) :
    k0_pay40 m (k0_pay34 al) (k0_pay37 db s) (k0_pay38 db s) (k0_pay39 db s) (ix2 r h) = (rate P h (192 * a + r) : EReal) := by
  have hr := r.isLt
  have hA := a.isLt
  have hs : k0_pay35 db s (ix2 r h) = ((rateIn P (192 * a + r) h + P.db h : ℝ) : EReal) := by
    pointwise [k0_pay35]
    rw [ha, hdb, EReal.coe_add]
  unfold k0_pay37 k0_pay38 k0_pay39 k0_pay36
  generalize k0_pay35 db s = x at hs
  pointwise [k0_pay40, k0_pay34]
  rw [hs, hal, hm]
  rw [if_neg (fun h => h rfl), zero_sub, zero_sub, exp_coe, ← EReal.coe_neg]
  refine (congrArg₂ (fun x y : EReal => x * y) (congrArg₂ (fun x y : EReal => x * y) rfl (soft_coe (rateIn P (192 * a + r) h + P.db h))) rfl).trans ?_
  rw [← EReal.coe_mul, masked]
  unfold rate rateIn
  by_cases q : 192 * a.val + r.val < 48
  · rw [if_pos q, dif_neg (by omega)]
  · rw [if_neg q, dif_pos ⟨by omega, by omega⟩, dif_pos ⟨by omega, by omega⟩]

end Rows

end Cert.GdnFwdIdeal.Value

end
-- ==== Proof.GdnBlocks.lean ====
/-
  What one point of the forward call of the gated delta rule leaves in its results and in the memory it carries on.
-/
module

public import proofs.«01_k».proof.Proof.Gen.GdnFwdIdeal.Value
public import proofs.«01_k».proof.Proof.GdnParts

@[expose] public section

set_option maxRecDepth 16384

noncomputable section

open Idealize.ShloMosaic Idealize.ShloMosaic.TcCoe

namespace Cert.GdnFwdIdeal.Value

open Cert.GdnFwdIdeal Cert.GdnFwdIdeal.Gen Cert.Cut

theorem hz2 : (![0, 0] : Fin 2 → Nat) = fun _ => 0 := by decide
theorem hz4 : (![0, 0, 0, 0] : Fin 4 → Nat) = fun _ => 0 := by decide

/-- A product of matrices in three passes, its squarings and its sums are those of the tile; so is the stack of the rows. -/
theorem fold_rest {s : Shape} (a : FVec Ideal s .f32) (h h') : subf a (extf .f32 (truncf .bf16 a h) h') = rest a := rfl
theorem fold_bdot {s1 s2 s3 : Shape} (d : DotDims s1 s2 s3) (a : FVec Ideal s1 .f32) (b : FVec Ideal s2 .f32) (h h') :
    matmul d none (truncf .bf16 a h) (truncf .bf16 b h') (constant s3 .f32 0x00000000#32) = bdot d a b := rfl
theorem fold_hdot {s1 s2 s3 : Shape} (d : DotDims s1 s2 s3) (a : FVec Ideal s1 .f32) (b : FVec Ideal s2 .f32) :
    addf (bdot d a b) (addf (bdot d a (rest b)) (bdot d (rest a) b)) = hdot d a b := rfl
theorem fold_sq (a : FVec Ideal S64x64 .f32) : hdot dot_S64x64_S64x64_S64x64_1_0_0_1_n_n a a = sq a := rfl
theorem fold_grow (p a : FVec Ideal S64x64 .f32) : addf p (hdot dot_S64x64_S64x64_S64x64_1_0_0_1_n_n p a) = grow p a := rfl
def under (a : FVec Ideal S8x512 .f32) (b : FVec Ideal S192x512 .f32) : FVec Ideal S200x512 .f32 :=
  concatenate S200x512 0 [⟨S8x512, a⟩, ⟨S192x512, b⟩] concatenates_S8x512_S192x512_S200x512_d0
theorem fold_under (a : FVec Ideal S8x512 .f32) (b : FVec Ideal S192x512 .f32) (h) :
    concatenate S200x512 0 [⟨S8x512, a⟩, ⟨S192x512, b⟩] h = under a b := rfl

section Blocks
variable (c : Dev nD) (i : grid0.Coords) (a2 : Memref sig .tc .vmem S192x512 .f32) (h2 : a2.IsWhole) (a3 : Memref sig .tc .vmem S192x512 .f32) (h3 : a3.IsWhole) (a4 : Memref sig .tc .vmem S192x512 .f32) (h4 : a4.IsWhole) (a5 : Memref sig .tc .vmem S192x512 .f32) (h5 : a5.IsWhole) (a6 : Memref sig .tc .vmem S192x128 .f32) (h6 : a6.IsWhole) (a7 : Memref sig .tc .vmem S4x512 .f32) (h7 : a7.IsWhole) (a8 : Memref sig .tc .vmem S4x512 .f32) (h8 : a8.IsWhole) (a9 : Memref sig .tc .vmem S4x512 .f32) (h9 : a9.IsWhole) (a10 : Memref sig .tc .vmem S1x4 .f32) (h10 : a10.IsWhole) (a11 : Memref sig .tc .vmem S1x4 .f32) (h11 : a11.IsWhole) (a12 : Memref sig .tc .vmem S1x128 .f32) (h12 : a12.IsWhole) (a13 : Memref sig .tc .vmem S192x512 .f32) (h13 : a13.IsWhole) (a14 : Memref sig .tc .vmem S1x1x8x512 .f32) (h14 : a14.IsWhole) (a15 : Memref sig .tc .vmem S1x1x8x512 .f32) (h15 : a15.IsWhole) (a16 : Memref sig .tc .vmem S1x1x8x512 .f32) (h16 : a16.IsWhole) (a17 : Memref sig .tc .vmem S1x1x512x128 .f32) (h17 : a17.IsWhole) (a18 : Memref sig .tc .vmem S8x512 .f32) (h18 : a18.IsWhole) (a19 : Memref sig .tc .vmem S8x512 .f32) (h19 : a19.IsWhole) (a20 : Memref sig .tc .vmem S8x512 .f32) (h20 : a20.IsWhole) (a21 : Memref sig .tc .vmem S512x128 .f32) (h21 : a21.IsWhole)
  (x0 x1 x2 x3 : Vec Ideal S192x512 .f32) (x4 : Vec Ideal S192x128 .f32) (x5 x6 x7 : Vec Ideal S4x512 .f32) (x8 x9 : Vec Ideal S1x4 .f32) (x10 : Vec Ideal S1x128 .f32)
  (s0 s1 s2 : Vec Ideal S8x512 .f32) (s3 : Vec Ideal S512x128 .f32)

theorem sout_B_0 (hc : ¬cond0_0 i) : sout0_B_0 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3 = c_rows x0 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3)]
  unfold kernelRun0_B
  dsimp only
  sl_unfold_words
  rw [View.canon_unit_zero (S := S8x512) hz2]
  simp (disch := assumption) only [View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]
  rfl

theorem sout_B_1 (hc : ¬cond0_0 i) : sout0_B_1 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3 = c_rows x1 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3)]
  unfold kernelRun0_B
  dsimp only
  sl_unfold_words
  rw [View.canon_unit_zero (S := S8x512) hz2]
  simp (disch := assumption) only [View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]
  rfl

theorem sout_B_2 (hc : ¬cond0_0 i) : sout0_B_2 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3 = c_rows x2 := by
  unfold sout0_B_2
  rw [View.read_writes_eq_canon _ _ _ (scover0_B_2 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3)]
  unfold kernelRun0_B
  dsimp only
  sl_unfold_words
  rw [View.canon_unit_zero (S := S8x512) hz2]
  simp (disch := assumption) only [View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]
  rfl

theorem sout_B_3 (hc : ¬cond0_0 i) : sout0_B_3 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3 = c_states i x1 x2 x4 x6 x7 x8 x9 s1 s2 s3 := by
  unfold sout0_B_3
  rw [View.read_writes_eq_canon _ _ _ (scover0_B_3 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3)]
  unfold kernelRun0_B
  dsimp only
  sl_unfold_words
  rw [View.canon_unit_zero (S := S512x128) hz2]
  simp -implicitDefEqProofs (disch := assumption) only [fold_under, View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]
  simp -implicitDefEqProofs only [fold_rest, fold_bdot, fold_hdot, fold_sq, fold_grow]
  sl_kernel_rfl

theorem out_B_11 (hc : ¬cond0_0 i) : out0_B_11 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3 = t_y i x0 x1 x2 x3 x4 x5 x6 x7 x8 x9 x10 s0 s1 s2 s3 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3)]
  unfold kernelRun0_B
  dsimp only
  sl_unfold_words
  rw [View.canon_unit_zero (S := S192x512) hz2]
  simp -implicitDefEqProofs (disch := assumption) only [fold_under, View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]
  simp -implicitDefEqProofs only [fold_rest, fold_bdot, fold_hdot, fold_sq, fold_grow]
  sl_kernel_rfl

theorem out_B_12 (hc : ¬cond0_0 i) : out0_B_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3 = k0_pay1 (F := Ideal) s0 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3)]
  unfold kernelRun0_B
  dsimp only
  sl_unfold_words
  rw [View.canon_unit_zero (S := S1x1x8x512) hz4]
  simp (disch := assumption) only [View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]
  rfl

theorem out_B_13 (hc : ¬cond0_0 i) : out0_B_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3 = k0_pay1 (F := Ideal) s1 := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3)]
  unfold kernelRun0_B
  dsimp only
  sl_unfold_words
  rw [View.canon_unit_zero (S := S1x1x8x512) hz4]
  simp (disch := assumption) only [View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]
  rfl

theorem out_B_14 (hc : ¬cond0_0 i) : out0_B_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3 = k0_pay1 (F := Ideal) s2 := by
  unfold out0_B_14
  rw [View.read_writes_eq_canon _ _ _ (cover0_B_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3)]
  unfold kernelRun0_B
  dsimp only
  sl_unfold_words
  rw [View.canon_unit_zero (S := S1x1x8x512) hz4]
  simp (disch := assumption) only [View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]

theorem out_B_15 (hc : ¬cond0_0 i) : out0_B_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3 = k0_pay2 (F := Ideal) s3 := by
  unfold out0_B_15
  rw [View.read_writes_eq_canon _ _ _ (cover0_B_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 s0 s1 s2 s3)]
  unfold kernelRun0_B
  dsimp only
  sl_unfold_words
  rw [View.canon_unit_zero (S := S1x1x512x128) hz4]
  simp (disch := assumption) only [View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]

theorem sout_A_0 (hc : cond0_0 i) : sout0_A_0 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 = c_rows x0 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10)]
  unfold kernelRun0_A
  dsimp only
  sl_unfold_words
  rw [View.canon_cons_unit_zero (S := S8x512) hz2]
  simp only [View.readCov_unit_zero (S := S8x512) _ hz2, View.readCov_unit_zero (S := S512x128) _ hz2]
  simp (disch := assumption) only [View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]
  rfl

theorem sout_A_1 (hc : cond0_0 i) : sout0_A_1 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 = c_rows x1 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10)]
  unfold kernelRun0_A
  dsimp only
  sl_unfold_words
  rw [View.canon_cons_unit_zero (S := S8x512) hz2]
  simp only [View.readCov_unit_zero (S := S8x512) _ hz2, View.readCov_unit_zero (S := S512x128) _ hz2]
  simp (disch := assumption) only [View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]
  rfl

theorem sout_A_2 (hc : cond0_0 i) : sout0_A_2 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 = c_rows x2 := by
  unfold sout0_A_2
  rw [View.read_writes_eq_canon _ _ _ (scover0_A_2 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10)]
  unfold kernelRun0_A
  dsimp only
  sl_unfold_words
  rw [View.canon_cons_unit_zero (S := S8x512) hz2]
  simp only [View.readCov_unit_zero (S := S8x512) _ hz2, View.readCov_unit_zero (S := S512x128) _ hz2]
  simp (disch := assumption) only [View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]
  rfl

theorem sout_A_3 (hc : cond0_0 i) : sout0_A_3 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 = c_states i x1 x2 x4 x6 x7 x8 x9 (k0_pay8 (F := Ideal)) (k0_pay9 (F := Ideal)) (k0_pay10 (F := Ideal)) := by
  unfold sout0_A_3
  rw [View.read_writes_eq_canon _ _ _ (scover0_A_3 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10)]
  unfold kernelRun0_A
  dsimp only
  sl_unfold_words
  rw [View.canon_cons_unit_zero (S := S512x128) hz2]
  simp -implicitDefEqProofs only [fold_under, View.readCov_unit_zero (S := S8x512) _ hz2, View.readCov_unit_zero (S := S512x128) _ hz2]
  simp -implicitDefEqProofs (disch := assumption) only [fold_under, View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]
  simp -implicitDefEqProofs only [fold_rest, fold_bdot, fold_hdot, fold_sq, fold_grow]
  sl_kernel_rfl

theorem out_A_11 (hc : cond0_0 i) : out0_A_11 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 = t_y i x0 x1 x2 x3 x4 x5 x6 x7 x8 x9 x10 (k0_pay7 (F := Ideal)) (k0_pay8 (F := Ideal)) (k0_pay9 (F := Ideal)) (k0_pay10 (F := Ideal)) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10)]
  unfold kernelRun0_A
  dsimp only
  sl_unfold_words
  rw [View.canon_unit_zero (S := S192x512) hz2]
  simp -implicitDefEqProofs only [fold_under, View.readCov_unit_zero (S := S8x512) _ hz2, View.readCov_unit_zero (S := S512x128) _ hz2]
  simp -implicitDefEqProofs (disch := assumption) only [fold_under, View.readAt_eq_ld, Memref.IsWhole.read_unread, View.ld_unit_zero (S := S192x512) hz2, View.ld_unit_zero (S := S192x128) hz2, View.ld_unit_zero (S := S4x512) hz2, View.ld_unit_zero (S := S1x4) hz2, View.ld_unit_zero (S := S1x128) hz2, View.ld_unit_zero (S := S8x512) hz2, View.ld_unit_zero (S := S512x128) hz2]
  simp -implicitDefEqProofs only [fold_rest, fold_bdot, fold_hdot, fold_sq, fold_grow]
  sl_kernel_rfl

theorem out_A_12 (hc : cond0_0 i) : out0_A_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 = k0_pay1 (F := Ideal) (k0_pay7 (F := Ideal)) := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10)]
  unfold kernelRun0_A
  dsimp only
  sl_unfold_words
  rw [View.canon_unit_zero (S := S1x1x8x512) hz4]
  simp only [View.readCov_unit_zero (S := S8x512) _ hz2, View.readCov_unit_zero (S := S512x128) _ hz2]
  rfl

theorem out_A_13 (hc : cond0_0 i) : out0_A_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 = k0_pay1 (F := Ideal) (k0_pay8 (F := Ideal)) := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10)]
  unfold kernelRun0_A
  dsimp only
  sl_unfold_words
  rw [View.canon_unit_zero (S := S1x1x8x512) hz4]
  simp only [View.readCov_unit_zero (S := S8x512) _ hz2, View.readCov_unit_zero (S := S512x128) _ hz2]
  rfl

theorem out_A_14 (hc : cond0_0 i) : out0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 = k0_pay1 (F := Ideal) (k0_pay9 (F := Ideal)) := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10)]
  unfold kernelRun0_A
  dsimp only
  sl_unfold_words
  rw [View.canon_unit_zero (S := S1x1x8x512) hz4]
  simp only [View.readCov_unit_zero (S := S8x512) _ hz2, View.readCov_unit_zero (S := S512x128) _ hz2]
  rfl

theorem out_A_15 (hc : cond0_0 i) : out0_A_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 = k0_pay2 (F := Ideal) (k0_pay10 (F := Ideal)) := by
  unfold out0_A_15
  rw [View.read_writes_eq_canon _ _ _ (cover0_A_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10)]
  unfold kernelRun0_A
  dsimp only
  sl_unfold_words
  rw [View.canon_unit_zero (S := S1x1x512x128) hz4]
  simp only [View.readCov_unit_zero (S := S8x512) _ hz2, View.readCov_unit_zero (S := S512x128) _ hz2]
  rfl

end Blocks

end Cert.GdnFwdIdeal.Value

end
-- ==== Proof.GdnHost.lean ====
/-
  The blocks that the forward call of the gated delta rule reads: the convolution's input, the gate and what makes the rates
  side by side under rows of padding.
-/
module

public import proofs.«01_k».proof.Proof.Gen.GdnFwdIdeal.Frame
public import proofs.«01_k».proof.Proof.GdnParts
public import Idealize.ShloMosaic.Lib.Pointwise

@[expose] public section

set_option maxRecDepth 16384

noncomputable section

open Idealize.ShloMosaic Idealize.ShloMosaic.TcCoe Idealize.ShloMosaic.Tactic

namespace Cert.GdnFwdIdeal.Value

open Cert.GdnFwdIdeal Cert.GdnFwdIdeal.Gen Cert.Gdn

/-- The four inputs side by side, below 48 rows of nothing. -/
def beside (x : FVec Ideal S2064x1536 .f32) (z : FVec Ideal S2064x512 .f32) (b a : FVec Ideal S2064x4 .f32) : FVec Ideal S2112x2176 .f32 :=
  concatenate S2112x2176 0 [⟨S48x2176, broadcastInDim S48x2176 ![] bcast_S_S48x2176 (constant S_ .f32 0x00000000#32)⟩,
    ⟨S2064x2176, concatenate S2064x2176 1 [⟨S2064x1536, x⟩, ⟨S2064x512, z⟩, ⟨S2064x128, concatenate S2064x128 1 [⟨S2064x4, b⟩, ⟨S2064x4, a⟩, ⟨S2064x120, broadcastInDim S2064x120 ![] bcast_S_S2064x120 (constant S_ .f32 0x00000000#32)⟩] concatenates_S2064x4_S2064x4_S2064x120_S2064x128_d1⟩]
      concatenates_S2064x1536_S2064x512_S2064x128_S2064x2176_d1⟩] concatenates_S48x2176_S2064x2176_S2112x2176_d0

section
variable (x : FVec Ideal S2064x1536 .f32) (z : FVec Ideal S2064x512 .f32) (b a : FVec Ideal S2064x4 .f32) (i : Fin 2112)

theorem beside_x (j : Fin 1536) : beside x z b a (ix2 i ⟨j, by omega⟩) = if h : i.val < 48 then 0 else x (ix2 ⟨i - 48, by omega⟩ j) := by
  have hj := j.isLt
  pointwise [beside]

theorem beside_z (j : Fin 512) : beside x z b a (ix2 i ⟨1536 + j, by omega⟩) = if h : i.val < 48 then 0 else z (ix2 ⟨i - 48, by omega⟩ j) := by
  have hj := j.isLt
  pointwise [beside]

theorem beside_b (j : Fin 4) : beside x z b a (ix2 i ⟨2048 + j, by omega⟩) = if h : i.val < 48 then 0 else b (ix2 ⟨i - 48, by omega⟩ j) := by
  have hj := j.isLt
  have e : ∀ h, (⟨2048 + j.val - 1536 - 512, h⟩ : Fin 4) = j := fun h => Fin.ext (by dsimp only; omega)
  pointwise [beside]
  simp only [dif_neg (show ¬ 2048 + j.val < 1536 by omega), dif_neg (show ¬ 2048 + j.val - 1536 < 512 by omega), dif_pos (show 2048 + j.val - 1536 - 512 < 4 by omega), e]

theorem beside_a (j : Fin 4) : beside x z b a (ix2 i ⟨2048 + (4 + j), by omega⟩) = if h : i.val < 48 then 0 else a (ix2 ⟨i - 48, by omega⟩ j) := by
  have hj := j.isLt
  have e : ∀ h, (⟨2048 + (4 + j.val) - 1536 - 512 - 4, h⟩ : Fin 4) = j := fun h => Fin.ext (by dsimp only; omega)
  pointwise [beside]
  simp only [dif_neg (show ¬ 2048 + (4 + j.val) < 1536 by omega), dif_neg (show ¬ 2048 + (4 + j.val) - 1536 < 512 by omega), dif_neg (show ¬ 2048 + (4 + j.val) - 1536 - 512 < 4 by omega),
    dif_pos (show 2048 + (4 + j.val) - 1536 - 512 - 4 < 4 by omega), e]

end

theorem row_4 (x : FVec Ideal S4 .f32) (n : Fin 4) : shapeCast S1x4 x shapeCasts_S4_S1x4 (ix2 0 n) = x (ix1 n) := by pointwise
theorem row_128 (x : FVec Ideal S128 .f32) (n : Fin 128) : shapeCast S1x128 x shapeCasts_S128_S1x128 (ix2 0 n) = x (ix1 n) := by pointwise

variable (m : (ℓ : Loc nD τ sig) → Buf (Elt Ideal) ℓ)

abbrev arg0 (c : Dev nD) : S2064x1536.Idx → EReal := m ((c : Thread nD τ).loc main_arg0)
abbrev arg1 (c : Dev nD) : S2064x512.Idx → EReal := m ((c : Thread nD τ).loc main_arg1)
abbrev arg2 (c : Dev nD) : S2064x4.Idx → EReal := m ((c : Thread nD τ).loc main_arg2)
abbrev arg3 (c : Dev nD) : S2064x4.Idx → EReal := m ((c : Thread nD τ).loc main_arg3)
abbrev arg4 (c : Dev nD) : S4x1536.Idx → EReal := m ((c : Thread nD τ).loc main_arg4)
abbrev arg5 (c : Dev nD) : S4.Idx → EReal := m ((c : Thread nD τ).loc main_arg5)
abbrev arg6 (c : Dev nD) : S4.Idx → EReal := m ((c : Thread nD τ).loc main_arg6)
abbrev arg7 (c : Dev nD) : S128.Idx → EReal := m ((c : Thread nD τ).loc main_arg7)

/-- The call's arguments are those of `P`. -/
structure Given (c : Dev nD) (P : Args) : Prop where
  x : ∀ (t : Fin 2064) (j : Fin 1536), arg0 m c (ix2 t j) = (P.X t j : EReal)
  z : ∀ (t : Fin 2064) (j : Fin 512), arg1 m c (ix2 t j) = P.Z t j
  b : ∀ (t : Fin 2064) (h : Fin 4), arg2 m c (ix2 t h) = P.B t h
  a : ∀ (t : Fin 2064) (h : Fin 4), arg3 m c (ix2 t h) = (P.A t h : EReal)
  cw : ∀ (k : Fin 4) (j : Fin 1536), arg4 m c (ix2 k j) = (P.cw k j : EReal)
  al : ∀ h : Fin 4, arg5 m c (ix1 h) = (P.al h : EReal)
  db : ∀ h : Fin 4, arg6 m c (ix1 h) = (P.db h : EReal)
  ng : ∀ e : Fin 128, arg7 m c (ix1 e) = P.ng e

theorem v_4 (c : Dev nD) : (V m c main_v4 : S2112x2176.Idx → EReal) = beside (arg0 m c) (arg1 m c) (arg2 m c) (arg3 m c) := by
  dsimp only [V, hostOps0]
  after_results
  rfl
theorem v_5 (c : Dev nD) : (V m c main_v5 : S4x512.Idx → EReal) = extractStridedSlice S4x512 ![0, 0] (arg4 m c : FVec Ideal S4x1536 .f32) slices_S4x1536_S4x512_0_0 := by
  dsimp only [V, hostOps0]
  after_results
theorem v_6 (c : Dev nD) : (V m c main_v6 : S4x512.Idx → EReal) = extractStridedSlice S4x512 ![0, 512] (arg4 m c : FVec Ideal S4x1536 .f32) slices_S4x1536_S4x512_0_512 := by
  dsimp only [V, hostOps0]
  after_results
theorem v_7 (c : Dev nD) : (V m c main_v7 : S4x512.Idx → EReal) = extractStridedSlice S4x512 ![0, 1024] (arg4 m c : FVec Ideal S4x1536 .f32) slices_S4x1536_S4x512_0_1024 := by
  dsimp only [V, hostOps0]
  after_results
theorem v_8 (c : Dev nD) : (V m c main_v8 : S1x4.Idx → EReal) = shapeCast S1x4 (arg5 m c : FVec Ideal S4 .f32) shapeCasts_S4_S1x4 := by
  dsimp only [V, hostOps0]
  after_results
  rfl
theorem v_9 (c : Dev nD) : (V m c main_v9 : S1x4.Idx → EReal) = shapeCast S1x4 (arg6 m c : FVec Ideal S4 .f32) shapeCasts_S4_S1x4 := by
  dsimp only [V, hostOps0]
  after_results
  rfl
theorem v_10 (c : Dev nD) : (V m c main_v10 : S1x128.Idx → EReal) = shapeCast S1x128 (arg7 m c : FVec Ideal S128 .f32) shapeCasts_S128_S1x128 := by
  dsimp only [V, hostOps0]
  after_results
  rfl

theorem point_lt (t : Fin cfg0.N) : t.val < 11 := t.isLt

theorem coord_1 : ∀ t : Fin grid0.N, (grid0.coords t 1).val = t.val := by decide +kernel

theorem idx_in : ∀ t : Fin grid0.N, (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 2)
    ∧ (win0_3.index t (0 : Fin 2) = t.val ∧ win0_3.index t (1 : Fin 2) = 3)
    ∧ (win0_4.index t (0 : Fin 2) = t.val ∧ win0_4.index t (1 : Fin 2) = 16)
    ∧ (win0_11.index t (0 : Fin 2) = t.val ∧ win0_11.index t (1 : Fin 2) = 0) := by decide +kernel

theorem idx_par : ∀ t : Fin grid0.N, (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) := by decide +kernel

theorem idx_saved : ∀ t : Fin grid0.N, (win0_12.index t (0 : Fin 4) = 0 ∧ win0_12.index t (1 : Fin 4) = t.val ∧ win0_12.index t (2 : Fin 4) = 0 ∧ win0_12.index t (3 : Fin 4) = 0)
    ∧ (win0_13.index t (0 : Fin 4) = 0 ∧ win0_13.index t (1 : Fin 4) = t.val ∧ win0_13.index t (2 : Fin 4) = 0 ∧ win0_13.index t (3 : Fin 4) = 0)
    ∧ (win0_14.index t (0 : Fin 4) = 0 ∧ win0_14.index t (1 : Fin 4) = t.val ∧ win0_14.index t (2 : Fin 4) = 0 ∧ win0_14.index t (3 : Fin 4) = 0)
    ∧ (win0_15.index t (0 : Fin 4) = 0 ∧ win0_15.index t (1 : Fin 4) = t.val ∧ win0_15.index t (2 : Fin 4) = 0 ∧ win0_15.index t (3 : Fin 4) = 0) := by decide +kernel

/-- The tile of a point, and a row of it. -/
abbrev tileOf (t : Fin cfg0.N) : Fin 11 := ⟨t, point_lt t⟩
abbrev rowAt (t : Fin cfg0.N) (r : Fin 192) : Fin 2112 := ⟨192 * tileOf t + r, by have := (tileOf t).isLt; omega⟩

section
variable {m} {c : Dev nD} {P : Args} (G : Given m c P)
include G

theorem row_padded (i : Fin 2112) (j : Fin 1536) : beside (arg0 m c) (arg1 m c) (arg2 m c) (arg3 m c) (ix2 i ⟨j, by omega⟩) = (rowAfter P 48 i j : EReal) := by
  rw [beside_x]
  unfold rowAfter
  by_cases h : i.val < 48
  · rw [dif_pos h, dif_neg (by omega), EReal.coe_zero]
  · rw [dif_neg h, dif_pos ⟨by omega, by omega⟩, G.x]

theorem gate_padded (i : Fin 2112) (j : Fin 512) : beside (arg0 m c) (arg1 m c) (arg2 m c) (arg3 m c) (ix2 i ⟨1536 + j, by omega⟩) = gateRow P i j := by
  rw [beside_z]
  unfold gateRow
  by_cases h : i.val < 48
  · rw [dif_pos h, dif_neg (by omega)]
  · rw [dif_neg h, dif_pos ⟨by omega, by omega⟩, G.z]

theorem gateIn_padded (i : Fin 2112) (j : Fin 4) : beside (arg0 m c) (arg1 m c) (arg2 m c) (arg3 m c) (ix2 i ⟨2048 + j, by omega⟩) = gateIn P i j := by
  rw [beside_b]
  unfold gateIn
  by_cases h : i.val < 48
  · rw [dif_pos h, dif_neg (by omega)]
  · rw [dif_neg h, dif_pos ⟨by omega, by omega⟩, G.b]

theorem rateIn_padded (i : Fin 2112) (j : Fin 4) : beside (arg0 m c) (arg1 m c) (arg2 m c) (arg3 m c) (ix2 i ⟨2048 + (4 + j), by omega⟩) = (rateIn P i j : EReal) := by
  rw [beside_a]
  unfold rateIn
  by_cases h : i.val < 48
  · rw [dif_pos h, dif_neg (by omega), EReal.coe_zero]
  · rw [dif_neg h, dif_pos ⟨by omega, by omega⟩, G.a]

theorem b_0 (t : Fin cfg0.N) (r : Fin 192) (k : Fin 512) : (X0_0 m c t : Vec Ideal S192x512 .f32) (ix2 r k) = (rowAfter P 48 (192 * t + r) (inThird 0 k) : EReal) := by
  obtain ⟨⟨h0, h1⟩, -⟩ := idx_in t
  refine Eq.trans ?_ (row_padded G (rowAt t r) (inThird 0 k))
  rw [← v_4]
  unfold X0_0 Pipeline.Window.fill
  rw [dif_pos (moved0_0 t _)]
  unfold iblk
  rw [View.read_apply]
  show V m c main_v4 _ = _
  congr 1
  funext a
  apply Fin.ext
  match a with
  | ⟨0, _⟩ => show win0_0.index t 0 * 192 + 1 * r.val = 192 * t.val + r.val; rw [h0]; omega
  | ⟨1, _⟩ => show win0_0.index t 1 * 512 + 1 * k.val = 512 * 0 + k.val; rw [h1]; omega

theorem b_1 (t : Fin cfg0.N) (r : Fin 192) (k : Fin 512) : (X0_1 m c t : Vec Ideal S192x512 .f32) (ix2 r k) = (rowAfter P 48 (192 * t + r) (inThird 1 k) : EReal) := by
  obtain ⟨-, ⟨h0, h1⟩, -⟩ := idx_in t
  refine Eq.trans ?_ (row_padded G (rowAt t r) (inThird 1 k))
  rw [← v_4]
  unfold X0_1 Pipeline.Window.fill
  rw [dif_pos (moved0_1 t _)]
  unfold iblk
  rw [View.read_apply]
  show V m c main_v4 _ = _
  congr 1
  funext a
  apply Fin.ext
  match a with
  | ⟨0, _⟩ => show win0_1.index t 0 * 192 + 1 * r.val = 192 * t.val + r.val; rw [h0]; omega
  | ⟨1, _⟩ => show win0_1.index t 1 * 512 + 1 * k.val = 512 * 1 + k.val; rw [h1]; omega

theorem b_2 (t : Fin cfg0.N) (r : Fin 192) (k : Fin 512) : (X0_2 m c t : Vec Ideal S192x512 .f32) (ix2 r k) = (rowAfter P 48 (192 * t + r) (inThird 2 k) : EReal) := by
  obtain ⟨-, -, ⟨h0, h1⟩, -⟩ := idx_in t
  refine Eq.trans ?_ (row_padded G (rowAt t r) (inThird 2 k))
  rw [← v_4]
  unfold X0_2 Pipeline.Window.fill
  rw [dif_pos (moved0_2 t _)]
  unfold iblk
  rw [View.read_apply]
  show V m c main_v4 _ = _
  congr 1
  funext a
  apply Fin.ext
  match a with
  | ⟨0, _⟩ => show win0_2.index t 0 * 192 + 1 * r.val = 192 * t.val + r.val; rw [h0]; omega
  | ⟨1, _⟩ => show win0_2.index t 1 * 512 + 1 * k.val = 512 * 2 + k.val; rw [h1]; omega

theorem b_3 (t : Fin cfg0.N) (r : Fin 192) (k : Fin 512) : (X0_3 m c t : Vec Ideal S192x512 .f32) (ix2 r k) = gateRow P (192 * t + r) k := by
  obtain ⟨-, -, -, ⟨h0, h1⟩, -⟩ := idx_in t
  refine Eq.trans ?_ (gate_padded G (rowAt t r) k)
  rw [← v_4]
  unfold X0_3 Pipeline.Window.fill
  rw [dif_pos (moved0_3 t _)]
  unfold iblk
  rw [View.read_apply]
  show V m c main_v4 _ = _
  congr 1
  funext a
  apply Fin.ext
  match a with
  | ⟨0, _⟩ => show win0_3.index t 0 * 192 + 1 * r.val = 192 * t.val + r.val; rw [h0]; omega
  | ⟨1, _⟩ => show win0_3.index t 1 * 512 + 1 * k.val = 1536 + k.val; rw [h1]; omega

theorem b_4 (t : Fin cfg0.N) (r : Fin 192) (k : Fin 4) : (iblk m c 4 t : Vec Ideal S192x128 .f32) (ix2 r ⟨k, by omega⟩) = gateIn P (192 * t + r) k := by
  obtain ⟨-, -, -, -, ⟨h0, h1⟩, -⟩ := idx_in t
  refine Eq.trans ?_ (gateIn_padded G (rowAt t r) k)
  rw [← v_4]
  unfold iblk
  rw [View.read_apply]
  show V m c main_v4 _ = _
  congr 1
  funext a
  apply Fin.ext
  match a with
  | ⟨0, _⟩ => show win0_4.index t 0 * 192 + 1 * r.val = 192 * t.val + r.val; rw [h0]; omega
  | ⟨1, _⟩ => show win0_4.index t 1 * 128 + 1 * k.val = 2048 + k.val; rw [h1]; omega

theorem b_4' (t : Fin cfg0.N) (r : Fin 192) (k : Fin 4) : (iblk m c 4 t : Vec Ideal S192x128 .f32) (ix2 r ⟨4 + k, by omega⟩) = (rateIn P (192 * t + r) k : EReal) := by
  obtain ⟨-, -, -, -, ⟨h0, h1⟩, -⟩ := idx_in t
  refine Eq.trans ?_ (rateIn_padded G (rowAt t r) k)
  rw [← v_4]
  unfold iblk
  rw [View.read_apply]
  show V m c main_v4 _ = _
  congr 1
  funext a
  apply Fin.ext
  match a with
  | ⟨0, _⟩ => show win0_4.index t 0 * 192 + 1 * r.val = 192 * t.val + r.val; rw [h0]; omega
  | ⟨1, _⟩ => show win0_4.index t 1 * 128 + 1 * (4 + k.val) = 2048 + (4 + k.val); rw [h1]; omega

theorem third_0 (r : Fin 4) (n : Fin 512) : extractStridedSlice S4x512 ![0, 0] (arg4 m c : FVec Ideal S4x1536 .f32) slices_S4x1536_S4x512_0_0 (ix2 r n) = (P.cw r (inThird 0 n) : EReal) := by
  rw [← G.cw]
  pointwise
  exact congrArg (fun q => arg4 m c (ix2 r q)) (Fin.ext (show _ = 512 * 0 + n.val by dsimp only; omega))

theorem b_5 (t : Fin cfg0.N) (r : Fin 4) (n : Fin 512) : (iblk m c 5 t : Vec Ideal S4x512 .f32) (ix2 r n) = (P.cw r (inThird 0 n) : EReal) := by
  obtain ⟨⟨h0, h1⟩, -⟩ := idx_par t
  refine Eq.trans ?_ (third_0 G r n)
  rw [← v_5]
  unfold iblk
  rw [View.read_apply]
  show V m c main_v5 _ = _
  congr 1
  funext a
  apply Fin.ext
  match a with
  | ⟨0, _⟩ => show win0_5.index t 0 * 4 + 1 * r.val = r.val; rw [h0]; omega
  | ⟨1, _⟩ => show win0_5.index t 1 * 512 + 1 * n.val = n.val; rw [h1]; omega

theorem third_1 (r : Fin 4) (n : Fin 512) : extractStridedSlice S4x512 ![0, 512] (arg4 m c : FVec Ideal S4x1536 .f32) slices_S4x1536_S4x512_0_512 (ix2 r n) = (P.cw r (inThird 1 n) : EReal) := by
  rw [← G.cw]
  pointwise
  exact congrArg (fun q => arg4 m c (ix2 r q)) (Fin.ext (show _ = 512 * 1 + n.val from rfl))

theorem b_6 (t : Fin cfg0.N) (r : Fin 4) (n : Fin 512) : (iblk m c 6 t : Vec Ideal S4x512 .f32) (ix2 r n) = (P.cw r (inThird 1 n) : EReal) := by
  obtain ⟨-, ⟨h0, h1⟩, -⟩ := idx_par t
  refine Eq.trans ?_ (third_1 G r n)
  rw [← v_6]
  unfold iblk
  rw [View.read_apply]
  show V m c main_v6 _ = _
  congr 1
  funext a
  apply Fin.ext
  match a with
  | ⟨0, _⟩ => show win0_6.index t 0 * 4 + 1 * r.val = r.val; rw [h0]; omega
  | ⟨1, _⟩ => show win0_6.index t 1 * 512 + 1 * n.val = n.val; rw [h1]; omega

theorem third_2 (r : Fin 4) (n : Fin 512) : extractStridedSlice S4x512 ![0, 1024] (arg4 m c : FVec Ideal S4x1536 .f32) slices_S4x1536_S4x512_0_1024 (ix2 r n) = (P.cw r (inThird 2 n) : EReal) := by
  rw [← G.cw]
  pointwise
  exact congrArg (fun q => arg4 m c (ix2 r q)) (Fin.ext (show _ = 512 * 2 + n.val from rfl))

theorem b_7 (t : Fin cfg0.N) (r : Fin 4) (n : Fin 512) : (iblk m c 7 t : Vec Ideal S4x512 .f32) (ix2 r n) = (P.cw r (inThird 2 n) : EReal) := by
  obtain ⟨-, -, ⟨h0, h1⟩, -⟩ := idx_par t
  refine Eq.trans ?_ (third_2 G r n)
  rw [← v_7]
  unfold iblk
  rw [View.read_apply]
  show V m c main_v7 _ = _
  congr 1
  funext a
  apply Fin.ext
  match a with
  | ⟨0, _⟩ => show win0_7.index t 0 * 4 + 1 * r.val = r.val; rw [h0]; omega
  | ⟨1, _⟩ => show win0_7.index t 1 * 512 + 1 * n.val = n.val; rw [h1]; omega

theorem b_8 (t : Fin cfg0.N) (n : Fin 4) : (iblk m c 8 t : Vec Ideal S1x4 .f32) (ix2 0 n) = (P.al n : EReal) := by
  obtain ⟨-, -, -, ⟨h0, h1⟩, -⟩ := idx_par t
  refine Eq.trans ?_ ((row_4 (arg5 m c) n).trans (G.al n))
  rw [← v_8]
  unfold iblk
  rw [View.read_apply]
  show V m c main_v8 _ = _
  congr 1
  funext a
  apply Fin.ext
  match a with
  | ⟨0, _⟩ => show win0_8.index t 0 * 1 + 1 * 0 = 0; rw [h0]
  | ⟨1, _⟩ => show win0_8.index t 1 * 4 + 1 * n.val = n.val; rw [h1]; omega

theorem b_9 (t : Fin cfg0.N) (n : Fin 4) : (iblk m c 9 t : Vec Ideal S1x4 .f32) (ix2 0 n) = (P.db n : EReal) := by
  obtain ⟨-, -, -, -, ⟨h0, h1⟩, -⟩ := idx_par t
  refine Eq.trans ?_ ((row_4 (arg6 m c) n).trans (G.db n))
  rw [← v_9]
  unfold iblk
  rw [View.read_apply]
  show V m c main_v9 _ = _
  congr 1
  funext a
  apply Fin.ext
  match a with
  | ⟨0, _⟩ => show win0_9.index t 0 * 1 + 1 * 0 = 0; rw [h0]
  | ⟨1, _⟩ => show win0_9.index t 1 * 4 + 1 * n.val = n.val; rw [h1]; omega

theorem b_10 (t : Fin cfg0.N) (n : Fin 128) : (iblk m c 10 t : Vec Ideal S1x128 .f32) (ix2 0 n) = P.ng n := by
  obtain ⟨-, -, -, -, -, ⟨h0, h1⟩⟩ := idx_par t
  refine Eq.trans ?_ ((row_128 (arg7 m c) n).trans (G.ng n))
  rw [← v_10]
  unfold iblk
  rw [View.read_apply]
  show V m c main_v10 _ = _
  congr 1
  funext a
  apply Fin.ext
  match a with
  | ⟨0, _⟩ => show win0_10.index t 0 * 1 + 1 * 0 = 0; rw [h0]
  | ⟨1, _⟩ => show win0_10.index t 1 * 128 + 1 * n.val = n.val; rw [h1]; omega

end

end Cert.GdnFwdIdeal.Value

end
-- ==== Proof.GdnFwdValue.lean ====
/-
  The values of the forward call of the gated delta rule: by induction over the tiles the rows and the states carried are
  those of the recurrence, so each tile's result is the layer's.
-/
module

public import proofs.«01_k».proof.Proof.GdnBlocks
public import proofs.«01_k».proof.Proof.GdnHost

@[expose] public section

set_option maxRecDepth 16384

noncomputable section

open Idealize.ShloMosaic Idealize.ShloMosaic.TcCoe Idealize.ShloMosaic.Tactic

namespace Cert.GdnFwdIdeal.Value

open Cert.GdnFwdIdeal Cert.GdnFwdIdeal.Gen Cert.Gdn

theorem cast_11 (x : Vec Ideal S4x512 .f32) : k0_pay11 x = x := by
  funext (i : S4x512.Idx); idx_vars i; pointwise [k0_pay11]
theorem cast_14 (x : Vec Ideal S1x4 .f32) : k0_pay14 x = x := by
  funext (i : S1x4.Idx); idx_vars i; pointwise [k0_pay14]
theorem cast_15 (x : Vec Ideal S1x4 .f32) : k0_pay15 x = x := by
  funext (i : S1x4.Idx); idx_vars i; pointwise [k0_pay15]
theorem cast_16 (x : Vec Ideal S1x128 .f32) : k0_pay16 x = x := by
  funext (i : S1x128.Idx); idx_vars i; pointwise [k0_pay16]
theorem cast_17 (x : Vec Ideal S192x512 .f32) : k0_pay17 x = x := by
  funext (i : S192x512.Idx); idx_vars i; pointwise [k0_pay17]
theorem cast_20 (x : Vec Ideal S192x512 .f32) : k0_pay20 x = x := by
  funext (i : S192x512.Idx); idx_vars i; pointwise [k0_pay20]
theorem cast_21 (x : Vec Ideal S192x128 .f32) : k0_pay21 x = x := by
  funext (i : S192x128.Idx); idx_vars i; pointwise [k0_pay21]
theorem cast_6 (x : FVec Ideal S512x128 .f32) : k0_pay6 x = x := by
  funext (i : S512x128.Idx); idx_vars i; pointwise [k0_pay6]
theorem last_rows (x : Vec Ideal S192x512 .f32) (e : Fin 8) (n : Fin 512) : c_rows x (ix2 e n) = x (ix2 ⟨184 + e, by omega⟩ n) := by
  rw [c_rows, cast_17]
  pointwise [k0_pay3, k0_pay643]
theorem saved_rows (s : Vec Ideal S8x512 .f32) (e : Fin 8) (n : Fin 512) : k0_pay1 s (ix4 0 0 e n) = s (ix2 e n) := by
  pointwise [k0_pay1]
theorem saved_states (s : Vec Ideal S512x128 .f32) (j : Fin 512) (n : Fin 128) : k0_pay2 s (ix4 0 0 j n) = s (ix2 j n) := by
  pointwise [k0_pay2]
theorem zero_7 (e : Fin 8) (n : Fin 512) : k0_pay7 (F := Ideal) (ix2 e n) = 0 := by
  pointwise [k0_pay7]
theorem zero_8 (e : Fin 8) (n : Fin 512) : k0_pay8 (F := Ideal) (ix2 e n) = 0 := by
  pointwise [k0_pay8]
theorem zero_9 (e : Fin 8) (n : Fin 512) : k0_pay9 (F := Ideal) (ix2 e n) = 0 := by
  pointwise [k0_pay9]
theorem zero_10 (j : Fin 512) (n : Fin 128) : k0_pay10 (F := Ideal) (ix2 j n) = 0 := by
  pointwise [k0_pay10]
theorem gate_at (x : Vec Ideal S192x512 .f32) (r : Fin 192) (j : Fin 512) : k0_pay41 (k0_pay20 x) (ix2 r j) = x (ix2 r j) * Ideal.logistic (x (ix2 r j)) := by
  rw [cast_20]
  pointwise [k0_pay41]
theorem product_at (a b : FVec Ideal S192x512 .f32) (m : FVec Ideal S192x1 .f32) (r : Fin 192) (j : Fin 512) :
    mulf (mulf a b) (broadcastTo S192x512 m broadcasts_S192x1_S192x512) (ix2 r j) = a (ix2 r j) * b (ix2 r j) * m (ix2 r 0) := by
  pointwise

/-- A third of the rows before a tile. -/
def Rows (P : Args) (o : Fin 3) (n : ℕ) (s : Vec Ideal S8x512 .f32) : Prop :=
  ∀ (e : Fin 8) (j : Fin 512), s (ix2 e j) = (rowAfter P 56 (192 * n + e) (inThird o j) : EReal)

theorem rows_zero (P : Args) (o : Fin 3) {s : Vec Ideal S8x512 .f32} (hs : ∀ (e : Fin 8) (j : Fin 512), s (ix2 e j) = 0) : Rows P o 0 s := by
  intro e j
  rw [hs, rowAfter, dif_neg (by omega), EReal.coe_zero]

theorem rows_down {P : Args} {o : Fin 3} {n : ℕ} {x : Vec Ideal S192x512 .f32} (hx : ∀ (r : Fin 192) (k : Fin 512), x (ix2 r k) = (rowAfter P 48 (192 * n + r) (inThird o k) : EReal))
    (r : Fin 192) (k : Fin 512) : x (ix2 r k) = (rowAfter P 56 (192 * n + (r + 8)) (inThird o k) : EReal) := by
  rw [hx, ← rowAfter_add P 48 8]
  exact congrArg (fun t => ((rowAfter P 56 t (inThird o k) : ℝ) : EReal)) (show 192 * n + r.val + 8 = 192 * n + (r.val + 8) by omega)

theorem rows_next {P : Args} {o : Fin 3} {n : ℕ} {x : Vec Ideal S192x512 .f32} (hx : ∀ (r : Fin 192) (k : Fin 512), x (ix2 r k) = (rowAfter P 48 (192 * n + r) (inThird o k) : EReal)) :
    Rows P o (n + 1) (c_rows x) := by
  intro e j
  rw [last_rows, rows_down hx]
  refine congrArg (fun t => ((rowAfter P 56 t (inThird o j) : ℝ) : EReal)) ?_
  show 192 * n + (184 + e.val + 8) = 192 * (n + 1) + e.val
  omega

/-- What enters tile `n`: the eight rows before it, and the states. -/
structure Entering (P : Args) (n : ℕ) (s0 s1 s2 : Vec Ideal S8x512 .f32) (s3 : Vec Ideal S512x128 .f32) : Prop where
  r0 : Rows P 0 n s0
  r1 : Rows P 1 n s1
  r2 : Rows P 2 n s2
  states : Enters P (192 * n) s3

section Carry
variable {m : (ℓ : Loc nD τ sig) → Buf (Elt Ideal) ℓ} {c : Dev nD} {P : Args}

theorem tile_holds (G : Given m c P) (t : Fin cfg0.N) {s0 s1 s2 : Vec Ideal S8x512 .f32} {s3 : Vec Ideal S512x128 .f32} (h : Entering P t.val s0 s1 s2 s3) :
    Holds P (192 * t) (t_mask (grid0.coords t)) (t_conv (iblk m c 5 t) (X0_0 m c t) s0) (t_conv (iblk m c 6 t) (X0_1 m c t) s1) (t_conv (iblk m c 7 t) (X0_2 m c t) s2)
      (t_beta (grid0.coords t) (iblk m c 4 t)) (t_rate (grid0.coords t) (iblk m c 4 t) (iblk m c 8 t) (iblk m c 9 t)) := by
  have hm := mask_at (grid0.coords t) (tileOf t) (coord_1 t)
  exact ⟨hm,
    conv_at (P := P) (a := tileOf t) 0 (fun k n => by rw [cast_11]; exact b_5 G t k n) (fun r n => by rw [cast_17]; exact rows_down (b_0 G t) r n) h.r0,
    conv_at (P := P) (a := tileOf t) 1 (fun k n => by rw [cast_11]; exact b_6 G t k n) (fun r n => by rw [cast_17]; exact rows_down (b_1 G t) r n) h.r1,
    conv_at (P := P) (a := tileOf t) 2 (fun k n => by rw [cast_11]; exact b_7 G t k n) (fun r n => by rw [cast_17]; exact rows_down (b_2 G t) r n) h.r2,
    gates_at (P := P) (a := tileOf t) hm (fun r k => by rw [cast_21]; exact b_4 G t r k),
    rates_at (P := P) (a := tileOf t) hm (fun r k => by rw [cast_21]; exact b_4' G t r k) (fun k => by rw [cast_14]; exact b_8 G t k) (fun k => by rw [cast_15]; exact b_9 G t k)⟩

/-- What a point leaves, in terms of what enters it. -/
def Leaves (n : ℕ) (hn : n < cfg0.N) (s0 s1 s2 : Vec Ideal S8x512 .f32) (s3 : Vec Ideal S512x128 .f32) : Prop :=
  outsAt0 m c n hn = (t_y (grid0.coords ⟨n, hn⟩) (X0_0 m c ⟨n, hn⟩) (X0_1 m c ⟨n, hn⟩) (X0_2 m c ⟨n, hn⟩) (X0_3 m c ⟨n, hn⟩) (iblk m c 4 ⟨n, hn⟩) (iblk m c 5 ⟨n, hn⟩) (iblk m c 6 ⟨n, hn⟩) (iblk m c 7 ⟨n, hn⟩)
          (iblk m c 8 ⟨n, hn⟩) (iblk m c 9 ⟨n, hn⟩) (iblk m c 10 ⟨n, hn⟩) s0 s1 s2 s3,
        k0_pay1 (F := Ideal) s0, k0_pay1 (F := Ideal) s1, k0_pay1 (F := Ideal) s2, k0_pay2 (F := Ideal) s3, c_rows (X0_0 m c ⟨n, hn⟩), c_rows (X0_1 m c ⟨n, hn⟩), c_rows (X0_2 m c ⟨n, hn⟩),
        c_states (grid0.coords ⟨n, hn⟩) (X0_1 m c ⟨n, hn⟩) (X0_2 m c ⟨n, hn⟩) (iblk m c 4 ⟨n, hn⟩) (iblk m c 6 ⟨n, hn⟩) (iblk m c 7 ⟨n, hn⟩) (iblk m c 8 ⟨n, hn⟩) (iblk m c 9 ⟨n, hn⟩) s1 s2 s3)

theorem leaves_zero (hn : 0 < cfg0.N) : Leaves (m := m) (c := c) 0 hn (k0_pay7 (F := Ideal)) (k0_pay8 (F := Ideal)) (k0_pay9 (F := Ideal)) (k0_pay10 (F := Ideal)) := by
  have h := outsAt0_A m c ⟨0, hn⟩ rfl
  dsimp only at h
  unfold Leaves
  rw [h, out_A_11, out_A_12, out_A_13, out_A_14, out_A_15, sout_A_0, sout_A_1, sout_A_2, sout_A_3]

theorem leaves_succ (n : ℕ) (hn : n + 1 < cfg0.N) :
    Leaves (m := m) (c := c) (n + 1) hn (outsAt0 m c n (by omega)).2.2.2.2.2.1 (outsAt0 m c n (by omega)).2.2.2.2.2.2.1 (outsAt0 m c n (by omega)).2.2.2.2.2.2.2.1 (outsAt0 m c n (by omega)).2.2.2.2.2.2.2.2 := by
  have h := outsAt0_B m c ⟨n + 1, hn⟩ (by have : n + 1 < 11 := hn; dsimp only; omega)
  dsimp only at h
  unfold Leaves
  rw [h, out_B_11, out_B_12, out_B_13, out_B_14, out_B_15, sout_B_0, sout_B_1, sout_B_2, sout_B_3]
  rfl

theorem enters_succ (G : Given m c P) {n : ℕ} (hn : n < cfg0.N) {s0 s1 s2 : Vec Ideal S8x512 .f32} {s3 : Vec Ideal S512x128 .f32} (hs : Entering P n s0 s1 s2 s3)
    (he : Leaves (m := m) (c := c) n hn s0 s1 s2 s3) :
    Entering P (n + 1) (outsAt0 m c n hn).2.2.2.2.2.1 (outsAt0 m c n hn).2.2.2.2.2.2.1 (outsAt0 m c n hn).2.2.2.2.2.2.2.1 (outsAt0 m c n hn).2.2.2.2.2.2.2.2 := by
  have hh := tile_holds G ⟨n, hn⟩ hs
  unfold Leaves at he
  rw [he]
  dsimp only
  refine ⟨rows_next (b_0 G ⟨n, hn⟩), rows_next (b_1 G ⟨n, hn⟩), rows_next (b_2 G ⟨n, hn⟩), ?_⟩
  rw [c_states, cast_6]
  exact tStates_at hh hs.states

/-- What enters a point is the layer's. -/
theorem carried (G : Given m c P) : ∀ (n : ℕ) (hn : n < cfg0.N), ∃ (s0 s1 s2 : Vec Ideal S8x512 .f32) (s3 : Vec Ideal S512x128 .f32), Entering P n s0 s1 s2 s3 ∧ Leaves (m := m) (c := c) n hn s0 s1 s2 s3 := by
  intro n
  induction n with
  | zero =>
    refine fun hn => ⟨k0_pay7 (F := Ideal), k0_pay8 (F := Ideal), k0_pay9 (F := Ideal), k0_pay10 (F := Ideal), ⟨rows_zero P 0 zero_7, rows_zero P 1 zero_8, rows_zero P 2 zero_9, fun j e => ?_⟩, leaves_zero hn⟩
    rw [zero_10, st_padding P _ _ (by omega), EReal.coe_zero]
  | succ n ih =>
    intro hn
    obtain ⟨s0, s1, s2, s3, hs, he⟩ := ih (by omega)
    exact ⟨_, _, _, _, enters_succ G (by omega) hs he, leaves_succ n hn⟩

theorem left_11 (G : Given m c P) (t : Fin cfg0.N) (r : Fin 192) (j : Fin 512) : (outsAt0 m c t.val t.isLt).1 (ix2 r j) = result P (rowAt t r) j := by
  obtain ⟨s0, s1, s2, s3, hs, he⟩ := carried G t.val t.isLt
  have hh := tile_holds G t hs
  unfold Leaves at he
  rw [he]
  dsimp only
  rw [t_y, product_at, gate_at, tMixed_at hh hs.states (fun e => by rw [cast_16]; exact b_10 G t e), b_3 G, hh.mask, mul_assoc]
  unfold result
  show _ = if 192 * t.val + r.val < 48 then _ else _
  by_cases q : 192 * t.val + r.val < 48
  · rw [if_pos q, if_pos q, EReal.coe_zero, mul_zero, mul_zero]
  · rw [if_neg q, if_neg q, EReal.coe_one, mul_one]

theorem left_12 (G : Given m c P) (t : Fin cfg0.N) (e : Fin 8) (n : Fin 512) : (outsAt0 m c t.val t.isLt).2.1 (ix4 0 0 e n) = rowsIn P 0 (tileOf t) e n := by
  obtain ⟨s0, s1, s2, s3, hs, he⟩ := carried G t.val t.isLt
  unfold Leaves at he
  rw [he]
  exact (saved_rows s0 e n).trans (hs.r0 e n)

theorem left_13 (G : Given m c P) (t : Fin cfg0.N) (e : Fin 8) (n : Fin 512) : (outsAt0 m c t.val t.isLt).2.2.1 (ix4 0 0 e n) = rowsIn P 1 (tileOf t) e n := by
  obtain ⟨s0, s1, s2, s3, hs, he⟩ := carried G t.val t.isLt
  unfold Leaves at he
  rw [he]
  exact (saved_rows s1 e n).trans (hs.r1 e n)

theorem left_14 (G : Given m c P) (t : Fin cfg0.N) (e : Fin 8) (n : Fin 512) : (outsAt0 m c t.val t.isLt).2.2.2.1 (ix4 0 0 e n) = rowsIn P 2 (tileOf t) e n := by
  obtain ⟨s0, s1, s2, s3, hs, he⟩ := carried G t.val t.isLt
  unfold Leaves at he
  rw [he]
  exact (saved_rows s2 e n).trans (hs.r2 e n)

theorem left_15 (G : Given m c P) (t : Fin cfg0.N) (j : Fin 512) (n : Fin 128) : (outsAt0 m c t.val t.isLt).2.2.2.2.1 (ix4 0 0 j n) = stateIn P (tileOf t) j n := by
  obtain ⟨s0, s1, s2, s3, hs, he⟩ := carried G t.val t.isLt
  unfold Leaves at he
  rw [he]
  exact (saved_states s3 j n).trans (hs.states j n)

theorem emb_11 (t : Fin cfg0.N) (j : S192x512.Idx) : ((cfg0.win 11).blk t).view.emb j = (ix2 (rowAt t (j 0)) (j 1) : S2112x512.Idx) := by
  obtain ⟨-, -, -, -, -, ⟨h0, h1⟩⟩ := idx_in t
  funext a
  apply Fin.ext
  match a with
  | ⟨0, _⟩ => show win0_11.index t 0 * 192 + 1 * (j 0).val = 192 * t.val + (j 0).val; rw [h0]; omega
  | ⟨1, _⟩ => show win0_11.index t 1 * 512 + 1 * (j 1).val = (j 1).val; rw [h1]; omega

theorem final_11 (G : Given m c P) : (dats m 0 c).arrAt 11 cfg0.N = fun i : S2112x512.Idx => result P (i 0) (i 1) := by
  refine (dats m 0 c).arrAt_eq_of_cover 11 _ (fun t hf => ?_) fun (i : S2112x512.Idx) => (covered_iff11 i).mpr ⟨Nat.zero_le _, (i 0).isLt, Nat.zero_le _, (i 1).isLt⟩
  rw [flushed11]
  refine funext fun (j : S192x512.Idx) => ?_
  rw [View.read_apply, emb_11]
  idx_vars j
  exact left_11 G t j0 j1

theorem emb_12 (t : Fin cfg0.N) (j : S1x1x8x512.Idx) : ((cfg0.win 12).blk t).view.emb j = (ix4 0 (tileOf t) (j 2) (j 3) : S1x11x8x512.Idx) := by
  obtain ⟨⟨h0, h1, h2, h3⟩, -⟩ := idx_saved t
  have k0 : (j 0).val < 1 := (j 0).isLt
  have k1 : (j 1).val < 1 := (j 1).isLt
  funext a
  apply Fin.ext
  match a with
  | ⟨0, _⟩ => show win0_12.index t 0 * 1 + 1 * (j 0).val = 0; rw [h0]; omega
  | ⟨1, _⟩ => show win0_12.index t 1 * 1 + 1 * (j 1).val = t.val; rw [h1]; omega
  | ⟨2, _⟩ => show win0_12.index t 2 * 8 + 1 * (j 2).val = (j 2).val; rw [h2]; omega
  | ⟨3, _⟩ => show win0_12.index t 3 * 512 + 1 * (j 3).val = (j 3).val; rw [h3]; omega

theorem final_12 (G : Given m c P) : (dats m 0 c).arrAt 12 cfg0.N = fun i : S1x11x8x512.Idx => rowsIn P 0 (i 1) (i 2) (i 3) := by
  refine (dats m 0 c).arrAt_eq_of_cover 12 _ (fun t hf => ?_) fun (i : S1x11x8x512.Idx) =>
    (covered_iff12 i).mpr ⟨Nat.zero_le _, (i 0).isLt, Nat.zero_le _, (i 1).isLt, Nat.zero_le _, (i 2).isLt, Nat.zero_le _, (i 3).isLt⟩
  rw [flushed12]
  refine funext fun (j : S1x1x8x512.Idx) => ?_
  rw [View.read_apply, emb_12]
  idx_vars j
  obtain rfl : j0 = 0 := Subsingleton.elim _ _
  obtain rfl : j1 = 0 := Subsingleton.elim _ _
  exact left_12 G t j2 j3

theorem emb_13 (t : Fin cfg0.N) (j : S1x1x8x512.Idx) : ((cfg0.win 13).blk t).view.emb j = (ix4 0 (tileOf t) (j 2) (j 3) : S1x11x8x512.Idx) := by
  obtain ⟨-, ⟨h0, h1, h2, h3⟩, -⟩ := idx_saved t
  have k0 : (j 0).val < 1 := (j 0).isLt
  have k1 : (j 1).val < 1 := (j 1).isLt
  funext a
  apply Fin.ext
  match a with
  | ⟨0, _⟩ => show win0_13.index t 0 * 1 + 1 * (j 0).val = 0; rw [h0]; omega
  | ⟨1, _⟩ => show win0_13.index t 1 * 1 + 1 * (j 1).val = t.val; rw [h1]; omega
  | ⟨2, _⟩ => show win0_13.index t 2 * 8 + 1 * (j 2).val = (j 2).val; rw [h2]; omega
  | ⟨3, _⟩ => show win0_13.index t 3 * 512 + 1 * (j 3).val = (j 3).val; rw [h3]; omega

theorem final_13 (G : Given m c P) : (dats m 0 c).arrAt 13 cfg0.N = fun i : S1x11x8x512.Idx => rowsIn P 1 (i 1) (i 2) (i 3) := by
  refine (dats m 0 c).arrAt_eq_of_cover 13 _ (fun t hf => ?_) fun (i : S1x11x8x512.Idx) =>
    (covered_iff13 i).mpr ⟨Nat.zero_le _, (i 0).isLt, Nat.zero_le _, (i 1).isLt, Nat.zero_le _, (i 2).isLt, Nat.zero_le _, (i 3).isLt⟩
  rw [flushed13]
  refine funext fun (j : S1x1x8x512.Idx) => ?_
  rw [View.read_apply, emb_13]
  idx_vars j
  obtain rfl : j0 = 0 := Subsingleton.elim _ _
  obtain rfl : j1 = 0 := Subsingleton.elim _ _
  exact left_13 G t j2 j3

theorem emb_14 (t : Fin cfg0.N) (j : S1x1x8x512.Idx) : ((cfg0.win 14).blk t).view.emb j = (ix4 0 (tileOf t) (j 2) (j 3) : S1x11x8x512.Idx) := by
  obtain ⟨-, -, ⟨h0, h1, h2, h3⟩, -⟩ := idx_saved t
  have k0 : (j 0).val < 1 := (j 0).isLt
  have k1 : (j 1).val < 1 := (j 1).isLt
  funext a
  apply Fin.ext
  match a with
  | ⟨0, _⟩ => show win0_14.index t 0 * 1 + 1 * (j 0).val = 0; rw [h0]; omega
  | ⟨1, _⟩ => show win0_14.index t 1 * 1 + 1 * (j 1).val = t.val; rw [h1]; omega
  | ⟨2, _⟩ => show win0_14.index t 2 * 8 + 1 * (j 2).val = (j 2).val; rw [h2]; omega
  | ⟨3, _⟩ => show win0_14.index t 3 * 512 + 1 * (j 3).val = (j 3).val; rw [h3]; omega

theorem final_14 (G : Given m c P) : (dats m 0 c).arrAt 14 cfg0.N = fun i : S1x11x8x512.Idx => rowsIn P 2 (i 1) (i 2) (i 3) := by
  refine (dats m 0 c).arrAt_eq_of_cover 14 _ (fun t hf => ?_) fun (i : S1x11x8x512.Idx) =>
    (covered_iff14 i).mpr ⟨Nat.zero_le _, (i 0).isLt, Nat.zero_le _, (i 1).isLt, Nat.zero_le _, (i 2).isLt, Nat.zero_le _, (i 3).isLt⟩
  rw [flushed14]
  refine funext fun (j : S1x1x8x512.Idx) => ?_
  rw [View.read_apply, emb_14]
  idx_vars j
  obtain rfl : j0 = 0 := Subsingleton.elim _ _
  obtain rfl : j1 = 0 := Subsingleton.elim _ _
  exact left_14 G t j2 j3

theorem emb_15 (t : Fin cfg0.N) (j : S1x1x512x128.Idx) : ((cfg0.win 15).blk t).view.emb j = (ix4 0 (tileOf t) (j 2) (j 3) : S1x11x512x128.Idx) := by
  obtain ⟨-, -, -, ⟨h0, h1, h2, h3⟩⟩ := idx_saved t
  have k0 : (j 0).val < 1 := (j 0).isLt
  have k1 : (j 1).val < 1 := (j 1).isLt
  funext a
  apply Fin.ext
  match a with
  | ⟨0, _⟩ => show win0_15.index t 0 * 1 + 1 * (j 0).val = 0; rw [h0]; omega
  | ⟨1, _⟩ => show win0_15.index t 1 * 1 + 1 * (j 1).val = t.val; rw [h1]; omega
  | ⟨2, _⟩ => show win0_15.index t 2 * 512 + 1 * (j 2).val = (j 2).val; rw [h2]; omega
  | ⟨3, _⟩ => show win0_15.index t 3 * 128 + 1 * (j 3).val = (j 3).val; rw [h3]; omega

theorem final_15 (G : Given m c P) : (dats m 0 c).arrAt 15 cfg0.N = fun i : S1x11x512x128.Idx => stateIn P (i 1) (i 2) (i 3) := by
  refine (dats m 0 c).arrAt_eq_of_cover 15 _ (fun t hf => ?_) fun (i : S1x11x512x128.Idx) =>
    (covered_iff15 i).mpr ⟨Nat.zero_le _, (i 0).isLt, Nat.zero_le _, (i 1).isLt, Nat.zero_le _, (i 2).isLt, Nat.zero_le _, (i 3).isLt⟩
  rw [flushed15]
  refine funext fun (j : S1x1x512x128.Idx) => ?_
  rw [View.read_apply, emb_15]
  idx_vars j
  obtain rfl : j0 = 0 := Subsingleton.elim _ _
  obtain rfl : j1 = 0 := Subsingleton.elim _ _
  exact left_15 G t j2 j3

end Carry

end Cert.GdnFwdIdeal.Value

end
-- ==== Proof.GdnHostRef.lean ====
/-
  What the reference of the forward call of the gated delta rule makes of its arguments: queries, keys, values, gates and rates
  are those of the layer.
-/
module

public import proofs.«01_k».proof.Proof.Gen.GdnFwdRefIdeal.Run
public import proofs.«01_k».proof.Proof.GdnSpec
public import Idealize.ShloMosaic.Lib.Pointwise

@[expose] public section

set_option maxRecDepth 16384

noncomputable section

open Idealize.ShloMosaic Idealize.ShloMosaic.TcCoe Idealize.ShloMosaic.StableHlo

namespace Cert.GdnFwdRefIdeal.Value

open Cert.GdnFwdRefIdeal Cert.GdnFwdRefIdeal.Gen Cert.Gdn Cert.S5 Cert.Lru

abbrev h_row (w : FVec Ideal S1x1536 .f32) : FVec Ideal S2064x1536 .f32 :=
  broadcastInDim S2064x1536 ![0, 1] bcast_S1x1536_S2064x1536_0_1 (broadcastInDim S1x1536 ![1] bcast_S1536_S1x1536_1 (shapeCast S1536 w shapeCasts_S1x1536_S1536))
abbrev h_const (b : BitVec 32) : FVec Ideal S2064x1536 .f32 := broadcastInDim S2064x1536 ![] bcast_S_S2064x1536 (constant S_ .f32 b)
def h_front (x0 : FVec Ideal S2064x1536 .f32) : FVec Ideal S2067x1536 .f32 :=
  concatenate S2067x1536 0 [⟨S3x1536, broadcastInDim S3x1536 ![] bcast_S_S3x1536 (constant S_ .f32 0x00000000#32)⟩, ⟨S2064x1536, x0⟩] concatenates_S3x1536_S2064x1536_S2067x1536_d0
def h_conv (x0 : FVec Ideal S2064x1536 .f32) (x4 : FVec Ideal S4x1536 .f32) : FVec Ideal S2064x1536 .f32 :=
  addf (addf (addf (addf (h_const 0x00000000#32)
      (mulf (extractStridedSlice S2064x1536 ![0, 0] (h_front x0) slices_S2067x1536_S2064x1536_0_0) (h_row (extractStridedSlice S1x1536 ![0, 0] x4 slices_S4x1536_S1x1536_0_0))))
      (mulf (extractStridedSlice S2064x1536 ![1, 0] (h_front x0) slices_S2067x1536_S2064x1536_1_0) (h_row (extractStridedSlice S1x1536 ![1, 0] x4 slices_S4x1536_S1x1536_1_0))))
      (mulf (extractStridedSlice S2064x1536 ![2, 0] (h_front x0) slices_S2067x1536_S2064x1536_2_0) (h_row (extractStridedSlice S1x1536 ![2, 0] x4 slices_S4x1536_S1x1536_2_0))))
      (mulf (extractStridedSlice S2064x1536 ![3, 0] (h_front x0) slices_S2067x1536_S2064x1536_3_0) (h_row (extractStridedSlice S1x1536 ![3, 0] x4 slices_S4x1536_S1x1536_3_0)))
def h_silu (x : FVec Ideal S2064x1536 .f32) : FVec Ideal S2064x1536 .f32 := mulf x (Host.divf (h_const 0x3F800000#32) (addf (h_const 0x3F800000#32) (Host.exp (Host.negf x))))
def h_part (x : FVec Ideal S2064x512 .f32) : FVec Ideal S2064x4x128 .f32 := shapeCast S2064x4x128 x shapeCasts_S2064x512_S2064x4x128
def h_unit (y : FVec Ideal S2064x4x128 .f32) : FVec Ideal S2064x4x128 .f32 :=
  mulf y (broadcastInDim S2064x4x128 ![0, 1, 2] bcast_S2064x4x1_S2064x4x128_0_1_2 (Host.rsqrt (addf
    (broadcastInDim S2064x4x1 ![0, 1] bcast_S2064x4_S2064x4x1_0_1 (Host.reduceAdd (mulf y y) (constant S_ .f32 0x00000000#32) reducesTo_S2064x4x128_S2064x4_d2 h_S_))
    (broadcastInDim S2064x4x1 ![] bcast_S_S2064x4x1 (constant S_ .f32 0x358637BD#32)))))
def h_query (x0 : FVec Ideal S2064x1536 .f32) (x4 : FVec Ideal S4x1536 .f32) : FVec Ideal S2064x4x128 .f32 :=
  mulf (h_unit (h_part (extractStridedSlice S2064x512 ![0, 0] (h_silu (h_conv x0 x4)) slices_S2064x1536_S2064x512_0_0))) (broadcastInDim S2064x4x128 ![] bcast_S_S2064x4x128 (constant S_ .f32 0x3DB504F3#32))
def h_key (x0 : FVec Ideal S2064x1536 .f32) (x4 : FVec Ideal S4x1536 .f32) : FVec Ideal S2064x4x128 .f32 :=
  h_unit (h_part (extractStridedSlice S2064x512 ![0, 512] (h_silu (h_conv x0 x4)) slices_S2064x1536_S2064x512_0_512))
def h_value (x0 : FVec Ideal S2064x1536 .f32) (x4 : FVec Ideal S4x1536 .f32) : FVec Ideal S2064x4x128 .f32 :=
  h_part (extractStridedSlice S2064x512 ![0, 1024] (h_silu (h_conv x0 x4)) slices_S2064x1536_S2064x512_0_1024)
abbrev h_fill (b : BitVec 32) : FVec Ideal S2064x4 .f32 := broadcastInDim S2064x4 ![] bcast_S_S2064x4 (constant S_ .f32 b)
abbrev h_heads (v : FVec Ideal S4 .f32) : FVec Ideal S2064x4 .f32 := broadcastInDim S2064x4 ![0, 1] bcast_S1x4_S2064x4_0_1 (broadcastInDim S1x4 ![1] bcast_S4_S1x4_1 v)
def h_gate (x2 : FVec Ideal S2064x4 .f32) : FVec Ideal S2064x4 .f32 := Host.divf (h_fill 0x3F800000#32) (addf (h_fill 0x3F800000#32) (Host.exp (Host.negf x2)))
def h_soft (s : FVec Ideal S2064x4 .f32) : FVec Ideal S2064x4 .f32 :=
  select (cmpf .une (subf s (h_fill 0x00000000#32)) (subf s (h_fill 0x00000000#32))) (addf s (h_fill 0x00000000#32))
    (addf (maximumf s (h_fill 0x00000000#32)) (Host.log1p (Host.exp (Host.negf (Host.absf (subf s (h_fill 0x00000000#32)))))))
def h_rate (x3 : FVec Ideal S2064x4 .f32) (x5 x6 : FVec Ideal S4 .f32) : FVec Ideal S2064x4 .f32 := mulf (h_heads (Host.negf (Host.exp x5))) (h_soft (addf x3 (h_heads x6)))

/-! ## Their entries -/

section Entries
variable {x0 : FVec Ideal S2064x1536 .f32} {x2 x3 : FVec Ideal S2064x4 .f32} {x4 : FVec Ideal S4x1536 .f32} {x5 x6 : FVec Ideal S4 .f32} {P : Args}

theorem front_at (h0 : ∀ (t : Fin 2064) (j : Fin 1536), x0 (ix2 t j) = (P.X t j : EReal)) (i : Fin 2067) (j : Fin 1536) : h_front x0 (ix2 i j) = (rowAfter P 3 i j : EReal) := by
  have hi := i.isLt
  pointwise [h_front]
  unfold rowAfter
  by_cases h : i.val < 3
  · rw [dif_pos h, dif_neg (by omega), EReal.coe_zero]
  · rw [dif_neg h, dif_pos ⟨by omega, by omega⟩]
    exact h0 _ _

theorem silu_at (x : FVec Ideal S2064x1536 .f32) (t : Fin 2064) (j : Fin 1536) : h_silu x (ix2 t j) = x (ix2 t j) * Ideal.logistic (x (ix2 t j)) := by
  pointwise [h_silu]
  rfl

theorem act_at (h0 : ∀ (t : Fin 2064) (j : Fin 1536), x0 (ix2 t j) = (P.X t j : EReal)) (h4 : ∀ (k : Fin 4) (j : Fin 1536), x4 (ix2 k j) = (P.cw k j : EReal))
    (t : Fin 2064) (j : Fin 1536) : h_silu (h_conv x0 x4) (ix2 t j) = (act P 3 t j : EReal) := by
  have ht := t.isLt
  have e : ∀ (s : ℕ) (hs : s < 4), h_front x0 (ix2 ⟨s + t, by omega⟩ j) = (rowAfter P 3 (t + s) j : EReal) := fun s hs =>
    (front_at h0 _ j).trans (congrArg (fun k => ((rowAfter P 3 k j : ℝ) : EReal)) (Nat.add_comm s t.val))
  have e0 : h_front x0 (ix2 ⟨t, by omega⟩ j) = (rowAfter P 3 t j : EReal) := front_at h0 _ j
  have hc : h_conv x0 x4 (ix2 t j) = (conv P 3 t j : EReal) := by
    pointwise [h_conv]
    rw [e 1 (by omega), e 2 (by omega), e 3 (by omega), e0, h4, h4, h4, h4]
    unfold conv
    push_cast
    simp only [zero_add, mul_comm]
  rw [silu_at, hc, silu_coe, act]

theorem part_0_at {x : FVec Ideal S2064x1536 .f32} (hx : ∀ (t : Fin 2064) (j : Fin 1536), x (ix2 t j) = (act P 3 t j : EReal)) (t : Fin 2064) (h : Fin 4) (e : Fin 128) :
    h_part (extractStridedSlice S2064x512 ![0, 0] x slices_S2064x1536_S2064x512_0_0) (ix3 t h e) = (part P 3 0 h t e : EReal) := by
  pointwise [h_part]
  rw [hx]
  exact congrArg (fun j => ((act P 3 t j : ℝ) : EReal)) (Fin.ext (by simp only [inThird, inHead]; omega))
theorem part_1_at {x : FVec Ideal S2064x1536 .f32} (hx : ∀ (t : Fin 2064) (j : Fin 1536), x (ix2 t j) = (act P 3 t j : EReal)) (t : Fin 2064) (h : Fin 4) (e : Fin 128) :
    h_part (extractStridedSlice S2064x512 ![0, 512] x slices_S2064x1536_S2064x512_0_512) (ix3 t h e) = (part P 3 1 h t e : EReal) := by
  pointwise [h_part]
  rw [hx]
  exact congrArg (fun j => ((act P 3 t j : ℝ) : EReal)) (Fin.ext (by simp only [inThird, inHead]; omega))
theorem part_2_at {x : FVec Ideal S2064x1536 .f32} (hx : ∀ (t : Fin 2064) (j : Fin 1536), x (ix2 t j) = (act P 3 t j : EReal)) (t : Fin 2064) (h : Fin 4) (e : Fin 128) :
    h_part (extractStridedSlice S2064x512 ![0, 1024] x slices_S2064x1536_S2064x512_0_1024) (ix3 t h e) = (part P 3 2 h t e : EReal) := by
  pointwise [h_part]
  rw [hx]
  exact congrArg (fun j => ((act P 3 t j : ℝ) : EReal)) (Fin.ext (by simp only [inThird, inHead]; omega))

theorem unit_at {y : FVec Ideal S2064x4x128 .f32} {o : Fin 3} (hy : ∀ (t : Fin 2064) (h : Fin 4) (e : Fin 128), y (ix3 t h e) = (part P 3 o h t e : EReal)) (t : Fin 2064) (h : Fin 4) (e : Fin 128) :
    h_unit y (ix3 t h e) = (unitPart P 3 o h t e : EReal) := by
  have hu := unit_coe (y := fun e => y (ix3 t h e)) (f := part P 3 o h t) (hy t h)
  pointwise [h_unit]
  rw [hu, hy, ← EReal.coe_mul, unitPart]

variable (h0 : ∀ (t : Fin 2064) (j : Fin 1536), x0 (ix2 t j) = (P.X t j : EReal)) (h4 : ∀ (k : Fin 4) (j : Fin 1536), x4 (ix2 k j) = (P.cw k j : EReal))
include h0 h4

theorem query_at (t : Fin 2064) (h : Fin 4) (e : Fin 128) : h_query x0 x4 (ix3 t h e) = (query P h (t + 48) e : EReal) := by
  have hu := unit_at (part_0_at (act_at h0 h4)) t h e
  pointwise [h_query]
  rw [hu, scale_coe, ← EReal.coe_mul, query, if_neg (by omega)]
  unfold unitPart
  rw [part_add P 3 48]

theorem key_at (t : Fin 2064) (h : Fin 4) (e : Fin 128) : h_key x0 x4 (ix3 t h e) = (key P h (t + 48) e : EReal) := by
  refine (unit_at (part_1_at (act_at h0 h4)) t h e).trans ?_
  rw [key, if_neg (by omega)]
  unfold unitPart
  rw [part_add P 3 48]

theorem value_at (t : Fin 2064) (h : Fin 4) (e : Fin 128) : h_value x0 x4 (ix3 t h e) = (value P h (t + 48) e : EReal) := by
  refine (part_2_at (act_at h0 h4) t h e).trans ?_
  rw [value, if_neg (by omega), part_add P 3 48]

omit h0 h4

theorem gate_at (h2 : ∀ (t : Fin 2064) (h : Fin 4), x2 (ix2 t h) = P.B t h) (t : Fin 2064) (h : Fin 4) : h_gate x2 (ix2 t h) = (gate P h (t + 48) : EReal) := by
  have e : h_gate x2 (ix2 t h) = Ideal.logistic (x2 (ix2 t h)) := by
    pointwise [h_gate]
    rfl
  have ht := t.isLt
  rw [e, h2, logistic_coe', gate, dif_pos ⟨by omega, by omega⟩]
  rfl

theorem soft_at (s : FVec Ideal S2064x4 .f32) (t : Fin 2064) (h : Fin 4) : h_soft s (ix2 t h) = soft (s (ix2 t h)) := by
  pointwise [h_soft]
  rw [if_neg (fun h => h rfl)]
  rfl

theorem rate_at (h3 : ∀ (t : Fin 2064) (h : Fin 4), x3 (ix2 t h) = (P.A t h : EReal)) (h5 : ∀ h : Fin 4, x5 (ix1 h) = (P.al h : EReal)) (h6 : ∀ h : Fin 4, x6 (ix1 h) = (P.db h : EReal))
    (t : Fin 2064) (h : Fin 4) : h_rate x3 x5 x6 (ix2 t h) = (rate P h (t + 48) : EReal) := by
  have hs : h_soft (addf x3 (h_heads x6)) (ix2 t h) = (softR (P.A t h + P.db h) : EReal) := by
    have e : addf x3 (h_heads x6) (ix2 t h) = ((P.A t h + P.db h : ℝ) : EReal) := by
      pointwise
      rw [h3, h6, EReal.coe_add]
    rw [soft_at, e, soft_coe]
  have ht := t.isLt
  pointwise [h_rate]
  rw [hs, h5, exp_coe, ← EReal.coe_neg, ← EReal.coe_mul, rate, dif_pos ⟨by omega, by omega⟩]
  rfl

end Entries

end Cert.GdnFwdRefIdeal.Value

end
-- ==== Proof.GdnRef.lean ====
/-
  The values of the reference of the forward call of the gated delta rule: its loop over the positions is the recurrence.
-/
module

public import proofs.«01_k».proof.Proof.GdnHostRef
public import Idealize.ShloMosaic.Lib.DynamicIndex
public import Idealize.ShloMosaic.Lib.Pipeline.Value

@[expose] public section

set_option maxRecDepth 16384

noncomputable section

open Idealize.ShloMosaic Idealize.ShloMosaic.TcCoe Idealize.ShloMosaic.StableHlo

namespace Cert.GdnFwdRefIdeal.Value

open Cert.GdnFwdRefIdeal Cert.GdnFwdRefIdeal.Gen Cert.Gdn Cert.S5 Cert.Lru

section Rows

theorem cut_heads (x : FVec Ideal S2064x4x128 .f32) (s : Fin 3 → Int) (k : ℕ) (hk : k < 2064) (hs : ∀ a, s a = ((![k, 0, 0] : Fin 3 → ℕ) a : Int)) (h : Fin 4) (e : Fin 128) :
    shapeCast S4x128 (Host.dynamicSlice S1x4x128 x s sliceFits_S2064x4x128_S1x4x128) shapeCasts_S1x4x128_S4x128 (ix2 h e) = x (ix3 ⟨k, hk⟩ h e) := by
  have hoff : S2064x4x128.Slices (![k, 0, 0] : Fin 3 → ℕ) S1x4x128 := ⟨rfl, fun a => by
    fin_cases a
    · show k + 1 ≤ 2064; omega
    · show 0 + 4 ≤ 4; omega
    · show 0 + 128 ≤ 128; omega⟩
  rw [Host.dynamicSlice_eq_extractStridedSlice S1x4x128 x s ![k, 0, 0] _ hoff hs]
  pointwise

theorem cut_row (x : FVec Ideal S2064x4 .f32) (s : Fin 2 → Int) (k : ℕ) (hk : k < 2064) (hs : ∀ a, s a = ((![k, 0] : Fin 2 → ℕ) a : Int)) (h : Fin 4) :
    shapeCast S4 (Host.dynamicSlice S1x4 x s sliceFits_S2064x4_S1x4) shapeCasts_S1x4_S4 (ix1 h) = x (ix2 ⟨k, hk⟩ h) := by
  have hoff : S2064x4.Slices (![k, 0] : Fin 2 → ℕ) S1x4 := ⟨rfl, fun a => by
    fin_cases a
    · show k + 1 ≤ 2064; omega
    · show 0 + 4 ≤ 4; omega⟩
  rw [Host.dynamicSlice_eq_extractStridedSlice S1x4 x s ![k, 0] _ hoff hs]
  pointwise

theorem put_state (x : FVec Ideal S2064x4x128x128 .f32) (v : FVec Ideal S4x128x128 .f32) (s : Fin 4 → Int) (k : ℕ) (hk : k < 2064) (hs : ∀ a, s a = ((![k, 0, 0, 0] : Fin 4 → ℕ) a : Int))
    (t : Fin 2064) (h : Fin 4) (d e : Fin 128) :
    Host.dynamicUpdateSlice x (broadcastInDim S1x4x128x128 ![1, 2, 3] bcast_S4x128x128_S1x4x128x128_1_2_3 v) s updateFits_S2064x4x128x128_S1x4x128x128 (ix4 t h d e)
      = if t.val = k then v (ix3 h d e) else x (ix4 t h d e) := by
  have hoff : S2064x4x128x128.Slices (![k, 0, 0, 0] : Fin 4 → ℕ) S1x4x128x128 := ⟨rfl, fun a => by
    fin_cases a
    · show k + 1 ≤ 2064; omega
    · show 0 + 4 ≤ 4; omega
    · show 0 + 128 ≤ 128; omega
    · show 0 + 128 ≤ 128; omega⟩
  rw [Host.dynamicUpdateSlice_eq_updateSlice x _ s _ ![k, 0, 0, 0] (fun a => by
    have := hoff.2 a
    rw [hs a]
    omega) hoff]
  pointwise
  by_cases q : t.val = k
  · rw [dif_pos (by omega), if_pos q]
  · rw [dif_neg (by omega), if_neg q]

theorem put_output (x : FVec Ideal S2064x4x128 .f32) (v : FVec Ideal S4x128 .f32) (s : Fin 3 → Int) (k : ℕ) (hk : k < 2064) (hs : ∀ a, s a = ((![k, 0, 0] : Fin 3 → ℕ) a : Int))
    (t : Fin 2064) (h : Fin 4) (e : Fin 128) :
    Host.dynamicUpdateSlice x (broadcastInDim S1x4x128 ![1, 2] bcast_S4x128_S1x4x128_1_2 v) s updateFits_S2064x4x128_S1x4x128 (ix3 t h e)
      = if t.val = k then v (ix2 h e) else x (ix3 t h e) := by
  have hoff : S2064x4x128.Slices (![k, 0, 0] : Fin 3 → ℕ) S1x4x128 := ⟨rfl, fun a => by
    fin_cases a
    · show k + 1 ≤ 2064; omega
    · show 0 + 4 ≤ 4; omega
    · show 0 + 128 ≤ 128; omega⟩
  rw [Host.dynamicUpdateSlice_eq_updateSlice x _ s _ ![k, 0, 0] (fun a => by
    have := hoff.2 a
    rw [hs a]
    omega) hoff]
  pointwise
  by_cases q : t.val = k
  · rw [dif_pos (by omega), if_pos q]
  · rw [dif_neg (by omega), if_neg q]

theorem decayed_at (g : FVec Ideal S4 .f32) (s : FVec Ideal S4x128x128 .f32) (h : Fin 4) (d e : Fin 128) :
    mulf (broadcastInDim S4x128x128 ![0, 1, 2] bcast_S4x1x1_S4x128x128_0_1_2 (broadcastInDim S4x1x1 ![0] bcast_S4_S4x1x1_0 (Host.exp g))) s (ix3 h d e) = Ideal.exp (g (ix1 h)) * s (ix3 h d e) := by
  pointwise

theorem applied_at (q : FVec Ideal S4x128 .f32) (s : FVec Ideal S4x128x128 .f32) (h : Fin 4) (e : Fin 128) :
    (Host.dotGeneral (φ₁ := .f32) (φ₂ := .f32) dot_S4x128_S4x128x128_S4x128_1_1_n_2_0_0 none q s : FVec Ideal S4x128 .f32) (ix2 h e) = ∑ d : Fin 128, q (ix2 h d) * s (ix3 h d e) := by
  pointwise

theorem added_at (D : FVec Ideal S4x128x128 .f32) (K : FVec Ideal S4x128 .f32) (b : FVec Ideal S4 .f32) (v w : FVec Ideal S4x128 .f32) (h : Fin 4) (d e : Fin 128) :
    addf D (mulf (broadcastInDim S4x128x128 ![0, 1, 2] bcast_S4x128x1_S4x128x128_0_1_2 (broadcastInDim S4x128x1 ![0, 1] bcast_S4x128_S4x128x1_0_1 K))
      (broadcastInDim S4x128x128 ![0, 1, 2] bcast_S4x1x128_S4x128x128_0_1_2 (broadcastInDim S4x1x128 ![0, 2] bcast_S4x128_S4x1x128_0_2
        (mulf (broadcastInDim S4x128 ![0, 1] bcast_S4x1_S4x128_0_1 (broadcastInDim S4x1 ![0] bcast_S4_S4x1_0 b)) (subf v w))))) (ix3 h d e)
      = D (ix3 h d e) + K (ix2 h d) * (b (ix1 h) * (v (ix2 h e) - w (ix2 h e))) := by
  pointwise

end Rows

section Loop
variable (m : (ℓ : Loc nD τ sig) → Buf (Elt Ideal) ℓ) (c : Dev nD)

/-- What the loop carries after `k` trips: the rows as at its entry, the counter at `k`, the state after `k` rows, and the
    states and outputs so far stacked. -/
structure At (P : Args) (k : ℕ) (V : Valuation τ sig (Elt Ideal)) : Prop where
  q : ∀ (t : Fin 2064) (h : Fin 4) (e : Fin 128), (V (Proc.devRef .tc main_v74_0) : FVec Ideal S2064x4x128 .f32) (ix3 t h e) = (query P h (t + 48) e : EReal)
  ky : ∀ (t : Fin 2064) (h : Fin 4) (e : Fin 128), (V (Proc.devRef .tc main_v74_1) : FVec Ideal S2064x4x128 .f32) (ix3 t h e) = (key P h (t + 48) e : EReal)
  v : ∀ (t : Fin 2064) (h : Fin 4) (e : Fin 128), (V (Proc.devRef .tc main_v74_2) : FVec Ideal S2064x4x128 .f32) (ix3 t h e) = (value P h (t + 48) e : EReal)
  b : ∀ (t : Fin 2064) (h : Fin 4), (V (Proc.devRef .tc main_v74_3) : FVec Ideal S2064x4 .f32) (ix2 t h) = (gate P h (t + 48) : EReal)
  g : ∀ (t : Fin 2064) (h : Fin 4), (V (Proc.devRef .tc main_v74_4) : FVec Ideal S2064x4 .f32) (ix2 t h) = (rate P h (t + 48) : EReal)
  ctr : V (Proc.devRef .tc main_v74_5) = fun _ => Scf.iv 0#32 1#32 k
  now : ∀ (h : Fin 4) (d e : Fin 128), (V (Proc.devRef .tc main_v74_6) : FVec Ideal S4x128x128 .f32) (ix3 h d e) = (st P h (k + 48) d e : EReal)
  all : ∀ (t : Fin 2064) (h : Fin 4) (d e : Fin 128), t.val < k → (V (Proc.devRef .tc main_v74_7) : FVec Ideal S2064x4x128x128 .f32) (ix4 t h d e) = (st P h (t + 48 + 1) d e : EReal)
  outs : ∀ (t : Fin 2064) (h : Fin 4) (e : Fin 128), t.val < k → (V (Proc.devRef .tc main_v74_8) : FVec Ideal S2064x4x128 .f32) (ix3 t h e) = (out P h (t + 48) e : EReal)

theorem counter_at {V : Valuation τ sig (Elt Ideal)} {k : ℕ} (hk : k < 2064) (h : V (Proc.devRef .tc main_v74_5) = fun _ => Scf.iv 0#32 1#32 k) :
    ((V (Proc.devRef .tc main_v74_5) : IVec S_ 32) (Shape.Idx.first h_S_)).toInt = (k : Int) := by
  rw [h]
  show (Scf.iv 0#32 1#32 k).toInt = k
  have e : (Scf.iv 0#32 1#32 k).toNat = k := by
    simp only [Scf.iv, zero_add, mul_one, BitVec.zero_add, BitVec.mul_one, BitVec.toNat_ofNat]
    omega
  rw [BitVec.toInt_eq_toNat_of_lt (by omega), e]

theorem start_2 {V : Valuation τ sig (Elt Ideal)} {k : ℕ} (hk : k < 2064) (h : V (Proc.devRef .tc main_v74_5) = fun _ => Scf.iv 0#32 1#32 k) (a : Fin 2) :
    (((![V (Proc.devRef .tc main_v74_5), constantI S_ 32 0#32] : Fin 2 → (⟨S_, .i32⟩ : BufTy).Contents (Elt Ideal)) a (Shape.Idx.first h_S_) : BitVec 32)).toInt
      = ((![k, 0] : Fin 2 → ℕ) a : Int) := by
  fin_cases a
  · exact counter_at hk h
  · rfl
theorem start_3 {V : Valuation τ sig (Elt Ideal)} {k : ℕ} (hk : k < 2064) (h : V (Proc.devRef .tc main_v74_5) = fun _ => Scf.iv 0#32 1#32 k) (a : Fin 3) :
    (((![V (Proc.devRef .tc main_v74_5), constantI S_ 32 0#32, constantI S_ 32 0#32] : Fin 3 → (⟨S_, .i32⟩ : BufTy).Contents (Elt Ideal)) a (Shape.Idx.first h_S_) : BitVec 32)).toInt
      = ((![k, 0, 0] : Fin 3 → ℕ) a : Int) := by
  fin_cases a
  · exact counter_at hk h
  · rfl
  · rfl
theorem start_4 {V : Valuation τ sig (Elt Ideal)} {k : ℕ} (hk : k < 2064) (h : V (Proc.devRef .tc main_v74_5) = fun _ => Scf.iv 0#32 1#32 k) (a : Fin 4) :
    (((![V (Proc.devRef .tc main_v74_5), constantI S_ 32 0#32, constantI S_ 32 0#32, constantI S_ 32 0#32] : Fin 4 → (⟨S_, .i32⟩ : BufTy).Contents (Elt Ideal)) a (Shape.Idx.first h_S_) : BitVec 32)).toInt
      = ((![k, 0, 0, 0] : Fin 4 → ℕ) a : Int) := by
  fin_cases a
  · exact counter_at hk h
  · rfl
  · rfl
  · rfl

variable {P : Args}

theorem At.decayed {k : ℕ} {V : Valuation τ sig (Elt Ideal)} (hk : k < 2064) (H : At P k V) (h : Fin 4) (d e : Fin 128) :
    (res_main_while0b_v123 V : FVec Ideal S4x128x128 .f32) (ix3 h d e) = ((Real.exp (rate P h (k + 48)) * st P h (k + 48) d e : ℝ) : EReal) := by
  have eg := (cut_row (V (Proc.devRef .tc main_v74_4)) _ k hk (start_2 hk H.ctr) h).trans (H.g ⟨k, hk⟩ h)
  refine (decayed_at _ _ h d e).trans ?_
  rw [H.now]
  refine (congrArg (fun x : EReal => Ideal.exp x * (st P h (k + 48) d e : EReal)) eg).trans ?_
  rw [exp_coe, EReal.coe_mul]

theorem At.next {k : ℕ} {V : Valuation τ sig (Elt Ideal)} (hk : k < 2064) (H : At P k V) (h : Fin 4) (d e : Fin 128) :
    (res_main_while0b_v134 V : FVec Ideal S4x128x128 .f32) (ix3 h d e) = (st P h (k + 48 + 1) d e : EReal) := by
  have ek : ∀ e : Fin 128, (res_main_while0b_v116 V : FVec Ideal S4x128 .f32) (ix2 h e) = (key P h (k + 48) e : EReal) := fun e =>
    (cut_heads (V (Proc.devRef .tc main_v74_1)) _ k hk (start_3 hk H.ctr) h e).trans (H.ky ⟨k, hk⟩ h e)
  have ev := (cut_heads (V (Proc.devRef .tc main_v74_2)) _ k hk (start_3 hk H.ctr) h e).trans (H.v ⟨k, hk⟩ h e)
  have eb := (cut_row (V (Proc.devRef .tc main_v74_3)) _ k hk (start_2 hk H.ctr) h).trans (H.b ⟨k, hk⟩ h)
  have ew : (Host.dotGeneral (φ₁ := .f32) (φ₂ := .f32) dot_S4x128_S4x128x128_S4x128_1_1_n_2_0_0 none (res_main_while0b_v116 V : FVec Ideal S4x128 .f32) (res_main_while0b_v123 V : FVec Ideal S4x128x128 .f32) : FVec Ideal S4x128 .f32) (ix2 h e)
      = ((∑ x, key P h (k + 48) x * (Real.exp (rate P h (k + 48)) * st P h (k + 48) x e) : ℝ) : EReal) := by
    rw [applied_at]
    simp only [ek, H.decayed hk, ← EReal.coe_mul, coe_sum]
  refine (added_at _ _ _ _ _ h d e).trans ?_
  refine (congrArg₂ (fun x y : EReal => x + y) (H.decayed hk h d e) (congrArg₂ (fun x y : EReal => x * y) (ek d) (congrArg₂ (fun x y : EReal => x * y) eb (congrArg₂ (fun x y : EReal => x - y) ev ew)))).trans ?_
  simp only [← EReal.coe_sub, ← EReal.coe_mul, ← EReal.coe_add]
  rfl

theorem At.output {k : ℕ} {V : Valuation τ sig (Elt Ideal)} (hk : k < 2064) (H : At P k V) (q : FVec Ideal S4x128 .f32) (h : Fin 4) (e : Fin 128)
    (hq : ∀ e : Fin 128, q (ix2 h e) = (query P h (k + 48) e : EReal)) :
    (Host.dotGeneral (φ₁ := .f32) (φ₂ := .f32) dot_S4x128_S4x128x128_S4x128_1_1_n_2_0_0 none q (res_main_while0b_v134 V : FVec Ideal S4x128x128 .f32) : FVec Ideal S4x128 .f32) (ix2 h e) = (out P h (k + 48) e : EReal) := by
  rw [applied_at]
  simp only [hq, H.next hk, ← EReal.coe_mul, coe_sum]
  rfl

theorem At.step {k : ℕ} {V : Valuation τ sig (Elt Ideal)} (hk : k < 2064) (H : At P k V) : At P (k + 1) (STEP V) where
  q := by rw [STEP_main_v74_0]; exact H.q
  ky := by rw [STEP_main_v74_1]; exact H.ky
  v := by rw [STEP_main_v74_2]; exact H.v
  b := by rw [STEP_main_v74_3]; exact H.b
  g := by rw [STEP_main_v74_4]; exact H.g
  ctr := by
    rw [STEP_main_v74_5, Scf.iv_succ]
    show addi (V (Proc.devRef .tc main_v74_5)) (constantI S_ 32 1#32) = _
    rw [H.ctr]; rfl
  now := by
    rw [STEP_main_v74_6]
    intro h d e
    rw [show k + 1 + 48 = k + 48 + 1 by omega]
    exact H.next hk h d e
  all := by
    intro t h d e ht
    rw [STEP_main_v74_7]
    refine (put_state _ _ _ k hk (start_4 hk H.ctr) t h d e).trans ?_
    by_cases q : t.val = k
    · rw [if_pos q, H.next hk, q]
    · rw [if_neg q, H.all t h d e (by omega)]
  outs := by
    intro t h e ht
    rw [STEP_main_v74_8]
    refine (put_output _ _ _ k hk (start_3 hk H.ctr) t h e).trans ?_
    by_cases q : t.val = k
    · rw [if_pos q, q]
      exact H.output hk _ h e (fun e => (cut_heads (V (Proc.devRef .tc main_v74_0)) _ k hk (start_3 hk H.ctr) h e).trans (H.q ⟨k, hk⟩ h e))
    · rw [if_neg q, H.outs t h e (by omega)]

theorem At.iterate {V : Valuation τ sig (Elt Ideal)} (H : At P 0 V) : ∀ k, k ≤ 2064 → At P k (STEP^[k] V)
  | 0, _ => H
  | k + 1, hk => by
    rw [Function.iterate_succ_apply']
    exact (H.iterate k (by omega)).step (by omega)

abbrev arg0 : FVec Ideal S2064x1536 .f32 := m ((c.tc : Thread nD τ).loc main_arg0)
abbrev arg1 : FVec Ideal S2064x512 .f32 := m ((c.tc : Thread nD τ).loc main_arg1)
abbrev arg2 : FVec Ideal S2064x4 .f32 := m ((c.tc : Thread nD τ).loc main_arg2)
abbrev arg3 : FVec Ideal S2064x4 .f32 := m ((c.tc : Thread nD τ).loc main_arg3)
abbrev arg4 : FVec Ideal S4x1536 .f32 := m ((c.tc : Thread nD τ).loc main_arg4)
abbrev arg5 : FVec Ideal S4 .f32 := m ((c.tc : Thread nD τ).loc main_arg5)
abbrev arg6 : FVec Ideal S4 .f32 := m ((c.tc : Thread nD τ).loc main_arg6)
abbrev arg7 : FVec Ideal S128 .f32 := m ((c.tc : Thread nD τ).loc main_arg7)

/-- The reference's arguments are those of `P`. -/
structure Given (P : Args) : Prop where
  x : ∀ (t : Fin 2064) (j : Fin 1536), arg0 m c (ix2 t j) = (P.X t j : EReal)
  z : ∀ (t : Fin 2064) (j : Fin 512), arg1 m c (ix2 t j) = P.Z t j
  b : ∀ (t : Fin 2064) (h : Fin 4), arg2 m c (ix2 t h) = P.B t h
  a : ∀ (t : Fin 2064) (h : Fin 4), arg3 m c (ix2 t h) = (P.A t h : EReal)
  cw : ∀ (k : Fin 4) (j : Fin 1536), arg4 m c (ix2 k j) = (P.cw k j : EReal)
  al : ∀ h : Fin 4, arg5 m c (ix1 h) = (P.al h : EReal)
  db : ∀ h : Fin 4, arg6 m c (ix1 h) = (P.db h : EReal)
  ng : ∀ e : Fin 128, arg7 m c (ix1 e) = P.ng e

theorem entry_0 : entryContents preI m c (Proc.devRef .tc main_v74_0) = h_query (arg0 m c) (arg4 m c) := by
  simp only [entryContents, afterL_cons, afterL_nil]
  after_results
  rfl
theorem entry_1 : entryContents preI m c (Proc.devRef .tc main_v74_1) = h_key (arg0 m c) (arg4 m c) := by
  simp only [entryContents, afterL_cons, afterL_nil]
  after_results
  rfl
theorem entry_2 : entryContents preI m c (Proc.devRef .tc main_v74_2) = h_value (arg0 m c) (arg4 m c) := by
  simp only [entryContents, afterL_cons, afterL_nil]
  after_results
  rfl
theorem entry_3 : entryContents preI m c (Proc.devRef .tc main_v74_3) = h_gate (arg2 m c) := by
  simp only [entryContents, afterL_cons, afterL_nil]
  after_results
  rfl
theorem entry_4 : entryContents preI m c (Proc.devRef .tc main_v74_4) = h_rate (arg3 m c) (arg5 m c) (arg6 m c) := by
  simp only [entryContents, afterL_cons, afterL_nil]
  after_results
  rfl
theorem entry_6 : entryContents preI m c (Proc.devRef .tc main_v74_6) = (broadcastInDim S4x128x128 ![] bcast_S_S4x128x128 (constant (F := Ideal) S_ .f32 0x00000000#32)) := by
  simp only [entryContents, afterL_cons, afterL_nil]
  after_results
  rfl

variable {m} {c}

theorem At.start (G : Given m c P) : At P 0 (entryContents preI m c) where
  q := by rw [entry_0]; exact query_at G.x G.cw
  ky := by rw [entry_1]; exact key_at G.x G.cw
  v := by rw [entry_2]; exact value_at G.x G.cw
  b := by rw [entry_3]; exact gate_at G.b
  g := by rw [entry_4]; exact rate_at G.a G.al G.db
  ctr := by rw [ctr_entry]; rfl
  now := by
    rw [entry_6]
    intro h d e
    rw [st_padding P h (0 + 48) (by omega), EReal.coe_zero]
    pointwise
  all := fun _ _ _ _ h => absurd h (by omega)
  outs := fun _ _ _ h => absurd h (by omega)

/-- After its last step the loop holds every state and output of the recurrence. -/
theorem ended (G : Given m c P) : At P 2064 (STEP^[2064] (entryContents preI m c)) := (At.start G).iterate 2064 le_rfl

end Loop

end Cert.GdnFwdRefIdeal.Value

end
-- ==== Proof.GdnOut.lean ====
/-
  The results of the reference of the forward call of the gated delta rule, read from what its loop leaves.
-/
module

public import proofs.«01_k».proof.Proof.GdnRef

@[expose] public section

set_option maxRecDepth 16384

noncomputable section

open Idealize.ShloMosaic Idealize.ShloMosaic.TcCoe Idealize.ShloMosaic.StableHlo

namespace Cert.GdnFwdRefIdeal.Value

open Cert.GdnFwdRefIdeal Cert.GdnFwdRefIdeal.Gen Cert.Gdn

section Out
variable {P : Args} {V : Valuation τ sig (Elt Ideal)}

/-- The outputs over their root mean squares, with the gain and the gate. -/
def h_gated (o : FVec Ideal S2064x4x128 .f32) (g : FVec Ideal S128 .f32) (z : FVec Ideal S2064x512 .f32) : FVec Ideal S2064x4x128 .f32 :=
  mulf (mulf (mulf o (broadcastInDim S2064x4x128 ![0, 1, 2] bcast_S2064x4x1_S2064x4x128_0_1_2 (Host.rsqrt (addf
        (Host.divf (broadcastInDim S2064x4x1 ![0, 1] bcast_S2064x4_S2064x4x1_0_1 (Host.reduceAdd (mulf o o) (constant S_ .f32 0x00000000#32) reducesTo_S2064x4x128_S2064x4_d2 h_S_))
          (broadcastInDim S2064x4x1 ![] bcast_S_S2064x4x1 (constant S_ .f32 0x43000000#32)))
        (broadcastInDim S2064x4x1 ![] bcast_S_S2064x4x1 (constant S_ .f32 0x358637BD#32))))))
      (broadcastInDim S2064x4x128 ![0, 1, 2] bcast_S1x1x128_S2064x4x128_0_1_2 (broadcastInDim S1x1x128 ![2] bcast_S128_S1x1x128_2 g)))
    (mulf (shapeCast S2064x4x128 z shapeCasts_S2064x512_S2064x4x128) (Host.divf (broadcastInDim S2064x4x128 ![] bcast_S_S2064x4x128 (constant S_ .f32 0x3F800000#32))
      (addf (broadcastInDim S2064x4x128 ![] bcast_S_S2064x4x128 (constant S_ .f32 0x3F800000#32)) (Host.exp (Host.negf (shapeCast S2064x4x128 z shapeCasts_S2064x512_S2064x4x128))))))

theorem heads_at (z : FVec Ideal S2064x512 .f32) (t : Fin 2064) (h : Fin 4) (e : Fin 128) : shapeCast S2064x4x128 z shapeCasts_S2064x512_S2064x4x128 (ix3 t h e) = z (ix2 t (inHead h e)) := by
  pointwise
  exact congrArg (fun j => z (ix2 t j)) (Fin.ext (by simp only [inHead]; omega))

theorem gated_at (o : FVec Ideal S2064x4x128 .f32) (g : FVec Ideal S128 .f32) (z : FVec Ideal S2064x512 .f32) (t : Fin 2064) (h : Fin 4) (e : Fin 128) :
    h_gated o g z (ix3 t h e) = rms (fun k => o (ix3 t h k)) (fun k => g (ix1 k)) e * (z (ix2 t (inHead h e)) * Ideal.logistic (z (ix2 t (inHead h e)))) := by
  unfold h_gated
  have hz := heads_at z t h e
  generalize shapeCast S2064x4x128 z shapeCasts_S2064x512_S2064x4x128 = y at hz ⊢
  pointwise
  rw [hz]
  rfl

theorem below_at (y : FVec Ideal S2064x4x128 .f32) (i : Fin 2112) (j : Fin 512) :
    concatenate S2112x512 0 [⟨S48x512, broadcastInDim S48x512 ![] bcast_S_S48x512 (constant (F := Ideal) S_ .f32 0x00000000#32)⟩, ⟨S2064x512, shapeCast S2064x512 y shapeCasts_S2064x4x128_S2064x512⟩]
      concatenates_S48x512_S2064x512_S2112x512_d0 (ix2 i j) = if h : i.val < 48 then 0 else y (ix3 ⟨i - 48, by omega⟩ (headOf j) (placeIn j)) := by
  pointwise

theorem out_y_at (H : At P 2064 V) (hz : ∀ (t : Fin 2064) (j : Fin 512), (V (Proc.devRef .tc main_arg1) : FVec Ideal S2064x512 .f32) (ix2 t j) = P.Z t j)
    (hn : ∀ e : Fin 128, (V (Proc.devRef .tc main_arg7) : FVec Ideal S128 .f32) (ix1 e) = P.ng e) (i : Fin 2112) (j : Fin 512) :
    (out_main_v108 V : FVec Ideal S2112x512 .f32) (ix2 i j) = result P i j := by
  refine (below_at (h_gated (V (Proc.devRef .tc main_v74_8)) (V (Proc.devRef .tc main_arg7)) (V (Proc.devRef .tc main_arg1))) i j).trans ?_
  have hi := i.isLt
  have hj := j.isLt
  unfold result
  by_cases q : i.val < 48
  · rw [dif_pos q, if_pos q]
  · rw [dif_neg q, if_neg q, gated_at, normed, gateRow, dif_pos ⟨by omega, by omega⟩, hz]
    have e : inHead (headOf j) (placeIn j) = j := Fin.ext (by simp only [inHead]; omega)
    have eo : ∀ k : Fin 128, (V (Proc.devRef .tc main_v74_8) : FVec Ideal S2064x4x128 .f32) (ix3 ⟨i - 48, by omega⟩ (headOf j) k) = (out P (headOf j) i k : EReal) := fun k => by
      rw [H.outs _ _ _ (by dsimp only; omega)]
      exact congrArg (fun t => ((out P (headOf j) t k : ℝ) : EReal)) (show i.val - 48 + 48 = i.val by omega)
    simp only [e, eo, hn]

theorem rows_below_at (x : FVec Ideal S2064x1536 .f32) (r : Fin 2112) (k : Fin 1536) :
    concatenate S2112x1536 0 [⟨S56x1536, broadcastInDim S56x1536 ![] bcast_S_S56x1536 (constant (F := Ideal) S_ .f32 0x00000000#32)⟩,
      ⟨S2056x1536, extractStridedSlice S2056x1536 ![0, 0] x slices_S2064x1536_S2056x1536_0_0⟩] concatenates_S56x1536_S2056x1536_S2112x1536_d0 (ix2 r k)
      = if h : r.val < 56 then (0 : EReal) else x (ix2 ⟨r - 56, by omega⟩ k) := by
  pointwise

theorem grouped_at (y : FVec Ideal S2112x1536 .f32) (o : Fin 3) (i : Fin 11) (e : Fin 8) (j : Fin 512) :
    transpose S3x11x8x512 [2, 0, 1, 3] (extractStridedSlice S11x8x3x512 ![0, 0, 0, 0] (shapeCast S11x192x3x512 y shapeCasts_S2112x1536_S11x192x3x512) slices_S11x192x3x512_S11x8x3x512_0_0_0_0)
      transposes_S11x8x3x512_S3x11x8x512_2_0_1_3 (ix4 o i e j) = y (ix2 ⟨192 * i + e, by omega⟩ (inThird o j)) := by
  pointwise
  exact congrArg₂ (fun a b => y (ix2 a b)) (Fin.ext (by dsimp only; omega)) (Fin.ext (by simp only [inThird]; omega))

theorem picked_0 (w : FVec Ideal S3x11x8x512 .f32) (i : Fin 11) (e : Fin 8) (j : Fin 512) :
    shapeCast S1x11x8x512 (extractStridedSlice S1x1x11x8x512 ![0, 0, 0, 0, 0] (broadcastInDim S3x1x11x8x512 ![0, 2, 3, 4] bcast_S3x11x8x512_S3x1x11x8x512_0_2_3_4 w) slices_S3x1x11x8x512_S1x1x11x8x512_0_0_0_0_0)
      shapeCasts_S1x1x11x8x512_S1x11x8x512 (ix4 0 i e j) = w (ix4 0 i e j) := by
  pointwise
theorem picked_1 (w : FVec Ideal S3x11x8x512 .f32) (i : Fin 11) (e : Fin 8) (j : Fin 512) :
    shapeCast S1x11x8x512 (extractStridedSlice S1x1x11x8x512 ![1, 0, 0, 0, 0] (broadcastInDim S3x1x11x8x512 ![0, 2, 3, 4] bcast_S3x11x8x512_S3x1x11x8x512_0_2_3_4 w) slices_S3x1x11x8x512_S1x1x11x8x512_1_0_0_0_0)
      shapeCasts_S1x1x11x8x512_S1x11x8x512 (ix4 0 i e j) = w (ix4 1 i e j) := by
  pointwise
theorem picked_2 (w : FVec Ideal S3x11x8x512 .f32) (i : Fin 11) (e : Fin 8) (j : Fin 512) :
    shapeCast S1x11x8x512 (extractStridedSlice S1x1x11x8x512 ![2, 0, 0, 0, 0] (broadcastInDim S3x1x11x8x512 ![0, 2, 3, 4] bcast_S3x11x8x512_S3x1x11x8x512_0_2_3_4 w) slices_S3x1x11x8x512_S1x1x11x8x512_2_0_0_0_0)
      shapeCasts_S1x1x11x8x512_S1x11x8x512 (ix4 0 i e j) = w (ix4 2 i e j) := by
  pointwise

theorem tail_at {x : FVec Ideal S2064x1536 .f32} (hx : ∀ (t : Fin 2064) (j : Fin 1536), x (ix2 t j) = (P.X t j : EReal)) (o : Fin 3) (i : Fin 11) (e : Fin 8) (j : Fin 512) :
    (if h : 192 * i.val + e.val < 56 then (0 : EReal) else x (ix2 ⟨192 * i + e - 56, by omega⟩ (inThird o j))) = rowsIn P o i e j := by
  unfold rowsIn rowAfter
  by_cases h : 192 * i.val + e.val < 56
  · rw [dif_pos h, dif_neg (by omega), EReal.coe_zero]
  · rw [dif_neg h, dif_pos ⟨by omega, by omega⟩, hx]

theorem out_0_at (hx : ∀ (t : Fin 2064) (j : Fin 1536), (V (Proc.devRef .tc main_arg0) : FVec Ideal S2064x1536 .f32) (ix2 t j) = (P.X t j : EReal)) (i : Fin 11) (e : Fin 8) (j : Fin 512) :
    (out_main_v110 V : FVec Ideal S1x11x8x512 .f32) (ix4 0 i e j) = rowsIn P 0 i e j :=
  (((picked_0 _ i e j).trans (grouped_at _ 0 i e j)).trans (rows_below_at _ _ _)).trans (tail_at hx 0 i e j)
theorem out_1_at (hx : ∀ (t : Fin 2064) (j : Fin 1536), (V (Proc.devRef .tc main_arg0) : FVec Ideal S2064x1536 .f32) (ix2 t j) = (P.X t j : EReal)) (i : Fin 11) (e : Fin 8) (j : Fin 512) :
    (out_main_v112 V : FVec Ideal S1x11x8x512 .f32) (ix4 0 i e j) = rowsIn P 1 i e j :=
  (((picked_1 _ i e j).trans (grouped_at _ 1 i e j)).trans (rows_below_at _ _ _)).trans (tail_at hx 1 i e j)
theorem out_2_at (hx : ∀ (t : Fin 2064) (j : Fin 1536), (V (Proc.devRef .tc main_arg0) : FVec Ideal S2064x1536 .f32) (ix2 t j) = (P.X t j : EReal)) (i : Fin 11) (e : Fin 8) (j : Fin 512) :
    (out_main_v114 V : FVec Ideal S1x11x8x512 .f32) (ix4 0 i e j) = rowsIn P 2 i e j :=
  (((picked_2 _ i e j).trans (grouped_at _ 2 i e j)).trans (rows_below_at _ _ _)).trans (tail_at hx 2 i e j)

theorem flat_at (x : FVec Ideal S2064x4x128x128 .f32) (t : Fin 2064) (h : Fin 4) (d e : Fin 128) (q : Fin 65536) (hq : q.val = 16384 * h + 128 * d + e) :
    shapeCast S2064x65536 x shapeCasts_S2064x4x128x128_S2064x65536 (ix2 t q) = x (ix4 t h d e) := by
  pointwise
  have e1 : (⟨q.val / 16384, by omega⟩ : Fin 4) = h := Fin.ext (by dsimp only; omega)
  have e2 : (⟨q.val / 128 % 128, by omega⟩ : Fin 128) = d := Fin.ext (by dsimp only; omega)
  have e3 : (⟨q.val % 128, by omega⟩ : Fin 128) = e := Fin.ext (by dsimp only; omega)
  rw [e1, e2, e3]

theorem states_below_at (x : FVec Ideal S2064x65536 .f32) (r : Fin 2112) (q : Fin 65536) :
    concatenate S2112x65536 0 [⟨S49x65536, broadcastInDim S49x65536 ![] bcast_S_S49x65536 (constant (F := Ideal) S_ .f32 0x00000000#32)⟩,
      ⟨S2063x65536, extractStridedSlice S2063x65536 ![0, 0] x slices_S2064x65536_S2063x65536_0_0⟩] concatenates_S49x65536_S2063x65536_S2112x65536_d0 (ix2 r q)
      = if h : r.val < 49 then (0 : EReal) else x (ix2 ⟨r - 49, by omega⟩ q) := by
  pointwise

theorem first_at (y : FVec Ideal S2112x65536 .f32) (i : Fin 11) (q : Fin 65536) :
    shapeCast S11x65536 (extractStridedSlice S11x1x65536 ![0, 0, 0] (shapeCast S11x192x65536 y shapeCasts_S2112x65536_S11x192x65536) slices_S11x192x65536_S11x1x65536_0_0_0) shapeCasts_S11x1x65536_S11x65536 (ix2 i q)
      = y (ix2 ⟨i * 192, by omega⟩ q) := by
  pointwise

theorem split_at (w : FVec Ideal S11x65536 .f32) (i : Fin 11) (j : Fin 512) (n : Fin 128) :
    shapeCast S1x11x512x128 w shapeCasts_S11x65536_S1x11x512x128 (ix4 0 i j n) = w (ix2 i ⟨j * 128 + n, by omega⟩) := by
  pointwise

theorem out_s_at (H : At P 2064 V) (i : Fin 11) (j : Fin 512) (n : Fin 128) : (out_main_v105 V : FVec Ideal S1x11x512x128 .f32) (ix4 0 i j n) = stateIn P i j n := by
  refine (((split_at _ i j n).trans (first_at _ i _)).trans (states_below_at _ _ _)).trans ?_
  have hi := i.isLt
  unfold stateIn
  by_cases q : i.val * 192 < 49
  · rw [dif_pos q, st_padding P _ (192 * i.val) (by omega), EReal.coe_zero]
  · rw [dif_neg q, flat_at _ _ (headOf j) (placeIn j) n _ (by simp only [headOf, placeIn]; omega), H.all _ _ _ _ (by dsimp only; omega)]
    exact congrArg (fun t => ((st P (headOf j) t (placeIn j) n : ℝ) : EReal)) (show i.val * 192 - 49 + 48 + 1 = 192 * i.val by omega)

end Out

end Cert.GdnFwdRefIdeal.Value

end
-- ==== Proof.GdnFwdClaims.lean ====
/-
  The claims about the forward call of the gated delta rule.
-/
module

public import proofs.«01_k».proof.Defs
public import proofs.«01_k».proof.Proof.GdnFwdValue
public import proofs.«01_k».proof.Proof.GdnOut
public import proofs.«01_k».proof.Proof.Finite
public import proofs.«01_k».proof.Proof.Gen.GdnFwd.Frame
public import proofs.«01_k».proof.Proof.Gen.GdnFwdIdeal.Value
public import proofs.«01_k».proof.Proof.Gen.GdnFwdRefIdeal.Run
public import proofs.«01_k».proof.Proof.Gen.Pre_gdn_finite
public import Idealize.ShloMosaic.Lib.Quiescent
public import Idealize.ShloMosaic.Lib.ReduceAll

@[expose] public section

set_option maxRecDepth 16384

noncomputable section

open Idealize.ShloMosaic Idealize.ShloMosaic.TcCoe Idealize.SL.Sem Idealize.ShloMosaic.StableHlo

namespace Cert.Proof

open Cert.Gdn
open Cert.GdnFwdIdeal.Value (final_11 final_12 final_13 final_14 final_15)

theorem gdnfwd_frame : Cert.quiescent_GdnFwd (hGdnFwd := Cert.GdnFwd.Gen.facts) := fun m ρ _ => Cert.GdnFwd.Gen.frame m ρ

theorem gdnfwd_ideal_frame : Cert.quiescent_GdnFwdIdeal (hGdnFwdIdeal := Cert.GdnFwdIdeal.Gen.facts) := fun m ρ _ => Cert.GdnFwdIdeal.Gen.frame m ρ

theorem gdnfwd_ideal_frame_pre : Cert.quiescent_GdnFwdIdeal_pre_gdn_finite (hGdnFwdIdeal := Cert.GdnFwdIdeal.Gen.facts)
    (hPre_gdn_finite := Cert.Pre_gdn_finite.Gen.facts) := fun m ρ _ => Cert.GdnFwdIdeal.Gen.frame m ρ

theorem gdnfwd_ref_frame : Cert.quiescent_GdnFwdRefIdeal (hGdnFwdRefIdeal := Cert.GdnFwdRefIdeal.Gen.facts) := fun m ρ _ =>
  (θ_run Cert.GdnFwdRefIdeal.defs _ _).mono (fun r h => ⟨fun c => (h c).2.2.2.2.2, sem_eq_zero_of_no_sems (by decide) r.2⟩)
    (Cert.GdnFwdRefIdeal.Value.run (F := Ideal) m ρ)

theorem gdnfwd_ref_frame_pre : Cert.quiescent_GdnFwdRefIdeal_pre_gdn_finite (hGdnFwdRefIdeal := Cert.GdnFwdRefIdeal.Gen.facts)
    (hPre_gdn_finite := Cert.Pre_gdn_finite.Gen.facts) := fun m ρ _ => gdnfwd_ref_frame m ρ trivial

/-- Each masked constant is the number that it stands for. -/
theorem gdnfwd_preserves : Cert.preserves_GdnFwd_GdnFwdIdeal :=
  IdealRules.named_const.statement Cert.GdnFwdIdeal.κ "mask" .f32 0xF149F2CA#32 (⊥ : EReal) rfl

instance gdn_one_index : Subsingleton Cert.Pre_gdn_finite.S_.Idx := ⟨fun a b => funext fun i => i.elim0⟩

/-- What the precondition states of the arguments: those that the recurrence reads are real. -/
theorem gdn_finite_args (x0 : Vec Ideal Cert.GdnFwdIdeal.S2064x1536 .f32) (x1 : Vec Ideal Cert.GdnFwdIdeal.S2064x512 .f32) (x2 x3 : Vec Ideal Cert.GdnFwdIdeal.S2064x4 .f32)
    (x4 : Vec Ideal Cert.GdnFwdIdeal.S4x1536 .f32) (x5 x6 : Vec Ideal Cert.GdnFwdIdeal.S4 .f32) (x7 : Vec Ideal Cert.GdnFwdIdeal.S128 .f32)
    (h : @Cert.Pre_gdn_finite.fn Cert.Pre_gdn_finite.Gen.facts Ideal _ x0 x1 x2 x3 x4 x5 x6 x7 = fun _ => 1#1) :
    (∀ i, ∃ a : ℝ, x0 i = a) ∧ (∀ i, ∃ a : ℝ, x3 i = a) ∧ (∀ i, ∃ a : ℝ, x4 i = a) ∧ (∀ i, ∃ a : ℝ, x5 i = a) ∧ (∀ i, ∃ a : ℝ, x6 i = a) := by
  have h' := congrFun h ix0
  unfold Cert.Pre_gdn_finite.fn Cert.Pre_gdn_finite.fn_part1 at h'
  obtain ⟨h', h4⟩ := IntOp.andi_eq_one.mp h'
  obtain ⟨h', h3⟩ := IntOp.andi_eq_one.mp h'
  obtain ⟨h', h2⟩ := IntOp.andi_eq_one.mp h'
  obtain ⟨h0, h1⟩ := IntOp.andi_eq_one.mp h'
  exact ⟨fun i => real_of_below _ (Host.reduce_andi_all _ _ _ _ _ h0 i), fun i => real_of_below _ (Host.reduce_andi_all _ _ _ _ _ h1 i),
    fun i => real_of_below _ (Host.reduce_andi_all _ _ _ _ _ h2 i), fun i => real_of_below _ (Host.reduce_andi_all _ _ _ _ _ h3 i),
    fun i => real_of_below _ (Host.reduce_andi_all _ _ _ _ _ h4 i)⟩

theorem gdnfwd_algebraic : Cert.algebraic_GdnFwdIdeal_GdnFwdRefIdeal_pre_gdn_finite (hGdnFwdIdeal := Cert.GdnFwdIdeal.Gen.facts)
    (hGdnFwdRefIdeal := Cert.GdnFwdRefIdeal.Gen.facts) (hPre_gdn_finite := Cert.Pre_gdn_finite.Gen.facts) := fun m ρ m' ρ' hpre hagree =>
  ⟨_, _, _, _, _, Cert.GdnFwdIdeal.Value.run_blocks m ρ,
    (θ_run Cert.GdnFwdRefIdeal.defs _ _).mono (fun r h c => by
    obtain ⟨e0, e1, e2, e3, e4, e5, e6, e7⟩ := hagree c
    obtain ⟨h0, h1, h2, h3, h4, hargs⟩ := h c
    obtain ⟨f0, f3, f4, f5, f6⟩ := gdn_finite_args _ _ _ _ _ _ _ _ (hpre c)
    choose u0 k0 using f0
    choose u3 k3 using f3
    choose u4 k4 using f4
    choose u5 k5 using f5
    choose u6 k6 using f6
    let P : Args := ⟨fun t j => u0 (ix2 t j), fun t j => Cert.GdnFwdIdeal.Value.arg1 m c (ix2 t j), fun t h => Cert.GdnFwdIdeal.Value.arg2 m c (ix2 t h), fun t h => u3 (ix2 t h),
      fun k j => u4 (ix2 k j), fun h => u5 (ix1 h), fun h => u6 (ix1 h), fun e => Cert.GdnFwdIdeal.Value.arg7 m c (ix1 e)⟩
    have G : Cert.GdnFwdIdeal.Value.Given m c P := ⟨fun _ _ => k0 _, fun _ _ => rfl, fun _ _ => rfl, fun _ _ => k3 _, fun _ _ => k4 _, fun _ => k5 _, fun _ => k6 _, fun _ => rfl⟩
    have G' : Cert.GdnFwdRefIdeal.Value.Given m' c P := ⟨fun _ _ => (congrFun e0 _).trans (k0 _), fun _ _ => congrFun e1 _, fun _ _ => congrFun e2 _, fun _ _ => (congrFun e3 _).trans (k3 _),
      fun _ _ => (congrFun e4 _).trans (k4 _), fun _ => (congrFun e5 _).trans (k5 _), fun _ => (congrFun e6 _).trans (k6 _), fun _ => congrFun e7 _⟩
    have E := Cert.GdnFwdRefIdeal.Value.ended G'
    have hx := G'.x
    have hz := G'.z
    have hn := G'.ng
    unfold Cert.GdnFwdRefIdeal.Value.arg0 at hx
    unfold Cert.GdnFwdRefIdeal.Value.arg1 at hz
    unfold Cert.GdnFwdRefIdeal.Value.arg7 at hn
    rw [← Cert.GdnFwdRefIdeal.Value.iter_main_arg0 m' c 2064] at hx
    rw [← Cert.GdnFwdRefIdeal.Value.iter_main_arg1 m' c 2064] at hz
    rw [← Cert.GdnFwdRefIdeal.Value.iter_main_arg7 m' c 2064] at hn
    refine ⟨h0.trans ?_, h1.trans ?_, h2.trans ?_, h3.trans ?_, h4.trans ?_, hargs⟩
    · rw [final_11 G]
      funext (i : Cert.GdnFwdIdeal.S2112x512.Idx)
      idx_vars i
      exact Cert.GdnFwdRefIdeal.Value.out_y_at E hz hn i0 i1
    · rw [final_12 G]
      funext (i : Cert.GdnFwdIdeal.S1x11x8x512.Idx)
      idx_vars i
      obtain rfl : i0 = 0 := Subsingleton.elim _ _
      exact Cert.GdnFwdRefIdeal.Value.out_0_at hx i1 i2 i3
    · rw [final_13 G]
      funext (i : Cert.GdnFwdIdeal.S1x11x8x512.Idx)
      idx_vars i
      obtain rfl : i0 = 0 := Subsingleton.elim _ _
      exact Cert.GdnFwdRefIdeal.Value.out_1_at hx i1 i2 i3
    · rw [final_14 G]
      funext (i : Cert.GdnFwdIdeal.S1x11x8x512.Idx)
      idx_vars i
      obtain rfl : i0 = 0 := Subsingleton.elim _ _
      exact Cert.GdnFwdRefIdeal.Value.out_2_at hx i1 i2 i3
    · rw [final_15 G]
      funext (i : Cert.GdnFwdIdeal.S1x11x512x128.Idx)
      idx_vars i
      obtain rfl : i0 = 0 := Subsingleton.elim _ _
      exact Cert.GdnFwdRefIdeal.Value.out_s_at E i1 i2 i3) (Cert.GdnFwdRefIdeal.Value.run (F := Ideal) m' ρ')⟩

end Cert.Proof

end
-- ==== Proof.lean ====
/-
  The proof of the claims: for each program its frames, that idealizing it changes nothing else, and that its results are the
  reference's.
-/
module

public import proofs.«01_k».proof.Defs
public import proofs.«01_k».proof.Proof.FfnClaims
public import proofs.«01_k».proof.Proof.RmsClaims
public import proofs.«01_k».proof.Proof.LossClaims
public import proofs.«01_k».proof.Proof.PostClaims
public import proofs.«01_k».proof.Proof.RmsFwdClaims
public import proofs.«01_k».proof.Proof.PostFwdClaims
public import proofs.«01_k».proof.Proof.FfnFwdClaims
public import proofs.«01_k».proof.Proof.S5FwdClaims
public import proofs.«01_k».proof.Proof.LruFwdClaims
public import proofs.«01_k».proof.Proof.SsdFwdClaims
public import proofs.«01_k».proof.Proof.GdnFwdClaims

@[expose] public section

noncomputable section

namespace Cert.Proof

theorem claim : Cert.Claim :=
  ⟨Cert.Ffn.Gen.facts, Cert.FfnIdeal.Gen.facts, Cert.FfnRefIdeal.Gen.facts, Cert.Rms.Gen.facts, Cert.RmsIdeal.Gen.facts, Cert.RmsRefIdeal.Gen.facts, Cert.Loss.Gen.facts, Cert.LossIdeal.Gen.facts, Cert.LossRefIdeal.Gen.facts, Cert.Post.Gen.facts, Cert.PostIdeal.Gen.facts, Cert.PostRefIdeal.Gen.facts, Cert.RmsFwd.Gen.facts, Cert.RmsFwdIdeal.Gen.facts, Cert.RmsFwdRefIdeal.Gen.facts, Cert.PostFwd.Gen.facts, Cert.PostFwdIdeal.Gen.facts, Cert.PostFwdRefIdeal.Gen.facts, Cert.FfnFwd.Gen.facts, Cert.FfnFwdIdeal.Gen.facts, Cert.FfnFwdRefIdeal.Gen.facts, Cert.S5Fwd.Gen.facts, Cert.S5FwdIdeal.Gen.facts, Cert.S5FwdRefIdeal.Gen.facts, Cert.LruFwd.Gen.facts, Cert.LruFwdIdeal.Gen.facts, Cert.LruFwdRefIdeal.Gen.facts, Cert.SsdFwd.Gen.facts, Cert.SsdFwdIdeal.Gen.facts, Cert.SsdFwdRefIdeal.Gen.facts, Cert.GdnFwd.Gen.facts, Cert.GdnFwdIdeal.Gen.facts, Cert.GdnFwdRefIdeal.Gen.facts, Cert.Pre_ffn_finite.Gen.facts, Cert.Pre_s5_finite.Gen.facts, Cert.Pre_gdn_finite.Gen.facts,
    ffn_frame, ffn_ideal_frame, ffn_ideal_frame_pre, ffn_ref_frame, ffn_ref_frame_pre,
    rms_frame, rms_ideal_frame, rms_ref_frame,
    loss_frame, loss_ideal_frame, loss_ref_frame,
    post_frame, post_ideal_frame, post_ref_frame,
    rmsfwd_frame, rmsfwd_ideal_frame, rmsfwd_ref_frame,
    postfwd_frame, postfwd_ideal_frame, postfwd_ref_frame,
    ffnfwd_frame, ffnfwd_ideal_frame, ffnfwd_ref_frame,
    s5fwd_frame, s5fwd_ideal_frame, s5fwd_ideal_frame_pre, s5fwd_ref_frame, s5fwd_ref_frame_pre,
    lrufwd_frame, lrufwd_ideal_frame, lrufwd_ref_frame,
    ssdfwd_frame, ssdfwd_ideal_frame, ssdfwd_ref_frame,
    gdnfwd_frame, gdnfwd_ideal_frame, gdnfwd_ideal_frame_pre, gdnfwd_ref_frame, gdnfwd_ref_frame_pre,
    trivial, ffn_algebraic,
    trivial, rms_algebraic,
    trivial, loss_algebraic,
    trivial, post_algebraic,
    trivial, rmsfwd_algebraic,
    trivial, postfwd_algebraic,
    trivial, ffnfwd_algebraic,
    trivial, s5fwd_algebraic,
    trivial, lrufwd_algebraic,
    ssdfwd_preserves, ssdfwd_algebraic,
    gdnfwd_preserves, gdnfwd_algebraic⟩

end Cert.Proof

end
